-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 [hPre_causal : Cert.Pre_causal.Facts] (m : (ℓ : Loc Cert.Kernel30.nD Cert.Kernel30.τ Cert.Kernel30.sig) → Buf (Elt Bits) ℓ) : Prop :=
  ∀ c : Dev Cert.Kernel30.nD,
    (Cert.Pre_causal.fn (F := Bits) (m ((c.tc : Thread Cert.Kernel30.nD Cert.Kernel30.τ).loc Cert.Kernel30.main_arg0)) (m ((c.tc : Thread Cert.Kernel30.nD Cert.Kernel30.τ).loc Cert.Kernel30.main_arg1)) (m ((c.tc : Thread Cert.Kernel30.nD Cert.Kernel30.τ).loc Cert.Kernel30.main_arg2)) (m ((c.tc : Thread Cert.Kernel30.nD Cert.Kernel30.τ).loc Cert.Kernel30.main_arg3)) (m ((c.tc : Thread Cert.Kernel30.nD Cert.Kernel30.τ).loc Cert.Kernel30.main_arg4)) (m ((c.tc : Thread Cert.Kernel30.nD Cert.Kernel30.τ).loc Cert.Kernel30.main_arg5)) (m ((c.tc : Thread Cert.Kernel30.nD Cert.Kernel30.τ).loc Cert.Kernel30.main_arg6)) (m ((c.tc : Thread Cert.Kernel30.nD Cert.Kernel30.τ).loc Cert.Kernel30.main_arg7))) = (fun _ => 1#1)

def Pre_Kernel30Ideal [hPre_causal : Cert.Pre_causal.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_causal.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4)) (m ((c.tc : Thread Cert.Kernel30Ideal.nD Cert.Kernel30Ideal.τ).loc Cert.Kernel30Ideal.main_arg5)) (m ((c.tc : Thread Cert.Kernel30Ideal.nD Cert.Kernel30Ideal.τ).loc Cert.Kernel30Ideal.main_arg6)) (m ((c.tc : Thread Cert.Kernel30Ideal.nD Cert.Kernel30Ideal.τ).loc Cert.Kernel30Ideal.main_arg7))) = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_causal [hPre_causal : Cert.Pre_causal.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_causal.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3)) (m ((c.tc : Thread Cert.Reference30Ideal.nD Cert.Reference30Ideal.τ).loc Cert.Reference30Ideal.main_arg4)) (m ((c.tc : Thread Cert.Reference30Ideal.nD Cert.Reference30Ideal.τ).loc Cert.Reference30Ideal.main_arg5)) (m ((c.tc : Thread Cert.Reference30Ideal.nD Cert.Reference30Ideal.τ).loc Cert.Reference30Ideal.main_arg6)) (m ((c.tc : Thread Cert.Reference30Ideal.nD Cert.Reference30Ideal.τ).loc Cert.Reference30Ideal.main_arg7))) = (fun _ => 1#1)

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7)
      ∧ r.2.mem ((c.tc : Thread Cert.Kernel25.nD Cert.Kernel25.τ).loc Cert.Kernel25.main_arg8) = m ((c.tc : Thread Cert.Kernel25.nD Cert.Kernel25.τ).loc Cert.Kernel25.main_arg8)
      ∧ r.2.mem ((c.tc : Thread Cert.Kernel25.nD Cert.Kernel25.τ).loc Cert.Kernel25.main_arg9) = m ((c.tc : Thread Cert.Kernel25.nD Cert.Kernel25.τ).loc Cert.Kernel25.main_arg9))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
      ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8)
      ∧ r.2.mem ((c.tc : Thread Cert.Reference25Ideal.nD Cert.Reference25Ideal.τ).loc Cert.Reference25Ideal.main_arg9) = m ((c.tc : Thread Cert.Reference25Ideal.nD Cert.Reference25Ideal.τ).loc Cert.Reference25Ideal.main_arg9))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6)
      ∧ r.2.mem ((c.tc : Thread Cert.Kernel26.nD Cert.Kernel26.τ).loc Cert.Kernel26.main_arg7) = m ((c.tc : Thread Cert.Kernel26.nD Cert.Kernel26.τ).loc Cert.Kernel26.main_arg7))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
      ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6)
      ∧ r.2.mem ((c.tc : Thread Cert.Reference26Ideal.nD Cert.Reference26Ideal.τ).loc Cert.Reference26Ideal.main_arg7) = m ((c.tc : Thread Cert.Reference26Ideal.nD Cert.Reference26Ideal.τ).loc Cert.Reference26Ideal.main_arg7))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] [hPre_causal : Cert.Pre_causal.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5)
      ∧ r.2.mem ((c.tc : Thread Cert.Kernel30.nD Cert.Kernel30.τ).loc Cert.Kernel30.main_arg6) = m ((c.tc : Thread Cert.Kernel30.nD Cert.Kernel30.τ).loc Cert.Kernel30.main_arg6)
      ∧ r.2.mem ((c.tc : Thread Cert.Kernel30.nD Cert.Kernel30.τ).loc Cert.Kernel30.main_arg7) = m ((c.tc : Thread Cert.Kernel30.nD Cert.Kernel30.τ).loc Cert.Kernel30.main_arg7))
      ∧ r.2.sem = fun _ => 0)

def quiescent_Kernel30Ideal [hKernel30Ideal : Cert.Kernel30Ideal.Facts] [hPre_causal : Cert.Pre_causal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
      ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6)
      ∧ r.2.mem ((c.tc : Thread Cert.Kernel30Ideal.nD Cert.Kernel30Ideal.τ).loc Cert.Kernel30Ideal.main_arg7) = m ((c.tc : Thread Cert.Kernel30Ideal.nD Cert.Kernel30Ideal.τ).loc Cert.Kernel30Ideal.main_arg7))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5)
      ∧ r.2.mem ((c.tc : Thread Cert.Reference30Ideal.nD Cert.Reference30Ideal.τ).loc Cert.Reference30Ideal.main_arg6) = m ((c.tc : Thread Cert.Reference30Ideal.nD Cert.Reference30Ideal.τ).loc Cert.Reference30Ideal.main_arg6)
      ∧ r.2.mem ((c.tc : Thread Cert.Reference30Ideal.nD Cert.Reference30Ideal.τ).loc Cert.Reference30Ideal.main_arg7) = m ((c.tc : Thread Cert.Reference30Ideal.nD Cert.Reference30Ideal.τ).loc Cert.Reference30Ideal.main_arg7))
      ∧ r.2.sem = fun _ => 0)

def quiescent_Reference30Ideal_pre_causal [hReference30Ideal : Cert.Reference30Ideal.Facts] [hPre_causal : Cert.Pre_causal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_causal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5)
      ∧ r.2.mem ((c.tc : Thread Cert.Reference30Ideal.nD Cert.Reference30Ideal.τ).loc Cert.Reference30Ideal.main_arg6) = m ((c.tc : Thread Cert.Reference30Ideal.nD Cert.Reference30Ideal.τ).loc Cert.Reference30Ideal.main_arg6)
      ∧ r.2.mem ((c.tc : Thread Cert.Reference30Ideal.nD Cert.Reference30Ideal.τ).loc Cert.Reference30Ideal.main_arg7) = m ((c.tc : Thread Cert.Reference30Ideal.nD Cert.Reference30Ideal.τ).loc Cert.Reference30Ideal.main_arg7))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v44) = v0 c
          ∧ r.2.mem ((c.tc : Thread Cert.Reference11Ideal.nD Cert.Reference11Ideal.τ).loc Cert.Reference11Ideal.main_v43) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v18) = v0 c
          ∧ r.2.mem ((c.tc : Thread Cert.Reference12Ideal.nD Cert.Reference12Ideal.τ).loc Cert.Reference12Ideal.main_v19) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v17) = v0 c
          ∧ r.2.mem ((c.tc : Thread Cert.Reference17Ideal.nD Cert.Reference17Ideal.τ).loc Cert.Reference17Ideal.main_v18) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v44) = v0 c
          ∧ r.2.mem ((c.tc : Thread Cert.Reference18Ideal.nD Cert.Reference18Ideal.τ).loc Cert.Reference18Ideal.main_v43) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v10) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v15) = v0 c
          ∧ r.2.mem ((c.tc : Thread Cert.Reference20Ideal.nD Cert.Reference20Ideal.τ).loc Cert.Reference20Ideal.main_v16) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v42) = v0 c
          ∧ r.2.mem ((c.tc : Thread Cert.Reference21Ideal.nD Cert.Reference21Ideal.τ).loc Cert.Reference21Ideal.main_v41) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v18) = v0 c
          ∧ r.2.mem ((c.tc : Thread Cert.Reference24Ideal.nD Cert.Reference24Ideal.τ).loc Cert.Reference24Ideal.main_v19) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)
      ∧ m' ((c.tc : Thread Cert.Reference25Ideal.nD Cert.Reference25Ideal.τ).loc Cert.Reference25Ideal.main_arg8) = m ((c.tc : Thread Cert.Kernel25Ideal.nD Cert.Kernel25Ideal.τ).loc Cert.Kernel25Ideal.main_arg8)
      ∧ m' ((c.tc : Thread Cert.Reference25Ideal.nD Cert.Reference25Ideal.τ).loc Cert.Reference25Ideal.main_arg9) = m ((c.tc : Thread Cert.Kernel25Ideal.nD Cert.Kernel25Ideal.τ).loc Cert.Kernel25Ideal.main_arg9)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)) (v4 : (c : Dev Cert.Kernel25Ideal.nD) → Buf (Elt Ideal) ((c.tc : Thread Cert.Kernel25Ideal.nD Cert.Kernel25Ideal.τ).loc Cert.Kernel25Ideal.main_v0_4)) (v5 : (c : Dev Cert.Kernel25Ideal.nD) → Buf (Elt Ideal) ((c.tc : Thread Cert.Kernel25Ideal.nD Cert.Kernel25Ideal.τ).loc Cert.Kernel25Ideal.main_v0_5)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_v0_4) = v4 c
          ∧ r.2.mem ((c.tc : Thread Cert.Kernel25Ideal.nD Cert.Kernel25Ideal.τ).loc Cert.Kernel25Ideal.main_v0_5) = v5 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
          ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
          ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v60) = v0 c
          ∧ r.2.mem ((c.tc : Thread Cert.Reference25Ideal.nD Cert.Reference25Ideal.τ).loc Cert.Reference25Ideal.main_v41) = v1 c
          ∧ r.2.mem ((c.tc : Thread Cert.Reference25Ideal.nD Cert.Reference25Ideal.τ).loc Cert.Reference25Ideal.main_v38) = v2 c
          ∧ r.2.mem ((c.tc : Thread Cert.Reference25Ideal.nD Cert.Reference25Ideal.τ).loc Cert.Reference25Ideal.main_v62) = v3 c
          ∧ r.2.mem ((c.tc : Thread Cert.Reference25Ideal.nD Cert.Reference25Ideal.τ).loc Cert.Reference25Ideal.main_v43) = v4 c
          ∧ r.2.mem ((c.tc : Thread Cert.Reference25Ideal.nD Cert.Reference25Ideal.τ).loc Cert.Reference25Ideal.main_v35) = v5 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7)
          ∧ r.2.mem ((c.tc : Thread Cert.Reference25Ideal.nD Cert.Reference25Ideal.τ).loc Cert.Reference25Ideal.main_arg8) = m' ((c.tc : Thread Cert.Reference25Ideal.nD Cert.Reference25Ideal.τ).loc Cert.Reference25Ideal.main_arg8)
          ∧ r.2.mem ((c.tc : Thread Cert.Reference25Ideal.nD Cert.Reference25Ideal.τ).loc Cert.Reference25Ideal.main_arg9) = m' ((c.tc : Thread Cert.Reference25Ideal.nD Cert.Reference25Ideal.τ).loc Cert.Reference25Ideal.main_arg9))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)
      ∧ m' ((c.tc : Thread Cert.Reference26Ideal.nD Cert.Reference26Ideal.τ).loc Cert.Reference26Ideal.main_arg7) = m ((c.tc : Thread Cert.Kernel26Ideal.nD Cert.Kernel26Ideal.τ).loc Cert.Kernel26Ideal.main_arg7)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
          ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v27) = v0 c
          ∧ r.2.mem ((c.tc : Thread Cert.Reference26Ideal.nD Cert.Reference26Ideal.τ).loc Cert.Reference26Ideal.main_v28) = v1 c
          ∧ r.2.mem ((c.tc : Thread Cert.Reference26Ideal.nD Cert.Reference26Ideal.τ).loc Cert.Reference26Ideal.main_v29) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6)
          ∧ r.2.mem ((c.tc : Thread Cert.Reference26Ideal.nD Cert.Reference26Ideal.τ).loc Cert.Reference26Ideal.main_arg7) = m' ((c.tc : Thread Cert.Reference26Ideal.nD Cert.Reference26Ideal.τ).loc Cert.Reference26Ideal.main_arg7))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v18) = v0 c
          ∧ r.2.mem ((c.tc : Thread Cert.Reference27Ideal.nD Cert.Reference27Ideal.τ).loc Cert.Reference27Ideal.main_v19) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v43) = v0 c
          ∧ r.2.mem ((c.tc : Thread Cert.Reference28Ideal.nD Cert.Reference28Ideal.τ).loc Cert.Reference28Ideal.main_v42) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v9) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  IdealRules.named_const.Statement Cert.Kernel30Ideal.κ "mask" .f32 0xF149F2CA#32 ⊥
  ∧ IdealRules.named_const.Statement Cert.Kernel30Ideal.κ "scale2" .f32 0x3E16C740#32 (((Real.sqrt 96)⁻¹ * (Real.log 2)⁻¹ : ℝ) : EReal)
  ∧ IdealRules.named_const.Statement Cert.Kernel30Ideal.κ "scale" .f32 0x3DD105EC#32 (((Real.sqrt 96)⁻¹ : ℝ) : EReal)

def algebraic_Kernel30Ideal_Reference30Ideal [hKernel30Ideal : Cert.Kernel30Ideal.Facts] [hReference30Ideal : Cert.Reference30Ideal.Facts] [hPre_causal : Cert.Pre_causal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)
      ∧ m' ((c.tc : Thread Cert.Reference30Ideal.nD Cert.Reference30Ideal.τ).loc Cert.Reference30Ideal.main_arg6) = m ((c.tc : Thread Cert.Kernel30Ideal.nD Cert.Kernel30Ideal.τ).loc Cert.Kernel30Ideal.main_arg6)
      ∧ m' ((c.tc : Thread Cert.Reference30Ideal.nD Cert.Reference30Ideal.τ).loc Cert.Reference30Ideal.main_arg7) = m ((c.tc : Thread Cert.Kernel30Ideal.nD Cert.Kernel30Ideal.τ).loc Cert.Kernel30Ideal.main_arg7)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
          ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6)
          ∧ r.2.mem ((c.tc : Thread Cert.Kernel30Ideal.nD Cert.Kernel30Ideal.τ).loc Cert.Kernel30Ideal.main_arg7) = m ((c.tc : Thread Cert.Kernel30Ideal.nD Cert.Kernel30Ideal.τ).loc Cert.Kernel30Ideal.main_arg7))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v64) = v0 c
          ∧ r.2.mem ((c.tc : Thread Cert.Reference30Ideal.nD Cert.Reference30Ideal.τ).loc Cert.Reference30Ideal.main_v65) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5)
          ∧ r.2.mem ((c.tc : Thread Cert.Reference30Ideal.nD Cert.Reference30Ideal.τ).loc Cert.Reference30Ideal.main_arg6) = m' ((c.tc : Thread Cert.Reference30Ideal.nD Cert.Reference30Ideal.τ).loc Cert.Reference30Ideal.main_arg6)
          ∧ r.2.mem ((c.tc : Thread Cert.Reference30Ideal.nD Cert.Reference30Ideal.τ).loc Cert.Reference30Ideal.main_arg7) = m' ((c.tc : Thread Cert.Reference30Ideal.nD Cert.Reference30Ideal.τ).loc Cert.Reference30Ideal.main_arg7))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v7) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v1) = v0 c
          ∧ r.2.mem ((c.tc : Thread Cert.Reference32Ideal.nD Cert.Reference32Ideal.τ).loc Cert.Reference32Ideal.main_v25) = v1 c
          ∧ r.2.mem ((c.tc : Thread Cert.Reference32Ideal.nD Cert.Reference32Ideal.τ).loc Cert.Reference32Ideal.main_v6) = v2 c
          ∧ r.2.mem ((c.tc : Thread Cert.Reference32Ideal.nD Cert.Reference32Ideal.τ).loc Cert.Reference32Ideal.main_v12) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v1) = v0 c
          ∧ r.2.mem ((c.tc : Thread Cert.Reference33Ideal.nD Cert.Reference33Ideal.τ).loc Cert.Reference33Ideal.main_v25) = v1 c
          ∧ r.2.mem ((c.tc : Thread Cert.Reference33Ideal.nD Cert.Reference33Ideal.τ).loc Cert.Reference33Ideal.main_v6) = v2 c
          ∧ r.2.mem ((c.tc : Thread Cert.Reference33Ideal.nD Cert.Reference33Ideal.τ).loc Cert.Reference33Ideal.main_v12) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v1) = v0 c
          ∧ r.2.mem ((c.tc : Thread Cert.Reference34Ideal.nD Cert.Reference34Ideal.τ).loc Cert.Reference34Ideal.main_v25) = v1 c
          ∧ r.2.mem ((c.tc : Thread Cert.Reference34Ideal.nD Cert.Reference34Ideal.τ).loc Cert.Reference34Ideal.main_v6) = v2 c
          ∧ r.2.mem ((c.tc : Thread Cert.Reference34Ideal.nD Cert.Reference34Ideal.τ).loc Cert.Reference34Ideal.main_v12) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v1) = v0 c
          ∧ r.2.mem ((c.tc : Thread Cert.Reference35Ideal.nD Cert.Reference35Ideal.τ).loc Cert.Reference35Ideal.main_v25) = v1 c
          ∧ r.2.mem ((c.tc : Thread Cert.Reference35Ideal.nD Cert.Reference35Ideal.τ).loc Cert.Reference35Ideal.main_v6) = v2 c
          ∧ r.2.mem ((c.tc : Thread Cert.Reference35Ideal.nD Cert.Reference35Ideal.τ).loc Cert.Reference35Ideal.main_v12) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v1) = v0 c
          ∧ r.2.mem ((c.tc : Thread Cert.Reference36Ideal.nD Cert.Reference36Ideal.τ).loc Cert.Reference36Ideal.main_v25) = v1 c
          ∧ r.2.mem ((c.tc : Thread Cert.Reference36Ideal.nD Cert.Reference36Ideal.τ).loc Cert.Reference36Ideal.main_v6) = v2 c
          ∧ r.2.mem ((c.tc : Thread Cert.Reference36Ideal.nD Cert.Reference36Ideal.τ).loc Cert.Reference36Ideal.main_v12) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)) (v3 : (c : Dev Cert.Kernel37Ideal.nD) → Buf (Elt Ideal) ((c.tc : Thread Cert.Kernel37Ideal.nD Cert.Kernel37Ideal.τ).loc Cert.Kernel37Ideal.main_v0_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_v0_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v1) = v0 c
          ∧ r.2.mem ((c.tc : Thread Cert.Reference37Ideal.nD Cert.Reference37Ideal.τ).loc Cert.Reference37Ideal.main_v25) = v1 c
          ∧ r.2.mem ((c.tc : Thread Cert.Reference37Ideal.nD Cert.Reference37Ideal.τ).loc Cert.Reference37Ideal.main_v6) = v2 c
          ∧ r.2.mem ((c.tc : Thread Cert.Reference37Ideal.nD Cert.Reference37Ideal.τ).loc Cert.Reference37Ideal.main_v12) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)) (v3 : (c : Dev Cert.Kernel38Ideal.nD) → Buf (Elt Ideal) ((c.tc : Thread Cert.Kernel38Ideal.nD Cert.Kernel38Ideal.τ).loc Cert.Kernel38Ideal.main_v0_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_v0_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v1) = v0 c
          ∧ r.2.mem ((c.tc : Thread Cert.Reference38Ideal.nD Cert.Reference38Ideal.τ).loc Cert.Reference38Ideal.main_v25) = v1 c
          ∧ r.2.mem ((c.tc : Thread Cert.Reference38Ideal.nD Cert.Reference38Ideal.τ).loc Cert.Reference38Ideal.main_v6) = v2 c
          ∧ r.2.mem ((c.tc : Thread Cert.Reference38Ideal.nD Cert.Reference38Ideal.τ).loc Cert.Reference38Ideal.main_v12) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)) (v3 : (c : Dev Cert.Kernel39Ideal.nD) → Buf (Elt Ideal) ((c.tc : Thread Cert.Kernel39Ideal.nD Cert.Kernel39Ideal.τ).loc Cert.Kernel39Ideal.main_v0_3)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_v0_3) = v3 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v1) = v0 c
          ∧ r.2.mem ((c.tc : Thread Cert.Reference39Ideal.nD Cert.Reference39Ideal.τ).loc Cert.Reference39Ideal.main_v25) = v1 c
          ∧ r.2.mem ((c.tc : Thread Cert.Reference39Ideal.nD Cert.Reference39Ideal.τ).loc Cert.Reference39Ideal.main_v6) = v2 c
          ∧ r.2.mem ((c.tc : Thread Cert.Reference39Ideal.nD Cert.Reference39Ideal.τ).loc Cert.Reference39Ideal.main_v12) = v3 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)) (v3 : (c : Dev Cert.Kernel40Ideal.nD) → Buf (Elt Ideal) ((c.tc : Thread Cert.Kernel40Ideal.nD Cert.Kernel40Ideal.τ).loc Cert.Kernel40Ideal.main_v0_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_v0_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v1) = v0 c
          ∧ r.2.mem ((c.tc : Thread Cert.Reference40Ideal.nD Cert.Reference40Ideal.τ).loc Cert.Reference40Ideal.main_v25) = v1 c
          ∧ r.2.mem ((c.tc : Thread Cert.Reference40Ideal.nD Cert.Reference40Ideal.τ).loc Cert.Reference40Ideal.main_v6) = v2 c
          ∧ r.2.mem ((c.tc : Thread Cert.Reference40Ideal.nD Cert.Reference40Ideal.τ).loc Cert.Reference40Ideal.main_v12) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hPre_finite : Cert.Pre_finite.Facts) (hPre_causal : Cert.Pre_causal.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30) (hPre_causal := hPre_causal)
    ∧ quiescent_Kernel30Ideal (hKernel30Ideal := hKernel30Ideal) (hPre_causal := hPre_causal)
    ∧ quiescent_Reference30Ideal (hReference30Ideal := hReference30Ideal)
    ∧ quiescent_Reference30Ideal_pre_causal (hReference30Ideal := hReference30Ideal) (hPre_causal := hPre_causal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal) (hPre_causal := hPre_causal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
-- ==== Pre_causal.lean ====
abbrev S36 : Shape := ⟨1, ![36]⟩
abbrev S16x8192x128 : Shape := ⟨3, ![16, 8192, 128]⟩
abbrev S8192x1024 : Shape := ⟨2, ![8192, 1024]⟩
abbrev S_ : Shape := ⟨0, ![]⟩

class Facts : Prop where
  reducesTo_S36_S_d0 : S36.ReducesTo [0] S_
  h_S_ : 0 < S_.numel

variable [Facts]

noncomputable abbrev lit0 : Fin 36 → BitVec 32 := fun
  | 0 => 0#32 | 1 => 1#32 | 2 => 2#32 | 3 => 3#32 | 4 => 4#32 | 5 => 5#32 | 6 => 6#32 | 7 => 7#32
  | 8 => 1#32 | 9 => 2#32 | 10 => 3#32 | 11 => 4#32 | 12 => 5#32 | 13 => 6#32 | 14 => 7#32 | 15 => 2#32
  | 16 => 3#32 | 17 => 4#32 | 18 => 5#32 | 19 => 6#32 | 20 => 7#32 | 21 => 3#32 | 22 => 4#32 | 23 => 5#32
  | 24 => 6#32 | 25 => 7#32 | 26 => 4#32 | 27 => 5#32 | 28 => 6#32 | 29 => 7#32 | 30 => 5#32 | 31 => 6#32
  | 32 => 7#32 | 33 => 6#32 | 34 => 7#32 | 35 => 7#32
  | _ => 0#32

noncomputable abbrev lit1 : Fin 36 → BitVec 32 := fun
  | 0 => 0#32 | 1 => 0#32 | 2 => 0#32 | 3 => 0#32 | 4 => 0#32 | 5 => 0#32 | 6 => 0#32 | 7 => 0#32
  | 8 => 1#32 | 9 => 1#32 | 10 => 1#32 | 11 => 1#32 | 12 => 1#32 | 13 => 1#32 | 14 => 1#32 | 15 => 2#32
  | 16 => 2#32 | 17 => 2#32 | 18 => 2#32 | 19 => 2#32 | 20 => 2#32 | 21 => 3#32 | 22 => 3#32 | 23 => 3#32
  | 24 => 3#32 | 25 => 3#32 | 26 => 4#32 | 27 => 4#32 | 28 => 4#32 | 29 => 4#32 | 30 => 5#32 | 31 => 5#32
  | 32 => 5#32 | 33 => 6#32 | 34 => 6#32 | 35 => 7#32
  | _ => 0#32

def fn {F : FTy → Type} [FloatOps F] (main_arg0 : IVec S36 32) (main_arg1 : IVec S36 32) (main_arg2 : FVec F S16x8192x128 .bf16) (main_arg3 : FVec F S16x8192x128 .bf16) (main_arg4 : FVec F S16x8192x128 .bf16) (main_arg5 : FVec F S8192x1024 .bf16) (main_arg6 : FVec F S16x8192x128 .f32) (main_arg7 : FVec F S16x8192x128 .f32) : IVec S_ 1 :=
  let main_c : IVec S36 32 := fun i => lit0 (S36.rowMajor i)
  let main_c_0 : IVec S36 32 := fun i => lit1 (S36.rowMajor i)
  let main_v0 : IVec S36 1 := cmpi .eq main_arg0 main_c
  let main_v1 : IVec S36 1 := cmpi .eq main_arg1 main_c_0
  let main_v2 : IVec S36 1 := andi main_v0 main_v1
  let main_c_1 : IVec S_ 1 := constantI S_ 1 1#1
  let main_v3 : IVec S_ 1 := (fun x v => Host.reduce IntOp.andi x v reducesTo_S36_S_d0 h_S_) main_v2 main_c_1
  main_v3
-- ==== Pre_finite.lean ====
abbrev S8192x1024 : Shape := ⟨2, ![8192, 1024]⟩
abbrev S256x2048 : Shape := ⟨2, ![256, 2048]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S8192x1024 .bf16) (main_arg1 : FVec F S256x2048 .bf16) (main_arg2 : FVec F S8192x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S256x2048 .f32 := (extf .f32 · bitsLt_bf16_f32) main_arg1
  let main_v6 : FVec F S256x2048 .f32 := Host.absf main_v5
  let main_cst_0 : FVec F S_ .f32 := constant S_ .f32 0x7F800000#32
  let main_v7 : FVec F S256x2048 .f32 := broadcastInDim S256x2048 ![] bcast_S_S256x2048 main_cst_0
  let main_v8 : IVec S256x2048 1 := cmpf .olt main_v6 main_v7
  let main_c_1 : IVec S_ 1 := constantI S_ 1 1#1
  let main_v9 : IVec S_ 1 := (fun x v => Host.reduce IntOp.andi x v reducesTo_S256x2048_S_d0_1 h_S_) main_v8 main_c_1
  let main_v10 : IVec S_ 1 := andi main_v4 main_v9
  main_v10
-- ==== Kernel.lean ====
abbrev S8192x1024 : Shape := ⟨2, ![8192, 1024]⟩
abbrev S256x2048 : Shape := ⟨2, ![256, 2048]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .bf16⟩
  | .hbm, ⟨3, _⟩ => ⟨S8192x1024, .bf16⟩
  | .hbm, ⟨4, _⟩ => ⟨S256x2048, .f32⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x1024 : Shape := ⟨2, ![8192, 1024]⟩
abbrev S256x2048 : Shape := ⟨2, ![256, 2048]⟩
abbrev S8192x4x256 : Shape := ⟨3, ![8192, 4, 256]⟩
abbrev S256x1024 : Shape := ⟨2, ![256, 1024]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .bf16⟩
  | .hbm, ⟨3, _⟩ => ⟨S8192x1024, .f32⟩
  | .hbm, ⟨4, _⟩ => ⟨S256x2048, .f32⟩
  | .hbm, ⟨5, _⟩ => ⟨S8192x4x256, .f32⟩
  | .hbm, ⟨6, _⟩ => ⟨S256x1024, .f32⟩
  | .hbm, ⟨7, _⟩ => ⟨S256x1024, .f32⟩
  | .hbm, ⟨8, _⟩ => ⟨S256x4x256, .f32⟩
  | .hbm, ⟨9, _⟩ => ⟨S256x4x256, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x256, .f32⟩
  | .hbm, ⟨18, _⟩ => ⟨S4x8192x256, .i1⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .i1⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S4x8192, .f32⟩
  | .hbm, ⟨38, _⟩ => ⟨S4x8192, .f32⟩
  | .hbm, ⟨39, _⟩ => ⟨S4x8192x1, .f32⟩
  | .hbm, ⟨40, _⟩ => ⟨S4x8192x256, .f32⟩
  | .hbm, ⟨41, _⟩ => ⟨S4x8192x256, .f32⟩
  | .hbm, ⟨42, _⟩ => ⟨S4x8192x256, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S4x8192x256, .f32⟩
  | .hbm, ⟨47, _⟩ => ⟨S4x8192x256, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x256x8192, .f32⟩
  | .hbm, ⟨53, _⟩ => ⟨S8192x4x256, .f32⟩
  | .hbm, ⟨54, _⟩ => ⟨S8192x1024, .f32⟩
  | .hbm, ⟨55, _⟩ => ⟨S8192x1024, .f32⟩
  | .hbm, ⟨56, _⟩ => ⟨S8192x4x256, .f32⟩
  | .hbm, ⟨57, _⟩ => ⟨S4x256x8192, .f32⟩
  | .hbm, ⟨58, _⟩ => ⟨S4x8192x256, .f32⟩
  | .hbm, ⟨59, _⟩ => ⟨S4x256x256, .f32⟩
  | .hbm, ⟨60, _⟩ => ⟨S256x4x256, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x256, .f32⟩
  | .hbm, ⟨69, _⟩ => ⟨S4x8192x256, .f32⟩
  | .hbm, ⟨70, _⟩ => ⟨S_, .f32⟩
  | .hbm, ⟨71, _⟩ => ⟨S4x8192, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S_, .f32⟩
  | .hbm, ⟨76, _⟩ => ⟨S4x8192x256, .f32⟩
  | .hbm, ⟨77, _⟩ => ⟨S4x8192x256, .f32⟩
  | .hbm, ⟨78, _⟩ => ⟨S4x256x256, .f32⟩
  | .hbm, ⟨79, _⟩ => ⟨S256x4x256, .f32⟩
  | .hbm, ⟨80, _⟩ => ⟨S4x8192x256, .f32⟩
  | .hbm, ⟨81, _⟩ => ⟨S8192x4x256, .f32⟩
  | .hbm, ⟨82, _⟩ => ⟨S256x1024, .f32⟩
  | .hbm, ⟨83, _⟩ => ⟨S256x1024, .f32⟩
  | .hbm, ⟨84, _⟩ => ⟨S256x2048, .f32⟩
  | .hbm, ⟨85, _⟩ => ⟨S8192x1024, .f32⟩
  | .hbm, ⟨86, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Kernel2.lean ====
abbrev S8192x5632 : Shape := ⟨2, ![8192, 5632]⟩
abbrev S4x1024x5632 : Shape := ⟨3, ![4, 1024, 5632]⟩
abbrev S8192x1024 : Shape := ⟨2, ![8192, 1024]⟩
abbrev S1x1024 : Shape := ⟨2, ![1, 1024]⟩
abbrev S1024x1408 : Shape := ⟨2, ![1024, 1408]⟩
abbrev S1x1024x1408 : Shape := ⟨3, ![1, 1024, 1408]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S4x1024x5632, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32_25 : BitVec 32 := 0#32
  let v44 : BitVec 1 := Scalar.cmpi .eq arg0 c0_i32_25
  let v45 : BitVec 32 := Scalar.extui v44
  let c0_i32_26 : BitVec 32 := 0#32
  let v46 : BitVec 1 := Scalar.cmpi .ne v45 c0_i32_26
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference2Ideal.lean ====
abbrev S8192x5632 : Shape := ⟨2, ![8192, 5632]⟩
abbrev S4x1024x5632 : Shape := ⟨3, ![4, 1024, 5632]⟩
abbrev S8192x1024 : Shape := ⟨2, ![8192, 1024]⟩
abbrev S1x1024 : Shape := ⟨2, ![1, 1024]⟩
abbrev S1x1024x5632 : Shape := ⟨3, ![1, 1024, 5632]⟩
abbrev S1024x5632 : Shape := ⟨2, ![1024, 5632]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x1024x5632, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024x5632, .bf16⟩
  | .hbm, ⟨6, _⟩ => ⟨S1024x5632, .bf16⟩
  | .hbm, ⟨7, _⟩ => ⟨S1024x5632, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x5632, .f32⟩
  | .hbm, ⟨30, _⟩ => ⟨S8192x5632, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel3.lean ====
abbrev S8192x1024 : Shape := ⟨2, ![8192, 1024]⟩
abbrev S8192x5632 : Shape := ⟨2, ![8192, 5632]⟩
abbrev S4x1024x5632 : Shape := ⟨3, ![4, 1024, 5632]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x5632, .f32⟩
  | .hbm, ⟨3, _⟩ => ⟨S4x1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x5632 : Shape := ⟨2, ![8192, 5632]⟩
abbrev S4x1024x5632 : Shape := ⟨3, ![4, 1024, 5632]⟩
abbrev S_ : Shape := ⟨0, ![]⟩
abbrev S1024x5632 : Shape := ⟨2, ![1024, 5632]⟩
abbrev S5632x1024 : Shape := ⟨2, ![5632, 1024]⟩
abbrev S4 : Shape := ⟨1, ![4]⟩
abbrev S4x1x1 : Shape := ⟨3, ![4, 1, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x5632, .f32⟩
  | .hbm, ⟨3, _⟩ => ⟨S_, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S8192x5632, .f32⟩
  | .hbm, ⟨8, _⟩ => ⟨S5632x1024, .f32⟩
  | .hbm, ⟨9, _⟩ => ⟨S1024x5632, .f32⟩
  | .hbm, ⟨10, _⟩ => ⟨S4, .i32⟩
  | .hbm, ⟨11, _⟩ => ⟨S4x1x1, .i32⟩
  | .hbm, ⟨12, _⟩ => ⟨S_, .i32⟩
  | .hbm, ⟨13, _⟩ => ⟨S4x1x1, .i32⟩
  | .hbm, ⟨14, _⟩ => ⟨S4x1x1, .i1⟩
  | .hbm, ⟨15, _⟩ => ⟨S4x1024x5632, .i1⟩
  | .hbm, ⟨16, _⟩ => ⟨S4x1024x5632, .f32⟩
  | .hbm, ⟨17, _⟩ => ⟨S4x1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Kernel4.lean ====
abbrev S8192x1024 : Shape := ⟨2, ![8192, 1024]⟩
abbrev S4x2816x1024 : Shape := ⟨3, ![4, 2816, 1024]⟩
abbrev S8192x2816 : Shape := ⟨2, ![8192, 2816]⟩
abbrev S1024x1024 : Shape := ⟨2, ![1024, 1024]⟩
abbrev S1x2816x1024 : Shape := ⟨3, ![1, 2816, 1024]⟩
abbrev S1024x2816 : Shape := ⟨2, ![1024, 2816]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S4x2816x1024, .bf16⟩
  | .hbm, ⟨2, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1x2816x1024, .bf16⟩
  | .local _ .vmem, ⟨3, _⟩ => ⟨S1024x2816, .bf16⟩
  | .local _ .vmem, ⟨4, _⟩ => ⟨S1024x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x1024 : Shape := ⟨2, ![8192, 1024]⟩
abbrev S4x2816x1024 : Shape := ⟨3, ![4, 2816, 1024]⟩
abbrev S_ : Shape := ⟨0, ![]⟩
abbrev S8192x2816 : Shape := ⟨2, ![8192, 2816]⟩
abbrev S1x2816x1024 : Shape := ⟨3, ![1, 2816, 1024]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2816x1024, .bf16⟩
  | .hbm, ⟨2, _⟩ => ⟨S_, .f32⟩
  | .hbm, ⟨3, _⟩ => ⟨S8192x2816, .f32⟩
  | .hbm, ⟨4, _⟩ => ⟨S1x2816x1024, .bf16⟩
  | .hbm, ⟨5, _⟩ => ⟨S2816x1024, .bf16⟩
  | .hbm, ⟨6, _⟩ => ⟨S2816x1024, .f32⟩
  | .hbm, ⟨7, _⟩ => ⟨S8192x1024, .f32⟩
  | .hbm, ⟨8, _⟩ => ⟨S8192x2816, .f32⟩
  | .hbm, ⟨9, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S4x2816x1024 : Shape := ⟨3, ![4, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S4x2816x1024, .f32⟩
  | .hbm, ⟨3, _⟩ => ⟨S4x2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1x1408x1024, .f32⟩
  | .local _ .vmem, ⟨5, _⟩ => ⟨S1x1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S4x2816x1024 : Shape := ⟨3, ![4, 2816, 1024]⟩
abbrev S_ : Shape := ⟨0, ![]⟩
abbrev S2816x1024 : Shape := ⟨2, ![2816, 1024]⟩
abbrev S1024x2816 : Shape := ⟨2, ![1024, 2816]⟩
abbrev S4 : Shape := ⟨1, ![4]⟩
abbrev S4x1x1 : Shape := ⟨3, ![4, 1, 1]⟩

abbrev nBuf : Space → Nat
  | .hbm => 17
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S4x2816x1024, .f32⟩
  | .hbm, ⟨3, _⟩ => ⟨S_, .f32⟩
  | .hbm, ⟨4, _⟩ => ⟨S2816x1024, .f32⟩
  | .hbm, ⟨5, _⟩ => ⟨S8192x2816, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S4, .i32⟩
  | .hbm, ⟨10, _⟩ => ⟨S4x1x1, .i32⟩
  | .hbm, ⟨11, _⟩ => ⟨S_, .i32⟩
  | .hbm, ⟨12, _⟩ => ⟨S4x1x1, .i32⟩
  | .hbm, ⟨13, _⟩ => ⟨S4x1x1, .i1⟩
  | .hbm, ⟨14, _⟩ => ⟨S4x2816x1024, .i1⟩
  | .hbm, ⟨15, _⟩ => ⟨S4x2816x1024, .f32⟩
  | .hbm, ⟨16, _⟩ => ⟨S4x2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel6.lean ====
abbrev S8192x2816 : Shape := ⟨2, ![8192, 2816]⟩
abbrev S4x2816x1024 : Shape := ⟨3, ![4, 2816, 1024]⟩
abbrev S8192x1024 : Shape := ⟨2, ![8192, 1024]⟩
abbrev S1024x2816 : Shape := ⟨2, ![1024, 2816]⟩
abbrev S1x2816x1024 : Shape := ⟨3, ![1, 2816, 1024]⟩
abbrev S1024x1024 : Shape := ⟨2, ![1024, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S4x2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x2816 : Shape := ⟨2, ![8192, 2816]⟩
abbrev S4x2816x1024 : Shape := ⟨3, ![4, 2816, 1024]⟩
abbrev S8192x1024 : Shape := ⟨2, ![8192, 1024]⟩
abbrev S1x2816x1024 : Shape := ⟨3, ![1, 2816, 1024]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S4x2816x1024, .bf16⟩
  | .hbm, ⟨2, _⟩ => ⟨S8192x1024, .f32⟩
  | .hbm, ⟨3, _⟩ => ⟨S8192x2816, .f32⟩
  | .hbm, ⟨4, _⟩ => ⟨S1x2816x1024, .bf16⟩
  | .hbm, ⟨5, _⟩ => ⟨S2816x1024, .bf16⟩
  | .hbm, ⟨6, _⟩ => ⟨S2816x1024, .f32⟩
  | .hbm, ⟨7, _⟩ => ⟨S8192x1024, .f32⟩
  | .hbm, ⟨8, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x1024 : Shape := ⟨2, ![8192, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8192x1024 : Shape := ⟨2, ![8192, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S8192x1024, .f32⟩
  | .hbm, ⟨3, _⟩ => ⟨S8192x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S8192x1024, .f32⟩
  | .hbm, ⟨8, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S4x1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x1024 : Shape := ⟨2, ![8192, 1024]⟩
abbrev S4x1024x1024 : Shape := ⟨3, ![4, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024x1024, .bf16⟩
  | .hbm, ⟨2, _⟩ => ⟨S_, .f32⟩
  | .hbm, ⟨3, _⟩ => ⟨S8192x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x1024 : Shape := ⟨2, ![8192, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S4x1024x1024, .f32⟩
  | .hbm, ⟨3, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S4x1024x1024 : Shape := ⟨3, ![4, 1024, 1024]⟩
abbrev S_ : Shape := ⟨0, ![]⟩
abbrev S1024x1024 : Shape := ⟨2, ![1024, 1024]⟩
abbrev S4 : Shape := ⟨1, ![4]⟩
abbrev S4x1x1 : Shape := ⟨3, ![4, 1, 1]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S4x1024x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S4, .i32⟩
  | .hbm, ⟨10, _⟩ => ⟨S4x1x1, .i32⟩
  | .hbm, ⟨11, _⟩ => ⟨S_, .i32⟩
  | .hbm, ⟨12, _⟩ => ⟨S4x1x1, .i32⟩
  | .hbm, ⟨13, _⟩ => ⟨S4x1x1, .i1⟩
  | .hbm, ⟨14, _⟩ => ⟨S4x1024x1024, .i1⟩
  | .hbm, ⟨15, _⟩ => ⟨S4x1024x1024, .f32⟩
  | .hbm, ⟨16, _⟩ => ⟨S4x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel10.lean ====
abbrev S8192x1024 : Shape := ⟨2, ![8192, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x1024x1024, .f32⟩
  | .hbm, ⟨3, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S4x1024x1024 : Shape := ⟨3, ![4, 1024, 1024]⟩
abbrev S_ : Shape := ⟨0, ![]⟩
abbrev S1024x1024 : Shape := ⟨2, ![1024, 1024]⟩
abbrev S4 : Shape := ⟨1, ![4]⟩
abbrev S4x1x1 : Shape := ⟨3, ![4, 1, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x1024x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S4, .i32⟩
  | .hbm, ⟨11, _⟩ => ⟨S4x1x1, .i32⟩
  | .hbm, ⟨12, _⟩ => ⟨S_, .i32⟩
  | .hbm, ⟨13, _⟩ => ⟨S4x1x1, .i32⟩
  | .hbm, ⟨14, _⟩ => ⟨S4x1x1, .i1⟩
  | .hbm, ⟨15, _⟩ => ⟨S4x1024x1024, .i1⟩
  | .hbm, ⟨16, _⟩ => ⟨S4x1024x1024, .f32⟩
  | .hbm, ⟨17, _⟩ => ⟨S4x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Kernel11.lean ====
abbrev S8192x1024 : Shape := ⟨2, ![8192, 1024]⟩
abbrev S4x1024x1024 : Shape := ⟨3, ![4, 1024, 1024]⟩
abbrev S1x1024 : Shape := ⟨2, ![1, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_9 : BitVec 32 := 0#32
  let v12 : BitVec 1 := Scalar.cmpi .eq arg1 c0_i32_9
  let v13 : BitVec 32 := Scalar.extui v12
  let c0_i32_10 : BitVec 32 := 0#32
  let v14 : BitVec 1 := Scalar.cmpi .ne v13 c0_i32_10
  v14

def k0_cond3 (i : grid0.Coords) : BitVec 1 :=
  let arg0 : BitVec 32 := BitVec.ofNat 32 (i 0).val
  let c0_i32_26 : BitVec 32 := 0#32
  let v44 : BitVec 1 := Scalar.cmpi .eq arg0 c0_i32_26
  let v45 : BitVec 32 := Scalar.extui v44
  let c0_i32_27 : BitVec 32 := 0#32
  let v46 : BitVec 1 := Scalar.cmpi .ne v45 c0_i32_27
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference11Ideal.lean ====
abbrev S8192x1024 : Shape := ⟨2, ![8192, 1024]⟩
abbrev S4x1024x1024 : Shape := ⟨3, ![4, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024x1024, .bf16⟩
  | .hbm, ⟨6, _⟩ => ⟨S1024x1024, .bf16⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel12.lean ====
abbrev S8192x1024 : Shape := ⟨2, ![8192, 1024]⟩
abbrev S1x1024 : Shape := ⟨2, ![1, 1024]⟩
abbrev S4x1024x1024 : Shape := ⟨3, ![4, 1024, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x1024, .bf16⟩
  | .hbm, ⟨3, _⟩ => ⟨S8192x1024, .bf16⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference12Ideal.lean ====
abbrev S8192x1024 : Shape := ⟨2, ![8192, 1024]⟩
abbrev S1x1024 : Shape := ⟨2, ![1, 1024]⟩
abbrev S4x1024x1024 : Shape := ⟨3, ![4, 1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x1024 : Shape := ⟨3, ![1, 1024, 1024]⟩
abbrev S1024x1024 : Shape := ⟨2, ![1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x1024, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1x1024x1024, .bf16⟩
  | .hbm, ⟨21, _⟩ => ⟨S1024x1024, .bf16⟩
  | .hbm, ⟨22, _⟩ => ⟨S1024x1024, .f32⟩
  | .hbm, ⟨23, _⟩ => ⟨S8192x1024, .f32⟩
  | .hbm, ⟨24, _⟩ => ⟨S8192x1024, .bf16⟩
  | .hbm, ⟨25, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel13.lean ====
abbrev S8192x1024 : Shape := ⟨2, ![8192, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S8192x1024 : Shape := ⟨2, ![8192, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .f32⟩
  | .hbm, ⟨3, _⟩ => ⟨S8192x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S8192x1024, .f32⟩
  | .hbm, ⟨8, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8192x1024 : Shape := ⟨2, ![8192, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2x1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8192x1024 : Shape := ⟨2, ![8192, 1024]⟩
abbrev S2x1024x1024 : Shape := ⟨3, ![2, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x1024, .bf16⟩
  | .hbm, ⟨2, _⟩ => ⟨S_, .f32⟩
  | .hbm, ⟨3, _⟩ => ⟨S8192x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S8192x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S8192x1024 : Shape := ⟨2, ![8192, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2x1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S8192x1024 : Shape := ⟨2, ![8192, 1024]⟩
abbrev S2x1024x1024 : Shape := ⟨3, ![2, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x1024, .bf16⟩
  | .hbm, ⟨2, _⟩ => ⟨S_, .f32⟩
  | .hbm, ⟨3, _⟩ => ⟨S8192x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S8192x1024 : Shape := ⟨2, ![8192, 1024]⟩
abbrev S2x1024x1024 : Shape := ⟨3, ![2, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S2x1024x1024, .f32⟩
  | .hbm, ⟨3, _⟩ => ⟨S2x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S2x1024x1024 : Shape := ⟨3, ![2, 1024, 1024]⟩
abbrev S_ : Shape := ⟨0, ![]⟩
abbrev S1024x1024 : Shape := ⟨2, ![1024, 1024]⟩
abbrev S2 : Shape := ⟨1, ![2]⟩
abbrev S2x1x1 : Shape := ⟨3, ![2, 1, 1]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S2x1024x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S2, .i32⟩
  | .hbm, ⟨10, _⟩ => ⟨S2x1x1, .i32⟩
  | .hbm, ⟨11, _⟩ => ⟨S_, .i32⟩
  | .hbm, ⟨12, _⟩ => ⟨S2x1x1, .i32⟩
  | .hbm, ⟨13, _⟩ => ⟨S2x1x1, .i1⟩
  | .hbm, ⟨14, _⟩ => ⟨S2x1024x1024, .i1⟩
  | .hbm, ⟨15, _⟩ => ⟨S2x1024x1024, .f32⟩
  | .hbm, ⟨16, _⟩ => ⟨S2x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel17.lean ====
abbrev S8192x1024 : Shape := ⟨2, ![8192, 1024]⟩
abbrev S1x1024 : Shape := ⟨2, ![1, 1024]⟩
abbrev S2x1024x1536 : Shape := ⟨3, ![2, 1024, 1536]⟩
abbrev S8192x1536 : Shape := ⟨2, ![8192, 1536]⟩
abbrev S1024x1024 : Shape := ⟨2, ![1024, 1024]⟩
abbrev S1x1024x1536 : Shape := ⟨3, ![1, 1024, 1536]⟩
abbrev S1024x1536 : Shape := ⟨2, ![1024, 1536]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024x1536, .bf16⟩
  | .hbm, ⟨3, _⟩ => ⟨S8192x1536, .f32⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference17Ideal.lean ====
abbrev S8192x1024 : Shape := ⟨2, ![8192, 1024]⟩
abbrev S1x1024 : Shape := ⟨2, ![1, 1024]⟩
abbrev S2x1024x1536 : Shape := ⟨3, ![2, 1024, 1536]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x1536 : Shape := ⟨3, ![1, 1024, 1536]⟩
abbrev S1024x1536 : Shape := ⟨2, ![1024, 1536]⟩
abbrev S8192x1536 : Shape := ⟨2, ![8192, 1536]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024x1536, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1x1024x1536, .bf16⟩
  | .hbm, ⟨21, _⟩ => ⟨S1024x1536, .bf16⟩
  | .hbm, ⟨22, _⟩ => ⟨S1024x1536, .f32⟩
  | .hbm, ⟨23, _⟩ => ⟨S8192x1536, .f32⟩
  | .hbm, ⟨24, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel18.lean ====
abbrev S8192x1536 : Shape := ⟨2, ![8192, 1536]⟩
abbrev S2x1024x1536 : Shape := ⟨3, ![2, 1024, 1536]⟩
abbrev S8192x1024 : Shape := ⟨2, ![8192, 1024]⟩
abbrev S1x1024 : Shape := ⟨2, ![1, 1024]⟩
abbrev S1024x768 : Shape := ⟨2, ![1024, 768]⟩
abbrev S1x1024x768 : Shape := ⟨3, ![1, 1024, 768]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x1536, .bf16⟩
  | .hbm, ⟨1, _⟩ => ⟨S2x1024x1536, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x768, .bf16⟩
  | .local _ .vmem, ⟨1, _⟩ => ⟨S1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32_25 : BitVec 32 := 0#32
  let v44 : BitVec 1 := Scalar.cmpi .eq arg0 c0_i32_25
  let v45 : BitVec 32 := Scalar.extui v44
  let c0_i32_26 : BitVec 32 := 0#32
  let v46 : BitVec 1 := Scalar.cmpi .ne v45 c0_i32_26
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference18Ideal.lean ====
abbrev S8192x1536 : Shape := ⟨2, ![8192, 1536]⟩
abbrev S2x1024x1536 : Shape := ⟨3, ![2, 1024, 1536]⟩
abbrev S8192x1024 : Shape := ⟨2, ![8192, 1024]⟩
abbrev S1x1024 : Shape := ⟨2, ![1, 1024]⟩
abbrev S1x1024x1536 : Shape := ⟨3, ![1, 1024, 1536]⟩
abbrev S1024x1536 : Shape := ⟨2, ![1024, 1536]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S2x1024x1536, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024x1536, .bf16⟩
  | .hbm, ⟨6, _⟩ => ⟨S1024x1536, .bf16⟩
  | .hbm, ⟨7, _⟩ => ⟨S1024x1536, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1536, .f32⟩
  | .hbm, ⟨30, _⟩ => ⟨S8192x1536, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel19.lean ====
abbrev S8192x1024 : Shape := ⟨2, ![8192, 1024]⟩
abbrev S8192x1536 : Shape := ⟨2, ![8192, 1536]⟩
abbrev S2x1024x1536 : Shape := ⟨3, ![2, 1024, 1536]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S2x1024x1536, .f32⟩
  | .hbm, ⟨3, _⟩ => ⟨S2x1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .f32⟩
  | .local _ .vmem, ⟨5, _⟩ => ⟨S1x1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S8192x1536 : Shape := ⟨2, ![8192, 1536]⟩
abbrev S2x1024x1536 : Shape := ⟨3, ![2, 1024, 1536]⟩
abbrev S_ : Shape := ⟨0, ![]⟩
abbrev S1024x1536 : Shape := ⟨2, ![1024, 1536]⟩
abbrev S1536x1024 : Shape := ⟨2, ![1536, 1024]⟩
abbrev S2 : Shape := ⟨1, ![2]⟩
abbrev S2x1x1 : Shape := ⟨3, ![2, 1, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S2x1024x1536, .f32⟩
  | .hbm, ⟨3, _⟩ => ⟨S_, .f32⟩
  | .hbm, ⟨4, _⟩ => ⟨S1024x1536, .f32⟩
  | .hbm, ⟨5, _⟩ => ⟨S8192x1024, .f32⟩
  | .hbm, ⟨6, _⟩ => ⟨S8192x1536, .f32⟩
  | .hbm, ⟨7, _⟩ => ⟨S8192x1536, .f32⟩
  | .hbm, ⟨8, _⟩ => ⟨S1536x1024, .f32⟩
  | .hbm, ⟨9, _⟩ => ⟨S1024x1536, .f32⟩
  | .hbm, ⟨10, _⟩ => ⟨S2, .i32⟩
  | .hbm, ⟨11, _⟩ => ⟨S2x1x1, .i32⟩
  | .hbm, ⟨12, _⟩ => ⟨S_, .i32⟩
  | .hbm, ⟨13, _⟩ => ⟨S2x1x1, .i32⟩
  | .hbm, ⟨14, _⟩ => ⟨S2x1x1, .i1⟩
  | .hbm, ⟨15, _⟩ => ⟨S2x1024x1536, .i1⟩
  | .hbm, ⟨16, _⟩ => ⟨S2x1024x1536, .f32⟩
  | .hbm, ⟨17, _⟩ => ⟨S2x1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Kernel20.lean ====
abbrev S8192x1024 : Shape := ⟨2, ![8192, 1024]⟩
abbrev S1x1024 : Shape := ⟨2, ![1, 1024]⟩
abbrev S1024x768 : Shape := ⟨2, ![1024, 768]⟩
abbrev S8192x768 : Shape := ⟨2, ![8192, 768]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x768, .bf16⟩
  | .hbm, ⟨3, _⟩ => ⟨S8192x768, .f32⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference20Ideal.lean ====
abbrev S8192x1024 : Shape := ⟨2, ![8192, 1024]⟩
abbrev S1x1024 : Shape := ⟨2, ![1, 1024]⟩
abbrev S1024x768 : Shape := ⟨2, ![1024, 768]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x768 : Shape := ⟨2, ![8192, 768]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x768, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x768, .f32⟩
  | .hbm, ⟨21, _⟩ => ⟨S8192x768, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel21.lean ====
abbrev S8192x768 : Shape := ⟨2, ![8192, 768]⟩
abbrev S1024x768 : Shape := ⟨2, ![1024, 768]⟩
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x768, .bf16⟩
  | .hbm, ⟨1, _⟩ => ⟨S1024x768, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def k0_cond3 (i : grid0.Coords) : BitVec 1 :=
  let arg0 : BitVec 32 := BitVec.ofNat 32 (i 0).val
  let c0_i32_25 : BitVec 32 := 0#32
  let v43 : BitVec 1 := Scalar.cmpi .eq arg0 c0_i32_25
  let v44 : BitVec 32 := Scalar.extui v43
  let c0_i32_26 : BitVec 32 := 0#32
  let v45 : BitVec 1 := Scalar.cmpi .ne v44 c0_i32_26
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference21Ideal.lean ====
abbrev S8192x768 : Shape := ⟨2, ![8192, 768]⟩
abbrev S1024x768 : Shape := ⟨2, ![1024, 768]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S1024x768, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x768, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x768, .f32⟩
  | .hbm, ⟨28, _⟩ => ⟨S8192x768, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | .hbm, ⟨56, _⟩ => ⟨S8192x1024, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel22.lean ====
abbrev S8192x1024 : Shape := ⟨2, ![8192, 1024]⟩
abbrev S8192x768 : Shape := ⟨2, ![8192, 768]⟩
abbrev S1024x768 : Shape := ⟨2, ![1024, 768]⟩
abbrev S2048x1024 : Shape := ⟨2, ![2048, 1024]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S1024x768, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S8192x1024 : Shape := ⟨2, ![8192, 1024]⟩
abbrev S8192x768 : Shape := ⟨2, ![8192, 768]⟩
abbrev S_ : Shape := ⟨0, ![]⟩
abbrev S1024x768 : Shape := ⟨2, ![1024, 768]⟩
abbrev S768x1024 : Shape := ⟨2, ![768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S_, .f32⟩
  | .hbm, ⟨3, _⟩ => ⟨S1024x768, .f32⟩
  | .hbm, ⟨4, _⟩ => ⟨S8192x1024, .f32⟩
  | .hbm, ⟨5, _⟩ => ⟨S8192x768, .f32⟩
  | .hbm, ⟨6, _⟩ => ⟨S8192x768, .f32⟩
  | .hbm, ⟨7, _⟩ => ⟨S768x1024, .f32⟩
  | .hbm, ⟨8, _⟩ => ⟨S1024x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S8192x1024 : Shape := ⟨2, ![8192, 1024]⟩
abbrev S256x2048 : Shape := ⟨2, ![256, 2048]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S8192x1024 : Shape := ⟨2, ![8192, 1024]⟩
abbrev S256x2048 : Shape := ⟨2, ![256, 2048]⟩
abbrev S8192x4x256 : Shape := ⟨3, ![8192, 4, 256]⟩
abbrev S256x1024 : Shape := ⟨2, ![256, 1024]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .f32⟩
  | .hbm, ⟨3, _⟩ => ⟨S256x2048, .f32⟩
  | .hbm, ⟨4, _⟩ => ⟨S8192x4x256, .f32⟩
  | .hbm, ⟨5, _⟩ => ⟨S256x1024, .f32⟩
  | .hbm, ⟨6, _⟩ => ⟨S256x1024, .f32⟩
  | .hbm, ⟨7, _⟩ => ⟨S256x4x256, .f32⟩
  | .hbm, ⟨8, _⟩ => ⟨S256x4x256, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S_, .f32⟩
  | .hbm, ⟨16, _⟩ => ⟨S4x8192, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .f32⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x256x8192, .f32⟩
  | .hbm, ⟨28, _⟩ => ⟨S8192x4x256, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel24.lean ====
abbrev S8192x1024 : Shape := ⟨2, ![8192, 1024]⟩
abbrev S1x1024 : Shape := ⟨2, ![1, 1024]⟩
abbrev S4x1024x5632 : Shape := ⟨3, ![4, 1024, 5632]⟩
abbrev S8192x5632 : Shape := ⟨2, ![8192, 5632]⟩
abbrev S1024x1024 : Shape := ⟨2, ![1024, 1024]⟩
abbrev S1x1024x2816 : Shape := ⟨3, ![1, 1024, 2816]⟩
abbrev S1024x2816 : Shape := ⟨2, ![1024, 2816]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x5632, .bf16⟩
  | .hbm, ⟨3, _⟩ => ⟨S8192x5632, .bf16⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1024x2816, .bf16⟩
  | .local _ .vmem, ⟨6, _⟩ => ⟨S1024x2816, .bf16⟩
  | .local _ .vmem, ⟨7, _⟩ => ⟨S1024x1024, .bf16⟩
  | .local _ .vmem, ⟨8, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference24Ideal.lean ====
abbrev S8192x1024 : Shape := ⟨2, ![8192, 1024]⟩
abbrev S1x1024 : Shape := ⟨2, ![1, 1024]⟩
abbrev S4x1024x5632 : Shape := ⟨3, ![4, 1024, 5632]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x5632 : Shape := ⟨3, ![1, 1024, 5632]⟩
abbrev S1024x5632 : Shape := ⟨2, ![1024, 5632]⟩
abbrev S8192x5632 : Shape := ⟨2, ![8192, 5632]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x5632, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1x1024x5632, .bf16⟩
  | .hbm, ⟨21, _⟩ => ⟨S1024x5632, .bf16⟩
  | .hbm, ⟨22, _⟩ => ⟨S1024x5632, .f32⟩
  | .hbm, ⟨23, _⟩ => ⟨S8192x5632, .f32⟩
  | .hbm, ⟨24, _⟩ => ⟨S8192x5632, .bf16⟩
  | .hbm, ⟨25, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel25.lean ====
abbrev S16x8192x128 : Shape := ⟨3, ![16, 8192, 128]⟩
abbrev S8192x384 : Shape := ⟨2, ![8192, 384]⟩
abbrev S8192x256 : Shape := ⟨2, ![8192, 256]⟩
abbrev S8192x128 : Shape := ⟨2, ![8192, 128]⟩
abbrev S16x384x128 : Shape := ⟨3, ![16, 384, 128]⟩
abbrev S16x256x128 : Shape := ⟨3, ![16, 256, 128]⟩
abbrev S16x512x128 : Shape := ⟨3, ![16, 512, 128]⟩
abbrev S512x384 : Shape := ⟨2, ![512, 384]⟩
abbrev S512x256 : Shape := ⟨2, ![512, 256]⟩
abbrev S512x128 : Shape := ⟨2, ![512, 128]⟩
abbrev S1x512x128 : Shape := ⟨3, ![1, 512, 128]⟩
abbrev S1x384x128 : Shape := ⟨3, ![1, 384, 128]⟩
abbrev S384x128 : Shape := ⟨2, ![384, 128]⟩
abbrev S1x256x128 : Shape := ⟨3, ![1, 256, 128]⟩
abbrev S256x128 : Shape := ⟨2, ![256, 128]⟩

abbrev nBuf : Space → Nat
  | .hbm => 16
  | .vmem => 26
  | .smem => 0
  | _ => 0

abbrev bufTy : (tb : Table) → Fin (tcTables nBuf tb) → BufTy
  | .hbm, ⟨0, _⟩ => ⟨S16x8192x128, .f32⟩
  | .hbm, ⟨1, _⟩ => ⟨S16x8192x128, .bf16⟩
  | .hbm, ⟨2, _⟩ => ⟨S16x8192x128, .bf16⟩
  | .hbm, ⟨3, _⟩ => ⟨S8192x384, .bf16⟩
  | .hbm, ⟨4, _⟩ => ⟨S8192x256, .bf16⟩
  | .hbm, ⟨5, _⟩ => ⟨S8192x128, .f32⟩
  | .hbm, ⟨6, _⟩ => ⟨S8192x128, .f32⟩
  | .hbm, ⟨7, _⟩ => ⟨S16x384x128, .bf16⟩
  | .hbm, ⟨8, _⟩ => ⟨S16x256x128, .bf16⟩
  | .hbm, ⟨9, _⟩ => ⟨S16x256x128, .bf16⟩
  | .hbm, ⟨10, _⟩ => ⟨S8192x384, .f32⟩
  | .hbm, ⟨11, _⟩ => ⟨S8192x256, .f32⟩
  | .hbm, ⟨12, _⟩ => ⟨S8192x128, .f32⟩
  | .hbm, ⟨13, _⟩ => ⟨S16x384x128, .f32⟩
  | .hbm, ⟨14, _⟩ => ⟨S16x256x128, .f32⟩
  | .hbm, ⟨15, _⟩ => ⟨S16x256x128, .f32⟩
  | .local _ .vmem, ⟨0, _⟩ => ⟨S16x512x128, .f32⟩
  | .local _ .vmem, ⟨1, _⟩ => ⟨S16x512x128, .f32⟩
  | .local _ .vmem, ⟨2, _⟩ => ⟨S16x512x128, .bf16⟩
  | .local _ .vmem, ⟨3, _⟩ => ⟨S16x512x128, .bf16⟩
  | .local _ .vmem, ⟨4, _⟩ => ⟨S16x512x128, .bf16⟩
  | .local _ .vmem, ⟨5, _⟩ => ⟨S16x512x128, .bf16⟩
  | .local _ .vmem, ⟨6, _⟩ => ⟨S512x384, .bf16⟩
  | .local _ .vmem, ⟨7, _⟩ => ⟨S512x384, .bf16⟩
  | .local _ .vmem, ⟨8, _⟩ => ⟨S512x256, .bf16⟩
  | .local _ .vmem, ⟨9, _⟩ => ⟨S512x256, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S16x384x128, .bf16⟩
  | .local _ .vmem, ⟨15, _⟩ => ⟨S16x256x128, .bf16⟩
  | .local _ .vmem, ⟨16, _⟩ => ⟨S16x256x128, .bf16⟩
  | .local _ .vmem, ⟨17, _⟩ => ⟨S512x384, .f32⟩
  | .local _ .vmem, ⟨18, _⟩ => ⟨S512x384, .f32⟩
  | .local _ .vmem, ⟨19, _⟩ => ⟨S512x256, .f32⟩
  | .local _ .vmem, ⟨20, _⟩ => ⟨S512x256, .f32⟩
  | .local _ .vmem, ⟨21, _⟩ => ⟨S512x128, .f32⟩
  | .local _ .vmem, ⟨22, _⟩ => ⟨S512x128, .f32⟩
  | .local _ .vmem, ⟨23, _⟩ => ⟨S16x384x128, .f32⟩
  | .local _ .vmem, ⟨24, _⟩ => ⟨S16x256x128, .f32⟩
  | .local _ .vmem, ⟨25, _⟩ => ⟨S16x256x128, .f32⟩
  | _, _ => ⟨S16x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S16x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x384x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S16x384x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference25Ideal.lean ====
abbrev S16x8192x128 : Shape := ⟨3, ![16, 8192, 128]⟩
abbrev S8192x384 : Shape := ⟨2, ![8192, 384]⟩
abbrev S8192x256 : Shape := ⟨2, ![8192, 256]⟩
abbrev S8192x128 : Shape := ⟨2, ![8192, 128]⟩
abbrev S16x384x128 : Shape := ⟨3, ![16, 384, 128]⟩
abbrev S16x256x128 : Shape := ⟨3, ![16, 256, 128]⟩
abbrev S_ : Shape := ⟨0, ![]⟩
abbrev S16x128x8192 : Shape := ⟨3, ![16, 128, 8192]⟩
abbrev S1x8192x128 : Shape := ⟨3, ![1, 8192, 128]⟩
abbrev S16x8192x64 : Shape := ⟨3, ![16, 8192, 64]⟩
abbrev S16x8192x16 : Shape := ⟨3, ![16, 8192, 16]⟩
abbrev S16x8192x32 : Shape := ⟨3, ![16, 8192, 32]⟩
abbrev S16x128x256 : Shape := ⟨3, ![16, 128, 256]⟩
abbrev S16x128x384 : Shape := ⟨3, ![16, 128, 384]⟩

abbrev nBuf : Space → Nat
  | .hbm => 82
  | .vmem => 0
  | .smem => 0
  | _ => 0

abbrev bufTy : (tb : Table) → Fin (tcTables nBuf tb) → BufTy
  | .hbm, ⟨0, _⟩ => ⟨S16x8192x128, .f32⟩
  | .hbm, ⟨1, _⟩ => ⟨S16x8192x128, .bf16⟩
  | .hbm, ⟨2, _⟩ => ⟨S16x8192x128, .bf16⟩
  | .hbm, ⟨3, _⟩ => ⟨S8192x384, .bf16⟩
  | .hbm, ⟨4, _⟩ => ⟨S8192x256, .bf16⟩
  | .hbm, ⟨5, _⟩ => ⟨S8192x128, .f32⟩
  | .hbm, ⟨6, _⟩ => ⟨S8192x128, .f32⟩
  | .hbm, ⟨7, _⟩ => ⟨S16x384x128, .bf16⟩
  | .hbm, ⟨8, _⟩ => ⟨S16x256x128, .bf16⟩
  | .hbm, ⟨9, _⟩ => ⟨S16x256x128, .bf16⟩
  | .hbm, ⟨10, _⟩ => ⟨S8192x384, .f32⟩
  | .hbm, ⟨11, _⟩ => ⟨S8192x256, .f32⟩
  | .hbm, ⟨12, _⟩ => ⟨S_, .f32⟩
  | .hbm, ⟨13, _⟩ => ⟨S8192x128, .f32⟩
  | .hbm, ⟨14, _⟩ => ⟨S16x384x128, .f32⟩
  | .hbm, ⟨15, _⟩ => ⟨S16x256x128, .f32⟩
  | .hbm, ⟨16, _⟩ => ⟨S16x256x128, .f32⟩
  | .hbm, ⟨17, _⟩ => ⟨S16x128x8192, .f32⟩
  | .hbm, ⟨18, _⟩ => ⟨S16x8192x128, .f32⟩
  | .hbm, ⟨19, _⟩ => ⟨S1x8192x128, .f32⟩
  | .hbm, ⟨20, _⟩ => ⟨S16x8192x128, .f32⟩
  | .hbm, ⟨21, _⟩ => ⟨S16x8192x128, .f32⟩
  | .hbm, ⟨22, _⟩ => ⟨S_, .f32⟩
  | .hbm, ⟨23, _⟩ => ⟨S16x8192x64, .f32⟩
  | .hbm, ⟨24, _⟩ => ⟨S16x8192x16, .f32⟩
  | .hbm, ⟨25, _⟩ => ⟨S16x8192x16, .f32⟩
  | .hbm, ⟨26, _⟩ => ⟨S16x8192x16, .f32⟩
  | .hbm, ⟨27, _⟩ => ⟨S_, .f32⟩
  | .hbm, ⟨28, _⟩ => ⟨S16x8192x32, .f32⟩
  | .hbm, ⟨29, _⟩ => ⟨S16x8192x128, .f32⟩
  | .hbm, ⟨30, _⟩ => ⟨S_, .f32⟩
  | .hbm, ⟨31, _⟩ => ⟨S16x8192x64, .f32⟩
  | .hbm, ⟨32, _⟩ => ⟨S_, .f32⟩
  | .hbm, ⟨33, _⟩ => ⟨S16x8192x32, .f32⟩
  | .hbm, ⟨34, _⟩ => ⟨S1x8192x128, .f32⟩
  | .hbm, ⟨35, _⟩ => ⟨S16x8192x128, .f32⟩
  | .hbm, ⟨36, _⟩ => ⟨S16x8192x128, .f32⟩
  | .hbm, ⟨37, _⟩ => ⟨S16x8192x128, .f32⟩
  | .hbm, ⟨38, _⟩ => ⟨S16x128x8192, .f32⟩
  | .hbm, ⟨39, _⟩ => ⟨S16x8192x128, .f32⟩
  | .hbm, ⟨40, _⟩ => ⟨S1x8192x128, .f32⟩
  | .hbm, ⟨41, _⟩ => ⟨S16x8192x128, .f32⟩
  | .hbm, ⟨42, _⟩ => ⟨S16x8192x128, .f32⟩
  | .hbm, ⟨43, _⟩ => ⟨S16x128x8192, .f32⟩
  | .hbm, ⟨44, _⟩ => ⟨S16x8192x128, .f32⟩
  | .hbm, ⟨45, _⟩ => ⟨S16x8192x128, .f32⟩
  | .hbm, ⟨46, _⟩ => ⟨S16x8192x128, .f32⟩
  | .hbm, ⟨47, _⟩ => ⟨S16x128x8192, .f32⟩
  | .hbm, ⟨48, _⟩ => ⟨S8192x256, .f32⟩
  | .hbm, ⟨49, _⟩ => ⟨S16x128x256, .f32⟩
  | .hbm, ⟨50, _⟩ => ⟨S16x256x128, .f32⟩
  | .hbm, ⟨51, _⟩ => ⟨S_, .f32⟩
  | .hbm, ⟨52, _⟩ => ⟨S8192x128, .f32⟩
  | .hbm, ⟨53, _⟩ => ⟨S1x8192x128, .f32⟩
  | .hbm, ⟨54, _⟩ => ⟨S_, .f32⟩
  | .hbm, ⟨55, _⟩ => ⟨S8192x128, .f32⟩
  | .hbm, ⟨56, _⟩ => ⟨S16x128x8192, .f32⟩
  | .hbm, ⟨57, _⟩ => ⟨S8192x256, .f32⟩
  | .hbm, ⟨58, _⟩ => ⟨S8192x256, .f32⟩
  | .hbm, ⟨59, _⟩ => ⟨S16x128x256, .f32⟩
  | .hbm, ⟨60, _⟩ => ⟨S16x256x128, .f32⟩
  | .hbm, ⟨61, _⟩ => ⟨S16x8192x128, .f32⟩
  | .hbm, ⟨62, _⟩ => ⟨S16x8192x128, .f32⟩
  | .hbm, ⟨63, _⟩ => ⟨S16x8192x128, .f32⟩
  | .hbm, ⟨64, _⟩ => ⟨S16x8192x128, .f32⟩
  | .hbm, ⟨65, _⟩ => ⟨S16x8192x64, .f32⟩
  | .hbm, ⟨66, _⟩ => ⟨S16x8192x16, .f32⟩
  | .hbm, ⟨67, _⟩ => ⟨S16x8192x16, .f32⟩
  | .hbm, ⟨68, _⟩ => ⟨S16x8192x32, .f32⟩
  | .hbm, ⟨69, _⟩ => ⟨S_, .f32⟩
  | .hbm, ⟨70, _⟩ => ⟨S16x8192x128, .f32⟩
  | .hbm, ⟨71, _⟩ => ⟨S16x8192x16, .f32⟩
  | .hbm, ⟨72, _⟩ => ⟨S_, .f32⟩
  | .hbm, ⟨73, _⟩ => ⟨S16x8192x128, .f32⟩
  | .hbm, ⟨74, _⟩ => ⟨S16x8192x128, .f32⟩
  | .hbm, ⟨75, _⟩ => ⟨S16x8192x128, .f32⟩
  | .hbm, ⟨76, _⟩ => ⟨S16x8192x128, .f32⟩
  | .hbm, ⟨77, _⟩ => ⟨S16x8192x128, .f32⟩
  | .hbm, ⟨78, _⟩ => ⟨S16x128x8192, .f32⟩
  | .hbm, ⟨79, _⟩ => ⟨S8192x384, .f32⟩
  | .hbm, ⟨80, _⟩ => ⟨S16x128x384, .f32⟩
  | .hbm, ⟨81, _⟩ => ⟨S16x384x128, .f32⟩
  | _, _ => ⟨S16x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Kernel26.lean ====
abbrev S8192x384 : Shape := ⟨2, ![8192, 384]⟩
abbrev S8192x256 : Shape := ⟨2, ![8192, 256]⟩
abbrev S8192x128 : Shape := ⟨2, ![8192, 128]⟩
abbrev S16x384x128 : Shape := ⟨3, ![16, 384, 128]⟩
abbrev S16x256x128 : Shape := ⟨3, ![16, 256, 128]⟩
abbrev S16x8192x128 : Shape := ⟨3, ![16, 8192, 128]⟩
abbrev S512x384 : Shape := ⟨2, ![512, 384]⟩
abbrev S512x256 : Shape := ⟨2, ![512, 256]⟩
abbrev S512x128 : Shape := ⟨2, ![512, 128]⟩
abbrev S16x512x128 : Shape := ⟨3, ![16, 512, 128]⟩
abbrev S1x384x128 : Shape := ⟨3, ![1, 384, 128]⟩
abbrev S384x128 : Shape := ⟨2, ![384, 128]⟩
abbrev S1x512x128 : Shape := ⟨3, ![1, 512, 128]⟩
abbrev S1x256x128 : Shape := ⟨3, ![1, 256, 128]⟩
abbrev S256x128 : Shape := ⟨2, ![256, 128]⟩

abbrev nBuf : Space → Nat
  | .hbm => 11
  | .vmem => 19
  | .smem => 0
  | _ => 0

abbrev bufTy : (tb : Table) → Fin (tcTables nBuf tb) → BufTy
  | .hbm, ⟨0, _⟩ => ⟨S8192x384, .bf16⟩
  | .hbm, ⟨1, _⟩ => ⟨S8192x256, .bf16⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S16x384x128, .bf16⟩
  | .hbm, ⟨6, _⟩ => ⟨S16x256x128, .bf16⟩
  | .hbm, ⟨7, _⟩ => ⟨S16x256x128, .bf16⟩
  | .hbm, ⟨8, _⟩ => ⟨S16x8192x128, .bf16⟩
  | .hbm, ⟨9, _⟩ => ⟨S16x8192x128, .bf16⟩
  | .hbm, ⟨10, _⟩ => ⟨S16x8192x128, .bf16⟩
  | .local _ .vmem, ⟨0, _⟩ => ⟨S512x384, .bf16⟩
  | .local _ .vmem, ⟨1, _⟩ => ⟨S512x384, .bf16⟩
  | .local _ .vmem, ⟨2, _⟩ => ⟨S512x256, .bf16⟩
  | .local _ .vmem, ⟨3, _⟩ => ⟨S512x256, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S16x384x128, .bf16⟩
  | .local _ .vmem, ⟨11, _⟩ => ⟨S16x256x128, .bf16⟩
  | .local _ .vmem, ⟨12, _⟩ => ⟨S16x256x128, .bf16⟩
  | .local _ .vmem, ⟨13, _⟩ => ⟨S16x512x128, .bf16⟩
  | .local _ .vmem, ⟨14, _⟩ => ⟨S16x512x128, .bf16⟩
  | .local _ .vmem, ⟨15, _⟩ => ⟨S16x512x128, .bf16⟩
  | .local _ .vmem, ⟨16, _⟩ => ⟨S16x512x128, .bf16⟩
  | .local _ .vmem, ⟨17, _⟩ => ⟨S16x512x128, .bf16⟩
  | .local _ .vmem, ⟨18, _⟩ => ⟨S16x512x128, .bf16⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x384x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference26Ideal.lean ====
abbrev S8192x384 : Shape := ⟨2, ![8192, 384]⟩
abbrev S8192x256 : Shape := ⟨2, ![8192, 256]⟩
abbrev S8192x128 : Shape := ⟨2, ![8192, 128]⟩
abbrev S16x384x128 : Shape := ⟨3, ![16, 384, 128]⟩
abbrev S16x256x128 : Shape := ⟨3, ![16, 256, 128]⟩
abbrev S16x128x8192 : Shape := ⟨3, ![16, 128, 8192]⟩
abbrev S16x8192x128 : Shape := ⟨3, ![16, 8192, 128]⟩
abbrev S1x8192x128 : Shape := ⟨3, ![1, 8192, 128]⟩
abbrev S_ : Shape := ⟨0, ![]⟩
abbrev S16x8192x64 : Shape := ⟨3, ![16, 8192, 64]⟩
abbrev S16x8192x16 : Shape := ⟨3, ![16, 8192, 16]⟩
abbrev S16x8192x32 : Shape := ⟨3, ![16, 8192, 32]⟩

abbrev nBuf : Space → Nat
  | .hbm => 40
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S8192x256, .bf16⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S16x384x128, .bf16⟩
  | .hbm, ⟨6, _⟩ => ⟨S16x256x128, .bf16⟩
  | .hbm, ⟨7, _⟩ => ⟨S16x256x128, .bf16⟩
  | .hbm, ⟨8, _⟩ => ⟨S8192x384, .f32⟩
  | .hbm, ⟨9, _⟩ => ⟨S8192x256, .f32⟩
  | .hbm, ⟨10, _⟩ => ⟨S16x384x128, .f32⟩
  | .hbm, ⟨11, _⟩ => ⟨S16x256x128, .f32⟩
  | .hbm, ⟨12, _⟩ => ⟨S16x256x128, .f32⟩
  | .hbm, ⟨13, _⟩ => ⟨S16x128x8192, .f32⟩
  | .hbm, ⟨14, _⟩ => ⟨S16x8192x128, .f32⟩
  | .hbm, ⟨15, _⟩ => ⟨S1x8192x128, .f32⟩
  | .hbm, ⟨16, _⟩ => ⟨S16x8192x128, .f32⟩
  | .hbm, ⟨17, _⟩ => ⟨S16x8192x128, .f32⟩
  | .hbm, ⟨18, _⟩ => ⟨S_, .f32⟩
  | .hbm, ⟨19, _⟩ => ⟨S16x8192x64, .f32⟩
  | .hbm, ⟨20, _⟩ => ⟨S16x8192x16, .f32⟩
  | .hbm, ⟨21, _⟩ => ⟨S16x8192x16, .f32⟩
  | .hbm, ⟨22, _⟩ => ⟨S16x8192x16, .f32⟩
  | .hbm, ⟨23, _⟩ => ⟨S_, .f32⟩
  | .hbm, ⟨24, _⟩ => ⟨S16x8192x32, .f32⟩
  | .hbm, ⟨25, _⟩ => ⟨S16x8192x128, .f32⟩
  | .hbm, ⟨26, _⟩ => ⟨S1x8192x128, .f32⟩
  | .hbm, ⟨27, _⟩ => ⟨S16x8192x128, .f32⟩
  | .hbm, ⟨28, _⟩ => ⟨S16x8192x128, .f32⟩
  | .hbm, ⟨29, _⟩ => ⟨S16x8192x128, .f32⟩
  | .hbm, ⟨30, _⟩ => ⟨S16x128x8192, .f32⟩
  | .hbm, ⟨31, _⟩ => ⟨S16x8192x128, .f32⟩
  | .hbm, ⟨32, _⟩ => ⟨S1x8192x128, .f32⟩
  | .hbm, ⟨33, _⟩ => ⟨S16x8192x128, .f32⟩
  | .hbm, ⟨34, _⟩ => ⟨S16x8192x128, .f32⟩
  | .hbm, ⟨35, _⟩ => ⟨S16x128x8192, .f32⟩
  | .hbm, ⟨36, _⟩ => ⟨S16x8192x128, .f32⟩
  | .hbm, ⟨37, _⟩ => ⟨S16x8192x128, .bf16⟩
  | .hbm, ⟨38, _⟩ => ⟨S16x8192x128, .bf16⟩
  | .hbm, ⟨39, _⟩ => ⟨S16x8192x128, .bf16⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel27.lean ====
abbrev S256x1024 : Shape := ⟨2, ![256, 1024]⟩
abbrev S1x1024 : Shape := ⟨2, ![1, 1024]⟩
abbrev S4x1024x2048 : Shape := ⟨3, ![4, 1024, 2048]⟩
abbrev S256x2048 : Shape := ⟨2, ![256, 2048]⟩
abbrev S1x1024x2048 : Shape := ⟨3, ![1, 1024, 2048]⟩
abbrev S256 : Shape := ⟨1, ![256]⟩
abbrev S256x1 : Shape := ⟨2, ![256, 1]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S4x1024x2048, .bf16⟩
  | .hbm, ⟨3, _⟩ => ⟨S256x2048, .bf16⟩
  | .hbm, ⟨4, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1x1024x2048, .bf16⟩
  | .local _ .vmem, ⟨3, _⟩ => ⟨S256x2048, .bf16⟩
  | .local _ .vmem, ⟨4, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference27Ideal.lean ====
abbrev S256x1024 : Shape := ⟨2, ![256, 1024]⟩
abbrev S1x1024 : Shape := ⟨2, ![1, 1024]⟩
abbrev S4x1024x2048 : Shape := ⟨3, ![4, 1024, 2048]⟩
abbrev S1024 : Shape := ⟨1, ![1024]⟩
abbrev S_ : Shape := ⟨0, ![]⟩
abbrev S256 : Shape := ⟨1, ![256]⟩
abbrev S256x1 : Shape := ⟨2, ![256, 1]⟩
abbrev S1x1024x2048 : Shape := ⟨3, ![1, 1024, 2048]⟩
abbrev S1024x2048 : Shape := ⟨2, ![1024, 2048]⟩
abbrev S256x2048 : Shape := ⟨2, ![256, 2048]⟩

abbrev nBuf : Space → Nat
  | .hbm => 26
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S4x1024x2048, .bf16⟩
  | .hbm, ⟨3, _⟩ => ⟨S1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S1x1024x2048, .bf16⟩
  | .hbm, ⟨21, _⟩ => ⟨S1024x2048, .bf16⟩
  | .hbm, ⟨22, _⟩ => ⟨S1024x2048, .f32⟩
  | .hbm, ⟨23, _⟩ => ⟨S256x2048, .f32⟩
  | .hbm, ⟨24, _⟩ => ⟨S256x2048, .bf16⟩
  | .hbm, ⟨25, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel28.lean ====
abbrev S256x2048 : Shape := ⟨2, ![256, 2048]⟩
abbrev S4x1024x2048 : Shape := ⟨3, ![4, 1024, 2048]⟩
abbrev S256x1024 : Shape := ⟨2, ![256, 1024]⟩
abbrev S1x1024 : Shape := ⟨2, ![1, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S256x2048, .f32⟩
  | .hbm, ⟨1, _⟩ => ⟨S4x1024x2048, .bf16⟩
  | .hbm, ⟨2, _⟩ => ⟨S256x1024, .f32⟩
  | .hbm, ⟨3, _⟩ => ⟨S1x1024, .f32⟩
  | .hbm, ⟨4, _⟩ => ⟨S256x1024, .f32⟩
  | .hbm, ⟨5, _⟩ => ⟨S256x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_25 : BitVec 32 := 0#32
  let v45 : BitVec 1 := Scalar.cmpi .eq arg0 c0_i32_25
  let v46 : BitVec 32 := Scalar.extui v45
  let c0_i32_26 : BitVec 32 := 0#32
  let v47 : BitVec 1 := Scalar.cmpi .ne v46 c0_i32_26
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference28Ideal.lean ====
abbrev S256x2048 : Shape := ⟨2, ![256, 2048]⟩
abbrev S4x1024x2048 : Shape := ⟨3, ![4, 1024, 2048]⟩
abbrev S256x1024 : Shape := ⟨2, ![256, 1024]⟩
abbrev S1x1024 : Shape := ⟨2, ![1, 1024]⟩
abbrev S1x1024x2048 : Shape := ⟨3, ![1, 1024, 2048]⟩
abbrev S1024x2048 : Shape := ⟨2, ![1024, 2048]⟩
abbrev S1024 : Shape := ⟨1, ![1024]⟩
abbrev S_ : Shape := ⟨0, ![]⟩
abbrev S256 : Shape := ⟨1, ![256]⟩
abbrev S256x1 : Shape := ⟨2, ![256, 1]⟩

abbrev nBuf : Space → Nat
  | .hbm => 58
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4x1024x2048, .bf16⟩
  | .hbm, ⟨2, _⟩ => ⟨S256x1024, .f32⟩
  | .hbm, ⟨3, _⟩ => ⟨S1x1024, .f32⟩
  | .hbm, ⟨4, _⟩ => ⟨S256x1024, .f32⟩
  | .hbm, ⟨5, _⟩ => ⟨S1x1024x2048, .bf16⟩
  | .hbm, ⟨6, _⟩ => ⟨S1024x2048, .bf16⟩
  | .hbm, ⟨7, _⟩ => ⟨S1024x2048, .f32⟩
  | .hbm, ⟨8, _⟩ => ⟨S1024, .f32⟩
  | .hbm, ⟨9, _⟩ => ⟨S256x1024, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S_, .f32⟩
  | .hbm, ⟨22, _⟩ => ⟨S256x1, .f32⟩
  | .hbm, ⟨23, _⟩ => ⟨S256x1, .f32⟩
  | .hbm, ⟨24, _⟩ => ⟨S256x1024, .f32⟩
  | .hbm, ⟨25, _⟩ => ⟨S256x1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S256x2048, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S1024, .f32⟩
  | .hbm, ⟨39, _⟩ => ⟨S256x1024, .f32⟩
  | .hbm, ⟨40, _⟩ => ⟨S_, .f32⟩
  | .hbm, ⟨41, _⟩ => ⟨S256, .f32⟩
  | .hbm, ⟨42, _⟩ => ⟨S256x1, .f32⟩
  | .hbm, ⟨43, _⟩ => ⟨S256x1024, .f32⟩
  | .hbm, ⟨44, _⟩ => ⟨S256x1024, .f32⟩
  | .hbm, ⟨45, _⟩ => ⟨S256x1, .f32⟩
  | .hbm, ⟨46, _⟩ => ⟨S_, .f32⟩
  | .hbm, ⟨47, _⟩ => ⟨S256x1, .f32⟩
  | .hbm, ⟨48, _⟩ => ⟨S256x1, .f32⟩
  | .hbm, ⟨49, _⟩ => ⟨S_, .f32⟩
  | .hbm, ⟨50, _⟩ => ⟨S256, .f32⟩
  | .hbm, ⟨51, _⟩ => ⟨S256x1024, .f32⟩
  | .hbm, ⟨52, _⟩ => ⟨S256x1024, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S1x1024, .f32⟩
  | .hbm, ⟨57, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel29.lean ====
abbrev S256x1024 : Shape := ⟨2, ![256, 1024]⟩
abbrev S256x2048 : Shape := ⟨2, ![256, 2048]⟩
abbrev S4x1024x2048 : Shape := ⟨3, ![4, 1024, 2048]⟩
abbrev S1x1024x1024 : Shape := ⟨3, ![1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S4x1024x2048, .f32⟩
  | .hbm, ⟨3, _⟩ => ⟨S4x1024x2048, .f32⟩
  | .local _ .vmem, ⟨0, _⟩ => ⟨S256x1024, .bf16⟩
  | .local _ .vmem, ⟨1, _⟩ => ⟨S256x1024, .f32⟩
  | .local _ .vmem, ⟨2, _⟩ => ⟨S256x1024, .f32⟩
  | .local _ .vmem, ⟨3, _⟩ => ⟨S1x1024x1024, .f32⟩
  | .local _ .vmem, ⟨4, _⟩ => ⟨S1x1024x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S256x1024 : Shape := ⟨2, ![256, 1024]⟩
abbrev S256x2048 : Shape := ⟨2, ![256, 2048]⟩
abbrev S4x1024x2048 : Shape := ⟨3, ![4, 1024, 2048]⟩
abbrev S_ : Shape := ⟨0, ![]⟩
abbrev S1024x2048 : Shape := ⟨2, ![1024, 2048]⟩
abbrev S2048x1024 : Shape := ⟨2, ![2048, 1024]⟩
abbrev S4 : Shape := ⟨1, ![4]⟩
abbrev S4x1x1 : Shape := ⟨3, ![4, 1, 1]⟩

abbrev nBuf : Space → Nat
  | .hbm => 17
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S4x1024x2048, .f32⟩
  | .hbm, ⟨3, _⟩ => ⟨S_, .f32⟩
  | .hbm, ⟨4, _⟩ => ⟨S1024x2048, .f32⟩
  | .hbm, ⟨5, _⟩ => ⟨S256x1024, .f32⟩
  | .hbm, ⟨6, _⟩ => ⟨S256x2048, .f32⟩
  | .hbm, ⟨7, _⟩ => ⟨S2048x1024, .f32⟩
  | .hbm, ⟨8, _⟩ => ⟨S1024x2048, .f32⟩
  | .hbm, ⟨9, _⟩ => ⟨S4, .i32⟩
  | .hbm, ⟨10, _⟩ => ⟨S4x1x1, .i32⟩
  | .hbm, ⟨11, _⟩ => ⟨S_, .i32⟩
  | .hbm, ⟨12, _⟩ => ⟨S4x1x1, .i32⟩
  | .hbm, ⟨13, _⟩ => ⟨S4x1x1, .i1⟩
  | .hbm, ⟨14, _⟩ => ⟨S4x1024x2048, .i1⟩
  | .hbm, ⟨15, _⟩ => ⟨S4x1024x2048, .f32⟩
  | .hbm, ⟨16, _⟩ => ⟨S4x1024x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel30.lean ====
abbrev S36 : Shape := ⟨1, ![36]⟩
abbrev S16x8192x128 : Shape := ⟨3, ![16, 8192, 128]⟩
abbrev S8192x1024 : Shape := ⟨2, ![8192, 1024]⟩
abbrev S2x1024x128 : Shape := ⟨3, ![2, 1024, 128]⟩
abbrev S1 : Shape := ⟨1, ![1]⟩
abbrev S1024x128 : Shape := ⟨2, ![1024, 128]⟩
abbrev S1x512x128 : Shape := ⟨3, ![1, 512, 128]⟩
abbrev S512x128 : Shape := ⟨2, ![512, 128]⟩
abbrev S512x512 : Shape := ⟨2, ![512, 512]⟩
abbrev S512x1 : Shape := ⟨2, ![512, 1]⟩
abbrev S1x1024x128 : Shape := ⟨3, ![1, 1024, 128]⟩
abbrev S512x1024 : Shape := ⟨2, ![512, 1024]⟩
abbrev S1024x1024 : Shape := ⟨2, ![1024, 1024]⟩
abbrev S1024x1 : Shape := ⟨2, ![1024, 1]⟩

abbrev nBuf : Space → Nat
  | .hbm => 8
  | .vmem => 18
  | .smem => 2
  | _ => 0

abbrev bufTy : (tb : Table) → Fin (tcTables nBuf tb) → BufTy
  | .hbm, ⟨0, _⟩ => ⟨S16x8192x128, .bf16⟩
  | .hbm, ⟨1, _⟩ => ⟨S16x8192x128, .bf16⟩
  | .hbm, ⟨2, _⟩ => ⟨S16x8192x128, .bf16⟩
  | .hbm, ⟨3, _⟩ => ⟨S8192x1024, .bf16⟩
  | .hbm, ⟨4, _⟩ => ⟨S16x8192x128, .f32⟩
  | .hbm, ⟨5, _⟩ => ⟨S16x8192x128, .f32⟩
  | .hbm, ⟨6, _⟩ => ⟨S16x8192x128, .bf16⟩
  | .hbm, ⟨7, _⟩ => ⟨S16x8192x128, .bf16⟩
  | .local _ .vmem, ⟨0, _⟩ => ⟨S2x1024x128, .bf16⟩
  | .local _ .vmem, ⟨1, _⟩ => ⟨S2x1024x128, .bf16⟩
  | .local _ .vmem, ⟨2, _⟩ => ⟨S2x1024x128, .bf16⟩
  | .local _ .vmem, ⟨3, _⟩ => ⟨S2x1024x128, .bf16⟩
  | .local _ .vmem, ⟨4, _⟩ => ⟨S2x1024x128, .bf16⟩
  | .local _ .vmem, ⟨5, _⟩ => ⟨S2x1024x128, .bf16⟩
  | .local _ .vmem, ⟨6, _⟩ => ⟨S1024x128, .bf16⟩
  | .local _ .vmem, ⟨7, _⟩ => ⟨S1024x128, .bf16⟩
  | .local _ .vmem, ⟨8, _⟩ => ⟨S2x1024x128, .f32⟩
  | .local _ .vmem, ⟨9, _⟩ => ⟨S2x1024x128, .f32⟩
  | .local _ .vmem, ⟨10, _⟩ => ⟨S2x1024x128, .f32⟩
  | .local _ .vmem, ⟨11, _⟩ => ⟨S2x1024x128, .f32⟩
  | .local _ .vmem, ⟨12, _⟩ => ⟨S2x1024x128, .bf16⟩
  | .local _ .vmem, ⟨13, _⟩ => ⟨S2x1024x128, .bf16⟩
  | .local _ .vmem, ⟨14, _⟩ => ⟨S2x1024x128, .bf16⟩
  | .local _ .vmem, ⟨15, _⟩ => ⟨S2x1024x128, .bf16⟩
  | .local _ .vmem, ⟨16, _⟩ => ⟨S2x1024x128, .f32⟩
  | .local _ .vmem, ⟨17, _⟩ => ⟨S2x1024x128, .f32⟩
  | .local _ .smem, ⟨0, _⟩ => ⟨S36, .i32⟩
  | .local _ .smem, ⟨1, _⟩ => ⟨S36, .i32⟩
  | _, _ => ⟨S16x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0_0 : Ref sig .tc := ⟨.hbm, 6, rfl⟩
abbrev main_v0_1 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) : BitVec 1 :=
  let c7_i32 : BitVec 32 := 7#32
  let v10 : BitVec 1 := Scalar.cmpi .eq v1 c7_i32
  let v11 : BitVec 32 := Scalar.extui v10
  let c0_i32_1 : BitVec 32 := 0#32
  let v12 : BitVec 1 := Scalar.cmpi .ne v11 c0_i32_1
  v12

def cc0_transform_0 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_6 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_7 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel30Ideal.lean ====
variable {F : FTy → Type} [FloatOps F] [Named F]
def κ : String → Option EReal := fun
  | "mask" => some ⊥
  | "scale" => some (((Real.sqrt 96)⁻¹ : ℝ) : EReal)
  | "scale2" => some (((Real.sqrt 96)⁻¹ * (Real.log 2)⁻¹ : ℝ) : EReal)
  | _ => none
-- ==== Reference30Ideal.lean ====
abbrev S36 : Shape := ⟨1, ![36]⟩
abbrev S16x8192x128 : Shape := ⟨3, ![16, 8192, 128]⟩
abbrev S8192x1024 : Shape := ⟨2, ![8192, 1024]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192x1 : Shape := ⟨3, ![16, 8192, 1]⟩
abbrev S8x2x8192x128 : Shape := ⟨4, ![8, 2, 8192, 128]⟩
abbrev S8x8192x128 : Shape := ⟨3, ![8, 8192, 128]⟩
abbrev S8192x8x128 : Shape := ⟨3, ![8192, 8, 128]⟩
abbrev S16x8192 : Shape := ⟨2, ![16, 8192]⟩
abbrev S16x128x8192 : Shape := ⟨3, ![16, 128, 8192]⟩
abbrev S2 : Shape := ⟨1, ![2]⟩
abbrev S2x1x1 : Shape := ⟨3, ![2, 1, 1]⟩
abbrev S128 : Shape := ⟨1, ![128]⟩
abbrev S1x1x128 : Shape := ⟨3, ![1, 1, 128]⟩
abbrev S2x1x128 : Shape := ⟨3, ![2, 1, 128]⟩

abbrev nBuf : Space → Nat
  | .hbm => 92
  | .vmem => 0
  | .smem => 0
  | _ => 0

abbrev bufTy : (tb : Table) → Fin (tcTables nBuf tb) → BufTy
  | .hbm, ⟨0, _⟩ => ⟨S36, .i32⟩
  | .hbm, ⟨1, _⟩ => ⟨S36, .i32⟩
  | .hbm, ⟨2, _⟩ => ⟨S16x8192x128, .bf16⟩
  | .hbm, ⟨3, _⟩ => ⟨S16x8192x128, .bf16⟩
  | .hbm, ⟨4, _⟩ => ⟨S16x8192x128, .bf16⟩
  | .hbm, ⟨5, _⟩ => ⟨S8192x1024, .bf16⟩
  | .hbm, ⟨6, _⟩ => ⟨S16x8192x128, .f32⟩
  | .hbm, ⟨7, _⟩ => ⟨S16x8192x128, .f32⟩
  | .hbm, ⟨8, _⟩ => ⟨S16x8192x128, .f32⟩
  | .hbm, ⟨9, _⟩ => ⟨S16x8192x128, .f32⟩
  | .hbm, ⟨10, _⟩ => ⟨S16x8192x128, .f32⟩
  | .hbm, ⟨11, _⟩ => ⟨S16x8192x8192, .f32⟩
  | .hbm, ⟨12, _⟩ => ⟨S_, .f32⟩
  | .hbm, ⟨13, _⟩ => ⟨S_, .f32⟩
  | .hbm, ⟨14, _⟩ => ⟨S16x8192x8192, .f32⟩
  | .hbm, ⟨15, _⟩ => ⟨S16x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S16x8192x8192, .i1⟩
  | .hbm, ⟨25, _⟩ => ⟨S16x8192x8192, .f32⟩
  | .hbm, ⟨26, _⟩ => ⟨S16x8192x8192, .f32⟩
  | .hbm, ⟨27, _⟩ => ⟨S_, .f32⟩
  | .hbm, ⟨28, _⟩ => ⟨S16x8192x8192, .f32⟩
  | .hbm, ⟨29, _⟩ => ⟨S16x8192x1, .f32⟩
  | .hbm, ⟨30, _⟩ => ⟨S_, .f32⟩
  | .hbm, ⟨31, _⟩ => ⟨S_, .f32⟩
  | .hbm, ⟨32, _⟩ => ⟨S16x8192x1, .f32⟩
  | .hbm, ⟨33, _⟩ => ⟨S16x8192x1, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S16x8192x128, .f32⟩
  | .hbm, ⟨38, _⟩ => ⟨S8x2x8192x128, .f32⟩
  | .hbm, ⟨39, _⟩ => ⟨S_, .f32⟩
  | .hbm, ⟨40, _⟩ => ⟨S8x8192x128, .f32⟩
  | .hbm, ⟨41, _⟩ => ⟨S8192x8x128, .f32⟩
  | .hbm, ⟨42, _⟩ => ⟨S8192x1024, .f32⟩
  | .hbm, ⟨43, _⟩ => ⟨S_, .f32⟩
  | .hbm, ⟨44, _⟩ => ⟨S16x8192, .f32⟩
  | .hbm, ⟨45, _⟩ => ⟨S8192x1024, .f32⟩
  | .hbm, ⟨46, _⟩ => ⟨S16x8192x1, .f32⟩
  | .hbm, ⟨47, _⟩ => ⟨S16x8192, .f32⟩
  | .hbm, ⟨48, _⟩ => ⟨S16x8192, .f32⟩
  | .hbm, ⟨49, _⟩ => ⟨S16x8192x8192, .f32⟩
  | .hbm, ⟨50, _⟩ => ⟨S8192x8x128, .f32⟩
  | .hbm, ⟨51, _⟩ => ⟨S8x8192x128, .f32⟩
  | .hbm, ⟨52, _⟩ => ⟨S8x2x8192x128, .f32⟩
  | .hbm, ⟨53, _⟩ => ⟨S16x8192x128, .f32⟩
  | .hbm, ⟨54, _⟩ => ⟨S16x128x8192, .f32⟩
  | .hbm, ⟨55, _⟩ => ⟨S16x8192x128, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S_, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S16x8192x8192, .f32⟩
  | .hbm, ⟨64, _⟩ => ⟨S16x8192x128, .f32⟩
  | .hbm, ⟨65, _⟩ => ⟨S2, .i32⟩
  | .hbm, ⟨66, _⟩ => ⟨S2x1x1, .i32⟩
  | .hbm, ⟨67, _⟩ => ⟨S_, .i32⟩
  | .hbm, ⟨68, _⟩ => ⟨S2x1x1, .i32⟩
  | .hbm, ⟨69, _⟩ => ⟨S2x1x1, .i32⟩
  | .hbm, ⟨70, _⟩ => ⟨S128, .i32⟩
  | .hbm, ⟨71, _⟩ => ⟨S1x1x128, .i32⟩
  | .hbm, ⟨72, _⟩ => ⟨S2x1x128, .i32⟩
  | .hbm, ⟨73, _⟩ => ⟨S2x1x128, .i32⟩
  | .hbm, ⟨74, _⟩ => ⟨S2x1x128, .i1⟩
  | .hbm, ⟨75, _⟩ => ⟨S_, .i32⟩
  | .hbm, ⟨76, _⟩ => ⟨S2x1x1, .i32⟩
  | .hbm, ⟨77, _⟩ => ⟨S2x1x1, .i32⟩
  | .hbm, ⟨78, _⟩ => ⟨S1x1x128, .i32⟩
  | .hbm, ⟨79, _⟩ => ⟨S2x1x128, .i32⟩
  | .hbm, ⟨80, _⟩ => ⟨S2x1x128, .i32⟩
  | .hbm, ⟨81, _⟩ => ⟨S2x1x128, .i1⟩
  | .hbm, ⟨82, _⟩ => ⟨S2x1x128, .i1⟩
  | .hbm, ⟨83, _⟩ => ⟨S8x2x8192x128, .f32⟩
  | .hbm, ⟨84, _⟩ => ⟨S_, .f32⟩
  | .hbm, ⟨85, _⟩ => ⟨S_, .f32⟩
  | .hbm, ⟨86, _⟩ => ⟨S8x2x8192x128, .i1⟩
  | .hbm, ⟨87, _⟩ => ⟨S8x2x8192x128, .f32⟩
  | .hbm, ⟨88, _⟩ => ⟨S8x2x8192x128, .f32⟩
  | .hbm, ⟨89, _⟩ => ⟨S16x8192x128, .f32⟩
  | .hbm, ⟨90, _⟩ => ⟨S16x8192x128, .bf16⟩
  | .hbm, ⟨91, _⟩ => ⟨S16x8192x128, .bf16⟩
  | _, _ => ⟨S36, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_call0_v0 : Ref sig .tc := ⟨.hbm, 23, rfl⟩
abbrev main_v13_1 : Ref sig .tc := ⟨.hbm, 24, rfl⟩
abbrev main_call0_v2 : Ref sig .tc := ⟨.hbm, 25, rfl⟩
abbrev main_v13_0 : Ref sig .tc := ⟨.hbm, 26, rfl⟩
abbrev main_call0_cst : Ref sig .tc := ⟨.hbm, 27, rfl⟩
abbrev main_v13_2 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_cst : Ref sig .tc := ⟨.hbm, 59, rfl⟩
abbrev main_call1_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_4 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_5 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== Kernel31.lean ====
abbrev S8192x1024 : Shape := ⟨2, ![8192, 1024]⟩
abbrev S16x8192x128 : Shape := ⟨3, ![16, 8192, 128]⟩
abbrev S512x1024 : Shape := ⟨2, ![512, 1024]⟩
abbrev S16x512x128 : Shape := ⟨3, ![16, 512, 128]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S16x8192x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S16x512x128, .f32⟩
  | .local _ .vmem, ⟨5, _⟩ => ⟨S16x512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference31Ideal.lean ====
abbrev S8192x1024 : Shape := ⟨2, ![8192, 1024]⟩
abbrev S8192x16x64 : Shape := ⟨3, ![8192, 16, 64]⟩
abbrev S_ : Shape := ⟨0, ![]⟩
abbrev S8192x16 : Shape := ⟨2, ![8192, 16]⟩
abbrev S16x8192 : Shape := ⟨2, ![16, 8192]⟩
abbrev S16x8192x1 : Shape := ⟨3, ![16, 8192, 1]⟩
abbrev S16x8192x128 : Shape := ⟨3, ![16, 8192, 128]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x16x64, .f32⟩
  | .hbm, ⟨6, _⟩ => ⟨S_, .f32⟩
  | .hbm, ⟨7, _⟩ => ⟨S8192x16, .f32⟩
  | .hbm, ⟨8, _⟩ => ⟨S16x8192, .f32⟩
  | .hbm, ⟨9, _⟩ => ⟨S16x8192x1, .f32⟩
  | .hbm, ⟨10, _⟩ => ⟨S16x8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel32.lean ====
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S4x512x1024, .bf16⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference32Ideal.lean ====
abbrev S4x512x1024 : Shape := ⟨3, ![4, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S4x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel33.lean ====
abbrev S4x4096x704 : Shape := ⟨3, ![4, 4096, 704]⟩
abbrev S4096x704 : Shape := ⟨2, ![4096, 704]⟩
abbrev S4x512x704 : Shape := ⟨3, ![4, 512, 704]⟩
abbrev S512x704 : Shape := ⟨2, ![512, 704]⟩
abbrev S1x512x704 : Shape := ⟨3, ![1, 512, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x704, .bf16⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .local _ .vmem, ⟨0, _⟩ => ⟨S4x512x704, .bf16⟩
  | .local _ .vmem, ⟨1, _⟩ => ⟨S4x512x704, .bf16⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference33Ideal.lean ====
abbrev S4x4096x704 : Shape := ⟨3, ![4, 4096, 704]⟩
abbrev S4096x704 : Shape := ⟨2, ![4096, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4x4096x704, .f32⟩
  | .hbm, ⟨5, _⟩ => ⟨S_, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S_, .f32⟩
  | .hbm, ⟨11, _⟩ => ⟨S4096x704, .f32⟩
  | .hbm, ⟨12, _⟩ => ⟨S4096x704, .f32⟩
  | .hbm, ⟨13, _⟩ => ⟨S4096x704, .f32⟩
  | .hbm, ⟨14, _⟩ => ⟨S_, .f32⟩
  | .hbm, ⟨15, _⟩ => ⟨S4096x704, .f32⟩
  | .hbm, ⟨16, _⟩ => ⟨S4096x704, .f32⟩
  | .hbm, ⟨17, _⟩ => ⟨S4096x704, .f32⟩
  | .hbm, ⟨18, _⟩ => ⟨S_, .f32⟩
  | .hbm, ⟨19, _⟩ => ⟨S4096x704, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S_, .f32⟩
  | .hbm, ⟨26, _⟩ => ⟨S4096x704, .f32⟩
  | .hbm, ⟨27, _⟩ => ⟨S4096x704, .f32⟩
  | .hbm, ⟨28, _⟩ => ⟨S4096x704, .f32⟩
  | .hbm, ⟨29, _⟩ => ⟨S_, .f32⟩
  | .hbm, ⟨30, _⟩ => ⟨S4096x704, .f32⟩
  | .hbm, ⟨31, _⟩ => ⟨S4096x704, .f32⟩
  | .hbm, ⟨32, _⟩ => ⟨S4096x704, .f32⟩
  | .hbm, ⟨33, _⟩ => ⟨S_, .f32⟩
  | .hbm, ⟨34, _⟩ => ⟨S4096x704, .f32⟩
  | .hbm, ⟨35, _⟩ => ⟨S4096x704, .f32⟩
  | .hbm, ⟨36, _⟩ => ⟨S4096x704, .f32⟩
  | .hbm, ⟨37, _⟩ => ⟨S_, .f32⟩
  | .hbm, ⟨38, _⟩ => ⟨S4096x704, .f32⟩
  | .hbm, ⟨39, _⟩ => ⟨S4096x704, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel34.lean ====
abbrev S4x1408x1024 : Shape := ⟨3, ![4, 1408, 1024]⟩
abbrev S1408x1024 : Shape := ⟨2, ![1408, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x1408x1024, .bf16⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S4x1408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference34Ideal.lean ====
abbrev S4x1408x1024 : Shape := ⟨3, ![4, 1408, 1024]⟩
abbrev S1408x1024 : Shape := ⟨2, ![1408, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1408x1024, .bf16⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S4x1408x1024, .f32⟩
  | .hbm, ⟨5, _⟩ => ⟨S_, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S_, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S_, .f32⟩
  | .hbm, ⟨15, _⟩ => ⟨S1408x1024, .f32⟩
  | .hbm, ⟨16, _⟩ => ⟨S1408x1024, .f32⟩
  | .hbm, ⟨17, _⟩ => ⟨S1408x1024, .f32⟩
  | .hbm, ⟨18, _⟩ => ⟨S_, .f32⟩
  | .hbm, ⟨19, _⟩ => ⟨S1408x1024, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S_, .f32⟩
  | .hbm, ⟨26, _⟩ => ⟨S1408x1024, .f32⟩
  | .hbm, ⟨27, _⟩ => ⟨S1408x1024, .f32⟩
  | .hbm, ⟨28, _⟩ => ⟨S1408x1024, .f32⟩
  | .hbm, ⟨29, _⟩ => ⟨S_, .f32⟩
  | .hbm, ⟨30, _⟩ => ⟨S1408x1024, .f32⟩
  | .hbm, ⟨31, _⟩ => ⟨S1408x1024, .f32⟩
  | .hbm, ⟨32, _⟩ => ⟨S1408x1024, .f32⟩
  | .hbm, ⟨33, _⟩ => ⟨S_, .f32⟩
  | .hbm, ⟨34, _⟩ => ⟨S1408x1024, .f32⟩
  | .hbm, ⟨35, _⟩ => ⟨S1408x1024, .f32⟩
  | .hbm, ⟨36, _⟩ => ⟨S1408x1024, .f32⟩
  | .hbm, ⟨37, _⟩ => ⟨S_, .f32⟩
  | .hbm, ⟨38, _⟩ => ⟨S1408x1024, .f32⟩
  | .hbm, ⟨39, _⟩ => ⟨S1408x1024, .f32⟩
  | _, _ => ⟨S4x1408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel35.lean ====
abbrev S4x4096x256 : Shape := ⟨3, ![4, 4096, 256]⟩
abbrev S4096x256 : Shape := ⟨2, ![4096, 256]⟩
abbrev S4x2048x256 : Shape := ⟨3, ![4, 2048, 256]⟩
abbrev S2048x256 : Shape := ⟨2, ![2048, 256]⟩
abbrev S1x2048x256 : Shape := ⟨3, ![1, 2048, 256]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x256, .bf16⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .local _ .vmem, ⟨0, _⟩ => ⟨S4x2048x256, .bf16⟩
  | .local _ .vmem, ⟨1, _⟩ => ⟨S4x2048x256, .bf16⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | _, _ => ⟨S4x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference35Ideal.lean ====
abbrev S4x4096x256 : Shape := ⟨3, ![4, 4096, 256]⟩
abbrev S4096x256 : Shape := ⟨2, ![4096, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x256, .bf16⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4x4096x256, .f32⟩
  | .hbm, ⟨5, _⟩ => ⟨S_, .f32⟩
  | .hbm, ⟨6, _⟩ => ⟨S4096x256, .f32⟩
  | .hbm, ⟨7, _⟩ => ⟨S_, .f32⟩
  | .hbm, ⟨8, _⟩ => ⟨S4096x256, .f32⟩
  | .hbm, ⟨9, _⟩ => ⟨S4096x256, .f32⟩
  | .hbm, ⟨10, _⟩ => ⟨S_, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S_, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S_, .f32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S_, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S_, .f32⟩
  | .hbm, ⟨38, _⟩ => ⟨S4096x256, .f32⟩
  | .hbm, ⟨39, _⟩ => ⟨S4096x256, .f32⟩
  | _, _ => ⟨S4x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel36.lean ====
abbrev S4x2048x192 : Shape := ⟨3, ![4, 2048, 192]⟩
abbrev S2048x192 : Shape := ⟨2, ![2048, 192]⟩
abbrev S1x2048x192 : Shape := ⟨3, ![1, 2048, 192]⟩

abbrev nBuf : Space → Nat
  | .hbm => 8
  | .vmem => 8
  | .smem => 0
  | _ => 0

abbrev bufTy : (tb : Table) → Fin (tcTables nBuf tb) → BufTy
  | .hbm, ⟨0, _⟩ => ⟨S4x2048x192, .bf16⟩
  | .hbm, ⟨1, _⟩ => ⟨S2048x192, .f32⟩
  | .hbm, ⟨2, _⟩ => ⟨S2048x192, .f32⟩
  | .hbm, ⟨3, _⟩ => ⟨S2048x192, .f32⟩
  | .hbm, ⟨4, _⟩ => ⟨S2048x192, .f32⟩
  | .hbm, ⟨5, _⟩ => ⟨S2048x192, .f32⟩
  | .hbm, ⟨6, _⟩ => ⟨S2048x192, .f32⟩
  | .hbm, ⟨7, _⟩ => ⟨S2048x192, .f32⟩
  | .local _ .vmem, ⟨0, _⟩ => ⟨S4x2048x192, .bf16⟩
  | .local _ .vmem, ⟨1, _⟩ => ⟨S2048x192, .f32⟩
  | .local _ .vmem, ⟨2, _⟩ => ⟨S2048x192, .f32⟩
  | .local _ .vmem, ⟨3, _⟩ => ⟨S2048x192, .f32⟩
  | .local _ .vmem, ⟨4, _⟩ => ⟨S2048x192, .f32⟩
  | .local _ .vmem, ⟨5, _⟩ => ⟨S2048x192, .f32⟩
  | .local _ .vmem, ⟨6, _⟩ => ⟨S2048x192, .f32⟩
  | .local _ .vmem, ⟨7, _⟩ => ⟨S2048x192, .f32⟩
  | _, _ => ⟨S4x2048x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2048x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference36Ideal.lean ====
abbrev S4x2048x192 : Shape := ⟨3, ![4, 2048, 192]⟩
abbrev S2048x192 : Shape := ⟨2, ![2048, 192]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x192, .bf16⟩
  | .hbm, ⟨1, _⟩ => ⟨S2048x192, .f32⟩
  | .hbm, ⟨2, _⟩ => ⟨S2048x192, .f32⟩
  | .hbm, ⟨3, _⟩ => ⟨S2048x192, .f32⟩
  | .hbm, ⟨4, _⟩ => ⟨S4x2048x192, .f32⟩
  | .hbm, ⟨5, _⟩ => ⟨S_, .f32⟩
  | .hbm, ⟨6, _⟩ => ⟨S2048x192, .f32⟩
  | .hbm, ⟨7, _⟩ => ⟨S_, .f32⟩
  | .hbm, ⟨8, _⟩ => ⟨S2048x192, .f32⟩
  | .hbm, ⟨9, _⟩ => ⟨S2048x192, .f32⟩
  | .hbm, ⟨10, _⟩ => ⟨S_, .f32⟩
  | .hbm, ⟨11, _⟩ => ⟨S2048x192, .f32⟩
  | .hbm, ⟨12, _⟩ => ⟨S2048x192, .f32⟩
  | .hbm, ⟨13, _⟩ => ⟨S2048x192, .f32⟩
  | .hbm, ⟨14, _⟩ => ⟨S_, .f32⟩
  | .hbm, ⟨15, _⟩ => ⟨S2048x192, .f32⟩
  | .hbm, ⟨16, _⟩ => ⟨S2048x192, .f32⟩
  | .hbm, ⟨17, _⟩ => ⟨S2048x192, .f32⟩
  | .hbm, ⟨18, _⟩ => ⟨S_, .f32⟩
  | .hbm, ⟨19, _⟩ => ⟨S2048x192, .f32⟩
  | .hbm, ⟨20, _⟩ => ⟨S2048x192, .f32⟩
  | .hbm, ⟨21, _⟩ => ⟨S2048x192, .f32⟩
  | .hbm, ⟨22, _⟩ => ⟨S_, .f32⟩
  | .hbm, ⟨23, _⟩ => ⟨S2048x192, .f32⟩
  | .hbm, ⟨24, _⟩ => ⟨S2048x192, .f32⟩
  | .hbm, ⟨25, _⟩ => ⟨S_, .f32⟩
  | .hbm, ⟨26, _⟩ => ⟨S2048x192, .f32⟩
  | .hbm, ⟨27, _⟩ => ⟨S2048x192, .f32⟩
  | .hbm, ⟨28, _⟩ => ⟨S2048x192, .f32⟩
  | .hbm, ⟨29, _⟩ => ⟨S_, .f32⟩
  | .hbm, ⟨30, _⟩ => ⟨S2048x192, .f32⟩
  | .hbm, ⟨31, _⟩ => ⟨S2048x192, .f32⟩
  | .hbm, ⟨32, _⟩ => ⟨S2048x192, .f32⟩
  | .hbm, ⟨33, _⟩ => ⟨S_, .f32⟩
  | .hbm, ⟨34, _⟩ => ⟨S2048x192, .f32⟩
  | .hbm, ⟨35, _⟩ => ⟨S2048x192, .f32⟩
  | .hbm, ⟨36, _⟩ => ⟨S2048x192, .f32⟩
  | .hbm, ⟨37, _⟩ => ⟨S_, .f32⟩
  | .hbm, ⟨38, _⟩ => ⟨S2048x192, .f32⟩
  | .hbm, ⟨39, _⟩ => ⟨S2048x192, .f32⟩
  | _, _ => ⟨S4x2048x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel37.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S4x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference37Ideal.lean ====
abbrev S4x256x1024 : Shape := ⟨3, ![4, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S4x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel38.lean ====
abbrev S4x256x672 : Shape := ⟨3, ![4, 256, 672]⟩
abbrev S256x672 : Shape := ⟨2, ![256, 672]⟩
abbrev S1x256x672 : Shape := ⟨3, ![1, 256, 672]⟩

abbrev nBuf : Space → Nat
  | .hbm => 8
  | .vmem => 8
  | .smem => 0
  | _ => 0

abbrev bufTy : (tb : Table) → Fin (tcTables nBuf tb) → BufTy
  | .hbm, ⟨0, _⟩ => ⟨S4x256x672, .bf16⟩
  | .hbm, ⟨1, _⟩ => ⟨S256x672, .f32⟩
  | .hbm, ⟨2, _⟩ => ⟨S256x672, .f32⟩
  | .hbm, ⟨3, _⟩ => ⟨S256x672, .f32⟩
  | .hbm, ⟨4, _⟩ => ⟨S256x672, .f32⟩
  | .hbm, ⟨5, _⟩ => ⟨S256x672, .f32⟩
  | .hbm, ⟨6, _⟩ => ⟨S256x672, .f32⟩
  | .hbm, ⟨7, _⟩ => ⟨S256x672, .f32⟩
  | .local _ .vmem, ⟨0, _⟩ => ⟨S4x256x672, .bf16⟩
  | .local _ .vmem, ⟨1, _⟩ => ⟨S256x672, .f32⟩
  | .local _ .vmem, ⟨2, _⟩ => ⟨S256x672, .f32⟩
  | .local _ .vmem, ⟨3, _⟩ => ⟨S256x672, .f32⟩
  | .local _ .vmem, ⟨4, _⟩ => ⟨S256x672, .f32⟩
  | .local _ .vmem, ⟨5, _⟩ => ⟨S256x672, .f32⟩
  | .local _ .vmem, ⟨6, _⟩ => ⟨S256x672, .f32⟩
  | .local _ .vmem, ⟨7, _⟩ => ⟨S256x672, .f32⟩
  | _, _ => ⟨S4x256x672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x672 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x672 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x672 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x672 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x672 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x672 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x672 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x672 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference38Ideal.lean ====
abbrev S4x256x672 : Shape := ⟨3, ![4, 256, 672]⟩
abbrev S256x672 : Shape := ⟨2, ![256, 672]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x672, .bf16⟩
  | .hbm, ⟨1, _⟩ => ⟨S256x672, .f32⟩
  | .hbm, ⟨2, _⟩ => ⟨S256x672, .f32⟩
  | .hbm, ⟨3, _⟩ => ⟨S256x672, .f32⟩
  | .hbm, ⟨4, _⟩ => ⟨S4x256x672, .f32⟩
  | .hbm, ⟨5, _⟩ => ⟨S_, .f32⟩
  | .hbm, ⟨6, _⟩ => ⟨S256x672, .f32⟩
  | .hbm, ⟨7, _⟩ => ⟨S_, .f32⟩
  | .hbm, ⟨8, _⟩ => ⟨S256x672, .f32⟩
  | .hbm, ⟨9, _⟩ => ⟨S256x672, .f32⟩
  | .hbm, ⟨10, _⟩ => ⟨S_, .f32⟩
  | .hbm, ⟨11, _⟩ => ⟨S256x672, .f32⟩
  | .hbm, ⟨12, _⟩ => ⟨S256x672, .f32⟩
  | .hbm, ⟨13, _⟩ => ⟨S256x672, .f32⟩
  | .hbm, ⟨14, _⟩ => ⟨S_, .f32⟩
  | .hbm, ⟨15, _⟩ => ⟨S256x672, .f32⟩
  | .hbm, ⟨16, _⟩ => ⟨S256x672, .f32⟩
  | .hbm, ⟨17, _⟩ => ⟨S256x672, .f32⟩
  | .hbm, ⟨18, _⟩ => ⟨S_, .f32⟩
  | .hbm, ⟨19, _⟩ => ⟨S256x672, .f32⟩
  | .hbm, ⟨20, _⟩ => ⟨S256x672, .f32⟩
  | .hbm, ⟨21, _⟩ => ⟨S256x672, .f32⟩
  | .hbm, ⟨22, _⟩ => ⟨S_, .f32⟩
  | .hbm, ⟨23, _⟩ => ⟨S256x672, .f32⟩
  | .hbm, ⟨24, _⟩ => ⟨S256x672, .f32⟩
  | .hbm, ⟨25, _⟩ => ⟨S_, .f32⟩
  | .hbm, ⟨26, _⟩ => ⟨S256x672, .f32⟩
  | .hbm, ⟨27, _⟩ => ⟨S256x672, .f32⟩
  | .hbm, ⟨28, _⟩ => ⟨S256x672, .f32⟩
  | .hbm, ⟨29, _⟩ => ⟨S_, .f32⟩
  | .hbm, ⟨30, _⟩ => ⟨S256x672, .f32⟩
  | .hbm, ⟨31, _⟩ => ⟨S256x672, .f32⟩
  | .hbm, ⟨32, _⟩ => ⟨S256x672, .f32⟩
  | .hbm, ⟨33, _⟩ => ⟨S_, .f32⟩
  | .hbm, ⟨34, _⟩ => ⟨S256x672, .f32⟩
  | .hbm, ⟨35, _⟩ => ⟨S256x672, .f32⟩
  | .hbm, ⟨36, _⟩ => ⟨S256x672, .f32⟩
  | .hbm, ⟨37, _⟩ => ⟨S_, .f32⟩
  | .hbm, ⟨38, _⟩ => ⟨S256x672, .f32⟩
  | .hbm, ⟨39, _⟩ => ⟨S256x672, .f32⟩
  | _, _ => ⟨S4x256x672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel39.lean ====
abbrev S4x768x192 : Shape := ⟨3, ![4, 768, 192]⟩
abbrev S768x192 : Shape := ⟨2, ![768, 192]⟩
abbrev S4x256x192 : Shape := ⟨3, ![4, 256, 192]⟩
abbrev S256x192 : Shape := ⟨2, ![256, 192]⟩
abbrev S1x256x192 : Shape := ⟨3, ![1, 256, 192]⟩

abbrev nBuf : Space → Nat
  | .hbm => 8
  | .vmem => 16
  | .smem => 0
  | _ => 0

abbrev bufTy : (tb : Table) → Fin (tcTables nBuf tb) → BufTy
  | .hbm, ⟨0, _⟩ => ⟨S4x768x192, .bf16⟩
  | .hbm, ⟨1, _⟩ => ⟨S768x192, .f32⟩
  | .hbm, ⟨2, _⟩ => ⟨S768x192, .f32⟩
  | .hbm, ⟨3, _⟩ => ⟨S768x192, .f32⟩
  | .hbm, ⟨4, _⟩ => ⟨S768x192, .f32⟩
  | .hbm, ⟨5, _⟩ => ⟨S768x192, .f32⟩
  | .hbm, ⟨6, _⟩ => ⟨S768x192, .f32⟩
  | .hbm, ⟨7, _⟩ => ⟨S768x192, .f32⟩
  | .local _ .vmem, ⟨0, _⟩ => ⟨S4x256x192, .bf16⟩
  | .local _ .vmem, ⟨1, _⟩ => ⟨S4x256x192, .bf16⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | .local _ .vmem, ⟨14, _⟩ => ⟨S256x192, .f32⟩
  | .local _ .vmem, ⟨15, _⟩ => ⟨S256x192, .f32⟩
  | _, _ => ⟨S4x768x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference39Ideal.lean ====
abbrev S4x768x192 : Shape := ⟨3, ![4, 768, 192]⟩
abbrev S768x192 : Shape := ⟨2, ![768, 192]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x768x192, .bf16⟩
  | .hbm, ⟨1, _⟩ => ⟨S768x192, .f32⟩
  | .hbm, ⟨2, _⟩ => ⟨S768x192, .f32⟩
  | .hbm, ⟨3, _⟩ => ⟨S768x192, .f32⟩
  | .hbm, ⟨4, _⟩ => ⟨S4x768x192, .f32⟩
  | .hbm, ⟨5, _⟩ => ⟨S_, .f32⟩
  | .hbm, ⟨6, _⟩ => ⟨S768x192, .f32⟩
  | .hbm, ⟨7, _⟩ => ⟨S_, .f32⟩
  | .hbm, ⟨8, _⟩ => ⟨S768x192, .f32⟩
  | .hbm, ⟨9, _⟩ => ⟨S768x192, .f32⟩
  | .hbm, ⟨10, _⟩ => ⟨S_, .f32⟩
  | .hbm, ⟨11, _⟩ => ⟨S768x192, .f32⟩
  | .hbm, ⟨12, _⟩ => ⟨S768x192, .f32⟩
  | .hbm, ⟨13, _⟩ => ⟨S768x192, .f32⟩
  | .hbm, ⟨14, _⟩ => ⟨S_, .f32⟩
  | .hbm, ⟨15, _⟩ => ⟨S768x192, .f32⟩
  | .hbm, ⟨16, _⟩ => ⟨S768x192, .f32⟩
  | .hbm, ⟨17, _⟩ => ⟨S768x192, .f32⟩
  | .hbm, ⟨18, _⟩ => ⟨S_, .f32⟩
  | .hbm, ⟨19, _⟩ => ⟨S768x192, .f32⟩
  | .hbm, ⟨20, _⟩ => ⟨S768x192, .f32⟩
  | .hbm, ⟨21, _⟩ => ⟨S768x192, .f32⟩
  | .hbm, ⟨22, _⟩ => ⟨S_, .f32⟩
  | .hbm, ⟨23, _⟩ => ⟨S768x192, .f32⟩
  | .hbm, ⟨24, _⟩ => ⟨S768x192, .f32⟩
  | .hbm, ⟨25, _⟩ => ⟨S_, .f32⟩
  | .hbm, ⟨26, _⟩ => ⟨S768x192, .f32⟩
  | .hbm, ⟨27, _⟩ => ⟨S768x192, .f32⟩
  | .hbm, ⟨28, _⟩ => ⟨S768x192, .f32⟩
  | .hbm, ⟨29, _⟩ => ⟨S_, .f32⟩
  | .hbm, ⟨30, _⟩ => ⟨S768x192, .f32⟩
  | .hbm, ⟨31, _⟩ => ⟨S768x192, .f32⟩
  | .hbm, ⟨32, _⟩ => ⟨S768x192, .f32⟩
  | .hbm, ⟨33, _⟩ => ⟨S_, .f32⟩
  | .hbm, ⟨34, _⟩ => ⟨S768x192, .f32⟩
  | .hbm, ⟨35, _⟩ => ⟨S768x192, .f32⟩
  | .hbm, ⟨36, _⟩ => ⟨S768x192, .f32⟩
  | .hbm, ⟨37, _⟩ => ⟨S_, .f32⟩
  | .hbm, ⟨38, _⟩ => ⟨S768x192, .f32⟩
  | .hbm, ⟨39, _⟩ => ⟨S768x192, .f32⟩
  | _, _ => ⟨S4x768x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel40.lean ====
abbrev S4x512x256 : Shape := ⟨3, ![4, 512, 256]⟩
abbrev S512x256 : Shape := ⟨2, ![512, 256]⟩
abbrev S1x512x256 : Shape := ⟨3, ![1, 512, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x512x256, .bf16⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S4x512x256, .bf16⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S4x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference40Ideal.lean ====
abbrev S4x512x256 : Shape := ⟨3, ![4, 512, 256]⟩
abbrev S512x256 : Shape := ⟨2, ![512, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x512x256, .bf16⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S4x512x256, .f32⟩
  | .hbm, ⟨5, _⟩ => ⟨S_, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S_, .f32⟩
  | .hbm, ⟨11, _⟩ => ⟨S512x256, .f32⟩
  | .hbm, ⟨12, _⟩ => ⟨S512x256, .f32⟩
  | .hbm, ⟨13, _⟩ => ⟨S512x256, .f32⟩
  | .hbm, ⟨14, _⟩ => ⟨S_, .f32⟩
  | .hbm, ⟨15, _⟩ => ⟨S512x256, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S_, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | _, _ => ⟨S4x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Pre.lean ====
/- What the precondition says of an entry: it is a real number. -/
module

public import proofs.«01_k».proof.Defs
public import Idealize.ShloMosaic.Lib.ReduceAll
public import Idealize.ShloMosaic.Lib.Pointwise
public import Idealize.ShloMosaic.Lib.Claim

@[expose] public section

noncomputable section

open Idealize.ShloMosaic

namespace Cert.Pre_finite

theorem facts : Facts where
  bitsLt_bf16_f32 := by decide
  bcast_S_S8192x1024 := by decide
  reducesTo_S8192x1024_S_d0_1 := by decide
  h_S_ := by decide
  bcast_S_S256x2048 := by decide
  reducesTo_S256x2048_S_d0_1 := by decide

/-- An extended real below plus infinity in absolute value is a real. -/
theorem real_of_abs (a : EReal)
    (h : FloatOps.cmpf (F := Ideal) (φ := .f32) .olt (FloatOps.hostAbsf (F := Ideal) (φ := .f32) a)
      (FloatOps.ofBits (F := Ideal) .f32 0x7F800000#32) = 1#1) : ∃ x : ℝ, a = x := by
  have hi : (FloatOps.ofBits (F := Ideal) .f32 0x7F800000#32 : EReal) = ⊤ := by
    simp [FloatOps.ofBits, Ideal.ofBits, Ideal.ieee]
  rw [hi] at h
  induction a with
  | bot => exact absurd h (by simp [FloatOps.cmpf, FloatOps.hostAbsf, Ideal.cmp])
  | top => exact absurd h (by simp [FloatOps.cmpf, FloatOps.hostAbsf, Ideal.cmp])
  | coe x => exact ⟨x, rfl⟩

variable [Facts]

instance : Subsingleton S_.Idx := ⟨fun a b => funext fun i => i.elim0⟩

theorem entries (q : FVec Ideal S8192x1024 .bf16) (kv : FVec Ideal S256x2048 .bf16) (d : FVec Ideal S8192x1024 .bf16)
    (h : fn (F := Ideal) q kv d = fun _ => 1#1) : (∀ i, ∃ x : ℝ, q i = x) ∧ ∀ i, ∃ x : ℝ, kv i = x := by
  have h0 := congrFun h (Shape.Idx.first Facts.h_S_)
  dsimp only [fn] at h0
  obtain ⟨h1, h2⟩ := IntOp.andi_eq_one.1 h0
  exact ⟨fun i => real_of_abs _ (Host.reduce_andi_all _ _ _ _ _ h1 i),
    fun i => real_of_abs _ (Host.reduce_andi_all _ _ _ _ _ h2 i)⟩

end Cert.Pre_finite

end
-- ==== Proof.Core.lean ====
/- The mathematics of one query row of the cross attention, over the extended reals: the scores of the row, their
   exponentials, the probabilities, and the gradient of the scores; and the law that joins the two ways in which the
   kernel and the reference write that gradient. -/
module

public import Idealize.ShloMosaic.Lib.Pointwise
public import Idealize.ShloMosaic.Lib.Claim

@[expose] public section

noncomputable section

open Idealize.ShloMosaic

namespace Cert.XA

/-- The scale of the scores, 1/16, as the float word that both programs hold. -/
abbrev c16 : EReal := Ideal.ofBits FTy.f32 1031798784#32

/-- The initial value of both programs' row maximum, minus infinity, as its float word. -/
abbrev ninf : EReal := Ideal.ofBits FTy.f32 4286578688#32

/-- The score of query row `q` against memory row `j`. -/
def sc (q : Fin 256 → EReal) (k : Fin 256 → Fin 256 → EReal) (j : Fin 256) : EReal := (∑ x, q x * k j x) * c16

/-- The greatest score of a query row. -/
def mx (q : Fin 256 → EReal) (k : Fin 256 → Fin 256 → EReal) : EReal := Finset.fold max ninf (fun j => sc q k j) Finset.univ

/-- The exponential of a score less the greatest one. -/
def ex (q : Fin 256 → EReal) (k : Fin 256 → Fin 256 → EReal) (j : Fin 256) : EReal := Ideal.exp (sc q k j - mx q k)

/-- The sum of a row's exponentials. -/
def sm (q : Fin 256 → EReal) (k : Fin 256 → Fin 256 → EReal) : EReal := ∑ x, ex q k x

/-- The attention probability. -/
def pr (q : Fin 256 → EReal) (k : Fin 256 → Fin 256 → EReal) (j : Fin 256) : EReal := Ideal.div (ex q k j) (sm q k)

/-- The gradient of a probability: the output's gradient row against value row `j`. -/
def dp (v : Fin 256 → Fin 256 → EReal) (d : Fin 256 → EReal) (j : Fin 256) : EReal := ∑ x, d x * v j x

/-- The gradient of a score, as the kernel computes it. -/
def ds (q : Fin 256 → EReal) (k v : Fin 256 → Fin 256 → EReal) (d : Fin 256 → EReal) (j : Fin 256) : EReal :=
  pr q k j * (dp v d j - ∑ x, dp v d x * pr q k x) * c16

/-- The gradient of a score, as differentiating the quotient gives it. -/
def dsQ (q : Fin 256 → EReal) (k v : Fin 256 → Fin 256 → EReal) (d : Fin 256 → EReal) (j : Fin 256) : EReal :=
  (Ideal.div (dp v d j) (sm q k) + -∑ x, dp v d x * Ideal.div 1 (sm q k * sm q k) * ex q k x) * ex q k j * c16

theorem ninf_eq : ninf = ⊥ := by
  simp [ninf, Ideal.ofBits, Ideal.ieee]

theorem c16_eq : c16 = (((1 : ℝ) / 16 : ℝ) : EReal) := by
  simp [c16, Ideal.ofBits, Ideal.ieee, -EReal.coe_mul]; norm_num

/-- A real that is not negative may be taken out of a sum of extended reals. -/
theorem sum_mul_coe {ι : Type} (s : Finset ι) (f : ι → EReal) {a : ℝ} (ha : 0 ≤ a) :
    ∑ i ∈ s, f i * (a : EReal) = (∑ i ∈ s, f i) * (a : EReal) := by
  classical
  induction s using Finset.induction_on with
  | empty => simp
  | insert i s hi ih =>
    rw [Finset.sum_insert hi, Finset.sum_insert hi, ih,
      EReal.right_distrib_of_nonneg_of_ne_top (by exact_mod_cast ha) (EReal.coe_ne_top a)]

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The quotient rule of a normalised row: with real exponentials that are not negative and a positive sum, the two
    forms of the gradient agree, whatever the gradients `p` of the probabilities are. -/
theorem quotient_rule {n : ℕ} (p : Fin n → EReal) (e : Fin n → ℝ) (l : ℝ) (hl : 0 < l) (he : ∀ x, 0 ≤ e x) (j : Fin n) :
    (Ideal.div (p j) (l : EReal) + -∑ x, p x * Ideal.div 1 ((l : EReal) * (l : EReal)) * (e x : EReal)) * (e j : EReal)
      = Ideal.div (e j : EReal) (l : EReal) * (p j - ∑ x, p x * Ideal.div (e x : EReal) (l : EReal)) := by
  have h1 : ∀ x, p x * Ideal.div 1 ((l : EReal) * (l : EReal)) * (e x : EReal)
      = p x * Ideal.div (e x : EReal) (l : EReal) * ((1 / l : ℝ) : EReal) := fun x => by
    rw [← EReal.coe_mul, Ideal.div_coe (by positivity), Ideal.div_coe hl.ne', one_mul, mul_assoc, mul_assoc,
      ← EReal.coe_mul, ← EReal.coe_mul, ← EReal.coe_mul]
    congr 2; field_simp
  have hl' : (0 : ℝ) ≤ 1 / l := by positivity
  rw [Finset.sum_congr rfl fun x _ => h1 x, sum_mul_coe _ _ hl', ← EReal.neg_mul, Ideal.div_coe hl.ne' (p j),
    ← EReal.right_distrib_of_nonneg_of_ne_top (by exact_mod_cast hl') (EReal.coe_ne_top _), ← sub_eq_add_neg,
    Ideal.div_coe hl.ne' (e j), mul_assoc, mul_comm, mul_comm ((1 / l : ℝ) : EReal)]

variable (q : Fin 256 → EReal) (k v : Fin 256 → Fin 256 → EReal) (d : Fin 256 → EReal)

/-- A finite query row against finite keys has real exponentials, none of them negative, and a positive sum. -/
theorem ex_real (hq : ∀ x, ∃ a : ℝ, q x = a) (hk : ∀ j x, ∃ a : ℝ, k j x = a) :
    ∃ (e : Fin 256 → ℝ) (l : ℝ), 0 < l ∧ (∀ x, 0 ≤ e x) ∧ (∀ x, ex q k x = e x) ∧ sm q k = l := by
  choose qa hqa using hq
  choose ka hka using hk
  have hs : ∀ j, ∃ a : ℝ, sc q k j = a := fun j => by
    refine ⟨(∑ x, qa x * ka j x) * (1 / 16), ?_⟩
    unfold sc
    rw [c16_eq, EReal.coe_mul, coe_sum]
    simp only [hqa, hka, EReal.coe_mul]
  choose s hs using hs
  have hm : ∃ a : ℝ, mx q k = a := by
    have h1 : mx q k ≠ ⊤ := by
      refine (Finset.fold_max_lt _ |>.2 ⟨?_, fun x _ => ?_⟩).ne
      · rw [ninf_eq]; exact bot_lt_top
      · rw [hs]; exact EReal.coe_lt_top _
    have h2 : mx q k ≠ ⊥ := by
      have h : sc q k 0 ≤ mx q k := (Finset.fold_max_le _).1 le_rfl |>.2 0 (Finset.mem_univ _)
      intro e; rw [e, hs] at h; exact absurd (le_bot_iff.1 h) (EReal.coe_ne_bot _)
    exact ⟨(mx q k).toReal, (EReal.coe_toReal h1 h2).symm⟩
  obtain ⟨M, hM⟩ := hm
  have he : ∀ x, ex q k x = ((Real.exp (s x - M) : ℝ) : EReal) := fun x => by
    unfold ex; rw [hs, hM, ← EReal.coe_sub, Ideal.exp_coe]
  refine ⟨fun x => Real.exp (s x - M), ∑ x, Real.exp (s x - M), ?_, fun x => (Real.exp_pos _).le, he, ?_⟩
  · exact Finset.sum_pos (fun x _ => Real.exp_pos _) ⟨0, Finset.mem_univ _⟩
  · unfold sm; rw [coe_sum]; exact Finset.sum_congr rfl fun x _ => he x

/-- On finite queries and keys the kernel's gradient of a score is the quotient rule's. -/
theorem dsQ_eq (hq : ∀ x, ∃ a : ℝ, q x = a) (hk : ∀ j x, ∃ a : ℝ, k j x = a) (j : Fin 256) :
    dsQ q k v d j = ds q k v d j := by
  obtain ⟨e, l, hl, he, hex, hsm⟩ := ex_real q k hq hk
  unfold dsQ ds pr
  simp only [hex, hsm]
  rw [quotient_rule (dp v d) e l hl he j]

/-- A maximum with the initial value of a maximum changes nothing. -/
theorem max_ninf (a : EReal) : max ninf a = a := by rw [ninf_eq]; exact bot_sup_eq a

end Cert.XA

end
-- ==== Proof.Payload.lean ====
/- What each value that the kernel's body stores is, element by element, in the words of `Core.lean`: one lemma for each
   of the four heads' gradients of the queries, of the keys and of the values. -/
module

public import proofs.«01_k».proof.Proof.Gen.KernelIdeal.Value
public import proofs.«01_k».proof.Proof.Core
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.XA

open Cert.KernelIdeal Cert.KernelIdeal.Gen Cert.XA

/-- Row `r` of a tile of 256 columns. -/
def row {n : ℕ} (x : FVec Ideal ⟨2, ![n, 256]⟩ .bf16) (r : Fin n) : Fin 256 → EReal := fun e => x (ix2 r e)

variable (q d : FVec Ideal S1024x256 .bf16) (k v : FVec Ideal S256x256 .bf16)

theorem pay7 (r : Fin 1024) (j : Fin 256) : k0_pay7 (F := Ideal) q k (ix2 r j) = pr (row q r) (row k) j := by
  unfold k0_pay7; pointwise; rfl

theorem pay12 (r : Fin 1024) (j : Fin 256) : k0_pay12 (F := Ideal) q k (ix2 r j) = pr (row q r) (row k) j := by
  unfold k0_pay12; pointwise; rfl

theorem pay18 (r : Fin 1024) (j : Fin 256) : k0_pay18 (F := Ideal) q k (ix2 r j) = pr (row q r) (row k) j := by
  unfold k0_pay18; pointwise; rfl

theorem pay1 (r : Fin 1024) (j : Fin 256) :
    k0_pay1 (F := Ideal) (k0_pay23 q k) (k0_pay24 q k) (ix2 r j) = pr (row q r) (row k) j := by
  pointwise [k0_pay1, k0_pay24, k0_pay23]; rfl

theorem pay9 (r : Fin 1024) (j : Fin 256) :
    k0_pay9 (F := Ideal) q k v d (ix2 r j) = ds (row q r) (row k) (row v) (row d r) j := by
  unfold k0_pay9; pointwise; simp only [pay7]; rfl

theorem pay15 (r : Fin 1024) (j : Fin 256) :
    k0_pay15 (F := Ideal) (k0_pay12 q k) (k0_pay14 v d) (ix2 r j) = ds (row q r) (row k) (row v) (row d r) j := by
  unfold k0_pay15 k0_pay14; pointwise; simp only [pay12]; rfl

theorem pay20 (r : Fin 1024) (j : Fin 256) :
    k0_pay20 (F := Ideal) v d (k0_pay18 q k) (ix2 r j) = ds (row q r) (row k) (row v) (row d r) j := by
  unfold k0_pay20; pointwise; simp only [pay18]; rfl

theorem pay3 (r : Fin 1024) (j : Fin 256) :
    k0_pay3 (F := Ideal) v d (k0_pay23 q k) (k0_pay24 q k) (ix2 r j) = ds (row q r) (row k) (row v) (row d r) j := by
  unfold k0_pay3; pointwise; simp only [pay1]; rfl

/-! ## The gradient of the queries -/

/-- A row of the gradient of the queries: the scores' gradients against the keys. -/
def dqAt (q : Fin 256 → EReal) (k v : Fin 256 → Fin 256 → EReal) (d : Fin 256 → EReal) (e : Fin 256) : EReal :=
  ∑ j, ds q k v d j * k j e

theorem dq0 (r : Fin 1024) (e : Fin 256) :
    k0_pay10 (F := Ideal) k (k0_pay9 q k v d) (ix2 r e) = dqAt (row q r) (row k) (row v) (row d r) e := by
  unfold k0_pay10; pointwise; simp only [pay9]; rfl

theorem dq1 (r : Fin 1024) (e : Fin 256) :
    k0_pay16 (F := Ideal) k (k0_pay12 q k) (k0_pay14 v d) (ix2 r e) = dqAt (row q r) (row k) (row v) (row d r) e := by
  unfold k0_pay16; pointwise; simp only [pay15]; rfl

theorem dq2 (r : Fin 1024) (e : Fin 256) :
    k0_pay21 (F := Ideal) k v d (k0_pay18 q k) (ix2 r e) = dqAt (row q r) (row k) (row v) (row d r) e := by
  unfold k0_pay21; pointwise; simp only [pay20]; rfl

theorem dq3 (r : Fin 1024) (e : Fin 256) :
    k0_pay4 (F := Ideal) k v d (k0_pay23 q k) (k0_pay24 q k) (ix2 r e) = dqAt (row q r) (row k) (row v) (row d r) e := by
  unfold k0_pay4; pointwise; simp only [pay3]; rfl

/-! ## One tile's part of the gradient of the keys, added to what was there -/

variable (a : FVec Ideal S256x256 .f32)

theorem dk0 (j e : Fin 256) : k0_pay11 (F := Ideal) q (k0_pay9 q k v d) a (ix2 j e)
    = a (ix2 j e) + ∑ r, ds (row q r) (row k) (row v) (row d r) j * row q r e := by
  unfold k0_pay11; pointwise; simp only [pay9]; rfl

theorem dk1 (j e : Fin 256) : k0_pay17 (F := Ideal) q (k0_pay12 q k) (k0_pay14 v d) a (ix2 j e)
    = a (ix2 j e) + ∑ r, ds (row q r) (row k) (row v) (row d r) j * row q r e := by
  unfold k0_pay17; pointwise; simp only [pay15]; rfl

theorem dk2 (j e : Fin 256) : k0_pay22 (F := Ideal) q v d (k0_pay18 q k) a (ix2 j e)
    = a (ix2 j e) + ∑ r, ds (row q r) (row k) (row v) (row d r) j * row q r e := by
  unfold k0_pay22; pointwise; simp only [pay20]; rfl

theorem dk3 (j e : Fin 256) : k0_pay5 (F := Ideal) q v d (k0_pay23 q k) (k0_pay24 q k) a (ix2 j e)
    = a (ix2 j e) + ∑ r, ds (row q r) (row k) (row v) (row d r) j * row q r e := by
  unfold k0_pay5; pointwise; simp only [pay3]; rfl

/-! ## One tile's part of the gradient of the values, added to what was there -/

theorem dv0 (j e : Fin 256) : k0_pay8 (F := Ideal) q k d a (ix2 j e)
    = a (ix2 j e) + ∑ r, pr (row q r) (row k) j * row d r e := by
  unfold k0_pay8; pointwise; simp only [pay7]; rfl

theorem dv1 (j e : Fin 256) : k0_pay13 (F := Ideal) q k d a (ix2 j e)
    = a (ix2 j e) + ∑ r, pr (row q r) (row k) j * row d r e := by
  unfold k0_pay13; pointwise; simp only [pay12]; rfl

theorem dv2 (j e : Fin 256) : k0_pay19 (F := Ideal) d (k0_pay18 q k) a (ix2 j e)
    = a (ix2 j e) + ∑ r, pr (row q r) (row k) j * row d r e := by
  unfold k0_pay19; pointwise; simp only [pay18]; rfl

theorem dv3 (j e : Fin 256) : k0_pay2 (F := Ideal) d (k0_pay23 q k) (k0_pay24 q k) a (ix2 j e)
    = a (ix2 j e) + ∑ r, pr (row q r) (row k) j * row d r e := by
  unfold k0_pay2; pointwise; simp only [pay1]; rfl

end Cert.KernelIdeal.XA

end
-- ==== Proof.Value3.lean ====
/- The two arrays that the kernel leaves: the gradient of the queries, tile by tile, and the gradient of the keys and
   values, gathered over the tiles. -/
module

public import proofs.«01_k».proof.Proof.Payload
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.XA

open Cert.KernelIdeal Cert.KernelIdeal.Gen Cert.XA

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- Head `h`'s part of row `r` of an array of 1024 columns. -/
def hd {n : ℕ} (x : FVec Ideal ⟨2, ![n, 1024]⟩ .bf16) (h : ℕ) (hh : h < 4) (r : Fin n) : Fin 256 → EReal :=
  fun e => x (ix2 r ⟨h * 256 + e.val, by omega⟩)

/-- Head `h`'s part of row `j` of the keys, the first 1024 columns of the keys and values side by side. -/
def hk (x : FVec Ideal S256x2048 .bf16) (h : ℕ) (hh : h < 4) (j : Fin 256) : Fin 256 → EReal :=
  fun e => x (ix2 j ⟨h * 256 + e.val, by omega⟩)

/-- Head `h`'s part of row `j` of the values. -/
def hv (x : FVec Ideal S256x2048 .bf16) (h : ℕ) (hh : h < 4) (j : Fin 256) : Fin 256 → EReal :=
  fun e => x (ix2 j ⟨1024 + (h * 256 + e.val), by omega⟩)

/-- The gradient of the queries at row `r`, column `l`. -/
def DQ {n : ℕ} (q : FVec Ideal ⟨2, ![n, 1024]⟩ .bf16) (kv : FVec Ideal S256x2048 .bf16) (d : FVec Ideal ⟨2, ![n, 1024]⟩ .bf16)
    (r : Fin n) (l : Fin 1024) : EReal :=
  have hl : l.val / 256 < 4 := by omega
  dqAt (hd q (l.val / 256) hl r) (hk kv (l.val / 256) hl) (hv kv (l.val / 256) hl) (hd d (l.val / 256) hl r)
    ⟨l.val % 256, by omega⟩

/-- The gradient of the keys and values at row `j`, column `l`, gathered over the `n` rows of the queries. -/
def DKV {n : ℕ} (q : FVec Ideal ⟨2, ![n, 1024]⟩ .bf16) (kv : FVec Ideal S256x2048 .bf16) (d : FVec Ideal ⟨2, ![n, 1024]⟩ .bf16)
    (j : Fin 256) (l : Fin 2048) : EReal :=
  have hl : l.val / 256 % 4 < 4 := by omega
  if l.val < 1024 then
    ∑ r : Fin n, ds (hd q (l.val / 256 % 4) hl r) (hk kv (l.val / 256 % 4) hl) (hv kv (l.val / 256 % 4) hl) (hd d (l.val / 256 % 4) hl r) j
      * hd q (l.val / 256 % 4) hl r ⟨l.val % 256, by omega⟩
  else ∑ r : Fin n, pr (hd q (l.val / 256 % 4) hl r) (hk kv (l.val / 256 % 4) hl) j * hd d (l.val / 256 % 4) hl r ⟨l.val % 256, by omega⟩

section At

variable {n : ℕ} (q : FVec Ideal ⟨2, ![n, 1024]⟩ .bf16) (kv : FVec Ideal S256x2048 .bf16) (d : FVec Ideal ⟨2, ![n, 1024]⟩ .bf16)
  (h : ℕ) (hh : h < 4) (e : Fin 256)

theorem DQ_at (r : Fin n) (l : Fin 1024) (hl : l.val = h * 256 + e.val) :
    DQ q kv d r l = dqAt (hd q h hh r) (hk kv h hh) (hv kv h hh) (hd d h hh r) e := by
  have h1 : l.val / 256 = h := by omega
  have h2 : (⟨l.val % 256, by omega⟩ : Fin 256) = e := by ext; show l.val % 256 = e.val; omega
  unfold DQ; subst h1; simp only [h2]

theorem DK_at (j : Fin 256) (l : Fin 2048) (hl : l.val = h * 256 + e.val) :
    DKV q kv d j l = ∑ r : Fin n, ds (hd q h hh r) (hk kv h hh) (hv kv h hh) (hd d h hh r) j * hd q h hh r e := by
  have h1 : l.val / 256 % 4 = h := by omega
  have h2 : (⟨l.val % 256, by omega⟩ : Fin 256) = e := by ext; show l.val % 256 = e.val; omega
  have h3 : l.val < 1024 := by omega
  unfold DKV; subst h1; simp only [h2, if_pos h3]

theorem DV_at (j : Fin 256) (l : Fin 2048) (hl : l.val = 1024 + (h * 256 + e.val)) :
    DKV q kv d j l = ∑ r : Fin n, pr (hd q h hh r) (hk kv h hh) j * hd d h hh r e := by
  have h1 : l.val / 256 % 4 = h := by omega
  have h2 : (⟨l.val % 256, by omega⟩ : Fin 256) = e := by ext; show l.val % 256 = e.val; omega
  have h3 : ¬ l.val < 1024 := by omega
  unfold DKV; subst h1; simp only [h2, if_neg h3]

end At

section Loads

variable (x : Vec Ideal S1024x1024 .bf16) (x1 : Vec Ideal S256x2048 .bf16) (h : ℕ) (hh : h < 4)

/-- A load of a head's columns of a tile is the head's part of it. -/
theorem row_ld (off : ℕ) (inb) (r : Fin 1024) (ho : off = h * 256) :
    row (View.ld x (Rect.unit (s := S1024x1024) ![0, off] ![1024, 256] inb) : FVec Ideal S1024x256 .bf16) r = hd (n := 1024) x h hh r := by
  subst ho; funext e; show x ((Rect.unit (s := S1024x1024) ![0, h * 256] ![1024, 256] inb).emb (ix2 r e)) = _; unfold hd; blk_ext

theorem row_ldk (off : ℕ) (inb) (ho : off = h * 256) :
    row (View.ld x1 (Rect.unit (s := S256x2048) ![0, off] ![256, 256] inb) : FVec Ideal S256x256 .bf16) = hk x1 h hh := by
  subst ho; funext j e; show x1 ((Rect.unit (s := S256x2048) ![0, h * 256] ![256, 256] inb).emb (ix2 j e)) = _; unfold hk; blk_ext

theorem row_ldv (off : ℕ) (inb) (ho : off = 1024 + h * 256) :
    row (View.ld x1 (Rect.unit (s := S256x2048) ![0, off] ![256, 256] inb) : FVec Ideal S256x256 .bf16) = hv x1 h hh := by
  subst ho; funext j e; show x1 ((Rect.unit (s := S256x2048) ![0, 1024 + h * 256] ![256, 256] inb).emb (ix2 j e)) = _; unfold hv; blk_ext

/-- A load of 256 columns of the gathered block, read at an index. -/
theorem ld4 (x4 : Vec Ideal S256x2048 .f32) (off : ℕ) (inb) (j e : Fin 256) (y : S256x2048.Idx) (h0 : (y 0).val = j.val)
    (h1 : (y 1).val = off + e.val) :
    View.ld x4 (Rect.unit (s := S256x2048) ![0, off] ![256, 256] inb) (ix2 j e) = x4 y := by
  show x4 ((Rect.unit (s := S256x2048) ![0, off] ![256, 256] inb).emb (ix2 j e)) = _
  blk_ext

end Loads

/-- A tile's gradient of the queries, in case A of the body. -/
theorem pointA3 (c : Dev nD) (i : grid0.Coords) (a1 h1 a2 h2 a3 h3 a4 h4 a5 h5 hc)
    (b0 : Vec Ideal S1024x1024 .bf16) (b1 : Vec Ideal S256x2048 .bf16) (b2 : Vec Ideal S1024x1024 .bf16) (y : S1024x1024.Idx) :
    out0_A_3 (F := Ideal) c i a1 h1 a2 h2 a3 h3 a4 h4 a5 h5 hc b0 b1 b2 y = DQ (n := 1024) b0 b1 b2 (y 0) (y 1) := by
  frame_out
  canon_tiles x h
  case piece0 =>
    idx_vars x
    rw [dq3, DQ_at b0 b1 b2 3 (by omega) x1 (y 0) (y 1) (by omega), row_ld b0 3 (by omega) _ _ _ rfl,
      row_ld b2 3 (by omega) _ _ _ rfl, row_ldk b1 3 (by omega) _ _ rfl, row_ldv b1 3 (by omega) _ _ rfl,
      Fin.ext_iff.2 h0]
  case piece1 =>
    idx_vars x
    rw [dq2, DQ_at b0 b1 b2 2 (by omega) x1 (y 0) (y 1) (by omega), row_ld b0 2 (by omega) _ _ _ rfl,
      row_ld b2 2 (by omega) _ _ _ rfl, row_ldk b1 2 (by omega) _ _ rfl, row_ldv b1 2 (by omega) _ _ rfl,
      Fin.ext_iff.2 h0]
  case piece2 =>
    idx_vars x
    rw [dq1, DQ_at b0 b1 b2 1 (by omega) x1 (y 0) (y 1) (by omega), row_ld b0 1 (by omega) _ _ _ rfl,
      row_ld b2 1 (by omega) _ _ _ rfl, row_ldk b1 1 (by omega) _ _ rfl, row_ldv b1 1 (by omega) _ _ rfl,
      Fin.ext_iff.2 h0]
  case piece3 =>
    idx_vars x
    rw [dq0, DQ_at b0 b1 b2 0 (by omega) x1 (y 0) (y 1) (by omega), row_ld b0 0 (by omega) _ _ _ rfl,
      row_ld b2 0 (by omega) _ _ _ rfl, row_ldk b1 0 (by omega) _ _ rfl, row_ldv b1 0 (by omega) _ _ rfl,
      Fin.ext_iff.2 h0]

/-- A tile's gradient of the queries, in case B of the body. -/
theorem pointB3 (c : Dev nD) (i : grid0.Coords) (a1 h1 a2 h2 a3 h3 a4 h4 a5 h5 hc)
    (b0 : Vec Ideal S1024x1024 .bf16) (b1 : Vec Ideal S256x2048 .bf16) (b2 : Vec Ideal S1024x1024 .bf16) (b4 : Vec Ideal S256x2048 .f32) (y : S1024x1024.Idx) :
    out0_B_3 (F := Ideal) c i a1 h1 a2 h2 a3 h3 a4 h4 a5 h5 hc b0 b1 b2 b4 y = DQ (n := 1024) b0 b1 b2 (y 0) (y 1) := by
  frame_out
  canon_tiles x h
  case piece0 =>
    idx_vars x
    rw [dq3, DQ_at b0 b1 b2 3 (by omega) x1 (y 0) (y 1) (by omega), row_ld b0 3 (by omega) _ _ _ rfl,
      row_ld b2 3 (by omega) _ _ _ rfl, row_ldk b1 3 (by omega) _ _ rfl, row_ldv b1 3 (by omega) _ _ rfl,
      Fin.ext_iff.2 h0]
  case piece1 =>
    idx_vars x
    rw [dq2, DQ_at b0 b1 b2 2 (by omega) x1 (y 0) (y 1) (by omega), row_ld b0 2 (by omega) _ _ _ rfl,
      row_ld b2 2 (by omega) _ _ _ rfl, row_ldk b1 2 (by omega) _ _ rfl, row_ldv b1 2 (by omega) _ _ rfl,
      Fin.ext_iff.2 h0]
  case piece2 =>
    idx_vars x
    rw [dq1, DQ_at b0 b1 b2 1 (by omega) x1 (y 0) (y 1) (by omega), row_ld b0 1 (by omega) _ _ _ rfl,
      row_ld b2 1 (by omega) _ _ _ rfl, row_ldk b1 1 (by omega) _ _ rfl, row_ldv b1 1 (by omega) _ _ rfl,
      Fin.ext_iff.2 h0]
  case piece3 =>
    idx_vars x
    rw [dq0, DQ_at b0 b1 b2 0 (by omega) x1 (y 0) (y 1) (by omega), row_ld b0 0 (by omega) _ _ _ rfl,
      row_ld b2 0 (by omega) _ _ _ rfl, row_ldk b1 0 (by omega) _ _ rfl, row_ldv b1 0 (by omega) _ _ rfl,
      Fin.ext_iff.2 h0]

/-- A tile's part of the gradient of the keys and values, added to what the tile before left. -/
theorem pointB4 (c : Dev nD) (i : grid0.Coords) (a1 h1 a2 h2 a3 h3 a4 h4 a5 h5 hc)
    (b0 : Vec Ideal S1024x1024 .bf16) (b1 : Vec Ideal S256x2048 .bf16) (b2 : Vec Ideal S1024x1024 .bf16) (b4 : Vec Ideal S256x2048 .f32) (y : S256x2048.Idx) :
    out0_B_4 (F := Ideal) c i a1 h1 a2 h2 a3 h3 a4 h4 a5 h5 hc b0 b1 b2 b4 y = b4 y + DKV (n := 1024) b0 b1 b2 (y 0) (y 1) := by
  frame_out
  canon_tiles x h
  case piece0 =>
    idx_vars x
    rw [dk3, DK_at b0 b1 b2 3 (by omega) x1 (y 0) (y 1) (by omega)]
    simp only [row_ld b0 3 (by omega) _ _ _ rfl, row_ld b2 3 (by omega) _ _ _ rfl, row_ldk b1 3 (by omega) _ _ rfl, row_ldv b1 3 (by omega) _ _ rfl, Fin.ext_iff.2 h0]
    exact congrArg (· + (_ : EReal)) (ld4 b4 _ _ x0 x1 y h0 (by omega))
  case piece1 =>
    idx_vars x
    rw [dv3, DV_at b0 b1 b2 3 (by omega) x1 (y 0) (y 1) (by omega)]
    simp only [row_ld b0 3 (by omega) _ _ _ rfl, row_ld b2 3 (by omega) _ _ _ rfl, row_ldk b1 3 (by omega) _ _ rfl, Fin.ext_iff.2 h0]
    exact congrArg (· + (_ : EReal)) (ld4 b4 _ _ x0 x1 y h0 (by omega))
  case piece2 =>
    idx_vars x
    rw [dk2, DK_at b0 b1 b2 2 (by omega) x1 (y 0) (y 1) (by omega)]
    simp only [row_ld b0 2 (by omega) _ _ _ rfl, row_ld b2 2 (by omega) _ _ _ rfl, row_ldk b1 2 (by omega) _ _ rfl, row_ldv b1 2 (by omega) _ _ rfl, Fin.ext_iff.2 h0]
    exact congrArg (· + (_ : EReal)) (ld4 b4 _ _ x0 x1 y h0 (by omega))
  case piece3 =>
    idx_vars x
    rw [dv2, DV_at b0 b1 b2 2 (by omega) x1 (y 0) (y 1) (by omega)]
    simp only [row_ld b0 2 (by omega) _ _ _ rfl, row_ld b2 2 (by omega) _ _ _ rfl, row_ldk b1 2 (by omega) _ _ rfl, Fin.ext_iff.2 h0]
    exact congrArg (· + (_ : EReal)) (ld4 b4 _ _ x0 x1 y h0 (by omega))
  case piece4 =>
    idx_vars x
    rw [dk1, DK_at b0 b1 b2 1 (by omega) x1 (y 0) (y 1) (by omega)]
    simp only [row_ld b0 1 (by omega) _ _ _ rfl, row_ld b2 1 (by omega) _ _ _ rfl, row_ldk b1 1 (by omega) _ _ rfl, row_ldv b1 1 (by omega) _ _ rfl, Fin.ext_iff.2 h0]
    exact congrArg (· + (_ : EReal)) (ld4 b4 _ _ x0 x1 y h0 (by omega))
  case piece5 =>
    idx_vars x
    rw [dv1, DV_at b0 b1 b2 1 (by omega) x1 (y 0) (y 1) (by omega)]
    simp only [row_ld b0 1 (by omega) _ _ _ rfl, row_ld b2 1 (by omega) _ _ _ rfl, row_ldk b1 1 (by omega) _ _ rfl, Fin.ext_iff.2 h0]
    exact congrArg (· + (_ : EReal)) (ld4 b4 _ _ x0 x1 y h0 (by omega))
  case piece6 =>
    idx_vars x
    rw [dk0, DK_at b0 b1 b2 0 (by omega) x1 (y 0) (y 1) (by omega)]
    simp only [row_ld b0 0 (by omega) _ _ _ rfl, row_ld b2 0 (by omega) _ _ _ rfl, row_ldk b1 0 (by omega) _ _ rfl, row_ldv b1 0 (by omega) _ _ rfl, Fin.ext_iff.2 h0]
    exact congrArg (· + (_ : EReal)) (ld4 b4 _ _ x0 x1 y h0 (by omega))
  case piece7 =>
    idx_vars x
    rw [dv0, DV_at b0 b1 b2 0 (by omega) x1 (y 0) (y 1) (by omega)]
    simp only [row_ld b0 0 (by omega) _ _ _ rfl, row_ld b2 0 (by omega) _ _ _ rfl, row_ldk b1 0 (by omega) _ _ rfl, Fin.ext_iff.2 h0]
    exact congrArg (· + (_ : EReal)) (ld4 b4 _ _ x0 x1 y h0 (by omega))

/-- What a load of the freshly cleared block reads is zero. -/
theorem ld6 (off : ℕ) (inb) (j : S256x256.Idx) :
    View.ld (Val := Elt Ideal) (e' := .f32) (k0_pay6 (F := Ideal)) (Rect.unit (s := S256x2048) ![0, off] ![256, 256] inb) j = 0 := by
  show k0_pay6 (F := Ideal) ((Rect.unit (s := S256x2048) ![0, off] ![256, 256] inb).emb j) = 0
  unfold k0_pay6; pointwise

/-- Where a column block's element lies in the gathered block. -/
theorem emb_vals (off : ℕ) (inb) (x : S256x256.Idx) :
    (((Rect.unit (s := S256x2048) ![0, off] ![256, 256] inb).emb x) 0).val = (x 0).val
      ∧ (((Rect.unit (s := S256x2048) ![0, off] ![256, 256] inb).emb x) 1).val = off + (x 1).val := by
  constructor
  · rw [ValueKit.rect_emb_unit_val]; simp
  · rw [ValueKit.rect_emb_unit_val]; simp

/-- The first tile's part of the gradient of the keys and values. -/
theorem pointA4 (c : Dev nD) (i : grid0.Coords) (a1 h1 a2 h2 a3 h3 a4 h4 a5 h5 hc)
    (b0 : Vec Ideal S1024x1024 .bf16) (b1 : Vec Ideal S256x2048 .bf16) (b2 : Vec Ideal S1024x1024 .bf16) (y : S256x2048.Idx) :
    out0_A_4 (F := Ideal) c i a1 h1 a2 h2 a3 h3 a4 h4 a5 h5 hc b0 b1 b2 y = DKV (n := 1024) b0 b1 b2 (y 0) (y 1) := by
  frame_out
  simp (disch := decide) only [↓View.readCov_skip, ↓View.readCov_fill]
  refine View.canon_append_of_piecesOf (Val := Elt Ideal) (e := .f32) (fun y : S256x2048.Idx => DKV (n := 1024) b0 b1 b2 (y 0) (y 1)) [_] [_, _, _, _, _, _, _, _]
    ⟨?_, ?_, ?_, ?_, ?_, ?_, ?_, ?_, trivial⟩ y ?_
  on_goal 9 => exact View.cover_of_tiledL _ ![256, 256] (by sl_kernel_rfl) y
  · intro x
    obtain ⟨e0, e1⟩ := emb_vals 768 inb_S256x2048_S256x256_0_768 x
    dsimp only
    generalize (Rect.unit (s := S256x2048) ![0, 768] ![256, 256] inb_S256x2048_S256x256_0_768).emb x = z at e0 e1 ⊢
    idx_vars x
    have e2 : z 0 = x0 := Fin.ext e0
    have e3 : (z 1).val = 768 + x1.val := e1
    rw [dk3, DK_at b0 b1 b2 3 (by omega) x1 (z 0) (z 1) (by omega), ld6, zero_add, e2]
    simp only [row_ld b0 3 (by omega) _ _ _ rfl, row_ld b2 3 (by omega) _ _ _ rfl, row_ldk b1 3 (by omega) _ _ rfl, row_ldv b1 3 (by omega) _ _ rfl]
  · intro x
    obtain ⟨e0, e1⟩ := emb_vals 1792 inb_S256x2048_S256x256_0_1792 x
    dsimp only
    generalize (Rect.unit (s := S256x2048) ![0, 1792] ![256, 256] inb_S256x2048_S256x256_0_1792).emb x = z at e0 e1 ⊢
    idx_vars x
    have e2 : z 0 = x0 := Fin.ext e0
    have e3 : (z 1).val = 1792 + x1.val := e1
    rw [dv3, DV_at b0 b1 b2 3 (by omega) x1 (z 0) (z 1) (by omega), ld6, zero_add, e2]
    simp only [row_ld b0 3 (by omega) _ _ _ rfl, row_ld b2 3 (by omega) _ _ _ rfl, row_ldk b1 3 (by omega) _ _ rfl]
  · intro x
    obtain ⟨e0, e1⟩ := emb_vals 512 inb_S256x2048_S256x256_0_512 x
    dsimp only
    generalize (Rect.unit (s := S256x2048) ![0, 512] ![256, 256] inb_S256x2048_S256x256_0_512).emb x = z at e0 e1 ⊢
    idx_vars x
    have e2 : z 0 = x0 := Fin.ext e0
    have e3 : (z 1).val = 512 + x1.val := e1
    rw [dk2, DK_at b0 b1 b2 2 (by omega) x1 (z 0) (z 1) (by omega), ld6, zero_add, e2]
    simp only [row_ld b0 2 (by omega) _ _ _ rfl, row_ld b2 2 (by omega) _ _ _ rfl, row_ldk b1 2 (by omega) _ _ rfl, row_ldv b1 2 (by omega) _ _ rfl]
  · intro x
    obtain ⟨e0, e1⟩ := emb_vals 1536 inb_S256x2048_S256x256_0_1536 x
    dsimp only
    generalize (Rect.unit (s := S256x2048) ![0, 1536] ![256, 256] inb_S256x2048_S256x256_0_1536).emb x = z at e0 e1 ⊢
    idx_vars x
    have e2 : z 0 = x0 := Fin.ext e0
    have e3 : (z 1).val = 1536 + x1.val := e1
    rw [dv2, DV_at b0 b1 b2 2 (by omega) x1 (z 0) (z 1) (by omega), ld6, zero_add, e2]
    simp only [row_ld b0 2 (by omega) _ _ _ rfl, row_ld b2 2 (by omega) _ _ _ rfl, row_ldk b1 2 (by omega) _ _ rfl]
  · intro x
    obtain ⟨e0, e1⟩ := emb_vals 256 inb_S256x2048_S256x256_0_256 x
    dsimp only
    generalize (Rect.unit (s := S256x2048) ![0, 256] ![256, 256] inb_S256x2048_S256x256_0_256).emb x = z at e0 e1 ⊢
    idx_vars x
    have e2 : z 0 = x0 := Fin.ext e0
    have e3 : (z 1).val = 256 + x1.val := e1
    rw [dk1, DK_at b0 b1 b2 1 (by omega) x1 (z 0) (z 1) (by omega), ld6, zero_add, e2]
    simp only [row_ld b0 1 (by omega) _ _ _ rfl, row_ld b2 1 (by omega) _ _ _ rfl, row_ldk b1 1 (by omega) _ _ rfl, row_ldv b1 1 (by omega) _ _ rfl]
  · intro x
    obtain ⟨e0, e1⟩ := emb_vals 1280 inb_S256x2048_S256x256_0_1280 x
    dsimp only
    generalize (Rect.unit (s := S256x2048) ![0, 1280] ![256, 256] inb_S256x2048_S256x256_0_1280).emb x = z at e0 e1 ⊢
    idx_vars x
    have e2 : z 0 = x0 := Fin.ext e0
    have e3 : (z 1).val = 1280 + x1.val := e1
    rw [dv1, DV_at b0 b1 b2 1 (by omega) x1 (z 0) (z 1) (by omega), ld6, zero_add, e2]
    simp only [row_ld b0 1 (by omega) _ _ _ rfl, row_ld b2 1 (by omega) _ _ _ rfl, row_ldk b1 1 (by omega) _ _ rfl]
  · intro x
    obtain ⟨e0, e1⟩ := emb_vals 0 inb_S256x2048_S256x256_0_0 x
    dsimp only
    generalize (Rect.unit (s := S256x2048) ![0, 0] ![256, 256] inb_S256x2048_S256x256_0_0).emb x = z at e0 e1 ⊢
    idx_vars x
    have e2 : z 0 = x0 := Fin.ext e0
    have e3 : (z 1).val = 0 + x1.val := e1
    rw [dk0, DK_at b0 b1 b2 0 (by omega) x1 (z 0) (z 1) (by omega), ld6, zero_add, e2]
    simp only [row_ld b0 0 (by omega) _ _ _ rfl, row_ld b2 0 (by omega) _ _ _ rfl, row_ldk b1 0 (by omega) _ _ rfl, row_ldv b1 0 (by omega) _ _ rfl]
  · intro x
    obtain ⟨e0, e1⟩ := emb_vals 1024 inb_S256x2048_S256x256_0_1024 x
    dsimp only
    generalize (Rect.unit (s := S256x2048) ![0, 1024] ![256, 256] inb_S256x2048_S256x256_0_1024).emb x = z at e0 e1 ⊢
    idx_vars x
    have e2 : z 0 = x0 := Fin.ext e0
    have e3 : (z 1).val = 1024 + x1.val := e1
    rw [dv0, DV_at b0 b1 b2 0 (by omega) x1 (z 0) (z 1) (by omega), ld6, zero_add, e2]
    simp only [row_ld b0 0 (by omega) _ _ _ rfl, row_ld b2 0 (by omega) _ _ _ rfl, row_ldk b1 0 (by omega) _ _ rfl]

end Cert.KernelIdeal.XA

end
-- ==== Proof.Final.lean ====
/- The two arrays that the kernel leaves, of the arguments: what the eight tiles write, put together. -/
module

public import proofs.«01_k».proof.Proof.Value3

@[expose] public section

set_option maxRecDepth 16384

noncomputable section

open Idealize.ShloMosaic Idealize.ShloMosaic.TcCoe Idealize.SL.Sem
open Idealize.ShloMosaic.Pipeline (Dat)

namespace Cert.KernelIdeal.XA

open Cert.KernelIdeal Cert.KernelIdeal.Gen Cert.XA

variable (m : (ℓ : Loc nD τ sig) → Buf (Elt Ideal) ℓ) (c : Dev nD)

/-- The queries, the keys and values, and the output's gradient, as launched. -/
abbrev aQ : FVec Ideal S8192x1024 .bf16 := m ((c : Thread nD τ).loc main_arg0)
abbrev aKV : FVec Ideal S256x2048 .bf16 := m ((c : Thread nD τ).loc main_arg1)
abbrev aD : FVec Ideal S8192x1024 .bf16 := m ((c : Thread nD τ).loc main_arg2)

/-- Row `r` of tile `t`, among all rows. -/
abbrev tr (t : Fin cfg0.N) (r : Fin 1024) : Fin 8192 :=
  ⟨t.val * 1024 + r.val, by have := lt_of_lt_of_eq t.isLt N_0; omega⟩

theorem blk0 (t : Fin cfg0.N) (h : ℕ) (hh : h < 4) (r : Fin 1024) :
    hd (n := 1024) (iblk m c 0 t) h hh r = hd (n := 8192) (aQ m c) h hh (tr t r) := by
  funext e; unfold hd; blk_point [iblk, V, idx t]

theorem blk2 (t : Fin cfg0.N) (h : ℕ) (hh : h < 4) (r : Fin 1024) :
    hd (n := 1024) (iblk m c 2 t) h hh r = hd (n := 8192) (aD m c) h hh (tr t r) := by
  funext e; unfold hd; blk_point [iblk, V, idx t]

theorem blk1k (t : Fin cfg0.N) (h : ℕ) (hh : h < 4) : hk (iblk m c 1 t) h hh = hk (aKV m c) h hh := by
  funext j e; unfold hk; blk_point [iblk, V, idx t]

theorem blk1v (t : Fin cfg0.N) (h : ℕ) (hh : h < 4) : hv (iblk m c 1 t) h hh = hv (aKV m c) h hh := by
  funext j e; unfold hv; blk_point [iblk, V, idx t]

/-- A tile's gradient of the queries is the whole's at the tile's rows. -/
theorem tileDQ (t : Fin cfg0.N) (r : Fin 1024) (l : Fin 1024) :
    DQ (n := 1024) (iblk m c 0 t) (iblk m c 1 t) (iblk m c 2 t) r l = DQ (n := 8192) (aQ m c) (aKV m c) (aD m c) (tr t r) l := by
  unfold DQ; simp only [blk0, blk2, blk1k, blk1v]

/-- The gradient of the queries, as an array. -/
def outQ : S8192x1024.Idx → EReal := fun i => DQ (n := 8192) (aQ m c) (aKV m c) (aD m c) (i 0) (i 1)

theorem emb3 (t : Fin cfg0.N) (y : S1024x1024.Idx) :
    outQ m c (ix2 (tr t (y 0)) (y 1)) = outQ m c (((View.whole main_v0_0).slice (win0_3.rect t)).emb y) := by
  idx_vars y
  blk_ext [idx t]

theorem final3 : (dats m 0 c).arrAt 3 cfg0.N = outQ m c := by
  refine (dats m 0 c).arrAt_eq_of_covers 3 _ (by decide +kernel) fun t hf y => ?_
  blk_simp
  rw [after0_3]
  by_cases h : t.val % 8 = 0
  · rw [outsAt0_A m c t h]; dsimp only; rw [pointA3]
    exact (tileDQ m c t (y 0) (y 1)).trans (emb3 m c t y)
  · rw [outsAt0_B m c t h]; dsimp only; rw [pointB3]
    exact (tileDQ m c t (y 0) (y 1)).trans (emb3 m c t y)

/-- The gradient of the keys and values is the tiles' parts, added. -/
theorem sumDKV (j : Fin 256) (l : Fin 2048) :
    ∑ t : Fin cfg0.N, DKV (n := 1024) (iblk m c 0 t) (iblk m c 1 t) (iblk m c 2 t) j l
      = DKV (n := 8192) (aQ m c) (aKV m c) (aD m c) j l := by
  unfold DKV; simp only [blk0, blk2, blk1k, blk1v]
  split <;>
  · exact Fin.sum_mul_add_congr (fun t r hl => rfl) (by show 8192 = grid0.N * 1024; rw [N_0])

theorem final4 : (dats m 0 c).arrAt 4 cfg0.N = fun i => DKV (n := 8192) (aQ m c) (aKV m c) (aD m c) (i 0) (i 1) := by
  refine (dats m 0 c).arrAt_eq_of_after_last 4 t0_7 (by decide +kernel) _ fun j => ?_
  blk_simp
  rw [after0_4, Pipeline.eq_sum_fin_of_reset_step_apply_last (fun n h => (outsAt0 m c n h).2) 8 (fun _ => 0)
    (fun t j => DKV (n := 1024) (iblk m c 0 t) (iblk m c 1 t) (iblk m c 2 t) (j 0) (j 1))
    (fun t h j => by rw [outsAt0_A m c t h]; dsimp only; rw [pointA4, zero_add])
    (fun t h j => by rw [outsAt0_B m c t h]; dsimp only; rw [pointB4]) (le_of_eq N_0) t0_7 rfl j, zero_add]
  exact sumDKV m c (j 0) (j 1)

end Cert.KernelIdeal.XA

end
-- ==== Proof.Reference.lean ====
/- The two arrays that the reference leaves, read at an index, by the arrays it forms on the way: the scores, their row
   maxima, the exponentials and their sums, the gradient of the probabilities, the gradient of the scores. -/
module

public import proofs.«01_k».proof.Proof.Final
public import proofs.«01_k».proof.Proof.Gen.ReferenceIdeal.Run

@[expose] public section

set_option maxRecDepth 16384

noncomputable section

open Idealize.ShloMosaic Idealize.ShloMosaic.TcCoe Idealize.SL.Sem

namespace Cert.ReferenceIdeal.XA

open Cert.ReferenceIdeal Cert.ReferenceIdeal.Gen Cert.XA Cert.KernelIdeal.XA

section Arrays

variable (q : FVec Ideal S8192x1024 .bf16) (kv : FVec Ideal S256x2048 .bf16) (d : FVec Ideal S8192x1024 .bf16)

def q3 : FVec Ideal S8192x4x256 .f32 := shapeCast _ (extf .f32 q bitsLt_bf16_f32) shapeCasts_S8192x1024_S8192x4x256
def k3 : FVec Ideal S256x4x256 .f32 :=
  shapeCast _ (extractStridedSlice S256x1024 ![0, 0] (extf .f32 kv bitsLt_bf16_f32) slices_S256x2048_S256x1024_0_0) shapeCasts_S256x1024_S256x4x256
def v3 : FVec Ideal S256x4x256 .f32 :=
  shapeCast _ (extractStridedSlice S256x1024 ![0, 1024] (extf .f32 kv bitsLt_bf16_f32) slices_S256x2048_S256x1024_0_1024) shapeCasts_S256x1024_S256x4x256
def dT : FVec Ideal S4x256x8192 .f32 :=
  transpose S4x256x8192 [1, 2, 0] (shapeCast _ (extf .f32 d bitsLt_bf16_f32) shapeCasts_S8192x1024_S8192x4x256) transposes_S8192x4x256_S4x256x8192_1_2_0

/-- The scores. -/
def sA : FVec Ideal S4x8192x256 .f32 :=
  mulf (Host.dotGeneral dot_S8192x4x256_S256x4x256_S4x8192x256_2_2_0_0_1_1 none (q3 q) (k3 kv))
    (broadcastInDim S4x8192x256 ![] bcast_S_S4x8192x256 (constant S_ .f32 0x3D800000#32))

/-- Their row maxima. -/
def mA : FVec Ideal S4x8192 .f32 :=
  maximumf (broadcastInDim S4x8192 ![] bcast_S_S4x8192 (constant S_ .f32 0xFF800000#32))
    (Host.reduce FloatOps.maximumf (sA q kv) (constant S_ .f32 0xFF800000#32) reducesTo_S4x8192x256_S4x8192_d2 h_S_)

/-- A row statistic, at every column of its row. -/
def bA (x : FVec Ideal S4x8192 .f32) : FVec Ideal S4x8192x256 .f32 :=
  broadcastInDim S4x8192x256 ![0, 1, 2] bcast_S4x8192x1_S4x8192x256_0_1_2 (broadcastInDim S4x8192x1 ![0, 1] bcast_S4x8192_S4x8192x1_0_1 x)

/-- The exponentials. -/
def eA : FVec Ideal S4x8192x256 .f32 := Host.exp (subf (sA q kv) (bA (mA q kv)))

/-- Their row sums. -/
def lA : FVec Ideal S4x8192 .f32 :=
  Host.reduceAdd (eA q kv) (constant S_ .f32 0x00000000#32) reducesTo_S4x8192x256_S4x8192_d2 h_S_

/-- The gradient of the probabilities. -/
def dpA : FVec Ideal S4x8192x256 .f32 := Host.dotGeneral dot_S4x256x8192_S256x4x256_S4x8192x256_1_2_2_0_0_1 none (dT d) (v3 kv)

/-- The row sums that the gradient of a row's sum takes. -/
def nA : FVec Ideal S4x8192 .f32 :=
  Host.reduceAdd (Host.negf (shapeCast _ (Host.reduceAdd (mulf (mulf (dpA kv d) (broadcastInDim S4x8192x256 ![0, 1, 2] bcast_S4x8192x1_S4x8192x256_0_1_2 (Host.divf (broadcastInDim S4x8192x1 ![] bcast_S_S4x8192x1 (constant S_ .f32 0x3F800000#32)) (mulf (broadcastInDim S4x8192x1 ![0, 1] bcast_S4x8192_S4x8192x1_0_1 (lA q kv)) (broadcastInDim S4x8192x1 ![0, 1] bcast_S4x8192_S4x8192x1_0_1 (lA q kv)))))) (eA q kv)) (constant S_ .f32 0x00000000#32) reducesTo_S4x8192x256_S4x8192_d2 h_S_) shapeCasts_S4x8192_S4x8192x1)) (constant S_ .f32 0x00000000#32) reducesTo_S4x8192x1_S4x8192_d2 h_S_

/-- The gradient of the scores. -/
def dsA : FVec Ideal S4x8192x256 .f32 :=
  mulf (mulf (addf (Host.divf (dpA kv d) (bA (lA q kv))) (broadcastInDim S4x8192x256 ![0, 1] bcast_S4x8192_S4x8192x256_0_1 (nA q kv d))) (eA q kv))
    (broadcastInDim S4x8192x256 ![] bcast_S_S4x8192x256 (constant S_ .f32 0x3D800000#32))

variable (h : Fin 4) (r : Fin 8192) (j : Fin 256)

theorem q3_at (e : Fin 256) : q3 q (ix3 r h e) = hd q h.val h.isLt r e := by unfold q3; pointwise; rfl
theorem k3_at (e : Fin 256) : k3 kv (ix3 j h e) = hk kv h.val h.isLt j e := by unfold k3; pointwise; rfl
theorem v3_at (e : Fin 256) : v3 kv (ix3 j h e) = hv kv h.val h.isLt j e := by unfold v3; pointwise; rfl
theorem dT_at (e : Fin 256) : dT d (ix3 h e r) = hd d h.val h.isLt r e := by unfold dT; pointwise; rfl

theorem sA_at : sA q kv (ix3 h r j) = sc (hd q h.val h.isLt r) (hk kv h.val h.isLt) j := by
  unfold sA; pointwise; simp only [q3_at, k3_at]; rfl

/-- A row's maximum is the fold of its entries. -/
theorem rowmax (x : FVec Ideal S4x8192x256 .f32) :
    Host.reduce FloatOps.maximumf x (constant S_ .f32 0xFF800000#32) reducesTo_S4x8192x256_S4x8192_d2 h_S_ (ix2 h r)
      = Finset.fold max ninf (fun j => x (ix3 h r j)) Finset.univ := by
  have hr : S4x8192x256.Reduces [2] S4x8192 := by decide
  rw [Host.reduce_eq_fold_single FloatOps.maximumf x _ _ hr]
  refine Finset.fold_congr fun k _ => ?_
  show x (hr.lift (ix2 h r) k) = x (ix3 h r k)
  congr 1
  funext a
  fin_cases a <;> rfl

theorem max_at {s : Shape} (a b : FVec Ideal s .f32) (i : s.Idx) : maximumf a b i = max (a i) (b i) := rfl

theorem ninf_at (i : S4x8192.Idx) :
    broadcastInDim S4x8192 ![] bcast_S_S4x8192 (constant (F := Ideal) S_ .f32 0xFF800000#32) i = ninf := rfl

theorem mA_at : mA q kv (ix2 h r) = mx (hd q h.val h.isLt r) (hk kv h.val h.isLt) := by
  unfold mA
  rw [max_at, ninf_at, rowmax, max_ninf, mx]
  simp only [sA_at]

theorem bA_at (x : FVec Ideal S4x8192 .f32) : bA x (ix3 h r j) = x (ix2 h r) := by unfold bA; pointwise

theorem eA_at : eA q kv (ix3 h r j) = ex (hd q h.val h.isLt r) (hk kv h.val h.isLt) j := by
  unfold eA; pointwise; simp only [sA_at, mA_at, bA_at]; rfl

theorem lA_at : lA q kv (ix2 h r) = sm (hd q h.val h.isLt r) (hk kv h.val h.isLt) := by
  unfold lA; pointwise; simp only [eA_at]; rfl

theorem dpA_at : dpA kv d (ix3 h r j) = dp (hv kv h.val h.isLt) (hd d h.val h.isLt r) j := by
  unfold dpA; pointwise; simp only [dT_at, v3_at]; rfl

theorem nA_at : nA q kv d (ix2 h r) = -∑ x, dp (hv kv h.val h.isLt) (hd d h.val h.isLt r) x
      * Ideal.div 1 (sm (hd q h.val h.isLt r) (hk kv h.val h.isLt) * sm (hd q h.val h.isLt r) (hk kv h.val h.isLt))
      * ex (hd q h.val h.isLt r) (hk kv h.val h.isLt) x := by
  unfold nA; pointwise; simp only [eA_at, lA_at, dpA_at, Fin.sum_univ_one]

theorem dsA_at : dsA q kv d (ix3 h r j)
    = dsQ (hd q h.val h.isLt r) (hk kv h.val h.isLt) (hv kv h.val h.isLt) (hd d h.val h.isLt r) j := by
  unfold dsA; pointwise; simp only [eA_at, lA_at, dpA_at, nA_at, bA_at]; rfl

def rQ : FVec Ideal S8192x1024 .bf16 :=
  truncf .bf16 (shapeCast _ (transpose S8192x4x256 [1, 0, 2] (Host.dotGeneral dot_S4x8192x256_S256x4x256_S4x8192x256_2_0_1_2_0_1 none (dsA q kv d) (k3 kv)) transposes_S4x8192x256_S8192x4x256_1_0_2) shapeCasts_S8192x4x256_S8192x1024) bitsLt_bf16_f32

def rK : FVec Ideal S256x1024 .f32 :=
  shapeCast _ (transpose S256x4x256 [1, 0, 2] (Host.dotGeneral dot_S4x8192x256_S8192x4x256_S4x256x256_1_0_2_2_0_1 none (dsA q kv d) (q3 q)) transposes_S4x256x256_S256x4x256_1_0_2) shapeCasts_S256x4x256_S256x1024

def rV : FVec Ideal S256x1024 .f32 :=
  shapeCast _ (transpose S256x4x256 [2, 0, 1] (Host.dotGeneral dot_S4x256x8192_S4x8192x256_S4x256x256_2_1_1_2_0_0 none (dT d) (Host.divf (eA q kv) (bA (lA q kv)))) transposes_S4x256x256_S256x4x256_2_0_1) shapeCasts_S256x4x256_S256x1024

def rKV : FVec Ideal S256x2048 .f32 :=
  concatenate S256x2048 1 [⟨S256x1024, rK q kv d⟩, ⟨S256x1024, rV q kv d⟩] concatenates_S256x1024_S256x1024_S256x2048_d1

theorem rQ_at (r : Fin 8192) (l : Fin 1024) (hl : l.val / 256 < 4) : rQ q kv d (ix2 r l)
      = ∑ j, dsQ (hd q (l.val / 256) hl r) (hk kv (l.val / 256) hl) (hv kv (l.val / 256) hl)
          (hd d (l.val / 256) hl r) j * hk kv (l.val / 256) hl j ⟨l.val % 256, by omega⟩ := by
  unfold rQ; pointwise; simp only [dsA_at, k3_at]

theorem rK_at (j : Fin 256) (l : Fin 1024) (hl : l.val / 256 < 4) : rK q kv d (ix2 j l)
      = ∑ r : Fin 8192, dsQ (hd q (l.val / 256) hl r) (hk kv (l.val / 256) hl) (hv kv (l.val / 256) hl)
          (hd d (l.val / 256) hl r) j * hd q (l.val / 256) hl r ⟨l.val % 256, by omega⟩ := by
  unfold rK; pointwise; simp only [dsA_at, q3_at]

theorem rV_at (j : Fin 256) (l : Fin 1024) (hl : l.val / 256 < 4) : rV q kv d (ix2 j l)
      = ∑ r : Fin 8192, hd d (l.val / 256) hl r ⟨l.val % 256, by omega⟩ * pr (hd q (l.val / 256) hl r) (hk kv (l.val / 256) hl) j := by
  unfold rV; pointwise; simp only [dT_at, eA_at, lA_at, bA_at]; rfl

theorem rKV_at (j : Fin 256) (l : Fin 2048) : rKV q kv d (ix2 j l)
    = if h : l.val < 1024 then rK q kv d (ix2 j ⟨l.val, h⟩) else rV q kv d (ix2 j ⟨l.val - 1024, by omega⟩) := by
  unfold rKV; pointwise

end Arrays

variable (m : (ℓ : Loc nD τ sig) → Buf (Elt Ideal) ℓ) (c : Dev nD)

end Cert.ReferenceIdeal.XA

end
-- ==== Proof.Match.lean ====
/- The reference's two results are the arrays the kernel leaves, where the queries, keys and values are reals. -/
module

public import proofs.«01_k».proof.Proof.Reference

@[expose] public section

set_option maxRecDepth 16384

noncomputable section

open Idealize.ShloMosaic Idealize.ShloMosaic.TcCoe Idealize.SL.Sem

namespace Cert.ReferenceIdeal.XA

open Cert.ReferenceIdeal Cert.ReferenceIdeal.Gen Cert.XA Cert.KernelIdeal.XA

section Arrays

variable (q : FVec Ideal S8192x1024 .bf16) (kv : FVec Ideal S256x2048 .bf16) (d : FVec Ideal S8192x1024 .bf16)
  (hq : ∀ i, ∃ x : ℝ, q i = x) (hkv : ∀ i, ∃ x : ℝ, kv i = x)

include hq hkv

theorem rQ_eq (r : Fin 8192) (l : Fin 1024) : rQ q kv d (ix2 r l) = DQ (n := 8192) q kv d r l := by
  have hl : l.val / 256 < 4 := by omega
  rw [rQ_at q kv d r l hl]
  unfold DQ dqAt
  exact Finset.sum_congr rfl fun j _ => by rw [dsQ_eq (hd q _ hl r) (hk kv _ hl) _ _ (fun _ => hq _) (fun _ _ => hkv _)]

theorem rK_eq (j : Fin 256) (l : Fin 1024) : rK q kv d (ix2 j l) = DKV (n := 8192) q kv d j ⟨l.val, by omega⟩ := by
  have hl : l.val / 256 < 4 := by omega
  rw [rK_at q kv d j l hl, DK_at q kv d (l.val / 256) hl ⟨l.val % 256, by omega⟩ j _ (by show l.val = l.val / 256 * 256 + l.val % 256; omega)]
  exact Finset.sum_congr rfl fun r _ => by rw [dsQ_eq (hd q _ hl r) (hk kv _ hl) _ _ (fun _ => hq _) (fun _ _ => hkv _)]

omit hq hkv in
theorem rV_eq (j : Fin 256) (l : Fin 1024) : rV q kv d (ix2 j l) = DKV (n := 8192) q kv d j ⟨1024 + l.val, by omega⟩ := by
  have hl : l.val / 256 < 4 := by omega
  rw [rV_at q kv d j l hl, DV_at q kv d (l.val / 256) hl ⟨l.val % 256, by omega⟩ j _ (by show 1024 + l.val = 1024 + (l.val / 256 * 256 + l.val % 256); omega)]
  exact Finset.sum_congr rfl fun r _ => mul_comm _ _

theorem rKV_eq (j : Fin 256) (l : Fin 2048) : rKV q kv d (ix2 j l) = DKV (n := 8192) q kv d j l := by
  rw [rKV_at]
  split
  · rw [rK_eq q kv d hq hkv]
  · rw [rV_eq]; congr 1; apply Fin.ext; simp only []; omega

end Arrays

variable (m : (ℓ : Loc nD τ sig) → Buf (Elt Ideal) ℓ) (c : Dev nD)

theorem res_q : Value.res_main_v69 (F := Ideal) m c
    = rQ (m ((c : Thread nD τ).loc main_arg0)) (m ((c : Thread nD τ).loc main_arg1)) (m ((c : Thread nD τ).loc main_arg2)) := by
  unfold Value.res_main_v69 rQ dsA nA dpA lA eA bA mA sA q3 k3 v3 dT
  iterate 40 (all_goals try (first | with_reducible rfl | congr 1))

theorem res_kv : Value.res_main_v67 (F := Ideal) m c
    = rKV (m ((c : Thread nD τ).loc main_arg0)) (m ((c : Thread nD τ).loc main_arg1)) (m ((c : Thread nD τ).loc main_arg2)) := by
  unfold Value.res_main_v67 rKV rK rV dsA nA dpA lA eA bA mA sA q3 k3 v3 dT
  iterate 40 (all_goals try (first | with_reducible rfl | congr 1))

end Cert.ReferenceIdeal.XA

end
-- ==== Proof.NormCore.lean ====
/- The mathematics of one row of the backward pass of the root-mean-square norm, over the extended reals: the gradient
   of the row as the kernel writes it, as differentiating the norm gives it, and the law that joins the two. -/
module

public import Idealize.ShloMosaic.Lib.Pointwise
public import Idealize.ShloMosaic.Lib.Claim
public import proofs.«01_k».proof.Proof.Core

@[expose] public section

noncomputable section

open Idealize.ShloMosaic

namespace Cert.Norm

/-- The number of columns, 1024, as the float word that both programs hold. -/
abbrev c1024 : EReal := Ideal.ofBits FTy.f32 0x44800000#32

/-- The norm's small constant, as its float word. -/
abbrev eps : EReal := Ideal.ofBits FTy.f32 0x358637BD#32

/-- Minus one half, as its float word. -/
abbrev mhalf : EReal := Ideal.ofBits FTy.f32 0xBF000000#32

/-- A row's mean square, with the small constant added. -/
def ms (x : Fin 1024 → EReal) : EReal := Ideal.div (∑ k, x k * x k) c1024 + eps

/-- The row's scale: one over the root of the mean square. -/
def rs (x : Fin 1024 → EReal) : EReal := Ideal.rsqrt (ms x)

/-- The gradient of a row, as the kernel writes it: `d` is the gradient of the normed row, `g` the gain. -/
def dxK (x g d : Fin 1024 → EReal) (j : Fin 1024) : EReal :=
  rs x * (d j * g j - x j * rs x * Ideal.div (∑ k, d k * g k * (x k * rs x)) c1024)

/-- The gradient of the mean square, spread over the row's columns. -/
def dms (x g d : Fin 1024 → EReal) : EReal :=
  Ideal.div ((∑ k, x k * (d k * g k)) * (mhalf * Ideal.div (rs x) (ms x))) c1024

/-- The gradient of a row, as differentiating the norm gives it. -/
def dxR (x g d : Fin 1024 → EReal) (j : Fin 1024) : EReal :=
  d j * g j * rs x + x j * dms x g d + dms x g d * x j

theorem c1024_eq : c1024 = ((1024 : ℝ) : EReal) := by
  simp [c1024, Ideal.ofBits, Ideal.ieee, -EReal.coe_mul]; norm_num

theorem mhalf_eq : mhalf = ((-1 / 2 : ℝ) : EReal) := by
  simp [mhalf, Ideal.ofBits, Ideal.ieee, -EReal.coe_mul]; norm_num

theorem eps_eq : ∃ e : ℝ, 0 < e ∧ eps = (e : EReal) := by
  refine ⟨(8796093 : ℝ) / 8796093022208, by norm_num, ?_⟩
  simp [eps, Ideal.ofBits, Ideal.ieee, -EReal.coe_mul]; norm_num

theorem div_1024 (a : EReal) : Ideal.div a c1024 = a * ((1 / 1024 : ℝ) : EReal) := by
  have h : ((1024 : ℝ) : EReal) ≠ 0 := by exact_mod_cast (by norm_num : (1024 : ℝ) ≠ 0)
  rw [c1024_eq, Ideal.div, if_neg h, ← EReal.coe_inv, one_div]

theorem square_nonneg (a : EReal) : 0 ≤ a * a := by
  rcases le_total 0 a with h | h
  · exact mul_nonneg h h
  · have h' : 0 ≤ -a := by simpa using EReal.neg_le_neg_iff.mpr h
    simpa using mul_nonneg h' h'

theorem square_sum_nonneg (x : Fin 1024 → EReal) : 0 ≤ ∑ k, x k * x k :=
  Finset.sum_nonneg fun k _ => square_nonneg (x k)

/-- The mean square is a positive real, or the row holds an infinity and it is one too. -/
theorem ms_cases (x : Fin 1024 → EReal) : ms x = ⊤ ∨ ∃ v : ℝ, 0 < v ∧ ms x = (v : EReal) := by
  obtain ⟨e, he, heq⟩ := eps_eq
  have hs := square_sum_nonneg x
  unfold ms
  rw [div_1024, heq]
  induction hx : (∑ k, x k * x k) using EReal.rec with
  | bot => rw [hx] at hs; exact absurd hs (by simp)
  | top =>
    left
    rw [EReal.top_mul_coe_of_pos (by norm_num)]
    exact EReal.top_add_coe e
  | coe a =>
    right
    rw [hx] at hs
    have ha : 0 ≤ a := by exact_mod_cast hs
    exact ⟨a * (1 / 1024) + e, by positivity, by push_cast; rfl⟩

theorem add_self (a : EReal) : a + a = a * ((2 : ℝ) : EReal) := by
  have h : ((2 : ℝ) : EReal) = 1 + 1 := by
    rw [← EReal.coe_one, ← EReal.coe_add]; norm_num
  rw [h, EReal.left_distrib_of_nonneg zero_le_one zero_le_one, mul_one]

/-- The two forms of the row's gradient agree, whatever the row, the gain and the gradient are. -/
theorem dx_eq (x g d : Fin 1024 → EReal) (j : Fin 1024) : dxK x g d j = dxR x g d j := by
  unfold dxK dxR dms
  simp only [div_1024, mhalf_eq]
  rcases ms_cases x with h | ⟨v, hv, h⟩
  · have hr : rs x = 0 := by rw [rs, h]; rfl
    have hd : Ideal.div (0 : EReal) ⊤ = 0 := by simp [Ideal.div]
    rw [hr, h, hd]
    simp
  · have hq : 0 < Real.sqrt v := Real.sqrt_pos.mpr hv
    have hr : rs x = (((Real.sqrt v)⁻¹ : ℝ) : EReal) := by
      rw [rs, h, Ideal.rsqrt_coe, if_neg (not_lt.mpr hv.le), if_neg hv.ne']
    have hd : Ideal.div (((Real.sqrt v)⁻¹ : ℝ) : EReal) (v : EReal) = (((Real.sqrt v)⁻¹ ^ 3 : ℝ) : EReal) := by
      have h0 : (v : EReal) ≠ 0 := by exact_mod_cast hv.ne'
      rw [Ideal.div, if_neg h0, ← EReal.coe_inv, ← EReal.coe_mul]
      congr 1
      have hi : v⁻¹ = (Real.sqrt v)⁻¹ * (Real.sqrt v)⁻¹ := by rw [← mul_inv, Real.mul_self_sqrt hv.le]
      rw [hi]; ring
    rw [hr, h, hd]
    set ρ : ℝ := (Real.sqrt v)⁻¹ with hρ
    have hp : 0 ≤ ρ := by positivity
    have hsum : (∑ k, d k * g k * (x k * (ρ : EReal))) = (∑ k, x k * (d k * g k)) * (ρ : EReal) := by
      rw [← Cert.XA.sum_mul_coe _ _ hp]
      exact Finset.sum_congr rfl fun k _ => by rw [← mul_assoc, mul_comm (d k * g k) (x k)]
    rw [hsum]
    generalize (∑ k, x k * (d k * g k)) = T
    rw [mul_comm _ (x j), add_assoc, add_self, sub_eq_add_neg,
      EReal.left_distrib_of_nonneg_of_ne_top (by exact_mod_cast hp) (EReal.coe_ne_top ρ)]
    congr 1
    · exact mul_comm _ _
    · have e1 : (ρ : EReal) * (x j * (ρ : EReal) * (T * (ρ : EReal) * ((1 / 1024 : ℝ) : EReal)))
          = x j * T * ((ρ * ρ * ρ * (1 / 1024) : ℝ) : EReal) := by
        simp only [EReal.coe_mul]; ac_rfl
      have e2 : x j * (T * (((-1 / 2 : ℝ) : EReal) * ((ρ ^ 3 : ℝ) : EReal)) * ((1 / 1024 : ℝ) : EReal)) * ((2 : ℝ) : EReal)
          = x j * T * ((-1 / 2 * ρ ^ 3 * (1 / 1024) * 2 : ℝ) : EReal) := by
        simp only [EReal.coe_mul]; ac_rfl
      rw [mul_neg, e1, e2, ← mul_neg, ← EReal.coe_neg]
      congr 2
      ring

end Cert.Norm

end
-- ==== Proof.NormBwd.lean ====
/- The first product's backward pass, in the layer's input and in the norm's gain: what the kernel leaves, and that the
   reference leaves the same. -/
module

public import proofs.«01_k».proof.Defs
public import proofs.«01_k».proof.Proof.NormCore
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel2Ideal.NormBwd

open Cert.Kernel2Ideal Cert.Kernel2Ideal.Gen

theorem pay1 (y : S1024x1024.Idx) : k0_pay1 (F := Ideal) y = 0 := by
  unfold k0_pay1; pointwise

theorem pay2 (o : Vec Ideal S1024x1024 .f32) (a : Vec Ideal S1024x1408 .bf16) (w : Vec Ideal S1x1024x1408 .bf16) (r j : Fin 1024) :
    k0_pay2 (F := Ideal) o a w (ix2 r j) = o (ix2 r j) + ∑ e : Fin 1408, a (ix2 r e) * w (ix3 0 j e) := by
  unfold k0_pay2; pointwise

theorem pay3 (x : Vec Ideal S1024x1024 .f32) (r : Fin 1024) :
    k0_pay3 (F := Ideal) x (ix2 r 0) = Cert.Norm.rs fun k => x (ix2 r k) := by
  unfold k0_pay3; pointwise; rfl

theorem pay4 (x : Vec Ideal S1024x1024 .f32) (r j : Fin 1024) :
    k0_pay4 (F := Ideal) x (ix2 r j) = x (ix2 r j) * Cert.Norm.rs fun k => x (ix2 r k) := by
  unfold k0_pay4; pointwise; rw [pay3]

theorem pay5 (x : Vec Ideal S1024x1024 .f32) (g : Vec Ideal S1x1024 .f32) (d s : Vec Ideal S1024x1024 .f32) (r j : Fin 1024) :
    k0_pay5 (F := Ideal) x g d s (ix2 r j)
      = s (ix2 r j) + Cert.Norm.dxK (fun k => x (ix2 r k)) (fun k => g (ix2 0 k)) (fun k => d (ix2 r k)) j := by
  unfold k0_pay5; pointwise; simp only [pay3, pay4]; rfl

theorem pay6 (y : S1x1024.Idx) : k0_pay6 (F := Ideal) y = 0 := by
  unfold k0_pay6; pointwise

theorem pay7 (x d : Vec Ideal S1024x1024 .f32) (o : Vec Ideal S1x1024 .f32) (j : Fin 1024) :
    k0_pay7 (F := Ideal) x d o (ix2 0 j)
      = o (ix2 0 j) + ∑ r : Fin 1024, d (ix2 r j) * (x (ix2 r j) * Cert.Norm.rs fun k => x (ix2 r k)) := by
  unfold k0_pay7; pointwise; simp only [pay4]

theorem idx : ∀ t : Fin cfg0.N, win0_0.index t = ![t.val / 4, t.val % 4] ∧ win0_1.index t = ![0, 0, t.val % 4]
    ∧ win0_2.index t = ![t.val / 4, 0] ∧ win0_3.index t = ![0, 0] ∧ win0_4.index t = ![t.val / 4, 0]
    ∧ win0_5.index t = ![t.val / 4, 0] ∧ win0_6.index t = ![0, 0] :=
  (by decide +kernel : ∀ t : Fin grid0.N, _)

/-- One tile of columns' part of the product. -/
def part (a : Vec Ideal S1024x1408 .bf16) (w : Vec Ideal S1x1024x1408 .bf16) (y : S1024x1024.Idx) : EReal :=
  ∑ e : Fin 1408, a (ix2 (y 0) e) * w (ix3 0 (y 1) e)

theorem spointA (c : Dev nD) (i : grid0.Coords) (a2 h2 a3 h3 a4 h4 a5 h5 a6 h6 a7 h7 a8 h8 a9 h9 hc0 hc1)
    (b0 : Vec Ideal S1024x1408 .bf16) (b1 : Vec Ideal S1x1024x1408 .bf16) (b2 : Vec Ideal S1024x1024 .f32) (b3 : Vec Ideal S1x1024 .f32)
    (b4 : Vec Ideal S1024x1024 .f32) (y : S1024x1024.Idx) :
    sout0_A_0 (F := Ideal) c i a2 h2 a3 h3 a4 h4 a5 h5 a6 h6 a7 h7 a8 h8 a9 h9 hc0 hc1 b0 b1 b2 b3 b4 y = part b0 b1 y := by
  frame_out
  idx_vars y
  rw [pay2, pay1, zero_add]; rfl

theorem spointB (c : Dev nD) (i : grid0.Coords) (a2 h2 a3 h3 a4 h4 a5 h5 a6 h6 a7 h7 a8 h8 a9 h9 hc0 hc1)
    (b0 : Vec Ideal S1024x1408 .bf16) (b1 : Vec Ideal S1x1024x1408 .bf16) (b2 : Vec Ideal S1024x1024 .f32) (b3 : Vec Ideal S1x1024 .f32)
    (b4 s : Vec Ideal S1024x1024 .f32) (y : S1024x1024.Idx) :
    sout0_B_0 (F := Ideal) c i a2 h2 a3 h3 a4 h4 a5 h5 a6 h6 a7 h7 a8 h8 a9 h9 hc0 hc1 b0 b1 b2 b3 b4 s y = s y + part b0 b1 y := by
  frame_out
  idx_vars y
  rw [pay2]; rfl

theorem spointC (c : Dev nD) (i : grid0.Coords) (a2 h2 a3 h3 a4 h4 a5 h5 a6 h6 a7 h7 a8 h8 a9 h9 hc0 hc1 hc2)
    (b0 : Vec Ideal S1024x1408 .bf16) (b1 : Vec Ideal S1x1024x1408 .bf16) (b2 : Vec Ideal S1024x1024 .f32) (b3 : Vec Ideal S1x1024 .f32)
    (b4 s : Vec Ideal S1024x1024 .f32) :
    sout0_C_0 (F := Ideal) c i a2 h2 a3 h3 a4 h4 a5 h5 a6 h6 a7 h7 a8 h8 a9 h9 hc0 hc1 hc2 b0 b1 b2 b3 b4 s = k0_pay2 s b0 b1 := by
  funext y
  frame_out

theorem spointD (c : Dev nD) (i : grid0.Coords) (a2 h2 a3 h3 a4 h4 a5 h5 a6 h6 a7 h7 a8 h8 a9 h9 hc0 hc1 hc2)
    (b0 : Vec Ideal S1024x1408 .bf16) (b1 : Vec Ideal S1x1024x1408 .bf16) (b2 : Vec Ideal S1024x1024 .f32) (b3 : Vec Ideal S1x1024 .f32)
    (b4 : Vec Ideal S1024x1024 .f32) (o : Vec Ideal S1x1024 .f32) (s : Vec Ideal S1024x1024 .f32) :
    sout0_D_0 (F := Ideal) c i a2 h2 a3 h3 a4 h4 a5 h5 a6 h6 a7 h7 a8 h8 a9 h9 hc0 hc1 hc2 b0 b1 b2 b3 b4 o s = k0_pay2 s b0 b1 := by
  funext y
  frame_out

theorem pointC5 (c : Dev nD) (i : grid0.Coords) (a2 h2 a3 h3 a4 h4 a5 h5 a6 h6 a7 h7 a8 h8 a9 h9 hc0 hc1 hc2)
    (b0 : Vec Ideal S1024x1408 .bf16) (b1 : Vec Ideal S1x1024x1408 .bf16) (b2 : Vec Ideal S1024x1024 .f32) (b3 : Vec Ideal S1x1024 .f32)
    (b4 s : Vec Ideal S1024x1024 .f32) :
    out0_C_5 (F := Ideal) c i a2 h2 a3 h3 a4 h4 a5 h5 a6 h6 a7 h7 a8 h8 a9 h9 hc0 hc1 hc2 b0 b1 b2 b3 b4 s
      = k0_pay5 b2 b3 (k0_pay2 s b0 b1) b4 := by
  funext y
  frame_out

theorem pointD5 (c : Dev nD) (i : grid0.Coords) (a2 h2 a3 h3 a4 h4 a5 h5 a6 h6 a7 h7 a8 h8 a9 h9 hc0 hc1 hc2)
    (b0 : Vec Ideal S1024x1408 .bf16) (b1 : Vec Ideal S1x1024x1408 .bf16) (b2 : Vec Ideal S1024x1024 .f32) (b3 : Vec Ideal S1x1024 .f32)
    (b4 : Vec Ideal S1024x1024 .f32) (o : Vec Ideal S1x1024 .f32) (s : Vec Ideal S1024x1024 .f32) :
    out0_D_5 (F := Ideal) c i a2 h2 a3 h3 a4 h4 a5 h5 a6 h6 a7 h7 a8 h8 a9 h9 hc0 hc1 hc2 b0 b1 b2 b3 b4 o s
      = k0_pay5 b2 b3 (k0_pay2 s b0 b1) b4 := by
  funext y
  frame_out

theorem pointC6 (c : Dev nD) (i : grid0.Coords) (a2 h2 a3 h3 a4 h4 a5 h5 a6 h6 a7 h7 a8 h8 a9 h9 hc0 hc1 hc2)
    (b0 : Vec Ideal S1024x1408 .bf16) (b1 : Vec Ideal S1x1024x1408 .bf16) (b2 : Vec Ideal S1024x1024 .f32) (b3 : Vec Ideal S1x1024 .f32)
    (b4 s : Vec Ideal S1024x1024 .f32) :
    out0_C_6 (F := Ideal) c i a2 h2 a3 h3 a4 h4 a5 h5 a6 h6 a7 h7 a8 h8 a9 h9 hc0 hc1 hc2 b0 b1 b2 b3 b4 s
      = k0_pay7 b2 (k0_pay2 s b0 b1) (k0_pay6 (F := Ideal)) := by
  funext y
  frame_out

theorem pointD6 (c : Dev nD) (i : grid0.Coords) (a2 h2 a3 h3 a4 h4 a5 h5 a6 h6 a7 h7 a8 h8 a9 h9 hc0 hc1 hc2)
    (b0 : Vec Ideal S1024x1408 .bf16) (b1 : Vec Ideal S1x1024x1408 .bf16) (b2 : Vec Ideal S1024x1024 .f32) (b3 : Vec Ideal S1x1024 .f32)
    (b4 : Vec Ideal S1024x1024 .f32) (o : Vec Ideal S1x1024 .f32) (s : Vec Ideal S1024x1024 .f32) :
    out0_D_6 (F := Ideal) c i a2 h2 a3 h3 a4 h4 a5 h5 a6 h6 a7 h7 a8 h8 a9 h9 hc0 hc1 hc2 b0 b1 b2 b3 b4 o s
      = k0_pay7 b2 (k0_pay2 s b0 b1) o := by
  funext y
  frame_out

variable (m : (ℓ : Loc nD τ sig) → Buf (Elt Ideal) ℓ) (c : Dev nD)

/-- The product's gradient, the stack of the layers' weights, the layer's input, the gain, and the gradient that the
    residual path brings, as launched. -/
abbrev aU : FVec Ideal S8192x5632 .bf16 := m ((c : Thread nD τ).loc main_arg0)
abbrev aW : FVec Ideal S4x1024x5632 .bf16 := m ((c : Thread nD τ).loc main_arg1)
abbrev aX : FVec Ideal S8192x1024 .f32 := m ((c : Thread nD τ).loc main_arg2)
abbrev aG : FVec Ideal S1x1024 .f32 := m ((c : Thread nD τ).loc main_arg3)
abbrev aR : FVec Ideal S8192x1024 .f32 := m ((c : Thread nD τ).loc main_arg4)

/-- Row `r` of the tile of rows that point `t` works on, among all rows. -/
abbrev tr (t : Fin cfg0.N) (r : Fin 1024) : Fin 8192 :=
  ⟨t.val / 4 * 1024 + r.val, by have := lt_of_lt_of_eq t.isLt (show cfg0.N = 32 from N_0); omega⟩

theorem blk2 (t : Fin cfg0.N) (r e : Fin 1024) : iblk m c 2 t (ix2 r e) = aX m c (ix2 (tr t r) e) := by
  blk_point [iblk, V, idx t]

theorem blk3 (t : Fin cfg0.N) (e : Fin 1024) : iblk m c 3 t (ix2 0 e) = aG m c (ix2 0 e) := by
  blk_point [iblk, V, idx t]

theorem blk4 (t : Fin cfg0.N) (r e : Fin 1024) : iblk m c 4 t (ix2 r e) = aR m c (ix2 (tr t r) e) := by
  blk_point [iblk, V, idx t]

/-- The gradient of the normed input. -/
def dh (r : Fin 8192) (j : Fin 1024) : EReal := ∑ e : Fin 5632, aU m c (ix2 r e) * aW m c (ix3 0 j e)

/-- The gradient of the layer's input, as an array. -/
def out5 : S8192x1024.Idx → EReal := fun i =>
  aR m c i + Cert.Norm.dxK (fun k => aX m c (ix2 (i 0) k)) (fun k => aG m c (ix2 0 k)) (dh m c (i 0)) (i 1)

/-- One row's part of the gain's gradient. -/
def gpart (r : Fin 8192) (j : Fin 1024) : EReal :=
  dh m c r j * (aX m c (ix2 r j) * Cert.Norm.rs fun k => aX m c (ix2 r k))

/-- The gradient of the gain, as an array. -/
def out6 : S1x1024.Idx → EReal := fun i => ∑ r : Fin 8192, gpart m c r (i 1)

/-- What the accumulator holds after a point that ends a tile of rows: the gradient of the normed input. -/
theorem acc_eq (t : Fin cfg0.N) (ht : t.val % 4 = 4 - 1) (r j : Fin 1024) :
    (outsAt0 m c t.val t.isLt).2.2 (ix2 r j) = dh m c (tr t r) j := by
  have hN := lt_of_lt_of_eq t.isLt (show cfg0.N = 32 from N_0)
  refine (Pipeline.eq_sum_fin_of_reset_step_apply_of_flush (fun n h => (outsAt0 m c n h).2.2) 4 (fun _ => 0)
    (fun t y => part (iblk m c 0 t) (iblk m c 1 t) y)
    (fun t h y => ?_) (fun t h y => ?_) t ht (ix2 r j)).trans ?_
  · rw [outsAt0_A m c t h (by omega)]; dsimp only; rw [spointA, zero_add]
  · by_cases h3 : t.val % 4 = 3
    · by_cases h4 : t.val < 4
      · rw [outsAt0_C m c t h h3 h4]; dsimp only; rw [spointC]; idx_vars y; rw [pay2]; rfl
      · rw [outsAt0_D m c t h h3 h4]; dsimp only; rw [spointD]; idx_vars y; rw [pay2]; rfl
    · rw [outsAt0_B m c t h h3]; dsimp only; rw [spointB]
  · rw [zero_add]
    unfold dh part
    refine Fin.sum_mul_add_congr (fun s k hl => ?_) rfl
    congr 1
    · blk_point [iblk, V, idx ⟨4 * (t.val / 4) + s.val, Pipeline.run_point_lt_of_flush t ht s⟩]
    · blk_point [iblk, V, idx ⟨4 * (t.val / 4) + s.val, Pipeline.run_point_lt_of_flush t ht s⟩]

/-- The block of the input's gradient, at a point that ends a tile of rows, from the accumulator after the point. -/
theorem o5_eq (t : Fin cfg0.N) (h3 : t.val % 4 = 3) :
    (outsAt0 m c t.val t.isLt).1 = k0_pay5 (iblk m c 2 t) (iblk m c 3 t) (outsAt0 m c t.val t.isLt).2.2 (iblk m c 4 t) := by
  by_cases h4 : t.val < 4
  · rw [outsAt0_C m c t (by omega) h3 h4]; dsimp only; rw [pointC5, spointC]
  · rw [outsAt0_D m c t (by omega) h3 h4]; dsimp only; rw [pointD5, spointD]

theorem emb5 (t : Fin cfg0.N) (y : S1024x1024.Idx) :
    out5 m c (ix2 (tr t (y 0)) (y 1)) = out5 m c (((View.whole main_v0_0).slice (win0_5.rect t)).emb y) := by
  idx_vars y
  blk_ext [idx t]

theorem final5 : (dats m 0 c).arrAt 5 cfg0.N = out5 m c := by
  refine (dats m 0 c).arrAt_eq_of_covers 5 _ (by decide +kernel) fun t hf y => ?_
  blk_simp
  have ht := (flush0_5 t).mp hf
  rw [after0_5]
  refine Eq.trans ?_ (emb5 m c t y)
  rw [o5_eq m c t ht]
  idx_vars y
  refine (pay5 _ _ _ _ y0 y1).trans ?_
  simp only [blk2, blk3, blk4, acc_eq m c t ht]
  rfl

/-- A point that ends no tile of rows leaves the gain's gradient as it was. -/
theorem keep6 (t : Fin cfg0.N) (h3 : ¬t.val % 4 = 3) :
    (outsAt0 m c t.val t.isLt).2.1 = (outsAt0 m c (t.val - 1) (Nat.lt_of_le_of_lt (Nat.sub_le _ _) t.isLt)).2.1 := by
  by_cases h0 : t.val % 4 = 0
  · rw [outsAt0_A m c t h0 h3]; rfl
  · rw [outsAt0_B m c t h0 h3]; rfl

/-- The gain's gradient after the point that ends tile of rows `n`. -/
def g6 (n : Nat) (h : n < 8) : S1x1024.Idx → EReal :=
  (outsAt0 m c (4 * n + 3) (lt_of_lt_of_eq (by omega) (show 32 = cfg0.N from N_0.symm))).2.1

/-- A tile of rows' part of the gain's gradient. -/
def tpart (n : Fin 8) (j : S1x1024.Idx) : EReal := ∑ r : Fin 1024, gpart m c ⟨n.val * 1024 + r.val, by omega⟩ (j 1)

theorem lt_N {a : Nat} (h : a < 32) : a < cfg0.N := lt_of_lt_of_eq h (show 32 = cfg0.N from N_0.symm)

/-- The point that ends tile of rows `n`. -/
abbrev lastPt (n : Fin 8) : Fin cfg0.N := ⟨4 * n.val + 3, lt_N (by omega)⟩

theorem lastPt_mod (n : Fin 8) : (lastPt n).val % 4 = 3 := by show (4 * n.val + 3) % 4 = 3; omega

theorem tr_lastPt (n : Fin 8) (r : Fin 1024) : tr (lastPt n) r = (⟨n.val * 1024 + r.val, by omega⟩ : Fin 8192) := by
  apply Fin.ext
  show (4 * n.val + 3) / 4 * 1024 + r.val = n.val * 1024 + r.val
  omega

theorem pay7_last (n : Fin 8) (o : Vec Ideal S1x1024 .f32) (j : S1x1024.Idx) :
    k0_pay7 (F := Ideal) (iblk m c 2 (lastPt n)) (outsAt0 m c (lastPt n).val (lastPt n).isLt).2.2 o j = o j + tpart m c n j := by
  idx_vars j
  obtain rfl : j0 = 0 := Subsingleton.elim _ _
  refine (pay7 _ _ _ j1).trans ?_
  simp only [blk2, acc_eq m c (lastPt n) (lastPt_mod n), tr_lastPt]
  rfl

theorem g6_zero (n : Fin 8) (hn : n.val % 8 = 0) (j : S1x1024.Idx) : g6 m c n.val n.isLt j = 0 + tpart m c n j := by
  have e2 : (outsAt0 m c (lastPt n).val (lastPt n).isLt).2.1
      = k0_pay7 (iblk m c 2 (lastPt n)) (outsAt0 m c (lastPt n).val (lastPt n).isLt).2.2 (k0_pay6 (F := Ideal)) := by
    have h3 := lastPt_mod n
    rw [outsAt0_C m c (lastPt n) (by omega) h3 (by show 4 * n.val + 3 < 4; omega)]; dsimp only; rw [pointC6, spointC]
  refine (congrFun e2 j).trans ((pay7_last m c n _ j).trans ?_)
  rw [pay6]

theorem keep_run (n : Nat) (hn : n < 7) (h : 4 * n + 6 < cfg0.N) : (outsAt0 m c (4 * n + 6) h).2.1 = g6 m c n (by omega) := by
  have k2 := keep6 m c ⟨4 * n + 6, lt_N (by omega)⟩ (by show ¬(4 * n + 6) % 4 = 3; omega)
  have k1 := keep6 m c ⟨4 * n + 5, lt_N (by omega)⟩ (by show ¬(4 * n + 5) % 4 = 3; omega)
  have k0 := keep6 m c ⟨4 * n + 4, lt_N (by omega)⟩ (by show ¬(4 * n + 4) % 4 = 3; omega)
  exact k2.trans (k1.trans k0)

theorem g6_step (n : Fin 8) (hn : ¬n.val % 8 = 0) (j : S1x1024.Idx) :
    g6 m c n.val n.isLt j = g6 m c (n.val - 1) (Nat.lt_of_le_of_lt (Nat.sub_le _ _) n.isLt) j + tpart m c n j := by
  have hlt := n.isLt
  have h3 := lastPt_mod n
  have e2 : (outsAt0 m c (lastPt n).val (lastPt n).isLt).2.1
      = k0_pay7 (iblk m c 2 (lastPt n)) (outsAt0 m c (lastPt n).val (lastPt n).isLt).2.2
        (outsAt0 m c ((lastPt n).val - 1) (Nat.lt_of_le_of_lt (Nat.sub_le _ _) (lastPt n).isLt)).2.1 := by
    rw [outsAt0_D m c (lastPt n) (by omega) h3 (by show ¬4 * n.val + 3 < 4; omega)]; dsimp only; rw [pointD6, spointD]
  have e : (lastPt n).val - 1 = 4 * (n.val - 1) + 6 := by show 4 * n.val + 3 - 1 = _; omega
  refine (congrFun e2 j).trans ((pay7_last m c n _ j).trans ?_)
  have hk := keep_run m c (n.val - 1) (by omega) (lt_N (by omega))
  simp only [e, hk]

theorem sum6 (n : Fin 8) (hn : n.val + 1 = 8) (j : S1x1024.Idx) : g6 m c n.val n.isLt j = out6 m c j := by
  refine (Pipeline.eq_sum_fin_of_reset_step_apply_last (N := 8) (g6 m c) 8 (fun _ => 0) (tpart m c) (g6_zero m c) (g6_step m c)
    (le_refl 8) n hn j).trans ?_
  rw [zero_add]
  unfold tpart out6
  exact Fin.sum_mul_add_congr (f := fun r => gpart m c r (j 1)) (fun s k hl => rfl) rfl

theorem outs_congr {a b : Nat} (h : a = b) (ha : a < cfg0.N) (hb : b < cfg0.N) : outsAt0 m c a ha = outsAt0 m c b hb := by
  subst h; rfl

theorem last6 (t : Fin cfg0.N) (ht : t.val % 32 = 31) : (outsAt0 m c t.val t.isLt).2.1 = out6 m c := by
  have hN := lt_of_lt_of_eq t.isLt (show cfg0.N = 32 from N_0)
  have e : t.val = 4 * (t.val / 4) + 3 := by omega
  funext j
  rw [outs_congr m c e t.isLt (lt_of_eq_of_lt e.symm t.isLt)]
  exact sum6 m c ⟨t.val / 4, by omega⟩ (by show t.val / 4 + 1 = 8; omega) j

theorem emb6 (t : Fin cfg0.N) (y : S1x1024.Idx) :
    out6 m c y = out6 m c (((View.whole main_v0_1).slice (win0_6.rect t)).emb y) := by
  idx_vars y
  congr 1
  blk_ext [idx t]

theorem final6 : (dats m 0 c).arrAt 6 cfg0.N = out6 m c := by
  refine (dats m 0 c).arrAt_eq_of_covers 6 _ (by decide +kernel) fun t hf y => ?_
  blk_simp
  rw [after0_6, last6 m c t ((flush0_6 t).mp hf)]
  exact emb6 m c t y

end Cert.Kernel2Ideal.NormBwd

namespace Cert.Reference2Ideal.NormBwd

open Cert.Reference2Ideal Cert.Reference2Ideal.Gen

variable (u : FVec Ideal S8192x5632 .bf16) (w : FVec Ideal S4x1024x5632 .bf16) (x : FVec Ideal S8192x1024 .f32)
  (g : FVec Ideal S1x1024 .f32) (s : FVec Ideal S8192x1024 .f32)

/-- The gradient of the normed input. -/
def dhA : FVec Ideal S8192x1024 .f32 :=
  Host.dotGeneral dot_S8192x5632_S1024x5632_S8192x1024_1_1_0_0_n_n none (extf .f32 u bitsLt_bf16_f32)
    (extf .f32 (shapeCast _ (extractStridedSlice S1x1024x5632 ![0, 0, 0] w slices_S4x1024x5632_S1x1024x5632_0_0_0) shapeCasts_S1x1024x5632_S1024x5632) bitsLt_bf16_f32)

theorem dhA_at (r : Fin 8192) (j : Fin 1024) : dhA u w (ix2 r j) = ∑ e : Fin 5632, u (ix2 r e) * w (ix3 0 j e) := by
  unfold dhA; pointwise

/-- The gradient of the normed input, times the gain. -/
def duA : FVec Ideal S8192x1024 .f32 :=
  mulf (dhA u w) (broadcastInDim S8192x1024 ![0, 1] bcast_S1x1024_S8192x1024_0_1 (broadcastInDim S1x1024 ![1] bcast_S1024_S1x1024_1 (shapeCast _ g shapeCasts_S1x1024_S1024)))

theorem duA_at (r : Fin 8192) (j : Fin 1024) : duA u w g (ix2 r j) = dhA u w (ix2 r j) * g (ix2 0 j) := by
  unfold duA; pointwise

/-- The rows' mean squares, with the small constant added. -/
def msA : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

theorem msA_at (r : Fin 8192) : msA x (ix2 r 0) = Cert.Norm.ms fun k => x (ix2 r k) := by
  unfold msA; pointwise; rfl

/-- The rows' scales. -/
def rsA : FVec Ideal S8192x1024 .f32 := broadcastInDim S8192x1024 ![0, 1] bcast_S8192x1_S8192x1024_0_1 (Host.rsqrt (msA x))

theorem rsA_at (r : Fin 8192) (j : Fin 1024) : rsA x (ix2 r j) = Cert.Norm.rs fun k => x (ix2 r k) := by
  unfold rsA; pointwise; rw [msA_at]; rfl

/-- The gradient of the mean squares, spread over the columns. -/
def dmA : FVec Ideal S8192x1024 .f32 :=
  broadcastInDim S8192x1024 ![0] bcast_S8192_S8192x1024_0 (Host.reduceAdd (Host.divf (mulf (shapeCast _ (Host.reduceAdd (mulf x (duA u w g)) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (msA x)) (msA x)))) (broadcastInDim S8192x1 ![] bcast_S_S8192x1 (constant S_ .f32 0x44800000#32))) (constant S_ .f32 0x00000000#32) reducesTo_S8192x1_S8192_d1 h_S_)

theorem dmA_at (r : Fin 8192) (j : Fin 1024) :
    dmA u w x g (ix2 r j) = Cert.Norm.dms (fun k => x (ix2 r k)) (fun k => g (ix2 0 k)) fun k => dhA u w (ix2 r k) := by
  unfold dmA; pointwise
  refine (Fintype.sum_subsingleton _ (0 : Fin 1)).trans ?_
  simp only [msA_at, duA_at]; rfl

/-- The gradient of the layer's input. -/
def dxA : FVec Ideal S8192x1024 .f32 :=
  addf s (addf (addf (mulf (duA u w g) (rsA x)) (mulf x (dmA u w x g))) (mulf (dmA u w x g) x))

theorem dxA_at (r : Fin 8192) (j : Fin 1024) :
    dxA u w x g s (ix2 r j)
      = s (ix2 r j) + Cert.Norm.dxR (fun k => x (ix2 r k)) (fun k => g (ix2 0 k)) (fun k => ∑ e : Fin 5632, u (ix2 r e) * w (ix3 0 k e)) j := by
  unfold dxA; pointwise; simp only [duA_at, rsA_at, dmA_at, dhA_at]; rfl

theorem res_eq (m : (ℓ : Loc nD τ sig) → Buf (Elt Ideal) ℓ) (c : Dev nD) :
    Cert.Reference2Ideal.Value.res_main_v44 (F := Ideal) m c
      = dxA (m ((c : Thread nD τ).loc main_arg0)) (m ((c : Thread nD τ).loc main_arg1)) (m ((c : Thread nD τ).loc main_arg2))
        (m ((c : Thread nD τ).loc main_arg3)) (m ((c : Thread nD τ).loc main_arg4)) := by
  unfold Cert.Reference2Ideal.Value.res_main_v44 dxA
  iterate 40 (all_goals try (first | with_reducible rfl | congr 1))

/-- The gradient of the gain. -/
def dgA : FVec Ideal S1x1024 .f32 :=
  broadcastInDim S1x1024 ![1] bcast_S1024_S1x1024_1 (Host.reduceAdd (shapeCast _ (Host.reduceAdd (mulf (mulf x (rsA x)) (dhA u w)) (constant S_ .f32 0x00000000#32) reducesTo_S8192x1024_S1024_d0 h_S_) shapeCasts_S1024_S1x1024) (constant S_ .f32 0x00000000#32) reducesTo_S1x1024_S1024_d0 h_S_)

theorem dgA_at (j : Fin 1024) :
    dgA u w x (ix2 0 j)
      = ∑ r : Fin 8192, (∑ e : Fin 5632, u (ix2 r e) * w (ix3 0 j e)) * (x (ix2 r j) * Cert.Norm.rs fun k => x (ix2 r k)) := by
  unfold dgA; pointwise
  refine (Fintype.sum_subsingleton _ (0 : Fin 1)).trans ?_
  simp only [rsA_at, dhA_at]
  exact Finset.sum_congr rfl fun r _ => mul_comm _ _

end Cert.Reference2Ideal.NormBwd

namespace Cert.NormBwd

theorem reference : Cert.quiescent_Reference2Ideal := fun m g _ =>
  (θ_run Cert.Reference2Ideal.defs _ _).mono (fun r h => ⟨fun c => (h c).2.2, sem_eq_zero_of_no_sems (by decide) r.2⟩)
    (Cert.Reference2Ideal.Value.run m g)

/-- The two programs leave the same two arrays. -/
theorem algebraic : Cert.algebraic_Kernel2Ideal_Reference2Ideal := by
  pair_intro
  · run_from Cert.Kernel2Ideal.Value.run_blocks m g
  · refine (θ_run Cert.Reference2Ideal.defs _ _).mono (fun r h c => ?_) (Cert.Reference2Ideal.Value.run m' g')
    obtain ⟨e0, e1, e2, e3, e4⟩ := hagree c
    obtain ⟨h1, h2, h3⟩ := h c
    refine ⟨h1.trans ?_, h2.trans ?_, h3⟩
    · rw [Cert.Kernel2Ideal.NormBwd.final5, Cert.Reference2Ideal.NormBwd.res_eq, e0, e1, e2, e3, e4]
      funext i
      idx_vars i
      refine (Cert.Reference2Ideal.NormBwd.dxA_at _ _ _ _ _ i0 i1).trans ?_
      exact congrArg (fun z : EReal => HAdd.hAdd (α := EReal) _ z) (Cert.Norm.dx_eq _ _ _ _).symm
    · rw [Cert.Kernel2Ideal.NormBwd.final6, e0, e1, e2]
      funext i
      idx_vars i
      obtain rfl : i0 = 0 := Subsingleton.elim _ _
      exact Cert.Reference2Ideal.NormBwd.dgA_at _ _ _ i1

end Cert.NormBwd

end
-- ==== Proof.UpDw.lean ====
/- The first product's backward pass, in its weights: what the kernel leaves, and that the reference leaves the same. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel3Ideal.UpDw

open Cert.Kernel3Ideal Cert.Kernel3Ideal.Gen

theorem pay1 (y : S1x1024x1408.Idx) : k0_pay1 (F := Ideal) y = 0 := by
  unfold k0_pay1; pointwise

theorem pay2 (o : Vec Ideal S1x1024x1408 .f32) (a : Vec Ideal S2048x1024 .bf16) (g : Vec Ideal S2048x1408 .bf16) (r : Fin 1024) (j : Fin 1408) :
    k0_pay2 (F := Ideal) o a g (ix3 0 r j) = o (ix3 0 r j) + ∑ e : Fin 2048, a (ix2 e r) * g (ix2 e j) := by
  unfold k0_pay2; pointwise

theorem idx : ∀ t : Fin cfg0.N, win0_0.index t = ![t.val % 4, 0] ∧ win0_1.index t = ![t.val % 4, t.val / 4]
    ∧ win0_2.index t = ![0, 0, t.val / 4] :=
  (by decide +kernel : ∀ t : Fin grid0.N, _)

/-- One tile of rows' part of the gradient. -/
def part (a : Vec Ideal S2048x1024 .bf16) (g : Vec Ideal S2048x1408 .bf16) (y : S1x1024x1408.Idx) : EReal :=
  ∑ e : Fin 2048, a (ix2 e (y 1)) * g (ix2 e (y 2))

theorem pointA (c : Dev nD) (i : grid0.Coords) (a1 h1 a2 h2 a3 h3 hc) (b0 : Vec Ideal S2048x1024 .bf16) (b1 : Vec Ideal S2048x1408 .bf16)
    (y : S1x1024x1408.Idx) : out0_A_2 (F := Ideal) c i a1 h1 a2 h2 a3 h3 hc b0 b1 y = part b0 b1 y := by
  frame_out
  idx_vars y
  obtain rfl : y0 = 0 := Subsingleton.elim _ _
  rw [pay2, pay1, zero_add]; rfl

theorem pointB (c : Dev nD) (i : grid0.Coords) (a1 h1 a2 h2 a3 h3 hc) (b0 : Vec Ideal S2048x1024 .bf16) (b1 : Vec Ideal S2048x1408 .bf16)
    (b2 : Vec Ideal S1x1024x1408 .f32) (y : S1x1024x1408.Idx) :
    out0_B_2 (F := Ideal) c i a1 h1 a2 h2 a3 h3 hc b0 b1 b2 y = b2 y + part b0 b1 y := by
  frame_out
  idx_vars y
  obtain rfl : y0 = 0 := Subsingleton.elim _ _
  rw [pay2]; rfl

variable (m : (ℓ : Loc nD τ sig) → Buf (Elt Ideal) ℓ) (c : Dev nD)

/-- The normed input, the product's gradient, and the stack of the layers' gradients, as launched. -/
abbrev aH : FVec Ideal S8192x1024 .bf16 := m ((c : Thread nD τ).loc main_arg0)
abbrev aU : FVec Ideal S8192x5632 .bf16 := m ((c : Thread nD τ).loc main_arg1)
abbrev aS : FVec Ideal S4x1024x5632 .f32 := m ((c : Thread nD τ).loc main_arg2)

/-- The stack with the first layer's gradient put in, as an array. -/
def out : S4x1024x5632.Idx → EReal := fun i =>
  if (i 0).val = 0 then ∑ e : Fin 8192, aH m c (ix2 e (i 1)) * aU m c (ix2 e (i 2)) else aS m c i

theorem run_sum (t : Fin cfg0.N) (ht : t.val % 4 = 4 - 1) (y : S1x1024x1408.Idx) :
    ∑ s : Fin 4, part (iblk m c 0 ⟨4 * (t.val / 4) + s.val, Pipeline.run_point_lt_of_flush t ht s⟩)
      (iblk m c 1 ⟨4 * (t.val / 4) + s.val, Pipeline.run_point_lt_of_flush t ht s⟩) y
      = out m c (((View.whole main_v0).slice (win0_2.rect t)).emb y) := by
  have hN := lt_of_lt_of_eq t.isLt (show cfg0.N = 16 from N_0)
  idx_vars y
  have e : ((View.whole main_v0).slice (win0_2.rect t)).emb (ix3 y0 y1 y2)
      = (ix3 0 y1 ⟨t.val / 4 * 1408 + y2.val, by omega⟩ : S4x1024x5632.Idx) := by
    obtain rfl : y0 = 0 := Subsingleton.elim _ _
    blk_ext [idx t]
  refine Eq.trans ?_ (congrArg (out m c) e).symm
  show _ = ∑ e : Fin 8192, aH m c (ix2 e y1) * aU m c (ix2 e ⟨t.val / 4 * 1408 + y2.val, by omega⟩)
  unfold part
  refine Fin.sum_mul_add_congr (fun s k hl => ?_) rfl
  congr 1
  · blk_point [iblk, V, idx ⟨4 * (t.val / 4) + s.val, Pipeline.run_point_lt_of_flush t ht s⟩]
  · blk_point [iblk, V, idx ⟨4 * (t.val / 4) + s.val, Pipeline.run_point_lt_of_flush t ht s⟩]

theorem final : (dats m 0 c).arrAt 2 cfg0.N = out m c := by
  refine (dats m 0 c).arrAt_eq_of_coversWhere_of_agree 2 _ (fun β => β (0 : Fin 3) = 0) (by decide +kernel) (fun t hf y => ?_) (fun j hj => ?_)
  · blk_simp
    have ht := (flush0_2 t).mp hf
    rw [after0_2, Pipeline.eq_sum_fin_of_reset_step_apply_of_flush (fun n h => outsAt0 m c n h) 4 (fun _ => 0)
      (fun t j => part (iblk m c 0 t) (iblk m c 1 t) j)
      (fun t h j => by rw [outsAt0_A m c t h, pointA, zero_add])
      (fun t h j => by rw [outsAt0_B m c t h, pointB]) t ht y, zero_add]
    exact run_sum m c t ht y
  · blk_simp [Pipeline.Window.cell_apply] at hj
    rw [A_eq]
    have : ¬ (j 0).val = 0 := by omega
    exact (if_neg this).symm

end Cert.Kernel3Ideal.UpDw

namespace Cert.Reference3Ideal.UpDw

open Cert.Reference3Ideal Cert.Reference3Ideal.Gen

/-- The reference's result at an index: the transposed product in the first layer, what was there in the others. -/
theorem res_at (h : FVec Ideal S8192x1024 .bf16) (u : FVec Ideal S8192x5632 .bf16) (s : FVec Ideal S4x1024x5632 .f32) (i : S4x1024x5632.Idx) :
    (select (broadcastInDim S4x1024x5632 ![0, 1, 2] bcast_S4x1x1_S4x1024x5632_0_1_2 (cmpi .eq (broadcastInDim S4x1x1 ![0] bcast_S4_S4x1x1_0 (iotaInDim S4 32 0)) (broadcastInDim S4x1x1 ![] bcast_S_S4x1x1 (constantI S_ 32 0#32)))) (broadcastInDim S4x1024x5632 ![1, 2] bcast_S1024x5632_S4x1024x5632_1_2 (transpose S1024x5632 [1, 0] (Host.dotGeneral dot_S8192x5632_S8192x1024_S5632x1024_0_0_1_1_n_n none (extf .f32 u bitsLt_bf16_f32) (extf .f32 h bitsLt_bf16_f32)) transposes_S5632x1024_S1024x5632_1_0)) s : FVec Ideal S4x1024x5632 .f32) i
      = if (i 0).val = 0 then ∑ e : Fin 8192, h (ix2 e (i 1)) * u (ix2 e (i 2)) else s i := by
  idx_vars i
  pointwise
  simp only [mul_comm (u _)]
  fin_cases i0 <;> rfl

end Cert.Reference3Ideal.UpDw

namespace Cert.UpDw

theorem reference : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The two programs leave the same array. -/
theorem algebraic : Cert.algebraic_Kernel3Ideal_Reference3Ideal := by
  pair_intro
  · run_from Cert.Kernel3Ideal.Value.run_blocks m g
  · refine (θ_run Cert.Reference3Ideal.defs _ _).mono (fun r h c => ?_) (Cert.Reference3Ideal.Value.run m' g')
    obtain ⟨e0, e1, e2⟩ := hagree c
    obtain ⟨h1, h2⟩ := h c
    refine ⟨h1.trans ?_, h2⟩
    rw [Cert.Kernel3Ideal.UpDw.final, e0, e1, e2]
    funext i
    exact Cert.Reference3Ideal.UpDw.res_at _ _ _ i

end Cert.UpDw

end
-- ==== Proof.DownDx.lean ====
/- The second product's backward pass, in its left operand: what the kernel leaves, and that the reference leaves the same. -/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel4Ideal.DownDx

open Cert.Kernel4Ideal Cert.Kernel4Ideal.Gen

theorem pay (a : Vec Ideal S1024x1024 .f32) (w : Vec Ideal S1x2816x1024 .bf16) (r : Fin 1024) (j : Fin 2816) :
    k0_pay1 (F := Ideal) a w (ix2 r j) = ∑ e : Fin 1024, a (ix2 r e) * w (ix3 0 j e) := by
  unfold k0_pay1; pointwise

theorem idx : ∀ t : Fin cfg0.N, win0_0.index t = ![t.val, 0] ∧ win0_1.index t = ![0, 0, 0] ∧ win0_2.index t = ![t.val, 0] :=
  (by decide +kernel : ∀ t : Fin grid0.N, _)

variable (m : (ℓ : Loc nD τ sig) → Buf (Elt Ideal) ℓ) (c : Dev nD)

/-- The output's gradient, and the stack of the layers' weights, as launched. -/
abbrev aY : FVec Ideal S8192x1024 .f32 := m ((c : Thread nD τ).loc main_arg0)
abbrev aW : FVec Ideal S4x2816x1024 .bf16 := m ((c : Thread nD τ).loc main_arg1)

/-- Row `r` of tile `t`, among all rows. -/
abbrev tr (t : Fin cfg0.N) (r : Fin 1024) : Fin 8192 :=
  ⟨t.val * 1024 + r.val, by have := lt_of_lt_of_eq t.isLt N_0; omega⟩

theorem blk0 (t : Fin cfg0.N) (r e : Fin 1024) : iblk m c 0 t (ix2 r e) = aY m c (ix2 (tr t r) e) := by
  blk_point [iblk, V, idx t]

theorem blk1 (t : Fin cfg0.N) (j : Fin 2816) (e : Fin 1024) : iblk m c 1 t (ix3 0 j e) = aW m c (ix3 0 j e) := by
  blk_point [iblk, V, idx t]

/-- The gradient of the left operand, as an array. -/
def out : S8192x2816.Idx → EReal := fun i => ∑ e : Fin 1024, aY m c (ix2 (i 0) e) * aW m c (ix3 0 (i 1) e)

theorem emb2 (t : Fin cfg0.N) (y : S1024x2816.Idx) :
    out m c (ix2 (tr t (y 0)) (y 1)) = out m c (((View.whole main_v0).slice (win0_2.rect t)).emb y) := by
  idx_vars y
  blk_ext [idx t]

theorem final : (dats m 0 c).arrAt 2 cfg0.N = out m c := by
  refine (dats m 0 c).arrAt_eq_of_covers 2 _ (by decide +kernel) fun t hf y => ?_
  blk_simp
  rw [after0_2]
  refine Eq.trans ?_ (emb2 m c t y)
  frame_out
  idx_vars y
  refine (pay _ _ y0 y1).trans ?_
  simp only [blk0, blk1]
  rfl

end Cert.Kernel4Ideal.DownDx

namespace Cert.Reference4Ideal.DownDx

open Cert.Reference4Ideal Cert.Reference4Ideal.Gen

theorem dot_at (a : FVec Ideal S8192x1024 .f32) (w : FVec Ideal S4x2816x1024 .bf16) (i : S8192x2816.Idx) :
    (truncf .bf16 (Host.dotGeneral dot_S8192x1024_S2816x1024_S8192x2816_1_1_0_0_n_n none a (extf .f32 (shapeCast _ (extractStridedSlice S1x2816x1024 ![0, 0, 0] w slices_S4x2816x1024_S1x2816x1024_0_0_0) shapeCasts_S1x2816x1024_S2816x1024) bitsLt_bf16_f32)) bitsLt_bf16_f32 : FVec Ideal S8192x2816 .bf16) i
      = ∑ e : Fin 1024, a (ix2 (i 0) e) * w (ix3 0 (i 1) e) := by
  idx_vars i
  pointwise

end Cert.Reference4Ideal.DownDx

namespace Cert.DownDx

theorem reference : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The two programs leave the same array. -/
theorem algebraic : Cert.algebraic_Kernel4Ideal_Reference4Ideal := by
  pair_intro
  · run_from Cert.Kernel4Ideal.Value.run_blocks m g
  · refine (θ_run Cert.Reference4Ideal.defs _ _).mono (fun r h c => ?_) (Cert.Reference4Ideal.Value.run m' g')
    obtain ⟨e0, e1⟩ := hagree c
    obtain ⟨h1, h2⟩ := h c
    refine ⟨h1.trans ?_, h2⟩
    rw [Cert.Kernel4Ideal.DownDx.final, e0, e1]
    funext i
    exact Cert.Reference4Ideal.DownDx.dot_at _ _ i

end Cert.DownDx

end
-- ==== Proof.DownDw.lean ====
/- The second product's backward pass, in its weights: what the kernel leaves, and that the reference leaves the same. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel5Ideal.DownDw

open Cert.Kernel5Ideal Cert.Kernel5Ideal.Gen

theorem pay1 (y : S1x1408x1024.Idx) : k0_pay1 (F := Ideal) y = 0 := by
  unfold k0_pay1; pointwise

theorem pay2 (o : Vec Ideal S1x1408x1024 .f32) (a : Vec Ideal S2048x1408 .bf16) (g : Vec Ideal S2048x1024 .f32) (r : Fin 1408) (j : Fin 1024) :
    k0_pay2 (F := Ideal) o a g (ix3 0 r j) = o (ix3 0 r j) + ∑ e : Fin 2048, a (ix2 e r) * g (ix2 e j) := by
  unfold k0_pay2; pointwise

theorem idx : ∀ t : Fin cfg0.N, win0_0.index t = ![t.val % 4, t.val / 4] ∧ win0_1.index t = ![t.val % 4, 0]
    ∧ win0_2.index t = ![0, t.val / 4, 0] :=
  (by decide +kernel : ∀ t : Fin grid0.N, _)

/-- One tile of rows' part of the gradient. -/
def part (a : Vec Ideal S2048x1408 .bf16) (g : Vec Ideal S2048x1024 .f32) (y : S1x1408x1024.Idx) : EReal :=
  ∑ e : Fin 2048, a (ix2 e (y 1)) * g (ix2 e (y 2))

theorem pointA (c : Dev nD) (i : grid0.Coords) (a1 h1 a2 h2 a3 h3 hc) (b0 : Vec Ideal S2048x1408 .bf16) (b1 : Vec Ideal S2048x1024 .f32)
    (y : S1x1408x1024.Idx) : out0_A_2 (F := Ideal) c i a1 h1 a2 h2 a3 h3 hc b0 b1 y = part b0 b1 y := by
  frame_out
  idx_vars y
  obtain rfl : y0 = 0 := Subsingleton.elim _ _
  rw [pay2, pay1, zero_add]; rfl

theorem pointB (c : Dev nD) (i : grid0.Coords) (a1 h1 a2 h2 a3 h3 hc) (b0 : Vec Ideal S2048x1408 .bf16) (b1 : Vec Ideal S2048x1024 .f32)
    (b2 : Vec Ideal S1x1408x1024 .f32) (y : S1x1408x1024.Idx) :
    out0_B_2 (F := Ideal) c i a1 h1 a2 h2 a3 h3 hc b0 b1 b2 y = b2 y + part b0 b1 y := by
  frame_out
  idx_vars y
  obtain rfl : y0 = 0 := Subsingleton.elim _ _
  rw [pay2]; rfl

variable (m : (ℓ : Loc nD τ sig) → Buf (Elt Ideal) ℓ) (c : Dev nD)

/-- The product's left operand, its gradient, and the stack of the layers' gradients, as launched. -/
abbrev aH : FVec Ideal S8192x2816 .bf16 := m ((c : Thread nD τ).loc main_arg0)
abbrev aU : FVec Ideal S8192x1024 .f32 := m ((c : Thread nD τ).loc main_arg1)
abbrev aS : FVec Ideal S4x2816x1024 .f32 := m ((c : Thread nD τ).loc main_arg2)

/-- The stack with the first layer's gradient put in, as an array. -/
def out : S4x2816x1024.Idx → EReal := fun i =>
  if (i 0).val = 0 then ∑ e : Fin 8192, aH m c (ix2 e (i 1)) * aU m c (ix2 e (i 2)) else aS m c i

theorem run_sum (t : Fin cfg0.N) (ht : t.val % 4 = 4 - 1) (y : S1x1408x1024.Idx) :
    ∑ s : Fin 4, part (iblk m c 0 ⟨4 * (t.val / 4) + s.val, Pipeline.run_point_lt_of_flush t ht s⟩)
      (iblk m c 1 ⟨4 * (t.val / 4) + s.val, Pipeline.run_point_lt_of_flush t ht s⟩) y
      = out m c (((View.whole main_v0).slice (win0_2.rect t)).emb y) := by
  have hN := lt_of_lt_of_eq t.isLt (show cfg0.N = 8 from N_0)
  idx_vars y
  have e : ((View.whole main_v0).slice (win0_2.rect t)).emb (ix3 y0 y1 y2)
      = (ix3 0 ⟨t.val / 4 * 1408 + y1.val, by omega⟩ y2 : S4x2816x1024.Idx) := by
    obtain rfl : y0 = 0 := Subsingleton.elim _ _
    blk_ext [idx t]
  refine Eq.trans ?_ (congrArg (out m c) e).symm
  show _ = ∑ e : Fin 8192, aH m c (ix2 e ⟨t.val / 4 * 1408 + y1.val, by omega⟩) * aU m c (ix2 e y2)
  unfold part
  refine Fin.sum_mul_add_congr (fun s k hl => ?_) rfl
  congr 1
  · blk_point [iblk, V, idx ⟨4 * (t.val / 4) + s.val, Pipeline.run_point_lt_of_flush t ht s⟩]
  · blk_point [iblk, V, idx ⟨4 * (t.val / 4) + s.val, Pipeline.run_point_lt_of_flush t ht s⟩]

theorem final : (dats m 0 c).arrAt 2 cfg0.N = out m c := by
  refine (dats m 0 c).arrAt_eq_of_coversWhere_of_agree 2 _ (fun β => β (0 : Fin 3) = 0) (by decide +kernel) (fun t hf y => ?_) (fun j hj => ?_)
  · blk_simp
    have ht := (flush0_2 t).mp hf
    rw [after0_2, Pipeline.eq_sum_fin_of_reset_step_apply_of_flush (fun n h => outsAt0 m c n h) 4 (fun _ => 0)
      (fun t j => part (iblk m c 0 t) (iblk m c 1 t) j)
      (fun t h j => by rw [outsAt0_A m c t h, pointA, zero_add])
      (fun t h j => by rw [outsAt0_B m c t h, pointB]) t ht y, zero_add]
    exact run_sum m c t ht y
  · blk_simp [Pipeline.Window.cell_apply] at hj
    rw [A_eq]
    have : ¬ (j 0).val = 0 := by omega
    exact (if_neg this).symm

end Cert.Kernel5Ideal.DownDw

namespace Cert.Reference5Ideal.DownDw

open Cert.Reference5Ideal Cert.Reference5Ideal.Gen

/-- The reference's result at an index: the transposed product in the first layer, what was there in the others. -/
theorem res_at (h : FVec Ideal S8192x2816 .bf16) (u : FVec Ideal S8192x1024 .f32) (s : FVec Ideal S4x2816x1024 .f32) (i : S4x2816x1024.Idx) :
    (select (broadcastInDim S4x2816x1024 ![0, 1, 2] bcast_S4x1x1_S4x2816x1024_0_1_2 (cmpi .eq (broadcastInDim S4x1x1 ![0] bcast_S4_S4x1x1_0 (iotaInDim S4 32 0)) (broadcastInDim S4x1x1 ![] bcast_S_S4x1x1 (constantI S_ 32 0#32)))) (broadcastInDim S4x2816x1024 ![1, 2] bcast_S2816x1024_S4x2816x1024_1_2 (transpose S2816x1024 [1, 0] (Host.dotGeneral dot_S8192x1024_S8192x2816_S1024x2816_0_0_1_1_n_n none u (extf .f32 h bitsLt_bf16_f32)) transposes_S1024x2816_S2816x1024_1_0)) s : FVec Ideal S4x2816x1024 .f32) i
      = if (i 0).val = 0 then ∑ e : Fin 8192, h (ix2 e (i 1)) * u (ix2 e (i 2)) else s i := by
  idx_vars i
  pointwise
  simp only [mul_comm (u _)]
  fin_cases i0 <;> rfl

end Cert.Reference5Ideal.DownDw

namespace Cert.DownDw

theorem reference : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

/-- The two programs leave the same array. -/
theorem algebraic : Cert.algebraic_Kernel5Ideal_Reference5Ideal := by
  pair_intro
  · run_from Cert.Kernel5Ideal.Value.run_blocks m g
  · refine (θ_run Cert.Reference5Ideal.defs _ _).mono (fun r h c => ?_) (Cert.Reference5Ideal.Value.run m' g')
    obtain ⟨e0, e1, e2⟩ := hagree c
    obtain ⟨h1, h2⟩ := h c
    refine ⟨h1.trans ?_, h2⟩
    rw [Cert.Kernel5Ideal.DownDw.final, e0, e1, e2]
    funext i
    exact Cert.Reference5Ideal.DownDw.res_at _ _ _ i

end Cert.DownDw

end
-- ==== Proof.DownFwd.lean ====
/- The feed-forward layer's second product, added to the residual: what the kernel leaves, and that the reference leaves the same. -/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel6Ideal.DownFwd

open Cert.Kernel6Ideal Cert.Kernel6Ideal.Gen

theorem pay (z : Vec Ideal S1024x1024 .f32) (a : Vec Ideal S1024x2816 .bf16) (w : Vec Ideal S1x2816x1024 .bf16) (r j : Fin 1024) :
    k0_pay1 (F := Ideal) z a w (ix2 r j) = z (ix2 r j) + ∑ e : Fin 2816, a (ix2 r e) * w (ix3 0 e j) := by
  unfold k0_pay1; pointwise

theorem idx : ∀ t : Fin cfg0.N, win0_0.index t = ![t.val, 0] ∧ win0_1.index t = ![0, 0, 0] ∧ win0_2.index t = ![t.val, 0]
    ∧ win0_3.index t = ![t.val, 0] :=
  (by decide +kernel : ∀ t : Fin grid0.N, _)

variable (m : (ℓ : Loc nD τ sig) → Buf (Elt Ideal) ℓ) (c : Dev nD)

/-- The left operand, the stack of the layers' weights and the residual, as launched. -/
abbrev aA : FVec Ideal S8192x2816 .bf16 := m ((c : Thread nD τ).loc main_arg0)
abbrev aW : FVec Ideal S4x2816x1024 .bf16 := m ((c : Thread nD τ).loc main_arg1)
abbrev aX : FVec Ideal S8192x1024 .f32 := m ((c : Thread nD τ).loc main_arg2)

/-- Row `r` of tile `t`, among all rows. -/
abbrev tr (t : Fin cfg0.N) (r : Fin 1024) : Fin 8192 :=
  ⟨t.val * 1024 + r.val, by have := lt_of_lt_of_eq t.isLt N_0; omega⟩

theorem blk0 (t : Fin cfg0.N) (r : Fin 1024) (e : Fin 2816) : iblk m c 0 t (ix2 r e) = aA m c (ix2 (tr t r) e) := by
  blk_point [iblk, V, idx t]

theorem blk1 (t : Fin cfg0.N) (e : Fin 2816) (j : Fin 1024) : iblk m c 1 t (ix3 0 e j) = aW m c (ix3 0 e j) := by
  blk_point [iblk, V, idx t]

theorem blk2 (t : Fin cfg0.N) (r e : Fin 1024) : iblk m c 2 t (ix2 r e) = aX m c (ix2 (tr t r) e) := by
  blk_point [iblk, V, idx t]

/-- The result, as an array. -/
def out : S8192x1024.Idx → EReal := fun i => aX m c (ix2 (i 0) (i 1)) + ∑ e : Fin 2816, aA m c (ix2 (i 0) e) * aW m c (ix3 0 e (i 1))

theorem emb3 (t : Fin cfg0.N) (y : S1024x1024.Idx) :
    out m c (ix2 (tr t (y 0)) (y 1)) = out m c (((View.whole main_v0).slice (win0_3.rect t)).emb y) := by
  idx_vars y
  blk_ext [idx t]

theorem final : (dats m 0 c).arrAt 3 cfg0.N = out m c := by
  refine (dats m 0 c).arrAt_eq_of_covers 3 _ (by decide +kernel) fun t hf y => ?_
  blk_simp
  rw [after0_3]
  refine Eq.trans ?_ (emb3 m c t y)
  frame_out
  idx_vars y
  refine (pay _ _ _ y0 y1).trans ?_
  simp only [blk0, blk1, blk2]
  rfl

end Cert.Kernel6Ideal.DownFwd

namespace Cert.Reference6Ideal.DownFwd

open Cert.Reference6Ideal Cert.Reference6Ideal.Gen

theorem res_at (a : FVec Ideal S8192x2816 .bf16) (w : FVec Ideal S4x2816x1024 .bf16) (x : FVec Ideal S8192x1024 .f32) (i : S8192x1024.Idx) :
    (addf x (Host.dotGeneral dot_S8192x2816_S2816x1024_S8192x1024_1_0_0_1_n_n none (extf .f32 a bitsLt_bf16_f32) (extf .f32 (shapeCast _ (extractStridedSlice S1x2816x1024 ![0, 0, 0] w slices_S4x2816x1024_S1x2816x1024_0_0_0) shapeCasts_S1x2816x1024_S2816x1024) bitsLt_bf16_f32)) : FVec Ideal S8192x1024 .f32) i
      = x (ix2 (i 0) (i 1)) + ∑ e : Fin 2816, a (ix2 (i 0) e) * w (ix3 0 e (i 1)) := by
  idx_vars i
  pointwise

end Cert.Reference6Ideal.DownFwd

namespace Cert.DownFwd

theorem reference : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

/-- The two programs leave the same array. -/
theorem algebraic : Cert.algebraic_Kernel6Ideal_Reference6Ideal := by
  pair_intro
  · run_from Cert.Kernel6Ideal.Value.run_blocks m g
  · refine (θ_run Cert.Reference6Ideal.defs _ _).mono (fun r h c => ?_) (Cert.Reference6Ideal.Value.run m' g')
    obtain ⟨e0, e1, e2⟩ := hagree c
    obtain ⟨h1, h2⟩ := h c
    refine ⟨h1.trans ?_, h2⟩
    rw [Cert.Kernel6Ideal.DownFwd.final, e0, e1, e2]
    funext i
    exact Cert.Reference6Ideal.DownFwd.res_at _ _ _ i

end Cert.DownFwd

end
-- ==== Proof.XaOut.lean ====
/- The cross attention's output projection, added to the residual: what the kernel leaves, and that the reference leaves the same. -/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel7Ideal.XaOut

open Cert.Kernel7Ideal Cert.Kernel7Ideal.Gen

theorem pay (z : Vec Ideal S1024x1024 .f32) (a : Vec Ideal S1024x1024 .bf16) (w : Vec Ideal S1x1024x1024 .bf16) (r j : Fin 1024) :
    k0_pay1 (F := Ideal) z a w (ix2 r j) = z (ix2 r j) + ∑ e : Fin 1024, a (ix2 r e) * w (ix3 0 e j) := by
  unfold k0_pay1; pointwise

theorem idx : ∀ t : Fin cfg0.N, win0_0.index t = ![t.val, 0] ∧ win0_1.index t = ![0, 0, 0] ∧ win0_2.index t = ![t.val, 0]
    ∧ win0_3.index t = ![t.val, 0] :=
  (by decide +kernel : ∀ t : Fin grid0.N, _)

variable (m : (ℓ : Loc nD τ sig) → Buf (Elt Ideal) ℓ) (c : Dev nD)

/-- The left operand, the stack of the layers' weights and the residual, as launched. -/
abbrev aA : FVec Ideal S8192x1024 .bf16 := m ((c : Thread nD τ).loc main_arg0)
abbrev aW : FVec Ideal S4x1024x1024 .bf16 := m ((c : Thread nD τ).loc main_arg1)
abbrev aX : FVec Ideal S8192x1024 .f32 := m ((c : Thread nD τ).loc main_arg2)

/-- Row `r` of tile `t`, among all rows. -/
abbrev tr (t : Fin cfg0.N) (r : Fin 1024) : Fin 8192 :=
  ⟨t.val * 1024 + r.val, by have := lt_of_lt_of_eq t.isLt N_0; omega⟩

theorem blk0 (t : Fin cfg0.N) (r : Fin 1024) (e : Fin 1024) : iblk m c 0 t (ix2 r e) = aA m c (ix2 (tr t r) e) := by
  blk_point [iblk, V, idx t]

theorem blk1 (t : Fin cfg0.N) (e : Fin 1024) (j : Fin 1024) : iblk m c 1 t (ix3 0 e j) = aW m c (ix3 0 e j) := by
  blk_point [iblk, V, idx t]

theorem blk2 (t : Fin cfg0.N) (r e : Fin 1024) : iblk m c 2 t (ix2 r e) = aX m c (ix2 (tr t r) e) := by
  blk_point [iblk, V, idx t]

/-- The result, as an array. -/
def out : S8192x1024.Idx → EReal := fun i => aX m c (ix2 (i 0) (i 1)) + ∑ e : Fin 1024, aA m c (ix2 (i 0) e) * aW m c (ix3 0 e (i 1))

theorem emb3 (t : Fin cfg0.N) (y : S1024x1024.Idx) :
    out m c (ix2 (tr t (y 0)) (y 1)) = out m c (((View.whole main_v0).slice (win0_3.rect t)).emb y) := by
  idx_vars y
  blk_ext [idx t]

theorem final : (dats m 0 c).arrAt 3 cfg0.N = out m c := by
  refine (dats m 0 c).arrAt_eq_of_covers 3 _ (by decide +kernel) fun t hf y => ?_
  blk_simp
  rw [after0_3]
  refine Eq.trans ?_ (emb3 m c t y)
  frame_out
  idx_vars y
  refine (pay _ _ _ y0 y1).trans ?_
  simp only [blk0, blk1, blk2]
  rfl

end Cert.Kernel7Ideal.XaOut

namespace Cert.Reference7Ideal.XaOut

open Cert.Reference7Ideal Cert.Reference7Ideal.Gen

theorem res_at (a : FVec Ideal S8192x1024 .bf16) (w : FVec Ideal S4x1024x1024 .bf16) (x : FVec Ideal S8192x1024 .f32) (i : S8192x1024.Idx) :
    (addf x (Host.dotGeneral dot_S8192x1024_S1024x1024_S8192x1024_1_0_0_1_n_n none (extf .f32 a bitsLt_bf16_f32) (extf .f32 (shapeCast _ (extractStridedSlice S1x1024x1024 ![0, 0, 0] w slices_S4x1024x1024_S1x1024x1024_0_0_0) shapeCasts_S1x1024x1024_S1024x1024) bitsLt_bf16_f32)) : FVec Ideal S8192x1024 .f32) i
      = x (ix2 (i 0) (i 1)) + ∑ e : Fin 1024, a (ix2 (i 0) e) * w (ix3 0 e (i 1)) := by
  idx_vars i
  pointwise

end Cert.Reference7Ideal.XaOut

namespace Cert.XaOut

theorem reference : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

/-- The two programs leave the same array. -/
theorem algebraic : Cert.algebraic_Kernel7Ideal_Reference7Ideal := by
  pair_intro
  · run_from Cert.Kernel7Ideal.Value.run_blocks m g
  · refine (θ_run Cert.Reference7Ideal.defs _ _).mono (fun r h c => ?_) (Cert.Reference7Ideal.Value.run m' g')
    obtain ⟨e0, e1, e2⟩ := hagree c
    obtain ⟨h1, h2⟩ := h c
    refine ⟨h1.trans ?_, h2⟩
    rw [Cert.Kernel7Ideal.XaOut.final, e0, e1, e2]
    funext i
    exact Cert.Reference7Ideal.XaOut.res_at _ _ _ i

end Cert.XaOut

end
-- ==== Proof.XaOutDx.lean ====
/- The cross attention's output projection, its backward pass in the attention's result: what the kernel leaves, and that the reference leaves the same. -/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel8Ideal.XaOutDx

open Cert.Kernel8Ideal Cert.Kernel8Ideal.Gen

theorem pay (a : Vec Ideal S1024x1024 .f32) (w : Vec Ideal S1x1024x1024 .bf16) (r : Fin 1024) (j : Fin 1024) :
    k0_pay1 (F := Ideal) a w (ix2 r j) = ∑ e : Fin 1024, a (ix2 r e) * w (ix3 0 j e) := by
  unfold k0_pay1; pointwise

theorem idx : ∀ t : Fin cfg0.N, win0_0.index t = ![t.val, 0] ∧ win0_1.index t = ![0, 0, 0] ∧ win0_2.index t = ![t.val, 0] :=
  (by decide +kernel : ∀ t : Fin grid0.N, _)

variable (m : (ℓ : Loc nD τ sig) → Buf (Elt Ideal) ℓ) (c : Dev nD)

/-- The output's gradient, and the stack of the layers' weights, as launched. -/
abbrev aY : FVec Ideal S8192x1024 .f32 := m ((c : Thread nD τ).loc main_arg0)
abbrev aW : FVec Ideal S4x1024x1024 .bf16 := m ((c : Thread nD τ).loc main_arg1)

/-- Row `r` of tile `t`, among all rows. -/
abbrev tr (t : Fin cfg0.N) (r : Fin 1024) : Fin 8192 :=
  ⟨t.val * 1024 + r.val, by have := lt_of_lt_of_eq t.isLt N_0; omega⟩

theorem blk0 (t : Fin cfg0.N) (r e : Fin 1024) : iblk m c 0 t (ix2 r e) = aY m c (ix2 (tr t r) e) := by
  blk_point [iblk, V, idx t]

theorem blk1 (t : Fin cfg0.N) (j : Fin 1024) (e : Fin 1024) : iblk m c 1 t (ix3 0 j e) = aW m c (ix3 0 j e) := by
  blk_point [iblk, V, idx t]

/-- The gradient of the left operand, as an array. -/
def out : S8192x1024.Idx → EReal := fun i => ∑ e : Fin 1024, aY m c (ix2 (i 0) e) * aW m c (ix3 0 (i 1) e)

theorem emb2 (t : Fin cfg0.N) (y : S1024x1024.Idx) :
    out m c (ix2 (tr t (y 0)) (y 1)) = out m c (((View.whole main_v0).slice (win0_2.rect t)).emb y) := by
  idx_vars y
  blk_ext [idx t]

theorem final : (dats m 0 c).arrAt 2 cfg0.N = out m c := by
  refine (dats m 0 c).arrAt_eq_of_covers 2 _ (by decide +kernel) fun t hf y => ?_
  blk_simp
  rw [after0_2]
  refine Eq.trans ?_ (emb2 m c t y)
  frame_out
  idx_vars y
  refine (pay _ _ y0 y1).trans ?_
  simp only [blk0, blk1]
  rfl

end Cert.Kernel8Ideal.XaOutDx

namespace Cert.Reference8Ideal.XaOutDx

open Cert.Reference8Ideal Cert.Reference8Ideal.Gen

theorem dot_at (a : FVec Ideal S8192x1024 .f32) (w : FVec Ideal S4x1024x1024 .bf16) (i : S8192x1024.Idx) :
    (truncf .bf16 (Host.dotGeneral dot_S8192x1024_S1024x1024_S8192x1024_1_1_0_0_n_n none a (extf .f32 (shapeCast _ (extractStridedSlice S1x1024x1024 ![0, 0, 0] w slices_S4x1024x1024_S1x1024x1024_0_0_0) shapeCasts_S1x1024x1024_S1024x1024) bitsLt_bf16_f32)) bitsLt_bf16_f32 : FVec Ideal S8192x1024 .bf16) i
      = ∑ e : Fin 1024, a (ix2 (i 0) e) * w (ix3 0 (i 1) e) := by
  idx_vars i
  pointwise

end Cert.Reference8Ideal.XaOutDx

namespace Cert.XaOutDx

theorem reference : Cert.quiescent_Reference8Ideal := fun m g _ =>
  (θ_run Cert.Reference8Ideal.defs _ _).mono (fun r h => ⟨fun c => (h c).2, sem_eq_zero_of_no_sems (by decide) r.2⟩)
    (Cert.Reference8Ideal.Value.run m g)

/-- The two programs leave the same array. -/
theorem algebraic : Cert.algebraic_Kernel8Ideal_Reference8Ideal := by
  pair_intro
  · run_from Cert.Kernel8Ideal.Value.run_blocks m g
  · refine (θ_run Cert.Reference8Ideal.defs _ _).mono (fun r h c => ?_) (Cert.Reference8Ideal.Value.run m' g')
    obtain ⟨e0, e1⟩ := hagree c
    obtain ⟨h1, h2⟩ := h c
    refine ⟨h1.trans ?_, h2⟩
    rw [Cert.Kernel8Ideal.XaOutDx.final, e0, e1]
    funext i
    exact Cert.Reference8Ideal.XaOutDx.dot_at _ _ i

end Cert.XaOutDx

end
-- ==== Proof.XaOutDw.lean ====
/- The cross attention's output projection, its backward pass in the weights: what the kernel leaves, and that the reference leaves the same. -/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel9Ideal.XaOutDw

open Cert.Kernel9Ideal Cert.Kernel9Ideal.Gen

theorem pay1 (y : S1x1024x1024.Idx) : k0_pay1 (F := Ideal) y = 0 := by
  unfold k0_pay1; pointwise

theorem pay2 (o : Vec Ideal S1x1024x1024 .f32) (a : Vec Ideal S2048x1024 .bf16) (g : Vec Ideal S2048x1024 .f32) (r : Fin 1024) (j : Fin 1024) :
    k0_pay2 (F := Ideal) o a g (ix3 0 r j) = o (ix3 0 r j) + ∑ e : Fin 2048, a (ix2 e r) * g (ix2 e j) := by
  unfold k0_pay2; pointwise

theorem idx : ∀ t : Fin cfg0.N, win0_0.index t = ![t.val % 4, 0] ∧ win0_1.index t = ![t.val % 4, t.val / 4]
    ∧ win0_2.index t = ![0, 0, t.val / 4] :=
  (by decide +kernel : ∀ t : Fin grid0.N, _)

/-- One tile of rows' part of the gradient. -/
def part (a : Vec Ideal S2048x1024 .bf16) (g : Vec Ideal S2048x1024 .f32) (y : S1x1024x1024.Idx) : EReal :=
  ∑ e : Fin 2048, a (ix2 e (y 1)) * g (ix2 e (y 2))

theorem pointA (c : Dev nD) (i : grid0.Coords) (a1 h1 a2 h2 a3 h3 hc) (b0 : Vec Ideal S2048x1024 .bf16) (b1 : Vec Ideal S2048x1024 .f32)
    (y : S1x1024x1024.Idx) : out0_A_2 (F := Ideal) c i a1 h1 a2 h2 a3 h3 hc b0 b1 y = part b0 b1 y := by
  frame_out
  idx_vars y
  obtain rfl : y0 = 0 := Subsingleton.elim _ _
  rw [pay2, pay1, zero_add]; rfl

theorem pointB (c : Dev nD) (i : grid0.Coords) (a1 h1 a2 h2 a3 h3 hc) (b0 : Vec Ideal S2048x1024 .bf16) (b1 : Vec Ideal S2048x1024 .f32)
    (b2 : Vec Ideal S1x1024x1024 .f32) (y : S1x1024x1024.Idx) :
    out0_B_2 (F := Ideal) c i a1 h1 a2 h2 a3 h3 hc b0 b1 b2 y = b2 y + part b0 b1 y := by
  frame_out
  idx_vars y
  obtain rfl : y0 = 0 := Subsingleton.elim _ _
  rw [pay2]; rfl

variable (m : (ℓ : Loc nD τ sig) → Buf (Elt Ideal) ℓ) (c : Dev nD)

/-- The attention's result, the projection's gradient, and the stack of the layers' gradients, as launched. -/
abbrev aH : FVec Ideal S8192x1024 .bf16 := m ((c : Thread nD τ).loc main_arg0)
abbrev aU : FVec Ideal S8192x1024 .f32 := m ((c : Thread nD τ).loc main_arg1)
abbrev aS : FVec Ideal S4x1024x1024 .f32 := m ((c : Thread nD τ).loc main_arg2)

/-- The stack with the first layer's gradient put in, as an array. -/
def out : S4x1024x1024.Idx → EReal := fun i =>
  if (i 0).val = 0 then ∑ e : Fin 8192, aH m c (ix2 e (i 1)) * aU m c (ix2 e (i 2)) else aS m c i

theorem run_sum (t : Fin cfg0.N) (ht : t.val % 4 = 4 - 1) (y : S1x1024x1024.Idx) :
    ∑ s : Fin 4, part (iblk m c 0 ⟨4 * (t.val / 4) + s.val, Pipeline.run_point_lt_of_flush t ht s⟩)
      (iblk m c 1 ⟨4 * (t.val / 4) + s.val, Pipeline.run_point_lt_of_flush t ht s⟩) y
      = out m c (((View.whole main_v0).slice (win0_2.rect t)).emb y) := by
  have hN := lt_of_lt_of_eq t.isLt (show cfg0.N = 4 from N_0)
  idx_vars y
  have e : ((View.whole main_v0).slice (win0_2.rect t)).emb (ix3 y0 y1 y2)
      = (ix3 0 y1 ⟨t.val / 4 * 1024 + y2.val, by omega⟩ : S4x1024x1024.Idx) := by
    obtain rfl : y0 = 0 := Subsingleton.elim _ _
    blk_ext [idx t]
  refine Eq.trans ?_ (congrArg (out m c) e).symm
  show _ = ∑ e : Fin 8192, aH m c (ix2 e y1) * aU m c (ix2 e ⟨t.val / 4 * 1024 + y2.val, by omega⟩)
  unfold part
  refine Fin.sum_mul_add_congr (fun s k hl => ?_) rfl
  congr 1
  · blk_point [iblk, V, idx ⟨4 * (t.val / 4) + s.val, Pipeline.run_point_lt_of_flush t ht s⟩]
  · blk_point [iblk, V, idx ⟨4 * (t.val / 4) + s.val, Pipeline.run_point_lt_of_flush t ht s⟩]

theorem final : (dats m 0 c).arrAt 2 cfg0.N = out m c := by
  refine (dats m 0 c).arrAt_eq_of_coversWhere_of_agree 2 _ (fun β => β (0 : Fin 3) = 0) (by decide +kernel) (fun t hf y => ?_) (fun j hj => ?_)
  · blk_simp
    have ht := (flush0_2 t).mp hf
    rw [after0_2, Pipeline.eq_sum_fin_of_reset_step_apply_of_flush (fun n h => outsAt0 m c n h) 4 (fun _ => 0)
      (fun t j => part (iblk m c 0 t) (iblk m c 1 t) j)
      (fun t h j => by rw [outsAt0_A m c t h, pointA, zero_add])
      (fun t h j => by rw [outsAt0_B m c t h, pointB]) t ht y, zero_add]
    exact run_sum m c t ht y
  · blk_simp [Pipeline.Window.cell_apply] at hj
    rw [A_eq]
    have : ¬ (j 0).val = 0 := by omega
    exact (if_neg this).symm

end Cert.Kernel9Ideal.XaOutDw

namespace Cert.Reference9Ideal.XaOutDw

open Cert.Reference9Ideal Cert.Reference9Ideal.Gen

/-- The reference's result at an index: the transposed product in the first layer, what was there in the others. -/
theorem res_at (h : FVec Ideal S8192x1024 .bf16) (u : FVec Ideal S8192x1024 .f32) (s : FVec Ideal S4x1024x1024 .f32) (i : S4x1024x1024.Idx) :
    (select (broadcastInDim S4x1024x1024 ![0, 1, 2] bcast_S4x1x1_S4x1024x1024_0_1_2 (cmpi .eq (broadcastInDim S4x1x1 ![0] bcast_S4_S4x1x1_0 (iotaInDim S4 32 0)) (broadcastInDim S4x1x1 ![] bcast_S_S4x1x1 (constantI S_ 32 0#32)))) (broadcastInDim S4x1024x1024 ![1, 2] bcast_S1024x1024_S4x1024x1024_1_2 (transpose S1024x1024 [1, 0] (Host.dotGeneral dot_S8192x1024_S8192x1024_S1024x1024_0_0_1_1_n_n none u (extf .f32 h bitsLt_bf16_f32)) transposes_S1024x1024_S1024x1024_1_0)) s : FVec Ideal S4x1024x1024 .f32) i
      = if (i 0).val = 0 then ∑ e : Fin 8192, h (ix2 e (i 1)) * u (ix2 e (i 2)) else s i := by
  idx_vars i
  pointwise
  simp only [mul_comm (u _)]
  fin_cases i0 <;> rfl

end Cert.Reference9Ideal.XaOutDw

namespace Cert.XaOutDw

theorem reference : Cert.quiescent_Reference9Ideal := fun m g _ =>
  (θ_run Cert.Reference9Ideal.defs _ _).mono (fun r h => ⟨fun c => (h c).2, sem_eq_zero_of_no_sems (by decide) r.2⟩)
    (Cert.Reference9Ideal.Value.run m g)

/-- The two programs leave the same array. -/
theorem algebraic : Cert.algebraic_Kernel9Ideal_Reference9Ideal := by
  pair_intro
  · run_from Cert.Kernel9Ideal.Value.run_blocks m g
  · refine (θ_run Cert.Reference9Ideal.defs _ _).mono (fun r h c => ?_) (Cert.Reference9Ideal.Value.run m' g')
    obtain ⟨e0, e1, e2⟩ := hagree c
    obtain ⟨h1, h2⟩ := h c
    refine ⟨h1.trans ?_, h2⟩
    rw [Cert.Kernel9Ideal.XaOutDw.final, e0, e1, e2]
    funext i
    exact Cert.Reference9Ideal.XaOutDw.res_at _ _ _ i

end Cert.XaOutDw

end
-- ==== Proof.XaQDw.lean ====
/- The cross attention's query projection, its backward pass in the weights: what the kernel leaves, and that the reference leaves the same. -/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel10Ideal.XaQDw

open Cert.Kernel10Ideal Cert.Kernel10Ideal.Gen

theorem pay1 (y : S1x1024x1024.Idx) : k0_pay1 (F := Ideal) y = 0 := by
  unfold k0_pay1; pointwise

theorem pay2 (o : Vec Ideal S1x1024x1024 .f32) (a : Vec Ideal S2048x1024 .bf16) (g : Vec Ideal S2048x1024 .bf16) (r : Fin 1024) (j : Fin 1024) :
    k0_pay2 (F := Ideal) o a g (ix3 0 r j) = o (ix3 0 r j) + ∑ e : Fin 2048, a (ix2 e r) * g (ix2 e j) := by
  unfold k0_pay2; pointwise

theorem idx : ∀ t : Fin cfg0.N, win0_0.index t = ![t.val % 4, 0] ∧ win0_1.index t = ![t.val % 4, t.val / 4]
    ∧ win0_2.index t = ![0, 0, t.val / 4] :=
  (by decide +kernel : ∀ t : Fin grid0.N, _)

/-- One tile of rows' part of the gradient. -/
def part (a : Vec Ideal S2048x1024 .bf16) (g : Vec Ideal S2048x1024 .bf16) (y : S1x1024x1024.Idx) : EReal :=
  ∑ e : Fin 2048, a (ix2 e (y 1)) * g (ix2 e (y 2))

theorem pointA (c : Dev nD) (i : grid0.Coords) (a1 h1 a2 h2 a3 h3 hc) (b0 : Vec Ideal S2048x1024 .bf16) (b1 : Vec Ideal S2048x1024 .bf16)
    (y : S1x1024x1024.Idx) : out0_A_2 (F := Ideal) c i a1 h1 a2 h2 a3 h3 hc b0 b1 y = part b0 b1 y := by
  frame_out
  idx_vars y
  obtain rfl : y0 = 0 := Subsingleton.elim _ _
  rw [pay2, pay1, zero_add]; rfl

theorem pointB (c : Dev nD) (i : grid0.Coords) (a1 h1 a2 h2 a3 h3 hc) (b0 : Vec Ideal S2048x1024 .bf16) (b1 : Vec Ideal S2048x1024 .bf16)
    (b2 : Vec Ideal S1x1024x1024 .f32) (y : S1x1024x1024.Idx) :
    out0_B_2 (F := Ideal) c i a1 h1 a2 h2 a3 h3 hc b0 b1 b2 y = b2 y + part b0 b1 y := by
  frame_out
  idx_vars y
  obtain rfl : y0 = 0 := Subsingleton.elim _ _
  rw [pay2]; rfl

variable (m : (ℓ : Loc nD τ sig) → Buf (Elt Ideal) ℓ) (c : Dev nD)

/-- The normed input, the queries' gradient, and the stack of the layers' gradients, as launched. -/
abbrev aH : FVec Ideal S8192x1024 .bf16 := m ((c : Thread nD τ).loc main_arg0)
abbrev aU : FVec Ideal S8192x1024 .bf16 := m ((c : Thread nD τ).loc main_arg1)
abbrev aS : FVec Ideal S4x1024x1024 .f32 := m ((c : Thread nD τ).loc main_arg2)

/-- The stack with the first layer's gradient put in, as an array. -/
def out : S4x1024x1024.Idx → EReal := fun i =>
  if (i 0).val = 0 then ∑ e : Fin 8192, aH m c (ix2 e (i 1)) * aU m c (ix2 e (i 2)) else aS m c i

theorem run_sum (t : Fin cfg0.N) (ht : t.val % 4 = 4 - 1) (y : S1x1024x1024.Idx) :
    ∑ s : Fin 4, part (iblk m c 0 ⟨4 * (t.val / 4) + s.val, Pipeline.run_point_lt_of_flush t ht s⟩)
      (iblk m c 1 ⟨4 * (t.val / 4) + s.val, Pipeline.run_point_lt_of_flush t ht s⟩) y
      = out m c (((View.whole main_v0).slice (win0_2.rect t)).emb y) := by
  have hN := lt_of_lt_of_eq t.isLt (show cfg0.N = 4 from N_0)
  idx_vars y
  have e : ((View.whole main_v0).slice (win0_2.rect t)).emb (ix3 y0 y1 y2)
      = (ix3 0 y1 ⟨t.val / 4 * 1024 + y2.val, by omega⟩ : S4x1024x1024.Idx) := by
    obtain rfl : y0 = 0 := Subsingleton.elim _ _
    blk_ext [idx t]
  refine Eq.trans ?_ (congrArg (out m c) e).symm
  show _ = ∑ e : Fin 8192, aH m c (ix2 e y1) * aU m c (ix2 e ⟨t.val / 4 * 1024 + y2.val, by omega⟩)
  unfold part
  refine Fin.sum_mul_add_congr (fun s k hl => ?_) rfl
  congr 1
  · blk_point [iblk, V, idx ⟨4 * (t.val / 4) + s.val, Pipeline.run_point_lt_of_flush t ht s⟩]
  · blk_point [iblk, V, idx ⟨4 * (t.val / 4) + s.val, Pipeline.run_point_lt_of_flush t ht s⟩]

theorem final : (dats m 0 c).arrAt 2 cfg0.N = out m c := by
  refine (dats m 0 c).arrAt_eq_of_coversWhere_of_agree 2 _ (fun β => β (0 : Fin 3) = 0) (by decide +kernel) (fun t hf y => ?_) (fun j hj => ?_)
  · blk_simp
    have ht := (flush0_2 t).mp hf
    rw [after0_2, Pipeline.eq_sum_fin_of_reset_step_apply_of_flush (fun n h => outsAt0 m c n h) 4 (fun _ => 0)
      (fun t j => part (iblk m c 0 t) (iblk m c 1 t) j)
      (fun t h j => by rw [outsAt0_A m c t h, pointA, zero_add])
      (fun t h j => by rw [outsAt0_B m c t h, pointB]) t ht y, zero_add]
    exact run_sum m c t ht y
  · blk_simp [Pipeline.Window.cell_apply] at hj
    rw [A_eq]
    have : ¬ (j 0).val = 0 := by omega
    exact (if_neg this).symm

end Cert.Kernel10Ideal.XaQDw

namespace Cert.Reference10Ideal.XaQDw

open Cert.Reference10Ideal Cert.Reference10Ideal.Gen

/-- The reference's result at an index: the transposed product in the first layer, what was there in the others. -/
theorem res_at (h : FVec Ideal S8192x1024 .bf16) (u : FVec Ideal S8192x1024 .bf16) (s : FVec Ideal S4x1024x1024 .f32) (i : S4x1024x1024.Idx) :
    (select (broadcastInDim S4x1024x1024 ![0, 1, 2] bcast_S4x1x1_S4x1024x1024_0_1_2 (cmpi .eq (broadcastInDim S4x1x1 ![0] bcast_S4_S4x1x1_0 (iotaInDim S4 32 0)) (broadcastInDim S4x1x1 ![] bcast_S_S4x1x1 (constantI S_ 32 0#32)))) (broadcastInDim S4x1024x1024 ![1, 2] bcast_S1024x1024_S4x1024x1024_1_2 (transpose S1024x1024 [1, 0] (Host.dotGeneral dot_S8192x1024_S8192x1024_S1024x1024_0_0_1_1_n_n none (extf .f32 u bitsLt_bf16_f32) (extf .f32 h bitsLt_bf16_f32)) transposes_S1024x1024_S1024x1024_1_0)) s : FVec Ideal S4x1024x1024 .f32) i
      = if (i 0).val = 0 then ∑ e : Fin 8192, h (ix2 e (i 1)) * u (ix2 e (i 2)) else s i := by
  idx_vars i
  pointwise
  simp only [mul_comm (u _)]
  fin_cases i0 <;> rfl

end Cert.Reference10Ideal.XaQDw

namespace Cert.XaQDw

theorem reference : Cert.quiescent_Reference10Ideal := fun m g _ =>
  (θ_run Cert.Reference10Ideal.defs _ _).mono (fun r h => ⟨fun c => (h c).2, sem_eq_zero_of_no_sems (by decide) r.2⟩)
    (Cert.Reference10Ideal.Value.run m g)

/-- The two programs leave the same array. -/
theorem algebraic : Cert.algebraic_Kernel10Ideal_Reference10Ideal := by
  pair_intro
  · run_from Cert.Kernel10Ideal.Value.run_blocks m g
  · refine (θ_run Cert.Reference10Ideal.defs _ _).mono (fun r h c => ?_) (Cert.Reference10Ideal.Value.run m' g')
    obtain ⟨e0, e1, e2⟩ := hagree c
    obtain ⟨h1, h2⟩ := h c
    refine ⟨h1.trans ?_, h2⟩
    rw [Cert.Kernel10Ideal.XaQDw.final, e0, e1, e2]
    funext i
    exact Cert.Reference10Ideal.XaQDw.res_at _ _ _ i

end Cert.XaQDw

end
-- ==== Proof.XaQDx.lean ====
/- The cross attention's query projection, its backward pass in the layer's input and in the norm's gain: what the kernel leaves, and that the
   reference leaves the same. -/
module

public import proofs.«01_k».proof.Defs
public import proofs.«01_k».proof.Proof.NormCore
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel11Ideal.XaQDx

open Cert.Kernel11Ideal Cert.Kernel11Ideal.Gen

theorem pay1 (y : S1024x1024.Idx) : k0_pay1 (F := Ideal) y = 0 := by
  unfold k0_pay1; pointwise

theorem pay2 (o : Vec Ideal S1024x1024 .f32) (a : Vec Ideal S1024x1024 .bf16) (w : Vec Ideal S1x1024x1024 .bf16) (r j : Fin 1024) :
    k0_pay2 (F := Ideal) o a w (ix2 r j) = o (ix2 r j) + ∑ e : Fin 1024, a (ix2 r e) * w (ix3 0 j e) := by
  unfold k0_pay2; pointwise

theorem pay3 (x : Vec Ideal S1024x1024 .f32) (r : Fin 1024) :
    k0_pay3 (F := Ideal) x (ix2 r 0) = Cert.Norm.rs fun k => x (ix2 r k) := by
  unfold k0_pay3; pointwise; rfl

theorem pay4 (x : Vec Ideal S1024x1024 .f32) (r j : Fin 1024) :
    k0_pay4 (F := Ideal) x (ix2 r j) = x (ix2 r j) * Cert.Norm.rs fun k => x (ix2 r k) := by
  unfold k0_pay4; pointwise; rw [pay3]

theorem pay5 (x : Vec Ideal S1024x1024 .f32) (g : Vec Ideal S1x1024 .f32) (d s : Vec Ideal S1024x1024 .f32) (r j : Fin 1024) :
    k0_pay5 (F := Ideal) x g d s (ix2 r j)
      = s (ix2 r j) + Cert.Norm.dxK (fun k => x (ix2 r k)) (fun k => g (ix2 0 k)) (fun k => d (ix2 r k)) j := by
  unfold k0_pay5; pointwise; simp only [pay3, pay4]; rfl

theorem pay6 (y : S1x1024.Idx) : k0_pay6 (F := Ideal) y = 0 := by
  unfold k0_pay6; pointwise

theorem pay7 (x d : Vec Ideal S1024x1024 .f32) (o : Vec Ideal S1x1024 .f32) (j : Fin 1024) :
    k0_pay7 (F := Ideal) x d o (ix2 0 j)
      = o (ix2 0 j) + ∑ r : Fin 1024, d (ix2 r j) * (x (ix2 r j) * Cert.Norm.rs fun k => x (ix2 r k)) := by
  unfold k0_pay7; pointwise; simp only [pay4]

theorem idx : ∀ t : Fin cfg0.N, win0_0.index t = ![t.val, 0] ∧ win0_1.index t = ![0, 0, 0]
    ∧ win0_2.index t = ![t.val, 0] ∧ win0_3.index t = ![0, 0] ∧ win0_4.index t = ![t.val, 0]
    ∧ win0_5.index t = ![t.val, 0] ∧ win0_6.index t = ![0, 0] :=
  (by decide +kernel : ∀ t : Fin grid0.N, _)

theorem pointA5 (c : Dev nD) (i : grid0.Coords) (a2 h2 a3 h3 a4 h4 a5 h5 a6 h6 a7 h7 a8 h8 a9 h9 hc0 hc1 hc2)
    (b0 : Vec Ideal S1024x1024 .bf16) (b1 : Vec Ideal S1x1024x1024 .bf16) (b2 : Vec Ideal S1024x1024 .f32) (b3 : Vec Ideal S1x1024 .f32)
    (b4 : Vec Ideal S1024x1024 .f32) :
    out0_A_5 (F := Ideal) c i a2 h2 a3 h3 a4 h4 a5 h5 a6 h6 a7 h7 a8 h8 a9 h9 hc0 hc1 hc2 b0 b1 b2 b3 b4 = k0_pay5 b2 b3 (k0_pay2 (k0_pay1 (F := Ideal)) b0 b1) b4 := by
  funext y
  frame_out

theorem pointB5 (c : Dev nD) (i : grid0.Coords) (a2 h2 a3 h3 a4 h4 a5 h5 a6 h6 a7 h7 a8 h8 a9 h9 hc0 hc1 hc2)
    (b0 : Vec Ideal S1024x1024 .bf16) (b1 : Vec Ideal S1x1024x1024 .bf16) (b2 : Vec Ideal S1024x1024 .f32) (b3 : Vec Ideal S1x1024 .f32)
    (b4 : Vec Ideal S1024x1024 .f32) (o : Vec Ideal S1x1024 .f32) :
    out0_B_5 (F := Ideal) c i a2 h2 a3 h3 a4 h4 a5 h5 a6 h6 a7 h7 a8 h8 a9 h9 hc0 hc1 hc2 b0 b1 b2 b3 b4 o = k0_pay5 b2 b3 (k0_pay2 (k0_pay1 (F := Ideal)) b0 b1) b4 := by
  funext y
  frame_out

theorem pointA6 (c : Dev nD) (i : grid0.Coords) (a2 h2 a3 h3 a4 h4 a5 h5 a6 h6 a7 h7 a8 h8 a9 h9 hc0 hc1 hc2)
    (b0 : Vec Ideal S1024x1024 .bf16) (b1 : Vec Ideal S1x1024x1024 .bf16) (b2 : Vec Ideal S1024x1024 .f32) (b3 : Vec Ideal S1x1024 .f32)
    (b4 : Vec Ideal S1024x1024 .f32) :
    out0_A_6 (F := Ideal) c i a2 h2 a3 h3 a4 h4 a5 h5 a6 h6 a7 h7 a8 h8 a9 h9 hc0 hc1 hc2 b0 b1 b2 b3 b4 = k0_pay7 b2 (k0_pay2 (k0_pay1 (F := Ideal)) b0 b1) (k0_pay6 (F := Ideal)) := by
  funext y
  frame_out

theorem pointB6 (c : Dev nD) (i : grid0.Coords) (a2 h2 a3 h3 a4 h4 a5 h5 a6 h6 a7 h7 a8 h8 a9 h9 hc0 hc1 hc2)
    (b0 : Vec Ideal S1024x1024 .bf16) (b1 : Vec Ideal S1x1024x1024 .bf16) (b2 : Vec Ideal S1024x1024 .f32) (b3 : Vec Ideal S1x1024 .f32)
    (b4 : Vec Ideal S1024x1024 .f32) (o : Vec Ideal S1x1024 .f32) :
    out0_B_6 (F := Ideal) c i a2 h2 a3 h3 a4 h4 a5 h5 a6 h6 a7 h7 a8 h8 a9 h9 hc0 hc1 hc2 b0 b1 b2 b3 b4 o = k0_pay7 b2 (k0_pay2 (k0_pay1 (F := Ideal)) b0 b1) o := by
  funext y
  frame_out

variable (m : (ℓ : Loc nD τ sig) → Buf (Elt Ideal) ℓ) (c : Dev nD)

/-- The queries' gradient, the stack of the layers' weights, the layer's input, the gain, and the gradient that the
    residual path brings, as launched. -/
abbrev aU : FVec Ideal S8192x1024 .bf16 := m ((c : Thread nD τ).loc main_arg0)
abbrev aW : FVec Ideal S4x1024x1024 .bf16 := m ((c : Thread nD τ).loc main_arg1)
abbrev aX : FVec Ideal S8192x1024 .f32 := m ((c : Thread nD τ).loc main_arg2)
abbrev aG : FVec Ideal S1x1024 .f32 := m ((c : Thread nD τ).loc main_arg3)
abbrev aR : FVec Ideal S8192x1024 .f32 := m ((c : Thread nD τ).loc main_arg4)

/-- Row `r` of tile `t`, among all rows. -/
abbrev tr (t : Fin cfg0.N) (r : Fin 1024) : Fin 8192 :=
  ⟨t.val * 1024 + r.val, by have := lt_of_lt_of_eq t.isLt N_0; omega⟩

theorem blk0 (t : Fin cfg0.N) (r : Fin 1024) (e : Fin 1024) : iblk m c 0 t (ix2 r e) = aU m c (ix2 (tr t r) e) := by
  blk_point [iblk, V, idx t]

theorem blk1 (t : Fin cfg0.N) (j : Fin 1024) (e : Fin 1024) : iblk m c 1 t (ix3 0 j e) = aW m c (ix3 0 j e) := by
  blk_point [iblk, V, idx t]

theorem blk2 (t : Fin cfg0.N) (r e : Fin 1024) : iblk m c 2 t (ix2 r e) = aX m c (ix2 (tr t r) e) := by
  blk_point [iblk, V, idx t]

theorem blk3 (t : Fin cfg0.N) (e : Fin 1024) : iblk m c 3 t (ix2 0 e) = aG m c (ix2 0 e) := by
  blk_point [iblk, V, idx t]

theorem blk4 (t : Fin cfg0.N) (r e : Fin 1024) : iblk m c 4 t (ix2 r e) = aR m c (ix2 (tr t r) e) := by
  blk_point [iblk, V, idx t]

/-- The gradient of the normed input. -/
def dh (r : Fin 8192) (j : Fin 1024) : EReal := ∑ e : Fin 1024, aU m c (ix2 r e) * aW m c (ix3 0 j e)

/-- The gradient of the layer's input, as an array. -/
def out5 : S8192x1024.Idx → EReal := fun i =>
  aR m c i + Cert.Norm.dxK (fun k => aX m c (ix2 (i 0) k)) (fun k => aG m c (ix2 0 k)) (dh m c (i 0)) (i 1)

/-- One row's part of the gain's gradient. -/
def gpart (r : Fin 8192) (j : Fin 1024) : EReal :=
  dh m c r j * (aX m c (ix2 r j) * Cert.Norm.rs fun k => aX m c (ix2 r k))

/-- The gradient of the gain, as an array. -/
def out6 : S1x1024.Idx → EReal := fun i => ∑ r : Fin 8192, gpart m c r (i 1)

/-- The accumulator of a point: the gradient of the normed input. -/
abbrev accAt (t : Fin cfg0.N) : Vec Ideal S1024x1024 .f32 := k0_pay2 (k0_pay1 (F := Ideal)) (iblk m c 0 t) (iblk m c 1 t)

theorem acc_eq (t : Fin cfg0.N) (r j : Fin 1024) : accAt m c t (ix2 r j) = dh m c (tr t r) j := by
  refine (pay2 _ _ _ r j).trans ?_
  rw [pay1, zero_add]
  simp only [blk0, blk1]
  rfl

/-- The block of the input's gradient, after a point. -/
theorem o5_eq (t : Fin cfg0.N) :
    (outsAt0 m c t.val t.isLt).1 = k0_pay5 (iblk m c 2 t) (iblk m c 3 t) (accAt m c t) (iblk m c 4 t) := by
  by_cases h : t.val % 8 = 0
  · rw [outsAt0_A m c t h]; dsimp only; rw [pointA5]
  · rw [outsAt0_B m c t h]; dsimp only; rw [pointB5]

theorem emb5 (t : Fin cfg0.N) (y : S1024x1024.Idx) :
    out5 m c (ix2 (tr t (y 0)) (y 1)) = out5 m c (((View.whole main_v0_0).slice (win0_5.rect t)).emb y) := by
  idx_vars y
  blk_ext [idx t]

theorem final5 : (dats m 0 c).arrAt 5 cfg0.N = out5 m c := by
  refine (dats m 0 c).arrAt_eq_of_covers 5 _ (by decide +kernel) fun t hf y => ?_
  blk_simp
  rw [after0_5]
  refine Eq.trans ?_ (emb5 m c t y)
  rw [o5_eq m c t]
  idx_vars y
  refine (pay5 _ _ _ _ y0 y1).trans ?_
  simp only [blk2, blk3, blk4, acc_eq m c t]
  rfl

/-- A tile of rows' part of the gain's gradient. -/
def tpart (t : Fin cfg0.N) (j : S1x1024.Idx) : EReal := ∑ r : Fin 1024, gpart m c (tr t r) (j 1)

theorem pay7_at (t : Fin cfg0.N) (o : Vec Ideal S1x1024 .f32) (j : S1x1024.Idx) :
    k0_pay7 (F := Ideal) (iblk m c 2 t) (accAt m c t) o j = o j + tpart m c t j := by
  idx_vars j
  obtain rfl : j0 = 0 := Subsingleton.elim _ _
  refine (pay7 _ _ _ j1).trans ?_
  simp only [blk2, acc_eq m c t]
  rfl

theorem g6_zero (t : Fin cfg0.N) (h : t.val % 8 = 0) (j : S1x1024.Idx) :
    (outsAt0 m c t.val t.isLt).2 j = 0 + tpart m c t j := by
  have e : (outsAt0 m c t.val t.isLt).2 = k0_pay7 (iblk m c 2 t) (accAt m c t) (k0_pay6 (F := Ideal)) := by
    rw [outsAt0_A m c t h]; dsimp only; rw [pointA6]
  refine (congrFun e j).trans ((pay7_at m c t _ j).trans ?_)
  rw [pay6]

theorem g6_step (t : Fin cfg0.N) (h : ¬t.val % 8 = 0) (j : S1x1024.Idx) :
    (outsAt0 m c t.val t.isLt).2 j
      = (outsAt0 m c (t.val - 1) (Nat.lt_of_le_of_lt (Nat.sub_le _ _) t.isLt)).2 j + tpart m c t j := by
  have e : (outsAt0 m c t.val t.isLt).2 = k0_pay7 (iblk m c 2 t) (accAt m c t)
      (outsAt0 m c (t.val - 1) (Nat.lt_of_le_of_lt (Nat.sub_le _ _) t.isLt)).2 := by
    rw [outsAt0_B m c t h]; dsimp only; rw [pointB6]
  exact (congrFun e j).trans (pay7_at m c t _ j)

theorem last6 (t : Fin cfg0.N) (ht : t.val % 8 = 7) : (outsAt0 m c t.val t.isLt).2 = out6 m c := by
  have hN := lt_of_lt_of_eq t.isLt (show cfg0.N = 8 from N_0)
  funext j
  refine (Pipeline.eq_sum_fin_of_reset_step_apply_last (N := cfg0.N) (fun n h => (outsAt0 m c n h).2) 8 (fun _ => 0) (tpart m c)
    (g6_zero m c) (g6_step m c) (le_of_eq N_0) t (by have hc : cfg0.N = 8 := N_0; omega) j).trans ?_
  rw [zero_add]
  unfold tpart out6
  exact Fin.sum_mul_add_congr (f := fun r => gpart m c r (j 1)) (fun s k hl => rfl) rfl

theorem emb6 (t : Fin cfg0.N) (y : S1x1024.Idx) :
    out6 m c y = out6 m c (((View.whole main_v0_1).slice (win0_6.rect t)).emb y) := by
  idx_vars y
  congr 1
  blk_ext [idx t]

theorem final6 : (dats m 0 c).arrAt 6 cfg0.N = out6 m c := by
  refine (dats m 0 c).arrAt_eq_of_covers 6 _ (by decide +kernel) fun t hf y => ?_
  blk_simp
  rw [after0_6, last6 m c t ((flush0_6 t).mp hf)]
  exact emb6 m c t y

end Cert.Kernel11Ideal.XaQDx

namespace Cert.Reference11Ideal.XaQDx

open Cert.Reference11Ideal Cert.Reference11Ideal.Gen

variable (u : FVec Ideal S8192x1024 .bf16) (w : FVec Ideal S4x1024x1024 .bf16) (x : FVec Ideal S8192x1024 .f32)
  (g : FVec Ideal S1x1024 .f32) (s : FVec Ideal S8192x1024 .f32)

/-- The gradient of the normed input. -/
def dhA : FVec Ideal S8192x1024 .f32 :=
  Host.dotGeneral dot_S8192x1024_S1024x1024_S8192x1024_1_1_0_0_n_n none (extf .f32 u bitsLt_bf16_f32)
    (extf .f32 (shapeCast _ (extractStridedSlice S1x1024x1024 ![0, 0, 0] w slices_S4x1024x1024_S1x1024x1024_0_0_0) shapeCasts_S1x1024x1024_S1024x1024) bitsLt_bf16_f32)

theorem dhA_at (r : Fin 8192) (j : Fin 1024) : dhA u w (ix2 r j) = ∑ e : Fin 1024, u (ix2 r e) * w (ix3 0 j e) := by
  unfold dhA; pointwise

/-- The gradient of the normed input, times the gain. -/
def duA : FVec Ideal S8192x1024 .f32 :=
  mulf (dhA u w) (broadcastInDim S8192x1024 ![0, 1] bcast_S1x1024_S8192x1024_0_1 (broadcastInDim S1x1024 ![1] bcast_S1024_S1x1024_1 (shapeCast _ g shapeCasts_S1x1024_S1024)))

theorem duA_at (r : Fin 8192) (j : Fin 1024) : duA u w g (ix2 r j) = dhA u w (ix2 r j) * g (ix2 0 j) := by
  unfold duA; pointwise

/-- The rows' mean squares, with the small constant added. -/
def msA : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

theorem msA_at (r : Fin 8192) : msA x (ix2 r 0) = Cert.Norm.ms fun k => x (ix2 r k) := by
  unfold msA; pointwise; rfl

/-- The rows' scales. -/
def rsA : FVec Ideal S8192x1024 .f32 := broadcastInDim S8192x1024 ![0, 1] bcast_S8192x1_S8192x1024_0_1 (Host.rsqrt (msA x))

theorem rsA_at (r : Fin 8192) (j : Fin 1024) : rsA x (ix2 r j) = Cert.Norm.rs fun k => x (ix2 r k) := by
  unfold rsA; pointwise; rw [msA_at]; rfl

/-- The gradient of the mean squares, spread over the columns. -/
def dmA : FVec Ideal S8192x1024 .f32 :=
  broadcastInDim S8192x1024 ![0] bcast_S8192_S8192x1024_0 (Host.reduceAdd (Host.divf (mulf (shapeCast _ (Host.reduceAdd (mulf x (duA u w g)) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (msA x)) (msA x)))) (broadcastInDim S8192x1 ![] bcast_S_S8192x1 (constant S_ .f32 0x44800000#32))) (constant S_ .f32 0x00000000#32) reducesTo_S8192x1_S8192_d1 h_S_)

theorem dmA_at (r : Fin 8192) (j : Fin 1024) :
    dmA u w x g (ix2 r j) = Cert.Norm.dms (fun k => x (ix2 r k)) (fun k => g (ix2 0 k)) fun k => dhA u w (ix2 r k) := by
  unfold dmA; pointwise
  refine (Fintype.sum_subsingleton _ (0 : Fin 1)).trans ?_
  simp only [msA_at, duA_at]; rfl

/-- The gradient of the layer's input. -/
def dxA : FVec Ideal S8192x1024 .f32 :=
  addf s (addf (addf (mulf (duA u w g) (rsA x)) (mulf x (dmA u w x g))) (mulf (dmA u w x g) x))

theorem dxA_at (r : Fin 8192) (j : Fin 1024) :
    dxA u w x g s (ix2 r j)
      = s (ix2 r j) + Cert.Norm.dxR (fun k => x (ix2 r k)) (fun k => g (ix2 0 k)) (fun k => ∑ e : Fin 1024, u (ix2 r e) * w (ix3 0 k e)) j := by
  unfold dxA; pointwise; simp only [duA_at, rsA_at, dmA_at, dhA_at]; rfl

theorem res_eq (m : (ℓ : Loc nD τ sig) → Buf (Elt Ideal) ℓ) (c : Dev nD) :
    Cert.Reference11Ideal.Value.res_main_v44 (F := Ideal) m c
      = dxA (m ((c : Thread nD τ).loc main_arg0)) (m ((c : Thread nD τ).loc main_arg1)) (m ((c : Thread nD τ).loc main_arg2))
        (m ((c : Thread nD τ).loc main_arg3)) (m ((c : Thread nD τ).loc main_arg4)) := by
  unfold Cert.Reference11Ideal.Value.res_main_v44 dxA
  iterate 40 (all_goals try (first | with_reducible rfl | congr 1))

/-- The gradient of the gain. -/
def dgA : FVec Ideal S1x1024 .f32 :=
  broadcastInDim S1x1024 ![1] bcast_S1024_S1x1024_1 (Host.reduceAdd (shapeCast _ (Host.reduceAdd (mulf (mulf x (rsA x)) (dhA u w)) (constant S_ .f32 0x00000000#32) reducesTo_S8192x1024_S1024_d0 h_S_) shapeCasts_S1024_S1x1024) (constant S_ .f32 0x00000000#32) reducesTo_S1x1024_S1024_d0 h_S_)

theorem dgA_at (j : Fin 1024) :
    dgA u w x (ix2 0 j)
      = ∑ r : Fin 8192, (∑ e : Fin 1024, u (ix2 r e) * w (ix3 0 j e)) * (x (ix2 r j) * Cert.Norm.rs fun k => x (ix2 r k)) := by
  unfold dgA; pointwise
  refine (Fintype.sum_subsingleton _ (0 : Fin 1)).trans ?_
  simp only [rsA_at, dhA_at]
  exact Finset.sum_congr rfl fun r _ => mul_comm _ _

end Cert.Reference11Ideal.XaQDx

namespace Cert.XaQDx

theorem reference : Cert.quiescent_Reference11Ideal := fun m g _ =>
  (θ_run Cert.Reference11Ideal.defs _ _).mono (fun r h => ⟨fun c => (h c).2.2, sem_eq_zero_of_no_sems (by decide) r.2⟩)
    (Cert.Reference11Ideal.Value.run m g)

/-- The two programs leave the same two arrays. -/
theorem algebraic : Cert.algebraic_Kernel11Ideal_Reference11Ideal := by
  pair_intro
  · run_from Cert.Kernel11Ideal.Value.run_blocks m g
  · refine (θ_run Cert.Reference11Ideal.defs _ _).mono (fun r h c => ?_) (Cert.Reference11Ideal.Value.run m' g')
    obtain ⟨e0, e1, e2, e3, e4⟩ := hagree c
    obtain ⟨h1, h2, h3⟩ := h c
    refine ⟨h1.trans ?_, h2.trans ?_, h3⟩
    · rw [Cert.Kernel11Ideal.XaQDx.final5, Cert.Reference11Ideal.XaQDx.res_eq, e0, e1, e2, e3, e4]
      funext i
      idx_vars i
      refine (Cert.Reference11Ideal.XaQDx.dxA_at _ _ _ _ _ i0 i1).trans ?_
      exact congrArg (fun z : EReal => HAdd.hAdd (α := EReal) _ z) (Cert.Norm.dx_eq _ _ _ _).symm
    · rw [Cert.Kernel11Ideal.XaQDx.final6, e0, e1, e2]
      funext i
      idx_vars i
      obtain rfl : i0 = 0 := Subsingleton.elim _ _
      exact Cert.Reference11Ideal.XaQDx.dgA_at _ _ _ i1

end Cert.XaQDx

end
-- ==== Proof.XaQ.lean ====
/- The cross attention's norm and query projection: what the kernel leaves, and that the
   reference leaves the same. -/
module

public import proofs.«01_k».proof.Defs
public import proofs.«01_k».proof.Proof.NormCore
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel12Ideal.XaQ

open Cert.Kernel12Ideal Cert.Kernel12Ideal.Gen

theorem pay1 (x : Vec Ideal S1024x1024 .f32) (g : Vec Ideal S1x1024 .f32) (r j : Fin 1024) :
    k0_pay1 (F := Ideal) x g (ix2 r j) = x (ix2 r j) * (Cert.Norm.rs fun k => x (ix2 r k)) * g (ix2 0 j) := by
  unfold k0_pay1; pointwise; rfl

theorem pay2 (h : Vec Ideal S1024x1024 .bf16) (w : Vec Ideal S1x1024x1024 .bf16) (r : Fin 1024) (j : Fin 1024) :
    k0_pay2 (F := Ideal) h w (ix2 r j) = ∑ e : Fin 1024, h (ix2 r e) * w (ix3 0 e j) := by
  unfold k0_pay2; pointwise

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

theorem point3 (c : Dev nD) (i : grid0.Coords) (a2 h2 a3 h3 a4 h4 a5 h5 a6 h6 hc0) (b0 : Vec Ideal S1024x1024 .f32)
    (b1 : Vec Ideal S1x1024 .f32) (b2 : Vec Ideal S1x1024x1024 .bf16) :
    out0_A_3 (F := Ideal) c i a2 h2 a3 h3 a4 h4 a5 h5 a6 h6 hc0 b0 b1 b2 = k0_pay2 (k0_pay1 b0 b1) b2 := by
  funext y
  frame_out

theorem point4 (c : Dev nD) (i : grid0.Coords) (a2 h2 a3 h3 a4 h4 a5 h5 a6 h6 hc0) (b0 : Vec Ideal S1024x1024 .f32)
    (b1 : Vec Ideal S1x1024 .f32) (b2 : Vec Ideal S1x1024x1024 .bf16) :
    out0_A_4 (F := Ideal) c i a2 h2 a3 h3 a4 h4 a5 h5 a6 h6 hc0 b0 b1 b2 = k0_pay1 b0 b1 := by
  funext y
  frame_out

variable (m : (ℓ : Loc nD τ sig) → Buf (Elt Ideal) ℓ) (c : Dev nD)

/-- The layer's input, the norm's gain, and the stack of the layers' weights, as launched. -/
abbrev aX : FVec Ideal S8192x1024 .f32 := m ((c : Thread nD τ).loc main_arg0)
abbrev aG : FVec Ideal S1x1024 .f32 := m ((c : Thread nD τ).loc main_arg1)
abbrev aW : FVec Ideal S4x1024x1024 .bf16 := m ((c : Thread nD τ).loc main_arg2)

/-- Row `r` of tile `t`, among all rows. -/
abbrev tr (t : Fin cfg0.N) (r : Fin 1024) : Fin 8192 :=
  ⟨t.val * 1024 + r.val, by have := lt_of_lt_of_eq t.isLt N_0; omega⟩

theorem blk0 (t : Fin cfg0.N) (r e : Fin 1024) : iblk m c 0 t (ix2 r e) = aX m c (ix2 (tr t r) e) := by
  blk_point [iblk, V, idx t]

theorem blk1 (t : Fin cfg0.N) (e : Fin 1024) : iblk m c 1 t (ix2 0 e) = aG m c (ix2 0 e) := by
  blk_point [iblk, V, idx t]

theorem blk2 (t : Fin cfg0.N) (e : Fin 1024) (j : Fin 1024) : iblk m c 2 t (ix3 0 e j) = aW m c (ix3 0 e j) := by
  blk_point [iblk, V, idx t]

/-- The normed row. -/
def hr (r : Fin 8192) (j : Fin 1024) : EReal :=
  aX m c (ix2 r j) * (Cert.Norm.rs fun k => aX m c (ix2 r k)) * aG m c (ix2 0 j)

/-- The projection, as an array. -/
def out3 : S8192x1024.Idx → EReal := fun i => ∑ e : Fin 1024, hr m c (i 0) e * aW m c (ix3 0 e (i 1))

/-- The normed rows, as an array. -/
def out4 : S8192x1024.Idx → EReal := fun i => hr m c (i 0) (i 1)

theorem emb3 (t : Fin cfg0.N) (y : S1024x1024.Idx) :
    out3 m c (ix2 (tr t (y 0)) (y 1)) = out3 m c (((View.whole main_v0_0).slice (win0_3.rect t)).emb y) := by
  idx_vars y
  blk_ext [idx t]

theorem emb4 (t : Fin cfg0.N) (y : S1024x1024.Idx) :
    out4 m c (ix2 (tr t (y 0)) (y 1)) = out4 m c (((View.whole main_v0_1).slice (win0_4.rect t)).emb y) := by
  idx_vars y
  blk_ext [idx t]

theorem o3_eq (t : Fin cfg0.N) : (outsAt0 m c t).1 = k0_pay2 (k0_pay1 (iblk m c 0 t) (iblk m c 1 t)) (iblk m c 2 t) := by
  unfold outsAt0; dsimp only; rw [point3]

theorem o4_eq (t : Fin cfg0.N) : (outsAt0 m c t).2 = k0_pay1 (iblk m c 0 t) (iblk m c 1 t) := by
  unfold outsAt0; dsimp only; rw [point4]

theorem final3 : (dats m 0 c).arrAt 3 cfg0.N = out3 m c := by
  refine (dats m 0 c).arrAt_eq_of_covers 3 _ (by decide +kernel) fun t hf y => ?_
  blk_simp
  rw [after0_3]
  refine Eq.trans ?_ (emb3 m c t y)
  rw [o3_eq]
  idx_vars y
  refine (pay2 _ _ y0 y1).trans ?_
  simp only [pay1, blk0, blk1, blk2]
  rfl

theorem final4 : (dats m 0 c).arrAt 4 cfg0.N = out4 m c := by
  refine (dats m 0 c).arrAt_eq_of_covers 4 _ (by decide +kernel) fun t hf y => ?_
  blk_simp
  rw [after0_4]
  refine Eq.trans ?_ (emb4 m c t y)
  rw [o4_eq]
  idx_vars y
  refine (pay1 _ _ y0 y1).trans ?_
  simp only [blk0, blk1]
  rfl

end Cert.Kernel12Ideal.XaQ

namespace Cert.Reference12Ideal.XaQ

open Cert.Reference12Ideal Cert.Reference12Ideal.Gen

variable (x : FVec Ideal S8192x1024 .f32) (g : FVec Ideal S1x1024 .f32) (w : FVec Ideal S4x1024x1024 .bf16)

/-- The rows' mean squares, with the small constant added. -/
def msA : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

theorem msA_at (r : Fin 8192) : msA x (ix2 r 0) = Cert.Norm.ms fun k => x (ix2 r k) := by
  unfold msA; pointwise; rfl

/-- The normed rows. -/
def hA : FVec Ideal S8192x1024 .f32 :=
  mulf (mulf x (broadcastInDim S8192x1024 ![0, 1] bcast_S8192x1_S8192x1024_0_1 (Host.rsqrt (msA x)))) (broadcastInDim S8192x1024 ![0, 1] bcast_S1x1024_S8192x1024_0_1 (broadcastInDim S1x1024 ![1] bcast_S1024_S1x1024_1 (shapeCast _ g shapeCasts_S1x1024_S1024)))

theorem hA_at (r : Fin 8192) (j : Fin 1024) :
    hA x g (ix2 r j) = x (ix2 r j) * (Cert.Norm.rs fun k => x (ix2 r k)) * g (ix2 0 j) := by
  unfold hA; pointwise; simp only [msA_at]; rfl

theorem h_at (i : S8192x1024.Idx) :
    (truncf .bf16 (hA x g) bitsLt_bf16_f32 : FVec Ideal S8192x1024 .bf16) i
      = x (ix2 (i 0) (i 1)) * (Cert.Norm.rs fun k => x (ix2 (i 0) k)) * g (ix2 0 (i 1)) := by
  idx_vars i
  pointwise
  exact hA_at x g i0 i1

theorem z_at (i : S8192x1024.Idx) :
    (truncf .bf16 (Host.dotGeneral dot_S8192x1024_S1024x1024_S8192x1024_1_0_0_1_n_n none (hA x g) (extf .f32 (shapeCast _ (extractStridedSlice S1x1024x1024 ![0, 0, 0] w slices_S4x1024x1024_S1x1024x1024_0_0_0) shapeCasts_S1x1024x1024_S1024x1024) bitsLt_bf16_f32)) bitsLt_bf16_f32 : FVec Ideal S8192x1024 .bf16) i
      = ∑ e : Fin 1024, x (ix2 (i 0) e) * (Cert.Norm.rs fun k => x (ix2 (i 0) k)) * g (ix2 0 e) * w (ix3 0 e (i 1)) := by
  idx_vars i
  pointwise
  simp only [hA_at]

end Cert.Reference12Ideal.XaQ

namespace Cert.XaQ

theorem reference : Cert.quiescent_Reference12Ideal := fun m g _ =>
  (θ_run Cert.Reference12Ideal.defs _ _).mono (fun r h => ⟨fun c => (h c).2.2, sem_eq_zero_of_no_sems (by decide) r.2⟩)
    (Cert.Reference12Ideal.Value.run m g)

/-- The two programs leave the same two arrays. -/
theorem algebraic : Cert.algebraic_Kernel12Ideal_Reference12Ideal := by
  pair_intro
  · run_from Cert.Kernel12Ideal.Value.run_blocks m g
  · refine (θ_run Cert.Reference12Ideal.defs _ _).mono (fun r h c => ?_) (Cert.Reference12Ideal.Value.run m' g')
    obtain ⟨e0, e1, e2⟩ := hagree c
    obtain ⟨h1, h2, h3⟩ := h c
    refine ⟨h1.trans ?_, h2.trans ?_, h3⟩
    · rw [Cert.Kernel12Ideal.XaQ.final3, e0, e1, e2]
      funext i
      exact Cert.Reference12Ideal.XaQ.z_at _ _ _ i
    · rw [Cert.Kernel12Ideal.XaQ.final4, e0, e1]
      funext i
      exact Cert.Reference12Ideal.XaQ.h_at _ _ i

end Cert.XaQ

end
-- ==== Proof.MixOut.lean ====
/- The output projection of the mixer and of the latent attention, added to the residual: what the kernel leaves, and that the reference leaves the same. -/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel13Ideal.MixOut

open Cert.Kernel13Ideal Cert.Kernel13Ideal.Gen

theorem pay (z : Vec Ideal S1024x1024 .f32) (a : Vec Ideal S1024x1024 .bf16) (w : Vec Ideal S1x1024x1024 .bf16) (r j : Fin 1024) :
    k0_pay1 (F := Ideal) z a w (ix2 r j) = z (ix2 r j) + ∑ e : Fin 1024, a (ix2 r e) * w (ix3 0 e j) := by
  unfold k0_pay1; pointwise

theorem idx : ∀ t : Fin cfg0.N, win0_0.index t = ![t.val, 0] ∧ win0_1.index t = ![0, 0, 0] ∧ win0_2.index t = ![t.val, 0]
    ∧ win0_3.index t = ![t.val, 0] :=
  (by decide +kernel : ∀ t : Fin grid0.N, _)

variable (m : (ℓ : Loc nD τ sig) → Buf (Elt Ideal) ℓ) (c : Dev nD)

/-- The left operand, the stack of the layers' weights and the residual, as launched. -/
abbrev aA : FVec Ideal S8192x1024 .bf16 := m ((c : Thread nD τ).loc main_arg0)
abbrev aW : FVec Ideal S2x1024x1024 .bf16 := m ((c : Thread nD τ).loc main_arg1)
abbrev aX : FVec Ideal S8192x1024 .f32 := m ((c : Thread nD τ).loc main_arg2)

/-- Row `r` of tile `t`, among all rows. -/
abbrev tr (t : Fin cfg0.N) (r : Fin 1024) : Fin 8192 :=
  ⟨t.val * 1024 + r.val, by have := lt_of_lt_of_eq t.isLt N_0; omega⟩

theorem blk0 (t : Fin cfg0.N) (r : Fin 1024) (e : Fin 1024) : iblk m c 0 t (ix2 r e) = aA m c (ix2 (tr t r) e) := by
  blk_point [iblk, V, idx t]

theorem blk1 (t : Fin cfg0.N) (e : Fin 1024) (j : Fin 1024) : iblk m c 1 t (ix3 0 e j) = aW m c (ix3 0 e j) := by
  blk_point [iblk, V, idx t]

theorem blk2 (t : Fin cfg0.N) (r e : Fin 1024) : iblk m c 2 t (ix2 r e) = aX m c (ix2 (tr t r) e) := by
  blk_point [iblk, V, idx t]

/-- The result, as an array. -/
def out : S8192x1024.Idx → EReal := fun i => aX m c (ix2 (i 0) (i 1)) + ∑ e : Fin 1024, aA m c (ix2 (i 0) e) * aW m c (ix3 0 e (i 1))

theorem emb3 (t : Fin cfg0.N) (y : S1024x1024.Idx) :
    out m c (ix2 (tr t (y 0)) (y 1)) = out m c (((View.whole main_v0).slice (win0_3.rect t)).emb y) := by
  idx_vars y
  blk_ext [idx t]

theorem final : (dats m 0 c).arrAt 3 cfg0.N = out m c := by
  refine (dats m 0 c).arrAt_eq_of_covers 3 _ (by decide +kernel) fun t hf y => ?_
  blk_simp
  rw [after0_3]
  refine Eq.trans ?_ (emb3 m c t y)
  frame_out
  idx_vars y
  refine (pay _ _ _ y0 y1).trans ?_
  simp only [blk0, blk1, blk2]
  rfl

end Cert.Kernel13Ideal.MixOut

namespace Cert.Reference13Ideal.MixOut

open Cert.Reference13Ideal Cert.Reference13Ideal.Gen

theorem res_at (a : FVec Ideal S8192x1024 .bf16) (w : FVec Ideal S2x1024x1024 .bf16) (x : FVec Ideal S8192x1024 .f32) (i : S8192x1024.Idx) :
    (addf x (Host.dotGeneral dot_S8192x1024_S1024x1024_S8192x1024_1_0_0_1_n_n none (extf .f32 a bitsLt_bf16_f32) (extf .f32 (shapeCast _ (extractStridedSlice S1x1024x1024 ![0, 0, 0] w slices_S2x1024x1024_S1x1024x1024_0_0_0) shapeCasts_S1x1024x1024_S1024x1024) bitsLt_bf16_f32)) : FVec Ideal S8192x1024 .f32) i
      = x (ix2 (i 0) (i 1)) + ∑ e : Fin 1024, a (ix2 (i 0) e) * w (ix3 0 e (i 1)) := by
  idx_vars i
  pointwise

end Cert.Reference13Ideal.MixOut

namespace Cert.MixOut

theorem reference : Cert.quiescent_Reference13Ideal := fun m g _ =>
  (θ_run Cert.Reference13Ideal.defs _ _).mono (fun r h => ⟨fun c => (h c).2, sem_eq_zero_of_no_sems (by decide) r.2⟩)
    (Cert.Reference13Ideal.Value.run m g)

/-- The two programs leave the same array. -/
theorem algebraic : Cert.algebraic_Kernel13Ideal_Reference13Ideal := by
  pair_intro
  · run_from Cert.Kernel13Ideal.Value.run_blocks m g
  · refine (θ_run Cert.Reference13Ideal.defs _ _).mono (fun r h c => ?_) (Cert.Reference13Ideal.Value.run m' g')
    obtain ⟨e0, e1, e2⟩ := hagree c
    obtain ⟨h1, h2⟩ := h c
    refine ⟨h1.trans ?_, h2⟩
    rw [Cert.Kernel13Ideal.MixOut.final, e0, e1, e2]
    funext i
    exact Cert.Reference13Ideal.MixOut.res_at _ _ _ i

end Cert.MixOut

end
-- ==== Proof.MixOutDx.lean ====
/- The mixer's output projection, its backward pass in the mixer's result: what the kernel leaves, and that the reference leaves the same. -/
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel14Ideal.MixOutDx

open Cert.Kernel14Ideal Cert.Kernel14Ideal.Gen

theorem pay (a : Vec Ideal S1024x1024 .f32) (w : Vec Ideal S1x1024x1024 .bf16) (r : Fin 1024) (j : Fin 1024) :
    k0_pay1 (F := Ideal) a w (ix2 r j) = ∑ e : Fin 1024, a (ix2 r e) * w (ix3 0 j e) := by
  unfold k0_pay1; pointwise

theorem idx : ∀ t : Fin cfg0.N, win0_0.index t = ![t.val, 0] ∧ win0_1.index t = ![0, 0, 0] ∧ win0_2.index t = ![t.val, 0] :=
  (by decide +kernel : ∀ t : Fin grid0.N, _)

variable (m : (ℓ : Loc nD τ sig) → Buf (Elt Ideal) ℓ) (c : Dev nD)

/-- The output's gradient, and the stack of the layers' weights, as launched. -/
abbrev aY : FVec Ideal S8192x1024 .f32 := m ((c : Thread nD τ).loc main_arg0)
abbrev aW : FVec Ideal S2x1024x1024 .bf16 := m ((c : Thread nD τ).loc main_arg1)

/-- Row `r` of tile `t`, among all rows. -/
abbrev tr (t : Fin cfg0.N) (r : Fin 1024) : Fin 8192 :=
  ⟨t.val * 1024 + r.val, by have := lt_of_lt_of_eq t.isLt N_0; omega⟩

theorem blk0 (t : Fin cfg0.N) (r e : Fin 1024) : iblk m c 0 t (ix2 r e) = aY m c (ix2 (tr t r) e) := by
  blk_point [iblk, V, idx t]

theorem blk1 (t : Fin cfg0.N) (j : Fin 1024) (e : Fin 1024) : iblk m c 1 t (ix3 0 j e) = aW m c (ix3 0 j e) := by
  blk_point [iblk, V, idx t]

/-- The gradient of the left operand, as an array. -/
def out : S8192x1024.Idx → EReal := fun i => ∑ e : Fin 1024, aY m c (ix2 (i 0) e) * aW m c (ix3 0 (i 1) e)

theorem emb2 (t : Fin cfg0.N) (y : S1024x1024.Idx) :
    out m c (ix2 (tr t (y 0)) (y 1)) = out m c (((View.whole main_v0).slice (win0_2.rect t)).emb y) := by
  idx_vars y
  blk_ext [idx t]

theorem final : (dats m 0 c).arrAt 2 cfg0.N = out m c := by
  refine (dats m 0 c).arrAt_eq_of_covers 2 _ (by decide +kernel) fun t hf y => ?_
  blk_simp
  rw [after0_2]
  refine Eq.trans ?_ (emb2 m c t y)
  frame_out
  idx_vars y
  refine (pay _ _ y0 y1).trans ?_
  simp only [blk0, blk1]
  rfl

end Cert.Kernel14Ideal.MixOutDx

namespace Cert.Reference14Ideal.MixOutDx

open Cert.Reference14Ideal Cert.Reference14Ideal.Gen

theorem dot_at (a : FVec Ideal S8192x1024 .f32) (w : FVec Ideal S2x1024x1024 .bf16) (i : S8192x1024.Idx) :
    (Host.dotGeneral dot_S8192x1024_S1024x1024_S8192x1024_1_1_0_0_n_n none a (extf .f32 (shapeCast _ (extractStridedSlice S1x1024x1024 ![0, 0, 0] w slices_S2x1024x1024_S1x1024x1024_0_0_0) shapeCasts_S1x1024x1024_S1024x1024) bitsLt_bf16_f32) : FVec Ideal S8192x1024 .f32) i
      = ∑ e : Fin 1024, a (ix2 (i 0) e) * w (ix3 0 (i 1) e) := by
  idx_vars i
  pointwise

end Cert.Reference14Ideal.MixOutDx

namespace Cert.MixOutDx

theorem reference : Cert.quiescent_Reference14Ideal := fun m g _ =>
  (θ_run Cert.Reference14Ideal.defs _ _).mono (fun r h => ⟨fun c => (h c).2, sem_eq_zero_of_no_sems (by decide) r.2⟩)
    (Cert.Reference14Ideal.Value.run m g)

/-- The two programs leave the same array. -/
theorem algebraic : Cert.algebraic_Kernel14Ideal_Reference14Ideal := by
  pair_intro
  · run_from Cert.Kernel14Ideal.Value.run_blocks m g
  · refine (θ_run Cert.Reference14Ideal.defs _ _).mono (fun r h c => ?_) (Cert.Reference14Ideal.Value.run m' g')
    obtain ⟨e0, e1⟩ := hagree c
    obtain ⟨h1, h2⟩ := h c
    refine ⟨h1.trans ?_, h2⟩
    rw [Cert.Kernel14Ideal.MixOutDx.final, e0, e1]
    funext i
    exact Cert.Reference14Ideal.MixOutDx.dot_at _ _ i

end Cert.MixOutDx

end
-- ==== Proof.MlaOutDx.lean ====
/- The latent attention's output projection, its backward pass in the attention's result: what the kernel leaves, and that the reference leaves the same. -/
module

public import proofs.«01_k».proof.Defs
public import proofs.«01_k».proof.Proof.Gen.Kernel15Ideal.Value
public import proofs.«01_k».proof.Proof.Gen.Reference15Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel15Ideal.MlaOutDx

open Cert.Kernel15Ideal Cert.Kernel15Ideal.Gen

theorem pay (a : Vec Ideal S1024x1024 .f32) (w : Vec Ideal S1x1024x1024 .bf16) (r : Fin 1024) (j : Fin 1024) :
    k0_pay1 (F := Ideal) a w (ix2 r j) = ∑ e : Fin 1024, a (ix2 r e) * w (ix3 0 j e) := by
  unfold k0_pay1; pointwise

theorem idx : ∀ t : Fin cfg0.N, win0_0.index t = ![t.val, 0] ∧ win0_1.index t = ![0, 0, 0] ∧ win0_2.index t = ![t.val, 0] :=
  (by decide +kernel : ∀ t : Fin grid0.N, _)

variable (m : (ℓ : Loc nD τ sig) → Buf (Elt Ideal) ℓ) (c : Dev nD)

/-- The output's gradient, and the stack of the layers' weights, as launched. -/
abbrev aY : FVec Ideal S8192x1024 .f32 := m ((c : Thread nD τ).loc main_arg0)
abbrev aW : FVec Ideal S2x1024x1024 .bf16 := m ((c : Thread nD τ).loc main_arg1)

/-- Row `r` of tile `t`, among all rows. -/
abbrev tr (t : Fin cfg0.N) (r : Fin 1024) : Fin 8192 :=
  ⟨t.val * 1024 + r.val, by have := lt_of_lt_of_eq t.isLt N_0; omega⟩

theorem blk0 (t : Fin cfg0.N) (r e : Fin 1024) : iblk m c 0 t (ix2 r e) = aY m c (ix2 (tr t r) e) := by
  blk_point [iblk, V, idx t]

theorem blk1 (t : Fin cfg0.N) (j : Fin 1024) (e : Fin 1024) : iblk m c 1 t (ix3 0 j e) = aW m c (ix3 0 j e) := by
  blk_point [iblk, V, idx t]

/-- The gradient of the left operand, as an array. -/
def out : S8192x1024.Idx → EReal := fun i => ∑ e : Fin 1024, aY m c (ix2 (i 0) e) * aW m c (ix3 0 (i 1) e)

theorem emb2 (t : Fin cfg0.N) (y : S1024x1024.Idx) :
    out m c (ix2 (tr t (y 0)) (y 1)) = out m c (((View.whole main_v0).slice (win0_2.rect t)).emb y) := by
  idx_vars y
  blk_ext [idx t]

theorem final : (dats m 0 c).arrAt 2 cfg0.N = out m c := by
  refine (dats m 0 c).arrAt_eq_of_covers 2 _ (by decide +kernel) fun t hf y => ?_
  blk_simp
  rw [after0_2]
  refine Eq.trans ?_ (emb2 m c t y)
  frame_out
  idx_vars y
  refine (pay _ _ y0 y1).trans ?_
  simp only [blk0, blk1]
  rfl

end Cert.Kernel15Ideal.MlaOutDx

namespace Cert.Reference15Ideal.MlaOutDx

open Cert.Reference15Ideal Cert.Reference15Ideal.Gen

theorem dot_at (a : FVec Ideal S8192x1024 .f32) (w : FVec Ideal S2x1024x1024 .bf16) (i : S8192x1024.Idx) :
    (truncf .bf16 (Host.dotGeneral dot_S8192x1024_S1024x1024_S8192x1024_1_1_0_0_n_n none a (extf .f32 (shapeCast _ (extractStridedSlice S1x1024x1024 ![0, 0, 0] w slices_S2x1024x1024_S1x1024x1024_0_0_0) shapeCasts_S1x1024x1024_S1024x1024) bitsLt_bf16_f32)) bitsLt_bf16_f32 : FVec Ideal S8192x1024 .bf16) i
      = ∑ e : Fin 1024, a (ix2 (i 0) e) * w (ix3 0 (i 1) e) := by
  idx_vars i
  pointwise

end Cert.Reference15Ideal.MlaOutDx

namespace Cert.MlaOutDx

theorem reference : Cert.quiescent_Reference15Ideal := fun m g _ =>
  (θ_run Cert.Reference15Ideal.defs _ _).mono (fun r h => ⟨fun c => (h c).2, sem_eq_zero_of_no_sems (by decide) r.2⟩)
    (Cert.Reference15Ideal.Value.run m g)

/-- The two programs leave the same array. -/
theorem algebraic : Cert.algebraic_Kernel15Ideal_Reference15Ideal := by
  pair_intro
  · run_from Cert.Kernel15Ideal.Value.run_blocks m g
  · refine (θ_run Cert.Reference15Ideal.defs _ _).mono (fun r h c => ?_) (Cert.Reference15Ideal.Value.run m' g')
    obtain ⟨e0, e1⟩ := hagree c
    obtain ⟨h1, h2⟩ := h c
    refine ⟨h1.trans ?_, h2⟩
    rw [Cert.Kernel15Ideal.MlaOutDx.final, e0, e1]
    funext i
    exact Cert.Reference15Ideal.MlaOutDx.dot_at _ _ i

end Cert.MlaOutDx

end
-- ==== Proof.MixOutDw.lean ====
/- The output projection of the mixer and of the latent attention, its backward pass in the weights: what the kernel leaves, and that the reference leaves the same. -/
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel16Ideal.MixOutDw

open Cert.Kernel16Ideal Cert.Kernel16Ideal.Gen

theorem pay1 (y : S1x1024x1024.Idx) : k0_pay1 (F := Ideal) y = 0 := by
  unfold k0_pay1; pointwise

theorem pay2 (o : Vec Ideal S1x1024x1024 .f32) (a : Vec Ideal S2048x1024 .bf16) (g : Vec Ideal S2048x1024 .f32) (r : Fin 1024) (j : Fin 1024) :
    k0_pay2 (F := Ideal) o a g (ix3 0 r j) = o (ix3 0 r j) + ∑ e : Fin 2048, a (ix2 e r) * g (ix2 e j) := by
  unfold k0_pay2; pointwise

theorem idx : ∀ t : Fin cfg0.N, win0_0.index t = ![t.val % 4, 0] ∧ win0_1.index t = ![t.val % 4, t.val / 4]
    ∧ win0_2.index t = ![0, 0, t.val / 4] :=
  (by decide +kernel : ∀ t : Fin grid0.N, _)

/-- One tile of rows' part of the gradient. -/
def part (a : Vec Ideal S2048x1024 .bf16) (g : Vec Ideal S2048x1024 .f32) (y : S1x1024x1024.Idx) : EReal :=
  ∑ e : Fin 2048, a (ix2 e (y 1)) * g (ix2 e (y 2))

theorem pointA (c : Dev nD) (i : grid0.Coords) (a1 h1 a2 h2 a3 h3 hc) (b0 : Vec Ideal S2048x1024 .bf16) (b1 : Vec Ideal S2048x1024 .f32)
    (y : S1x1024x1024.Idx) : out0_A_2 (F := Ideal) c i a1 h1 a2 h2 a3 h3 hc b0 b1 y = part b0 b1 y := by
  frame_out
  idx_vars y
  obtain rfl : y0 = 0 := Subsingleton.elim _ _
  rw [pay2, pay1, zero_add]; rfl

theorem pointB (c : Dev nD) (i : grid0.Coords) (a1 h1 a2 h2 a3 h3 hc) (b0 : Vec Ideal S2048x1024 .bf16) (b1 : Vec Ideal S2048x1024 .f32)
    (b2 : Vec Ideal S1x1024x1024 .f32) (y : S1x1024x1024.Idx) :
    out0_B_2 (F := Ideal) c i a1 h1 a2 h2 a3 h3 hc b0 b1 b2 y = b2 y + part b0 b1 y := by
  frame_out
  idx_vars y
  obtain rfl : y0 = 0 := Subsingleton.elim _ _
  rw [pay2]; rfl

variable (m : (ℓ : Loc nD τ sig) → Buf (Elt Ideal) ℓ) (c : Dev nD)

/-- The projection's left operand, its result's gradient, and the stack of the layers' gradients, as launched. -/
abbrev aH : FVec Ideal S8192x1024 .bf16 := m ((c : Thread nD τ).loc main_arg0)
abbrev aU : FVec Ideal S8192x1024 .f32 := m ((c : Thread nD τ).loc main_arg1)
abbrev aS : FVec Ideal S2x1024x1024 .f32 := m ((c : Thread nD τ).loc main_arg2)

/-- The stack with the first layer's gradient put in, as an array. -/
def out : S2x1024x1024.Idx → EReal := fun i =>
  if (i 0).val = 0 then ∑ e : Fin 8192, aH m c (ix2 e (i 1)) * aU m c (ix2 e (i 2)) else aS m c i

theorem run_sum (t : Fin cfg0.N) (ht : t.val % 4 = 4 - 1) (y : S1x1024x1024.Idx) :
    ∑ s : Fin 4, part (iblk m c 0 ⟨4 * (t.val / 4) + s.val, Pipeline.run_point_lt_of_flush t ht s⟩)
      (iblk m c 1 ⟨4 * (t.val / 4) + s.val, Pipeline.run_point_lt_of_flush t ht s⟩) y
      = out m c (((View.whole main_v0).slice (win0_2.rect t)).emb y) := by
  have hN := lt_of_lt_of_eq t.isLt (show cfg0.N = 4 from N_0)
  idx_vars y
  have e : ((View.whole main_v0).slice (win0_2.rect t)).emb (ix3 y0 y1 y2)
      = (ix3 0 y1 ⟨t.val / 4 * 1024 + y2.val, by omega⟩ : S2x1024x1024.Idx) := by
    obtain rfl : y0 = 0 := Subsingleton.elim _ _
    blk_ext [idx t]
  refine Eq.trans ?_ (congrArg (out m c) e).symm
  show _ = ∑ e : Fin 8192, aH m c (ix2 e y1) * aU m c (ix2 e ⟨t.val / 4 * 1024 + y2.val, by omega⟩)
  unfold part
  refine Fin.sum_mul_add_congr (fun s k hl => ?_) rfl
  congr 1
  · blk_point [iblk, V, idx ⟨4 * (t.val / 4) + s.val, Pipeline.run_point_lt_of_flush t ht s⟩]
  · blk_point [iblk, V, idx ⟨4 * (t.val / 4) + s.val, Pipeline.run_point_lt_of_flush t ht s⟩]

theorem final : (dats m 0 c).arrAt 2 cfg0.N = out m c := by
  refine (dats m 0 c).arrAt_eq_of_coversWhere_of_agree 2 _ (fun β => β (0 : Fin 3) = 0) (by decide +kernel) (fun t hf y => ?_) (fun j hj => ?_)
  · blk_simp
    have ht := (flush0_2 t).mp hf
    rw [after0_2, Pipeline.eq_sum_fin_of_reset_step_apply_of_flush (fun n h => outsAt0 m c n h) 4 (fun _ => 0)
      (fun t j => part (iblk m c 0 t) (iblk m c 1 t) j)
      (fun t h j => by rw [outsAt0_A m c t h, pointA, zero_add])
      (fun t h j => by rw [outsAt0_B m c t h, pointB]) t ht y, zero_add]
    exact run_sum m c t ht y
  · blk_simp [Pipeline.Window.cell_apply] at hj
    rw [A_eq]
    have : ¬ (j 0).val = 0 := by omega
    exact (if_neg this).symm

end Cert.Kernel16Ideal.MixOutDw

namespace Cert.Reference16Ideal.MixOutDw

open Cert.Reference16Ideal Cert.Reference16Ideal.Gen

/-- The reference's result at an index: the transposed product in the first layer, what was there in the others. -/
theorem res_at (h : FVec Ideal S8192x1024 .bf16) (u : FVec Ideal S8192x1024 .f32) (s : FVec Ideal S2x1024x1024 .f32) (i : S2x1024x1024.Idx) :
    (select (broadcastInDim S2x1024x1024 ![0, 1, 2] bcast_S2x1x1_S2x1024x1024_0_1_2 (cmpi .eq (broadcastInDim S2x1x1 ![0] bcast_S2_S2x1x1_0 (iotaInDim S2 32 0)) (broadcastInDim S2x1x1 ![] bcast_S_S2x1x1 (constantI S_ 32 0#32)))) (broadcastInDim S2x1024x1024 ![1, 2] bcast_S1024x1024_S2x1024x1024_1_2 (transpose S1024x1024 [1, 0] (Host.dotGeneral dot_S8192x1024_S8192x1024_S1024x1024_0_0_1_1_n_n none u (extf .f32 h bitsLt_bf16_f32)) transposes_S1024x1024_S1024x1024_1_0)) s : FVec Ideal S2x1024x1024 .f32) i
      = if (i 0).val = 0 then ∑ e : Fin 8192, h (ix2 e (i 1)) * u (ix2 e (i 2)) else s i := by
  idx_vars i
  pointwise
  simp only [mul_comm (u _)]
  fin_cases i0 <;> rfl

end Cert.Reference16Ideal.MixOutDw

namespace Cert.MixOutDw

theorem reference : Cert.quiescent_Reference16Ideal := fun m g _ =>
  (θ_run Cert.Reference16Ideal.defs _ _).mono (fun r h => ⟨fun c => (h c).2, sem_eq_zero_of_no_sems (by decide) r.2⟩)
    (Cert.Reference16Ideal.Value.run m g)

/-- The two programs leave the same array. -/
theorem algebraic : Cert.algebraic_Kernel16Ideal_Reference16Ideal := by
  pair_intro
  · run_from Cert.Kernel16Ideal.Value.run_blocks m g
  · refine (θ_run Cert.Reference16Ideal.defs _ _).mono (fun r h c => ?_) (Cert.Reference16Ideal.Value.run m' g')
    obtain ⟨e0, e1, e2⟩ := hagree c
    obtain ⟨h1, h2⟩ := h c
    refine ⟨h1.trans ?_, h2⟩
    rw [Cert.Kernel16Ideal.MixOutDw.final, e0, e1, e2]
    funext i
    exact Cert.Reference16Ideal.MixOutDw.res_at _ _ _ i

end Cert.MixOutDw

end
-- ==== Proof.MixIn.lean ====
/- The mixer's norm and input projection: what the kernel leaves, and that the
   reference leaves the same. -/
module

public import proofs.«01_k».proof.Defs
public import proofs.«01_k».proof.Proof.NormCore
public import proofs.«01_k».proof.Proof.Gen.Kernel17Ideal.Value
public import proofs.«01_k».proof.Proof.Gen.Reference17Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel17Ideal.MixIn

open Cert.Kernel17Ideal Cert.Kernel17Ideal.Gen

theorem pay1 (x : Vec Ideal S1024x1024 .f32) (g : Vec Ideal S1x1024 .f32) (r j : Fin 1024) :
    k0_pay1 (F := Ideal) x g (ix2 r j) = x (ix2 r j) * (Cert.Norm.rs fun k => x (ix2 r k)) * g (ix2 0 j) := by
  unfold k0_pay1; pointwise; rfl

theorem pay2 (h : Vec Ideal S1024x1024 .bf16) (w : Vec Ideal S1x1024x1536 .bf16) (r : Fin 1024) (j : Fin 1536) :
    k0_pay2 (F := Ideal) h w (ix2 r j) = ∑ e : Fin 1024, h (ix2 r e) * w (ix3 0 e j) := by
  unfold k0_pay2; pointwise

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

theorem point3 (c : Dev nD) (i : grid0.Coords) (a2 h2 a3 h3 a4 h4 a5 h5 a6 h6 hc0) (b0 : Vec Ideal S1024x1024 .f32)
    (b1 : Vec Ideal S1x1024 .f32) (b2 : Vec Ideal S1x1024x1536 .bf16) :
    out0_A_3 (F := Ideal) c i a2 h2 a3 h3 a4 h4 a5 h5 a6 h6 hc0 b0 b1 b2 = k0_pay2 (k0_pay1 b0 b1) b2 := by
  funext y
  frame_out

theorem point4 (c : Dev nD) (i : grid0.Coords) (a2 h2 a3 h3 a4 h4 a5 h5 a6 h6 hc0) (b0 : Vec Ideal S1024x1024 .f32)
    (b1 : Vec Ideal S1x1024 .f32) (b2 : Vec Ideal S1x1024x1536 .bf16) :
    out0_A_4 (F := Ideal) c i a2 h2 a3 h3 a4 h4 a5 h5 a6 h6 hc0 b0 b1 b2 = k0_pay1 b0 b1 := by
  funext y
  frame_out

variable (m : (ℓ : Loc nD τ sig) → Buf (Elt Ideal) ℓ) (c : Dev nD)

/-- The layer's input, the norm's gain, and the stack of the layers' weights, as launched. -/
abbrev aX : FVec Ideal S8192x1024 .f32 := m ((c : Thread nD τ).loc main_arg0)
abbrev aG : FVec Ideal S1x1024 .f32 := m ((c : Thread nD τ).loc main_arg1)
abbrev aW : FVec Ideal S2x1024x1536 .bf16 := m ((c : Thread nD τ).loc main_arg2)

/-- Row `r` of tile `t`, among all rows. -/
abbrev tr (t : Fin cfg0.N) (r : Fin 1024) : Fin 8192 :=
  ⟨t.val * 1024 + r.val, by have := lt_of_lt_of_eq t.isLt N_0; omega⟩

theorem blk0 (t : Fin cfg0.N) (r e : Fin 1024) : iblk m c 0 t (ix2 r e) = aX m c (ix2 (tr t r) e) := by
  blk_point [iblk, V, idx t]

theorem blk1 (t : Fin cfg0.N) (e : Fin 1024) : iblk m c 1 t (ix2 0 e) = aG m c (ix2 0 e) := by
  blk_point [iblk, V, idx t]

theorem blk2 (t : Fin cfg0.N) (e : Fin 1024) (j : Fin 1536) : iblk m c 2 t (ix3 0 e j) = aW m c (ix3 0 e j) := by
  blk_point [iblk, V, idx t]

/-- The normed row. -/
def hr (r : Fin 8192) (j : Fin 1024) : EReal :=
  aX m c (ix2 r j) * (Cert.Norm.rs fun k => aX m c (ix2 r k)) * aG m c (ix2 0 j)

/-- The projection, as an array. -/
def out3 : S8192x1536.Idx → EReal := fun i => ∑ e : Fin 1024, hr m c (i 0) e * aW m c (ix3 0 e (i 1))

/-- The normed rows, as an array. -/
def out4 : S8192x1024.Idx → EReal := fun i => hr m c (i 0) (i 1)

theorem emb3 (t : Fin cfg0.N) (y : S1024x1536.Idx) :
    out3 m c (ix2 (tr t (y 0)) (y 1)) = out3 m c (((View.whole main_v0_0).slice (win0_3.rect t)).emb y) := by
  idx_vars y
  blk_ext [idx t]

theorem emb4 (t : Fin cfg0.N) (y : S1024x1024.Idx) :
    out4 m c (ix2 (tr t (y 0)) (y 1)) = out4 m c (((View.whole main_v0_1).slice (win0_4.rect t)).emb y) := by
  idx_vars y
  blk_ext [idx t]

theorem o3_eq (t : Fin cfg0.N) : (outsAt0 m c t).1 = k0_pay2 (k0_pay1 (iblk m c 0 t) (iblk m c 1 t)) (iblk m c 2 t) := by
  unfold outsAt0; dsimp only; rw [point3]

theorem o4_eq (t : Fin cfg0.N) : (outsAt0 m c t).2 = k0_pay1 (iblk m c 0 t) (iblk m c 1 t) := by
  unfold outsAt0; dsimp only; rw [point4]

theorem final3 : (dats m 0 c).arrAt 3 cfg0.N = out3 m c := by
  refine (dats m 0 c).arrAt_eq_of_covers 3 _ (by decide +kernel) fun t hf y => ?_
  blk_simp
  rw [after0_3]
  refine Eq.trans ?_ (emb3 m c t y)
  rw [o3_eq]
  idx_vars y
  refine (pay2 _ _ y0 y1).trans ?_
  simp only [pay1, blk0, blk1, blk2]
  rfl

theorem final4 : (dats m 0 c).arrAt 4 cfg0.N = out4 m c := by
  refine (dats m 0 c).arrAt_eq_of_covers 4 _ (by decide +kernel) fun t hf y => ?_
  blk_simp
  rw [after0_4]
  refine Eq.trans ?_ (emb4 m c t y)
  rw [o4_eq]
  idx_vars y
  refine (pay1 _ _ y0 y1).trans ?_
  simp only [blk0, blk1]
  rfl

end Cert.Kernel17Ideal.MixIn

namespace Cert.Reference17Ideal.MixIn

open Cert.Reference17Ideal Cert.Reference17Ideal.Gen

variable (x : FVec Ideal S8192x1024 .f32) (g : FVec Ideal S1x1024 .f32) (w : FVec Ideal S2x1024x1536 .bf16)

/-- The rows' mean squares, with the small constant added. -/
def msA : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

theorem msA_at (r : Fin 8192) : msA x (ix2 r 0) = Cert.Norm.ms fun k => x (ix2 r k) := by
  unfold msA; pointwise; rfl

/-- The normed rows. -/
def hA : FVec Ideal S8192x1024 .f32 :=
  mulf (mulf x (broadcastInDim S8192x1024 ![0, 1] bcast_S8192x1_S8192x1024_0_1 (Host.rsqrt (msA x)))) (broadcastInDim S8192x1024 ![0, 1] bcast_S1x1024_S8192x1024_0_1 (broadcastInDim S1x1024 ![1] bcast_S1024_S1x1024_1 (shapeCast _ g shapeCasts_S1x1024_S1024)))

theorem hA_at (r : Fin 8192) (j : Fin 1024) :
    hA x g (ix2 r j) = x (ix2 r j) * (Cert.Norm.rs fun k => x (ix2 r k)) * g (ix2 0 j) := by
  unfold hA; pointwise; simp only [msA_at]; rfl

theorem h_at (i : S8192x1024.Idx) :
    (truncf .bf16 (hA x g) bitsLt_bf16_f32 : FVec Ideal S8192x1024 .bf16) i
      = x (ix2 (i 0) (i 1)) * (Cert.Norm.rs fun k => x (ix2 (i 0) k)) * g (ix2 0 (i 1)) := by
  idx_vars i
  pointwise
  exact hA_at x g i0 i1

theorem z_at (i : S8192x1536.Idx) :
    (Host.dotGeneral dot_S8192x1024_S1024x1536_S8192x1536_1_0_0_1_n_n none (hA x g) (extf .f32 (shapeCast _ (extractStridedSlice S1x1024x1536 ![0, 0, 0] w slices_S2x1024x1536_S1x1024x1536_0_0_0) shapeCasts_S1x1024x1536_S1024x1536) bitsLt_bf16_f32) : FVec Ideal S8192x1536 .f32) i
      = ∑ e : Fin 1024, x (ix2 (i 0) e) * (Cert.Norm.rs fun k => x (ix2 (i 0) k)) * g (ix2 0 e) * w (ix3 0 e (i 1)) := by
  idx_vars i
  pointwise
  simp only [hA_at]

end Cert.Reference17Ideal.MixIn

namespace Cert.MixIn

theorem reference : Cert.quiescent_Reference17Ideal := fun m g _ =>
  (θ_run Cert.Reference17Ideal.defs _ _).mono (fun r h => ⟨fun c => (h c).2.2, sem_eq_zero_of_no_sems (by decide) r.2⟩)
    (Cert.Reference17Ideal.Value.run m g)

/-- The two programs leave the same two arrays. -/
theorem algebraic : Cert.algebraic_Kernel17Ideal_Reference17Ideal := by
  pair_intro
  · run_from Cert.Kernel17Ideal.Value.run_blocks m g
  · refine (θ_run Cert.Reference17Ideal.defs _ _).mono (fun r h c => ?_) (Cert.Reference17Ideal.Value.run m' g')
    obtain ⟨e0, e1, e2⟩ := hagree c
    obtain ⟨h1, h2, h3⟩ := h c
    refine ⟨h1.trans ?_, h2.trans ?_, h3⟩
    · rw [Cert.Kernel17Ideal.MixIn.final3, e0, e1, e2]
      funext i
      exact Cert.Reference17Ideal.MixIn.z_at _ _ _ i
    · rw [Cert.Kernel17Ideal.MixIn.final4, e0, e1]
      funext i
      exact Cert.Reference17Ideal.MixIn.h_at _ _ i

end Cert.MixIn

end
-- ==== Proof.MixInDx.lean ====
/- The mixer's input projection, its backward pass in the layer's input and in the norm's gain: what the kernel leaves, and that the
   reference leaves the same. -/
module

public import proofs.«01_k».proof.Defs
public import proofs.«01_k».proof.Proof.NormCore
public import proofs.«01_k».proof.Proof.Gen.Kernel18Ideal.Value
public import proofs.«01_k».proof.Proof.Gen.Reference18Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel18Ideal.MixInDx

open Cert.Kernel18Ideal Cert.Kernel18Ideal.Gen

theorem pay1 (y : S1024x1024.Idx) : k0_pay1 (F := Ideal) y = 0 := by
  unfold k0_pay1; pointwise

theorem pay2 (o : Vec Ideal S1024x1024 .f32) (a : Vec Ideal S1024x768 .bf16) (w : Vec Ideal S1x1024x768 .bf16) (r j : Fin 1024) :
    k0_pay2 (F := Ideal) o a w (ix2 r j) = o (ix2 r j) + ∑ e : Fin 768, a (ix2 r e) * w (ix3 0 j e) := by
  unfold k0_pay2; pointwise

theorem pay3 (x : Vec Ideal S1024x1024 .f32) (r : Fin 1024) :
    k0_pay3 (F := Ideal) x (ix2 r 0) = Cert.Norm.rs fun k => x (ix2 r k) := by
  unfold k0_pay3; pointwise; rfl

theorem pay4 (x : Vec Ideal S1024x1024 .f32) (r j : Fin 1024) :
    k0_pay4 (F := Ideal) x (ix2 r j) = x (ix2 r j) * Cert.Norm.rs fun k => x (ix2 r k) := by
  unfold k0_pay4; pointwise; rw [pay3]

theorem pay5 (x : Vec Ideal S1024x1024 .f32) (g : Vec Ideal S1x1024 .f32) (d s : Vec Ideal S1024x1024 .f32) (r j : Fin 1024) :
    k0_pay5 (F := Ideal) x g d s (ix2 r j)
      = s (ix2 r j) + Cert.Norm.dxK (fun k => x (ix2 r k)) (fun k => g (ix2 0 k)) (fun k => d (ix2 r k)) j := by
  unfold k0_pay5; pointwise; simp only [pay3, pay4]; rfl

theorem pay6 (y : S1x1024.Idx) : k0_pay6 (F := Ideal) y = 0 := by
  unfold k0_pay6; pointwise

theorem pay7 (x d : Vec Ideal S1024x1024 .f32) (o : Vec Ideal S1x1024 .f32) (j : Fin 1024) :
    k0_pay7 (F := Ideal) x d o (ix2 0 j)
      = o (ix2 0 j) + ∑ r : Fin 1024, d (ix2 r j) * (x (ix2 r j) * Cert.Norm.rs fun k => x (ix2 r k)) := by
  unfold k0_pay7; pointwise; simp only [pay4]

theorem idx : ∀ t : Fin cfg0.N, win0_0.index t = ![t.val / 2, t.val % 2] ∧ win0_1.index t = ![0, 0, t.val % 2]
    ∧ win0_2.index t = ![t.val / 2, 0] ∧ win0_3.index t = ![0, 0] ∧ win0_4.index t = ![t.val / 2, 0]
    ∧ win0_5.index t = ![t.val / 2, 0] ∧ win0_6.index t = ![0, 0] :=
  (by decide +kernel : ∀ t : Fin grid0.N, _)

/-- One tile of columns' part of the product. -/
def part (a : Vec Ideal S1024x768 .bf16) (w : Vec Ideal S1x1024x768 .bf16) (y : S1024x1024.Idx) : EReal :=
  ∑ e : Fin 768, a (ix2 (y 0) e) * w (ix3 0 (y 1) e)

theorem spointA (c : Dev nD) (i : grid0.Coords) (a2 h2 a3 h3 a4 h4 a5 h5 a6 h6 a7 h7 a8 h8 a9 h9 hc0 hc1)
    (b0 : Vec Ideal S1024x768 .bf16) (b1 : Vec Ideal S1x1024x768 .bf16) (b2 : Vec Ideal S1024x1024 .f32) (b3 : Vec Ideal S1x1024 .f32)
    (b4 : Vec Ideal S1024x1024 .f32) (y : S1024x1024.Idx) :
    sout0_A_0 (F := Ideal) c i a2 h2 a3 h3 a4 h4 a5 h5 a6 h6 a7 h7 a8 h8 a9 h9 hc0 hc1 b0 b1 b2 b3 b4 y = part b0 b1 y := by
  frame_out
  idx_vars y
  rw [pay2, pay1, zero_add]; rfl

theorem spointB (c : Dev nD) (i : grid0.Coords) (a2 h2 a3 h3 a4 h4 a5 h5 a6 h6 a7 h7 a8 h8 a9 h9 hc0 hc1 hc2)
    (b0 : Vec Ideal S1024x768 .bf16) (b1 : Vec Ideal S1x1024x768 .bf16) (b2 : Vec Ideal S1024x1024 .f32) (b3 : Vec Ideal S1x1024 .f32)
    (b4 s : Vec Ideal S1024x1024 .f32) :
    sout0_B_0 (F := Ideal) c i a2 h2 a3 h3 a4 h4 a5 h5 a6 h6 a7 h7 a8 h8 a9 h9 hc0 hc1 hc2 b0 b1 b2 b3 b4 s = k0_pay2 s b0 b1 := by
  funext y
  frame_out

theorem spointC (c : Dev nD) (i : grid0.Coords) (a2 h2 a3 h3 a4 h4 a5 h5 a6 h6 a7 h7 a8 h8 a9 h9 hc0 hc1 hc2)
    (b0 : Vec Ideal S1024x768 .bf16) (b1 : Vec Ideal S1x1024x768 .bf16) (b2 : Vec Ideal S1024x1024 .f32) (b3 : Vec Ideal S1x1024 .f32)
    (b4 : Vec Ideal S1024x1024 .f32) (o : Vec Ideal S1x1024 .f32) (s : Vec Ideal S1024x1024 .f32) :
    sout0_C_0 (F := Ideal) c i a2 h2 a3 h3 a4 h4 a5 h5 a6 h6 a7 h7 a8 h8 a9 h9 hc0 hc1 hc2 b0 b1 b2 b3 b4 o s = k0_pay2 s b0 b1 := by
  funext y
  frame_out

theorem pointB5 (c : Dev nD) (i : grid0.Coords) (a2 h2 a3 h3 a4 h4 a5 h5 a6 h6 a7 h7 a8 h8 a9 h9 hc0 hc1 hc2)
    (b0 : Vec Ideal S1024x768 .bf16) (b1 : Vec Ideal S1x1024x768 .bf16) (b2 : Vec Ideal S1024x1024 .f32) (b3 : Vec Ideal S1x1024 .f32)
    (b4 s : Vec Ideal S1024x1024 .f32) :
    out0_B_5 (F := Ideal) c i a2 h2 a3 h3 a4 h4 a5 h5 a6 h6 a7 h7 a8 h8 a9 h9 hc0 hc1 hc2 b0 b1 b2 b3 b4 s
      = k0_pay5 b2 b3 (k0_pay2 s b0 b1) b4 := by
  funext y
  frame_out

theorem pointC5 (c : Dev nD) (i : grid0.Coords) (a2 h2 a3 h3 a4 h4 a5 h5 a6 h6 a7 h7 a8 h8 a9 h9 hc0 hc1 hc2)
    (b0 : Vec Ideal S1024x768 .bf16) (b1 : Vec Ideal S1x1024x768 .bf16) (b2 : Vec Ideal S1024x1024 .f32) (b3 : Vec Ideal S1x1024 .f32)
    (b4 : Vec Ideal S1024x1024 .f32) (o : Vec Ideal S1x1024 .f32) (s : Vec Ideal S1024x1024 .f32) :
    out0_C_5 (F := Ideal) c i a2 h2 a3 h3 a4 h4 a5 h5 a6 h6 a7 h7 a8 h8 a9 h9 hc0 hc1 hc2 b0 b1 b2 b3 b4 o s
      = k0_pay5 b2 b3 (k0_pay2 s b0 b1) b4 := by
  funext y
  frame_out

theorem pointB6 (c : Dev nD) (i : grid0.Coords) (a2 h2 a3 h3 a4 h4 a5 h5 a6 h6 a7 h7 a8 h8 a9 h9 hc0 hc1 hc2)
    (b0 : Vec Ideal S1024x768 .bf16) (b1 : Vec Ideal S1x1024x768 .bf16) (b2 : Vec Ideal S1024x1024 .f32) (b3 : Vec Ideal S1x1024 .f32)
    (b4 s : Vec Ideal S1024x1024 .f32) :
    out0_B_6 (F := Ideal) c i a2 h2 a3 h3 a4 h4 a5 h5 a6 h6 a7 h7 a8 h8 a9 h9 hc0 hc1 hc2 b0 b1 b2 b3 b4 s
      = k0_pay7 b2 (k0_pay2 s b0 b1) (k0_pay6 (F := Ideal)) := by
  funext y
  frame_out

theorem pointC6 (c : Dev nD) (i : grid0.Coords) (a2 h2 a3 h3 a4 h4 a5 h5 a6 h6 a7 h7 a8 h8 a9 h9 hc0 hc1 hc2)
    (b0 : Vec Ideal S1024x768 .bf16) (b1 : Vec Ideal S1x1024x768 .bf16) (b2 : Vec Ideal S1024x1024 .f32) (b3 : Vec Ideal S1x1024 .f32)
    (b4 : Vec Ideal S1024x1024 .f32) (o : Vec Ideal S1x1024 .f32) (s : Vec Ideal S1024x1024 .f32) :
    out0_C_6 (F := Ideal) c i a2 h2 a3 h3 a4 h4 a5 h5 a6 h6 a7 h7 a8 h8 a9 h9 hc0 hc1 hc2 b0 b1 b2 b3 b4 o s
      = k0_pay7 b2 (k0_pay2 s b0 b1) o := by
  funext y
  frame_out

variable (m : (ℓ : Loc nD τ sig) → Buf (Elt Ideal) ℓ) (c : Dev nD)

/-- The projection's gradient, the stack of the layers' weights, the layer's input, the gain, and the gradient that the
    residual path brings, as launched. -/
abbrev aU : FVec Ideal S8192x1536 .bf16 := m ((c : Thread nD τ).loc main_arg0)
abbrev aW : FVec Ideal S2x1024x1536 .bf16 := m ((c : Thread nD τ).loc main_arg1)
abbrev aX : FVec Ideal S8192x1024 .f32 := m ((c : Thread nD τ).loc main_arg2)
abbrev aG : FVec Ideal S1x1024 .f32 := m ((c : Thread nD τ).loc main_arg3)
abbrev aR : FVec Ideal S8192x1024 .f32 := m ((c : Thread nD τ).loc main_arg4)

/-- Row `r` of the tile of rows that point `t` works on, among all rows. -/
abbrev tr (t : Fin cfg0.N) (r : Fin 1024) : Fin 8192 :=
  ⟨t.val / 2 * 1024 + r.val, by have := lt_of_lt_of_eq t.isLt (show cfg0.N = 16 from N_0); omega⟩

theorem blk2 (t : Fin cfg0.N) (r e : Fin 1024) : iblk m c 2 t (ix2 r e) = aX m c (ix2 (tr t r) e) := by
  blk_point [iblk, V, idx t]

theorem blk3 (t : Fin cfg0.N) (e : Fin 1024) : iblk m c 3 t (ix2 0 e) = aG m c (ix2 0 e) := by
  blk_point [iblk, V, idx t]

theorem blk4 (t : Fin cfg0.N) (r e : Fin 1024) : iblk m c 4 t (ix2 r e) = aR m c (ix2 (tr t r) e) := by
  blk_point [iblk, V, idx t]

/-- The gradient of the normed input. -/
def dh (r : Fin 8192) (j : Fin 1024) : EReal := ∑ e : Fin 1536, aU m c (ix2 r e) * aW m c (ix3 0 j e)

/-- The gradient of the layer's input, as an array. -/
def out5 : S8192x1024.Idx → EReal := fun i =>
  aR m c i + Cert.Norm.dxK (fun k => aX m c (ix2 (i 0) k)) (fun k => aG m c (ix2 0 k)) (dh m c (i 0)) (i 1)

/-- One row's part of the gain's gradient. -/
def gpart (r : Fin 8192) (j : Fin 1024) : EReal :=
  dh m c r j * (aX m c (ix2 r j) * Cert.Norm.rs fun k => aX m c (ix2 r k))

/-- The gradient of the gain, as an array. -/
def out6 : S1x1024.Idx → EReal := fun i => ∑ r : Fin 8192, gpart m c r (i 1)

/-- What the accumulator holds after a point that ends a tile of rows: the gradient of the normed input. -/
theorem acc_eq (t : Fin cfg0.N) (ht : t.val % 2 = 2 - 1) (r j : Fin 1024) :
    (outsAt0 m c t.val t.isLt).2.2 (ix2 r j) = dh m c (tr t r) j := by
  have hN := lt_of_lt_of_eq t.isLt (show cfg0.N = 16 from N_0)
  refine (Pipeline.eq_sum_fin_of_reset_step_apply_of_flush (fun n h => (outsAt0 m c n h).2.2) 2 (fun _ => 0)
    (fun t y => part (iblk m c 0 t) (iblk m c 1 t) y)
    (fun t h y => ?_) (fun t h y => ?_) t ht (ix2 r j)).trans ?_
  · rw [outsAt0_A m c t h (by omega)]; dsimp only; rw [spointA, zero_add]
  · by_cases h4 : t.val < 2
    · rw [outsAt0_B m c t h (by omega) h4]; dsimp only; rw [spointB]; idx_vars y; rw [pay2]; rfl
    · rw [outsAt0_C m c t h (by omega) h4]; dsimp only; rw [spointC]; idx_vars y; rw [pay2]; rfl
  · rw [zero_add]
    unfold dh part
    refine Fin.sum_mul_add_congr (fun s k hl => ?_) rfl
    congr 1
    · blk_point [iblk, V, idx ⟨2 * (t.val / 2) + s.val, Pipeline.run_point_lt_of_flush t ht s⟩]
    · blk_point [iblk, V, idx ⟨2 * (t.val / 2) + s.val, Pipeline.run_point_lt_of_flush t ht s⟩]

/-- The block of the input's gradient, at a point that ends a tile of rows, from the accumulator after the point. -/
theorem o5_eq (t : Fin cfg0.N) (h3 : t.val % 2 = 1) :
    (outsAt0 m c t.val t.isLt).1 = k0_pay5 (iblk m c 2 t) (iblk m c 3 t) (outsAt0 m c t.val t.isLt).2.2 (iblk m c 4 t) := by
  by_cases h4 : t.val < 2
  · rw [outsAt0_B m c t (by omega) h3 h4]; dsimp only; rw [pointB5, spointB]
  · rw [outsAt0_C m c t (by omega) h3 h4]; dsimp only; rw [pointC5, spointC]

theorem emb5 (t : Fin cfg0.N) (y : S1024x1024.Idx) :
    out5 m c (ix2 (tr t (y 0)) (y 1)) = out5 m c (((View.whole main_v0_0).slice (win0_5.rect t)).emb y) := by
  idx_vars y
  blk_ext [idx t]

theorem final5 : (dats m 0 c).arrAt 5 cfg0.N = out5 m c := by
  refine (dats m 0 c).arrAt_eq_of_covers 5 _ (by decide +kernel) fun t hf y => ?_
  blk_simp
  have ht := (flush0_5 t).mp hf
  rw [after0_5]
  refine Eq.trans ?_ (emb5 m c t y)
  rw [o5_eq m c t ht]
  idx_vars y
  refine (pay5 _ _ _ _ y0 y1).trans ?_
  simp only [blk2, blk3, blk4, acc_eq m c t ht]
  rfl

/-- A point that ends no tile of rows leaves the gain's gradient as it was. -/
theorem keep6 (t : Fin cfg0.N) (h3 : ¬t.val % 2 = 1) :
    (outsAt0 m c t.val t.isLt).2.1 = (outsAt0 m c (t.val - 1) (Nat.lt_of_le_of_lt (Nat.sub_le _ _) t.isLt)).2.1 := by
  rw [outsAt0_A m c t (by omega) h3]; rfl

/-- The gain's gradient after the point that ends tile of rows `n`. -/
def g6 (n : Nat) (h : n < 8) : S1x1024.Idx → EReal :=
  (outsAt0 m c (2 * n + 1) (lt_of_lt_of_eq (by omega) (show 16 = cfg0.N from N_0.symm))).2.1

/-- A tile of rows' part of the gain's gradient. -/
def tpart (n : Fin 8) (j : S1x1024.Idx) : EReal := ∑ r : Fin 1024, gpart m c ⟨n.val * 1024 + r.val, by omega⟩ (j 1)

theorem lt_N {a : Nat} (h : a < 16) : a < cfg0.N := lt_of_lt_of_eq h (show 16 = cfg0.N from N_0.symm)

/-- The point that ends tile of rows `n`. -/
abbrev lastPt (n : Fin 8) : Fin cfg0.N := ⟨2 * n.val + 1, lt_N (by omega)⟩

theorem lastPt_mod (n : Fin 8) : (lastPt n).val % 2 = 1 := by show (2 * n.val + 1) % 2 = 1; omega

theorem tr_lastPt (n : Fin 8) (r : Fin 1024) : tr (lastPt n) r = (⟨n.val * 1024 + r.val, by omega⟩ : Fin 8192) := by
  apply Fin.ext
  show (2 * n.val + 1) / 2 * 1024 + r.val = n.val * 1024 + r.val
  omega

theorem pay7_last (n : Fin 8) (o : Vec Ideal S1x1024 .f32) (j : S1x1024.Idx) :
    k0_pay7 (F := Ideal) (iblk m c 2 (lastPt n)) (outsAt0 m c (lastPt n).val (lastPt n).isLt).2.2 o j = o j + tpart m c n j := by
  idx_vars j
  obtain rfl : j0 = 0 := Subsingleton.elim _ _
  refine (pay7 _ _ _ j1).trans ?_
  simp only [blk2, acc_eq m c (lastPt n) (lastPt_mod n), tr_lastPt]
  rfl

theorem g6_zero (n : Fin 8) (hn : n.val % 8 = 0) (j : S1x1024.Idx) : g6 m c n.val n.isLt j = 0 + tpart m c n j := by
  have e2 : (outsAt0 m c (lastPt n).val (lastPt n).isLt).2.1
      = k0_pay7 (iblk m c 2 (lastPt n)) (outsAt0 m c (lastPt n).val (lastPt n).isLt).2.2 (k0_pay6 (F := Ideal)) := by
    have h3 := lastPt_mod n
    rw [outsAt0_B m c (lastPt n) (by omega) h3 (by show 2 * n.val + 1 < 2; omega)]; dsimp only; rw [pointB6, spointB]
  refine (congrFun e2 j).trans ((pay7_last m c n _ j).trans ?_)
  rw [pay6]

theorem keep_run (n : Nat) (hn : n < 7) (h : 2 * n + 2 < cfg0.N) : (outsAt0 m c (2 * n + 2) h).2.1 = g6 m c n (by omega) :=
  keep6 m c ⟨2 * n + 2, lt_N (by omega)⟩ (by show ¬(2 * n + 2) % 2 = 1; omega)

theorem g6_step (n : Fin 8) (hn : ¬n.val % 8 = 0) (j : S1x1024.Idx) :
    g6 m c n.val n.isLt j = g6 m c (n.val - 1) (Nat.lt_of_le_of_lt (Nat.sub_le _ _) n.isLt) j + tpart m c n j := by
  have hlt := n.isLt
  have h3 := lastPt_mod n
  have e2 : (outsAt0 m c (lastPt n).val (lastPt n).isLt).2.1
      = k0_pay7 (iblk m c 2 (lastPt n)) (outsAt0 m c (lastPt n).val (lastPt n).isLt).2.2
        (outsAt0 m c ((lastPt n).val - 1) (Nat.lt_of_le_of_lt (Nat.sub_le _ _) (lastPt n).isLt)).2.1 := by
    rw [outsAt0_C m c (lastPt n) (by omega) h3 (by show ¬2 * n.val + 1 < 2; omega)]; dsimp only; rw [pointC6, spointC]
  have e : (lastPt n).val - 1 = 2 * (n.val - 1) + 2 := by show 2 * n.val + 1 - 1 = _; omega
  refine (congrFun e2 j).trans ((pay7_last m c n _ j).trans ?_)
  have hk := keep_run m c (n.val - 1) (by omega) (lt_N (by omega))
  simp only [e, hk]

theorem sum6 (n : Fin 8) (hn : n.val + 1 = 8) (j : S1x1024.Idx) : g6 m c n.val n.isLt j = out6 m c j := by
  refine (Pipeline.eq_sum_fin_of_reset_step_apply_last (N := 8) (g6 m c) 8 (fun _ => 0) (tpart m c) (g6_zero m c) (g6_step m c)
    (le_refl 8) n hn j).trans ?_
  rw [zero_add]
  unfold tpart out6
  exact Fin.sum_mul_add_congr (f := fun r => gpart m c r (j 1)) (fun s k hl => rfl) rfl

theorem outs_congr {a b : Nat} (h : a = b) (ha : a < cfg0.N) (hb : b < cfg0.N) : outsAt0 m c a ha = outsAt0 m c b hb := by
  subst h; rfl

theorem last6 (t : Fin cfg0.N) (ht : t.val % 16 = 15) : (outsAt0 m c t.val t.isLt).2.1 = out6 m c := by
  have hN := lt_of_lt_of_eq t.isLt (show cfg0.N = 16 from N_0)
  have e : t.val = 2 * (t.val / 2) + 1 := by omega
  funext j
  rw [outs_congr m c e t.isLt (lt_of_eq_of_lt e.symm t.isLt)]
  exact sum6 m c ⟨t.val / 2, by omega⟩ (by show t.val / 2 + 1 = 8; omega) j

theorem emb6 (t : Fin cfg0.N) (y : S1x1024.Idx) :
    out6 m c y = out6 m c (((View.whole main_v0_1).slice (win0_6.rect t)).emb y) := by
  idx_vars y
  congr 1
  blk_ext [idx t]

theorem final6 : (dats m 0 c).arrAt 6 cfg0.N = out6 m c := by
  refine (dats m 0 c).arrAt_eq_of_covers 6 _ (by decide +kernel) fun t hf y => ?_
  blk_simp
  rw [after0_6, last6 m c t ((flush0_6 t).mp hf)]
  exact emb6 m c t y

end Cert.Kernel18Ideal.MixInDx

namespace Cert.Reference18Ideal.MixInDx

open Cert.Reference18Ideal Cert.Reference18Ideal.Gen

variable (u : FVec Ideal S8192x1536 .bf16) (w : FVec Ideal S2x1024x1536 .bf16) (x : FVec Ideal S8192x1024 .f32)
  (g : FVec Ideal S1x1024 .f32) (s : FVec Ideal S8192x1024 .f32)

/-- The gradient of the normed input. -/
def dhA : FVec Ideal S8192x1024 .f32 :=
  Host.dotGeneral dot_S8192x1536_S1024x1536_S8192x1024_1_1_0_0_n_n none (extf .f32 u bitsLt_bf16_f32)
    (extf .f32 (shapeCast _ (extractStridedSlice S1x1024x1536 ![0, 0, 0] w slices_S2x1024x1536_S1x1024x1536_0_0_0) shapeCasts_S1x1024x1536_S1024x1536) bitsLt_bf16_f32)

theorem dhA_at (r : Fin 8192) (j : Fin 1024) : dhA u w (ix2 r j) = ∑ e : Fin 1536, u (ix2 r e) * w (ix3 0 j e) := by
  unfold dhA; pointwise

/-- The gradient of the normed input, times the gain. -/
def duA : FVec Ideal S8192x1024 .f32 :=
  mulf (dhA u w) (broadcastInDim S8192x1024 ![0, 1] bcast_S1x1024_S8192x1024_0_1 (broadcastInDim S1x1024 ![1] bcast_S1024_S1x1024_1 (shapeCast _ g shapeCasts_S1x1024_S1024)))

theorem duA_at (r : Fin 8192) (j : Fin 1024) : duA u w g (ix2 r j) = dhA u w (ix2 r j) * g (ix2 0 j) := by
  unfold duA; pointwise

/-- The rows' mean squares, with the small constant added. -/
def msA : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

theorem msA_at (r : Fin 8192) : msA x (ix2 r 0) = Cert.Norm.ms fun k => x (ix2 r k) := by
  unfold msA; pointwise; rfl

/-- The rows' scales. -/
def rsA : FVec Ideal S8192x1024 .f32 := broadcastInDim S8192x1024 ![0, 1] bcast_S8192x1_S8192x1024_0_1 (Host.rsqrt (msA x))

theorem rsA_at (r : Fin 8192) (j : Fin 1024) : rsA x (ix2 r j) = Cert.Norm.rs fun k => x (ix2 r k) := by
  unfold rsA; pointwise; rw [msA_at]; rfl

/-- The gradient of the mean squares, spread over the columns. -/
def dmA : FVec Ideal S8192x1024 .f32 :=
  broadcastInDim S8192x1024 ![0] bcast_S8192_S8192x1024_0 (Host.reduceAdd (Host.divf (mulf (shapeCast _ (Host.reduceAdd (mulf x (duA u w g)) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (msA x)) (msA x)))) (broadcastInDim S8192x1 ![] bcast_S_S8192x1 (constant S_ .f32 0x44800000#32))) (constant S_ .f32 0x00000000#32) reducesTo_S8192x1_S8192_d1 h_S_)

theorem dmA_at (r : Fin 8192) (j : Fin 1024) :
    dmA u w x g (ix2 r j) = Cert.Norm.dms (fun k => x (ix2 r k)) (fun k => g (ix2 0 k)) fun k => dhA u w (ix2 r k) := by
  unfold dmA; pointwise
  refine (Fintype.sum_subsingleton _ (0 : Fin 1)).trans ?_
  simp only [msA_at, duA_at]; rfl

/-- The gradient of the layer's input. -/
def dxA : FVec Ideal S8192x1024 .f32 :=
  addf s (addf (addf (mulf (duA u w g) (rsA x)) (mulf x (dmA u w x g))) (mulf (dmA u w x g) x))

theorem dxA_at (r : Fin 8192) (j : Fin 1024) :
    dxA u w x g s (ix2 r j)
      = s (ix2 r j) + Cert.Norm.dxR (fun k => x (ix2 r k)) (fun k => g (ix2 0 k)) (fun k => ∑ e : Fin 1536, u (ix2 r e) * w (ix3 0 k e)) j := by
  unfold dxA; pointwise; simp only [duA_at, rsA_at, dmA_at, dhA_at]; rfl

theorem res_eq (m : (ℓ : Loc nD τ sig) → Buf (Elt Ideal) ℓ) (c : Dev nD) :
    Cert.Reference18Ideal.Value.res_main_v44 (F := Ideal) m c
      = dxA (m ((c : Thread nD τ).loc main_arg0)) (m ((c : Thread nD τ).loc main_arg1)) (m ((c : Thread nD τ).loc main_arg2))
        (m ((c : Thread nD τ).loc main_arg3)) (m ((c : Thread nD τ).loc main_arg4)) := by
  unfold Cert.Reference18Ideal.Value.res_main_v44 dxA
  iterate 40 (all_goals try (first | with_reducible rfl | congr 1))

/-- The gradient of the gain. -/
def dgA : FVec Ideal S1x1024 .f32 :=
  broadcastInDim S1x1024 ![1] bcast_S1024_S1x1024_1 (Host.reduceAdd (shapeCast _ (Host.reduceAdd (mulf (mulf x (rsA x)) (dhA u w)) (constant S_ .f32 0x00000000#32) reducesTo_S8192x1024_S1024_d0 h_S_) shapeCasts_S1024_S1x1024) (constant S_ .f32 0x00000000#32) reducesTo_S1x1024_S1024_d0 h_S_)

theorem dgA_at (j : Fin 1024) :
    dgA u w x (ix2 0 j)
      = ∑ r : Fin 8192, (∑ e : Fin 1536, u (ix2 r e) * w (ix3 0 j e)) * (x (ix2 r j) * Cert.Norm.rs fun k => x (ix2 r k)) := by
  unfold dgA; pointwise
  refine (Fintype.sum_subsingleton _ (0 : Fin 1)).trans ?_
  simp only [rsA_at, dhA_at]
  exact Finset.sum_congr rfl fun r _ => mul_comm _ _

end Cert.Reference18Ideal.MixInDx

namespace Cert.MixInDx

theorem reference : Cert.quiescent_Reference18Ideal := fun m g _ =>
  (θ_run Cert.Reference18Ideal.defs _ _).mono (fun r h => ⟨fun c => (h c).2.2, sem_eq_zero_of_no_sems (by decide) r.2⟩)
    (Cert.Reference18Ideal.Value.run m g)

/-- The two programs leave the same two arrays. -/
theorem algebraic : Cert.algebraic_Kernel18Ideal_Reference18Ideal := by
  pair_intro
  · run_from Cert.Kernel18Ideal.Value.run_blocks m g
  · refine (θ_run Cert.Reference18Ideal.defs _ _).mono (fun r h c => ?_) (Cert.Reference18Ideal.Value.run m' g')
    obtain ⟨e0, e1, e2, e3, e4⟩ := hagree c
    obtain ⟨h1, h2, h3⟩ := h c
    refine ⟨h1.trans ?_, h2.trans ?_, h3⟩
    · rw [Cert.Kernel18Ideal.MixInDx.final5, Cert.Reference18Ideal.MixInDx.res_eq, e0, e1, e2, e3, e4]
      funext i
      idx_vars i
      refine (Cert.Reference18Ideal.MixInDx.dxA_at _ _ _ _ _ i0 i1).trans ?_
      exact congrArg (fun z : EReal => HAdd.hAdd (α := EReal) _ z) (Cert.Norm.dx_eq _ _ _ _).symm
    · rw [Cert.Kernel18Ideal.MixInDx.final6, e0, e1, e2]
      funext i
      idx_vars i
      obtain rfl : i0 = 0 := Subsingleton.elim _ _
      exact Cert.Reference18Ideal.MixInDx.dgA_at _ _ _ i1

end Cert.MixInDx

end
-- ==== Proof.MixInDw.lean ====
/- The mixer's input projection, its backward pass in the weights: what the kernel leaves, and that the reference leaves the same. -/
module

public import proofs.«01_k».proof.Defs
public import proofs.«01_k».proof.Proof.Gen.Kernel19Ideal.Value
public import proofs.«01_k».proof.Proof.Gen.Reference19Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel19Ideal.MixInDw

open Cert.Kernel19Ideal Cert.Kernel19Ideal.Gen

theorem pay1 (y : S1x1024x768.Idx) : k0_pay1 (F := Ideal) y = 0 := by
  unfold k0_pay1; pointwise

theorem pay2 (o : Vec Ideal S1x1024x768 .f32) (a : Vec Ideal S2048x1024 .bf16) (g : Vec Ideal S2048x768 .bf16) (r : Fin 1024) (j : Fin 768) :
    k0_pay2 (F := Ideal) o a g (ix3 0 r j) = o (ix3 0 r j) + ∑ e : Fin 2048, a (ix2 e r) * g (ix2 e j) := by
  unfold k0_pay2; pointwise

theorem idx : ∀ t : Fin cfg0.N, win0_0.index t = ![t.val % 4, 0] ∧ win0_1.index t = ![t.val % 4, t.val / 4]
    ∧ win0_2.index t = ![0, 0, t.val / 4] :=
  (by decide +kernel : ∀ t : Fin grid0.N, _)

/-- One tile of rows' part of the gradient. -/
def part (a : Vec Ideal S2048x1024 .bf16) (g : Vec Ideal S2048x768 .bf16) (y : S1x1024x768.Idx) : EReal :=
  ∑ e : Fin 2048, a (ix2 e (y 1)) * g (ix2 e (y 2))

theorem pointA (c : Dev nD) (i : grid0.Coords) (a1 h1 a2 h2 a3 h3 hc) (b0 : Vec Ideal S2048x1024 .bf16) (b1 : Vec Ideal S2048x768 .bf16)
    (y : S1x1024x768.Idx) : out0_A_2 (F := Ideal) c i a1 h1 a2 h2 a3 h3 hc b0 b1 y = part b0 b1 y := by
  frame_out
  idx_vars y
  obtain rfl : y0 = 0 := Subsingleton.elim _ _
  rw [pay2, pay1, zero_add]; rfl

theorem pointB (c : Dev nD) (i : grid0.Coords) (a1 h1 a2 h2 a3 h3 hc) (b0 : Vec Ideal S2048x1024 .bf16) (b1 : Vec Ideal S2048x768 .bf16)
    (b2 : Vec Ideal S1x1024x768 .f32) (y : S1x1024x768.Idx) :
    out0_B_2 (F := Ideal) c i a1 h1 a2 h2 a3 h3 hc b0 b1 b2 y = b2 y + part b0 b1 y := by
  frame_out
  idx_vars y
  obtain rfl : y0 = 0 := Subsingleton.elim _ _
  rw [pay2]; rfl

variable (m : (ℓ : Loc nD τ sig) → Buf (Elt Ideal) ℓ) (c : Dev nD)

/-- The normed input, the projection's gradient, and the stack of the layers' gradients, as launched. -/
abbrev aH : FVec Ideal S8192x1024 .bf16 := m ((c : Thread nD τ).loc main_arg0)
abbrev aU : FVec Ideal S8192x1536 .bf16 := m ((c : Thread nD τ).loc main_arg1)
abbrev aS : FVec Ideal S2x1024x1536 .f32 := m ((c : Thread nD τ).loc main_arg2)

/-- The stack with the first layer's gradient put in, as an array. -/
def out : S2x1024x1536.Idx → EReal := fun i =>
  if (i 0).val = 0 then ∑ e : Fin 8192, aH m c (ix2 e (i 1)) * aU m c (ix2 e (i 2)) else aS m c i

theorem run_sum (t : Fin cfg0.N) (ht : t.val % 4 = 4 - 1) (y : S1x1024x768.Idx) :
    ∑ s : Fin 4, part (iblk m c 0 ⟨4 * (t.val / 4) + s.val, Pipeline.run_point_lt_of_flush t ht s⟩)
      (iblk m c 1 ⟨4 * (t.val / 4) + s.val, Pipeline.run_point_lt_of_flush t ht s⟩) y
      = out m c (((View.whole main_v0).slice (win0_2.rect t)).emb y) := by
  have hN := lt_of_lt_of_eq t.isLt (show cfg0.N = 8 from N_0)
  idx_vars y
  have e : ((View.whole main_v0).slice (win0_2.rect t)).emb (ix3 y0 y1 y2)
      = (ix3 0 y1 ⟨t.val / 4 * 768 + y2.val, by omega⟩ : S2x1024x1536.Idx) := by
    obtain rfl : y0 = 0 := Subsingleton.elim _ _
    blk_ext [idx t]
  refine Eq.trans ?_ (congrArg (out m c) e).symm
  show _ = ∑ e : Fin 8192, aH m c (ix2 e y1) * aU m c (ix2 e ⟨t.val / 4 * 768 + y2.val, by omega⟩)
  unfold part
  refine Fin.sum_mul_add_congr (fun s k hl => ?_) rfl
  congr 1
  · blk_point [iblk, V, idx ⟨4 * (t.val / 4) + s.val, Pipeline.run_point_lt_of_flush t ht s⟩]
  · blk_point [iblk, V, idx ⟨4 * (t.val / 4) + s.val, Pipeline.run_point_lt_of_flush t ht s⟩]

theorem final : (dats m 0 c).arrAt 2 cfg0.N = out m c := by
  refine (dats m 0 c).arrAt_eq_of_coversWhere_of_agree 2 _ (fun β => β (0 : Fin 3) = 0) (by decide +kernel) (fun t hf y => ?_) (fun j hj => ?_)
  · blk_simp
    have ht := (flush0_2 t).mp hf
    rw [after0_2, Pipeline.eq_sum_fin_of_reset_step_apply_of_flush (fun n h => outsAt0 m c n h) 4 (fun _ => 0)
      (fun t j => part (iblk m c 0 t) (iblk m c 1 t) j)
      (fun t h j => by rw [outsAt0_A m c t h, pointA, zero_add])
      (fun t h j => by rw [outsAt0_B m c t h, pointB]) t ht y, zero_add]
    exact run_sum m c t ht y
  · blk_simp [Pipeline.Window.cell_apply] at hj
    rw [A_eq]
    have : ¬ (j 0).val = 0 := by omega
    exact (if_neg this).symm

end Cert.Kernel19Ideal.MixInDw

namespace Cert.Reference19Ideal.MixInDw

open Cert.Reference19Ideal Cert.Reference19Ideal.Gen

/-- The reference's result at an index: the transposed product in the first layer, what was there in the others. -/
theorem res_at (h : FVec Ideal S8192x1024 .bf16) (u : FVec Ideal S8192x1536 .bf16) (s : FVec Ideal S2x1024x1536 .f32) (i : S2x1024x1536.Idx) :
    (select (broadcastInDim S2x1024x1536 ![0, 1, 2] bcast_S2x1x1_S2x1024x1536_0_1_2 (cmpi .eq (broadcastInDim S2x1x1 ![0] bcast_S2_S2x1x1_0 (iotaInDim S2 32 0)) (broadcastInDim S2x1x1 ![] bcast_S_S2x1x1 (constantI S_ 32 0#32)))) (broadcastInDim S2x1024x1536 ![1, 2] bcast_S1024x1536_S2x1024x1536_1_2 (transpose S1024x1536 [1, 0] (Host.dotGeneral dot_S8192x1536_S8192x1024_S1536x1024_0_0_1_1_n_n none (extf .f32 u bitsLt_bf16_f32) (extf .f32 h bitsLt_bf16_f32)) transposes_S1536x1024_S1024x1536_1_0)) s : FVec Ideal S2x1024x1536 .f32) i
      = if (i 0).val = 0 then ∑ e : Fin 8192, h (ix2 e (i 1)) * u (ix2 e (i 2)) else s i := by
  idx_vars i
  pointwise
  simp only [mul_comm (u _)]
  fin_cases i0 <;> rfl

end Cert.Reference19Ideal.MixInDw

namespace Cert.MixInDw

theorem reference : Cert.quiescent_Reference19Ideal := fun m g _ =>
  (θ_run Cert.Reference19Ideal.defs _ _).mono (fun r h => ⟨fun c => (h c).2, sem_eq_zero_of_no_sems (by decide) r.2⟩)
    (Cert.Reference19Ideal.Value.run m g)

/-- The two programs leave the same array. -/
theorem algebraic : Cert.algebraic_Kernel19Ideal_Reference19Ideal := by
  pair_intro
  · run_from Cert.Kernel19Ideal.Value.run_blocks m g
  · refine (θ_run Cert.Reference19Ideal.defs _ _).mono (fun r h c => ?_) (Cert.Reference19Ideal.Value.run m' g')
    obtain ⟨e0, e1, e2⟩ := hagree c
    obtain ⟨h1, h2⟩ := h c
    refine ⟨h1.trans ?_, h2⟩
    rw [Cert.Kernel19Ideal.MixInDw.final, e0, e1, e2]
    funext i
    exact Cert.Reference19Ideal.MixInDw.res_at _ _ _ i

end Cert.MixInDw

end
-- ==== Proof.MlaDown.lean ====
/- The latent attention's norm and down projection: what the kernel leaves, and that the
   reference leaves the same. -/
module

public import proofs.«01_k».proof.Defs
public import proofs.«01_k».proof.Proof.NormCore
public import proofs.«01_k».proof.Proof.Gen.Kernel20Ideal.Value
public import proofs.«01_k».proof.Proof.Gen.Reference20Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel20Ideal.MlaDown

open Cert.Kernel20Ideal Cert.Kernel20Ideal.Gen

theorem pay1 (x : Vec Ideal S1024x1024 .f32) (g : Vec Ideal S1x1024 .f32) (r j : Fin 1024) :
    k0_pay1 (F := Ideal) x g (ix2 r j) = x (ix2 r j) * (Cert.Norm.rs fun k => x (ix2 r k)) * g (ix2 0 j) := by
  unfold k0_pay1; pointwise; rfl

theorem pay2 (h : Vec Ideal S1024x1024 .bf16) (w : Vec Ideal S1024x768 .bf16) (r : Fin 1024) (j : Fin 768) :
    k0_pay2 (F := Ideal) h w (ix2 r j) = ∑ e : Fin 1024, h (ix2 r e) * w (ix2 e j) := by
  unfold k0_pay2; pointwise

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem point3 (c : Dev nD) (i : grid0.Coords) (a2 h2 a3 h3 a4 h4 a5 h5 a6 h6 hc0) (b0 : Vec Ideal S1024x1024 .f32)
    (b1 : Vec Ideal S1x1024 .f32) (b2 : Vec Ideal S1024x768 .bf16) :
    out0_A_3 (F := Ideal) c i a2 h2 a3 h3 a4 h4 a5 h5 a6 h6 hc0 b0 b1 b2 = k0_pay2 (k0_pay1 b0 b1) b2 := by
  funext y
  frame_out

theorem point4 (c : Dev nD) (i : grid0.Coords) (a2 h2 a3 h3 a4 h4 a5 h5 a6 h6 hc0) (b0 : Vec Ideal S1024x1024 .f32)
    (b1 : Vec Ideal S1x1024 .f32) (b2 : Vec Ideal S1024x768 .bf16) :
    out0_A_4 (F := Ideal) c i a2 h2 a3 h3 a4 h4 a5 h5 a6 h6 hc0 b0 b1 b2 = k0_pay1 b0 b1 := by
  funext y
  frame_out

variable (m : (ℓ : Loc nD τ sig) → Buf (Elt Ideal) ℓ) (c : Dev nD)

/-- The layer's input, the norm's gain, and the weights, as launched. -/
abbrev aX : FVec Ideal S8192x1024 .f32 := m ((c : Thread nD τ).loc main_arg0)
abbrev aG : FVec Ideal S1x1024 .f32 := m ((c : Thread nD τ).loc main_arg1)
abbrev aW : FVec Ideal S1024x768 .bf16 := m ((c : Thread nD τ).loc main_arg2)

/-- Row `r` of tile `t`, among all rows. -/
abbrev tr (t : Fin cfg0.N) (r : Fin 1024) : Fin 8192 :=
  ⟨t.val * 1024 + r.val, by have := lt_of_lt_of_eq t.isLt N_0; omega⟩

theorem blk0 (t : Fin cfg0.N) (r e : Fin 1024) : iblk m c 0 t (ix2 r e) = aX m c (ix2 (tr t r) e) := by
  blk_point [iblk, V, idx t]

theorem blk1 (t : Fin cfg0.N) (e : Fin 1024) : iblk m c 1 t (ix2 0 e) = aG m c (ix2 0 e) := by
  blk_point [iblk, V, idx t]

theorem blk2 (t : Fin cfg0.N) (e : Fin 1024) (j : Fin 768) : iblk m c 2 t (ix2 e j) = aW m c (ix2 e j) := by
  blk_point [iblk, V, idx t]

/-- The normed row. -/
def hr (r : Fin 8192) (j : Fin 1024) : EReal :=
  aX m c (ix2 r j) * (Cert.Norm.rs fun k => aX m c (ix2 r k)) * aG m c (ix2 0 j)

/-- The projection, as an array. -/
def out3 : S8192x768.Idx → EReal := fun i => ∑ e : Fin 1024, hr m c (i 0) e * aW m c (ix2 e (i 1))

/-- The normed rows, as an array. -/
def out4 : S8192x1024.Idx → EReal := fun i => hr m c (i 0) (i 1)

theorem emb3 (t : Fin cfg0.N) (y : S1024x768.Idx) :
    out3 m c (ix2 (tr t (y 0)) (y 1)) = out3 m c (((View.whole main_v0_0).slice (win0_3.rect t)).emb y) := by
  idx_vars y
  blk_ext [idx t]

theorem emb4 (t : Fin cfg0.N) (y : S1024x1024.Idx) :
    out4 m c (ix2 (tr t (y 0)) (y 1)) = out4 m c (((View.whole main_v0_1).slice (win0_4.rect t)).emb y) := by
  idx_vars y
  blk_ext [idx t]

theorem o3_eq (t : Fin cfg0.N) : (outsAt0 m c t).1 = k0_pay2 (k0_pay1 (iblk m c 0 t) (iblk m c 1 t)) (iblk m c 2 t) := by
  unfold outsAt0; dsimp only; rw [point3]

theorem o4_eq (t : Fin cfg0.N) : (outsAt0 m c t).2 = k0_pay1 (iblk m c 0 t) (iblk m c 1 t) := by
  unfold outsAt0; dsimp only; rw [point4]

theorem final3 : (dats m 0 c).arrAt 3 cfg0.N = out3 m c := by
  refine (dats m 0 c).arrAt_eq_of_covers 3 _ (by decide +kernel) fun t hf y => ?_
  blk_simp
  rw [after0_3]
  refine Eq.trans ?_ (emb3 m c t y)
  rw [o3_eq]
  idx_vars y
  refine (pay2 _ _ y0 y1).trans ?_
  simp only [pay1, blk0, blk1, blk2]
  rfl

theorem final4 : (dats m 0 c).arrAt 4 cfg0.N = out4 m c := by
  refine (dats m 0 c).arrAt_eq_of_covers 4 _ (by decide +kernel) fun t hf y => ?_
  blk_simp
  rw [after0_4]
  refine Eq.trans ?_ (emb4 m c t y)
  rw [o4_eq]
  idx_vars y
  refine (pay1 _ _ y0 y1).trans ?_
  simp only [blk0, blk1]
  rfl

end Cert.Kernel20Ideal.MlaDown

namespace Cert.Reference20Ideal.MlaDown

open Cert.Reference20Ideal Cert.Reference20Ideal.Gen

variable (x : FVec Ideal S8192x1024 .f32) (g : FVec Ideal S1x1024 .f32) (w : FVec Ideal S1024x768 .bf16)

/-- The rows' mean squares, with the small constant added. -/
def msA : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

theorem msA_at (r : Fin 8192) : msA x (ix2 r 0) = Cert.Norm.ms fun k => x (ix2 r k) := by
  unfold msA; pointwise; rfl

/-- The normed rows. -/
def hA : FVec Ideal S8192x1024 .f32 :=
  mulf (mulf x (broadcastInDim S8192x1024 ![0, 1] bcast_S8192x1_S8192x1024_0_1 (Host.rsqrt (msA x)))) (broadcastInDim S8192x1024 ![0, 1] bcast_S1x1024_S8192x1024_0_1 (broadcastInDim S1x1024 ![1] bcast_S1024_S1x1024_1 (shapeCast _ g shapeCasts_S1x1024_S1024)))

theorem hA_at (r : Fin 8192) (j : Fin 1024) :
    hA x g (ix2 r j) = x (ix2 r j) * (Cert.Norm.rs fun k => x (ix2 r k)) * g (ix2 0 j) := by
  unfold hA; pointwise; simp only [msA_at]; rfl

theorem h_at (i : S8192x1024.Idx) :
    (truncf .bf16 (hA x g) bitsLt_bf16_f32 : FVec Ideal S8192x1024 .bf16) i
      = x (ix2 (i 0) (i 1)) * (Cert.Norm.rs fun k => x (ix2 (i 0) k)) * g (ix2 0 (i 1)) := by
  idx_vars i
  pointwise
  exact hA_at x g i0 i1

theorem z_at (i : S8192x768.Idx) :
    (Host.dotGeneral dot_S8192x1024_S1024x768_S8192x768_1_0_0_1_n_n none (hA x g) (extf .f32 w bitsLt_bf16_f32) : FVec Ideal S8192x768 .f32) i
      = ∑ e : Fin 1024, x (ix2 (i 0) e) * (Cert.Norm.rs fun k => x (ix2 (i 0) k)) * g (ix2 0 e) * w (ix2 e (i 1)) := by
  idx_vars i
  pointwise
  simp only [hA_at]

end Cert.Reference20Ideal.MlaDown

namespace Cert.MlaDown

theorem reference : Cert.quiescent_Reference20Ideal := fun m g _ =>
  (θ_run Cert.Reference20Ideal.defs _ _).mono (fun r h => ⟨fun c => (h c).2.2, sem_eq_zero_of_no_sems (by decide) r.2⟩)
    (Cert.Reference20Ideal.Value.run m g)

/-- The two programs leave the same two arrays. -/
theorem algebraic : Cert.algebraic_Kernel20Ideal_Reference20Ideal := by
  pair_intro
  · run_from Cert.Kernel20Ideal.Value.run_blocks m g
  · refine (θ_run Cert.Reference20Ideal.defs _ _).mono (fun r h c => ?_) (Cert.Reference20Ideal.Value.run m' g')
    obtain ⟨e0, e1, e2⟩ := hagree c
    obtain ⟨h1, h2, h3⟩ := h c
    refine ⟨h1.trans ?_, h2.trans ?_, h3⟩
    · rw [Cert.Kernel20Ideal.MlaDown.final3, e0, e1, e2]
      funext i
      exact Cert.Reference20Ideal.MlaDown.z_at _ _ _ i
    · rw [Cert.Kernel20Ideal.MlaDown.final4, e0, e1]
      funext i
      exact Cert.Reference20Ideal.MlaDown.h_at _ _ i

end Cert.MlaDown

end
-- ==== Proof.MlaDownDx.lean ====
/- The latent attention's down projection, its backward pass in the layer's input and in the norm's gain: what the kernel leaves, and that the
   reference leaves the same. -/
module

public import proofs.«01_k».proof.Defs
public import proofs.«01_k».proof.Proof.NormCore
public import proofs.«01_k».proof.Proof.Gen.Kernel21Ideal.Value
public import proofs.«01_k».proof.Proof.Gen.Reference21Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel21Ideal.MlaDownDx

open Cert.Kernel21Ideal Cert.Kernel21Ideal.Gen

theorem pay1 (y : S1024x1024.Idx) : k0_pay1 (F := Ideal) y = 0 := by
  unfold k0_pay1; pointwise

theorem pay2 (o : Vec Ideal S1024x1024 .f32) (a : Vec Ideal S1024x768 .bf16) (w : Vec Ideal S1024x768 .bf16) (r j : Fin 1024) :
    k0_pay2 (F := Ideal) o a w (ix2 r j) = o (ix2 r j) + ∑ e : Fin 768, a (ix2 r e) * w (ix2 j e) := by
  unfold k0_pay2; pointwise

theorem pay3 (x : Vec Ideal S1024x1024 .f32) (r : Fin 1024) :
    k0_pay3 (F := Ideal) x (ix2 r 0) = Cert.Norm.rs fun k => x (ix2 r k) := by
  unfold k0_pay3; pointwise; rfl

theorem pay4 (x : Vec Ideal S1024x1024 .f32) (r j : Fin 1024) :
    k0_pay4 (F := Ideal) x (ix2 r j) = x (ix2 r j) * Cert.Norm.rs fun k => x (ix2 r k) := by
  unfold k0_pay4; pointwise; rw [pay3]

theorem pay5 (x : Vec Ideal S1024x1024 .f32) (g : Vec Ideal S1x1024 .f32) (d s : Vec Ideal S1024x1024 .f32) (r j : Fin 1024) :
    k0_pay5 (F := Ideal) x g d s (ix2 r j)
      = s (ix2 r j) + Cert.Norm.dxK (fun k => x (ix2 r k)) (fun k => g (ix2 0 k)) (fun k => d (ix2 r k)) j := by
  unfold k0_pay5; pointwise; simp only [pay3, pay4]; rfl

theorem pay6 (y : S1x1024.Idx) : k0_pay6 (F := Ideal) y = 0 := by
  unfold k0_pay6; pointwise

theorem pay7 (x d : Vec Ideal S1024x1024 .f32) (o : Vec Ideal S1x1024 .f32) (j : Fin 1024) :
    k0_pay7 (F := Ideal) x d o (ix2 0 j)
      = o (ix2 0 j) + ∑ r : Fin 1024, d (ix2 r j) * (x (ix2 r j) * Cert.Norm.rs fun k => x (ix2 r k)) := by
  unfold k0_pay7; pointwise; simp only [pay4]

theorem idx : ∀ t : Fin cfg0.N, win0_0.index t = ![t.val, 0] ∧ win0_1.index t = ![0, 0]
    ∧ win0_2.index t = ![t.val, 0] ∧ win0_3.index t = ![0, 0] ∧ win0_4.index t = ![t.val, 0]
    ∧ win0_5.index t = ![t.val, 0] ∧ win0_6.index t = ![0, 0] :=
  (by decide +kernel : ∀ t : Fin grid0.N, _)

theorem pointA5 (c : Dev nD) (i : grid0.Coords) (a2 h2 a3 h3 a4 h4 a5 h5 a6 h6 a7 h7 a8 h8 a9 h9 hc0 hc1 hc2)
    (b0 : Vec Ideal S1024x768 .bf16) (b1 : Vec Ideal S1024x768 .bf16) (b2 : Vec Ideal S1024x1024 .f32) (b3 : Vec Ideal S1x1024 .f32)
    (b4 : Vec Ideal S1024x1024 .f32) :
    out0_A_5 (F := Ideal) c i a2 h2 a3 h3 a4 h4 a5 h5 a6 h6 a7 h7 a8 h8 a9 h9 hc0 hc1 hc2 b0 b1 b2 b3 b4 = k0_pay5 b2 b3 (k0_pay2 (k0_pay1 (F := Ideal)) b0 b1) b4 := by
  funext y
  frame_out

theorem pointB5 (c : Dev nD) (i : grid0.Coords) (a2 h2 a3 h3 a4 h4 a5 h5 a6 h6 a7 h7 a8 h8 a9 h9 hc0 hc1 hc2)
    (b0 : Vec Ideal S1024x768 .bf16) (b1 : Vec Ideal S1024x768 .bf16) (b2 : Vec Ideal S1024x1024 .f32) (b3 : Vec Ideal S1x1024 .f32)
    (b4 : Vec Ideal S1024x1024 .f32) (o : Vec Ideal S1x1024 .f32) :
    out0_B_5 (F := Ideal) c i a2 h2 a3 h3 a4 h4 a5 h5 a6 h6 a7 h7 a8 h8 a9 h9 hc0 hc1 hc2 b0 b1 b2 b3 b4 o = k0_pay5 b2 b3 (k0_pay2 (k0_pay1 (F := Ideal)) b0 b1) b4 := by
  funext y
  frame_out

theorem pointA6 (c : Dev nD) (i : grid0.Coords) (a2 h2 a3 h3 a4 h4 a5 h5 a6 h6 a7 h7 a8 h8 a9 h9 hc0 hc1 hc2)
    (b0 : Vec Ideal S1024x768 .bf16) (b1 : Vec Ideal S1024x768 .bf16) (b2 : Vec Ideal S1024x1024 .f32) (b3 : Vec Ideal S1x1024 .f32)
    (b4 : Vec Ideal S1024x1024 .f32) :
    out0_A_6 (F := Ideal) c i a2 h2 a3 h3 a4 h4 a5 h5 a6 h6 a7 h7 a8 h8 a9 h9 hc0 hc1 hc2 b0 b1 b2 b3 b4 = k0_pay7 b2 (k0_pay2 (k0_pay1 (F := Ideal)) b0 b1) (k0_pay6 (F := Ideal)) := by
  funext y
  frame_out

theorem pointB6 (c : Dev nD) (i : grid0.Coords) (a2 h2 a3 h3 a4 h4 a5 h5 a6 h6 a7 h7 a8 h8 a9 h9 hc0 hc1 hc2)
    (b0 : Vec Ideal S1024x768 .bf16) (b1 : Vec Ideal S1024x768 .bf16) (b2 : Vec Ideal S1024x1024 .f32) (b3 : Vec Ideal S1x1024 .f32)
    (b4 : Vec Ideal S1024x1024 .f32) (o : Vec Ideal S1x1024 .f32) :
    out0_B_6 (F := Ideal) c i a2 h2 a3 h3 a4 h4 a5 h5 a6 h6 a7 h7 a8 h8 a9 h9 hc0 hc1 hc2 b0 b1 b2 b3 b4 o = k0_pay7 b2 (k0_pay2 (k0_pay1 (F := Ideal)) b0 b1) o := by
  funext y
  frame_out

variable (m : (ℓ : Loc nD τ sig) → Buf (Elt Ideal) ℓ) (c : Dev nD)

/-- The projection's gradient, the weights, the layer's input, the gain, and the gradient that the
    residual path brings, as launched. -/
abbrev aU : FVec Ideal S8192x768 .bf16 := m ((c : Thread nD τ).loc main_arg0)
abbrev aW : FVec Ideal S1024x768 .bf16 := m ((c : Thread nD τ).loc main_arg1)
abbrev aX : FVec Ideal S8192x1024 .f32 := m ((c : Thread nD τ).loc main_arg2)
abbrev aG : FVec Ideal S1x1024 .f32 := m ((c : Thread nD τ).loc main_arg3)
abbrev aR : FVec Ideal S8192x1024 .f32 := m ((c : Thread nD τ).loc main_arg4)

/-- Row `r` of tile `t`, among all rows. -/
abbrev tr (t : Fin cfg0.N) (r : Fin 1024) : Fin 8192 :=
  ⟨t.val * 1024 + r.val, by have := lt_of_lt_of_eq t.isLt N_0; omega⟩

theorem blk0 (t : Fin cfg0.N) (r : Fin 1024) (e : Fin 768) : iblk m c 0 t (ix2 r e) = aU m c (ix2 (tr t r) e) := by
  blk_point [iblk, V, idx t]

theorem blk1 (t : Fin cfg0.N) (j : Fin 1024) (e : Fin 768) : iblk m c 1 t (ix2 j e) = aW m c (ix2 j e) := by
  blk_point [iblk, V, idx t]

theorem blk2 (t : Fin cfg0.N) (r e : Fin 1024) : iblk m c 2 t (ix2 r e) = aX m c (ix2 (tr t r) e) := by
  blk_point [iblk, V, idx t]

theorem blk3 (t : Fin cfg0.N) (e : Fin 1024) : iblk m c 3 t (ix2 0 e) = aG m c (ix2 0 e) := by
  blk_point [iblk, V, idx t]

theorem blk4 (t : Fin cfg0.N) (r e : Fin 1024) : iblk m c 4 t (ix2 r e) = aR m c (ix2 (tr t r) e) := by
  blk_point [iblk, V, idx t]

/-- The gradient of the normed input. -/
def dh (r : Fin 8192) (j : Fin 1024) : EReal := ∑ e : Fin 768, aU m c (ix2 r e) * aW m c (ix2 j e)

/-- The gradient of the layer's input, as an array. -/
def out5 : S8192x1024.Idx → EReal := fun i =>
  aR m c i + Cert.Norm.dxK (fun k => aX m c (ix2 (i 0) k)) (fun k => aG m c (ix2 0 k)) (dh m c (i 0)) (i 1)

/-- One row's part of the gain's gradient. -/
def gpart (r : Fin 8192) (j : Fin 1024) : EReal :=
  dh m c r j * (aX m c (ix2 r j) * Cert.Norm.rs fun k => aX m c (ix2 r k))

/-- The gradient of the gain, as an array. -/
def out6 : S1x1024.Idx → EReal := fun i => ∑ r : Fin 8192, gpart m c r (i 1)

/-- The accumulator of a point: the gradient of the normed input. -/
abbrev accAt (t : Fin cfg0.N) : Vec Ideal S1024x1024 .f32 := k0_pay2 (k0_pay1 (F := Ideal)) (iblk m c 0 t) (iblk m c 1 t)

theorem acc_eq (t : Fin cfg0.N) (r j : Fin 1024) : accAt m c t (ix2 r j) = dh m c (tr t r) j := by
  refine (pay2 _ _ _ r j).trans ?_
  rw [pay1, zero_add]
  simp only [blk0, blk1]
  rfl

/-- The block of the input's gradient, after a point. -/
theorem o5_eq (t : Fin cfg0.N) :
    (outsAt0 m c t.val t.isLt).1 = k0_pay5 (iblk m c 2 t) (iblk m c 3 t) (accAt m c t) (iblk m c 4 t) := by
  by_cases h : t.val % 8 = 0
  · rw [outsAt0_A m c t h]; dsimp only; rw [pointA5]
  · rw [outsAt0_B m c t h]; dsimp only; rw [pointB5]

theorem emb5 (t : Fin cfg0.N) (y : S1024x1024.Idx) :
    out5 m c (ix2 (tr t (y 0)) (y 1)) = out5 m c (((View.whole main_v0_0).slice (win0_5.rect t)).emb y) := by
  idx_vars y
  blk_ext [idx t]

theorem final5 : (dats m 0 c).arrAt 5 cfg0.N = out5 m c := by
  refine (dats m 0 c).arrAt_eq_of_covers 5 _ (by decide +kernel) fun t hf y => ?_
  blk_simp
  rw [after0_5]
  refine Eq.trans ?_ (emb5 m c t y)
  rw [o5_eq m c t]
  idx_vars y
  refine (pay5 _ _ _ _ y0 y1).trans ?_
  simp only [blk2, blk3, blk4, acc_eq m c t]
  rfl

/-- A tile of rows' part of the gain's gradient. -/
def tpart (t : Fin cfg0.N) (j : S1x1024.Idx) : EReal := ∑ r : Fin 1024, gpart m c (tr t r) (j 1)

theorem pay7_at (t : Fin cfg0.N) (o : Vec Ideal S1x1024 .f32) (j : S1x1024.Idx) :
    k0_pay7 (F := Ideal) (iblk m c 2 t) (accAt m c t) o j = o j + tpart m c t j := by
  idx_vars j
  obtain rfl : j0 = 0 := Subsingleton.elim _ _
  refine (pay7 _ _ _ j1).trans ?_
  simp only [blk2, acc_eq m c t]
  rfl

theorem g6_zero (t : Fin cfg0.N) (h : t.val % 8 = 0) (j : S1x1024.Idx) :
    (outsAt0 m c t.val t.isLt).2 j = 0 + tpart m c t j := by
  have e : (outsAt0 m c t.val t.isLt).2 = k0_pay7 (iblk m c 2 t) (accAt m c t) (k0_pay6 (F := Ideal)) := by
    rw [outsAt0_A m c t h]; dsimp only; rw [pointA6]
  refine (congrFun e j).trans ((pay7_at m c t _ j).trans ?_)
  rw [pay6]

theorem g6_step (t : Fin cfg0.N) (h : ¬t.val % 8 = 0) (j : S1x1024.Idx) :
    (outsAt0 m c t.val t.isLt).2 j
      = (outsAt0 m c (t.val - 1) (Nat.lt_of_le_of_lt (Nat.sub_le _ _) t.isLt)).2 j + tpart m c t j := by
  have e : (outsAt0 m c t.val t.isLt).2 = k0_pay7 (iblk m c 2 t) (accAt m c t)
      (outsAt0 m c (t.val - 1) (Nat.lt_of_le_of_lt (Nat.sub_le _ _) t.isLt)).2 := by
    rw [outsAt0_B m c t h]; dsimp only; rw [pointB6]
  exact (congrFun e j).trans (pay7_at m c t _ j)

theorem last6 (t : Fin cfg0.N) (ht : t.val % 8 = 7) : (outsAt0 m c t.val t.isLt).2 = out6 m c := by
  have hN := lt_of_lt_of_eq t.isLt (show cfg0.N = 8 from N_0)
  funext j
  refine (Pipeline.eq_sum_fin_of_reset_step_apply_last (N := cfg0.N) (fun n h => (outsAt0 m c n h).2) 8 (fun _ => 0) (tpart m c)
    (g6_zero m c) (g6_step m c) (le_of_eq N_0) t (by have hc : cfg0.N = 8 := N_0; omega) j).trans ?_
  rw [zero_add]
  unfold tpart out6
  exact Fin.sum_mul_add_congr (f := fun r => gpart m c r (j 1)) (fun s k hl => rfl) rfl

theorem emb6 (t : Fin cfg0.N) (y : S1x1024.Idx) :
    out6 m c y = out6 m c (((View.whole main_v0_1).slice (win0_6.rect t)).emb y) := by
  idx_vars y
  congr 1
  blk_ext [idx t]

theorem final6 : (dats m 0 c).arrAt 6 cfg0.N = out6 m c := by
  refine (dats m 0 c).arrAt_eq_of_covers 6 _ (by decide +kernel) fun t hf y => ?_
  blk_simp
  rw [after0_6, last6 m c t ((flush0_6 t).mp hf)]
  exact emb6 m c t y

end Cert.Kernel21Ideal.MlaDownDx

namespace Cert.Reference21Ideal.MlaDownDx

open Cert.Reference21Ideal Cert.Reference21Ideal.Gen

variable (u : FVec Ideal S8192x768 .bf16) (w : FVec Ideal S1024x768 .bf16) (x : FVec Ideal S8192x1024 .f32)
  (g : FVec Ideal S1x1024 .f32) (s : FVec Ideal S8192x1024 .f32)

/-- The gradient of the normed input. -/
def dhA : FVec Ideal S8192x1024 .f32 :=
  Host.dotGeneral dot_S8192x768_S1024x768_S8192x1024_1_1_0_0_n_n none (extf .f32 u bitsLt_bf16_f32)
    (extf .f32 w bitsLt_bf16_f32)

theorem dhA_at (r : Fin 8192) (j : Fin 1024) : dhA u w (ix2 r j) = ∑ e : Fin 768, u (ix2 r e) * w (ix2 j e) := by
  unfold dhA; pointwise

/-- The gradient of the normed input, times the gain. -/
def duA : FVec Ideal S8192x1024 .f32 :=
  mulf (dhA u w) (broadcastInDim S8192x1024 ![0, 1] bcast_S1x1024_S8192x1024_0_1 (broadcastInDim S1x1024 ![1] bcast_S1024_S1x1024_1 (shapeCast _ g shapeCasts_S1x1024_S1024)))

theorem duA_at (r : Fin 8192) (j : Fin 1024) : duA u w g (ix2 r j) = dhA u w (ix2 r j) * g (ix2 0 j) := by
  unfold duA; pointwise

/-- The rows' mean squares, with the small constant added. -/
def msA : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

theorem msA_at (r : Fin 8192) : msA x (ix2 r 0) = Cert.Norm.ms fun k => x (ix2 r k) := by
  unfold msA; pointwise; rfl

/-- The rows' scales. -/
def rsA : FVec Ideal S8192x1024 .f32 := broadcastInDim S8192x1024 ![0, 1] bcast_S8192x1_S8192x1024_0_1 (Host.rsqrt (msA x))

theorem rsA_at (r : Fin 8192) (j : Fin 1024) : rsA x (ix2 r j) = Cert.Norm.rs fun k => x (ix2 r k) := by
  unfold rsA; pointwise; rw [msA_at]; rfl

/-- The gradient of the mean squares, spread over the columns. -/
def dmA : FVec Ideal S8192x1024 .f32 :=
  broadcastInDim S8192x1024 ![0] bcast_S8192_S8192x1024_0 (Host.reduceAdd (Host.divf (mulf (shapeCast _ (Host.reduceAdd (mulf x (duA u w g)) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (msA x)) (msA x)))) (broadcastInDim S8192x1 ![] bcast_S_S8192x1 (constant S_ .f32 0x44800000#32))) (constant S_ .f32 0x00000000#32) reducesTo_S8192x1_S8192_d1 h_S_)

theorem dmA_at (r : Fin 8192) (j : Fin 1024) :
    dmA u w x g (ix2 r j) = Cert.Norm.dms (fun k => x (ix2 r k)) (fun k => g (ix2 0 k)) fun k => dhA u w (ix2 r k) := by
  unfold dmA; pointwise
  refine (Fintype.sum_subsingleton _ (0 : Fin 1)).trans ?_
  simp only [msA_at, duA_at]; rfl

/-- The gradient of the layer's input. -/
def dxA : FVec Ideal S8192x1024 .f32 :=
  addf s (addf (addf (mulf (duA u w g) (rsA x)) (mulf x (dmA u w x g))) (mulf (dmA u w x g) x))

theorem dxA_at (r : Fin 8192) (j : Fin 1024) :
    dxA u w x g s (ix2 r j)
      = s (ix2 r j) + Cert.Norm.dxR (fun k => x (ix2 r k)) (fun k => g (ix2 0 k)) (fun k => ∑ e : Fin 768, u (ix2 r e) * w (ix2 k e)) j := by
  unfold dxA; pointwise; simp only [duA_at, rsA_at, dmA_at, dhA_at]; rfl

theorem res_eq (m : (ℓ : Loc nD τ sig) → Buf (Elt Ideal) ℓ) (c : Dev nD) :
    Cert.Reference21Ideal.Value.res_main_v42 (F := Ideal) m c
      = dxA (m ((c : Thread nD τ).loc main_arg0)) (m ((c : Thread nD τ).loc main_arg1)) (m ((c : Thread nD τ).loc main_arg2))
        (m ((c : Thread nD τ).loc main_arg3)) (m ((c : Thread nD τ).loc main_arg4)) := by
  unfold Cert.Reference21Ideal.Value.res_main_v42 dxA
  iterate 40 (all_goals try (first | with_reducible rfl | congr 1))

/-- The gradient of the gain. -/
def dgA : FVec Ideal S1x1024 .f32 :=
  broadcastInDim S1x1024 ![1] bcast_S1024_S1x1024_1 (Host.reduceAdd (shapeCast _ (Host.reduceAdd (mulf (mulf x (rsA x)) (dhA u w)) (constant S_ .f32 0x00000000#32) reducesTo_S8192x1024_S1024_d0 h_S_) shapeCasts_S1024_S1x1024) (constant S_ .f32 0x00000000#32) reducesTo_S1x1024_S1024_d0 h_S_)

theorem dgA_at (j : Fin 1024) :
    dgA u w x (ix2 0 j)
      = ∑ r : Fin 8192, (∑ e : Fin 768, u (ix2 r e) * w (ix2 j e)) * (x (ix2 r j) * Cert.Norm.rs fun k => x (ix2 r k)) := by
  unfold dgA; pointwise
  refine (Fintype.sum_subsingleton _ (0 : Fin 1)).trans ?_
  simp only [rsA_at, dhA_at]
  exact Finset.sum_congr rfl fun r _ => mul_comm _ _

end Cert.Reference21Ideal.MlaDownDx

namespace Cert.MlaDownDx

theorem reference : Cert.quiescent_Reference21Ideal := fun m g _ =>
  (θ_run Cert.Reference21Ideal.defs _ _).mono (fun r h => ⟨fun c => (h c).2.2, sem_eq_zero_of_no_sems (by decide) r.2⟩)
    (Cert.Reference21Ideal.Value.run m g)

/-- The two programs leave the same two arrays. -/
theorem algebraic : Cert.algebraic_Kernel21Ideal_Reference21Ideal := by
  pair_intro
  · run_from Cert.Kernel21Ideal.Value.run_blocks m g
  · refine (θ_run Cert.Reference21Ideal.defs _ _).mono (fun r h c => ?_) (Cert.Reference21Ideal.Value.run m' g')
    obtain ⟨e0, e1, e2, e3, e4⟩ := hagree c
    obtain ⟨h1, h2, h3⟩ := h c
    refine ⟨h1.trans ?_, h2.trans ?_, h3⟩
    · rw [Cert.Kernel21Ideal.MlaDownDx.final5, Cert.Reference21Ideal.MlaDownDx.res_eq, e0, e1, e2, e3, e4]
      funext i
      idx_vars i
      refine (Cert.Reference21Ideal.MlaDownDx.dxA_at _ _ _ _ _ i0 i1).trans ?_
      exact congrArg (fun z : EReal => HAdd.hAdd (α := EReal) _ z) (Cert.Norm.dx_eq _ _ _ _).symm
    · rw [Cert.Kernel21Ideal.MlaDownDx.final6, e0, e1, e2]
      funext i
      idx_vars i
      obtain rfl : i0 = 0 := Subsingleton.elim _ _
      exact Cert.Reference21Ideal.MlaDownDx.dgA_at _ _ _ i1

end Cert.MlaDownDx

end
-- ==== Proof.MlaDownDw.lean ====
/- The latent attention's down-projection's backward pass, in its weights: what the kernel leaves, and that the reference leaves the same. -/
module

public import proofs.«01_k».proof.Defs
public import proofs.«01_k».proof.Proof.Gen.Kernel22Ideal.Value
public import proofs.«01_k».proof.Proof.Gen.Reference22Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel22Ideal.MlaDownDw

open Cert.Kernel22Ideal Cert.Kernel22Ideal.Gen

theorem pay1 (y : S1024x768.Idx) : k0_pay1 (F := Ideal) y = 0 := by
  unfold k0_pay1; pointwise

theorem pay2 (o : Vec Ideal S1024x768 .f32) (a : Vec Ideal S2048x1024 .bf16) (g : Vec Ideal S2048x768 .bf16) (r : Fin 1024) (j : Fin 768) :
    k0_pay2 (F := Ideal) o a g (ix2 r j) = o (ix2 r j) + ∑ e : Fin 2048, a (ix2 e r) * g (ix2 e j) := by
  unfold k0_pay2; pointwise

theorem idx : ∀ t : Fin cfg0.N, win0_0.index t = ![t.val % 4, 0] ∧ win0_1.index t = ![t.val % 4, 0]
    ∧ win0_2.index t = ![0, 0] :=
  (by decide +kernel : ∀ t : Fin grid0.N, _)

/-- One tile of rows' part of the gradient. -/
def part (a : Vec Ideal S2048x1024 .bf16) (g : Vec Ideal S2048x768 .bf16) (y : S1024x768.Idx) : EReal :=
  ∑ e : Fin 2048, a (ix2 e (y 0)) * g (ix2 e (y 1))

theorem pointA (c : Dev nD) (i : grid0.Coords) (a1 h1 a2 h2 a3 h3 hc) (b0 : Vec Ideal S2048x1024 .bf16) (b1 : Vec Ideal S2048x768 .bf16)
    (y : S1024x768.Idx) : out0_A_2 (F := Ideal) c i a1 h1 a2 h2 a3 h3 hc b0 b1 y = part b0 b1 y := by
  frame_out
  idx_vars y
  rw [pay2, pay1, zero_add]; rfl

theorem pointB (c : Dev nD) (i : grid0.Coords) (a1 h1 a2 h2 a3 h3 hc) (b0 : Vec Ideal S2048x1024 .bf16) (b1 : Vec Ideal S2048x768 .bf16)
    (b2 : Vec Ideal S1024x768 .f32) (y : S1024x768.Idx) :
    out0_B_2 (F := Ideal) c i a1 h1 a2 h2 a3 h3 hc b0 b1 b2 y = b2 y + part b0 b1 y := by
  frame_out
  idx_vars y
  rw [pay2]; rfl

variable (m : (ℓ : Loc nD τ sig) → Buf (Elt Ideal) ℓ) (c : Dev nD)

/-- The normed input and the product's gradient, as launched. -/
abbrev aH : FVec Ideal S8192x1024 .bf16 := m ((c : Thread nD τ).loc main_arg0)
abbrev aU : FVec Ideal S8192x768 .bf16 := m ((c : Thread nD τ).loc main_arg1)

/-- The gradient of the weights, as an array. -/
def out : S1024x768.Idx → EReal := fun i => ∑ e : Fin 8192, aH m c (ix2 e (i 0)) * aU m c (ix2 e (i 1))

theorem run_sum (t : Fin cfg0.N) (ht : t.val % 4 = 4 - 1) (y : S1024x768.Idx) :
    ∑ s : Fin 4, part (iblk m c 0 ⟨4 * (t.val / 4) + s.val, Pipeline.run_point_lt_of_flush t ht s⟩)
      (iblk m c 1 ⟨4 * (t.val / 4) + s.val, Pipeline.run_point_lt_of_flush t ht s⟩) y
      = out m c (((View.whole main_v0).slice (win0_2.rect t)).emb y) := by
  have hN := lt_of_lt_of_eq t.isLt (show cfg0.N = 4 from N_0)
  idx_vars y
  have e : ((View.whole main_v0).slice (win0_2.rect t)).emb (ix2 y0 y1) = (ix2 y0 y1 : S1024x768.Idx) := by
    blk_ext [idx t]
  refine Eq.trans ?_ (congrArg (out m c) e).symm
  show _ = ∑ e : Fin 8192, aH m c (ix2 e y0) * aU m c (ix2 e y1)
  unfold part
  refine Fin.sum_mul_add_congr (fun s k hl => ?_) rfl
  congr 1
  · blk_point [iblk, V, idx ⟨4 * (t.val / 4) + s.val, Pipeline.run_point_lt_of_flush t ht s⟩]
  · blk_point [iblk, V, idx ⟨4 * (t.val / 4) + s.val, Pipeline.run_point_lt_of_flush t ht s⟩]

theorem final : (dats m 0 c).arrAt 2 cfg0.N = out m c := by
  refine (dats m 0 c).arrAt_eq_of_covers 2 _ (by decide +kernel) fun t hf y => ?_
  blk_simp
  have ht := (flush0_2 t).mp hf
  rw [after0_2, Pipeline.eq_sum_fin_of_reset_step_apply_of_flush (fun n h => outsAt0 m c n h) 4 (fun _ => 0)
    (fun t j => part (iblk m c 0 t) (iblk m c 1 t) j)
    (fun t h j => by rw [outsAt0_A m c t h, pointA, zero_add])
    (fun t h j => by rw [outsAt0_B m c t h, pointB]) t ht y, zero_add]
  exact run_sum m c t ht y

end Cert.Kernel22Ideal.MlaDownDw

namespace Cert.Reference22Ideal.MlaDownDw

open Cert.Reference22Ideal Cert.Reference22Ideal.Gen

/-- The reference's result at an index: the transposed product. -/
theorem res_at (h : FVec Ideal S8192x1024 .bf16) (u : FVec Ideal S8192x768 .bf16) (i : S1024x768.Idx) :
    (transpose S1024x768 [1, 0] (Host.dotGeneral dot_S8192x768_S8192x1024_S768x1024_0_0_1_1_n_n none (extf .f32 u bitsLt_bf16_f32) (extf .f32 h bitsLt_bf16_f32)) transposes_S768x1024_S1024x768_1_0 : FVec Ideal S1024x768 .f32) i
      = ∑ e : Fin 8192, h (ix2 e (i 0)) * u (ix2 e (i 1)) := by
  idx_vars i
  pointwise
  simp only [mul_comm (u _)]

end Cert.Reference22Ideal.MlaDownDw

namespace Cert.MlaDownDw

theorem reference : Cert.quiescent_Reference22Ideal := fun m g _ =>
  (θ_run Cert.Reference22Ideal.defs _ _).mono (fun r h => ⟨fun c => (h c).2, sem_eq_zero_of_no_sems (by decide) r.2⟩)
    (Cert.Reference22Ideal.Value.run m g)

/-- The two programs leave the same array. -/
theorem algebraic : Cert.algebraic_Kernel22Ideal_Reference22Ideal := by
  pair_intro
  · run_from Cert.Kernel22Ideal.Value.run_blocks m g
  · refine (θ_run Cert.Reference22Ideal.defs _ _).mono (fun r h c => ?_) (Cert.Reference22Ideal.Value.run m' g')
    obtain ⟨e0, e1⟩ := hagree c
    obtain ⟨h1, h2⟩ := h c
    refine ⟨h1.trans ?_, h2⟩
    rw [Cert.Kernel22Ideal.MlaDownDw.final, e0, e1]
    funext i
    exact Cert.Reference22Ideal.MlaDownDw.res_at _ _ i

end Cert.MlaDownDw

end
-- ==== Proof.XaFwd.lean ====
/- The cross attention's forward pass: what the kernel leaves, and that the reference leaves the same. -/
module

public import proofs.«01_k».proof.Defs
public import proofs.«01_k».proof.Proof.Value3
public import proofs.«01_k».proof.Proof.Gen.Kernel23Ideal.Value
public import proofs.«01_k».proof.Proof.Gen.Reference23Ideal.Run
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.XaFwd

open Cert.XA Cert.KernelIdeal.XA

/-- One head's part of a row of the output: the row's probabilities against the values. -/
def oAt (q : Fin 256 → EReal) (k v : Fin 256 → Fin 256 → EReal) (e : Fin 256) : EReal := ∑ j, pr q k j * v j e

/-- The output at row `r`, column `l`. -/
def O {n : ℕ} (q : FVec Ideal ⟨2, ![n, 1024]⟩ .bf16) (kv : FVec Ideal ⟨2, ![256, 2048]⟩ .bf16) (r : Fin n) (l : Fin 1024) : EReal :=
  have hl : l.val / 256 < 4 := by omega
  oAt (hd q (l.val / 256) hl r) (hk kv (l.val / 256) hl) (hv kv (l.val / 256) hl) ⟨l.val % 256, by omega⟩

theorem O_at {n : ℕ} (q : FVec Ideal ⟨2, ![n, 1024]⟩ .bf16) (kv : FVec Ideal ⟨2, ![256, 2048]⟩ .bf16) (h : ℕ) (hh : h < 4) (e : Fin 256)
    (r : Fin n) (l : Fin 1024) (hl : l.val = h * 256 + e.val) :
    O q kv r l = oAt (hd q h hh r) (hk kv h hh) (hv kv h hh) e := by
  have h1 : l.val / 256 = h := by omega
  have h2 : (⟨l.val % 256, by omega⟩ : Fin 256) = e := by ext; show l.val % 256 = e.val; omega
  unfold O; subst h1; simp only [h2]

end Cert.XaFwd

namespace Cert.Kernel23Ideal.XaFwd

open Cert.Kernel23Ideal Cert.Kernel23Ideal.Gen Cert.XA Cert.XaFwd
open Cert.KernelIdeal.XA (row hd hk hv row_ld row_ldk row_ldv)

section Payloads

variable (q : FVec Ideal S1024x256 .bf16) (k v : FVec Ideal S256x256 .bf16)

theorem o0 (r : Fin 1024) (e : Fin 256) : k0_pay2 (F := Ideal) q k v (ix2 r e) = oAt (row q r) (row k) (row v) e := by
  unfold k0_pay2; pointwise; rfl

theorem p1 (r : Fin 1024) (j : Fin 256) : k0_pay3 (F := Ideal) q k (ix2 r j) = pr (row q r) (row k) j := by
  unfold k0_pay3; pointwise; rfl

theorem o1 (r : Fin 1024) (e : Fin 256) : k0_pay4 (F := Ideal) v (k0_pay3 q k) (ix2 r e) = oAt (row q r) (row k) (row v) e := by
  unfold k0_pay4; pointwise; simp only [p1]; rfl

theorem o2 (r : Fin 1024) (e : Fin 256) : k0_pay5 (F := Ideal) q k v (ix2 r e) = oAt (row q r) (row k) (row v) e := by
  unfold k0_pay5; pointwise; rfl

theorem o3 (r : Fin 1024) (e : Fin 256) :
    k0_pay1 (F := Ideal) (k0_pay6 q k) (k0_pay7 q k) v (ix2 r e) = oAt (row q r) (row k) (row v) e := by
  pointwise [k0_pay1, k0_pay7, k0_pay6]; rfl

end Payloads

theorem idx : ∀ t : Fin cfg0.N, win0_0.index t = ![t.val, 0] ∧ win0_1.index t = ![0, 0] ∧ win0_2.index t = ![t.val, 0] :=
  (by decide +kernel : ∀ t : Fin grid0.N, _)

/-- A tile's output. -/
theorem point (b0 : Vec Ideal S1024x1024 .bf16) (b1 : Vec Ideal S256x2048 .bf16) (y : S1024x1024.Idx) :
    out0_2 (F := Ideal) b0 b1 y = O (n := 1024) b0 b1 (y 0) (y 1) := by
  frame_out
  canon_tiles x h
  case piece0 =>
    idx_vars x
    rw [o3, O_at b0 b1 3 (by omega) x1 (y 0) (y 1) (by omega), row_ld b0 3 (by omega) _ _ _ rfl,
      row_ldk b1 3 (by omega) _ _ rfl, row_ldv b1 3 (by omega) _ _ rfl, Fin.ext_iff.2 h0]
  case piece1 =>
    idx_vars x
    rw [o2, O_at b0 b1 2 (by omega) x1 (y 0) (y 1) (by omega), row_ld b0 2 (by omega) _ _ _ rfl,
      row_ldk b1 2 (by omega) _ _ rfl, row_ldv b1 2 (by omega) _ _ rfl, Fin.ext_iff.2 h0]
  case piece2 =>
    idx_vars x
    rw [o1, O_at b0 b1 1 (by omega) x1 (y 0) (y 1) (by omega), row_ld b0 1 (by omega) _ _ _ rfl,
      row_ldk b1 1 (by omega) _ _ rfl, row_ldv b1 1 (by omega) _ _ rfl, Fin.ext_iff.2 h0]
  case piece3 =>
    idx_vars x
    rw [o0, O_at b0 b1 0 (by omega) x1 (y 0) (y 1) (by omega), row_ld b0 0 (by omega) _ _ _ rfl,
      row_ldk b1 0 (by omega) _ _ rfl, row_ldv b1 0 (by omega) _ _ rfl, Fin.ext_iff.2 h0]

variable (m : (ℓ : Loc nD τ sig) → Buf (Elt Ideal) ℓ) (c : Dev nD)

/-- The queries, and the keys and values, as launched. -/
abbrev aQ : FVec Ideal S8192x1024 .bf16 := m ((c : Thread nD τ).loc main_arg0)
abbrev aKV : FVec Ideal S256x2048 .bf16 := m ((c : Thread nD τ).loc main_arg1)

/-- Row `r` of tile `t`, among all rows. -/
abbrev tr (t : Fin cfg0.N) (r : Fin 1024) : Fin 8192 :=
  ⟨t.val * 1024 + r.val, by have := lt_of_lt_of_eq t.isLt N_0; omega⟩

theorem blk0 (t : Fin cfg0.N) (h : ℕ) (hh : h < 4) (r : Fin 1024) :
    hd (n := 1024) (iblk m c 0 t) h hh r = hd (n := 8192) (aQ m c) h hh (tr t r) := by
  funext e; unfold hd; blk_point [iblk, V, idx t]

theorem blkk (t : Fin cfg0.N) (h : ℕ) (hh : h < 4) : hk (iblk m c 1 t) h hh = hk (aKV m c) h hh := by
  funext j e; unfold hk; blk_point [iblk, V, idx t]

theorem blkv (t : Fin cfg0.N) (h : ℕ) (hh : h < 4) : hv (iblk m c 1 t) h hh = hv (aKV m c) h hh := by
  funext j e; unfold hv; blk_point [iblk, V, idx t]

/-- A tile's output is the whole's at the tile's rows. -/
theorem tile (t : Fin cfg0.N) (r : Fin 1024) (l : Fin 1024) :
    O (n := 1024) (iblk m c 0 t) (iblk m c 1 t) r l = O (n := 8192) (aQ m c) (aKV m c) (tr t r) l := by
  unfold O; simp only [blk0, blkk, blkv]

/-- The output, as an array. -/
def out : S8192x1024.Idx → EReal := fun i => O (n := 8192) (aQ m c) (aKV m c) (i 0) (i 1)

theorem emb (t : Fin cfg0.N) (y : S1024x1024.Idx) :
    out m c (ix2 (tr t (y 0)) (y 1)) = out m c (((View.whole main_v0).slice (win0_2.rect t)).emb y) := by
  idx_vars y
  blk_ext [idx t]

theorem final : (dats m 0 c).arrAt 2 cfg0.N = out m c := by
  refine (dats m 0 c).arrAt_eq_of_covers 2 _ (by decide +kernel) fun t hf y => ?_
  blk_simp
  rw [after0_2, point]
  exact (tile m c t (y 0) (y 1)).trans (emb m c t y)

end Cert.Kernel23Ideal.XaFwd

namespace Cert.Reference23Ideal.XaFwd

open Cert.Reference23Ideal Cert.Reference23Ideal.Gen Cert.XA Cert.XaFwd Cert.KernelIdeal.XA

variable (q : FVec Ideal S8192x1024 .bf16) (kv : FVec Ideal S256x2048 .bf16)

/-- The queries, the keys and the values, head by head. -/
def qH : FVec Ideal S8192x4x256 .f32 := shapeCast _ (extf .f32 q bitsLt_bf16_f32) shapeCasts_S8192x1024_S8192x4x256
def kH : FVec Ideal S256x4x256 .f32 :=
  shapeCast _ (extractStridedSlice S256x1024 ![0, 0] (extf .f32 kv bitsLt_bf16_f32) slices_S256x2048_S256x1024_0_0) shapeCasts_S256x1024_S256x4x256
def vH : FVec Ideal S256x4x256 .f32 :=
  shapeCast _ (extractStridedSlice S256x1024 ![0, 1024] (extf .f32 kv bitsLt_bf16_f32) slices_S256x2048_S256x1024_0_1024) shapeCasts_S256x1024_S256x4x256

/-- The scores. -/
def sH : FVec Ideal S4x8192x256 .f32 :=
  mulf (Host.dotGeneral dot_S8192x4x256_S256x4x256_S4x8192x256_2_2_0_0_1_1 none (qH q) (kH kv))
    (broadcastInDim S4x8192x256 ![] bcast_S_S4x8192x256 (constant S_ .f32 0x3D800000#32))

/-- Their row maxima. -/
def mH : FVec Ideal S4x8192 .f32 :=
  maximumf (broadcastInDim S4x8192 ![] bcast_S_S4x8192 (constant S_ .f32 0xFF800000#32))
    (Host.reduce FloatOps.maximumf (sH q kv) (constant S_ .f32 0xFF800000#32) reducesTo_S4x8192x256_S4x8192_d2 h_S_)

/-- A row statistic, at every column of its row. -/
def bH (x : FVec Ideal S4x8192 .f32) : FVec Ideal S4x8192x256 .f32 :=
  broadcastInDim S4x8192x256 ![0, 1, 2] bcast_S4x8192x1_S4x8192x256_0_1_2 (broadcastInDim S4x8192x1 ![0, 1] bcast_S4x8192_S4x8192x1_0_1 x)

/-- The exponentials. -/
def eH : FVec Ideal S4x8192x256 .f32 := Host.exp (subf (sH q kv) (bH (mH q kv)))

/-- Their row sums. -/
def lH : FVec Ideal S4x8192 .f32 :=
  Host.reduceAdd (eH q kv) (constant S_ .f32 0x00000000#32) reducesTo_S4x8192x256_S4x8192_d2 h_S_

/-- The output. -/
def oH : FVec Ideal S8192x1024 .bf16 :=
  truncf .bf16 (shapeCast _ (transpose S8192x4x256 [2, 0, 1] (Host.dotGeneral dot_S256x4x256_S4x8192x256_S4x256x8192_0_2_2_1_1_0 none (vH kv) (Host.divf (eH q kv) (bH (lH q kv)))) transposes_S4x256x8192_S8192x4x256_2_0_1) shapeCasts_S8192x4x256_S8192x1024) bitsLt_bf16_f32

variable (h : Fin 4) (r : Fin 8192) (j : Fin 256)

theorem qH_at (e : Fin 256) : qH q (ix3 r h e) = hd q h.val h.isLt r e := by unfold qH; pointwise; rfl
theorem kH_at (e : Fin 256) : kH kv (ix3 j h e) = hk kv h.val h.isLt j e := by unfold kH; pointwise; rfl
theorem vH_at (e : Fin 256) : vH kv (ix3 j h e) = hv kv h.val h.isLt j e := by unfold vH; pointwise; rfl

theorem sH_at : sH q kv (ix3 h r j) = sc (hd q h.val h.isLt r) (hk kv h.val h.isLt) j := by
  unfold sH; pointwise; simp only [qH_at, kH_at]; rfl

/-- A row's maximum is the fold of its entries. -/
theorem rowmax (x : FVec Ideal S4x8192x256 .f32) :
    Host.reduce FloatOps.maximumf x (constant S_ .f32 0xFF800000#32) reducesTo_S4x8192x256_S4x8192_d2 h_S_ (ix2 h r)
      = Finset.fold max ninf (fun j => x (ix3 h r j)) Finset.univ := by
  have hr : S4x8192x256.Reduces [2] S4x8192 := by decide
  rw [Host.reduce_eq_fold_single FloatOps.maximumf x _ _ hr]
  refine Finset.fold_congr fun k _ => ?_
  show x (hr.lift (ix2 h r) k) = x (ix3 h r k)
  congr 1
  funext a
  fin_cases a <;> rfl

theorem max_at {s : Shape} (a b : FVec Ideal s .f32) (i : s.Idx) : maximumf a b i = max (a i) (b i) := rfl

theorem ninf_at (i : S4x8192.Idx) :
    broadcastInDim S4x8192 ![] bcast_S_S4x8192 (constant (F := Ideal) S_ .f32 0xFF800000#32) i = ninf := rfl

theorem mH_at : mH q kv (ix2 h r) = mx (hd q h.val h.isLt r) (hk kv h.val h.isLt) := by
  unfold mH
  rw [max_at, ninf_at, rowmax, max_ninf, mx]
  simp only [sH_at]

theorem bH_at (x : FVec Ideal S4x8192 .f32) : bH x (ix3 h r j) = x (ix2 h r) := by unfold bH; pointwise

theorem eH_at : eH q kv (ix3 h r j) = ex (hd q h.val h.isLt r) (hk kv h.val h.isLt) j := by
  unfold eH; pointwise; simp only [sH_at, mH_at, bH_at]; rfl

theorem lH_at : lH q kv (ix2 h r) = sm (hd q h.val h.isLt r) (hk kv h.val h.isLt) := by
  unfold lH; pointwise; simp only [eH_at]; rfl

theorem oH_at (l : Fin 1024) : oH q kv (ix2 r l) = O (n := 8192) q kv r l := by
  have hl : l.val / 256 < 4 := by omega
  rw [O_at q kv (l.val / 256) hl ⟨l.val % 256, by omega⟩ r l (by show l.val = l.val / 256 * 256 + l.val % 256; omega)]
  unfold oH; pointwise; simp only [vH_at, eH_at, lH_at, bH_at]
  exact Finset.sum_congr rfl fun j _ => mul_comm _ _

end Cert.Reference23Ideal.XaFwd

namespace Cert.XaFwd

theorem reference : Cert.quiescent_Reference23Ideal := fun m g _ =>
  (θ_run Cert.Reference23Ideal.defs _ _).mono (fun r h => ⟨fun c => (h c).2, sem_eq_zero_of_no_sems (by decide) r.2⟩)
    (Cert.Reference23Ideal.Value.run m g)

/-- The two programs leave the same array. -/
theorem algebraic : Cert.algebraic_Kernel23Ideal_Reference23Ideal := by
  pair_intro
  · run_from Cert.Kernel23Ideal.Value.run_blocks m g
  · refine (θ_run Cert.Reference23Ideal.defs _ _).mono (fun r h c => ?_) (Cert.Reference23Ideal.Value.run m' g')
    obtain ⟨e0, e1⟩ := hagree c
    obtain ⟨h1, h2⟩ := h c
    refine ⟨h1.trans ?_, h2⟩
    rw [Cert.Kernel23Ideal.XaFwd.final, e0, e1]
    funext i
    idx_vars i
    exact Cert.Reference23Ideal.XaFwd.oH_at _ _ _ _

end Cert.XaFwd

end
-- ==== Proof.UpFrame.lean ====
/- The first product of the feed-forward layer, as `Kernel24Ideal` prints it: every run ends, and what each
   grid point leaves in the two output buffers.

   The grid is 8 row tiles by 2 column tiles, the column tile moving fastest. At the first column tile the body norms the
   row tile, stores the normed rows into the second output's buffer and reads them back for the product. At the second
   column tile it stores nothing there: it reads the rows the point before left, and the buffer is written back after
   that point, unchanged. So the second output's buffer holds, after either point, the rows stored at the first. -/
module

public import proofs.«01_k».proof.Proof.Gen.Kernel24Ideal.Launch
public import proofs.«01_k».proof.Proof.Gen.Kernel24Ideal.Skeleton
public import proofs.«01_k».proof.Proof.Gen.Kernel24Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel24Ideal.Up

open Cert.Kernel24Ideal Cert.Kernel24Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Assertions about the machine the kernel runs on. -/
abbrev Assn (F : FTy → Type) := sProp (MT nD τ sig Unit (Elt F) ℕ (UR sig nD τ) ℕ)

/-! ## The points -/

/-- The point is one of a first column tile. -/
abbrev first (i : grid0.Coords) : Prop := k0_cond1 i = 1#1

theorem first_iff : ∀ t : Fin cfg0.N, first (grid0.coords t) ↔ t.val % 2 = 0 :=
  (by decide +kernel : ∀ t : Fin grid0.N, first (grid0.coords t) ↔ t.val % 2 = 0)

/-- The second output's window is stored into at the first column tile only, … -/
theorem live4 : ∀ t : Fin cfg0.N, first (grid0.coords t) → cfg0.idle 4 (grid0.coords t) = false := by decide +kernel
theorem idle4 : ∀ t : Fin cfg0.N, ¬first (grid0.coords t) → cfg0.idle 4 (grid0.coords t) = true := by decide +kernel
/-- … and written back after the second. -/
theorem back4 : ∀ t : Fin cfg0.N, ¬first (grid0.coords t) → (cfg0.win 4).flush t = true := by decide +kernel

/-- Nothing stored waits in the second output's buffer exactly before the first column tiles. -/
def empty4 (n : ℕ) : Bool := n % 2 == 0

theorem empty4_step : ∀ t : Fin cfg0.N,
    empty4 (t.val + 1) = ((cfg0.win 4).flush t || (cfg0.idle 4 (cfg0.grid.coords t) && empty4 t.val)) := by decide +kernel

theorem fresh4 (t : Fin cfg0.N) : cfg0.fresh 4 t.val = empty4 t.val :=
  Pipeline.Cfg.fresh_tab cfg0 4 empty4 rfl empty4_step t.val (Nat.le_of_lt t.isLt)

theorem kept4 (t : Fin cfg0.N) (h : ¬t.val % 2 = 0) : cfg0.fresh 4 t.val = false := by
  rw [fresh4]; simpa [empty4] using h

/-! ## The body on any buffers -/

section Body

variable (c : Dev nD) (i : grid0.Coords)
  (a2 : Memref sig .tc .vmem S1024x1024 .f32) (h2 : a2.IsWhole) (a3 : Memref sig .tc .vmem S1x1024 .f32) (h3 : a3.IsWhole)
  (a4 : Memref sig .tc .vmem S1x1024x2816 .bf16) (h4 : a4.IsWhole) (a5 : Memref sig .tc .vmem S1024x2816 .bf16) (h5 : a5.IsWhole)
  (a6 : Memref sig .tc .vmem S1024x1024 .bf16) (h6 : a6.IsWhole)
  (x0 : Vec F S1024x1024 .f32) (x1 : Vec F S1x1024 .f32) (x2 : Vec F S1x1024x2816 .bf16) (x4 : Vec F S1024x1024 .bf16)

set_option maxHeartbeats 1000000 in
/-- At a first column tile: the pieces the body stores into each output, found by running it, with its triple. -/
noncomputable def runA (hc : first i) :
    Σ' (L3 : List (View.Piece (Elt F) S1024x2816 .bf16)), { L4 : List (View.Piece (Elt F) S1024x1024 .bf16) //
      ∀ (E : Set ℕ) (K : PUnit → Assn F),
        iprop(owns (c : Thread nD τ) a2 fullShare x0 ∗ owns (c : Thread nD τ) a3 fullShare x1 ∗ owns (c : Thread nD τ) a4 fullShare x2
            ∗ (∃ d, owns (c : Thread nD τ) a5 fullShare d) ∗ (∃ d, owns (c : Thread nD τ) a6 fullShare d)
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ (∃ f, a6.view.loc (c : Thread nD τ) ↦[a6.view.set]{fullShare} a6.view.writes (Elt F) f L4)) -∗ K ⟨⟩))
          ⊢ wp frame (wpE (defs₀ (F := F)) Variants.none c none) E (cc0_ffn_up i a2 h2 a3 h3 a4 h4 a5 h5 a6 h6) K } := by
  refine ⟨?_, ?_, fun E K => ?run⟩
  case run =>
    simp only [cc0_ffn_up_eq_skeleton]; unfold cc0_ffn_up_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := h2.eq_unread hf0; obtain rfl := h3.eq_unread hf1; obtain rfl := h4.eq_unread hf2
    sl_exec (disch := sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    iexists _; iexact H4

set_option maxHeartbeats 1000000 in
/-- At a second column tile: the pieces the body stores into the first output; the second's buffer, whose contents `x4`
    it reads, is given back as it was. -/
noncomputable def runB (hc : ¬first i) :
    { L3 : List (View.Piece (Elt F) S1024x2816 .bf16) //
      ∀ (E : Set ℕ) (K : PUnit → Assn F),
        iprop(owns (c : Thread nD τ) a2 fullShare x0 ∗ owns (c : Thread nD τ) a3 fullShare x1 ∗ owns (c : Thread nD τ) a4 fullShare x2
            ∗ (∃ d, owns (c : Thread nD τ) a5 fullShare d) ∗ owns (c : Thread nD τ) a6 fullShare x4
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ owns (c : Thread nD τ) a6 fullShare x4) -∗ K ⟨⟩))
          ⊢ wp frame (wpE (defs₀ (F := F)) Variants.none c none) E (cc0_ffn_up i a2 h2 a3 h3 a4 h4 a5 h5 a6 h6) K } := by
  refine ⟨?_, fun E K => ?run⟩
  case run =>
    simp only [cc0_ffn_up_eq_skeleton]; unfold cc0_ffn_up_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := h2.eq_unread hf0; obtain rfl := h3.eq_unread hf1; obtain rfl := h4.eq_unread hf2; obtain rfl := h6.eq_unread hf4
    sl_exec (disch := sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    iexists _; isplitr; · ipureintro; exact h6.read_unread _
    iexact H4

/-- The pieces fill the output's buffer. -/
theorem coverA3 (hc : first i) (y : S1024x2816.Idx) :
    ∃ pc ∈ (runA c i a2 h2 a3 h3 a4 h4 a5 h5 a6 h6 x0 x1 x2 hc).1, y ∈ pc.1.set :=
  View.cover_of_tiledL (runA c i a2 h2 a3 h3 a4 h4 a5 h5 a6 h6 x0 x1 x2 hc).1 S1024x2816.size (by sl_kernel_rfl) y

theorem coverA4 (hc : first i) (y : S1024x1024.Idx) :
    ∃ pc ∈ (runA c i a2 h2 a3 h3 a4 h4 a5 h5 a6 h6 x0 x1 x2 hc).2.1, y ∈ pc.1.set :=
  View.cover_of_tiledL (runA c i a2 h2 a3 h3 a4 h4 a5 h5 a6 h6 x0 x1 x2 hc).2.1 S1024x1024.size (by sl_kernel_rfl) y

theorem coverB3 (hc : ¬first i) (y : S1024x2816.Idx) :
    ∃ pc ∈ (runB c i a2 h2 a3 h3 a4 h4 a5 h5 a6 h6 x0 x1 x2 x4 hc).1, y ∈ pc.1.set :=
  View.cover_of_tiledL (runB c i a2 h2 a3 h3 a4 h4 a5 h5 a6 h6 x0 x1 x2 x4 hc).1 S1024x2816.size (by sl_kernel_rfl) y

/-- A buffer of each output, through which its contents are stated. -/
abbrev V3 : View sig .tc .vmem S1024x2816 .bf16 := (Memref.whole cc0_stg3_0 : Memref sig .tc .vmem S1024x2816 .bf16).view
abbrev V4 : View sig .tc .vmem S1024x1024 .bf16 := (Memref.whole cc0_stg4_0 : Memref sig .tc .vmem S1024x1024 .bf16).view

/-- What the body leaves in the outputs' buffers: the pieces, read. -/
def outA3 (hc : first i) : Vec F S1024x2816 .bf16 :=
  V3.read (Elt F) (V3.writes (Elt F) V3.junk (runA c i a2 h2 a3 h3 a4 h4 a5 h5 a6 h6 x0 x1 x2 hc).1)

def outA4 (hc : first i) : Vec F S1024x1024 .bf16 :=
  V4.read (Elt F) (V4.writes (Elt F) V4.junk (runA c i a2 h2 a3 h3 a4 h4 a5 h5 a6 h6 x0 x1 x2 hc).2.1)

def outB3 (hc : ¬first i) : Vec F S1024x2816 .bf16 :=
  V3.read (Elt F) (V3.writes (Elt F) V3.junk (runB c i a2 h2 a3 h3 a4 h4 a5 h5 a6 h6 x0 x1 x2 x4 hc).1)

end Body

/-! ## The buffers and what they hold, point by point -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x2816 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2816 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)

variable (m : (ℓ : Loc nD τ sig) → Buf (Elt F) ℓ) (ρ : Dev nD → PrngReg)

/-- The arrays, as launched: nothing runs before the kernel. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at a point, of its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the three kinds of store leave at point `t`. -/
def zA (c : Dev nD) (t : Fin cfg0.N) (h : t.val % 2 = 0) : Vec F S1024x2816 .bf16 :=
  outA3 c (grid0.coords t) (ms0 t) (hs0 t) (ms1 t) (hs1 t) (ms2 t) (hs2 t) (ms3 t) (hs3 t) (ms4 t) (hs4 t)
    (iblk m c 0 t) (iblk m c 1 t) (iblk m c 2 t) ((first_iff t).mpr h)

def hA (c : Dev nD) (t : Fin cfg0.N) (h : t.val % 2 = 0) : Vec F S1024x1024 .bf16 :=
  outA4 c (grid0.coords t) (ms0 t) (hs0 t) (ms1 t) (hs1 t) (ms2 t) (hs2 t) (ms3 t) (hs3 t) (ms4 t) (hs4 t)
    (iblk m c 0 t) (iblk m c 1 t) (iblk m c 2 t) ((first_iff t).mpr h)

def zB (c : Dev nD) (t : Fin cfg0.N) (h : ¬t.val % 2 = 0) (x : Vec F S1024x1024 .bf16) : Vec F S1024x2816 .bf16 :=
  outB3 c (grid0.coords t) (ms0 t) (hs0 t) (ms1 t) (hs1 t) (ms2 t) (hs2 t) (ms3 t) (hs3 t) (ms4 t) (hs4 t)
    (iblk m c 0 t) (iblk m c 1 t) (iblk m c 2 t) x (fun k => h ((first_iff t).mp k))

/-- The normed rows in the second output's buffer after position `n`. -/
def hAt (c : Dev nD) : (n : ℕ) → n < cfg0.N → Vec F S1024x1024 .bf16
  | 0, hn => hA m c ⟨0, hn⟩ rfl
  | n + 1, hn => if h : (n + 1) % 2 = 0 then hA m c ⟨n + 1, hn⟩ h else hAt c n (Nat.lt_of_succ_lt hn)

theorem hAt_first (c : Dev nD) (t : Fin cfg0.N) (h : t.val % 2 = 0) : hAt m c t.val t.isLt = hA m c t h := by
  obtain ⟨n, hn⟩ := t
  cases n with
  | zero => rfl
  | succ n => exact dif_pos h

theorem hAt_second (c : Dev nD) (t : Fin cfg0.N) (h : ¬t.val % 2 = 0) :
    hAt m c t.val t.isLt = hAt m c (t.val - 1) (Nat.lt_of_le_of_lt (Nat.sub_le _ _) t.isLt) := by
  obtain ⟨n, hn⟩ := t
  cases n with
  | zero => exact absurd (Nat.zero_mod _) h
  | succ n => exact dif_neg h

/-- The product in the first output's buffer after point `t`. -/
def zAt (c : Dev nD) (t : Fin cfg0.N) : Vec F S1024x2816 .bf16 :=
  if h : t.val % 2 = 0 then zA m c t h
  else zB m c t h (hAt m c (t.val - 1) (Nat.lt_of_le_of_lt (Nat.sub_le _ _) t.isLt))

theorem zAt_first (c : Dev nD) (t : Fin cfg0.N) (h : t.val % 2 = 0) : zAt m c t = zA m c t h := dif_pos h

theorem zAt_second (c : Dev nD) (t : Fin cfg0.N) (h : ¬t.val % 2 = 0) :
    zAt m c t = zB m c t h (hAt m c (t.val - 1) (Nat.lt_of_le_of_lt (Nat.sub_le _ _) t.isLt)) := dif_neg h

/-- The run's data: the arrays as launched; after a point, an input's buffer at its block and the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => zAt m c t
    | ⟨4, _⟩ => hAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = zAt m c t := by dsimp only [dats]
theorem after4 (c : Dev nD) (t : Fin cfg0.N) : (dats m 0 c).after 4 t = hAt m c t.val t.isLt := by dsimp only [dats]

/-- An input's buffer holds its block when the body starts, fetched at this point or at an earlier one. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]) t d).trans
    (by unfold Dat.fetched Dat.blockOf iblk; rw [A_eq]; rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]) t d).trans
    (by unfold Dat.fetched Dat.blockOf iblk; rw [A_eq]; rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]) t d).trans
    (by unfold Dat.fetched Dat.blockOf iblk; rw [A_eq]; rfl)

/-- The normed rows stay in their buffer through a second column tile. -/
theorem carry4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [after4, after4]
  by_cases h : t.val % 2 = 0
  · rw [live4 t ((first_iff t).mpr h)] at hi
    exact absurd hi Bool.false_ne_true
  · exact hAt_second m c t h

theorem before4 (c : Dev nD) (t : Fin cfg0.N) (h : ¬t.val % 2 = 0) (d) :
    (dats m 0 c).before 4 t d = hAt m c (t.val - 1) (Nat.lt_of_le_of_lt (Nat.sub_le _ _) t.isLt) := by
  rw [Dat.before_out_traj _ 4 rfl (fun _ _ => rfl) (carry4 m c) t.val t rfl d,
    if_neg (by rw [kept4 t h]; exact Bool.false_ne_true)]
  dsimp only [dats]

/-- What the body must leave in each buffer: for the second output, at a second column tile, too, since it is written back. -/
theorem leaves0 (c : Dev nD) (t : Fin cfg0.N) :
    (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) :
    (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) :
    (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) :
    (dats m 0 c).leavesExact 3 t = owns (c : Thread nD τ) (ms3 t) fullShare (zAt m c t) := by
  unfold Dat.leavesExact; rw [show cfg0.idle 3 (cfg0.grid.coords t) = false from rfl, after3]
theorem leaves4 (c : Dev nD) (t : Fin cfg0.N) :
    (dats m 0 c).leavesExact 4 t = owns (c : Thread nD τ) (ms4 t) fullShare (hAt m c t.val t.isLt) := by
  unfold Dat.leavesExact
  by_cases h : first (grid0.coords t)
  · rw [live4 t h, after4]
  · rw [idle4 t h, back4 t h, after4]

/-! ## The body at a point -/

def bodyPre (c : Dev nD) (t : Fin cfg0.N) : Assn F :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : Assn F :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    leaves0, leaves1, leaves2, leaves3, leaves4]
  by_cases h : t.val % 2 = 0
  · rw [zAt_first m c t h, hAt_first m c t h]
    unfold zA hA outA3 outA4
    iintro ⟨HΦ, Ho, ⟨%d0, H0⟩, ⟨%d1, H1⟩, ⟨%d2, H2⟩, ⟨%d3, H3⟩, ⟨%d4, H4⟩⟩
    iapply ((runA c (grid0.coords t) _ _ _ _ _ _ _ _ _ _ (iblk m c 0 t) (iblk m c 1 t) (iblk m c 2 t) ((first_iff t).mpr h)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverA3 c _ _ _ _ _ _ _ _ _ _ _ _ _ _ _)
    unfold owns; iexists _; isplitr
    swap; · iexact H4
    ipureintro; exact View.read_writes_of_cover _ _ _ _ _ (coverA4 c _ _ _ _ _ _ _ _ _ _ _ _ _ _ _)
  · rw [zAt_second m c t h, hAt_second m c t h]
    simp only [before4 m c t h]
    unfold zB outB3
    iintro ⟨HΦ, Ho, ⟨%d0, H0⟩, ⟨%d1, H1⟩, ⟨%d2, H2⟩, ⟨%d3, H3⟩, ⟨%d4, H4⟩⟩
    iapply ((runB c (grid0.coords t) _ _ _ _ _ _ _ _ _ _ (iblk m c 0 t) (iblk m c 1 t) (iblk m c 2 t) _ (fun k => h ((first_iff t).mp k))).2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, H4⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverB3 c _ _ _ _ _ _ _ _ _ _ _ _ _ _ _ _)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run ends, with the arrays at what the data give and every semaphore at zero. -/
theorem run_all : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An argument ends as launched. -/
theorem arg_kept (r : PUnit × MemSt nD τ sig (Elt F)) (h : Pipeline.FramePost cfgs (dats m) 0 (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  ⟨((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2))⟩

/-- The run, its two results named. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4, arg_kept m r h.1 c⟩) (run_all m ρ)

/-- The run ends with the arguments unchanged and the machine at rest. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨arg_kept m r h.1, h.2⟩) (run_all m ρ)

end Cert.Kernel24Ideal.Up

end
-- ==== Proof.UpFwd.lean ====
/- The feed-forward layer's norm and first product: what the kernel leaves, and that the
   reference leaves the same. -/
module

public import proofs.«01_k».proof.Defs
public import proofs.«01_k».proof.Proof.NormCore
public import proofs.«01_k».proof.Proof.UpFrame
public import proofs.«01_k».proof.Proof.Gen.Reference24Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel24Ideal.Up

open Cert.Kernel24Ideal Cert.Kernel24Ideal.Gen

theorem pay1 (x : Vec Ideal S1024x1024 .f32) (g : Vec Ideal S1x1024 .f32) (r j : Fin 1024) :
    k0_pay1 (F := Ideal) x g (ix2 r j) = x (ix2 r j) * (Cert.Norm.rs fun k => x (ix2 r k)) * g (ix2 0 j) := by
  unfold k0_pay1; pointwise; rfl

theorem pay2 (h : Vec Ideal S1024x1024 .bf16) (w : Vec Ideal S1x1024x2816 .bf16) (r : Fin 1024) (j : Fin 2816) :
    k0_pay2 (F := Ideal) h w (ix2 r j) = ∑ e : Fin 1024, h (ix2 r e) * w (ix3 0 e j) := by
  unfold k0_pay2; pointwise

theorem idx : ∀ t : Fin cfg0.N, win0_0.index t = ![t.val / 2, 0] ∧ win0_1.index t = ![0, 0] ∧ win0_2.index t = ![0, 0, t.val % 2]
    ∧ win0_3.index t = ![t.val / 2, t.val % 2] ∧ win0_4.index t = ![t.val / 2, 0] :=
  (by decide +kernel : ∀ t : Fin grid0.N, _)

variable (m : (ℓ : Loc nD τ sig) → Buf (Elt Ideal) ℓ) (c : Dev nD)

theorem zA_eq (t : Fin cfg0.N) (h : t.val % 2 = 0) :
    zA m c t h = k0_pay2 (k0_pay1 (iblk m c 0 t) (iblk m c 1 t)) (iblk m c 2 t) := by
  unfold zA; frame_out

theorem hA_eq (t : Fin cfg0.N) (h : t.val % 2 = 0) : hA m c t h = k0_pay1 (iblk m c 0 t) (iblk m c 1 t) := by
  unfold hA; frame_out

theorem zB_eq (t : Fin cfg0.N) (h : ¬t.val % 2 = 0) (x : Vec Ideal S1024x1024 .bf16) :
    zB m c t h x = k0_pay2 x (iblk m c 2 t) := by
  unfold zB; frame_out

/-- The layer's input, the norm's gain, and the stack of the layers' weights, as launched. -/
abbrev aX : FVec Ideal S8192x1024 .f32 := m ((c : Thread nD τ).loc main_arg0)
abbrev aG : FVec Ideal S1x1024 .f32 := m ((c : Thread nD τ).loc main_arg1)
abbrev aW : FVec Ideal S4x1024x5632 .bf16 := m ((c : Thread nD τ).loc main_arg2)

/-- Row `r` of point `t`'s row tile, among all rows; and column `j` of its column tile, among all columns. -/
abbrev tr (t : Fin cfg0.N) (r : Fin 1024) : Fin 8192 :=
  ⟨t.val / 2 * 1024 + r.val, by have := lt_of_lt_of_eq t.isLt N_0; omega⟩
abbrev tc (t : Fin cfg0.N) (j : Fin 2816) : Fin 5632 := ⟨t.val % 2 * 2816 + j.val, by omega⟩

theorem blk0 (t : Fin cfg0.N) (r e : Fin 1024) : iblk m c 0 t (ix2 r e) = aX m c (ix2 (tr t r) e) := by
  blk_point [iblk, V, idx t]

theorem blk1 (t : Fin cfg0.N) (e : Fin 1024) : iblk m c 1 t (ix2 0 e) = aG m c (ix2 0 e) := by
  blk_point [iblk, V, idx t]

theorem blk2 (t : Fin cfg0.N) (e : Fin 1024) (j : Fin 2816) : iblk m c 2 t (ix3 0 e j) = aW m c (ix3 0 e (tc t j)) := by
  blk_point [iblk, V, idx t]

/-- The normed row. -/
def hr (r : Fin 8192) (j : Fin 1024) : EReal :=
  aX m c (ix2 r j) * (Cert.Norm.rs fun k => aX m c (ix2 r k)) * aG m c (ix2 0 j)

/-- The product, as an array. -/
def out3 : S8192x5632.Idx → EReal := fun i => ∑ e : Fin 1024, hr m c (i 0) e * aW m c (ix3 0 e (i 1))

/-- The normed rows, as an array. -/
def out4 : S8192x1024.Idx → EReal := fun i => hr m c (i 0) (i 1)

/-- After either of a row tile's two points the second output's buffer holds the tile's normed rows. -/
theorem hA_at (t : Fin cfg0.N) (h : t.val % 2 = 0) (r e : Fin 1024) : hA m c t h (ix2 r e) = hr m c (tr t r) e := by
  rw [hA_eq]
  refine (pay1 _ _ r e).trans ?_
  simp only [blk0, blk1]
  rfl

theorem hAt_at (t : Fin cfg0.N) (r e : Fin 1024) : hAt m c t.val t.isLt (ix2 r e) = hr m c (tr t r) e := by
  by_cases h : t.val % 2 = 0
  · rw [hAt_first m c t h, hA_at]
  · have hp : (t.val - 1) % 2 = 0 := by omega
    rw [hAt_second m c t h, hAt_first m c ⟨t.val - 1, Nat.lt_of_le_of_lt (Nat.sub_le _ _) t.isLt⟩ hp, hA_at]
    have hq : (t.val - 1) / 2 = t.val / 2 := by omega
    simp only [tr, hq]

theorem zAt_at (t : Fin cfg0.N) (r : Fin 1024) (j : Fin 2816) :
    zAt m c t (ix2 r j) = ∑ e : Fin 1024, hr m c (tr t r) e * aW m c (ix3 0 e (tc t j)) := by
  have key : ∀ x : Vec Ideal S1024x1024 .bf16, (∀ e, x (ix2 r e) = hr m c (tr t r) e) →
      k0_pay2 x (iblk m c 2 t) (ix2 r j) = ∑ e : Fin 1024, hr m c (tr t r) e * aW m c (ix3 0 e (tc t j)) := fun x hx => by
    refine (pay2 _ _ r j).trans ?_
    simp only [hx, blk2]
  by_cases h : t.val % 2 = 0
  · rw [zAt_first m c t h, zA_eq]
    exact key _ fun e => by rw [← hA_eq m c t h]; exact hA_at m c t h r e
  · rw [zAt_second m c t h, zB_eq]
    exact key _ fun e => by rw [← hAt_second m c t h]; exact hAt_at m c t r e

theorem emb3 (t : Fin cfg0.N) (y : S1024x2816.Idx) :
    out3 m c (ix2 (tr t (y 0)) (tc t (y 1))) = out3 m c (((View.whole main_v0_0).slice (win0_3.rect t)).emb y) := by
  idx_vars y
  blk_ext [idx t]

theorem emb4 (t : Fin cfg0.N) (y : S1024x1024.Idx) :
    out4 m c (ix2 (tr t (y 0)) (y 1)) = out4 m c (((View.whole main_v0_1).slice (win0_4.rect t)).emb y) := by
  idx_vars y
  blk_ext [idx t]

theorem final3 : (dats m 0 c).arrAt 3 cfg0.N = out3 m c := by
  refine (dats m 0 c).arrAt_eq_of_covers 3 _ (by decide +kernel) fun t hf y => ?_
  blk_simp
  rw [after3]
  refine Eq.trans ?_ (emb3 m c t y)
  idx_vars y
  exact zAt_at m c t y0 y1

theorem final4 : (dats m 0 c).arrAt 4 cfg0.N = out4 m c := by
  refine (dats m 0 c).arrAt_eq_of_covers 4 _ (by decide +kernel) fun t hf y => ?_
  blk_simp
  rw [after4]
  refine Eq.trans ?_ (emb4 m c t y)
  idx_vars y
  exact hAt_at m c t y0 y1

end Cert.Kernel24Ideal.Up

namespace Cert.Reference24Ideal.Up

open Cert.Reference24Ideal Cert.Reference24Ideal.Gen

variable (x : FVec Ideal S8192x1024 .f32) (g : FVec Ideal S1x1024 .f32) (w : FVec Ideal S4x1024x5632 .bf16)

/-- The rows' mean squares, with the small constant added. -/
def msA : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

theorem msA_at (r : Fin 8192) : msA x (ix2 r 0) = Cert.Norm.ms fun k => x (ix2 r k) := by
  unfold msA; pointwise; rfl

/-- The normed rows. -/
def hA : FVec Ideal S8192x1024 .f32 :=
  mulf (mulf x (broadcastInDim S8192x1024 ![0, 1] bcast_S8192x1_S8192x1024_0_1 (Host.rsqrt (msA x)))) (broadcastInDim S8192x1024 ![0, 1] bcast_S1x1024_S8192x1024_0_1 (broadcastInDim S1x1024 ![1] bcast_S1024_S1x1024_1 (shapeCast _ g shapeCasts_S1x1024_S1024)))

theorem hA_at (r : Fin 8192) (j : Fin 1024) :
    hA x g (ix2 r j) = x (ix2 r j) * (Cert.Norm.rs fun k => x (ix2 r k)) * g (ix2 0 j) := by
  unfold hA; pointwise; simp only [msA_at]; rfl

theorem h_at (i : S8192x1024.Idx) :
    (truncf .bf16 (hA x g) bitsLt_bf16_f32 : FVec Ideal S8192x1024 .bf16) i
      = x (ix2 (i 0) (i 1)) * (Cert.Norm.rs fun k => x (ix2 (i 0) k)) * g (ix2 0 (i 1)) := by
  idx_vars i
  pointwise
  exact hA_at x g i0 i1

theorem z_at (i : S8192x5632.Idx) :
    (truncf .bf16 (Host.dotGeneral dot_S8192x1024_S1024x5632_S8192x5632_1_0_0_1_n_n none (hA x g) (extf .f32 (shapeCast _ (extractStridedSlice S1x1024x5632 ![0, 0, 0] w slices_S4x1024x5632_S1x1024x5632_0_0_0) shapeCasts_S1x1024x5632_S1024x5632) bitsLt_bf16_f32)) bitsLt_bf16_f32 : FVec Ideal S8192x5632 .bf16) i
      = ∑ e : Fin 1024, x (ix2 (i 0) e) * (Cert.Norm.rs fun k => x (ix2 (i 0) k)) * g (ix2 0 e) * w (ix3 0 e (i 1)) := by
  idx_vars i
  pointwise
  simp only [hA_at]

end Cert.Reference24Ideal.Up

namespace Cert.UpFwd

theorem reference : Cert.quiescent_Reference24Ideal := fun m g _ =>
  (θ_run Cert.Reference24Ideal.defs _ _).mono (fun r h => ⟨fun c => (h c).2.2, sem_eq_zero_of_no_sems (by decide) r.2⟩)
    (Cert.Reference24Ideal.Value.run m g)

/-- The two programs leave the same two arrays. -/
theorem algebraic : Cert.algebraic_Kernel24Ideal_Reference24Ideal := by
  pair_intro
  · run_from Cert.Kernel24Ideal.Up.run_blocks m g
  · refine (θ_run Cert.Reference24Ideal.defs _ _).mono (fun r h c => ?_) (Cert.Reference24Ideal.Value.run m' g')
    obtain ⟨e0, e1, e2⟩ := hagree c
    obtain ⟨h1, h2, h3⟩ := h c
    refine ⟨h1.trans ?_, h2.trans ?_, h3⟩
    · rw [Cert.Kernel24Ideal.Up.final3, e0, e1, e2]
      funext i
      exact Cert.Reference24Ideal.Up.z_at _ _ _ i
    · rw [Cert.Kernel24Ideal.Up.final4, e0, e1]
      funext i
      exact Cert.Reference24Ideal.Up.h_at _ _ i

end Cert.UpFwd

end
-- ==== Proof.RotCore.lean ====
/- The rotary turn of a row of a head's features, and that the lanes selected from the row rotated both ways are it. -/
module

public import Idealize.ShloMosaic.Lib.Pipeline.ValueKit
public import Idealize.ShloMosaic.Lib.Pointwise
public import Idealize.ShloMosaic.Init

@[expose] public section

set_option maxRecDepth 16384

noncomputable section

open Idealize.ShloMosaic Idealize.ShloMosaic.TcCoe Idealize.SL.Sem

/-- A row of a head's features with each rotary pair turned: the upper partner negated to the lower place, the lower one to the upper
    place, and nothing outside the rotary features. -/
def Cert.rot (f : Fin 128 → EReal) (d : Fin 128) : EReal :=
  if h : 64 ≤ d.val ∧ d.val < 80 then -f ⟨d.val + 16, by omega⟩ else if h : 80 ≤ d.val ∧ d.val < 96 then f ⟨d.val - 16, by omega⟩ else 0

namespace Cert.Rot

theorem lo : ∀ d : Fin 128, IntOp.andi (IntOp.cmpi .sge (BitVec.ofNat 32 d.val) 64#32) (IntOp.cmpi .slt (BitVec.ofNat 32 d.val) 80#32)
    = if 64 ≤ d.val ∧ d.val < 80 then 1#1 else 0#1 := by decide +kernel

theorem hi : ∀ d : Fin 128, IntOp.andi (IntOp.cmpi .sge (BitVec.ofNat 32 d.val) 80#32) (IntOp.cmpi .slt (BitVec.ofNat 32 d.val) 96#32)
    = if 80 ≤ d.val ∧ d.val < 96 then 1#1 else 0#1 := by decide +kernel

/-- The turn, as lanes selected from the row rotated both ways. -/
theorem sel (f : Fin 128 → EReal) (d : Fin 128) (h1 h2) :
    Scalar.select (IntOp.andi (IntOp.cmpi .sge (BitVec.ofNat 32 d.val) 64#32) (IntOp.cmpi .slt (BitVec.ofNat 32 d.val) 80#32))
      (0 - f ⟨(d.val + 128 - 112) % 128, h1⟩)
      (Scalar.select (IntOp.andi (IntOp.cmpi .sge (BitVec.ofNat 32 d.val) 80#32) (IntOp.cmpi .slt (BitVec.ofNat 32 d.val) 96#32))
        (f ⟨(d.val + 128 - 16) % 128, h2⟩) 0) = Cert.rot f d := by
  rw [lo d, hi d]
  unfold Cert.rot
  by_cases ha : 64 ≤ d.val ∧ d.val < 80
  · rw [if_pos ha, dif_pos ha]
    refine (zero_sub _).trans (congrArg (fun z => -f z) (Fin.ext ?_))
    show (d.val + 128 - 112) % 128 = d.val + 16
    omega
  · rw [if_neg ha, dif_neg ha]
    by_cases hb : 80 ≤ d.val ∧ d.val < 96
    · rw [if_pos hb, dif_pos hb]
      refine congrArg f (Fin.ext ?_)
      show (d.val + 128 - 16) % 128 = d.val - 16
      omega
    · rw [if_neg hb, dif_neg hb]; rfl

end Cert.Rot

end
-- ==== Proof.QkvBwd.lean ====
/- The attention's per-head projections, backward: the gradients of the latent rows, of the keys' rotary part and of the heads' weights,
   what the kernel leaves, and that the reference leaves the same. -/
module

public import proofs.«01_k».proof.Defs
public import proofs.«01_k».proof.Proof.RotCore
public import proofs.«01_k».proof.Proof.Gen.Kernel25Ideal.Value
public import proofs.«01_k».proof.Proof.Gen.Reference25Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

/-- A row of a head's queries' gradient before the turn: the turn's transpose is its negative. -/
def Cert.dq (g cs sn : Fin 128 → EReal) (d : Fin 128) : EReal := g d * cs d - Cert.rot (fun k => g k * sn k) d

namespace Cert.Heads

/-- The heads, in the order in which the body takes them. -/
def heads : List (Fin 16) :=
  [⟨0, by decide⟩, ⟨1, by decide⟩, ⟨2, by decide⟩, ⟨3, by decide⟩, ⟨4, by decide⟩, ⟨5, by decide⟩, ⟨6, by decide⟩, ⟨7, by decide⟩,
    ⟨8, by decide⟩, ⟨9, by decide⟩, ⟨10, by decide⟩, ⟨11, by decide⟩, ⟨12, by decide⟩, ⟨13, by decide⟩, ⟨14, by decide⟩, ⟨15, by decide⟩]

theorem heads_eq : heads = List.finRange 16 := by decide

/-- A running total over a list of heads. -/
theorem foldl_at {α : Type} (f : (α → EReal) → Fin 16 → α → EReal) (g : Fin 16 → α → EReal) (hf : ∀ v h y, f v h y = v y + g h y)
    (L : List (Fin 16)) (v : α → EReal) (y : α) : L.foldl f v y = v y + (L.map fun h => g h y).sum := by
  induction L generalizing v with
  | nil => exact (add_zero _).symm
  | cons h L ih => rw [List.foldl_cons, ih, hf, List.map_cons, List.sum_cons, add_assoc]

/-- A running total over all the heads. -/
theorem foldl_heads {α : Type} (f : (α → EReal) → Fin 16 → α → EReal) (g : Fin 16 → α → EReal) (hf : ∀ v h y, f v h y = v y + g h y)
    (v : α → EReal) (y : α) : heads.foldl f v y = v y + ∑ h : Fin 16, g h y := by
  rw [foldl_at f g hf, heads_eq, Fin.sum_univ_def]

end Cert.Heads

namespace Cert.Kernel25Ideal.QkvBwd

open Cert.Kernel25Ideal Cert.Kernel25Ideal.Gen

theorem pay1 (y : S16x384x128.Idx) : k0_pay1 (F := Ideal) y = 0 := by
  unfold k0_pay1; pointwise

theorem pay2 (y : S16x256x128.Idx) : k0_pay2 (F := Ideal) y = 0 := by
  unfold k0_pay2; pointwise

theorem pay3 (y : S16x256x128.Idx) : k0_pay3 (F := Ideal) y = 0 := by
  unfold k0_pay3; pointwise

theorem pay4 (y : S512x384.Idx) : k0_pay4 (F := Ideal) y = 0 := by
  unfold k0_pay4; pointwise

theorem pay5 (y : S512x256.Idx) : k0_pay5 (F := Ideal) y = 0 := by
  unfold k0_pay5; pointwise

theorem pay6 (y : S512x128.Idx) : k0_pay6 (F := Ideal) y = 0 := by
  unfold k0_pay6; pointwise

theorem pay7 (cs sn : Vec Ideal S512x128 .f32) (u : Vec Ideal S1x512x128 .f32) (r : Fin 512) (d : Fin 128) :
    k0_pay7 (F := Ideal) cs sn u (ix2 r d)
      = Cert.dq (fun k => u (ix3 0 r k)) (fun k => cs (ix2 r k)) (fun k => sn (ix2 r k)) d := by
  unfold k0_pay7
  pointwise
  exact congrArg (fun z : EReal => u (ix3 0 r d) * cs (ix2 r d) - z) (Cert.Rot.sel (fun k => u (ix3 0 r k) * sn (ix2 r k)) d _ _)

theorem pay10 (v : FVec Ideal S512x384 .f32) (q : FVec Ideal S512x128 .bf16) (w : Vec Ideal S1x384x128 .bf16) (r : Fin 512) (j : Fin 384) :
    k0_pay10 (F := Ideal) v q w (ix2 r j) = v (ix2 r j) + ∑ d : Fin 128, q (ix2 r d) * w (ix3 0 j d) := by
  unfold k0_pay10; pointwise

theorem pay11 (v : FVec Ideal S512x256 .f32) (k u : Vec Ideal S1x512x128 .bf16) (wk wv : Vec Ideal S1x256x128 .bf16) (r : Fin 512) (j : Fin 256) :
    k0_pay11 (F := Ideal) v k u wk wv (ix2 r j)
      = v (ix2 r j) + (∑ d : Fin 128, k (ix3 0 r d) * wk (ix3 0 j d)) + ∑ d : Fin 128, u (ix3 0 r d) * wv (ix3 0 j d) := by
  unfold k0_pay11 k0_pay8 k0_pay9; pointwise

theorem pay12 (v : FVec Ideal S512x128 .f32) (k : Vec Ideal S1x512x128 .bf16) (r : Fin 512) (d : Fin 128) :
    k0_pay12 (F := Ideal) v k (ix2 r d) = v (ix2 r d) + k (ix3 0 r d) := by
  unfold k0_pay12 k0_pay8; pointwise

theorem pay13 (a : Vec Ideal S512x384 .bf16) (q : FVec Ideal S512x128 .bf16) (v : Vec Ideal S1x384x128 .f32) (j : Fin 384) (d : Fin 128) :
    k0_pay13 (F := Ideal) a q v (ix3 0 j d) = v (ix3 0 j d) + ∑ r : Fin 512, a (ix2 r j) * q (ix2 r d) := by
  unfold k0_pay13; pointwise

theorem pay15 (a : Vec Ideal S512x256 .bf16) (k : Vec Ideal S1x512x128 .bf16) (v : Vec Ideal S1x256x128 .f32) (j : Fin 256) (d : Fin 128) :
    k0_pay15 (F := Ideal) (k0_pay14 a k v) (ix3 0 j d) = v (ix3 0 j d) + ∑ r : Fin 512, a (ix2 r j) * k (ix3 0 r d) := by
  unfold k0_pay15 k0_pay14 k0_pay8; pointwise

theorem pay16 (a : Vec Ideal S512x256 .bf16) (k : Vec Ideal S1x512x128 .bf16) (v : Vec Ideal S1x256x128 .f32) (j : Fin 256) (d : Fin 128) :
    k0_pay16 (F := Ideal) a (k0_pay9 k) v (ix3 0 j d) = v (ix3 0 j d) + ∑ r : Fin 512, a (ix2 r j) * k (ix3 0 r d) := by
  unfold k0_pay16 k0_pay9; pointwise

theorem hq (h : Fin 16) : ∀ a, (![h.val, 0, 0] : Fin 3 → Nat) a + S1x512x128.size a ≤ S16x512x128.size a :=
  (by decide : ∀ h : Fin 16, ∀ a : Fin 3, (![h.val, 0, 0] : Fin 3 → Nat) a + S1x512x128.size a ≤ S16x512x128.size a) h

theorem h3 (h : Fin 16) : ∀ a, (![h.val, 0, 0] : Fin 3 → Nat) a + S1x384x128.size a ≤ S16x384x128.size a :=
  (by decide : ∀ h : Fin 16, ∀ a : Fin 3, (![h.val, 0, 0] : Fin 3 → Nat) a + S1x384x128.size a ≤ S16x384x128.size a) h

theorem h2 (h : Fin 16) : ∀ a, (![h.val, 0, 0] : Fin 3 → Nat) a + S1x256x128.size a ≤ S16x256x128.size a :=
  (by decide : ∀ h : Fin 16, ∀ a : Fin 3, (![h.val, 0, 0] : Fin 3 → Nat) a + S1x256x128.size a ≤ S16x256x128.size a) h

/-- A head's rows, and its weights over the queries' and over the keys' latent features. -/
abbrev rq (h : Fin 16) : Rect S16x512x128 := Rect.unit (s := S16x512x128) ![h.val, 0, 0] S1x512x128.size (hq h)
abbrev r3 (h : Fin 16) : Rect S16x384x128 := Rect.unit (s := S16x384x128) ![h.val, 0, 0] S1x384x128.size (h3 h)
abbrev r2 (h : Fin 16) : Rect S16x256x128 := Rect.unit (s := S16x256x128) ![h.val, 0, 0] S1x256x128.size (h2 h)

theorem ldq_f32 (x : Vec Ideal S16x512x128 .f32) (h : Fin 16) (e : Fin 512) (d : Fin 128) : View.ld x (Rect.unit (s := S16x512x128) ![h.val, 0, 0] S1x512x128.size (hq h)) (ix3 0 e d) = x (ix3 h e d) := by
  refine View.ld_unit_apply_of x _ _ _ _ _ fun a => ?_
  match a with
  | ⟨0, _⟩ => rfl
  | ⟨1, _⟩ => exact (Nat.zero_add _).symm
  | ⟨2, _⟩ => exact (Nat.zero_add _).symm

theorem ldq_bf16 (x : Vec Ideal S16x512x128 .bf16) (h : Fin 16) (e : Fin 512) (d : Fin 128) : View.ld x (Rect.unit (s := S16x512x128) ![h.val, 0, 0] S1x512x128.size (hq h)) (ix3 0 e d) = x (ix3 h e d) := by
  refine View.ld_unit_apply_of x _ _ _ _ _ fun a => ?_
  match a with
  | ⟨0, _⟩ => rfl
  | ⟨1, _⟩ => exact (Nat.zero_add _).symm
  | ⟨2, _⟩ => exact (Nat.zero_add _).symm

theorem ld3_f32 (x : Vec Ideal S16x384x128 .f32) (h : Fin 16) (e : Fin 384) (d : Fin 128) : View.ld x (Rect.unit (s := S16x384x128) ![h.val, 0, 0] S1x384x128.size (h3 h)) (ix3 0 e d) = x (ix3 h e d) := by
  refine View.ld_unit_apply_of x _ _ _ _ _ fun a => ?_
  match a with
  | ⟨0, _⟩ => rfl
  | ⟨1, _⟩ => exact (Nat.zero_add _).symm
  | ⟨2, _⟩ => exact (Nat.zero_add _).symm

theorem ld3_bf16 (x : Vec Ideal S16x384x128 .bf16) (h : Fin 16) (e : Fin 384) (d : Fin 128) : View.ld x (Rect.unit (s := S16x384x128) ![h.val, 0, 0] S1x384x128.size (h3 h)) (ix3 0 e d) = x (ix3 h e d) := by
  refine View.ld_unit_apply_of x _ _ _ _ _ fun a => ?_
  match a with
  | ⟨0, _⟩ => rfl
  | ⟨1, _⟩ => exact (Nat.zero_add _).symm
  | ⟨2, _⟩ => exact (Nat.zero_add _).symm

theorem ld2_f32 (x : Vec Ideal S16x256x128 .f32) (h : Fin 16) (e : Fin 256) (d : Fin 128) : View.ld x (Rect.unit (s := S16x256x128) ![h.val, 0, 0] S1x256x128.size (h2 h)) (ix3 0 e d) = x (ix3 h e d) := by
  refine View.ld_unit_apply_of x _ _ _ _ _ fun a => ?_
  match a with
  | ⟨0, _⟩ => rfl
  | ⟨1, _⟩ => exact (Nat.zero_add _).symm
  | ⟨2, _⟩ => exact (Nat.zero_add _).symm

theorem ld2_bf16 (x : Vec Ideal S16x256x128 .bf16) (h : Fin 16) (e : Fin 256) (d : Fin 128) : View.ld x (Rect.unit (s := S16x256x128) ![h.val, 0, 0] S1x256x128.size (h2 h)) (ix3 0 e d) = x (ix3 h e d) := by
  refine View.ld_unit_apply_of x _ _ _ _ _ fun a => ?_
  match a with
  | ⟨0, _⟩ => rfl
  | ⟨1, _⟩ => exact (Nat.zero_add _).symm
  | ⟨2, _⟩ => exact (Nat.zero_add _).symm

theorem emb3 (h : Fin 16) (e : Fin 384) (d : Fin 128) : (r3 h).emb (ix3 0 e d) = (ix3 h e d : S16x384x128.Idx) := by
  blk_ext

theorem emb2 (h : Fin 16) (e : Fin 256) (d : Fin 128) : (r2 h).emb (ix3 0 e d) = (ix3 h e d : S16x256x128.Idx) := by
  blk_ext

section Body

variable (c : Dev nD) (i : grid0.Coords) (b0 : Vec Ideal S16x512x128 .f32) (b1 b2 : Vec Ideal S16x512x128 .bf16)
    (b3 : Vec Ideal S512x384 .bf16) (b4 : Vec Ideal S512x256 .bf16) (b5 b6 : Vec Ideal S512x128 .f32)
    (b7 : Vec Ideal S16x384x128 .bf16) (b8 b9 : Vec Ideal S16x256x128 .bf16)

/-- A row's part of the queries' latent gradient from one head, as the body adds it. -/
def st10 (v : FVec Ideal S512x384 .f32) (h : Fin 16) : FVec Ideal S512x384 .f32 :=
  k0_pay10 v (k0_pay7 b5 b6 (View.ld b0 (rq h))) (View.ld b7 (r3 h))

/-- The same of the keys' and values' latent gradient. -/
def st11 (v : FVec Ideal S512x256 .f32) (h : Fin 16) : FVec Ideal S512x256 .f32 :=
  k0_pay11 v (View.ld b1 (rq h)) (View.ld b2 (rq h)) (View.ld b8 (r2 h)) (View.ld b9 (r2 h))

/-- The same of the keys' rotary part. -/
def st12 (v : FVec Ideal S512x128 .f32) (h : Fin 16) : FVec Ideal S512x128 .f32 := k0_pay12 v (View.ld b1 (rq h))

theorem pointA10 a1 h1 a2 h2 a3 h3 a4 h4 a5 h5 a6 h6 a7 h7 a8 h8 a9 h9 a10 h10 a11 h11 a12 h12 a13 h13 a14 h14 a15 h15 a16 h16 hc :
    out0_A_10 (F := Ideal) c i a1 h1 a2 h2 a3 h3 a4 h4 a5 h5 a6 h6 a7 h7 a8 h8 a9 h9 a10 h10 a11 h11 a12 h12 a13 h13 a14 h14 a15 h15 a16 h16 hc b0 b1 b2 b3 b4 b5 b6 b7 b8 b9 = Cert.Heads.heads.foldl (st10 b0 b5 b6 b7) k0_pay4 := by
  funext y
  frame_out
  apply congrFun
  rfl

theorem pointA11 a1 h1 a2 h2 a3 h3 a4 h4 a5 h5 a6 h6 a7 h7 a8 h8 a9 h9 a10 h10 a11 h11 a12 h12 a13 h13 a14 h14 a15 h15 a16 h16 hc :
    out0_A_11 (F := Ideal) c i a1 h1 a2 h2 a3 h3 a4 h4 a5 h5 a6 h6 a7 h7 a8 h8 a9 h9 a10 h10 a11 h11 a12 h12 a13 h13 a14 h14 a15 h15 a16 h16 hc b0 b1 b2 b3 b4 b5 b6 b7 b8 b9 = Cert.Heads.heads.foldl (st11 b1 b2 b8 b9) k0_pay5 := by
  funext y
  frame_out
  apply congrFun
  rfl

theorem pointA12 a1 h1 a2 h2 a3 h3 a4 h4 a5 h5 a6 h6 a7 h7 a8 h8 a9 h9 a10 h10 a11 h11 a12 h12 a13 h13 a14 h14 a15 h15 a16 h16 hc :
    out0_A_12 (F := Ideal) c i a1 h1 a2 h2 a3 h3 a4 h4 a5 h5 a6 h6 a7 h7 a8 h8 a9 h9 a10 h10 a11 h11 a12 h12 a13 h13 a14 h14 a15 h15 a16 h16 hc b0 b1 b2 b3 b4 b5 b6 b7 b8 b9 = Cert.Heads.heads.foldl (st12 b1) k0_pay6 := by
  funext y
  frame_out
  apply congrFun
  rfl

theorem pointB10 a1 h1 a2 h2 a3 h3 a4 h4 a5 h5 a6 h6 a7 h7 a8 h8 a9 h9 a10 h10 a11 h11 a12 h12 a13 h13 a14 h14 a15 h15 a16 h16 hc x13 x14 x15 :
    out0_B_10 (F := Ideal) c i a1 h1 a2 h2 a3 h3 a4 h4 a5 h5 a6 h6 a7 h7 a8 h8 a9 h9 a10 h10 a11 h11 a12 h12 a13 h13 a14 h14 a15 h15 a16 h16 hc b0 b1 b2 b3 b4 b5 b6 b7 b8 b9 x13 x14 x15 = Cert.Heads.heads.foldl (st10 b0 b5 b6 b7) k0_pay4 := by
  funext y
  frame_out
  apply congrFun
  rfl

theorem pointB11 a1 h1 a2 h2 a3 h3 a4 h4 a5 h5 a6 h6 a7 h7 a8 h8 a9 h9 a10 h10 a11 h11 a12 h12 a13 h13 a14 h14 a15 h15 a16 h16 hc x13 x14 x15 :
    out0_B_11 (F := Ideal) c i a1 h1 a2 h2 a3 h3 a4 h4 a5 h5 a6 h6 a7 h7 a8 h8 a9 h9 a10 h10 a11 h11 a12 h12 a13 h13 a14 h14 a15 h15 a16 h16 hc b0 b1 b2 b3 b4 b5 b6 b7 b8 b9 x13 x14 x15 = Cert.Heads.heads.foldl (st11 b1 b2 b8 b9) k0_pay5 := by
  funext y
  frame_out
  apply congrFun
  rfl

theorem pointB12 a1 h1 a2 h2 a3 h3 a4 h4 a5 h5 a6 h6 a7 h7 a8 h8 a9 h9 a10 h10 a11 h11 a12 h12 a13 h13 a14 h14 a15 h15 a16 h16 hc x13 x14 x15 :
    out0_B_12 (F := Ideal) c i a1 h1 a2 h2 a3 h3 a4 h4 a5 h5 a6 h6 a7 h7 a8 h8 a9 h9 a10 h10 a11 h11 a12 h12 a13 h13 a14 h14 a15 h15 a16 h16 hc b0 b1 b2 b3 b4 b5 b6 b7 b8 b9 x13 x14 x15 = Cert.Heads.heads.foldl (st12 b1) k0_pay6 := by
  funext y
  frame_out
  apply congrFun
  rfl

/-- One head's weights' gradients after the body's step. -/
def G13 (v : Vec Ideal S16x384x128 .f32) : S16x384x128.Idx → EReal := fun i =>
  v i + ∑ r : Fin 512, b3 (ix2 r (i 1)) * Cert.dq (fun k => b0 (ix3 (i 0) r k)) (fun k => b5 (ix2 r k)) (fun k => b6 (ix2 r k)) (i 2)
def G14 (v : Vec Ideal S16x256x128 .f32) : S16x256x128.Idx → EReal := fun i =>
  v i + ∑ r : Fin 512, b4 (ix2 r (i 1)) * b1 (ix3 (i 0) r (i 2))
def G15 (v : Vec Ideal S16x256x128 .f32) : S16x256x128.Idx → EReal := fun i =>
  v i + ∑ r : Fin 512, b4 (ix2 r (i 1)) * b2 (ix3 (i 0) r (i 2))

theorem G13_apply (v : Vec Ideal S16x384x128 .f32) (h : Fin 16) (j : Fin 384) (d : Fin 128) : G13 b0 b3 b5 b6 v (ix3 h j d)
    = v (ix3 h j d) + ∑ r : Fin 512, b3 (ix2 r j) * Cert.dq (fun k => b0 (ix3 h r k)) (fun k => b5 (ix2 r k)) (fun k => b6 (ix2 r k)) d := rfl
theorem G14_apply (v : Vec Ideal S16x256x128 .f32) (h : Fin 16) (j : Fin 256) (d : Fin 128) :
    G14 b1 b4 v (ix3 h j d) = v (ix3 h j d) + ∑ r : Fin 512, b4 (ix2 r j) * b1 (ix3 h r d) := rfl
theorem G15_apply (v : Vec Ideal S16x256x128 .f32) (h : Fin 16) (j : Fin 256) (d : Fin 128) :
    G15 b2 b4 v (ix3 h j d) = v (ix3 h j d) + ∑ r : Fin 512, b4 (ix2 r j) * b2 (ix3 h r d) := rfl

theorem piece13 (v : Vec Ideal S16x384x128 .f32) (h : Fin 16) (y : S1x384x128.Idx) :
    k0_pay13 (F := Ideal) b3 (k0_pay7 b5 b6 (View.ld b0 (rq h))) (View.ld v (r3 h)) y = G13 b0 b3 b5 b6 v ((r3 h).emb y) := by
  idx_vars y
  obtain rfl : y0 = 0 := Subsingleton.elim _ _
  rw [emb3, pay13]
  simp only [pay7, ld3_f32 v h, ldq_f32 b0 h]
  rfl

theorem piece14 (v : Vec Ideal S16x256x128 .f32) (h : Fin 16) (y : S1x256x128.Idx) :
    k0_pay15 (F := Ideal) (k0_pay14 b4 (View.ld b1 (rq h)) (View.ld v (r2 h))) y = G14 b1 b4 v ((r2 h).emb y) := by
  idx_vars y
  obtain rfl : y0 = 0 := Subsingleton.elim _ _
  rw [emb2, pay15]
  simp only [ld2_f32 v h, ldq_bf16 b1 h]
  rfl

theorem piece15 (v : Vec Ideal S16x256x128 .f32) (h : Fin 16) (y : S1x256x128.Idx) :
    k0_pay16 (F := Ideal) b4 (k0_pay9 (View.ld b2 (rq h))) (View.ld v (r2 h)) y = G15 b2 b4 v ((r2 h).emb y) := by
  idx_vars y
  obtain rfl : y0 = 0 := Subsingleton.elim _ _
  rw [emb2, pay16]
  simp only [ld2_f32 v h, ldq_bf16 b2 h]
  rfl

theorem pointA13 a1 h1 a2 h2 a3 h3 a4 h4 a5 h5 a6 h6 a7 h7 a8 h8 a9 h9 a10 h10 a11 h11 a12 h12 a13 h13 a14 h14 a15 h15 a16 h16 hc :
    out0_A_13 (F := Ideal) c i a1 h1 a2 h2 a3 h3 a4 h4 a5 h5 a6 h6 a7 h7 a8 h8 a9 h9 a10 h10 a11 h11 a12 h12 a13 h13 a14 h14 a15 h15 a16 h16 hc b0 b1 b2 b3 b4 b5 b6 b7 b8 b9 = G13 b0 b3 b5 b6 (k0_pay1 (F := Ideal)) := by
  funext y
  frame_out
  simp (disch := decide) only [↓View.readCov_skip, ↓View.readCov_fill]
  refine View.canon_append_of_piecesOf (Val := Elt Ideal) (e := .f32) (G13 b0 b3 b5 b6 (k0_pay1 (F := Ideal))) [_] [_, _, _, _, _, _, _, _, _, _, _, _, _, _, _, _]
    ⟨piece13 b0 b3 b5 b6 (k0_pay1 (F := Ideal)) ⟨15, by decide⟩, piece13 b0 b3 b5 b6 (k0_pay1 (F := Ideal)) ⟨14, by decide⟩, piece13 b0 b3 b5 b6 (k0_pay1 (F := Ideal)) ⟨13, by decide⟩, piece13 b0 b3 b5 b6 (k0_pay1 (F := Ideal)) ⟨12, by decide⟩, piece13 b0 b3 b5 b6 (k0_pay1 (F := Ideal)) ⟨11, by decide⟩, piece13 b0 b3 b5 b6 (k0_pay1 (F := Ideal)) ⟨10, by decide⟩, piece13 b0 b3 b5 b6 (k0_pay1 (F := Ideal)) ⟨9, by decide⟩, piece13 b0 b3 b5 b6 (k0_pay1 (F := Ideal)) ⟨8, by decide⟩, piece13 b0 b3 b5 b6 (k0_pay1 (F := Ideal)) ⟨7, by decide⟩, piece13 b0 b3 b5 b6 (k0_pay1 (F := Ideal)) ⟨6, by decide⟩, piece13 b0 b3 b5 b6 (k0_pay1 (F := Ideal)) ⟨5, by decide⟩, piece13 b0 b3 b5 b6 (k0_pay1 (F := Ideal)) ⟨4, by decide⟩, piece13 b0 b3 b5 b6 (k0_pay1 (F := Ideal)) ⟨3, by decide⟩, piece13 b0 b3 b5 b6 (k0_pay1 (F := Ideal)) ⟨2, by decide⟩, piece13 b0 b3 b5 b6 (k0_pay1 (F := Ideal)) ⟨1, by decide⟩, piece13 b0 b3 b5 b6 (k0_pay1 (F := Ideal)) ⟨0, by decide⟩, trivial⟩ y ?_
  exact View.cover_of_tiledL _ ![1, 384, 128] (by sl_kernel_rfl) y

theorem pointB13 a1 h1 a2 h2 a3 h3 a4 h4 a5 h5 a6 h6 a7 h7 a8 h8 a9 h9 a10 h10 a11 h11 a12 h12 a13 h13 a14 h14 a15 h15 a16 h16 hc x13 x14 x15 :
    out0_B_13 (F := Ideal) c i a1 h1 a2 h2 a3 h3 a4 h4 a5 h5 a6 h6 a7 h7 a8 h8 a9 h9 a10 h10 a11 h11 a12 h12 a13 h13 a14 h14 a15 h15 a16 h16 hc b0 b1 b2 b3 b4 b5 b6 b7 b8 b9 x13 x14 x15 = G13 b0 b3 b5 b6 x13 := by
  funext y
  frame_out
  refine View.canon_apply_of_pieces (Val := Elt Ideal) (e := .f32) (G13 b0 b3 b5 b6 x13) _ (View.PiecesOf.mem ?_) y
    (View.cover_of_tiledL _ ![1, 384, 128] (by sl_kernel_rfl) y)
  exact ⟨piece13 b0 b3 b5 b6 x13 ⟨15, by decide⟩, piece13 b0 b3 b5 b6 x13 ⟨14, by decide⟩, piece13 b0 b3 b5 b6 x13 ⟨13, by decide⟩, piece13 b0 b3 b5 b6 x13 ⟨12, by decide⟩, piece13 b0 b3 b5 b6 x13 ⟨11, by decide⟩, piece13 b0 b3 b5 b6 x13 ⟨10, by decide⟩, piece13 b0 b3 b5 b6 x13 ⟨9, by decide⟩, piece13 b0 b3 b5 b6 x13 ⟨8, by decide⟩, piece13 b0 b3 b5 b6 x13 ⟨7, by decide⟩, piece13 b0 b3 b5 b6 x13 ⟨6, by decide⟩, piece13 b0 b3 b5 b6 x13 ⟨5, by decide⟩, piece13 b0 b3 b5 b6 x13 ⟨4, by decide⟩, piece13 b0 b3 b5 b6 x13 ⟨3, by decide⟩, piece13 b0 b3 b5 b6 x13 ⟨2, by decide⟩, piece13 b0 b3 b5 b6 x13 ⟨1, by decide⟩, piece13 b0 b3 b5 b6 x13 ⟨0, by decide⟩, trivial⟩

theorem pointA14 a1 h1 a2 h2 a3 h3 a4 h4 a5 h5 a6 h6 a7 h7 a8 h8 a9 h9 a10 h10 a11 h11 a12 h12 a13 h13 a14 h14 a15 h15 a16 h16 hc :
    out0_A_14 (F := Ideal) c i a1 h1 a2 h2 a3 h3 a4 h4 a5 h5 a6 h6 a7 h7 a8 h8 a9 h9 a10 h10 a11 h11 a12 h12 a13 h13 a14 h14 a15 h15 a16 h16 hc b0 b1 b2 b3 b4 b5 b6 b7 b8 b9 = G14 b1 b4 (k0_pay2 (F := Ideal)) := by
  funext y
  frame_out
  simp (disch := decide) only [↓View.readCov_skip, ↓View.readCov_fill]
  refine View.canon_append_of_piecesOf (Val := Elt Ideal) (e := .f32) (G14 b1 b4 (k0_pay2 (F := Ideal))) [_] [_, _, _, _, _, _, _, _, _, _, _, _, _, _, _, _]
    ⟨piece14 b1 b4 (k0_pay2 (F := Ideal)) ⟨15, by decide⟩, piece14 b1 b4 (k0_pay2 (F := Ideal)) ⟨14, by decide⟩, piece14 b1 b4 (k0_pay2 (F := Ideal)) ⟨13, by decide⟩, piece14 b1 b4 (k0_pay2 (F := Ideal)) ⟨12, by decide⟩, piece14 b1 b4 (k0_pay2 (F := Ideal)) ⟨11, by decide⟩, piece14 b1 b4 (k0_pay2 (F := Ideal)) ⟨10, by decide⟩, piece14 b1 b4 (k0_pay2 (F := Ideal)) ⟨9, by decide⟩, piece14 b1 b4 (k0_pay2 (F := Ideal)) ⟨8, by decide⟩, piece14 b1 b4 (k0_pay2 (F := Ideal)) ⟨7, by decide⟩, piece14 b1 b4 (k0_pay2 (F := Ideal)) ⟨6, by decide⟩, piece14 b1 b4 (k0_pay2 (F := Ideal)) ⟨5, by decide⟩, piece14 b1 b4 (k0_pay2 (F := Ideal)) ⟨4, by decide⟩, piece14 b1 b4 (k0_pay2 (F := Ideal)) ⟨3, by decide⟩, piece14 b1 b4 (k0_pay2 (F := Ideal)) ⟨2, by decide⟩, piece14 b1 b4 (k0_pay2 (F := Ideal)) ⟨1, by decide⟩, piece14 b1 b4 (k0_pay2 (F := Ideal)) ⟨0, by decide⟩, trivial⟩ y ?_
  exact View.cover_of_tiledL _ ![1, 256, 128] (by sl_kernel_rfl) y

theorem pointB14 a1 h1 a2 h2 a3 h3 a4 h4 a5 h5 a6 h6 a7 h7 a8 h8 a9 h9 a10 h10 a11 h11 a12 h12 a13 h13 a14 h14 a15 h15 a16 h16 hc x13 x14 x15 :
    out0_B_14 (F := Ideal) c i a1 h1 a2 h2 a3 h3 a4 h4 a5 h5 a6 h6 a7 h7 a8 h8 a9 h9 a10 h10 a11 h11 a12 h12 a13 h13 a14 h14 a15 h15 a16 h16 hc b0 b1 b2 b3 b4 b5 b6 b7 b8 b9 x13 x14 x15 = G14 b1 b4 x14 := by
  funext y
  frame_out
  refine View.canon_apply_of_pieces (Val := Elt Ideal) (e := .f32) (G14 b1 b4 x14) _ (View.PiecesOf.mem ?_) y
    (View.cover_of_tiledL _ ![1, 256, 128] (by sl_kernel_rfl) y)
  exact ⟨piece14 b1 b4 x14 ⟨15, by decide⟩, piece14 b1 b4 x14 ⟨14, by decide⟩, piece14 b1 b4 x14 ⟨13, by decide⟩, piece14 b1 b4 x14 ⟨12, by decide⟩, piece14 b1 b4 x14 ⟨11, by decide⟩, piece14 b1 b4 x14 ⟨10, by decide⟩, piece14 b1 b4 x14 ⟨9, by decide⟩, piece14 b1 b4 x14 ⟨8, by decide⟩, piece14 b1 b4 x14 ⟨7, by decide⟩, piece14 b1 b4 x14 ⟨6, by decide⟩, piece14 b1 b4 x14 ⟨5, by decide⟩, piece14 b1 b4 x14 ⟨4, by decide⟩, piece14 b1 b4 x14 ⟨3, by decide⟩, piece14 b1 b4 x14 ⟨2, by decide⟩, piece14 b1 b4 x14 ⟨1, by decide⟩, piece14 b1 b4 x14 ⟨0, by decide⟩, trivial⟩

theorem pointA15 a1 h1 a2 h2 a3 h3 a4 h4 a5 h5 a6 h6 a7 h7 a8 h8 a9 h9 a10 h10 a11 h11 a12 h12 a13 h13 a14 h14 a15 h15 a16 h16 hc :
    out0_A_15 (F := Ideal) c i a1 h1 a2 h2 a3 h3 a4 h4 a5 h5 a6 h6 a7 h7 a8 h8 a9 h9 a10 h10 a11 h11 a12 h12 a13 h13 a14 h14 a15 h15 a16 h16 hc b0 b1 b2 b3 b4 b5 b6 b7 b8 b9 = G15 b2 b4 (k0_pay3 (F := Ideal)) := by
  funext y
  frame_out
  simp (disch := decide) only [↓View.readCov_skip, ↓View.readCov_fill]
  refine View.canon_append_of_piecesOf (Val := Elt Ideal) (e := .f32) (G15 b2 b4 (k0_pay3 (F := Ideal))) [_] [_, _, _, _, _, _, _, _, _, _, _, _, _, _, _, _]
    ⟨piece15 b2 b4 (k0_pay3 (F := Ideal)) ⟨15, by decide⟩, piece15 b2 b4 (k0_pay3 (F := Ideal)) ⟨14, by decide⟩, piece15 b2 b4 (k0_pay3 (F := Ideal)) ⟨13, by decide⟩, piece15 b2 b4 (k0_pay3 (F := Ideal)) ⟨12, by decide⟩, piece15 b2 b4 (k0_pay3 (F := Ideal)) ⟨11, by decide⟩, piece15 b2 b4 (k0_pay3 (F := Ideal)) ⟨10, by decide⟩, piece15 b2 b4 (k0_pay3 (F := Ideal)) ⟨9, by decide⟩, piece15 b2 b4 (k0_pay3 (F := Ideal)) ⟨8, by decide⟩, piece15 b2 b4 (k0_pay3 (F := Ideal)) ⟨7, by decide⟩, piece15 b2 b4 (k0_pay3 (F := Ideal)) ⟨6, by decide⟩, piece15 b2 b4 (k0_pay3 (F := Ideal)) ⟨5, by decide⟩, piece15 b2 b4 (k0_pay3 (F := Ideal)) ⟨4, by decide⟩, piece15 b2 b4 (k0_pay3 (F := Ideal)) ⟨3, by decide⟩, piece15 b2 b4 (k0_pay3 (F := Ideal)) ⟨2, by decide⟩, piece15 b2 b4 (k0_pay3 (F := Ideal)) ⟨1, by decide⟩, piece15 b2 b4 (k0_pay3 (F := Ideal)) ⟨0, by decide⟩, trivial⟩ y ?_
  exact View.cover_of_tiledL _ ![1, 256, 128] (by sl_kernel_rfl) y

theorem pointB15 a1 h1 a2 h2 a3 h3 a4 h4 a5 h5 a6 h6 a7 h7 a8 h8 a9 h9 a10 h10 a11 h11 a12 h12 a13 h13 a14 h14 a15 h15 a16 h16 hc x13 x14 x15 :
    out0_B_15 (F := Ideal) c i a1 h1 a2 h2 a3 h3 a4 h4 a5 h5 a6 h6 a7 h7 a8 h8 a9 h9 a10 h10 a11 h11 a12 h12 a13 h13 a14 h14 a15 h15 a16 h16 hc b0 b1 b2 b3 b4 b5 b6 b7 b8 b9 x13 x14 x15 = G15 b2 b4 x15 := by
  funext y
  frame_out
  refine View.canon_apply_of_pieces (Val := Elt Ideal) (e := .f32) (G15 b2 b4 x15) _ (View.PiecesOf.mem ?_) y
    (View.cover_of_tiledL _ ![1, 256, 128] (by sl_kernel_rfl) y)
  exact ⟨piece15 b2 b4 x15 ⟨15, by decide⟩, piece15 b2 b4 x15 ⟨14, by decide⟩, piece15 b2 b4 x15 ⟨13, by decide⟩, piece15 b2 b4 x15 ⟨12, by decide⟩, piece15 b2 b4 x15 ⟨11, by decide⟩, piece15 b2 b4 x15 ⟨10, by decide⟩, piece15 b2 b4 x15 ⟨9, by decide⟩, piece15 b2 b4 x15 ⟨8, by decide⟩, piece15 b2 b4 x15 ⟨7, by decide⟩, piece15 b2 b4 x15 ⟨6, by decide⟩, piece15 b2 b4 x15 ⟨5, by decide⟩, piece15 b2 b4 x15 ⟨4, by decide⟩, piece15 b2 b4 x15 ⟨3, by decide⟩, piece15 b2 b4 x15 ⟨2, by decide⟩, piece15 b2 b4 x15 ⟨1, by decide⟩, piece15 b2 b4 x15 ⟨0, by decide⟩, trivial⟩

end Body

theorem idx : ∀ t : Fin cfg0.N, win0_0.index t = ![0, t.val, 0] ∧ win0_1.index t = ![0, t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![0, 0, 0] ∧ win0_8.index t = ![0, 0, 0] ∧ win0_9.index t = ![0, 0, 0]
    ∧ win0_10.index t = ![t.val, 0] ∧ win0_11.index t = ![t.val, 0] ∧ win0_12.index t = ![t.val, 0]
    ∧ win0_13.index t = ![0, 0, 0] ∧ win0_14.index t = ![0, 0, 0] ∧ win0_15.index t = ![0, 0, 0] :=
  (by decide +kernel : ∀ t : Fin grid0.N, _)

variable (m : (ℓ : Loc nD τ sig) → Buf (Elt Ideal) ℓ) (c : Dev nD)

/-- The gradients of the queries, the keys and the values, the two latent rows, the cosines and the sines, and the heads' weights of the
    queries, the keys and the values, as launched. -/
abbrev aDq : FVec Ideal S16x8192x128 .f32 := m ((c : Thread nD τ).loc main_arg0)
abbrev aDk : FVec Ideal S16x8192x128 .bf16 := m ((c : Thread nD τ).loc main_arg1)
abbrev aDv : FVec Ideal S16x8192x128 .bf16 := m ((c : Thread nD τ).loc main_arg2)
abbrev aQ : FVec Ideal S8192x384 .bf16 := m ((c : Thread nD τ).loc main_arg3)
abbrev aC : FVec Ideal S8192x256 .bf16 := m ((c : Thread nD τ).loc main_arg4)
abbrev aCs : FVec Ideal S8192x128 .f32 := m ((c : Thread nD τ).loc main_arg5)
abbrev aSn : FVec Ideal S8192x128 .f32 := m ((c : Thread nD τ).loc main_arg6)
abbrev aWq : FVec Ideal S16x384x128 .bf16 := m ((c : Thread nD τ).loc main_arg7)
abbrev aWk : FVec Ideal S16x256x128 .bf16 := m ((c : Thread nD τ).loc main_arg8)
abbrev aWv : FVec Ideal S16x256x128 .bf16 := m ((c : Thread nD τ).loc main_arg9)

/-- Row `r` of tile `t`, among all rows. -/
abbrev tr (t : Fin cfg0.N) (r : Fin 512) : Fin 8192 :=
  ⟨t.val * 512 + r.val, by have := lt_of_lt_of_eq t.isLt (show cfg0.N = 16 from N_0); omega⟩

theorem blk0 (t : Fin cfg0.N) (h : Fin 16) (r : Fin 512) (d : Fin 128) : iblk m c 0 t (ix3 h r d) = aDq m c (ix3 h (tr t r) d) := by
  blk_point [iblk, V, idx t]

theorem blk1 (t : Fin cfg0.N) (h : Fin 16) (r : Fin 512) (d : Fin 128) : iblk m c 1 t (ix3 h r d) = aDk m c (ix3 h (tr t r) d) := by
  blk_point [iblk, V, idx t]

theorem blk2 (t : Fin cfg0.N) (h : Fin 16) (r : Fin 512) (d : Fin 128) : iblk m c 2 t (ix3 h r d) = aDv m c (ix3 h (tr t r) d) := by
  blk_point [iblk, V, idx t]

theorem blk3 (t : Fin cfg0.N) (r : Fin 512) (e : Fin 384) : iblk m c 3 t (ix2 r e) = aQ m c (ix2 (tr t r) e) := by
  blk_point [iblk, V, idx t]

theorem blk4 (t : Fin cfg0.N) (r : Fin 512) (e : Fin 256) : iblk m c 4 t (ix2 r e) = aC m c (ix2 (tr t r) e) := by
  blk_point [iblk, V, idx t]

theorem blk5 (t : Fin cfg0.N) (r : Fin 512) (e : Fin 128) : iblk m c 5 t (ix2 r e) = aCs m c (ix2 (tr t r) e) := by
  blk_point [iblk, V, idx t]

theorem blk6 (t : Fin cfg0.N) (r : Fin 512) (e : Fin 128) : iblk m c 6 t (ix2 r e) = aSn m c (ix2 (tr t r) e) := by
  blk_point [iblk, V, idx t]

theorem blk7 (t : Fin cfg0.N) (h : Fin 16) (e : Fin 384) (d : Fin 128) : iblk m c 7 t (ix3 h e d) = aWq m c (ix3 h e d) := by
  blk_point [iblk, V, idx t]

theorem blk8 (t : Fin cfg0.N) (h : Fin 16) (e : Fin 256) (d : Fin 128) : iblk m c 8 t (ix3 h e d) = aWk m c (ix3 h e d) := by
  blk_point [iblk, V, idx t]

theorem blk9 (t : Fin cfg0.N) (h : Fin 16) (e : Fin 256) (d : Fin 128) : iblk m c 9 t (ix3 h e d) = aWv m c (ix3 h e d) := by
  blk_point [iblk, V, idx t]

/-- The queries' gradient before the turn. -/
def dqv (h : Fin 16) (r : Fin 8192) (d : Fin 128) : EReal :=
  Cert.dq (fun k => aDq m c (ix3 h r k)) (fun k => aCs m c (ix2 r k)) (fun k => aSn m c (ix2 r k)) d

/-- The gradients of the queries' latent rows, of the keys' and values' latent rows and of the keys' rotary part, as arrays. -/
def res10 : S8192x384.Idx → EReal := fun i => ∑ h : Fin 16, ∑ d : Fin 128, dqv m c h (i 0) d * aWq m c (ix3 h (i 1) d)
def res11 : S8192x256.Idx → EReal := fun i =>
  ∑ h : Fin 16, ((∑ d : Fin 128, aDk m c (ix3 h (i 0) d) * aWk m c (ix3 h (i 1) d)) + ∑ d : Fin 128, aDv m c (ix3 h (i 0) d) * aWv m c (ix3 h (i 1) d))
def res12 : S8192x128.Idx → EReal := fun i => ∑ h : Fin 16, aDk m c (ix3 h (i 0) (i 1))

/-- The gradients of the heads' weights, as arrays. -/
def res13 : S16x384x128.Idx → EReal := fun i => ∑ r : Fin 8192, aQ m c (ix2 r (i 1)) * dqv m c (i 0) r (i 2)
def res14 : S16x256x128.Idx → EReal := fun i => ∑ r : Fin 8192, aC m c (ix2 r (i 1)) * aDk m c (ix3 (i 0) r (i 2))
def res15 : S16x256x128.Idx → EReal := fun i => ∑ r : Fin 8192, aC m c (ix2 r (i 1)) * aDv m c (ix3 (i 0) r (i 2))

/-- A tile's block of a gradient of rows, from the running total over the heads. -/
theorem tot10 (t : Fin cfg0.N) (r : Fin 512) (j : Fin 384) :
    Cert.Heads.heads.foldl (st10 (iblk m c 0 t) (iblk m c 5 t) (iblk m c 6 t) (iblk m c 7 t)) k0_pay4 (ix2 r j) = res10 m c (ix2 (tr t r) j) := by
  refine (Cert.Heads.foldl_heads _ (fun h y => ∑ d : Fin 128, dqv m c h (tr t (y 0)) d * aWq m c (ix3 h (y 1) d)) (fun v h y => ?_) _ _).trans ?_
  · idx_vars y
    unfold st10
    refine (pay10 _ _ _ y0 y1).trans ?_
    simp only [pay7, ld3_bf16 (iblk m c 7 t) h, ldq_f32 (iblk m c 0 t) h, blk0, blk5, blk6, blk7]
    rfl
  · rw [pay4, zero_add]; rfl

theorem tot11 (t : Fin cfg0.N) (r : Fin 512) (j : Fin 256) :
    Cert.Heads.heads.foldl (st11 (iblk m c 1 t) (iblk m c 2 t) (iblk m c 8 t) (iblk m c 9 t)) k0_pay5 (ix2 r j) = res11 m c (ix2 (tr t r) j) := by
  refine (Cert.Heads.foldl_heads _ (fun h y => (∑ d : Fin 128, aDk m c (ix3 h (tr t (y 0)) d) * aWk m c (ix3 h (y 1) d))
    + ∑ d : Fin 128, aDv m c (ix3 h (tr t (y 0)) d) * aWv m c (ix3 h (y 1) d)) (fun v h y => ?_) _ _).trans ?_
  · idx_vars y
    unfold st11
    refine (pay11 _ _ _ _ _ y0 y1).trans ?_
    simp only [ldq_bf16 (iblk m c 1 t) h, ldq_bf16 (iblk m c 2 t) h, ld2_bf16 (iblk m c 8 t) h, ld2_bf16 (iblk m c 9 t) h, blk1, blk2, blk8, blk9, add_assoc]
  · rw [pay5, zero_add]; rfl

theorem tot12 (t : Fin cfg0.N) (r : Fin 512) (j : Fin 128) :
    Cert.Heads.heads.foldl (st12 (iblk m c 1 t)) k0_pay6 (ix2 r j) = res12 m c (ix2 (tr t r) j) := by
  refine (Cert.Heads.foldl_heads _ (fun h y => aDk m c (ix3 h (tr t (y 0)) (y 1))) (fun v h y => ?_) _ _).trans ?_
  · idx_vars y
    unfold st12
    refine (pay12 _ _ y0 y1).trans ?_
    simp only [ldq_bf16 (iblk m c 1 t) h, blk1]
  · rw [pay6, zero_add]; rfl

theorem outs10 (t : Fin cfg0.N) : (outsAt0 m c t.val t.isLt).1 = Cert.Heads.heads.foldl (st10 (iblk m c 0 t) (iblk m c 5 t) (iblk m c 6 t) (iblk m c 7 t)) k0_pay4 := by
  by_cases h : t.val % 16 = 0
  · rw [outsAt0_A m c t h]; dsimp only; rw [pointA10]
  · rw [outsAt0_B m c t h]; dsimp only; rw [pointB10]

theorem emb10 (t : Fin cfg0.N) (y : S512x384.Idx) :
    (ix2 (tr t (y 0)) (y 1) : S8192x384.Idx) = ((View.whole main_v0_0).slice (win0_10.rect t)).emb y := by
  idx_vars y
  blk_ext [idx t]

theorem final10 : (dats m 0 c).arrAt 10 cfg0.N = res10 m c := by
  refine (dats m 0 c).arrAt_eq_of_covers 10 _ (by decide +kernel) fun t hf y => ?_
  blk_simp
  rw [after0_10, outs10]
  refine Eq.trans ?_ (congrArg (res10 m c) (emb10 t y))
  idx_vars y
  exact tot10 m c t y0 y1

theorem outs11 (t : Fin cfg0.N) : (outsAt0 m c t.val t.isLt).2.1 = Cert.Heads.heads.foldl (st11 (iblk m c 1 t) (iblk m c 2 t) (iblk m c 8 t) (iblk m c 9 t)) k0_pay5 := by
  by_cases h : t.val % 16 = 0
  · rw [outsAt0_A m c t h]; dsimp only; rw [pointA11]
  · rw [outsAt0_B m c t h]; dsimp only; rw [pointB11]

theorem emb11 (t : Fin cfg0.N) (y : S512x256.Idx) :
    (ix2 (tr t (y 0)) (y 1) : S8192x256.Idx) = ((View.whole main_v0_1).slice (win0_11.rect t)).emb y := by
  idx_vars y
  blk_ext [idx t]

theorem final11 : (dats m 0 c).arrAt 11 cfg0.N = res11 m c := by
  refine (dats m 0 c).arrAt_eq_of_covers 11 _ (by decide +kernel) fun t hf y => ?_
  blk_simp
  rw [after0_11, outs11]
  refine Eq.trans ?_ (congrArg (res11 m c) (emb11 t y))
  idx_vars y
  exact tot11 m c t y0 y1

theorem outs12 (t : Fin cfg0.N) : (outsAt0 m c t.val t.isLt).2.2.1 = Cert.Heads.heads.foldl (st12 (iblk m c 1 t)) k0_pay6 := by
  by_cases h : t.val % 16 = 0
  · rw [outsAt0_A m c t h]; dsimp only; rw [pointA12]
  · rw [outsAt0_B m c t h]; dsimp only; rw [pointB12]

theorem emb12 (t : Fin cfg0.N) (y : S512x128.Idx) :
    (ix2 (tr t (y 0)) (y 1) : S8192x128.Idx) = ((View.whole main_v0_2).slice (win0_12.rect t)).emb y := by
  idx_vars y
  blk_ext [idx t]

theorem final12 : (dats m 0 c).arrAt 12 cfg0.N = res12 m c := by
  refine (dats m 0 c).arrAt_eq_of_covers 12 _ (by decide +kernel) fun t hf y => ?_
  blk_simp
  rw [after0_12, outs12]
  refine Eq.trans ?_ (congrArg (res12 m c) (emb12 t y))
  idx_vars y
  exact tot12 m c t y0 y1

/-- A tile of rows' part of a weights' gradient. -/
def part13 (t : Fin cfg0.N) (i : S16x384x128.Idx) : EReal := ∑ r : Fin 512, aQ m c (ix2 (tr t r) (i 1)) * dqv m c (i 0) (tr t r) (i 2)

theorem G13_at (t : Fin cfg0.N) (v : Vec Ideal S16x384x128 .f32) (y : S16x384x128.Idx) :
    G13 (iblk m c 0 t) (iblk m c 3 t) (iblk m c 5 t) (iblk m c 6 t) v y = v y + part13 m c t y := by
  idx_vars y
  refine (G13_apply _ _ _ _ v y0 y1 y2).trans ?_
  simp only [blk0, blk3, blk5, blk6]
  rfl

theorem sum13 (t : Fin cfg0.N) (ht : t.val % 16 = 16 - 1) (y : S16x384x128.Idx) : (outsAt0 m c t.val t.isLt).2.2.2.1 y = res13 m c y := by
  have hN := lt_of_lt_of_eq t.isLt (show cfg0.N = 16 from N_0)
  refine (Pipeline.eq_sum_fin_of_reset_step_apply_of_flush (fun n h => (outsAt0 m c n h).2.2.2.1) 16 (fun _ => 0) (part13 m c)
    (fun t h y => ?_) (fun t h y => ?_) t ht y).trans ?_
  · rw [outsAt0_A m c t h]; dsimp only; rw [pointA13, G13_at, pay1]
  · rw [outsAt0_B m c t h]; dsimp only; rw [pointB13, G13_at]
  · rw [zero_add]
    unfold part13 res13
    refine Fin.sum_mul_add_congr (fun s k hl => ?_) rfl
    have e : tr ⟨16 * (t.val / 16) + s.val, Pipeline.run_point_lt_of_flush t ht s⟩ k = ⟨s.val * 512 + k.val, hl⟩ := by
      apply Fin.ext
      show (16 * (t.val / 16) + s.val) * 512 + k.val = s.val * 512 + k.val
      omega
    rw [e]

theorem emb13 (t : Fin cfg0.N) (y : S16x384x128.Idx) :
    y = ((View.whole main_v0_3).slice (win0_13.rect t)).emb y := by
  idx_vars y
  blk_ext [idx t]

theorem final13 : (dats m 0 c).arrAt 13 cfg0.N = res13 m c := by
  refine (dats m 0 c).arrAt_eq_of_covers 13 _ (by decide +kernel) fun t hf y => ?_
  blk_simp
  rw [after0_13]
  exact (sum13 m c t ((flush0_13 t).mp hf) y).trans (congrArg (res13 m c) (emb13 t y))

/-- A tile of rows' part of a weights' gradient. -/
def part14 (t : Fin cfg0.N) (i : S16x256x128.Idx) : EReal := ∑ r : Fin 512, aC m c (ix2 (tr t r) (i 1)) * aDk m c (ix3 (i 0) (tr t r) (i 2))

theorem G14_at (t : Fin cfg0.N) (v : Vec Ideal S16x256x128 .f32) (y : S16x256x128.Idx) :
    G14 (iblk m c 1 t) (iblk m c 4 t) v y = v y + part14 m c t y := by
  idx_vars y
  refine (G14_apply _ _ v y0 y1 y2).trans ?_
  simp only [blk1, blk4]
  rfl

theorem sum14 (t : Fin cfg0.N) (ht : t.val % 16 = 16 - 1) (y : S16x256x128.Idx) : (outsAt0 m c t.val t.isLt).2.2.2.2.1 y = res14 m c y := by
  have hN := lt_of_lt_of_eq t.isLt (show cfg0.N = 16 from N_0)
  refine (Pipeline.eq_sum_fin_of_reset_step_apply_of_flush (fun n h => (outsAt0 m c n h).2.2.2.2.1) 16 (fun _ => 0) (part14 m c)
    (fun t h y => ?_) (fun t h y => ?_) t ht y).trans ?_
  · rw [outsAt0_A m c t h]; dsimp only; rw [pointA14, G14_at, pay2]
  · rw [outsAt0_B m c t h]; dsimp only; rw [pointB14, G14_at]
  · rw [zero_add]
    unfold part14 res14
    refine Fin.sum_mul_add_congr (fun s k hl => ?_) rfl
    have e : tr ⟨16 * (t.val / 16) + s.val, Pipeline.run_point_lt_of_flush t ht s⟩ k = ⟨s.val * 512 + k.val, hl⟩ := by
      apply Fin.ext
      show (16 * (t.val / 16) + s.val) * 512 + k.val = s.val * 512 + k.val
      omega
    rw [e]

theorem emb14 (t : Fin cfg0.N) (y : S16x256x128.Idx) :
    y = ((View.whole main_v0_4).slice (win0_14.rect t)).emb y := by
  idx_vars y
  blk_ext [idx t]

theorem final14 : (dats m 0 c).arrAt 14 cfg0.N = res14 m c := by
  refine (dats m 0 c).arrAt_eq_of_covers 14 _ (by decide +kernel) fun t hf y => ?_
  blk_simp
  rw [after0_14]
  exact (sum14 m c t ((flush0_14 t).mp hf) y).trans (congrArg (res14 m c) (emb14 t y))

/-- A tile of rows' part of a weights' gradient. -/
def part15 (t : Fin cfg0.N) (i : S16x256x128.Idx) : EReal := ∑ r : Fin 512, aC m c (ix2 (tr t r) (i 1)) * aDv m c (ix3 (i 0) (tr t r) (i 2))

theorem G15_at (t : Fin cfg0.N) (v : Vec Ideal S16x256x128 .f32) (y : S16x256x128.Idx) :
    G15 (iblk m c 2 t) (iblk m c 4 t) v y = v y + part15 m c t y := by
  idx_vars y
  refine (G15_apply _ _ v y0 y1 y2).trans ?_
  simp only [blk2, blk4]
  rfl

theorem sum15 (t : Fin cfg0.N) (ht : t.val % 16 = 16 - 1) (y : S16x256x128.Idx) : (outsAt0 m c t.val t.isLt).2.2.2.2.2 y = res15 m c y := by
  have hN := lt_of_lt_of_eq t.isLt (show cfg0.N = 16 from N_0)
  refine (Pipeline.eq_sum_fin_of_reset_step_apply_of_flush (fun n h => (outsAt0 m c n h).2.2.2.2.2) 16 (fun _ => 0) (part15 m c)
    (fun t h y => ?_) (fun t h y => ?_) t ht y).trans ?_
  · rw [outsAt0_A m c t h]; dsimp only; rw [pointA15, G15_at, pay3]
  · rw [outsAt0_B m c t h]; dsimp only; rw [pointB15, G15_at]
  · rw [zero_add]
    unfold part15 res15
    refine Fin.sum_mul_add_congr (fun s k hl => ?_) rfl
    have e : tr ⟨16 * (t.val / 16) + s.val, Pipeline.run_point_lt_of_flush t ht s⟩ k = ⟨s.val * 512 + k.val, hl⟩ := by
      apply Fin.ext
      show (16 * (t.val / 16) + s.val) * 512 + k.val = s.val * 512 + k.val
      omega
    rw [e]

theorem emb15 (t : Fin cfg0.N) (y : S16x256x128.Idx) :
    y = ((View.whole main_v0_5).slice (win0_15.rect t)).emb y := by
  idx_vars y
  blk_ext [idx t]

theorem final15 : (dats m 0 c).arrAt 15 cfg0.N = res15 m c := by
  refine (dats m 0 c).arrAt_eq_of_covers 15 _ (by decide +kernel) fun t hf y => ?_
  blk_simp
  rw [after0_15]
  exact (sum15 m c t ((flush0_15 t).mp hf) y).trans (congrArg (res15 m c) (emb15 t y))

end Cert.Kernel25Ideal.QkvBwd

namespace Cert.Reference25Ideal.QkvBwd

open Cert.Reference25Ideal Cert.Reference25Ideal.Gen

variable (dq : FVec Ideal S16x8192x128 .f32) (dk dv : FVec Ideal S16x8192x128 .bf16) (q : FVec Ideal S8192x384 .bf16)
  (cc : FVec Ideal S8192x256 .bf16) (cs sn : FVec Ideal S8192x128 .f32) (wq : FVec Ideal S16x384x128 .bf16) (wk wv : FVec Ideal S16x256x128 .bf16)

/-- A table of the rows, the same for each head. -/
def allA (p : FVec Ideal S8192x128 .f32) : FVec Ideal S16x8192x128 .f32 :=
  broadcastInDim S16x8192x128 ![0, 1, 2] bcast_S1x8192x128_S16x8192x128_0_1_2 (broadcastInDim S1x8192x128 ![1, 2] bcast_S8192x128_S1x8192x128_1_2 p)

theorem allA_at (h : Fin 16) (r : Fin 8192) (d : Fin 128) : allA cs (ix3 h r d) = cs (ix2 r d) := by
  unfold allA; pointwise

/-- The queries' gradient times the sines, and times the cosines. -/
def snA : FVec Ideal S16x8192x128 .f32 := mulf (shapeCast _ dq shapeCasts_S16x8192x128_S16x8192x128) (allA sn)

theorem snA_at (h : Fin 16) (r : Fin 8192) (d : Fin 128) : snA dq sn (ix3 h r d) = dq (ix3 h r d) * sn (ix2 r d) := by
  unfold snA; pointwise; rw [allA_at]

/-- The queries' gradient before the turn. -/
def dqA : FVec Ideal S16x8192x128 .f32 :=
  addf (addf (pad S16x8192x128 ![0, 0, 64] ![0, 0, 48] ![0, 0, 0] (extractStridedSlice S16x8192x16 ![0, 0, 80] (snA dq sn) slices_S16x8192x128_S16x8192x16_0_0_80) (constant S_ .f32 0x00000000#32) pads_S16x8192x16_S16x8192x128_000_000_64480 h_S_) (pad S16x8192x128 ![0, 0, 80] ![0, 0, 32] ![0, 0, 0] (Host.negf (extractStridedSlice S16x8192x16 ![0, 0, 64] (snA dq sn) slices_S16x8192x128_S16x8192x16_0_0_64)) (constant S_ .f32 0x00000000#32) pads_S16x8192x16_S16x8192x128_000_000_80320 h_S_)) (snA dq cs)

theorem dqA_at (h : Fin 16) (r : Fin 8192) (d : Fin 128) :
    dqA dq cs sn (ix3 h r d) = Cert.dq (fun k => dq (ix3 h r k)) (fun k => cs (ix2 r k)) (fun k => sn (ix2 r k)) d := by
  unfold dqA; pointwise
  have hd := d.isLt
  unfold Cert.dq Cert.rot
  rw [snA_at, sub_eq_add_neg, add_comm]
  refine congrArg (fun z : EReal => dq (ix3 h r d) * cs (ix2 r d) + z) ?_
  by_cases h1 : 64 ≤ d.val ∧ d.val < 80
  · rw [dif_pos (show 64 ≤ d.val ∧ d.val - 64 < 16 by omega), dif_neg (show ¬(80 ≤ d.val ∧ d.val - 80 < 16) by omega), dif_pos h1, neg_neg, add_zero, snA_at]
    have e : (⟨80 + (d.val - 64), by omega⟩ : Fin 128) = ⟨d.val + 16, by omega⟩ := Fin.ext (by show 80 + (d.val - 64) = d.val + 16; omega)
    exact congrArg (fun k => dq (ix3 h r k) * sn (ix2 r k)) e
  · by_cases h2 : 80 ≤ d.val ∧ d.val < 96
    · rw [dif_neg (show ¬(64 ≤ d.val ∧ d.val - 64 < 16) by omega), dif_pos (show 80 ≤ d.val ∧ d.val - 80 < 16 by omega), dif_neg h1, dif_pos h2, zero_add, snA_at]
      have e : (⟨64 + (d.val - 80), by omega⟩ : Fin 128) = ⟨d.val - 16, by omega⟩ := Fin.ext (by show 64 + (d.val - 80) = d.val - 16; omega)
      exact congrArg (fun k => -(dq (ix3 h r k) * sn (ix2 r k))) e
    · rw [dif_neg (show ¬(64 ≤ d.val ∧ d.val - 64 < 16) by omega), dif_neg (show ¬(80 ≤ d.val ∧ d.val - 80 < 16) by omega), dif_neg h1, dif_neg h2, neg_zero, add_zero]

def r10 : FVec Ideal S8192x384 .f32 :=
  Host.dotGeneral dot_S16x128x8192_S16x384x128_S8192x384_01_02_2_1_n_n none (transpose S16x128x8192 [0, 2, 1] (dqA dq cs sn) transposes_S16x8192x128_S16x128x8192_0_2_1) (extf .f32 wq bitsLt_bf16_f32)

theorem r10_at (r : Fin 8192) (j : Fin 384) : r10 dq cs sn wq (ix2 r j)
    = ∑ h : Fin 16, ∑ d : Fin 128, Cert.dq (fun k => dq (ix3 h r k)) (fun k => cs (ix2 r k)) (fun k => sn (ix2 r k)) d * wq (ix3 h j d) := by
  unfold r10; pointwise
  simp only [dqA_at]

def r11 : FVec Ideal S8192x256 .f32 :=
  addf (Host.dotGeneral dot_S16x128x8192_S16x256x128_S8192x256_01_02_2_1_n_n none (transpose S16x128x8192 [0, 2, 1] (extf .f32 dv bitsLt_bf16_f32) transposes_S16x8192x128_S16x128x8192_0_2_1) (extf .f32 wv bitsLt_bf16_f32)) (Host.dotGeneral dot_S16x128x8192_S16x256x128_S8192x256_01_02_2_1_n_n none (transpose S16x128x8192 [0, 2, 1] (extf .f32 dk bitsLt_bf16_f32) transposes_S16x8192x128_S16x128x8192_0_2_1) (extf .f32 wk bitsLt_bf16_f32))

theorem r11_at (r : Fin 8192) (j : Fin 256) : r11 dk dv wk wv (ix2 r j)
    = ∑ h : Fin 16, ((∑ d : Fin 128, dk (ix3 h r d) * wk (ix3 h j d)) + ∑ d : Fin 128, dv (ix3 h r d) * wv (ix3 h j d)) := by
  unfold r11; pointwise
  rw [Finset.sum_add_distrib]
  exact add_comm _ _

def r12 : FVec Ideal S8192x128 .f32 :=
  Host.reduceAdd (shapeCast _ (Host.reduceAdd (extf .f32 dk bitsLt_bf16_f32) (constant S_ .f32 0x00000000#32) reducesTo_S16x8192x128_S8192x128_d0 h_S_) shapeCasts_S8192x128_S1x8192x128) (constant S_ .f32 0x00000000#32) reducesTo_S1x8192x128_S8192x128_d0 h_S_

theorem r12_at (r : Fin 8192) (j : Fin 128) : r12 dk (ix2 r j) = ∑ h : Fin 16, dk (ix3 h r j) := by
  unfold r12; pointwise
  exact Fin.sum_univ_one _

def r13 : FVec Ideal S16x384x128 .f32 :=
  transpose S16x384x128 [0, 2, 1] (Host.dotGeneral dot_S16x128x8192_S8192x384_S16x128x384_2_0_01_1_n_n none (transpose S16x128x8192 [0, 2, 1] (dqA dq cs sn) transposes_S16x8192x128_S16x128x8192_0_2_1) (extf .f32 q bitsLt_bf16_f32)) transposes_S16x128x384_S16x384x128_0_2_1

theorem r13_at (h : Fin 16) (j : Fin 384) (d : Fin 128) : r13 dq q cs sn (ix3 h j d)
    = ∑ r : Fin 8192, q (ix2 r j) * Cert.dq (fun k => dq (ix3 h r k)) (fun k => cs (ix2 r k)) (fun k => sn (ix2 r k)) d := by
  unfold r13; pointwise
  simp only [dqA_at]
  exact Finset.sum_congr rfl fun r _ => mul_comm _ _

/-- The gradient of the keys' or the values' weights. -/
def r14 : FVec Ideal S16x256x128 .f32 :=
  transpose S16x256x128 [0, 2, 1] (Host.dotGeneral dot_S16x128x8192_S8192x256_S16x128x256_2_0_01_1_n_n none (transpose S16x128x8192 [0, 2, 1] (extf .f32 dk bitsLt_bf16_f32) transposes_S16x8192x128_S16x128x8192_0_2_1) (extf .f32 cc bitsLt_bf16_f32)) transposes_S16x128x256_S16x256x128_0_2_1

theorem r14_at (h : Fin 16) (j : Fin 256) (d : Fin 128) : r14 dk cc (ix3 h j d) = ∑ r : Fin 8192, cc (ix2 r j) * dk (ix3 h r d) := by
  unfold r14; pointwise
  exact Finset.sum_congr rfl fun r _ => mul_comm _ _

end Cert.Reference25Ideal.QkvBwd

namespace Cert.QkvBwd

theorem reference : Cert.quiescent_Reference25Ideal := fun m g _ =>
  (θ_run Cert.Reference25Ideal.defs _ _).mono (fun r h => ⟨fun c => (h c).2.2.2.2.2.2, sem_eq_zero_of_no_sems (by decide) r.2⟩)
    (Cert.Reference25Ideal.Value.run m g)

/-- The two programs leave the same six arrays. -/
theorem algebraic : Cert.algebraic_Kernel25Ideal_Reference25Ideal := by
  pair_intro
  · run_from Cert.Kernel25Ideal.Value.run_blocks m g
  · refine (θ_run Cert.Reference25Ideal.defs _ _).mono (fun r h c => ?_) (Cert.Reference25Ideal.Value.run m' g')
    obtain ⟨e0, e1, e2, e3, e4, e5, e6, e7, e8, e9⟩ := hagree c
    obtain ⟨h1, h2, h3, h4, h5, h6, h7⟩ := h c
    refine ⟨h1.trans ?_, h2.trans ?_, h3.trans ?_, h4.trans ?_, h5.trans ?_, h6.trans ?_, h7⟩
    · rw [Cert.Kernel25Ideal.QkvBwd.final10, e0, e5, e6, e7]
      funext i
      idx_vars i
      exact Cert.Reference25Ideal.QkvBwd.r10_at _ _ _ _ i0 i1
    · rw [Cert.Kernel25Ideal.QkvBwd.final11, e1, e2, e8, e9]
      funext i
      idx_vars i
      exact Cert.Reference25Ideal.QkvBwd.r11_at _ _ _ _ i0 i1
    · rw [Cert.Kernel25Ideal.QkvBwd.final12, e1]
      funext i
      idx_vars i
      exact Cert.Reference25Ideal.QkvBwd.r12_at _ i0 i1
    · rw [Cert.Kernel25Ideal.QkvBwd.final13, e0, e3, e5, e6]
      funext i
      idx_vars i
      exact Cert.Reference25Ideal.QkvBwd.r13_at _ _ _ _ i0 i1 i2
    · rw [Cert.Kernel25Ideal.QkvBwd.final14, e1, e4]
      funext i
      idx_vars i
      exact Cert.Reference25Ideal.QkvBwd.r14_at _ _ i0 i1 i2
    · rw [Cert.Kernel25Ideal.QkvBwd.final15, e2, e4]
      funext i
      idx_vars i
      exact Cert.Reference25Ideal.QkvBwd.r14_at _ _ i0 i1 i2

end Cert.QkvBwd

end
-- ==== Proof.QkvFwd.lean ====
/- The attention's per-head projections, forward, with the rotary turn of the queries: what the kernel leaves, and that the reference
   leaves the same. -/
module

public import proofs.«01_k».proof.Defs
public import proofs.«01_k».proof.Proof.RotCore
public import proofs.«01_k».proof.Proof.Gen.Kernel26Ideal.Value
public import proofs.«01_k».proof.Proof.Gen.Reference26Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel26Ideal.QkvFwd

open Cert.Kernel26Ideal Cert.Kernel26Ideal.Gen

/-- A head's query, before the turn. -/
def q0 (a : Vec Ideal S512x384 .bf16) (w : Vec Ideal S1x384x128 .bf16) (r : Fin 512) (d : Fin 128) : EReal :=
  ∑ e : Fin 384, a (ix2 r e) * w (ix3 0 e d)

theorem pay2 (a : Vec Ideal S512x384 .bf16) (cs sn : Vec Ideal S512x128 .f32) (w : Vec Ideal S1x384x128 .bf16) (r : Fin 512) (d : Fin 128) :
    k0_pay2 (F := Ideal) a cs sn w (ix3 0 r d)
      = q0 a w r d * cs (ix2 r d) + Cert.rot (q0 a w r) d * sn (ix2 r d) := by
  unfold k0_pay2
  pointwise
  exact congrArg (fun z : EReal => q0 a w r d * cs (ix2 r d) + z * sn (ix2 r d)) (Cert.Rot.sel (q0 a w r) d _ _)

theorem pay3 (a : Vec Ideal S512x256 .bf16) (p : Vec Ideal S512x128 .f32) (w : Vec Ideal S1x256x128 .bf16) (r : Fin 512) (d : Fin 128) :
    k0_pay3 (F := Ideal) a p w (ix3 0 r d) = (∑ e : Fin 256, a (ix2 r e) * w (ix3 0 e d)) + p (ix2 r d) := by
  unfold k0_pay3; pointwise

theorem pay4 (a : Vec Ideal S512x256 .bf16) (w : Vec Ideal S1x256x128 .bf16) (r : Fin 512) (d : Fin 128) :
    k0_pay4 (F := Ideal) a w (ix3 0 r d) = ∑ e : Fin 256, a (ix2 r e) * w (ix3 0 e d) := by
  unfold k0_pay4; pointwise

variable (x0 : Vec Ideal S512x384 .bf16) (x1 : Vec Ideal S512x256 .bf16) (x2 x3 x4 : Vec Ideal S512x128 .f32)
  (x5 : Vec Ideal S16x384x128 .bf16) (x6 x7 : Vec Ideal S16x256x128 .bf16)

/-- A tile of rows' queries, all heads. -/
def G8 : S16x512x128.Idx → EReal := fun i =>
  (∑ e : Fin 384, x0 (ix2 (i 1) e) * x5 (ix3 (i 0) e (i 2))) * x3 (ix2 (i 1) (i 2))
    + Cert.rot (fun d => ∑ e : Fin 384, x0 (ix2 (i 1) e) * x5 (ix3 (i 0) e d)) (i 2) * x4 (ix2 (i 1) (i 2))

/-- A tile of rows' keys, all heads. -/
def G9 : S16x512x128.Idx → EReal := fun i =>
  (∑ e : Fin 256, x1 (ix2 (i 1) e) * x6 (ix3 (i 0) e (i 2))) + x2 (ix2 (i 1) (i 2))

/-- A tile of rows' values, all heads. -/
def G10 : S16x512x128.Idx → EReal := fun i => ∑ e : Fin 256, x1 (ix2 (i 1) e) * x7 (ix3 (i 0) e (i 2))

theorem G8_at (h : Fin 16) (r : Fin 512) (d : Fin 128) : G8 x0 x3 x4 x5 (ix3 h r d)
    = (∑ e : Fin 384, x0 (ix2 r e) * x5 (ix3 h e d)) * x3 (ix2 r d)
      + Cert.rot (fun k => ∑ e : Fin 384, x0 (ix2 r e) * x5 (ix3 h e k)) d * x4 (ix2 r d) := rfl

theorem G9_at (h : Fin 16) (r : Fin 512) (d : Fin 128) : G9 x1 x2 x6 (ix3 h r d)
    = (∑ e : Fin 256, x1 (ix2 r e) * x6 (ix3 h e d)) + x2 (ix2 r d) := rfl

theorem G10_at (h : Fin 16) (r : Fin 512) (d : Fin 128) : G10 x1 x7 (ix3 h r d) = ∑ e : Fin 256, x1 (ix2 r e) * x7 (ix3 h e d) := rfl

theorem ldw5 (o : Nat) (ho : o < 16) (inb) (e : Fin 384) (d : Fin 128) :
    View.ld x5 (Rect.unit (s := S16x384x128) ![o, 0, 0] S1x384x128.size inb) (ix3 0 e d) = x5 (ix3 ⟨o, ho⟩ e d) := by
  refine View.ld_unit_apply_of x5 _ _ _ _ _ fun a => ?_
  match a with
  | ⟨0, _⟩ => rfl
  | ⟨1, _⟩ => exact (Nat.zero_add _).symm
  | ⟨2, _⟩ => exact (Nat.zero_add _).symm

theorem ldw6 (x6 : Vec Ideal S16x256x128 .bf16) (o : Nat) (ho : o < 16) (inb) (e : Fin 256) (d : Fin 128) :
    View.ld x6 (Rect.unit (s := S16x256x128) ![o, 0, 0] S1x256x128.size inb) (ix3 0 e d) = x6 (ix3 ⟨o, ho⟩ e d) := by
  refine View.ld_unit_apply_of x6 _ _ _ _ _ fun a => ?_
  match a with
  | ⟨0, _⟩ => rfl
  | ⟨1, _⟩ => exact (Nat.zero_add _).symm
  | ⟨2, _⟩ => exact (Nat.zero_add _).symm

theorem emb_head (o : Nat) (ho : o < 16) (inb) (r : Fin 512) (d : Fin 128) :
    (Rect.unit (s := S16x512x128) ![o, 0, 0] S1x512x128.size inb).emb (ix3 0 r d) = (ix3 ⟨o, ho⟩ r d : S16x512x128.Idx) := by
  blk_ext

/-- One head's queries are a block of all heads'. -/
theorem piece8 (o : Nat) (ho : o < 16) (hw hq) (y : S1x512x128.Idx) :
    k0_pay2 (F := Ideal) (View.ld x0 r0_0) (View.ld x3 r0_2) (View.ld x4 r0_2)
        (View.ld x5 (Rect.unit (s := S16x384x128) ![o, 0, 0] S1x384x128.size hw)) y
      = G8 x0 x3 x4 x5 ((Rect.unit (s := S16x512x128) ![o, 0, 0] S1x512x128.size hq).emb y) := by
  idx_vars y
  obtain rfl : y0 = 0 := Subsingleton.elim _ _
  rw [emb_head o ho, pay2]
  unfold q0
  simp only [ldw5 x5 o ho]
  rw [View.ld_unit_lit _ x0 (by decide), View.ld_unit_lit _ x3 (by decide), View.ld_unit_lit _ x4 (by decide)]
  rfl

/-- One head's keys are a block of all heads'. -/
theorem piece9 (o : Nat) (ho : o < 16) (hw hq) (y : S1x512x128.Idx) :
    k0_pay3 (F := Ideal) (View.ld x1 r0_1) (View.ld x2 r0_2)
        (View.ld x6 (Rect.unit (s := S16x256x128) ![o, 0, 0] S1x256x128.size hw)) y
      = G9 x1 x2 x6 ((Rect.unit (s := S16x512x128) ![o, 0, 0] S1x512x128.size hq).emb y) := by
  idx_vars y
  obtain rfl : y0 = 0 := Subsingleton.elim _ _
  rw [emb_head o ho, pay3]
  simp only [ldw6 x6 o ho]
  rw [View.ld_unit_lit _ x1 (by decide), View.ld_unit_lit _ x2 (by decide)]
  rfl

/-- One head's values are a block of all heads'. -/
theorem piece10 (o : Nat) (ho : o < 16) (hw hq) (y : S1x512x128.Idx) :
    k0_pay4 (F := Ideal) (View.ld x1 r0_1)
        (View.ld x7 (Rect.unit (s := S16x256x128) ![o, 0, 0] S1x256x128.size hw)) y
      = G10 x1 x7 ((Rect.unit (s := S16x512x128) ![o, 0, 0] S1x512x128.size hq).emb y) := by
  idx_vars y
  obtain rfl : y0 = 0 := Subsingleton.elim _ _
  rw [emb_head o ho, pay4]
  simp only [ldw6 x7 o ho]
  rw [View.ld_unit_lit _ x1 (by decide)]
  rfl

theorem out8_eq : out0_8 x0 x1 x2 x3 x4 x5 x6 x7 = G8 x0 x3 x4 x5 := by
  funext y
  unfold out0_8
  refine View.canon_apply_of_pieces _ _ (View.PiecesOf.mem ?_) y (cover0_8 _ _ _ _ _ _ _ _ _ _ _ _ _ _ _ _ y)
  exact ⟨piece8 x0 x3 x4 x5 15 (by decide) inb_S16x384x128_S1x384x128_15_0_0 inb_S16x512x128_S1x512x128_15_0_0, piece8 x0 x3 x4 x5 14 (by decide) inb_S16x384x128_S1x384x128_14_0_0 inb_S16x512x128_S1x512x128_14_0_0, piece8 x0 x3 x4 x5 13 (by decide) inb_S16x384x128_S1x384x128_13_0_0 inb_S16x512x128_S1x512x128_13_0_0, piece8 x0 x3 x4 x5 12 (by decide) inb_S16x384x128_S1x384x128_12_0_0 inb_S16x512x128_S1x512x128_12_0_0, piece8 x0 x3 x4 x5 11 (by decide) inb_S16x384x128_S1x384x128_11_0_0 inb_S16x512x128_S1x512x128_11_0_0, piece8 x0 x3 x4 x5 10 (by decide) inb_S16x384x128_S1x384x128_10_0_0 inb_S16x512x128_S1x512x128_10_0_0, piece8 x0 x3 x4 x5 9 (by decide) inb_S16x384x128_S1x384x128_9_0_0 inb_S16x512x128_S1x512x128_9_0_0, piece8 x0 x3 x4 x5 8 (by decide) inb_S16x384x128_S1x384x128_8_0_0 inb_S16x512x128_S1x512x128_8_0_0, piece8 x0 x3 x4 x5 7 (by decide) inb_S16x384x128_S1x384x128_7_0_0 inb_S16x512x128_S1x512x128_7_0_0, piece8 x0 x3 x4 x5 6 (by decide) inb_S16x384x128_S1x384x128_6_0_0 inb_S16x512x128_S1x512x128_6_0_0, piece8 x0 x3 x4 x5 5 (by decide) inb_S16x384x128_S1x384x128_5_0_0 inb_S16x512x128_S1x512x128_5_0_0, piece8 x0 x3 x4 x5 4 (by decide) inb_S16x384x128_S1x384x128_4_0_0 inb_S16x512x128_S1x512x128_4_0_0, piece8 x0 x3 x4 x5 3 (by decide) inb_S16x384x128_S1x384x128_3_0_0 inb_S16x512x128_S1x512x128_3_0_0, piece8 x0 x3 x4 x5 2 (by decide) inb_S16x384x128_S1x384x128_2_0_0 inb_S16x512x128_S1x512x128_2_0_0, piece8 x0 x3 x4 x5 1 (by decide) inb_S16x384x128_S1x384x128_1_0_0 inb_S16x512x128_S1x512x128_1_0_0, piece8 x0 x3 x4 x5 0 (by decide) inb_S16x384x128_S1x384x128_0_0_0 inb_S16x512x128_S1x512x128_0_0_0, trivial⟩

theorem out9_eq : out0_9 x0 x1 x2 x3 x4 x5 x6 x7 = G9 x1 x2 x6 := by
  funext y
  unfold out0_9
  refine View.canon_apply_of_pieces _ _ (View.PiecesOf.mem ?_) y (cover0_9 _ _ _ _ _ _ _ _ _ _ _ _ _ _ _ _ y)
  exact ⟨piece9 x1 x2 x6 15 (by decide) inb_S16x256x128_S1x256x128_15_0_0 inb_S16x512x128_S1x512x128_15_0_0, piece9 x1 x2 x6 14 (by decide) inb_S16x256x128_S1x256x128_14_0_0 inb_S16x512x128_S1x512x128_14_0_0, piece9 x1 x2 x6 13 (by decide) inb_S16x256x128_S1x256x128_13_0_0 inb_S16x512x128_S1x512x128_13_0_0, piece9 x1 x2 x6 12 (by decide) inb_S16x256x128_S1x256x128_12_0_0 inb_S16x512x128_S1x512x128_12_0_0, piece9 x1 x2 x6 11 (by decide) inb_S16x256x128_S1x256x128_11_0_0 inb_S16x512x128_S1x512x128_11_0_0, piece9 x1 x2 x6 10 (by decide) inb_S16x256x128_S1x256x128_10_0_0 inb_S16x512x128_S1x512x128_10_0_0, piece9 x1 x2 x6 9 (by decide) inb_S16x256x128_S1x256x128_9_0_0 inb_S16x512x128_S1x512x128_9_0_0, piece9 x1 x2 x6 8 (by decide) inb_S16x256x128_S1x256x128_8_0_0 inb_S16x512x128_S1x512x128_8_0_0, piece9 x1 x2 x6 7 (by decide) inb_S16x256x128_S1x256x128_7_0_0 inb_S16x512x128_S1x512x128_7_0_0, piece9 x1 x2 x6 6 (by decide) inb_S16x256x128_S1x256x128_6_0_0 inb_S16x512x128_S1x512x128_6_0_0, piece9 x1 x2 x6 5 (by decide) inb_S16x256x128_S1x256x128_5_0_0 inb_S16x512x128_S1x512x128_5_0_0, piece9 x1 x2 x6 4 (by decide) inb_S16x256x128_S1x256x128_4_0_0 inb_S16x512x128_S1x512x128_4_0_0, piece9 x1 x2 x6 3 (by decide) inb_S16x256x128_S1x256x128_3_0_0 inb_S16x512x128_S1x512x128_3_0_0, piece9 x1 x2 x6 2 (by decide) inb_S16x256x128_S1x256x128_2_0_0 inb_S16x512x128_S1x512x128_2_0_0, piece9 x1 x2 x6 1 (by decide) inb_S16x256x128_S1x256x128_1_0_0 inb_S16x512x128_S1x512x128_1_0_0, piece9 x1 x2 x6 0 (by decide) inb_S16x256x128_S1x256x128_0_0_0 inb_S16x512x128_S1x512x128_0_0_0, trivial⟩

theorem out10_eq : out0_10 x0 x1 x2 x3 x4 x5 x6 x7 = G10 x1 x7 := by
  funext y
  unfold out0_10
  refine View.canon_apply_of_pieces _ _ (View.PiecesOf.mem ?_) y (cover0_10 _ _ _ _ _ _ _ _ _ _ _ _ _ _ _ _ y)
  exact ⟨piece10 x1 x7 15 (by decide) inb_S16x256x128_S1x256x128_15_0_0 inb_S16x512x128_S1x512x128_15_0_0, piece10 x1 x7 14 (by decide) inb_S16x256x128_S1x256x128_14_0_0 inb_S16x512x128_S1x512x128_14_0_0, piece10 x1 x7 13 (by decide) inb_S16x256x128_S1x256x128_13_0_0 inb_S16x512x128_S1x512x128_13_0_0, piece10 x1 x7 12 (by decide) inb_S16x256x128_S1x256x128_12_0_0 inb_S16x512x128_S1x512x128_12_0_0, piece10 x1 x7 11 (by decide) inb_S16x256x128_S1x256x128_11_0_0 inb_S16x512x128_S1x512x128_11_0_0, piece10 x1 x7 10 (by decide) inb_S16x256x128_S1x256x128_10_0_0 inb_S16x512x128_S1x512x128_10_0_0, piece10 x1 x7 9 (by decide) inb_S16x256x128_S1x256x128_9_0_0 inb_S16x512x128_S1x512x128_9_0_0, piece10 x1 x7 8 (by decide) inb_S16x256x128_S1x256x128_8_0_0 inb_S16x512x128_S1x512x128_8_0_0, piece10 x1 x7 7 (by decide) inb_S16x256x128_S1x256x128_7_0_0 inb_S16x512x128_S1x512x128_7_0_0, piece10 x1 x7 6 (by decide) inb_S16x256x128_S1x256x128_6_0_0 inb_S16x512x128_S1x512x128_6_0_0, piece10 x1 x7 5 (by decide) inb_S16x256x128_S1x256x128_5_0_0 inb_S16x512x128_S1x512x128_5_0_0, piece10 x1 x7 4 (by decide) inb_S16x256x128_S1x256x128_4_0_0 inb_S16x512x128_S1x512x128_4_0_0, piece10 x1 x7 3 (by decide) inb_S16x256x128_S1x256x128_3_0_0 inb_S16x512x128_S1x512x128_3_0_0, piece10 x1 x7 2 (by decide) inb_S16x256x128_S1x256x128_2_0_0 inb_S16x512x128_S1x512x128_2_0_0, piece10 x1 x7 1 (by decide) inb_S16x256x128_S1x256x128_1_0_0 inb_S16x512x128_S1x512x128_1_0_0, piece10 x1 x7 0 (by decide) inb_S16x256x128_S1x256x128_0_0_0 inb_S16x512x128_S1x512x128_0_0_0, trivial⟩

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] ∧ win0_6.index t = ![0, 0, 0]
    ∧ win0_7.index t = ![0, 0, 0] ∧ win0_8.index t = ![0, t.val, 0] ∧ win0_9.index t = ![0, t.val, 0] ∧ win0_10.index t = ![0, t.val, 0] :=
  (by decide +kernel : ∀ t : Fin grid0.N, _)

variable (m : (ℓ : Loc nD τ sig) → Buf (Elt Ideal) ℓ) (c : Dev nD)

/-- The queries' and the keys' latent rows, the keys' rotary part, the cosines and the sines, and the heads' weights of the queries, the
    keys and the values, as launched. -/
abbrev aQ : FVec Ideal S8192x384 .bf16 := m ((c : Thread nD τ).loc main_arg0)
abbrev aC : FVec Ideal S8192x256 .bf16 := m ((c : Thread nD τ).loc main_arg1)
abbrev aP : FVec Ideal S8192x128 .f32 := m ((c : Thread nD τ).loc main_arg2)
abbrev aCs : FVec Ideal S8192x128 .f32 := m ((c : Thread nD τ).loc main_arg3)
abbrev aSn : FVec Ideal S8192x128 .f32 := m ((c : Thread nD τ).loc main_arg4)
abbrev aWq : FVec Ideal S16x384x128 .bf16 := m ((c : Thread nD τ).loc main_arg5)
abbrev aWk : FVec Ideal S16x256x128 .bf16 := m ((c : Thread nD τ).loc main_arg6)
abbrev aWv : FVec Ideal S16x256x128 .bf16 := m ((c : Thread nD τ).loc main_arg7)

/-- Row `r` of tile `t`, among all rows. -/
abbrev tr (t : Fin cfg0.N) (r : Fin 512) : Fin 8192 :=
  ⟨t.val * 512 + r.val, by have := lt_of_lt_of_eq t.isLt (show cfg0.N = 16 from N_0); omega⟩

theorem blk0 (t : Fin cfg0.N) (r : Fin 512) (e : Fin 384) : iblk m c 0 t (ix2 r e) = aQ m c (ix2 (tr t r) e) := by
  blk_point [iblk, V, idx t]

theorem blk1 (t : Fin cfg0.N) (r : Fin 512) (e : Fin 256) : iblk m c 1 t (ix2 r e) = aC m c (ix2 (tr t r) e) := by
  blk_point [iblk, V, idx t]

theorem blk2 (t : Fin cfg0.N) (r : Fin 512) (e : Fin 128) : iblk m c 2 t (ix2 r e) = aP m c (ix2 (tr t r) e) := by
  blk_point [iblk, V, idx t]

theorem blk3 (t : Fin cfg0.N) (r : Fin 512) (e : Fin 128) : iblk m c 3 t (ix2 r e) = aCs m c (ix2 (tr t r) e) := by
  blk_point [iblk, V, idx t]

theorem blk4 (t : Fin cfg0.N) (r : Fin 512) (e : Fin 128) : iblk m c 4 t (ix2 r e) = aSn m c (ix2 (tr t r) e) := by
  blk_point [iblk, V, idx t]

theorem blk5 (t : Fin cfg0.N) (h : Fin 16) (e : Fin 384) (d : Fin 128) : iblk m c 5 t (ix3 h e d) = aWq m c (ix3 h e d) := by
  blk_point [iblk, V, idx t]

theorem blk6 (t : Fin cfg0.N) (h : Fin 16) (e : Fin 256) (d : Fin 128) : iblk m c 6 t (ix3 h e d) = aWk m c (ix3 h e d) := by
  blk_point [iblk, V, idx t]

theorem blk7 (t : Fin cfg0.N) (h : Fin 16) (e : Fin 256) (d : Fin 128) : iblk m c 7 t (ix3 h e d) = aWv m c (ix3 h e d) := by
  blk_point [iblk, V, idx t]

/-- The queries, as an array. -/
def res8 : S16x8192x128.Idx → EReal := fun i =>
  (∑ e : Fin 384, aQ m c (ix2 (i 1) e) * aWq m c (ix3 (i 0) e (i 2))) * aCs m c (ix2 (i 1) (i 2))
    + Cert.rot (fun d => ∑ e : Fin 384, aQ m c (ix2 (i 1) e) * aWq m c (ix3 (i 0) e d)) (i 2) * aSn m c (ix2 (i 1) (i 2))

/-- The keys, as an array. -/
def res9 : S16x8192x128.Idx → EReal := fun i =>
  (∑ e : Fin 256, aC m c (ix2 (i 1) e) * aWk m c (ix3 (i 0) e (i 2))) + aP m c (ix2 (i 1) (i 2))

/-- The values, as an array. -/
def res10 : S16x8192x128.Idx → EReal := fun i => ∑ e : Fin 256, aC m c (ix2 (i 1) e) * aWv m c (ix3 (i 0) e (i 2))

theorem emb8 (t : Fin cfg0.N) (y : S16x512x128.Idx) :
    (ix3 (y 0) (tr t (y 1)) (y 2) : S16x8192x128.Idx) = ((View.whole main_v0_0).slice (win0_8.rect t)).emb y := by
  idx_vars y
  blk_ext [idx t]

theorem emb9 (t : Fin cfg0.N) (y : S16x512x128.Idx) :
    (ix3 (y 0) (tr t (y 1)) (y 2) : S16x8192x128.Idx) = ((View.whole main_v0_1).slice (win0_9.rect t)).emb y := by
  idx_vars y
  blk_ext [idx t]

theorem emb10 (t : Fin cfg0.N) (y : S16x512x128.Idx) :
    (ix3 (y 0) (tr t (y 1)) (y 2) : S16x8192x128.Idx) = ((View.whole main_v0_2).slice (win0_10.rect t)).emb y := by
  idx_vars y
  blk_ext [idx t]

theorem final8 : (dats m 0 c).arrAt 8 cfg0.N = res8 m c := by
  refine (dats m 0 c).arrAt_eq_of_covers 8 _ (by decide +kernel) fun t hf y => ?_
  blk_simp
  rw [after0_8, out8_eq]
  refine Eq.trans ?_ (congrArg (res8 m c) (emb8 t y))
  idx_vars y
  refine (G8_at _ _ _ _ y0 y1 y2).trans ?_
  simp only [blk0, blk3, blk4, blk5]
  rfl

theorem final9 : (dats m 0 c).arrAt 9 cfg0.N = res9 m c := by
  refine (dats m 0 c).arrAt_eq_of_covers 9 _ (by decide +kernel) fun t hf y => ?_
  blk_simp
  rw [after0_9, out9_eq]
  refine Eq.trans ?_ (congrArg (res9 m c) (emb9 t y))
  idx_vars y
  refine (G9_at _ _ _ y0 y1 y2).trans ?_
  simp only [blk1, blk2, blk6]
  rfl

theorem final10 : (dats m 0 c).arrAt 10 cfg0.N = res10 m c := by
  refine (dats m 0 c).arrAt_eq_of_covers 10 _ (by decide +kernel) fun t hf y => ?_
  blk_simp
  rw [after0_10, out10_eq]
  refine Eq.trans ?_ (congrArg (res10 m c) (emb10 t y))
  idx_vars y
  refine (G10_at _ _ y0 y1 y2).trans ?_
  simp only [blk1, blk7]
  rfl

end Cert.Kernel26Ideal.QkvFwd

namespace Cert.Reference26Ideal.QkvFwd

open Cert.Reference26Ideal Cert.Reference26Ideal.Gen

variable (q : FVec Ideal S8192x384 .bf16) (cc : FVec Ideal S8192x256 .bf16) (p cs sn : FVec Ideal S8192x128 .f32)
  (wq : FVec Ideal S16x384x128 .bf16) (wk : FVec Ideal S16x256x128 .bf16)

/-- A table of the rows, the same for each head. -/
def allA (p : FVec Ideal S8192x128 .f32) : FVec Ideal S16x8192x128 .f32 :=
  broadcastInDim S16x8192x128 ![0, 1, 2] bcast_S1x8192x128_S16x8192x128_0_1_2 (broadcastInDim S1x8192x128 ![1, 2] bcast_S8192x128_S1x8192x128_1_2 p)

theorem allA_at (h : Fin 16) (r : Fin 8192) (d : Fin 128) : allA p (ix3 h r d) = p (ix2 r d) := by
  unfold allA; pointwise

/-- The queries before the turn. -/
def qA : FVec Ideal S16x8192x128 .f32 :=
  transpose S16x8192x128 [0, 2, 1] (Host.dotGeneral dot_S16x384x128_S8192x384_S16x128x8192_1_1_02_0_n_n none (extf .f32 wq bitsLt_bf16_f32) (extf .f32 q bitsLt_bf16_f32)) transposes_S16x128x8192_S16x8192x128_0_2_1

theorem qA_at (h : Fin 16) (r : Fin 8192) (d : Fin 128) :
    qA q wq (ix3 h r d) = ∑ e : Fin 384, q (ix2 r e) * wq (ix3 h e d) := by
  unfold qA; pointwise
  exact Finset.sum_congr rfl fun e _ => mul_comm _ _

/-- The products of the keys' latent rows. -/
def kA : FVec Ideal S16x8192x128 .f32 :=
  transpose S16x8192x128 [0, 2, 1] (Host.dotGeneral dot_S16x256x128_S8192x256_S16x128x8192_1_1_02_0_n_n none (extf .f32 wk bitsLt_bf16_f32) (extf .f32 cc bitsLt_bf16_f32)) transposes_S16x128x8192_S16x8192x128_0_2_1

theorem kA_at (h : Fin 16) (r : Fin 8192) (d : Fin 128) :
    kA cc wk (ix3 h r d) = ∑ e : Fin 256, cc (ix2 r e) * wk (ix3 h e d) := by
  unfold kA; pointwise
  exact Finset.sum_congr rfl fun e _ => mul_comm _ _

/-- Each row's rotary pairs turned. -/
def rotA (u : FVec Ideal S16x8192x128 .f32) : FVec Ideal S16x8192x128 .f32 :=
  concatenate S16x8192x128 2 [⟨S16x8192x64, (broadcastInDim S16x8192x64 ![] bcast_S_S16x8192x64 (constant S_ .f32 0x00000000#32) : FVec Ideal S16x8192x64 .f32)⟩, ⟨S16x8192x16, (Host.negf (extractStridedSlice S16x8192x16 ![0, 0, 80] u slices_S16x8192x128_S16x8192x16_0_0_80) : FVec Ideal S16x8192x16 .f32)⟩, ⟨S16x8192x16, (extractStridedSlice S16x8192x16 ![0, 0, 64] u slices_S16x8192x128_S16x8192x16_0_0_64 : FVec Ideal S16x8192x16 .f32)⟩, ⟨S16x8192x32, (broadcastInDim S16x8192x32 ![] bcast_S_S16x8192x32 (constant S_ .f32 0x00000000#32) : FVec Ideal S16x8192x32 .f32)⟩] concatenates_S16x8192x64_S16x8192x16_S16x8192x16_S16x8192x32_S16x8192x128_d2

theorem rotA_at (u : FVec Ideal S16x8192x128 .f32) (h : Fin 16) (r : Fin 8192) (d : Fin 128) :
    rotA u (ix3 h r d) = Cert.rot (fun k => u (ix3 h r k)) d := by
  unfold rotA; pointwise
  have hd := d.isLt
  unfold Cert.rot
  by_cases h1 : d.val < 64
  · rw [dif_pos h1, dif_neg (show ¬(64 ≤ d.val ∧ d.val < 80) by omega), dif_neg (show ¬(80 ≤ d.val ∧ d.val < 96) by omega)]
  · by_cases h2 : d.val - 64 < 16
    · rw [dif_neg h1, dif_pos h2, dif_pos (show 64 ≤ d.val ∧ d.val < 80 by omega)]
      refine congrArg (fun k => -u (ix3 h r k)) (Fin.ext ?_)
      show 80 + (d.val - 64) = d.val + 16
      omega
    · by_cases h3 : d.val - 64 - 16 < 16
      · rw [dif_neg h1, dif_neg h2, dif_pos h3, dif_neg (show ¬(64 ≤ d.val ∧ d.val < 80) by omega), dif_pos (show 80 ≤ d.val ∧ d.val < 96 by omega)]
        refine congrArg (fun k => u (ix3 h r k)) (Fin.ext ?_)
        show 64 + (d.val - 64 - 16) = d.val - 16
        omega
      · rw [dif_neg h1, dif_neg h2, dif_neg h3, dif_neg (show ¬(64 ≤ d.val ∧ d.val < 80) by omega), dif_neg (show ¬(80 ≤ d.val ∧ d.val < 96) by omega)]

/-- The queries. -/
def r8 : FVec Ideal S16x8192x128 .bf16 :=
  truncf .bf16 (addf (mulf (qA q wq) (allA cs)) (mulf (rotA (qA q wq)) (allA sn))) bitsLt_bf16_f32

theorem r8_at (h : Fin 16) (r : Fin 8192) (d : Fin 128) :
    r8 q cs sn wq (ix3 h r d) = (∑ e : Fin 384, q (ix2 r e) * wq (ix3 h e d)) * cs (ix2 r d)
      + Cert.rot (fun k => ∑ e : Fin 384, q (ix2 r e) * wq (ix3 h e k)) d * sn (ix2 r d) := by
  unfold r8; pointwise; simp only [rotA_at, qA_at, allA_at]

/-- The keys. -/
def r9 : FVec Ideal S16x8192x128 .bf16 := truncf .bf16 (addf (kA cc wk) (allA p)) bitsLt_bf16_f32

theorem r9_at (h : Fin 16) (r : Fin 8192) (d : Fin 128) :
    r9 cc p wk (ix3 h r d) = (∑ e : Fin 256, cc (ix2 r e) * wk (ix3 h e d)) + p (ix2 r d) := by
  unfold r9; pointwise; simp only [kA_at, allA_at]

/-- The values. -/
def r10 : FVec Ideal S16x8192x128 .bf16 := truncf .bf16 (kA cc wk) bitsLt_bf16_f32

theorem r10_at (h : Fin 16) (r : Fin 8192) (d : Fin 128) :
    r10 cc wk (ix3 h r d) = ∑ e : Fin 256, cc (ix2 r e) * wk (ix3 h e d) := by
  unfold r10; pointwise; simp only [kA_at]

end Cert.Reference26Ideal.QkvFwd

namespace Cert.QkvFwd

theorem reference : Cert.quiescent_Reference26Ideal := fun m g _ =>
  (θ_run Cert.Reference26Ideal.defs _ _).mono (fun r h => ⟨fun c => (h c).2.2.2, sem_eq_zero_of_no_sems (by decide) r.2⟩)
    (Cert.Reference26Ideal.Value.run m g)

/-- The two programs leave the same three arrays. -/
theorem algebraic : Cert.algebraic_Kernel26Ideal_Reference26Ideal := by
  pair_intro
  · run_from Cert.Kernel26Ideal.Value.run_blocks m g
  · refine (θ_run Cert.Reference26Ideal.defs _ _).mono (fun r h c => ?_) (Cert.Reference26Ideal.Value.run m' g')
    obtain ⟨e0, e1, e2, e3, e4, e5, e6, e7⟩ := hagree c
    obtain ⟨h1, h2, h3, h4⟩ := h c
    refine ⟨h1.trans ?_, h2.trans ?_, h3.trans ?_, h4⟩
    · rw [Cert.Kernel26Ideal.QkvFwd.final8, e0, e3, e4, e5]
      funext i
      idx_vars i
      exact Cert.Reference26Ideal.QkvFwd.r8_at _ _ _ _ i0 i1 i2
    · rw [Cert.Kernel26Ideal.QkvFwd.final9, e1, e2, e6]
      funext i
      idx_vars i
      exact Cert.Reference26Ideal.QkvFwd.r9_at _ _ _ i0 i1 i2
    · rw [Cert.Kernel26Ideal.QkvFwd.final10, e1, e7]
      funext i
      idx_vars i
      exact Cert.Reference26Ideal.QkvFwd.r10_at _ _ i0 i1 i2

end Cert.QkvFwd

end
-- ==== Proof.XaKv.lean ====
/- The memory rows' norm and their projection to keys and values: what the kernel leaves, and that the
   reference leaves the same. -/
module

public import proofs.«01_k».proof.Defs
public import proofs.«01_k».proof.Proof.NormCore
public import proofs.«01_k».proof.Proof.Gen.Kernel27Ideal.Value
public import proofs.«01_k».proof.Proof.Gen.Reference27Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel27Ideal.XaKv

open Cert.Kernel27Ideal Cert.Kernel27Ideal.Gen

theorem pay1 (x : Vec Ideal S256x1024 .f32) (g : Vec Ideal S1x1024 .f32) (r : Fin 256) (j : Fin 1024) :
    k0_pay1 (F := Ideal) x g (ix2 r j) = x (ix2 r j) * (Cert.Norm.rs fun k => x (ix2 r k)) * g (ix2 0 j) := by
  unfold k0_pay1; pointwise; rfl

theorem pay2 (h : Vec Ideal S256x1024 .bf16) (w : Vec Ideal S1x1024x2048 .bf16) (r : Fin 256) (j : Fin 2048) :
    k0_pay2 (F := Ideal) h w (ix2 r j) = ∑ e : Fin 1024, h (ix2 r e) * w (ix3 0 e j) := by
  unfold k0_pay2; pointwise

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

theorem point3 (c : Dev nD) (i : grid0.Coords) (a2 h2 a3 h3 a4 h4 a5 h5 a6 h6 hc0) (b0 : Vec Ideal S256x1024 .f32)
    (b1 : Vec Ideal S1x1024 .f32) (b2 : Vec Ideal S1x1024x2048 .bf16) :
    out0_A_3 (F := Ideal) c i a2 h2 a3 h3 a4 h4 a5 h5 a6 h6 hc0 b0 b1 b2 = k0_pay2 (k0_pay1 b0 b1) b2 := by
  funext y
  frame_out

theorem point4 (c : Dev nD) (i : grid0.Coords) (a2 h2 a3 h3 a4 h4 a5 h5 a6 h6 hc0) (b0 : Vec Ideal S256x1024 .f32)
    (b1 : Vec Ideal S1x1024 .f32) (b2 : Vec Ideal S1x1024x2048 .bf16) :
    out0_A_4 (F := Ideal) c i a2 h2 a3 h3 a4 h4 a5 h5 a6 h6 hc0 b0 b1 b2 = k0_pay1 b0 b1 := by
  funext y
  frame_out

variable (m : (ℓ : Loc nD τ sig) → Buf (Elt Ideal) ℓ) (c : Dev nD)

/-- The memory rows, the norm's gain, and the stack of the layers' weights, as launched. -/
abbrev aX : FVec Ideal S256x1024 .f32 := m ((c : Thread nD τ).loc main_arg0)
abbrev aG : FVec Ideal S1x1024 .f32 := m ((c : Thread nD τ).loc main_arg1)
abbrev aW : FVec Ideal S4x1024x2048 .bf16 := m ((c : Thread nD τ).loc main_arg2)

/-- Row `r` of tile `t`, among all rows. -/
abbrev tr (t : Fin cfg0.N) (r : Fin 256) : Fin 256 := r

theorem blk0 (t : Fin cfg0.N) (r : Fin 256) (e : Fin 1024) : iblk m c 0 t (ix2 r e) = aX m c (ix2 (tr t r) e) := by
  blk_point [iblk, V, idx t]

theorem blk1 (t : Fin cfg0.N) (e : Fin 1024) : iblk m c 1 t (ix2 0 e) = aG m c (ix2 0 e) := by
  blk_point [iblk, V, idx t]

theorem blk2 (t : Fin cfg0.N) (e : Fin 1024) (j : Fin 2048) : iblk m c 2 t (ix3 0 e j) = aW m c (ix3 0 e j) := by
  blk_point [iblk, V, idx t]

/-- The normed row. -/
def hr (r : Fin 256) (j : Fin 1024) : EReal :=
  aX m c (ix2 r j) * (Cert.Norm.rs fun k => aX m c (ix2 r k)) * aG m c (ix2 0 j)

/-- The projection, as an array. -/
def out3 : S256x2048.Idx → EReal := fun i => ∑ e : Fin 1024, hr m c (i 0) e * aW m c (ix3 0 e (i 1))

/-- The normed rows, as an array. -/
def out4 : S256x1024.Idx → EReal := fun i => hr m c (i 0) (i 1)

theorem emb3 (t : Fin cfg0.N) (y : S256x2048.Idx) :
    out3 m c (ix2 (tr t (y 0)) (y 1)) = out3 m c (((View.whole main_v0_0).slice (win0_3.rect t)).emb y) := by
  idx_vars y
  blk_ext [idx t]

theorem emb4 (t : Fin cfg0.N) (y : S256x1024.Idx) :
    out4 m c (ix2 (tr t (y 0)) (y 1)) = out4 m c (((View.whole main_v0_1).slice (win0_4.rect t)).emb y) := by
  idx_vars y
  blk_ext [idx t]

theorem o3_eq (t : Fin cfg0.N) : (outsAt0 m c t).1 = k0_pay2 (k0_pay1 (iblk m c 0 t) (iblk m c 1 t)) (iblk m c 2 t) := by
  unfold outsAt0; dsimp only; rw [point3]

theorem o4_eq (t : Fin cfg0.N) : (outsAt0 m c t).2 = k0_pay1 (iblk m c 0 t) (iblk m c 1 t) := by
  unfold outsAt0; dsimp only; rw [point4]

theorem final3 : (dats m 0 c).arrAt 3 cfg0.N = out3 m c := by
  refine (dats m 0 c).arrAt_eq_of_covers 3 _ (by decide +kernel) fun t hf y => ?_
  blk_simp
  rw [after0_3]
  refine Eq.trans ?_ (emb3 m c t y)
  rw [o3_eq]
  idx_vars y
  refine (pay2 _ _ y0 y1).trans ?_
  simp only [pay1, blk0, blk1, blk2]
  rfl

theorem final4 : (dats m 0 c).arrAt 4 cfg0.N = out4 m c := by
  refine (dats m 0 c).arrAt_eq_of_covers 4 _ (by decide +kernel) fun t hf y => ?_
  blk_simp
  rw [after0_4]
  refine Eq.trans ?_ (emb4 m c t y)
  rw [o4_eq]
  idx_vars y
  refine (pay1 _ _ y0 y1).trans ?_
  simp only [blk0, blk1]
  rfl

end Cert.Kernel27Ideal.XaKv

namespace Cert.Reference27Ideal.XaKv

open Cert.Reference27Ideal Cert.Reference27Ideal.Gen

variable (x : FVec Ideal S256x1024 .f32) (g : FVec Ideal S1x1024 .f32) (w : FVec Ideal S4x1024x2048 .bf16)

/-- The rows' mean squares, with the small constant added. -/
def msA : FVec Ideal S256x1 .f32 :=
  addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32))

theorem msA_at (r : Fin 256) : msA x (ix2 r 0) = Cert.Norm.ms fun k => x (ix2 r k) := by
  unfold msA; pointwise; rfl

/-- The normed rows. -/
def hA : FVec Ideal S256x1024 .f32 :=
  mulf (mulf x (broadcastInDim S256x1024 ![0, 1] bcast_S256x1_S256x1024_0_1 (Host.rsqrt (msA x)))) (broadcastInDim S256x1024 ![0, 1] bcast_S1x1024_S256x1024_0_1 (broadcastInDim S1x1024 ![1] bcast_S1024_S1x1024_1 (shapeCast _ g shapeCasts_S1x1024_S1024)))

theorem hA_at (r : Fin 256) (j : Fin 1024) :
    hA x g (ix2 r j) = x (ix2 r j) * (Cert.Norm.rs fun k => x (ix2 r k)) * g (ix2 0 j) := by
  unfold hA; pointwise; simp only [msA_at]; rfl

theorem h_at (i : S256x1024.Idx) :
    (truncf .bf16 (hA x g) bitsLt_bf16_f32 : FVec Ideal S256x1024 .bf16) i
      = x (ix2 (i 0) (i 1)) * (Cert.Norm.rs fun k => x (ix2 (i 0) k)) * g (ix2 0 (i 1)) := by
  idx_vars i
  pointwise
  exact hA_at x g i0 i1

theorem z_at (i : S256x2048.Idx) :
    (truncf .bf16 (Host.dotGeneral dot_S256x1024_S1024x2048_S256x2048_1_0_0_1_n_n none (hA x g) (extf .f32 (shapeCast _ (extractStridedSlice S1x1024x2048 ![0, 0, 0] w slices_S4x1024x2048_S1x1024x2048_0_0_0) shapeCasts_S1x1024x2048_S1024x2048) bitsLt_bf16_f32)) bitsLt_bf16_f32 : FVec Ideal S256x2048 .bf16) i
      = ∑ e : Fin 1024, x (ix2 (i 0) e) * (Cert.Norm.rs fun k => x (ix2 (i 0) k)) * g (ix2 0 e) * w (ix3 0 e (i 1)) := by
  idx_vars i
  pointwise
  simp only [hA_at]

end Cert.Reference27Ideal.XaKv

namespace Cert.XaKv

theorem reference : Cert.quiescent_Reference27Ideal := fun m g _ =>
  (θ_run Cert.Reference27Ideal.defs _ _).mono (fun r h => ⟨fun c => (h c).2.2, sem_eq_zero_of_no_sems (by decide) r.2⟩)
    (Cert.Reference27Ideal.Value.run m g)

/-- The two programs leave the same two arrays. -/
theorem algebraic : Cert.algebraic_Kernel27Ideal_Reference27Ideal := by
  pair_intro
  · run_from Cert.Kernel27Ideal.Value.run_blocks m g
  · refine (θ_run Cert.Reference27Ideal.defs _ _).mono (fun r h c => ?_) (Cert.Reference27Ideal.Value.run m' g')
    obtain ⟨e0, e1, e2⟩ := hagree c
    obtain ⟨h1, h2, h3⟩ := h c
    refine ⟨h1.trans ?_, h2.trans ?_, h3⟩
    · rw [Cert.Kernel27Ideal.XaKv.final3, e0, e1, e2]
      funext i
      exact Cert.Reference27Ideal.XaKv.z_at _ _ _ i
    · rw [Cert.Kernel27Ideal.XaKv.final4, e0, e1]
      funext i
      exact Cert.Reference27Ideal.XaKv.h_at _ _ i

end Cert.XaKv

end
-- ==== Proof.XaKvDx.lean ====
/- The memory rows' projection, its backward pass in the rows and in the norm's gain: what the kernel leaves, and that the
   reference leaves the same. -/
module

public import proofs.«01_k».proof.Defs
public import proofs.«01_k».proof.Proof.NormCore
public import proofs.«01_k».proof.Proof.Gen.Kernel28Ideal.Value
public import proofs.«01_k».proof.Proof.Gen.Reference28Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel28Ideal.XaKvDx

open Cert.Kernel28Ideal Cert.Kernel28Ideal.Gen

theorem pay1 (y : S256x1024.Idx) : k0_pay1 (F := Ideal) y = 0 := by
  unfold k0_pay1; pointwise

theorem pay2 (o : Vec Ideal S256x1024 .f32) (a : Vec Ideal S256x1024 .f32) (w : Vec Ideal S1x1024x1024 .bf16) (r : Fin 256) (j : Fin 1024) :
    k0_pay2 (F := Ideal) o a w (ix2 r j) = o (ix2 r j) + ∑ e : Fin 1024, a (ix2 r e) * w (ix3 0 j e) := by
  unfold k0_pay2; pointwise

theorem pay3 (x : Vec Ideal S256x1024 .f32) (r : Fin 256) :
    k0_pay3 (F := Ideal) x (ix2 r 0) = Cert.Norm.rs fun k => x (ix2 r k) := by
  unfold k0_pay3; pointwise; rfl

theorem pay4 (x : Vec Ideal S256x1024 .f32) (r : Fin 256) (j : Fin 1024) :
    k0_pay4 (F := Ideal) x (ix2 r j) = x (ix2 r j) * Cert.Norm.rs fun k => x (ix2 r k) := by
  unfold k0_pay4; pointwise; rw [pay3]

theorem pay5 (x : Vec Ideal S256x1024 .f32) (g : Vec Ideal S1x1024 .f32) (d s : Vec Ideal S256x1024 .f32) (r : Fin 256) (j : Fin 1024) :
    k0_pay5 (F := Ideal) x g d s (ix2 r j)
      = s (ix2 r j) + Cert.Norm.dxK (fun k => x (ix2 r k)) (fun k => g (ix2 0 k)) (fun k => d (ix2 r k)) j := by
  unfold k0_pay5; pointwise; simp only [pay3, pay4]; rfl

theorem pay6 (y : S1x1024.Idx) : k0_pay6 (F := Ideal) y = 0 := by
  unfold k0_pay6; pointwise

theorem pay7 (x d : Vec Ideal S256x1024 .f32) (o : Vec Ideal S1x1024 .f32) (j : Fin 1024) :
    k0_pay7 (F := Ideal) x d o (ix2 0 j)
      = o (ix2 0 j) + ∑ r : Fin 256, d (ix2 r j) * (x (ix2 r j) * Cert.Norm.rs fun k => x (ix2 r k)) := by
  unfold k0_pay7; pointwise; simp only [pay4]

theorem idx : ∀ t : Fin cfg0.N, win0_0.index t = ![0, t.val] ∧ win0_1.index t = ![0, 0, t.val]
    ∧ win0_2.index t = ![0, 0] ∧ win0_3.index t = ![0, 0] ∧ win0_4.index t = ![0, 0]
    ∧ win0_5.index t = ![0, 0] ∧ win0_6.index t = ![0, 0] :=
  (by decide +kernel : ∀ t : Fin grid0.N, _)

/-- One tile of columns' part of the product. -/
def part (a : Vec Ideal S256x1024 .f32) (w : Vec Ideal S1x1024x1024 .bf16) (y : S256x1024.Idx) : EReal :=
  ∑ e : Fin 1024, a (ix2 (y 0) e) * w (ix3 0 (y 1) e)

theorem spointA (c : Dev nD) (i : grid0.Coords) (a2 h2 a3 h3 a4 h4 a5 h5 a6 h6 a7 h7 a8 h8 a9 h9 hc0 hc1)
    (b0 : Vec Ideal S256x1024 .f32) (b1 : Vec Ideal S1x1024x1024 .bf16) (b2 : Vec Ideal S256x1024 .f32) (b3 : Vec Ideal S1x1024 .f32)
    (b4 : Vec Ideal S256x1024 .f32) (y : S256x1024.Idx) :
    sout0_A_0 (F := Ideal) c i a2 h2 a3 h3 a4 h4 a5 h5 a6 h6 a7 h7 a8 h8 a9 h9 hc0 hc1 b0 b1 b2 b3 b4 y = part b0 b1 y := by
  frame_out
  idx_vars y
  rw [pay2, pay1, zero_add]; rfl

theorem spointB (c : Dev nD) (i : grid0.Coords) (a2 h2 a3 h3 a4 h4 a5 h5 a6 h6 a7 h7 a8 h8 a9 h9 hc0 hc1 hc2)
    (b0 : Vec Ideal S256x1024 .f32) (b1 : Vec Ideal S1x1024x1024 .bf16) (b2 : Vec Ideal S256x1024 .f32) (b3 : Vec Ideal S1x1024 .f32)
    (b4 s : Vec Ideal S256x1024 .f32) :
    sout0_B_0 (F := Ideal) c i a2 h2 a3 h3 a4 h4 a5 h5 a6 h6 a7 h7 a8 h8 a9 h9 hc0 hc1 hc2 b0 b1 b2 b3 b4 s = k0_pay2 s b0 b1 := by
  funext y
  frame_out

theorem pointB5 (c : Dev nD) (i : grid0.Coords) (a2 h2 a3 h3 a4 h4 a5 h5 a6 h6 a7 h7 a8 h8 a9 h9 hc0 hc1 hc2)
    (b0 : Vec Ideal S256x1024 .f32) (b1 : Vec Ideal S1x1024x1024 .bf16) (b2 : Vec Ideal S256x1024 .f32) (b3 : Vec Ideal S1x1024 .f32)
    (b4 s : Vec Ideal S256x1024 .f32) :
    out0_B_5 (F := Ideal) c i a2 h2 a3 h3 a4 h4 a5 h5 a6 h6 a7 h7 a8 h8 a9 h9 hc0 hc1 hc2 b0 b1 b2 b3 b4 s
      = k0_pay5 b2 b3 (k0_pay2 s b0 b1) b4 := by
  funext y
  frame_out

theorem pointB6 (c : Dev nD) (i : grid0.Coords) (a2 h2 a3 h3 a4 h4 a5 h5 a6 h6 a7 h7 a8 h8 a9 h9 hc0 hc1 hc2)
    (b0 : Vec Ideal S256x1024 .f32) (b1 : Vec Ideal S1x1024x1024 .bf16) (b2 : Vec Ideal S256x1024 .f32) (b3 : Vec Ideal S1x1024 .f32)
    (b4 s : Vec Ideal S256x1024 .f32) :
    out0_B_6 (F := Ideal) c i a2 h2 a3 h3 a4 h4 a5 h5 a6 h6 a7 h7 a8 h8 a9 h9 hc0 hc1 hc2 b0 b1 b2 b3 b4 s
      = k0_pay7 b2 (k0_pay2 s b0 b1) (k0_pay6 (F := Ideal)) := by
  funext y
  frame_out

variable (m : (ℓ : Loc nD τ sig) → Buf (Elt Ideal) ℓ) (c : Dev nD)

/-- The projection's gradient, the stack of the layers' weights, the memory rows, the gain, and the gradient that the
    residual path brings, as launched. -/
abbrev aU : FVec Ideal S256x2048 .f32 := m ((c : Thread nD τ).loc main_arg0)
abbrev aW : FVec Ideal S4x1024x2048 .bf16 := m ((c : Thread nD τ).loc main_arg1)
abbrev aX : FVec Ideal S256x1024 .f32 := m ((c : Thread nD τ).loc main_arg2)
abbrev aG : FVec Ideal S1x1024 .f32 := m ((c : Thread nD τ).loc main_arg3)
abbrev aR : FVec Ideal S256x1024 .f32 := m ((c : Thread nD τ).loc main_arg4)

theorem blk2 (t : Fin cfg0.N) (r : Fin 256) (e : Fin 1024) : iblk m c 2 t (ix2 r e) = aX m c (ix2 r e) := by
  blk_point [iblk, V, idx t]

theorem blk3 (t : Fin cfg0.N) (e : Fin 1024) : iblk m c 3 t (ix2 0 e) = aG m c (ix2 0 e) := by
  blk_point [iblk, V, idx t]

theorem blk4 (t : Fin cfg0.N) (r : Fin 256) (e : Fin 1024) : iblk m c 4 t (ix2 r e) = aR m c (ix2 r e) := by
  blk_point [iblk, V, idx t]

/-- The gradient of the normed memory rows. -/
def dh (r : Fin 256) (j : Fin 1024) : EReal := ∑ e : Fin 2048, aU m c (ix2 r e) * aW m c (ix3 0 j e)

/-- The gradient of the memory rows, as an array. -/
def out5 : S256x1024.Idx → EReal := fun i =>
  aR m c i + Cert.Norm.dxK (fun k => aX m c (ix2 (i 0) k)) (fun k => aG m c (ix2 0 k)) (dh m c (i 0)) (i 1)

/-- One row's part of the gain's gradient. -/
def gpart (r : Fin 256) (j : Fin 1024) : EReal :=
  dh m c r j * (aX m c (ix2 r j) * Cert.Norm.rs fun k => aX m c (ix2 r k))

/-- The gradient of the gain, as an array. -/
def out6 : S1x1024.Idx → EReal := fun i => ∑ r : Fin 256, gpart m c r (i 1)

/-- What the accumulator holds after the last point: the gradient of the normed rows. -/
theorem acc_eq (t : Fin cfg0.N) (ht : t.val % 2 = 2 - 1) (r : Fin 256) (j : Fin 1024) :
    (outsAt0 m c t.val t.isLt).2.2 (ix2 r j) = dh m c r j := by
  have hN := lt_of_lt_of_eq t.isLt (show cfg0.N = 2 from N_0)
  refine (Pipeline.eq_sum_fin_of_reset_step_apply_of_flush (fun n h => (outsAt0 m c n h).2.2) 2 (fun _ => 0)
    (fun t y => part (iblk m c 0 t) (iblk m c 1 t) y)
    (fun t h y => ?_) (fun t h y => ?_) t ht (ix2 r j)).trans ?_
  · rw [outsAt0_A m c t h (by omega)]; dsimp only; rw [spointA, zero_add]
  · rw [outsAt0_B m c t h (by omega)]; dsimp only; rw [spointB]; idx_vars y; rw [pay2]; rfl
  · rw [zero_add]
    unfold dh part
    refine Fin.sum_mul_add_congr (fun s k hl => ?_) rfl
    congr 1
    · blk_point [iblk, V, idx ⟨2 * (t.val / 2) + s.val, Pipeline.run_point_lt_of_flush t ht s⟩]
    · blk_point [iblk, V, idx ⟨2 * (t.val / 2) + s.val, Pipeline.run_point_lt_of_flush t ht s⟩]

theorem o5_eq (t : Fin cfg0.N) (h3 : t.val % 2 = 1) :
    (outsAt0 m c t.val t.isLt).1 = k0_pay5 (iblk m c 2 t) (iblk m c 3 t) (outsAt0 m c t.val t.isLt).2.2 (iblk m c 4 t) := by
  rw [outsAt0_B m c t (by omega) h3]; dsimp only; rw [pointB5, spointB]

theorem o6_eq (t : Fin cfg0.N) (h3 : t.val % 2 = 1) :
    (outsAt0 m c t.val t.isLt).2.1 = k0_pay7 (iblk m c 2 t) (outsAt0 m c t.val t.isLt).2.2 (k0_pay6 (F := Ideal)) := by
  rw [outsAt0_B m c t (by omega) h3]; dsimp only; rw [pointB6, spointB]

theorem emb5 (t : Fin cfg0.N) (y : S256x1024.Idx) :
    out5 m c y = out5 m c (((View.whole main_v0_0).slice (win0_5.rect t)).emb y) := by
  congr 1
  idx_vars y
  blk_ext [idx t]

theorem final5 : (dats m 0 c).arrAt 5 cfg0.N = out5 m c := by
  refine (dats m 0 c).arrAt_eq_of_covers 5 _ (by decide +kernel) fun t hf y => ?_
  blk_simp
  have ht := (flush0_5 t).mp hf
  rw [after0_5]
  refine Eq.trans ?_ (emb5 m c t y)
  rw [o5_eq m c t ht]
  idx_vars y
  refine (pay5 _ _ _ _ y0 y1).trans ?_
  simp only [blk2, blk3, blk4, acc_eq m c t ht]
  rfl

theorem emb6 (t : Fin cfg0.N) (y : S1x1024.Idx) :
    out6 m c y = out6 m c (((View.whole main_v0_1).slice (win0_6.rect t)).emb y) := by
  idx_vars y
  congr 1
  blk_ext [idx t]

theorem final6 : (dats m 0 c).arrAt 6 cfg0.N = out6 m c := by
  refine (dats m 0 c).arrAt_eq_of_covers 6 _ (by decide +kernel) fun t hf y => ?_
  blk_simp
  have ht := (flush0_6 t).mp hf
  rw [after0_6]
  refine Eq.trans ?_ (emb6 m c t y)
  rw [o6_eq m c t ht]
  idx_vars y
  obtain rfl : y0 = 0 := Subsingleton.elim _ _
  refine (pay7 _ _ _ y1).trans ?_
  rw [pay6, zero_add]
  simp only [blk2, acc_eq m c t ht]
  rfl

end Cert.Kernel28Ideal.XaKvDx

namespace Cert.Reference28Ideal.XaKvDx

open Cert.Reference28Ideal Cert.Reference28Ideal.Gen

variable (u : FVec Ideal S256x2048 .f32) (w : FVec Ideal S4x1024x2048 .bf16) (x : FVec Ideal S256x1024 .f32)
  (g : FVec Ideal S1x1024 .f32) (s : FVec Ideal S256x1024 .f32)

/-- The gradient of the normed memory rows. -/
def dhA : FVec Ideal S256x1024 .f32 :=
  Host.dotGeneral dot_S256x2048_S1024x2048_S256x1024_1_1_0_0_n_n none u
    (extf .f32 (shapeCast _ (extractStridedSlice S1x1024x2048 ![0, 0, 0] w slices_S4x1024x2048_S1x1024x2048_0_0_0) shapeCasts_S1x1024x2048_S1024x2048) bitsLt_bf16_f32)

theorem dhA_at (r : Fin 256) (j : Fin 1024) : dhA u w (ix2 r j) = ∑ e : Fin 2048, u (ix2 r e) * w (ix3 0 j e) := by
  unfold dhA; pointwise

/-- The gradient of the normed memory rows, times the gain. -/
def duA : FVec Ideal S256x1024 .f32 :=
  mulf (dhA u w) (broadcastInDim S256x1024 ![0, 1] bcast_S1x1024_S256x1024_0_1 (broadcastInDim S1x1024 ![1] bcast_S1024_S1x1024_1 (shapeCast _ g shapeCasts_S1x1024_S1024)))

theorem duA_at (r : Fin 256) (j : Fin 1024) : duA u w g (ix2 r j) = dhA u w (ix2 r j) * g (ix2 0 j) := by
  unfold duA; pointwise

/-- The rows' mean squares, with the small constant added. -/
def msA : FVec Ideal S256x1 .f32 :=
  addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32))

theorem msA_at (r : Fin 256) : msA x (ix2 r 0) = Cert.Norm.ms fun k => x (ix2 r k) := by
  unfold msA; pointwise; rfl

/-- The rows' scales. -/
def rsA : FVec Ideal S256x1024 .f32 := broadcastInDim S256x1024 ![0, 1] bcast_S256x1_S256x1024_0_1 (Host.rsqrt (msA x))

theorem rsA_at (r : Fin 256) (j : Fin 1024) : rsA x (ix2 r j) = Cert.Norm.rs fun k => x (ix2 r k) := by
  unfold rsA; pointwise; rw [msA_at]; rfl

/-- The gradient of the mean squares, spread over the columns. -/
def dmA : FVec Ideal S256x1024 .f32 :=
  broadcastInDim S256x1024 ![0] bcast_S256_S256x1024_0 (Host.reduceAdd (Host.divf (mulf (shapeCast _ (Host.reduceAdd (mulf x (duA u w g)) (constant S_ .f32 0x00000000#32) reducesTo_S256x1024_S256_d1 h_S_) shapeCasts_S256_S256x1) (mulf (broadcastInDim S256x1 ![] bcast_S_S256x1 (constant S_ .f32 0xBF000000#32)) (Host.divf (Host.rsqrt (msA x)) (msA x)))) (broadcastInDim S256x1 ![] bcast_S_S256x1 (constant S_ .f32 0x44800000#32))) (constant S_ .f32 0x00000000#32) reducesTo_S256x1_S256_d1 h_S_)

theorem dmA_at (r : Fin 256) (j : Fin 1024) :
    dmA u w x g (ix2 r j) = Cert.Norm.dms (fun k => x (ix2 r k)) (fun k => g (ix2 0 k)) fun k => dhA u w (ix2 r k) := by
  unfold dmA; pointwise
  refine (Fintype.sum_subsingleton _ (0 : Fin 1)).trans ?_
  simp only [msA_at, duA_at]; rfl

/-- The gradient of the memory rows. -/
def dxA : FVec Ideal S256x1024 .f32 :=
  addf s (addf (addf (mulf (duA u w g) (rsA x)) (mulf x (dmA u w x g))) (mulf (dmA u w x g) x))

theorem dxA_at (r : Fin 256) (j : Fin 1024) :
    dxA u w x g s (ix2 r j)
      = s (ix2 r j) + Cert.Norm.dxR (fun k => x (ix2 r k)) (fun k => g (ix2 0 k)) (fun k => ∑ e : Fin 2048, u (ix2 r e) * w (ix3 0 k e)) j := by
  unfold dxA; pointwise; simp only [duA_at, rsA_at, dmA_at, dhA_at]; rfl

theorem res_eq (m : (ℓ : Loc nD τ sig) → Buf (Elt Ideal) ℓ) (c : Dev nD) :
    Cert.Reference28Ideal.Value.res_main_v43 (F := Ideal) m c
      = dxA (m ((c : Thread nD τ).loc main_arg0)) (m ((c : Thread nD τ).loc main_arg1)) (m ((c : Thread nD τ).loc main_arg2))
        (m ((c : Thread nD τ).loc main_arg3)) (m ((c : Thread nD τ).loc main_arg4)) := by
  unfold Cert.Reference28Ideal.Value.res_main_v43 dxA
  iterate 40 (all_goals try (first | with_reducible rfl | congr 1))

/-- The gradient of the gain. -/
def dgA : FVec Ideal S1x1024 .f32 :=
  broadcastInDim S1x1024 ![1] bcast_S1024_S1x1024_1 (Host.reduceAdd (shapeCast _ (Host.reduceAdd (mulf (mulf x (rsA x)) (dhA u w)) (constant S_ .f32 0x00000000#32) reducesTo_S256x1024_S1024_d0 h_S_) shapeCasts_S1024_S1x1024) (constant S_ .f32 0x00000000#32) reducesTo_S1x1024_S1024_d0 h_S_)

theorem dgA_at (j : Fin 1024) :
    dgA u w x (ix2 0 j)
      = ∑ r : Fin 256, (∑ e : Fin 2048, u (ix2 r e) * w (ix3 0 j e)) * (x (ix2 r j) * Cert.Norm.rs fun k => x (ix2 r k)) := by
  unfold dgA; pointwise
  refine (Fintype.sum_subsingleton _ (0 : Fin 1)).trans ?_
  simp only [rsA_at, dhA_at]
  exact Finset.sum_congr rfl fun r _ => mul_comm _ _

end Cert.Reference28Ideal.XaKvDx

namespace Cert.XaKvDx

theorem reference : Cert.quiescent_Reference28Ideal := fun m g _ =>
  (θ_run Cert.Reference28Ideal.defs _ _).mono (fun r h => ⟨fun c => (h c).2.2, sem_eq_zero_of_no_sems (by decide) r.2⟩)
    (Cert.Reference28Ideal.Value.run m g)

/-- The two programs leave the same two arrays. -/
theorem algebraic : Cert.algebraic_Kernel28Ideal_Reference28Ideal := by
  pair_intro
  · run_from Cert.Kernel28Ideal.Value.run_blocks m g
  · refine (θ_run Cert.Reference28Ideal.defs _ _).mono (fun r h c => ?_) (Cert.Reference28Ideal.Value.run m' g')
    obtain ⟨e0, e1, e2, e3, e4⟩ := hagree c
    obtain ⟨h1, h2, h3⟩ := h c
    refine ⟨h1.trans ?_, h2.trans ?_, h3⟩
    · rw [Cert.Kernel28Ideal.XaKvDx.final5, Cert.Reference28Ideal.XaKvDx.res_eq, e0, e1, e2, e3, e4]
      funext i
      idx_vars i
      refine (Cert.Reference28Ideal.XaKvDx.dxA_at _ _ _ _ _ i0 i1).trans ?_
      exact congrArg (fun z : EReal => HAdd.hAdd (α := EReal) _ z) (Cert.Norm.dx_eq _ _ _ _).symm
    · rw [Cert.Kernel28Ideal.XaKvDx.final6, e0, e1, e2]
      funext i
      idx_vars i
      obtain rfl : i0 = 0 := Subsingleton.elim _ _
      exact Cert.Reference28Ideal.XaKvDx.dgA_at _ _ _ i1

end Cert.XaKvDx

end
-- ==== Proof.XaKvDw.lean ====
/- The memory rows' projection, its backward pass in the weights: what the kernel leaves, and that the reference leaves the same. -/
module

public import proofs.«01_k».proof.Defs
public import proofs.«01_k».proof.Proof.Gen.Kernel29Ideal.Value
public import proofs.«01_k».proof.Proof.Gen.Reference29Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel29Ideal.XaKvDw

open Cert.Kernel29Ideal Cert.Kernel29Ideal.Gen

theorem pay1 (y : S1x1024x1024.Idx) : k0_pay1 (F := Ideal) y = 0 := by
  unfold k0_pay1; pointwise

theorem pay2 (o : Vec Ideal S1x1024x1024 .f32) (a : Vec Ideal S256x1024 .bf16) (g : Vec Ideal S256x1024 .f32) (r : Fin 1024) (j : Fin 1024) :
    k0_pay2 (F := Ideal) o a g (ix3 0 r j) = o (ix3 0 r j) + ∑ e : Fin 256, a (ix2 e r) * g (ix2 e j) := by
  unfold k0_pay2; pointwise

theorem idx : ∀ t : Fin cfg0.N, win0_0.index t = ![0, 0] ∧ win0_1.index t = ![0, t.val] ∧ win0_2.index t = ![0, 0, t.val] :=
  (by decide +kernel : ∀ t : Fin grid0.N, _)

/-- One tile of columns' part of the product. -/
def part (a : Vec Ideal S256x1024 .bf16) (g : Vec Ideal S256x1024 .f32) (y : S1x1024x1024.Idx) : EReal :=
  ∑ e : Fin 256, a (ix2 e (y 1)) * g (ix2 e (y 2))

theorem point (c : Dev nD) (i : grid0.Coords) (a1 h1 a2 h2 a3 h3 hc) (b0 : Vec Ideal S256x1024 .bf16) (b1 : Vec Ideal S256x1024 .f32)
    (y : S1x1024x1024.Idx) : out0_A_2 (F := Ideal) c i a1 h1 a2 h2 a3 h3 hc b0 b1 y = part b0 b1 y := by
  frame_out
  idx_vars y
  obtain rfl : y0 = 0 := Subsingleton.elim _ _
  rw [pay2, pay1, zero_add]; rfl

variable (m : (ℓ : Loc nD τ sig) → Buf (Elt Ideal) ℓ) (c : Dev nD)

/-- The normed memory rows, their projection's gradient, and the stack of the layers' gradients, as launched. -/
abbrev aH : FVec Ideal S256x1024 .bf16 := m ((c : Thread nD τ).loc main_arg0)
abbrev aU : FVec Ideal S256x2048 .f32 := m ((c : Thread nD τ).loc main_arg1)
abbrev aS : FVec Ideal S4x1024x2048 .f32 := m ((c : Thread nD τ).loc main_arg2)

/-- The stack with the first layer's gradient put in, as an array. -/
def out : S4x1024x2048.Idx → EReal := fun i =>
  if (i 0).val = 0 then ∑ e : Fin 256, aH m c (ix2 e (i 1)) * aU m c (ix2 e (i 2)) else aS m c i

theorem blk0 (t : Fin cfg0.N) (r : Fin 256) (e : Fin 1024) : iblk m c 0 t (ix2 r e) = aH m c (ix2 r e) := by
  blk_point [iblk, V, idx t]

/-- Column `e` of tile `t`, among all columns. -/
abbrev tc (t : Fin cfg0.N) (e : Fin 1024) : Fin 2048 :=
  ⟨t.val * 1024 + e.val, by have := lt_of_lt_of_eq t.isLt N_0; omega⟩

theorem blk1 (t : Fin cfg0.N) (r : Fin 256) (e : Fin 1024) : iblk m c 1 t (ix2 r e) = aU m c (ix2 r (tc t e)) := by
  blk_point [iblk, V, idx t]

theorem emb (t : Fin cfg0.N) (y : S1x1024x1024.Idx) :
    ((View.whole main_v0).slice (win0_2.rect t)).emb y = (ix3 0 (y 1) (tc t (y 2)) : S4x1024x2048.Idx) := by
  idx_vars y
  obtain rfl : y0 = 0 := Subsingleton.elim _ _
  blk_ext [idx t]

theorem part_eq (t : Fin cfg0.N) (y : S1x1024x1024.Idx) :
    part (iblk m c 0 t) (iblk m c 1 t) y = out m c (ix3 0 (y 1) (tc t (y 2))) := by
  idx_vars y
  refine (Finset.sum_congr rfl fun e _ => congrArg₂ (fun u v : EReal => u * v) (blk0 m c t e y1) (blk1 m c t e y2)).trans ?_
  exact (if_pos rfl).symm

theorem final : (dats m 0 c).arrAt 2 cfg0.N = out m c := by
  refine (dats m 0 c).arrAt_eq_of_coversWhere_of_agree 2 _ (fun β => β (0 : Fin 3) = 0) (by decide +kernel) (fun t hf y => ?_) (fun j hj => ?_)
  · blk_simp
    rw [after0_2]
    refine Eq.trans ?_ (congrArg (out m c) (emb t y)).symm
    unfold outsAt0
    rw [point]
    exact part_eq m c t y
  · blk_simp [Pipeline.Window.cell_apply] at hj
    rw [A_eq]
    have : ¬ (j 0).val = 0 := by omega
    exact (if_neg this).symm

end Cert.Kernel29Ideal.XaKvDw

namespace Cert.Reference29Ideal.XaKvDw

open Cert.Reference29Ideal Cert.Reference29Ideal.Gen

/-- The reference's result at an index: the transposed product in the first layer, what was there in the others. -/
theorem res_at (h : FVec Ideal S256x1024 .bf16) (u : FVec Ideal S256x2048 .f32) (s : FVec Ideal S4x1024x2048 .f32) (i : S4x1024x2048.Idx) :
    (select (broadcastInDim S4x1024x2048 ![0, 1, 2] bcast_S4x1x1_S4x1024x2048_0_1_2 (cmpi .eq (broadcastInDim S4x1x1 ![0] bcast_S4_S4x1x1_0 (iotaInDim S4 32 0)) (broadcastInDim S4x1x1 ![] bcast_S_S4x1x1 (constantI S_ 32 0#32)))) (broadcastInDim S4x1024x2048 ![1, 2] bcast_S1024x2048_S4x1024x2048_1_2 (transpose S1024x2048 [1, 0] (Host.dotGeneral dot_S256x2048_S256x1024_S2048x1024_0_0_1_1_n_n none u (extf .f32 h bitsLt_bf16_f32)) transposes_S2048x1024_S1024x2048_1_0)) s : FVec Ideal S4x1024x2048 .f32) i
      = if (i 0).val = 0 then ∑ e : Fin 256, h (ix2 e (i 1)) * u (ix2 e (i 2)) else s i := by
  idx_vars i
  pointwise
  simp only [mul_comm (u _)]
  fin_cases i0 <;> rfl

end Cert.Reference29Ideal.XaKvDw

namespace Cert.XaKvDw

theorem reference : Cert.quiescent_Reference29Ideal := fun m g _ =>
  (θ_run Cert.Reference29Ideal.defs _ _).mono (fun r h => ⟨fun c => (h c).2, sem_eq_zero_of_no_sems (by decide) r.2⟩)
    (Cert.Reference29Ideal.Value.run m g)

/-- The two programs leave the same array. -/
theorem algebraic : Cert.algebraic_Kernel29Ideal_Reference29Ideal := by
  pair_intro
  · run_from Cert.Kernel29Ideal.Value.run_blocks m g
  · refine (θ_run Cert.Reference29Ideal.defs _ _).mono (fun r h c => ?_) (Cert.Reference29Ideal.Value.run m' g')
    obtain ⟨e0, e1, e2⟩ := hagree c
    obtain ⟨h1, h2⟩ := h c
    refine ⟨h1.trans ?_, h2⟩
    rw [Cert.Kernel29Ideal.XaKvDw.final, e0, e1, e2]
    funext i
    exact Cert.Reference29Ideal.XaKvDw.res_at _ _ _ i

end Cert.XaKvDw

end
-- ==== Proof.AttnIdx.lean ====
/- The gradients of the latent attention's keys and values: which blocks each step of the kernel works on. -/
module

public import proofs.«01_k».proof.Proof.Gen.Kernel30Ideal.Flash

@[expose] public section

set_option maxRecDepth 65536

noncomputable section

open Idealize.ShloMosaic Idealize.ShloMosaic.TcCoe Idealize.SL.Sem

namespace Cert.Kernel30Ideal.Attn

open Cert.Kernel30Ideal Cert.Kernel30Ideal.Gen

/-- The query block and the key block of step `s` of a pair of heads: for each key block, the query blocks from it on. -/
def qOf (s : ℕ) : ℕ :=
  [0, 1, 2, 3, 4, 5, 6, 7, 1, 2, 3, 4, 5, 6, 7, 2, 3, 4, 5, 6, 7, 3, 4, 5, 6, 7, 4, 5, 6, 7, 5, 6, 7, 6, 7, 7].getD s 0
def kOf (s : ℕ) : ℕ :=
  [0, 0, 0, 0, 0, 0, 0, 0, 1, 1, 1, 1, 1, 1, 1, 2, 2, 2, 2, 2, 2, 3, 3, 3, 3, 3, 4, 4, 4, 4, 5, 5, 5, 6, 6, 7].getD s 0
def pT (n : ℕ) : ℕ := n / 36
def qT (n : ℕ) : ℕ := qOf (n % 36)
def kT (n : ℕ) : ℕ := kOf (n % 36)

theorem N_eq : (cfgA 0).N = 288 := by decide +kernel

theorem index_in : ∀ t : Fin (cfgA 0).N,
    ((cfgA 0).win 0).index t = ![pT t.val, qT t.val, 0] ∧ ((cfgA 0).win 1).index t = ![pT t.val, kT t.val, 0]
    ∧ ((cfgA 0).win 2).index t = ![pT t.val, kT t.val, 0] ∧ ((cfgA 0).win 3).index t = ![qT t.val, pT t.val] := by decide +kernel
theorem index_out : ∀ t : Fin (cfgA 0).N,
    ((cfgA 0).win 4).index t = ![pT t.val, qT t.val, 0] ∧ ((cfgA 0).win 5).index t = ![pT t.val, qT t.val, 0]
    ∧ ((cfgA 0).win 6).index t = ![pT t.val, kT t.val, 0] ∧ ((cfgA 0).win 7).index t = ![pT t.val, kT t.val, 0] := by decide +kernel

theorem diag_iff : ∀ t : Fin (cfgA 0).N, P0_0 0 t ↔ qT t.val = kT t.val := by decide +kernel
theorem last_iff : ∀ t : Fin (cfgA 0).N, P0_1 0 t ↔ qT t.val = 7 := by decide +kernel

theorem flush_iff : ∀ t : Fin (cfgA 0).N,
    (((cfgA 0).win 6).flush t = true ↔ qT t.val = 7) ∧ (((cfgA 0).win 7).flush t = true ↔ qT t.val = 7) := by decide +kernel

/-- The blocks' ranges, and the step before a step below the diagonal. -/
theorem ranges : ∀ n : Fin 288, pT n.val < 8 ∧ qT n.val < 8 ∧ kT n.val ≤ qT n.val := by decide +kernel
theorem before : ∀ n : Fin 288, qT n.val ≠ kT n.val → n.val ≠ 0 ∧ pT (n.val - 1) = pT n.val ∧ kT (n.val - 1) = kT n.val
    ∧ qT n.val = qT (n.val - 1) + 1 := by decide +kernel
/-- Each pair of heads and key block has a last step. -/
theorem last : ∀ (p j : Fin 8), ∃ n : Fin 288, pT n.val = p.val ∧ kT n.val = j.val ∧ qT n.val = 7 := by decide +kernel

end Cert.Kernel30Ideal.Attn

end
-- ==== Proof.AttnPay.lean ====
/- The gradients of the latent attention's keys and values: what one step of the kernel computes from its tiles, entry by entry. -/
module

public import proofs.«01_k».proof.Proof.Gen.Kernel30Ideal.Skeleton
public import Idealize.ShloMosaic.Lib.Pipeline.ValueKit
public import Idealize.ShloMosaic.Lib.Pointwise
public import Idealize.ShloMosaic.PureOps.IdealRules

@[expose] public section

set_option maxRecDepth 16384

noncomputable section

open Idealize.ShloMosaic Idealize.ShloMosaic.TcCoe Idealize.SL.Sem

namespace Cert.Attn

/-- The scale of the scores, and the scale that also passes to base two. -/
abbrev cs : EReal := (((Real.sqrt 96)⁻¹ : ℝ) : EReal)
abbrev cs2 : EReal := (((Real.sqrt 96)⁻¹ * (Real.log 2)⁻¹ : ℝ) : EReal)

/-- A probability from its score and its row's statistic: zero where the key lies after the query. -/
def prob (live : Prop) [Decidable live] (s l : EReal) : EReal := if live then Ideal.exp2 (s * cs2 - l) else 0

theorem prob_neg (live : Prop) [Decidable live] (h : ¬live) (s l : EReal) : prob live s l = 0 := if_neg h

theorem cs2_pos : 0 < (Real.sqrt 96)⁻¹ * (Real.log 2)⁻¹ := by
  have : 0 < Real.log 2 := Real.log_pos (by norm_num)
  positivity

theorem sle_ofNat (a b : ℕ) (ha : a < 4096) (hb : b < 4096) :
    IntOp.cmpi .sle (BitVec.ofNat 32 a) (BitVec.ofNat 32 b) = if a ≤ b then 1#1 else 0#1 := by
  have e : (BitVec.ofNat 32 a).sle (BitVec.ofNat 32 b) = decide (a ≤ b) := by
    have h (n : ℕ) (hn : n < 4096) : (BitVec.ofNat 32 n).toInt = (n : ℤ) := by
      rw [BitVec.toInt_eq_toNat_of_lt (by rw [BitVec.toNat_ofNat]; omega), BitVec.toNat_ofNat]
      congr 1
      omega
    rw [BitVec.sle_eq_decide, h a ha, h b hb]
    simp
  show BitVec.ofBool _ = _
  by_cases h : a ≤ b <;> simp [e, h]

/-- The masked probability as the kernel writes it. -/
theorem masked (a b : ℕ) (ha : a < 4096) (hb : b < 4096) (s l : EReal) :
    Ideal.exp2 (Scalar.select (IntOp.cmpi .sle (BitVec.ofNat 32 a) (BitVec.ofNat 32 b)) s ⊥ * cs2 - l) = prob (a ≤ b) s l := by
  rw [sle_ofNat a b ha hb]
  unfold prob
  by_cases h : a ≤ b
  · rw [if_pos h, if_pos h]; rfl
  · rw [if_neg h, if_neg h]
    show Ideal.exp2 (⊥ * cs2 - l) = 0
    rw [EReal.bot_mul_coe_of_pos cs2_pos, sub_eq_add_neg, EReal.bot_add]
    rfl

theorem unmasked (s l : EReal) : Ideal.exp2 (s * cs2 - l) = prob True s l := (if_pos trivial).symm

end Cert.Attn

namespace Cert.Kernel30Ideal.Attn

open Cert.Kernel30Ideal Cert.Kernel30Ideal.Gen Cert.Attn

theorem named_mask (w : BitVec 32) : Named.named (F := Ideal) κ "mask" (φ := .f32) w = (⊥ : EReal) :=
  IdealRules.named_const.ideal_named_scalar _ _ _ _ rfl
theorem named_scale (w : BitVec 32) : Named.named (F := Ideal) κ "scale" (φ := .f32) w = cs :=
  IdealRules.named_const.ideal_named_scalar _ _ _ _ rfl
theorem named_scale2 (w : BitVec 32) : Named.named (F := Ideal) κ "scale2" (φ := .f32) w = cs2 :=
  IdealRules.named_const.ideal_named_scalar _ _ _ _ rfl

theorem pay7 (y : S2x1024x128.Idx) : k0_pay7 (F := Ideal) y = 0 := by
  unfold k0_pay7; pointwise
theorem pay8 (y : S2x1024x128.Idx) : k0_pay8 (F := Ideal) y = 0 := by
  unfold k0_pay8; pointwise

/-! The tiles without their leading axis. -/

theorem pay9 (v : Vec Ideal S1x512x128 .bf16) (t : Fin 512) (l : Fin 128) : k0_pay9 (F := Ideal) v (ix2 t l) = v (ix3 0 t l) := by
  unfold k0_pay9; pointwise
theorem pay10 (v : Vec Ideal S1x512x128 .bf16) (t : Fin 512) (l : Fin 128) : k0_pay10 (F := Ideal) v (ix2 t l) = v (ix3 0 t l) := by
  unfold k0_pay10; pointwise
theorem pay14 (v : Vec Ideal S1x512x128 .bf16) (t : Fin 512) (l : Fin 128) : k0_pay14 (F := Ideal) v (ix2 t l) = v (ix3 0 t l) := by
  unfold k0_pay14; pointwise
theorem pay15 (v : Vec Ideal S1x1024x128 .bf16) (t : Fin 1024) (l : Fin 128) : k0_pay15 (F := Ideal) v (ix2 t l) = v (ix3 0 t l) := by
  unfold k0_pay15; pointwise
theorem pay16 (v : Vec Ideal S1x1024x128 .bf16) (t : Fin 1024) (l : Fin 128) : k0_pay16 (F := Ideal) v (ix2 t l) = v (ix3 0 t l) := by
  unfold k0_pay16; pointwise
theorem pay21 (v : Vec Ideal S1x512x128 .bf16) (t : Fin 512) (l : Fin 128) : k0_pay21 (F := Ideal) v (ix2 t l) = v (ix3 0 t l) := by
  unfold k0_pay21; pointwise
theorem pay22 (v : Vec Ideal S1x512x128 .bf16) (t : Fin 512) (l : Fin 128) : k0_pay22 (F := Ideal) v (ix2 t l) = v (ix3 0 t l) := by
  unfold k0_pay22; pointwise
theorem pay24 (v : Vec Ideal S1x512x128 .f32) (t : Fin 512) (l : Fin 128) : k0_pay24 (F := Ideal) v (ix2 t l) = v (ix3 0 t l) := by
  unfold k0_pay24; pointwise
theorem pay28 (v : Vec Ideal S1x512x128 .bf16) (t : Fin 512) (l : Fin 128) : k0_pay28 (F := Ideal) v (ix2 t l) = v (ix3 0 t l) := by
  unfold k0_pay28; pointwise
theorem pay29 (v : Vec Ideal S1x1024x128 .bf16) (t : Fin 1024) (l : Fin 128) : k0_pay29 (F := Ideal) v (ix2 t l) = v (ix3 0 t l) := by
  unfold k0_pay29; pointwise
theorem pay34 (v : Vec Ideal S1x1024x128 .bf16) (t : Fin 1024) (l : Fin 128) : k0_pay34 (F := Ideal) v (ix2 t l) = v (ix3 0 t l) := by
  unfold k0_pay34; pointwise
theorem pay39 (v : Vec Ideal S1x1024x128 .bf16) (t : Fin 1024) (l : Fin 128) : k0_pay39 (F := Ideal) v (ix2 t l) = v (ix3 0 t l) := by
  unfold k0_pay39; pointwise
theorem pay40 (v : Vec Ideal S1x1024x128 .bf16) (t : Fin 1024) (l : Fin 128) : k0_pay40 (F := Ideal) v (ix2 t l) = v (ix3 0 t l) := by
  unfold k0_pay40; pointwise
theorem pay1 (v : FVec Ideal S1024x128 .f32) (t : Fin 1024) (l : Fin 128) : k0_pay1 (F := Ideal) v (ix3 0 t l) = v (ix2 t l) := by
  unfold k0_pay1; pointwise
theorem pay2 (v : FVec Ideal S1024x128 .f32) (t : Fin 1024) (l : Fin 128) : k0_pay2 (F := Ideal) v (ix3 0 t l) = v (ix2 t l) := by
  unfold k0_pay2; pointwise

/-! The probabilities. -/

theorem pay11 (q k : Vec Ideal S1x512x128 .bf16) (l : Vec Ideal S1x512x128 .f32) (t s : Fin 512) :
    k0_pay11 (F := Ideal) q k l (ix2 t s) = prob (s.val ≤ t.val) (∑ e : Fin 128, q (ix3 0 t e) * k (ix3 0 s e)) (l (ix3 0 t 0)) := by
  unfold k0_pay11; pointwise
  simp only [pay9, named_mask, named_scale2]
  rw [show IntOp.addi (BitVec.ofNat 32 t.val) 0#32 = BitVec.ofNat 32 t.val from BitVec.add_zero _]
  exact masked _ _ (by omega) (by omega) _ _
theorem pay23 (q k : Vec Ideal S1x512x128 .bf16) (l : Vec Ideal S1x512x128 .f32) (t s : Fin 512) :
    k0_pay23 (F := Ideal) q k l (ix2 t s) = prob (s.val ≤ t.val) (∑ e : Fin 128, q (ix3 0 t e) * k (ix3 0 s e)) (l (ix3 0 t 0)) := by
  unfold k0_pay23; pointwise
  simp only [pay21, named_mask, named_scale2]
  rw [show IntOp.addi (BitVec.ofNat 32 t.val) 0#32 = BitVec.ofNat 32 t.val from BitVec.add_zero _]
  exact masked _ _ (by omega) (by omega) _ _
theorem pay25 (q k : Vec Ideal S1x512x128 .bf16) (l : Vec Ideal S1x512x128 .f32) (t s : Fin 512) :
    k0_pay25 (F := Ideal) q k l (ix2 t s) = prob (s.val ≤ t.val) (∑ e : Fin 128, q (ix3 0 t e) * k (ix3 0 s e)) (l (ix3 0 t 0)) := by
  refine Eq.trans ?_ (pay23 q k l t s)
  unfold k0_pay25; pointwise
theorem pay17 (q : FVec Ideal S512x128 .bf16) (k : FVec Ideal S1024x128 .bf16) (l : Vec Ideal S1x512x128 .f32) (t : Fin 512) (s : Fin 1024) :
    k0_pay17 (F := Ideal) q k l (ix2 t s) = prob (s.val ≤ t.val + 512) (∑ e : Fin 128, q (ix2 t e) * k (ix2 s e)) (l (ix3 0 t 0)) := by
  unfold k0_pay17; pointwise
  simp only [named_mask, named_scale2]
  rw [show IntOp.addi (BitVec.ofNat 32 t.val) 512#32 = BitVec.ofNat 32 (t.val + 512) from (BitVec.ofNat_add _ _).symm]
  exact masked _ _ (by omega) (by omega) _ _
theorem pay30 (q : Vec Ideal S1x512x128 .bf16) (k : Vec Ideal S1x1024x128 .bf16) (t : Fin 512) (s : Fin 1024) :
    k0_pay30 (F := Ideal) q k (ix2 t s) = ∑ e : Fin 128, q (ix3 0 t e) * k (ix3 0 s e) := by
  unfold k0_pay30; pointwise
  simp only [pay28]
theorem pay31 (x : FVec Ideal S512x1024 .f32) (l : Vec Ideal S1x512x128 .f32) (t : Fin 512) (s : Fin 1024) :
    k0_pay31 (F := Ideal) x (iota .tc S512x1024 32 [0] iota_S512x1024_d0_w32) l (ix2 t s)
      = prob (s.val ≤ t.val + 512) (x (ix2 t s)) (l (ix3 0 t 0)) := by
  unfold k0_pay31; pointwise
  simp only [named_mask, named_scale2]
  rw [show IntOp.addi (BitVec.ofNat 32 t.val) 512#32 = BitVec.ofNat 32 (t.val + 512) from (BitVec.ofNat_add _ _).symm]
  exact masked _ _ (by omega) (by omega) _ _
theorem pay35 (q k : Vec Ideal S1x1024x128 .bf16) (l : Vec Ideal S1x1024x128 .f32) (t s : Fin 1024) :
    k0_pay35 (F := Ideal) q k l (ix2 t s) = prob True (∑ e : Fin 128, q (ix3 0 t e) * k (ix3 0 s e)) (l (ix3 0 t 0)) := by
  unfold k0_pay35; pointwise
  simp only [pay34, named_scale2]
  exact unmasked _ _
theorem pay41 (q k : Vec Ideal S1x1024x128 .bf16) (l : Vec Ideal S1x1024x128 .f32) (t s : Fin 1024) :
    k0_pay41 (F := Ideal) q k l (ix2 t s) = prob True (∑ e : Fin 128, q (ix3 0 t e) * k (ix3 0 s e)) (l (ix3 0 t 0)) := by
  unfold k0_pay41; pointwise
  simp only [pay39, named_scale2]
  exact unmasked _ _

/-! The parts added to the two accumulators. -/

theorem pay12 (g : Vec Ideal S512x128 .bf16) (p : FVec Ideal S512x512 .f32) (o : Vec Ideal S1x512x128 .f32) (s : Fin 512) (j : Fin 128) :
    k0_pay12 (F := Ideal) g p o (ix3 0 s j) = o (ix3 0 s j) + ∑ t : Fin 512, p (ix2 t s) * g (ix2 t j) := by
  unfold k0_pay12; pointwise
theorem pay26 (g : Vec Ideal S512x128 .bf16) (p : FVec Ideal S512x512 .bf16) (o : FVec Ideal S512x128 .f32) (s : Fin 512) (j : Fin 128) :
    k0_pay26 (F := Ideal) g o p (constant S512x128 .f32 0x00000000#32) (ix3 0 s j) = o (ix2 s j) + ∑ t : Fin 512, p (ix2 t s) * g (ix2 t j) := by
  unfold k0_pay26; pointwise
theorem pay18 (q : FVec Ideal S512x128 .bf16) (k : FVec Ideal S1024x128 .bf16) (g : Vec Ideal S512x128 .bf16) (l : Vec Ideal S1x512x128 .f32)
    (o : Vec Ideal S1x1024x128 .f32) (s : Fin 1024) (j : Fin 128) :
    k0_pay18 (F := Ideal) q k g l o (ix3 0 s j) = o (ix3 0 s j) + ∑ t : Fin 512, k0_pay17 (F := Ideal) q k l (ix2 t s) * g (ix2 t j) := by
  unfold k0_pay18; pointwise
theorem pay32 (g : Vec Ideal S512x128 .bf16) (x : FVec Ideal S512x1024 .f32) (i : IVec S512x1024 32) (l : Vec Ideal S1x512x128 .f32)
    (o : Vec Ideal S1x1024x128 .f32) (s : Fin 1024) (j : Fin 128) :
    k0_pay32 (F := Ideal) g x i l o (ix3 0 s j) = o (ix3 0 s j) + ∑ t : Fin 512, k0_pay31 (F := Ideal) x i l (ix2 t s) * g (ix2 t j) := by
  unfold k0_pay32; pointwise
theorem pay36 (q k : Vec Ideal S1x1024x128 .bf16) (g : Vec Ideal S1024x128 .bf16) (l o : Vec Ideal S1x1024x128 .f32)
    (s : Fin 1024) (j : Fin 128) :
    k0_pay36 (F := Ideal) q k g l o (ix3 0 s j) = o (ix3 0 s j) + ∑ t : Fin 1024, k0_pay35 (F := Ideal) q k l (ix2 t s) * g (ix2 t j) := by
  unfold k0_pay36; pointwise
theorem pay42 (q k : Vec Ideal S1x1024x128 .bf16) (g : Vec Ideal S1024x128 .bf16) (l o : Vec Ideal S1x1024x128 .f32)
    (s : Fin 1024) (j : Fin 128) :
    k0_pay42 (F := Ideal) q k g l o (ix2 s j) = o (ix3 0 s j) + ∑ t : Fin 1024, k0_pay41 (F := Ideal) q k l (ix2 t s) * g (ix2 t j) := by
  unfold k0_pay42; pointwise

theorem pay13 (q v : FVec Ideal S512x128 .bf16) (g : Vec Ideal S512x128 .bf16) (p : FVec Ideal S512x512 .f32) (d o : Vec Ideal S1x512x128 .f32)
    (s : Fin 512) (j : Fin 128) : k0_pay13 (F := Ideal) q v g p d o (ix3 0 s j)
      = o (ix3 0 s j) + ∑ t : Fin 512, p (ix2 t s) * (∑ e : Fin 128, g (ix2 t e) * v (ix2 s e) - d (ix3 0 t 0)) * cs * q (ix2 t j) := by
  unfold k0_pay13; pointwise
  simp only [named_scale]
theorem pay27 (q v : FVec Ideal S512x128 .bf16) (g : Vec Ideal S512x128 .bf16) (p : FVec Ideal S512x512 .f32) (d o : Vec Ideal S1x512x128 .f32)
    (s : Fin 512) (j : Fin 128) : k0_pay27 (F := Ideal) q v g p d o (ix3 0 s j)
      = o (ix3 0 s j) + ∑ t : Fin 512, p (ix2 t s) * (∑ e : Fin 128, g (ix2 t e) * v (ix2 s e) - d (ix3 0 t 0)) * cs * q (ix2 t j) := by
  unfold k0_pay27; pointwise
  simp only [named_scale]
theorem pay19 (q : FVec Ideal S512x128 .bf16) (k v : FVec Ideal S1024x128 .bf16) (g : Vec Ideal S512x128 .bf16) (l d : Vec Ideal S1x512x128 .f32)
    (t : Fin 512) (s : Fin 1024) : k0_pay19 (F := Ideal) q k v g l d (ix2 t s)
      = k0_pay17 (F := Ideal) q k l (ix2 t s) * (∑ e : Fin 128, g (ix2 t e) * v (ix2 s e) - d (ix3 0 t 0)) * cs := by
  unfold k0_pay19; pointwise
  simp only [named_scale]
theorem pay20 (q : FVec Ideal S512x128 .bf16) (p : FVec Ideal S512x1024 .bf16) (o : Vec Ideal S1x1024x128 .f32) (s : Fin 1024) (j : Fin 128) :
    k0_pay20 (F := Ideal) q p o (ix3 0 s j) = o (ix3 0 s j) + ∑ t : Fin 512, p (ix2 t s) * q (ix2 t j) := by
  unfold k0_pay20; pointwise
theorem pay33 (q : FVec Ideal S512x128 .bf16) (v : FVec Ideal S1024x128 .bf16) (g : Vec Ideal S512x128 .bf16) (x : FVec Ideal S512x1024 .f32)
    (i : IVec S512x1024 32) (l d : Vec Ideal S1x512x128 .f32) (o : Vec Ideal S1x1024x128 .f32) (s : Fin 1024) (j : Fin 128) :
    k0_pay33 (F := Ideal) q v g x i l d o (ix2 s j) = o (ix3 0 s j)
      + ∑ t : Fin 512, k0_pay31 (F := Ideal) x i l (ix2 t s) * (∑ e : Fin 128, g (ix2 t e) * v (ix2 s e) - d (ix3 0 t 0)) * cs * q (ix2 t j) := by
  unfold k0_pay33; pointwise
  simp only [named_scale]
theorem pay37 (q k v : Vec Ideal S1x1024x128 .bf16) (g : Vec Ideal S1024x128 .bf16) (l d : Vec Ideal S1x1024x128 .f32) (t s : Fin 1024) :
    k0_pay37 (F := Ideal) q k v g l d (ix2 t s)
      = k0_pay35 (F := Ideal) q k l (ix2 t s) * (∑ e : Fin 128, g (ix2 t e) * v (ix3 0 s e) - d (ix3 0 t 0)) := by
  unfold k0_pay37; pointwise
theorem pay38 (q : FVec Ideal S1024x128 .bf16) (p : FVec Ideal S1024x1024 .f32) (w : BitVec 32) (o : Vec Ideal S1x1024x128 .f32)
    (s : Fin 1024) (j : Fin 128) : k0_pay38 (F := Ideal) q p (Named.named κ "scale" w) o (ix3 0 s j)
      = o (ix3 0 s j) + ∑ t : Fin 1024, p (ix2 t s) * cs * q (ix2 t j) := by
  unfold k0_pay38; pointwise
  simp only [named_scale]
theorem pay3 (q v : FVec Ideal S1024x128 .bf16) (g : Vec Ideal S1024x128 .bf16) (p : FVec Ideal S1024x1024 .f32) (d o : Vec Ideal S1x1024x128 .f32)
    (s : Fin 1024) (j : Fin 128) : k0_pay3 (F := Ideal) q v g p d o (ix3 0 s j)
      = o (ix3 0 s j) + ∑ t : Fin 1024, p (ix2 t s) * (∑ e : Fin 128, g (ix2 t e) * v (ix2 s e) - d (ix3 0 t 0)) * cs * q (ix2 t j) := by
  unfold k0_pay3; pointwise
  simp only [named_scale]

/-! The results. -/

theorem pay4 (o : Vec Ideal S2x1024x128 .f32) (y : S2x1024x128.Idx) : k0_pay4 (F := Ideal) o y = o y := by
  unfold k0_pay4; pointwise

theorem lane : ∀ j : Fin 128, IntOp.cmpi .slt (BitVec.ofNat 32 j.val) 64#32 = if j.val < 64 then 1#1 else 0#1 := by decide

theorem pay5 (o : Vec Ideal S1x1024x128 .f32) (s : Fin 1024) (j : Fin 128) :
    k0_pay5 (F := Ideal) o (ix3 0 s j) = if j.val < 64 then o (ix3 0 s j) else 0 := by
  unfold k0_pay5; pointwise
  rw [lane]
  split <;> rfl
theorem pay6 (o : Vec Ideal S1x1024x128 .f32) (s : Fin 1024) (j : Fin 128) :
    k0_pay6 (F := Ideal) o (ix3 0 s j) = if j.val < 64 then 0 else o (ix3 0 s j) := by
  unfold k0_pay6; pointwise
  rw [lane]
  split <;> rfl

end Cert.Kernel30Ideal.Attn

end
-- ==== Proof.AttnStep.lean ====
/- The gradients of the latent attention's keys and values: what one step of the kernel leaves in the two accumulators and in the result blocks. -/
module

public import proofs.«01_k».proof.Proof.Gen.Kernel30Ideal.Flash
public import proofs.«01_k».proof.Proof.AttnPay

@[expose] public section

set_option maxRecDepth 16384

noncomputable section

open Idealize.ShloMosaic Idealize.ShloMosaic.TcCoe Idealize.SL.Sem

namespace Cert.Attn

/-- Whether a key counts: on the diagonal block, where it does not lie after the query; below it, always. -/
abbrev live (d : Bool) (t s : ℕ) : Prop := d = true → s ≤ t

theorem prob_congr {p q : Prop} [Decidable p] [Decidable q] (h : p ↔ q) (s l : EReal) : prob p s l = prob q s l := by
  unfold prob
  by_cases hp : p
  · rw [if_pos hp, if_pos (h.mp hp)]
  · rw [if_neg hp, if_neg (fun hq => hp (h.mpr hq))]

theorem halves (f : Fin 1024 → EReal) :
    ∑ t, f t = ∑ t : Fin 512, f ⟨t.val, by omega⟩ + ∑ t : Fin 512, f ⟨512 + t.val, by omega⟩ :=
  Fin.sum_univ_add (a := 512) (b := 512) f

end Cert.Attn

namespace Cert.Kernel30Ideal.Attn

open Cert.Kernel30Ideal Cert.Kernel30Ideal.Gen Cert.Attn

abbrev Tile := S2x1024x128.Idx → EReal

/-- A probability of the tile, and the parts a tile adds to the gradients of its values and of its keys. -/
def tProb (q k l : Tile) (d : Bool) (h : Fin 2) (t s : Fin 1024) : EReal :=
  prob (live d t.val s.val) (∑ e : Fin 128, q (ix3 h t e) * k (ix3 h s e)) (l (ix3 h t 0))
def dvPart (q k l : Tile) (g : S1024x128.Idx → EReal) (d : Bool) (h : Fin 2) (s : Fin 1024) (j : Fin 128) : EReal :=
  ∑ t : Fin 1024, tProb q k l d h t s * g (ix2 t j)
def dkPart (q k v l del : Tile) (g : S1024x128.Idx → EReal) (d : Bool) (h : Fin 2) (s : Fin 1024) (j : Fin 128) : EReal :=
  ∑ t : Fin 1024, tProb q k l d h t s * (∑ e : Fin 128, g (ix2 t e) * v (ix3 h s e) - del (ix3 h t 0)) * cs * q (ix3 h t j)

/-! Loads and stores of one head's rows. -/

theorem rect_idx (h o n : ℕ) (hh : h < 2) (hn : o + n ≤ 1024) (inb : ∀ a, (![h, o, 0] : Fin 3 → ℕ) a + (⟨3, ![1, n, 128]⟩ : Shape).size a ≤ S2x1024x128.size a)
    (t : Fin n) (l : Fin 128) :
    (Rect.unit (s := S2x1024x128) ![h, o, 0] (⟨3, ![1, n, 128]⟩ : Shape).size inb).emb (ix3 0 t l) = ix3 ⟨h, hh⟩ ⟨o + t.val, by omega⟩ l := by
  funext a
  refine Fin.ext ?_
  rw [Rect.emb_apply]
  fin_cases a <;> simp [Rect.unit, ix3]

theorem ld3 {e : EltTy} (a : Memref sig .tc .vmem S2x1024x128 e) (h o n : ℕ) (hh : h < 2) (hn : o + n ≤ 1024)
    (inb : ∀ a, (![h, o, 0] : Fin 3 → ℕ) a + (⟨3, ![1, n, 128]⟩ : Shape).size a ≤ S2x1024x128.size a)
    (f : a.view.ty.Contents (Elt Ideal)) (t : Fin n) (l : Fin 128) :
    View.readAt (Elt Ideal) a.view (Rect.unit (s := S2x1024x128) ![h, o, 0] (⟨3, ![1, n, 128]⟩ : Shape).size inb).toLoadRect f (ix3 0 t l)
      = a.view.read (Elt Ideal) f (ix3 ⟨h, hh⟩ ⟨o + t.val, by omega⟩ l) :=
  congrArg (a.view.read (Elt Ideal) f) (rect_idx h o n hh hn inb t l)

theorem rc3 {e : EltTy} (a : Memref sig .tc .vmem S2x1024x128 e) (h o n : ℕ) (hh : h < 2) (hn : o + n ≤ 1024)
    (inb : ∀ a, (![h, o, 0] : Fin 3 → ℕ) a + (⟨3, ![1, n, 128]⟩ : Shape).size a ≤ S2x1024x128.size a)
    (L : List (View.Piece (Elt Ideal) S2x1024x128 e)) (t : Fin n) (l : Fin 128) :
    a.view.readCov L (Rect.unit (s := S2x1024x128) ![h, o, 0] (⟨3, ![1, n, 128]⟩ : Shape).size inb).toLoadRect (ix3 0 t l)
      = View.canon L (ix3 ⟨h, hh⟩ ⟨o + t.val, by omega⟩ l) := by
  rw [View.readCov_eq_canon']
  exact congrArg (View.canon L) (rect_idx h o n hh hn inb t l)

theorem ld2 {e : EltTy} (a : Memref sig .tc .vmem S1024x128 e) (o n : ℕ) (hn : o + n ≤ 1024)
    (inb : ∀ a, (![o, 0] : Fin 2 → ℕ) a + (⟨2, ![n, 128]⟩ : Shape).size a ≤ S1024x128.size a)
    (f : a.view.ty.Contents (Elt Ideal)) (t : Fin n) (l : Fin 128) :
    View.readAt (Elt Ideal) a.view (Rect.unit (s := S1024x128) ![o, 0] (⟨2, ![n, 128]⟩ : Shape).size inb).toLoadRect f (ix2 t l)
      = a.view.read (Elt Ideal) f (ix2 ⟨o + t.val, by omega⟩ l) := by
  refine congrArg (a.view.read (Elt Ideal) f) (funext fun b => Fin.ext ?_)
  show (((Rect.unit (s := S1024x128) ![o, 0] (⟨2, ![n, 128]⟩ : Shape).size inb).emb (ix2 t l)) b).val = _
  rw [Rect.emb_apply]
  fin_cases b <;> simp [Rect.unit, ix2]

theorem hit {e : EltTy} (h n : ℕ) (hh : h < 2) (hn : n ≤ 1024) (inb : ∀ a, (![h, 0, 0] : Fin 3 → ℕ) a + (⟨3, ![1, n, 128]⟩ : Shape).size a ≤ S2x1024x128.size a)
    (P : (⟨3, ![1, n, 128]⟩ : Shape).Idx → Elt Ideal e) (L : List (View.Piece (Elt Ideal) S2x1024x128 e)) (s : Fin 1024) (hs : s.val < n) (l : Fin 128) :
    View.canon (⟨Rect.unit (s := S2x1024x128) ![h, 0, 0] (⟨3, ![1, n, 128]⟩ : Shape).size inb, P⟩ :: L) (ix3 ⟨h, hh⟩ s l) = P (ix3 0 ⟨s.val, hs⟩ l) := by
  have e1 : (ix3 ⟨h, hh⟩ s l : S2x1024x128.Idx)
      = (Rect.unit (s := S2x1024x128) ![h, 0, 0] (⟨3, ![1, n, 128]⟩ : Shape).size inb).emb (ix3 0 ⟨s.val, hs⟩ l) := by
    rw [rect_idx h 0 n hh (by omega)]
    exact congrArg (fun x => ix3 _ x l) (Fin.ext (Nat.zero_add _).symm)
  rw [e1]
  exact View.canon_cons_emb _ _ _ _

theorem miss {e : EltTy} (h n : ℕ) (inb : ∀ a, (![h, 0, 0] : Fin 3 → ℕ) a + (⟨3, ![1, n, 128]⟩ : Shape).size a ≤ S2x1024x128.size a)
    (P : (⟨3, ![1, n, 128]⟩ : Shape).Idx → Elt Ideal e) (L : List (View.Piece (Elt Ideal) S2x1024x128 e)) (b : Fin 2) (s : Fin 1024) (l : Fin 128)
    (hb : b.val ≠ h ∨ n ≤ s.val) :
    View.canon (⟨Rect.unit (s := S2x1024x128) ![h, 0, 0] (⟨3, ![1, n, 128]⟩ : Shape).size inb, P⟩ :: L) (ix3 b s l) = View.canon L (ix3 b s l) := by
  refine View.canon_cons_of_not_mem _ _ fun hm => ?_
  obtain ⟨x, hx⟩ := LoadRect.exists_idx_of_mem _ hm
  have h0 := congrArg (fun y => (y 0).val) hx
  have h1 := congrArg (fun y => (y 1).val) hx
  simp only [Rect.emb_apply] at h0 h1
  have x0 : (x 0).val < 1 := (x 0).isLt
  have x1 : (x 1).val < n := (x 1).isLt
  simp [Rect.unit, ix3] at h0 h1
  omega

/-! Below the diagonal: each head's rows are added to what was there. -/

section Below

variable (c : Dev nD) (a4 : Memref sig .tc .vmem S2x1024x128 .bf16) (a5 : Memref sig .tc .vmem S2x1024x128 .bf16)
  (a6 : Memref sig .tc .vmem S2x1024x128 .bf16) (a7 : Memref sig .tc .vmem S1024x128 .bf16) (a8 : Memref sig .tc .vmem S2x1024x128 .f32)
  (a9 : Memref sig .tc .vmem S2x1024x128 .f32) (x0 x1 x2 : Vec Ideal S2x1024x128 .bf16) (x3 : Vec Ideal S1024x128 .bf16) (x4 x5 : Vec Ideal S2x1024x128 .f32)

theorem whole3 {e : EltTy} (a : Memref sig .tc .vmem S2x1024x128 e) (h : ℕ) (hh : h < 2)
    (inb : ∀ a, (![h, 0, 0] : Fin 3 → ℕ) a + (⟨3, ![1, 1024, 128]⟩ : Shape).size a ≤ S2x1024x128.size a)
    (x : S2x1024x128.Idx → Elt Ideal e) (t : Fin 1024) (l : Fin 128) :
    View.readAt (Elt Ideal) a.view (Rect.unit (s := S2x1024x128) ![h, 0, 0] (⟨3, ![1, 1024, 128]⟩ : Shape).size inb).toLoadRect (a.view.rep x) (ix3 0 t l)
      = x (ix3 ⟨h, hh⟩ t l) := by
  rw [ld3 a h 0 1024 hh (by omega), View.read_rep]
  exact congrArg (fun y => x (ix3 _ y l)) (Fin.ext (Nat.zero_add _))

theorem top3 {e : EltTy} (a : Memref sig .tc .vmem S2x1024x128 e) (h : ℕ) (hh : h < 2)
    (inb : ∀ a, (![h, 0, 0] : Fin 3 → ℕ) a + (⟨3, ![1, 512, 128]⟩ : Shape).size a ≤ S2x1024x128.size a)
    (x : S2x1024x128.Idx → Elt Ideal e) (t : Fin 512) (l : Fin 128) :
    View.readAt (Elt Ideal) a.view (Rect.unit (s := S2x1024x128) ![h, 0, 0] (⟨3, ![1, 512, 128]⟩ : Shape).size inb).toLoadRect (a.view.rep x) (ix3 0 t l)
      = x (ix3 ⟨h, hh⟩ ⟨t.val, by omega⟩ l) := by
  rw [ld3 a h 0 512 hh (by omega), View.read_rep]
  exact congrArg (fun y => x (ix3 _ y l)) (Fin.ext (Nat.zero_add _))

theorem bot3 {e : EltTy} (a : Memref sig .tc .vmem S2x1024x128 e) (h : ℕ) (hh : h < 2)
    (inb : ∀ a, (![h, 512, 0] : Fin 3 → ℕ) a + (⟨3, ![1, 512, 128]⟩ : Shape).size a ≤ S2x1024x128.size a)
    (x : S2x1024x128.Idx → Elt Ideal e) (t : Fin 512) (l : Fin 128) :
    View.readAt (Elt Ideal) a.view (Rect.unit (s := S2x1024x128) ![h, 512, 0] (⟨3, ![1, 512, 128]⟩ : Shape).size inb).toLoadRect (a.view.rep x) (ix3 0 t l)
      = x (ix3 ⟨h, hh⟩ ⟨512 + t.val, by omega⟩ l) := by
  rw [ld3 a h 512 512 hh (by omega), View.read_rep]

theorem whole2 {e : EltTy} (a : Memref sig .tc .vmem S1024x128 e)
    (inb : ∀ a, (![0, 0] : Fin 2 → ℕ) a + (⟨2, ![1024, 128]⟩ : Shape).size a ≤ S1024x128.size a)
    (x : S1024x128.Idx → Elt Ideal e) (t : Fin 1024) (l : Fin 128) :
    View.readAt (Elt Ideal) a.view (Rect.unit (s := S1024x128) ![0, 0] (⟨2, ![1024, 128]⟩ : Shape).size inb).toLoadRect (a.view.rep x) (ix2 t l)
      = x (ix2 t l) := by
  rw [ld2 a 0 1024 (by omega), View.read_rep]
  exact congrArg (fun y => x (ix2 y l)) (Fin.ext (Nat.zero_add _))

theorem top2 {e : EltTy} (a : Memref sig .tc .vmem S1024x128 e)
    (inb : ∀ a, (![0, 0] : Fin 2 → ℕ) a + (⟨2, ![512, 128]⟩ : Shape).size a ≤ S1024x128.size a)
    (x : S1024x128.Idx → Elt Ideal e) (t : Fin 512) (l : Fin 128) :
    View.readAt (Elt Ideal) a.view (Rect.unit (s := S1024x128) ![0, 0] (⟨2, ![512, 128]⟩ : Shape).size inb).toLoadRect (a.view.rep x) (ix2 t l)
      = x (ix2 ⟨t.val, by omega⟩ l) := by
  rw [ld2 a 0 512 (by omega), View.read_rep]
  exact congrArg (fun y => x (ix2 y l)) (Fin.ext (Nat.zero_add _))

theorem bot2 {e : EltTy} (a : Memref sig .tc .vmem S1024x128 e)
    (inb : ∀ a, (![512, 0] : Fin 2 → ℕ) a + (⟨2, ![512, 128]⟩ : Shape).size a ≤ S1024x128.size a)
    (x : S1024x128.Idx → Elt Ideal e) (t : Fin 512) (l : Fin 128) :
    View.readAt (Elt Ideal) a.view (Rect.unit (s := S1024x128) ![512, 0] (⟨2, ![512, 128]⟩ : Shape).size inb).toLoadRect (a.view.rep x) (ix2 t l)
      = x (ix2 ⟨512 + t.val, by omega⟩ l) := by
  rw [ld2 a 512 512 (by omega), View.read_rep]

theorem prob_free (q k l : Tile) (h : Fin 2) (t s : Fin 1024) :
    prob True (∑ e : Fin 128, q (ix3 h t e) * k (ix3 h s e)) (l (ix3 h t 0)) = tProb q k l false h t s :=
  prob_congr (by simp [live]) _ _

/-- The values' accumulator after a step below the diagonal. -/
theorem dv_below (xa : Buf (Elt Ideal) ((c : Thread nD τ).loc cc0_scratch1)) (h : Fin 2) (s : Fin 1024) (j : Fin 128) :
    View.canon (kernelRun0_B.sl.HS1_2 c a4 a5 a7 a8 x0 x1 x3 x4 xa) (ix3 h s j)
      = scM0_1.view.read (Elt Ideal) xa (ix3 h s j) + dvPart x0 x1 x4 x3 false h s j := by
  unfold kernelRun0_B.sl.HS1_2
  match h with
  | ⟨0, _⟩ =>
    refine ((miss 1 1024 _ _ _ _ s j (Or.inl Nat.zero_ne_one)).trans (hit 0 1024 (by omega) (by omega) _ _ _ s s.isLt j)).trans ?_
    refine (pay36 _ _ _ _ _ s j).trans ?_
    refine congrArg₂ (· + ·) ?_ (Finset.sum_congr rfl fun t _ => ?_)
    · rw [ld3 scM0_1 0 0 1024 (by omega) (by omega)]
      exact congrArg (fun y => scM0_1.view.read (Elt Ideal) xa (ix3 _ y j)) (Fin.ext (Nat.zero_add _))
    · rw [pay35]
      simp only [whole3 a4 0 (by omega), whole3 a5 0 (by omega), whole3 a8 0 (by omega), whole2 a7]
      rw [prob_free]
  | ⟨1, _⟩ =>
    refine (hit 1 1024 (by omega) (by omega) _ _ _ s s.isLt j).trans ?_
    refine (pay2 _ s j).trans ?_
    unfold kernelRun0_B.sl.r_8
    refine (pay42 _ _ _ _ _ s j).trans ?_
    refine congrArg₂ (· + ·) ?_ (Finset.sum_congr rfl fun t _ => ?_)
    · unfold kernelRun0_B.sl.v70
      rw [ld3 scM0_1 1 0 1024 (by omega) (by omega)]
      exact congrArg (fun y => scM0_1.view.read (Elt Ideal) xa (ix3 _ y j)) (Fin.ext (Nat.zero_add _))
    · rw [pay41]
      simp only [whole3 a4 1 (by omega), whole3 a5 1 (by omega), whole3 a8 1 (by omega), whole2 a7]
      rw [prob_free]

/-- The keys' accumulator after a step below the diagonal. -/
theorem dk_below (xa : Buf (Elt Ideal) ((c : Thread nD τ).loc cc0_scratch0)) (h : Fin 2) (s : Fin 1024) (j : Fin 128) :
    View.canon (kernelRun0_B.sl.HS0_2 c a4 a5 a6 a7 a8 a9 x0 x1 x2 x3 x4 x5 xa) (ix3 h s j)
      = scM0_0.view.read (Elt Ideal) xa (ix3 h s j) + dkPart x0 x1 x2 x4 x5 x3 false h s j := by
  unfold kernelRun0_B.sl.HS0_2
  match h with
  | ⟨0, _⟩ =>
    refine ((miss 1 1024 _ _ _ _ s j (Or.inl Nat.zero_ne_one)).trans (hit 0 1024 (by omega) (by omega) _ _ _ s s.isLt j)).trans ?_
    unfold kernelRun0_B.sl.cst_27
    refine (pay38 _ _ _ _ s j).trans ?_
    refine congrArg₂ (· + ·) ?_ (Finset.sum_congr rfl fun t _ => ?_)
    · rw [ld3 scM0_0 0 0 1024 (by omega) (by omega)]
      exact congrArg (fun y => scM0_0.view.read (Elt Ideal) xa (ix3 _ y j)) (Fin.ext (Nat.zero_add _))
    · unfold kernelRun0_B.sl.r_3 kernelRun0_B.sl.r_2
      rw [pay37, pay35, pay34]
      simp only [whole3 a4 0 (by omega), whole3 a5 0 (by omega), whole3 a6 0 (by omega), whole3 a8 0 (by omega), whole3 a9 0 (by omega), whole2 a7]
      rw [prob_free]
  | ⟨1, _⟩ =>
    refine (hit 1 1024 (by omega) (by omega) _ _ _ s s.isLt j).trans ?_
    refine (pay3 _ _ _ _ _ _ s j).trans ?_
    refine congrArg₂ (· + ·) ?_ (Finset.sum_congr rfl fun t _ => ?_)
    · unfold kernelRun0_B.sl.v88
      rw [ld3 scM0_0 1 0 1024 (by omega) (by omega)]
      exact congrArg (fun y => scM0_0.view.read (Elt Ideal) xa (ix3 _ y j)) (Fin.ext (Nat.zero_add _))
    · unfold kernelRun0_B.sl.r_7 kernelRun0_B.sl.r_6 kernelRun0_B.sl.r_5 kernelRun0_B.sl.r_4
      rw [pay41, pay39]
      simp only [pay40, whole3 a4 1 (by omega), whole3 a5 1 (by omega), whole3 a6 1 (by omega), whole3 a8 1 (by omega), whole3 a9 1 (by omega), whole2 a7]
      rw [prob_free]

end Below

/-! On the diagonal: the accumulators start from zero; the upper rows of queries meet the upper half of the keys, the lower rows meet all of them. -/

section Diagonal

variable (a4 : Memref sig .tc .vmem S2x1024x128 .bf16) (a5 : Memref sig .tc .vmem S2x1024x128 .bf16)
  (a6 : Memref sig .tc .vmem S2x1024x128 .bf16) (a7 : Memref sig .tc .vmem S1024x128 .bf16) (a8 : Memref sig .tc .vmem S2x1024x128 .f32)
  (a9 : Memref sig .tc .vmem S2x1024x128 .f32) (x0 x1 x2 : Vec Ideal S2x1024x128 .bf16) (x3 : Vec Ideal S1024x128 .bf16) (x4 x5 : Vec Ideal S2x1024x128 .f32)

theorem prob_top (q k l : Tile) (h : Fin 2) (t : Fin 512) (s : Fin 1024) :
    prob (s.val ≤ t.val) (∑ e : Fin 128, q (ix3 h ⟨t.val, by omega⟩ e) * k (ix3 h s e)) (l (ix3 h ⟨t.val, by omega⟩ 0))
      = tProb q k l true h ⟨t.val, by omega⟩ s :=
  prob_congr (by simp [live]) _ _

theorem prob_bot (q k l : Tile) (h : Fin 2) (t : Fin 512) (s : Fin 1024) :
    prob (s.val ≤ t.val + 512) (∑ e : Fin 128, q (ix3 h ⟨512 + t.val, by omega⟩ e) * k (ix3 h s e)) (l (ix3 h ⟨512 + t.val, by omega⟩ 0))
      = tProb q k l true h ⟨512 + t.val, by omega⟩ s :=
  prob_congr (by simp [live, Nat.add_comm]) _ _

/-- The parts of the upper and of the lower rows of queries. -/
def dvRows (q k l : Tile) (g : S1024x128.Idx → EReal) (r : Fin 512 → Fin 1024) (h : Fin 2) (s : Fin 1024) (j : Fin 128) : EReal :=
  ∑ t : Fin 512, tProb q k l true h (r t) s * g (ix2 (r t) j)
def dkRows (q k v l del : Tile) (g : S1024x128.Idx → EReal) (r : Fin 512 → Fin 1024) (h : Fin 2) (s : Fin 1024) (j : Fin 128) : EReal :=
  ∑ t : Fin 512, tProb q k l true h (r t) s * (∑ e : Fin 128, g (ix2 (r t) e) * v (ix3 h s e) - del (ix3 h (r t) 0)) * cs * q (ix3 h (r t) j)

abbrev upper (t : Fin 512) : Fin 1024 := ⟨t.val, by omega⟩
abbrev lower (t : Fin 512) : Fin 1024 := ⟨512 + t.val, by omega⟩

theorem tProb_zero (q k l : Tile) (h : Fin 2) (t : Fin 512) (s : Fin 1024) (hs : ¬s.val < 512) : tProb q k l true h (upper t) s = 0 :=
  prob_neg _ (fun hp => by have := hp rfl; simp at this; omega) _ _

/-- The two halves make the whole: keys of the lower half have no part in the upper rows. -/
theorem dv_join (q k l : Tile) (g : S1024x128.Idx → EReal) (h : Fin 2) (s : Fin 1024) (j : Fin 128) :
    (if s.val < 512 then 0 + dvRows q k l g upper h s j else 0) + dvRows q k l g lower h s j = 0 + dvPart q k l g true h s j := by
  unfold dvPart
  refine Eq.trans ?_ ((zero_add _).trans (halves _)).symm
  refine congrArg₂ (· + ·) ?_ rfl
  by_cases hs : s.val < 512
  · rw [if_pos hs, zero_add]; rfl
  · rw [if_neg hs]
    refine (Finset.sum_eq_zero fun t _ => ?_).symm
    have := tProb_zero q k l h t s hs
    rw [this, zero_mul]

theorem dk_join (q k v l del : Tile) (g : S1024x128.Idx → EReal) (h : Fin 2) (s : Fin 1024) (j : Fin 128) :
    (if s.val < 512 then 0 + dkRows q k v l del g upper h s j else 0) + dkRows q k v l del g lower h s j = 0 + dkPart q k v l del g true h s j := by
  unfold dkPart
  refine Eq.trans ?_ ((zero_add _).trans (halves _)).symm
  refine congrArg₂ (· + ·) ?_ rfl
  by_cases hs : s.val < 512
  · rw [if_pos hs, zero_add]; rfl
  · rw [if_neg hs]
    refine (Finset.sum_eq_zero fun t _ => ?_).symm
    have := tProb_zero q k l h t s hs
    rw [this, zero_mul, zero_mul, zero_mul]

theorem zero3 : (![0, 0, 0] : Fin 3 → ℕ) = fun _ => 0 := by decide

/-- The zero fills. -/
theorem fill0 (y : S2x1024x128.Idx) : View.canon kernelRun0_A.sl.HS0_1 y = (0 : EReal) := by
  unfold kernelRun0_A.sl.HS0_1
  rw [View.canon_unit_zero zero3]
  exact pay7 y
theorem fill1 (y : S2x1024x128.Idx) : View.canon kernelRun0_A.sl.HS1_1 y = (0 : EReal) := by
  unfold kernelRun0_A.sl.HS1_1
  rw [View.canon_unit_zero zero3]
  exact pay8 y

/-- The upper half of a key block, from a load of it. -/
theorem rc_top {e : EltTy} (a : Memref sig .tc .vmem S2x1024x128 e) (h : ℕ) (hh : h < 2)
    (inb : ∀ a, (![h, 0, 0] : Fin 3 → ℕ) a + (⟨3, ![1, 512, 128]⟩ : Shape).size a ≤ S2x1024x128.size a)
    (L : List (View.Piece (Elt Ideal) S2x1024x128 e)) (s : Fin 1024) (hs : s.val < 512) (l : Fin 128) :
    a.view.readCov L (Rect.unit (s := S2x1024x128) ![h, 0, 0] (⟨3, ![1, 512, 128]⟩ : Shape).size inb).toLoadRect (ix3 0 ⟨s.val, hs⟩ l)
      = View.canon L (ix3 ⟨h, hh⟩ s l) := by
  rw [rc3 a h 0 512 hh (by omega)]
  exact congrArg (fun y => View.canon L (ix3 _ y l)) (Fin.ext (Nat.zero_add _))
theorem rc_whole {e : EltTy} (a : Memref sig .tc .vmem S2x1024x128 e) (h : ℕ) (hh : h < 2)
    (inb : ∀ a, (![h, 0, 0] : Fin 3 → ℕ) a + (⟨3, ![1, 1024, 128]⟩ : Shape).size a ≤ S2x1024x128.size a)
    (L : List (View.Piece (Elt Ideal) S2x1024x128 e)) (s : Fin 1024) (l : Fin 128) :
    a.view.readCov L (Rect.unit (s := S2x1024x128) ![h, 0, 0] (⟨3, ![1, 1024, 128]⟩ : Shape).size inb).toLoadRect (ix3 0 s l)
      = View.canon L (ix3 ⟨h, hh⟩ s l) := by
  rw [rc3 a h 0 1024 hh (by omega)]
  exact congrArg (fun y => View.canon L (ix3 _ y l)) (Fin.ext (Nat.zero_add _))

theorem dv_diag_a (s : Fin 1024) (j : Fin 128) :
    View.canon (kernelRun0_A.sl.HS1_2 a4 a5 a7 a8 x0 x1 x3 x4) (ix3 0 s j)
      = if s.val < 512 then 0 + dvRows x0 x1 x4 x3 upper 0 s j else 0 := by
  unfold kernelRun0_A.sl.HS1_2
  by_cases hs : s.val < 512
  · rw [if_pos hs]
    refine (hit 0 512 (by omega) (by omega) _ _ _ s hs j).trans ?_
    refine (pay12 _ _ _ ⟨s.val, hs⟩ j).trans ?_
    refine congrArg₂ (· + ·) ?_ (Finset.sum_congr rfl fun t _ => ?_)
    · unfold kernelRun0_A.sl.v44
      rw [rc_top scM0_1 0 (by omega) _ _ s hs]
      exact fill1 _
    · unfold kernelRun0_A.sl.r_4 kernelRun0_A.sl.r_5
      rw [pay11]
      simp only [top3 a4 0 (by omega), top3 a5 0 (by omega), top3 a8 0 (by omega), top2 a7]
      exact congrArg (· * _) (prob_top x0 x1 x4 0 t s)
  · rw [if_neg hs]
    exact (miss 0 512 _ _ _ 0 s j (Or.inr (by omega))).trans (fill1 _)

theorem dv_diag_b (s : Fin 1024) (j : Fin 128) :
    View.canon (kernelRun0_A.sl.HS1_3 a4 a5 a7 a8 x0 x1 x3 x4) (ix3 0 s j) = 0 + dvPart x0 x1 x4 x3 true 0 s j := by
  unfold kernelRun0_A.sl.HS1_3
  refine (hit 0 1024 (by omega) (by omega) _ _ _ s s.isLt j).trans ?_
  refine (pay18 _ _ _ _ _ s j).trans (Eq.trans ?_ (dv_join x0 x1 x4 x3 0 s j))
  refine congrArg₂ (· + ·) ?_ (Finset.sum_congr rfl fun t _ => ?_)
  · unfold kernelRun0_A.sl.v92
    rw [rc_whole scM0_1 0 (by omega)]
    exact dv_diag_a a4 a5 a7 a8 x0 x1 x3 x4 s j
  · unfold kernelRun0_A.sl.r_6 kernelRun0_A.sl.r_7
    rw [pay17]
    simp only [pay14, pay15, bot3 a4 0 (by omega), whole3 a5 0 (by omega), bot3 a8 0 (by omega), bot2 a7]
    exact congrArg (· * _) (prob_bot x0 x1 x4 0 t s)

theorem dv_diag_c (s : Fin 1024) (j : Fin 128) :
    View.canon (kernelRun0_A.sl.HS1_4 a4 a5 a7 a8 x0 x1 x3 x4) (ix3 1 s j)
      = if s.val < 512 then 0 + dvRows x0 x1 x4 x3 upper 1 s j else 0 := by
  have old : View.canon (kernelRun0_A.sl.HS1_3 a4 a5 a7 a8 x0 x1 x3 x4) (ix3 1 s j) = 0 := by
    unfold kernelRun0_A.sl.HS1_3
    refine (miss 0 1024 _ _ _ 1 s j (Or.inl Nat.one_ne_zero)).trans ?_
    unfold kernelRun0_A.sl.HS1_2
    exact (miss 0 512 _ _ _ 1 s j (Or.inl Nat.one_ne_zero)).trans (fill1 _)
  unfold kernelRun0_A.sl.HS1_4
  by_cases hs : s.val < 512
  · rw [if_pos hs]
    refine (hit 1 512 (by omega) (by omega) _ _ _ s hs j).trans ?_
    unfold kernelRun0_A.sl.cst_100
    refine (pay26 _ _ _ ⟨s.val, hs⟩ j).trans ?_
    refine congrArg₂ (· + ·) ?_ (Finset.sum_congr rfl fun t _ => ?_)
    · unfold kernelRun0_A.sl.r_13 kernelRun0_A.sl.v140
      rw [pay24, rc_top scM0_1 1 (by omega) _ _ s hs]
      exact old
    · unfold kernelRun0_A.sl.r_4 kernelRun0_A.sl.r_14
      rw [pay25]
      simp only [top3 a4 1 (by omega), top3 a5 1 (by omega), top3 a8 1 (by omega), top2 a7]
      exact congrArg (· * _) (prob_top x0 x1 x4 1 t s)
  · rw [if_neg hs]
    exact (miss 1 512 _ _ _ 1 s j (Or.inr (by omega))).trans old

/-- The values' accumulator after a step on the diagonal. -/
theorem dv_diag (h : Fin 2) (s : Fin 1024) (j : Fin 128) :
    View.canon (kernelRun0_A.sl.HS1_5 a4 a5 a7 a8 x0 x1 x3 x4) (ix3 h s j) = 0 + dvPart x0 x1 x4 x3 true h s j := by
  unfold kernelRun0_A.sl.HS1_5
  match h with
  | ⟨0, _⟩ =>
    refine (miss 1 1024 _ _ _ _ s j (Or.inl Nat.zero_ne_one)).trans ?_
    unfold kernelRun0_A.sl.HS1_4
    exact (miss 1 512 _ _ _ _ s j (Or.inl Nat.zero_ne_one)).trans (dv_diag_b a4 a5 a7 a8 x0 x1 x3 x4 s j)
  | ⟨1, _⟩ =>
    refine (hit 1 1024 (by omega) (by omega) _ _ _ s s.isLt j).trans ?_
    unfold kernelRun0_A.sl.v173
    refine (pay32 _ _ _ _ _ s j).trans (Eq.trans ?_ (dv_join x0 x1 x4 x3 1 s j))
    refine congrArg₂ (· + ·) ?_ (Finset.sum_congr rfl fun t _ => ?_)
    · unfold kernelRun0_A.sl.v188
      rw [rc_whole scM0_1 1 (by omega)]
      exact dv_diag_c a4 a5 a7 a8 x0 x1 x3 x4 s j
    · unfold kernelRun0_A.sl.r_17 kernelRun0_A.sl.r_18
      rw [pay31, pay30]
      simp only [bot3 a4 1 (by omega), whole3 a5 1 (by omega), bot3 a8 1 (by omega), bot2 a7]
      exact congrArg (· * _) (prob_bot x0 x1 x4 1 t s)

theorem dk_diag_a (s : Fin 1024) (j : Fin 128) :
    View.canon (kernelRun0_A.sl.HS0_2 a4 a5 a6 a7 a8 a9 x0 x1 x2 x3 x4 x5) (ix3 0 s j)
      = if s.val < 512 then 0 + dkRows x0 x1 x2 x4 x5 x3 upper 0 s j else 0 := by
  unfold kernelRun0_A.sl.HS0_2
  by_cases hs : s.val < 512
  · rw [if_pos hs]
    refine (hit 0 512 (by omega) (by omega) _ _ _ s hs j).trans ?_
    refine (pay13 _ _ _ _ _ _ ⟨s.val, hs⟩ j).trans ?_
    refine congrArg₂ (· + ·) ?_ (Finset.sum_congr rfl fun t _ => ?_)
    · unfold kernelRun0_A.sl.v62
      rw [rc_top scM0_0 0 (by omega) _ _ s hs]
      exact fill0 _
    · unfold kernelRun0_A.sl.r_2 kernelRun0_A.sl.r_3 kernelRun0_A.sl.r_4 kernelRun0_A.sl.r_5
      rw [pay11, pay9]
      simp only [pay10, top3 a4 0 (by omega), top3 a5 0 (by omega), top3 a6 0 (by omega), top3 a8 0 (by omega), top3 a9 0 (by omega), top2 a7]
      exact congrArg (· * _ * _ * _) (prob_top x0 x1 x4 0 t s)
  · rw [if_neg hs]
    exact (miss 0 512 _ _ _ 0 s j (Or.inr (by omega))).trans (fill0 _)

theorem dk_diag_b (s : Fin 1024) (j : Fin 128) :
    View.canon (kernelRun0_A.sl.HS0_3 a4 a5 a6 a7 a8 a9 x0 x1 x2 x3 x4 x5) (ix3 0 s j) = 0 + dkPart x0 x1 x2 x4 x5 x3 true 0 s j := by
  unfold kernelRun0_A.sl.HS0_3
  refine (hit 0 1024 (by omega) (by omega) _ _ _ s s.isLt j).trans ?_
  refine (pay20 _ _ _ s j).trans (Eq.trans ?_ (dk_join x0 x1 x2 x4 x5 x3 0 s j))
  refine congrArg₂ (· + ·) ?_ (Finset.sum_congr rfl fun t _ => ?_)
  · unfold kernelRun0_A.sl.v110
    rw [rc_whole scM0_0 0 (by omega)]
    exact dk_diag_a a4 a5 a6 a7 a8 a9 x0 x1 x2 x3 x4 x5 s j
  · unfold kernelRun0_A.sl.r_9 kernelRun0_A.sl.r_6 kernelRun0_A.sl.r_7 kernelRun0_A.sl.r_8
    rw [pay19, pay17, pay14]
    simp only [pay14, pay15, pay16, bot3 a4 0 (by omega), whole3 a5 0 (by omega), whole3 a6 0 (by omega), bot3 a8 0 (by omega),
      bot3 a9 0 (by omega), bot2 a7]
    exact congrArg (· * _ * _ * _) (prob_bot x0 x1 x4 0 t s)

theorem dk_diag_c (s : Fin 1024) (j : Fin 128) :
    View.canon (kernelRun0_A.sl.HS0_4 a4 a5 a6 a7 a8 a9 x0 x1 x2 x3 x4 x5) (ix3 1 s j)
      = if s.val < 512 then 0 + dkRows x0 x1 x2 x4 x5 x3 upper 1 s j else 0 := by
  have old : View.canon (kernelRun0_A.sl.HS0_3 a4 a5 a6 a7 a8 a9 x0 x1 x2 x3 x4 x5) (ix3 1 s j) = 0 := by
    unfold kernelRun0_A.sl.HS0_3
    refine (miss 0 1024 _ _ _ 1 s j (Or.inl Nat.one_ne_zero)).trans ?_
    unfold kernelRun0_A.sl.HS0_2
    exact (miss 0 512 _ _ _ 1 s j (Or.inl Nat.one_ne_zero)).trans (fill0 _)
  unfold kernelRun0_A.sl.HS0_4
  by_cases hs : s.val < 512
  · rw [if_pos hs]
    refine (hit 1 512 (by omega) (by omega) _ _ _ s hs j).trans ?_
    refine (pay27 _ _ _ _ _ _ ⟨s.val, hs⟩ j).trans ?_
    refine congrArg₂ (· + ·) ?_ (Finset.sum_congr rfl fun t _ => ?_)
    · unfold kernelRun0_A.sl.v158
      rw [rc_top scM0_0 1 (by omega) _ _ s hs]
      exact old
    · unfold kernelRun0_A.sl.r_10 kernelRun0_A.sl.r_11 kernelRun0_A.sl.r_4 kernelRun0_A.sl.r_12
      rw [pay23, pay21]
      simp only [pay22, top3 a4 1 (by omega), top3 a5 1 (by omega), top3 a6 1 (by omega), top3 a8 1 (by omega), top3 a9 1 (by omega), top2 a7]
      exact congrArg (· * _ * _ * _) (prob_top x0 x1 x4 1 t s)
  · rw [if_neg hs]
    exact (miss 1 512 _ _ _ 1 s j (Or.inr (by omega))).trans old

/-- The keys' accumulator after a step on the diagonal. -/
theorem dk_diag (h : Fin 2) (s : Fin 1024) (j : Fin 128) :
    View.canon (kernelRun0_A.sl.HS0_5 a4 a5 a6 a7 a8 a9 x0 x1 x2 x3 x4 x5) (ix3 h s j) = 0 + dkPart x0 x1 x2 x4 x5 x3 true h s j := by
  unfold kernelRun0_A.sl.HS0_5
  match h with
  | ⟨0, _⟩ =>
    refine (miss 1 1024 _ _ _ _ s j (Or.inl Nat.zero_ne_one)).trans ?_
    unfold kernelRun0_A.sl.HS0_4
    exact (miss 1 512 _ _ _ _ s j (Or.inl Nat.zero_ne_one)).trans (dk_diag_b a4 a5 a6 a7 a8 a9 x0 x1 x2 x3 x4 x5 s j)
  | ⟨1, _⟩ =>
    refine (hit 1 1024 (by omega) (by omega) _ _ _ s s.isLt j).trans ?_
    refine (pay1 _ s j).trans ?_
    unfold kernelRun0_A.sl.r_19 kernelRun0_A.sl.v173
    refine (pay33 _ _ _ _ _ _ _ _ s j).trans (Eq.trans ?_ (dk_join x0 x1 x2 x4 x5 x3 1 s j))
    refine congrArg₂ (· + ·) ?_ (Finset.sum_congr rfl fun t _ => ?_)
    · unfold kernelRun0_A.sl.v206
      rw [rc_whole scM0_0 1 (by omega)]
      exact dk_diag_c a4 a5 a6 a7 a8 a9 x0 x1 x2 x3 x4 x5 s j
    · unfold kernelRun0_A.sl.r_15 kernelRun0_A.sl.r_16 kernelRun0_A.sl.r_17 kernelRun0_A.sl.r_18
      rw [pay31, pay30, pay28]
      simp only [pay29, bot3 a4 1 (by omega), whole3 a5 1 (by omega), whole3 a6 1 (by omega), bot3 a8 1 (by omega), bot3 a9 1 (by omega), bot2 a7]
      exact congrArg (· * _ * _ * _) (prob_bot x0 x1 x4 1 t s)

end Diagonal

end Cert.Kernel30Ideal.Attn

end
-- ==== Proof.AttnAcc.lean ====
/- The gradients of the latent attention's keys and values: what the accumulators hold after each step, and what the two result arrays hold at the end. -/
module

public import proofs.«01_k».proof.Proof.AttnIdx
public import proofs.«01_k».proof.Proof.AttnStep
public import Idealize.ShloMosaic.Lib.Pipeline.Value
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.Kernel30Ideal.Attn

open Cert.Kernel30Ideal Cert.Kernel30Ideal.Gen Cert.Attn

abbrev Heads := S16x8192x128.Idx → EReal
abbrev Flat := S8192x1024.Idx → EReal

abbrev f8 (n : ℕ) : Fin 8 := ⟨n % 8, Nat.mod_lt _ (by omega)⟩

/-- Row `a` of block `i`, and head `h` of pair `p`. -/
abbrev row (i : Fin 8) (a : Fin 1024) : Fin 8192 := ⟨1024 * i.val + a.val, by omega⟩
abbrev head (p : Fin 8) (h : Fin 2) : Fin 16 := ⟨2 * p.val + h.val, by omega⟩
abbrev col (p : Fin 8) (j : Fin 128) : Fin 1024 := ⟨128 * p.val + j.val, by omega⟩

/-- The tile of a pair of heads at a block of rows, of an array laid out by heads and of one laid out flat. -/
def tile (x : Heads) (p i : Fin 8) : Tile := fun y => x (ix3 (head p (y 0)) (row i (y 1)) (y 2))
def flat (x : Flat) (i p : Fin 8) : S1024x128.Idx → EReal := fun y => x (ix2 (row i (y 0)) (col p (y 1)))

variable (m : (ℓ : Loc nD τ sig) → Buf (Elt Ideal) ℓ) (ρ : Dev nD → PrngReg) (c : Dev nD)

abbrev aQ : Heads := m ((c : Thread nD τ).loc main_arg2)
abbrev aK : Heads := m ((c : Thread nD τ).loc main_arg3)
abbrev aV : Heads := m ((c : Thread nD τ).loc main_arg4)
abbrev aG : Flat := m ((c : Thread nD τ).loc main_arg5)
abbrev aL : Heads := m ((c : Thread nD τ).loc main_arg6)
abbrev aD : Heads := m ((c : Thread nD τ).loc main_arg7)

theorem lt_288 (t : Fin (cfgA 0).N) : t.val < 288 := N_eq ▸ t.isLt
theorem bounds (t : Fin (cfgA 0).N) : pT t.val < 8 ∧ qT t.val < 8 ∧ kT t.val ≤ qT t.val := ranges ⟨t.val, lt_288 t⟩

/-! The blocks read. -/

theorem blk0 (t : Fin (cfgA 0).N) : iblk 0 m ρ c (0 : Fin 8) t = tile (aQ m c) (f8 (pT t.val)) (f8 (qT t.val)) := by
  funext y
  refine congrArg (aQ m c) (funext fun b => Fin.ext ?_)
  show ((cfgA 0).win 0).index t b * S2x1024x128.size b + 1 * (y b).val = _
  rw [(index_in t).1]
  have := bounds t
  fin_cases b <;> simp [ix3, Nat.mod_eq_of_lt, this.1, this.2.1] <;> omega
theorem blk1 (t : Fin (cfgA 0).N) : iblk 0 m ρ c (1 : Fin 8) t = tile (aK m c) (f8 (pT t.val)) (f8 (kT t.val)) := by
  funext y
  refine congrArg (aK m c) (funext fun b => Fin.ext ?_)
  show ((cfgA 0).win 1).index t b * S2x1024x128.size b + 1 * (y b).val = _
  rw [(index_in t).2.1]
  have := bounds t
  have hk : kT t.val < 8 := by omega
  fin_cases b <;> simp [ix3, Nat.mod_eq_of_lt, this.1, this.2.1, hk] <;> omega
theorem blk2 (t : Fin (cfgA 0).N) : iblk 0 m ρ c (2 : Fin 8) t = tile (aV m c) (f8 (pT t.val)) (f8 (kT t.val)) := by
  funext y
  refine congrArg (aV m c) (funext fun b => Fin.ext ?_)
  show ((cfgA 0).win 2).index t b * S2x1024x128.size b + 1 * (y b).val = _
  rw [(index_in t).2.2.1]
  have := bounds t
  have hk : kT t.val < 8 := by omega
  fin_cases b <;> simp [ix3, Nat.mod_eq_of_lt, this.1, this.2.1, hk] <;> omega
theorem blk4 (t : Fin (cfgA 0).N) : iblk 0 m ρ c (4 : Fin 8) t = tile (aL m c) (f8 (pT t.val)) (f8 (qT t.val)) := by
  funext y
  refine congrArg (aL m c) (funext fun b => Fin.ext ?_)
  show ((cfgA 0).win 4).index t b * S2x1024x128.size b + 1 * (y b).val = _
  rw [(index_out t).1]
  have := bounds t
  have hk : kT t.val < 8 := by omega
  fin_cases b <;> simp [ix3, Nat.mod_eq_of_lt, this.1, this.2.1, hk] <;> omega
theorem blk5 (t : Fin (cfgA 0).N) : iblk 0 m ρ c (5 : Fin 8) t = tile (aD m c) (f8 (pT t.val)) (f8 (qT t.val)) := by
  funext y
  refine congrArg (aD m c) (funext fun b => Fin.ext ?_)
  show ((cfgA 0).win 5).index t b * S2x1024x128.size b + 1 * (y b).val = _
  rw [(index_out t).2.1]
  have := bounds t
  have hk : kT t.val < 8 := by omega
  fin_cases b <;> simp [ix3, Nat.mod_eq_of_lt, this.1, this.2.1, hk] <;> omega
theorem blk3 (t : Fin (cfgA 0).N) : iblk 0 m ρ c (3 : Fin 8) t = flat (aG m c) (f8 (qT t.val)) (f8 (pT t.val)) := by
  funext y
  refine congrArg (aG m c) (funext fun b => Fin.ext ?_)
  show ((cfgA 0).win 3).index t b * S1024x128.size b + 1 * (y b).val = _
  rw [(index_in t).2.2.2]
  have := bounds t
  fin_cases b <;> simp [ix2, Nat.mod_eq_of_lt, this.1, this.2.1] <;> omega

/-! The parts a step adds, of the whole arrays. -/

def dvStep (p j i : Fin 8) (h : Fin 2) (s : Fin 1024) (y : Fin 128) : EReal :=
  dvPart (tile (aQ m c) p i) (tile (aK m c) p j) (tile (aL m c) p i) (flat (aG m c) i p) (decide (i = j)) h s y
def dkStep (p j i : Fin 8) (h : Fin 2) (s : Fin 1024) (y : Fin 128) : EReal :=
  dkPart (tile (aQ m c) p i) (tile (aK m c) p j) (tile (aV m c) p j) (tile (aL m c) p i) (tile (aD m c) p i) (flat (aG m c) i p)
    (decide (i = j)) h s y

/-- The parts of the first `n` query blocks from the key block on. -/
def dvSum (p j n : ℕ) (h : Fin 2) (s : Fin 1024) (y : Fin 128) : EReal :=
  ∑ r ∈ Finset.range n, dvStep m c (f8 p) (f8 j) (f8 (j + r)) h s y
def dkSum (p j n : ℕ) (h : Fin 2) (s : Fin 1024) (y : Fin 128) : EReal :=
  ∑ r ∈ Finset.range n, dkStep m c (f8 p) (f8 j) (f8 (j + r)) h s y

theorem dv_first (t : Fin (cfgA 0).N) (e : qT t.val = kT t.val) (h : Fin 2) (s : Fin 1024) (y : Fin 128) :
    0 + dvPart (iblk 0 m ρ c (0 : Fin 8) t) (iblk 0 m ρ c (1 : Fin 8) t) (iblk 0 m ρ c (4 : Fin 8) t) (iblk 0 m ρ c (3 : Fin 8) t) true h s y
      = dvSum m c (pT t.val) (kT t.val) (qT t.val - kT t.val + 1) h s y := by
  rw [blk0, blk1, blk4, blk3, e, Nat.sub_self, zero_add]
  unfold dvSum dvStep
  simp
theorem dk_first (t : Fin (cfgA 0).N) (e : qT t.val = kT t.val) (h : Fin 2) (s : Fin 1024) (y : Fin 128) :
    0 + dkPart (iblk 0 m ρ c (0 : Fin 8) t) (iblk 0 m ρ c (1 : Fin 8) t) (iblk 0 m ρ c (2 : Fin 8) t) (iblk 0 m ρ c (4 : Fin 8) t)
        (iblk 0 m ρ c (5 : Fin 8) t) (iblk 0 m ρ c (3 : Fin 8) t) true h s y
      = dkSum m c (pT t.val) (kT t.val) (qT t.val - kT t.val + 1) h s y := by
  rw [blk0, blk1, blk2, blk4, blk5, blk3, e, Nat.sub_self, zero_add]
  unfold dkSum dkStep
  simp

theorem dv_next (t : Fin (cfgA 0).N) (e : qT t.val ≠ kT t.val) (h : Fin 2) (s : Fin 1024) (y : Fin 128) :
    dvSum m c (pT t.val) (kT t.val) (qT t.val - kT t.val) h s y
      + dvPart (iblk 0 m ρ c (0 : Fin 8) t) (iblk 0 m ρ c (1 : Fin 8) t) (iblk 0 m ρ c (4 : Fin 8) t) (iblk 0 m ρ c (3 : Fin 8) t) false h s y
      = dvSum m c (pT t.val) (kT t.val) (qT t.val - kT t.val + 1) h s y := by
  have b := bounds t
  rw [blk0, blk1, blk4, blk3]
  unfold dvSum
  rw [Finset.sum_range_succ, show kT t.val + (qT t.val - kT t.val) = qT t.val by omega]
  refine congrArg₂ (· + ·) rfl ?_
  unfold dvStep
  rw [decide_eq_false (fun hq => e (by have := congrArg Fin.val hq; simp at this; omega))]
theorem dk_next (t : Fin (cfgA 0).N) (e : qT t.val ≠ kT t.val) (h : Fin 2) (s : Fin 1024) (y : Fin 128) :
    dkSum m c (pT t.val) (kT t.val) (qT t.val - kT t.val) h s y
      + dkPart (iblk 0 m ρ c (0 : Fin 8) t) (iblk 0 m ρ c (1 : Fin 8) t) (iblk 0 m ρ c (2 : Fin 8) t) (iblk 0 m ρ c (4 : Fin 8) t)
        (iblk 0 m ρ c (5 : Fin 8) t) (iblk 0 m ρ c (3 : Fin 8) t) false h s y
      = dkSum m c (pT t.val) (kT t.val) (qT t.val - kT t.val + 1) h s y := by
  have b := bounds t
  rw [blk0, blk1, blk2, blk4, blk5, blk3]
  unfold dkSum
  rw [Finset.sum_range_succ, show kT t.val + (qT t.val - kT t.val) = qT t.val by omega]
  refine congrArg₂ (· + ·) rfl ?_
  unfold dkStep
  rw [decide_eq_false (fun hq => e (by have := congrArg Fin.val hq; simp at this; omega))]

/-! The accumulators after each step. -/

/-- What the two accumulators hold. -/
def Held (n : ℕ) (x0 : Buf (Elt Ideal) ((c : Thread nD τ).loc cc0_scratch0)) (x1 : Buf (Elt Ideal) ((c : Thread nD τ).loc cc0_scratch1)) (p j : ℕ) : Prop :=
  ∀ h s y, scM0_0.view.read (Elt Ideal) x0 (ix3 h s y) = dkSum m c p j n h s y ∧ scM0_1.view.read (Elt Ideal) x1 (ix3 h s y) = dvSum m c p j n h s y

theorem held_A (t : Fin (cfgA 0).N) (prev) (q0 : P0_0 0 t) (q1 : ¬P0_1 0 t) :
    Held m c (qT t.val - kT t.val + 1) (step0 0 m ρ c t prev).2.2.1 (step0 0 m ρ c t prev).2.2.2 (pT t.val) (kT t.val) := fun h s y => by
  rw [step0_A 0 m ρ c t prev q0 q1]
  unfold kernelRun0_A
  dsimp only
  constructor
  · refine Eq.trans ?_ (dk_first m ρ c t ((diag_iff t).mp q0) h s y)
    rw [View.read_writes_junk_eq_canon]
    exact dk_diag _ _ _ _ _ _ _ _ _ _ _ _ h s y
  · refine Eq.trans ?_ (dv_first m ρ c t ((diag_iff t).mp q0) h s y)
    rw [View.read_writes_junk_eq_canon]
    exact dv_diag _ _ _ _ _ _ _ _ h s y

theorem held_D (t : Fin (cfgA 0).N) (prev) (q0 : P0_0 0 t) (q1 : P0_1 0 t) :
    Held m c (qT t.val - kT t.val + 1) (step0 0 m ρ c t prev).2.2.1 (step0 0 m ρ c t prev).2.2.2 (pT t.val) (kT t.val) := fun h s y => by
  rw [step0_D 0 m ρ c t prev q0 q1]
  unfold kernelRun0_D
  dsimp only
  constructor
  · refine Eq.trans ?_ (dk_first m ρ c t ((diag_iff t).mp q0) h s y)
    rw [View.read_writes_junk_eq_canon]
    exact dk_diag _ _ _ _ _ _ _ _ _ _ _ _ h s y
  · refine Eq.trans ?_ (dv_first m ρ c t ((diag_iff t).mp q0) h s y)
    rw [View.read_writes_junk_eq_canon]
    exact dv_diag _ _ _ _ _ _ _ _ h s y

theorem held_B (t : Fin (cfgA 0).N) (prev) (q0 : ¬P0_0 0 t) (q1 : ¬P0_1 0 t)
    (hp : Held m c (qT t.val - kT t.val) prev.2.2.1 prev.2.2.2 (pT t.val) (kT t.val)) :
    Held m c (qT t.val - kT t.val + 1) (step0 0 m ρ c t prev).2.2.1 (step0 0 m ρ c t prev).2.2.2 (pT t.val) (kT t.val) := fun h s y => by
  rw [step0_B 0 m ρ c t prev q0 q1]
  unfold kernelRun0_B
  dsimp only
  have e := mt (diag_iff t).mpr q0
  constructor
  · refine Eq.trans ?_ (dk_next m ρ c t e h s y)
    rw [← (hp h s y).1]
    rw [View.read_writes_junk_eq_canon]
    exact dk_below c _ _ _ _ _ _ _ _ _ _ _ _ _ h s y
  · refine Eq.trans ?_ (dv_next m ρ c t e h s y)
    rw [← (hp h s y).2]
    rw [View.read_writes_junk_eq_canon]
    exact dv_below c _ _ _ _ _ _ _ _ _ h s y

theorem held_C (t : Fin (cfgA 0).N) (prev) (q0 : ¬P0_0 0 t) (q1 : P0_1 0 t)
    (hp : Held m c (qT t.val - kT t.val) prev.2.2.1 prev.2.2.2 (pT t.val) (kT t.val)) :
    Held m c (qT t.val - kT t.val + 1) (step0 0 m ρ c t prev).2.2.1 (step0 0 m ρ c t prev).2.2.2 (pT t.val) (kT t.val) := fun h s y => by
  rw [step0_C 0 m ρ c t prev q0 q1]
  unfold kernelRun0_C
  dsimp only
  have e := mt (diag_iff t).mpr q0
  constructor
  · refine Eq.trans ?_ (dk_next m ρ c t e h s y)
    rw [← (hp h s y).1]
    rw [View.read_writes_junk_eq_canon]
    exact dk_below c _ _ _ _ _ _ _ _ _ _ _ _ _ h s y
  · refine Eq.trans ?_ (dv_next m ρ c t e h s y)
    rw [← (hp h s y).2]
    rw [View.read_writes_junk_eq_canon]
    exact dv_below c _ _ _ _ _ _ _ _ _ h s y

theorem held (n : ℕ) (hn : n < (cfgA 0).N) :
    Held m c (qT n - kT n + 1) (traj0 0 m ρ c n hn).2.2.1 (traj0 0 m ρ c n hn).2.2.2 (pT n) (kT n) := by
  induction n with
  | zero =>
    have q0 : P0_0 0 ⟨0, hn⟩ := (diag_iff ⟨0, hn⟩).mpr rfl
    have q1 : ¬P0_1 0 ⟨0, hn⟩ := fun q => absurd ((last_iff ⟨0, hn⟩).mp q) (by decide : ¬qT 0 = 7)
    exact held_A m ρ c ⟨0, hn⟩ _ q0 q1
  | succ n ih =>
    have back : ¬P0_0 0 ⟨n + 1, hn⟩ → Held m c (qT (n + 1) - kT (n + 1)) (traj0 0 m ρ c n (Nat.lt_of_succ_lt hn)).2.2.1
        (traj0 0 m ρ c n (Nat.lt_of_succ_lt hn)).2.2.2 (pT (n + 1)) (kT (n + 1)) := fun q0 => by
      obtain ⟨_, b1, b2, b3⟩ := before ⟨n + 1, lt_288 ⟨n + 1, hn⟩⟩ (mt (diag_iff ⟨n + 1, hn⟩).mpr q0)
      have b := bounds ⟨n, Nat.lt_of_succ_lt hn⟩
      simp only [Nat.add_sub_cancel] at b1 b2 b3 b
      have := ih (Nat.lt_of_succ_lt hn)
      rw [← b1, ← b2, b3, show qT n + 1 - kT n = qT n - kT n + 1 by omega]
      exact this
    show Held m c _ (step0 0 m ρ c ⟨n + 1, hn⟩ (traj0 0 m ρ c n (Nat.lt_of_succ_lt hn))).2.2.1
      (step0 0 m ρ c ⟨n + 1, hn⟩ (traj0 0 m ρ c n (Nat.lt_of_succ_lt hn))).2.2.2 _ _
    by_cases q0 : P0_0 0 ⟨n + 1, hn⟩
    · by_cases q1 : P0_1 0 ⟨n + 1, hn⟩
      · exact held_D m ρ c ⟨n + 1, hn⟩ _ q0 q1
      · exact held_A m ρ c ⟨n + 1, hn⟩ _ q0 q1
    · by_cases q1 : P0_1 0 ⟨n + 1, hn⟩
      · exact held_C m ρ c ⟨n + 1, hn⟩ _ q0 q1 (back q0)
      · exact held_B m ρ c ⟨n + 1, hn⟩ _ q0 q1 (back q0)

/-! The result blocks of a last step. -/

/-- A head keeps its own half of the columns. -/
def own (h y : ℕ) (x : EReal) : EReal := if 64 * h ≤ y ∧ y < 64 * h + 64 then x else 0

theorem rc_all {e : EltTy} (a : Memref sig .tc .vmem S2x1024x128 e)
    (inb : ∀ a, (![0, 0, 0] : Fin 3 → ℕ) a + S2x1024x128.size a ≤ S2x1024x128.size a)
    (L : List (View.Piece (Elt Ideal) S2x1024x128 e)) (y : S2x1024x128.Idx) :
    a.view.readCov L (Rect.unit (s := S2x1024x128) ![0, 0, 0] S2x1024x128.size inb).toLoadRect y = View.canon L y := by
  rw [View.readCov_eq_canon']
  refine congrArg (View.canon L) (funext fun b => Fin.ext ?_)
  show ((Rect.unit (s := S2x1024x128) ![0, 0, 0] S2x1024x128.size inb).emb y b).val = _
  rw [Rect.emb_apply]
  fin_cases b <;> simp [Rect.unit]

theorem own_first (h : Fin 2) (hh : h.val = 0) (y : Fin 128) (x : EReal) : (if y.val < 64 then x else 0) = own h.val y.val x := by
  unfold own; rw [hh]; congr 1; simp
theorem own_second (h : Fin 2) (hh : h.val = 1) (y : Fin 128) (x : EReal) : (if y.val < 64 then 0 else x) = own h.val y.val x := by
  unfold own; rw [hh, ← ite_not]; have := y.isLt; congr 1; simp

theorem out_C (t : Fin (cfgA 0).N) (prev) (q0 : ¬P0_0 0 t) (q1 : P0_1 0 t) (h : Fin 2) (s : Fin 1024) (y : Fin 128) :
    (step0 0 m ρ c t prev).1 (ix3 h s y) = scM0_0.view.read (Elt Ideal) (step0 0 m ρ c t prev).2.2.1 (ix3 h s y)
    ∧ (step0 0 m ρ c t prev).2.1 (ix3 h s y) = own h.val y.val (scM0_1.view.read (Elt Ideal) (step0 0 m ρ c t prev).2.2.2 (ix3 h s y)) := by
  rw [step0_C 0 m ρ c t prev q0 q1]
  unfold out0_C_6 out0_C_7 kernelRun0_C
  dsimp only
  rw [View.read_writes_junk_eq_canon, View.read_writes_junk_eq_canon, View.read_writes_junk_eq_canon, View.read_writes_junk_eq_canon]
  constructor
  · unfold kernelRun0_C.sl.HO6_1
    rw [View.canon_unit_zero zero3]
    refine (pay4 _ _).trans ?_
    unfold kernelRun0_C.sl.v14
    exact rc_all scM0_0 _ _ _
  · unfold kernelRun0_C.sl.HO7_2
    match h with
    | ⟨0, _⟩ =>
      refine ((miss 1 1024 _ _ _ _ s y (Or.inl Nat.zero_ne_one)).trans (hit 0 1024 (by omega) (by omega) _ _ _ s s.isLt y)).trans ?_
      refine (pay5 _ s y).trans (Eq.trans ?_ (own_first 0 rfl y _))
      unfold kernelRun0_C.sl.v19
      rw [rc_whole scM0_1 0 (by omega)]
    | ⟨1, _⟩ =>
      refine (hit 1 1024 (by omega) (by omega) _ _ _ s s.isLt y).trans ?_
      refine (pay6 _ s y).trans (Eq.trans ?_ (own_second 1 rfl y _))
      unfold kernelRun0_C.sl.v29
      rw [rc_whole scM0_1 1 (by omega)]

theorem out_D (t : Fin (cfgA 0).N) (prev) (q0 : P0_0 0 t) (q1 : P0_1 0 t) (h : Fin 2) (s : Fin 1024) (y : Fin 128) :
    (step0 0 m ρ c t prev).1 (ix3 h s y) = scM0_0.view.read (Elt Ideal) (step0 0 m ρ c t prev).2.2.1 (ix3 h s y)
    ∧ (step0 0 m ρ c t prev).2.1 (ix3 h s y) = own h.val y.val (scM0_1.view.read (Elt Ideal) (step0 0 m ρ c t prev).2.2.2 (ix3 h s y)) := by
  rw [step0_D 0 m ρ c t prev q0 q1]
  unfold out0_D_6 out0_D_7 kernelRun0_D
  dsimp only
  rw [View.read_writes_junk_eq_canon, View.read_writes_junk_eq_canon, View.read_writes_junk_eq_canon, View.read_writes_junk_eq_canon]
  constructor
  · unfold kernelRun0_D.sl.HO6_1
    rw [View.canon_unit_zero zero3]
    refine (pay4 _ _).trans ?_
    unfold kernelRun0_D.sl.v14
    exact rc_all scM0_0 _ _ _
  · unfold kernelRun0_D.sl.HO7_2
    match h with
    | ⟨0, _⟩ =>
      refine ((miss 1 1024 _ _ _ _ s y (Or.inl Nat.zero_ne_one)).trans (hit 0 1024 (by omega) (by omega) _ _ _ s s.isLt y)).trans ?_
      refine (pay5 _ s y).trans (Eq.trans ?_ (own_first 0 rfl y _))
      unfold kernelRun0_D.sl.v19
      rw [rc_whole scM0_1 0 (by omega)]
    | ⟨1, _⟩ =>
      refine (hit 1 1024 (by omega) (by omega) _ _ _ s s.isLt y).trans ?_
      refine (pay6 _ s y).trans (Eq.trans ?_ (own_second 1 rfl y _))
      unfold kernelRun0_D.sl.v29
      rw [rc_whole scM0_1 1 (by omega)]

theorem out (t : Fin (cfgA 0).N) (q1 : qT t.val = 7) (h : Fin 2) (s : Fin 1024) (y : Fin 128) :
    (traj0 0 m ρ c t.val t.isLt).1 (ix3 h s y) = dkSum m c (pT t.val) (kT t.val) (7 - kT t.val + 1) h s y
    ∧ (traj0 0 m ρ c t.val t.isLt).2.1 (ix3 h s y) = own h.val y.val (dvSum m c (pT t.val) (kT t.val) (7 - kT t.val + 1) h s y) := by
  have hh := held m ρ c t.val t.isLt h s y
  rw [q1] at hh
  rw [← hh.1, ← hh.2, traj0_eq]
  have q := (last_iff t).mpr q1
  by_cases q0 : P0_0 0 t
  · exact out_D m ρ c t _ q0 q h s y
  · exact out_C m ρ c t _ q0 q h s y

/-! The result arrays. -/

/-- The gradients of the keys and of the values. -/
def valK : Heads := fun i => dkSum m c ((i 0).val / 2) ((i 1).val / 1024) (7 - (i 1).val / 1024 + 1) ⟨(i 0).val % 2, Nat.mod_lt _ (by omega)⟩
  ⟨(i 1).val % 1024, Nat.mod_lt _ (by omega)⟩ (i 2)
def valV : Heads := fun i => own ((i 0).val % 2) (i 2).val (dvSum m c ((i 0).val / 2) ((i 1).val / 1024) (7 - (i 1).val / 1024 + 1)
  ⟨(i 0).val % 2, Nat.mod_lt _ (by omega)⟩ ⟨(i 1).val % 1024, Nat.mod_lt _ (by omega)⟩ (i 2))

theorem valK_at (p j : Fin 8) (h : Fin 2) (s : Fin 1024) (y : Fin 128) :
    valK m c (ix3 (head p h) (row j s) y) = dkSum m c p.val j.val (7 - j.val + 1) h s y := by
  show dkSum m c ((2 * p.val + h.val) / 2) ((1024 * j.val + s.val) / 1024) (7 - (1024 * j.val + s.val) / 1024 + 1)
    ⟨(2 * p.val + h.val) % 2, _⟩ ⟨(1024 * j.val + s.val) % 1024, _⟩ y = _
  rw [show (2 * p.val + h.val) / 2 = p.val by omega, show (1024 * j.val + s.val) / 1024 = j.val by omega]
  exact congrArg₂ (fun a b => dkSum m c p.val j.val (7 - j.val + 1) a b y) (Fin.ext (by show _ % 2 = _; omega)) (Fin.ext (by show _ % 1024 = _; omega))
theorem valV_at (p j : Fin 8) (h : Fin 2) (s : Fin 1024) (y : Fin 128) :
    valV m c (ix3 (head p h) (row j s) y) = own h.val y.val (dvSum m c p.val j.val (7 - j.val + 1) h s y) := by
  show own ((2 * p.val + h.val) % 2) y.val (dvSum m c ((2 * p.val + h.val) / 2) ((1024 * j.val + s.val) / 1024)
    (7 - (1024 * j.val + s.val) / 1024 + 1) ⟨(2 * p.val + h.val) % 2, _⟩ ⟨(1024 * j.val + s.val) % 1024, _⟩ y) = _
  rw [show (2 * p.val + h.val) / 2 = p.val by omega, show (1024 * j.val + s.val) / 1024 = j.val by omega]
  exact congrArg₂ (own · y.val ·) (by omega) (congrArg₂ (fun a b => dvSum m c p.val j.val (7 - j.val + 1) a b y)
    (Fin.ext (by show _ % 2 = _; omega)) (Fin.ext (by show _ % 1024 = _; omega)))

theorem eta3 (y : S2x1024x128.Idx) : y = ix3 (y 0) (y 1) (y 2) := by funext b; fin_cases b <;> rfl

theorem flushed6 (t : Fin (cfgA 0).N) (hf : ((cfgA 0).win (6 : Fin 8)).flush t = true) :
    (dats 0 m ρ 0 c).flushed (6 : Fin 8) t = (((cfgA 0).win (6 : Fin 8)).blk t).view.read (Elt Ideal) (valK m c) := by
  have q := (flush_iff t).1.mp hf
  have b := bounds t
  have hk : kT t.val < 8 := by omega
  refine funext fun (y : S2x1024x128.Idx) => ?_
  have e := eta3 y
  have hr : (((cfgA 0).win (6 : Fin 8)).blk t).view.read (Elt Ideal) (valK m c) y
      = valK m c (ix3 (head (f8 (pT t.val)) (y 0)) (row (f8 (kT t.val)) (y 1)) (y 2)) := by
    refine congrArg (valK m c) (funext fun b => Fin.ext ?_)
    show ((cfgA 0).win 6).index t b * S2x1024x128.size b + 1 * (y b).val = _
    rw [(index_out t).2.2.1]
    have := bounds t
    have hk : kT t.val < 8 := by omega
    fin_cases b <;> simp [ix3, Nat.mod_eq_of_lt, this.1, hk] <;> omega
  refine Eq.trans ?_ (hr.trans (valK_at m c _ _ _ _ _)).symm
  show (traj0 0 m ρ c t.val t.isLt).1 y = _
  rw [e]
  refine (out m ρ c t q (y 0) (y 1) (y 2)).1.trans ?_
  simp only [Nat.mod_eq_of_lt b.1, Nat.mod_eq_of_lt hk]
  rfl

theorem cover6 (i : S16x8192x128.Idx) :
    ∃ t : Fin (cfgA 0).N, ((cfgA 0).win (6 : Fin 8)).flush t = true ∧ i ∈ (((cfgA 0).win (6 : Fin 8)).blk t).view.set := by
  have i0 : (i 0).val < 16 := (i 0).isLt
  have i1 : (i 1).val < 8192 := (i 1).isLt
  have i2 : (i 2).val < 128 := (i 2).isLt
  obtain ⟨n, n0, n1, n2⟩ := last ⟨(i 0).val / 2, by omega⟩ ⟨(i 1).val / 1024, by omega⟩
  let t0 : Fin (cfgA 0).N := ⟨n.val, by rw [N_eq]; exact n.isLt⟩
  refine ⟨t0, (flush_iff t0).1.mpr n2, ?_⟩
  show i ∈ ((View.whole main_v0_0).slice (((cfgA 0).win (6 : Fin 8)).rect t0)).set
  erw [View.set_slice_whole]
  refine (Pipeline.Window.mem_rect_iff ((cfgA 0).win (6 : Fin 8)) t0 i (by rfl)).mpr fun a => ?_
  show ((cfgA 0).win 6).index t0 a * S2x1024x128.size a ≤ (i a).val
    ∧ (i a).val < ((cfgA 0).win 6).index t0 a * S2x1024x128.size a + S2x1024x128.size a
  rw [(index_out t0).2.2.1]
  simp only at n0 n1
  match a with
  | ⟨0, _⟩ => show pT n.val * 2 ≤ (i 0).val ∧ (i 0).val < pT n.val * 2 + 2; rw [n0]; omega
  | ⟨1, _⟩ => show kT n.val * 1024 ≤ (i 1).val ∧ (i 1).val < kT n.val * 1024 + 1024; rw [n1]; omega
  | ⟨2, _⟩ => show 0 * 128 ≤ (i 2).val ∧ (i 2).val < 0 * 128 + 128; omega

theorem final6 : (dats 0 m ρ 0 c).arrAt (6 : Fin 8) (cfgA 0).N = valK m c :=
  (dats 0 m ρ 0 c).arrAt_eq_of_cover (6 : Fin 8) (valK m c) (fun t h => flushed6 m ρ c t h) cover6

theorem flushed7 (t : Fin (cfgA 0).N) (hf : ((cfgA 0).win (7 : Fin 8)).flush t = true) :
    (dats 0 m ρ 0 c).flushed (7 : Fin 8) t = (((cfgA 0).win (7 : Fin 8)).blk t).view.read (Elt Ideal) (valV m c) := by
  have q := (flush_iff t).2.mp hf
  have b := bounds t
  have hk : kT t.val < 8 := by omega
  refine funext fun (y : S2x1024x128.Idx) => ?_
  have e := eta3 y
  have hr : (((cfgA 0).win (7 : Fin 8)).blk t).view.read (Elt Ideal) (valV m c) y
      = valV m c (ix3 (head (f8 (pT t.val)) (y 0)) (row (f8 (kT t.val)) (y 1)) (y 2)) := by
    refine congrArg (valV m c) (funext fun b => Fin.ext ?_)
    show ((cfgA 0).win 7).index t b * S2x1024x128.size b + 1 * (y b).val = _
    rw [(index_out t).2.2.2]
    have := bounds t
    have hk : kT t.val < 8 := by omega
    fin_cases b <;> simp [ix3, Nat.mod_eq_of_lt, this.1, hk] <;> omega
  refine Eq.trans ?_ (hr.trans (valV_at m c _ _ _ _ _)).symm
  show (traj0 0 m ρ c t.val t.isLt).2.1 y = _
  rw [e]
  refine (out m ρ c t q (y 0) (y 1) (y 2)).2.trans ?_
  simp only [Nat.mod_eq_of_lt b.1, Nat.mod_eq_of_lt hk]
  rfl

theorem cover7 (i : S16x8192x128.Idx) :
    ∃ t : Fin (cfgA 0).N, ((cfgA 0).win (7 : Fin 8)).flush t = true ∧ i ∈ (((cfgA 0).win (7 : Fin 8)).blk t).view.set := by
  have i0 : (i 0).val < 16 := (i 0).isLt
  have i1 : (i 1).val < 8192 := (i 1).isLt
  have i2 : (i 2).val < 128 := (i 2).isLt
  obtain ⟨n, n0, n1, n2⟩ := last ⟨(i 0).val / 2, by omega⟩ ⟨(i 1).val / 1024, by omega⟩
  let t0 : Fin (cfgA 0).N := ⟨n.val, by rw [N_eq]; exact n.isLt⟩
  refine ⟨t0, (flush_iff t0).2.mpr n2, ?_⟩
  show i ∈ ((View.whole main_v0_1).slice (((cfgA 0).win (7 : Fin 8)).rect t0)).set
  erw [View.set_slice_whole]
  refine (Pipeline.Window.mem_rect_iff ((cfgA 0).win (7 : Fin 8)) t0 i (by rfl)).mpr fun a => ?_
  show ((cfgA 0).win 7).index t0 a * S2x1024x128.size a ≤ (i a).val
    ∧ (i a).val < ((cfgA 0).win 7).index t0 a * S2x1024x128.size a + S2x1024x128.size a
  rw [(index_out t0).2.2.2]
  simp only at n0 n1
  match a with
  | ⟨0, _⟩ => show pT n.val * 2 ≤ (i 0).val ∧ (i 0).val < pT n.val * 2 + 2; rw [n0]; omega
  | ⟨1, _⟩ => show kT n.val * 1024 ≤ (i 1).val ∧ (i 1).val < kT n.val * 1024 + 1024; rw [n1]; omega
  | ⟨2, _⟩ => show 0 * 128 ≤ (i 2).val ∧ (i 2).val < 0 * 128 + 128; omega

theorem final7 : (dats 0 m ρ 0 c).arrAt (7 : Fin 8) (cfgA 0).N = valV m c :=
  (dats 0 m ρ 0 c).arrAt_eq_of_cover (7 : Fin 8) (valV m c) (fun t h => flushed7 m ρ c t h) cover7

end Cert.Kernel30Ideal.Attn

end
-- ==== Proof.AttnLaw.lean ====
/- The gradients of the latent attention's keys and values: the exponential to base two and the natural one, and the constants of the reference. -/
module

public import proofs.«01_k».proof.Proof.AttnPay

@[expose] public section

noncomputable section

open Idealize.ShloMosaic

namespace Cert.Attn

theorem ofBits_96 : Ideal.ofBits .f32 0x42C00000#32 = ((96 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_bot : Ideal.ofBits .f32 0xFF800000#32 = (⊥ : EReal) := by
  simp [Ideal.ofBits, Ideal.ieee, -EReal.coe_mul]
theorem ofBits_0 : Ideal.ofBits .f32 0x00000000#32 = (0 : EReal) := by
  simp [Ideal.ofBits, Ideal.ieee, -EReal.coe_mul]

theorem sqrt_96 : Ideal.sqrt ((96 : ℝ) : EReal) = ((Real.sqrt 96 : ℝ) : EReal) := by
  rw [Ideal.sqrt_coe, if_neg (by norm_num)]
theorem log_2 : Ideal.log ((2 : ℝ) : EReal) = ((Real.log 2 : ℝ) : EReal) := by
  rw [Ideal.log_coe, if_neg (by norm_num)]

theorem log2_pos : 0 < Real.log 2 := Real.log_pos (by norm_num)
theorem root_pos : 0 < Real.sqrt 96 := Real.sqrt_pos.mpr (by norm_num)

theorem over_root (x : EReal) : Ideal.div x ((Real.sqrt 96 : ℝ) : EReal) = x * cs := by
  rw [Ideal.div_coe root_pos.ne', one_div]

/-- Base two is the natural exponential of a multiple. -/
theorem exp2_eq (x : EReal) : Ideal.exp2 x = Ideal.exp (x * ((Real.log 2 : ℝ) : EReal)) := by
  induction x with
  | bot => rw [EReal.bot_mul_coe_of_pos log2_pos]; rfl
  | top => rw [EReal.top_mul_coe_of_pos log2_pos]; rfl
  | coe r =>
    rw [← EReal.coe_mul, Ideal.exp2_coe, Ideal.exp_coe]
    congr 1
    show (2 : ℝ) ^ r = _
    rw [Real.rpow_def_of_pos (by norm_num), mul_comm]

/-- The statistics are kept to base two: the two ways of writing a probability agree. -/
theorem exp_law (s l : EReal) :
    Ideal.exp (s * cs - l * ((Real.log 2 : ℝ) : EReal)) = Ideal.exp2 (s * cs2 - l) := by
  rw [exp2_eq]
  congr 1
  have h2 : (0 : EReal) ≤ ((Real.log 2 : ℝ) : EReal) := by exact_mod_cast log2_pos.le
  have e : cs2 * ((Real.log 2 : ℝ) : EReal) = cs := by
    rw [← EReal.coe_mul]
    congr 1
    rw [mul_assoc, inv_mul_cancel₀ log2_pos.ne', mul_one]
  rw [sub_eq_add_neg, sub_eq_add_neg, EReal.right_distrib_of_nonneg_of_ne_top h2 (EReal.coe_ne_top _), neg_mul, mul_assoc, e]

/-- A masked score has probability zero, whatever the statistic. -/
theorem exp_masked (l : EReal) : Ideal.exp (⊥ - l) = 0 := by
  rw [sub_eq_add_neg, EReal.bot_add]; rfl

theorem sle_far (a b : ℕ) (ha : a < 65536) (hb : b < 65536) :
    IntOp.cmpi .sle (BitVec.ofNat 32 a) (BitVec.ofNat 32 b) = if a ≤ b then 1#1 else 0#1 := by
  have e : (BitVec.ofNat 32 a).sle (BitVec.ofNat 32 b) = decide (a ≤ b) := by
    have h (n : ℕ) (hn : n < 65536) : (BitVec.ofNat 32 n).toInt = (n : ℤ) := by
      rw [BitVec.toInt_eq_toNat_of_lt (by rw [BitVec.toNat_ofNat]; omega), BitVec.toNat_ofNat]
      congr 1
      omega
    rw [BitVec.sle_eq_decide, h a ha, h b hb]
    simp
  show BitVec.ofBool _ = _
  by_cases h : a ≤ b <;> simp [e, h]

end Cert.Attn

end
-- ==== Proof.AttnRef.lean ====
/- The gradients of the latent attention's keys and values: the two arrays of the reference, read at an index. -/
module

public import proofs.«01_k».proof.Proof.AttnLaw
public import proofs.«01_k».proof.Proof.Gen.Reference30Ideal.Run
public import Idealize.ShloMosaic.Lib.Pointwise

@[expose] public section

set_option maxRecDepth 16384

noncomputable section

open Idealize.ShloMosaic Idealize.ShloMosaic.TcCoe Idealize.SL.Sem

namespace Cert.Reference30Ideal.Attn

open Cert.Reference30Ideal Cert.Reference30Ideal.Gen Cert.Attn

variable (q k v : FVec Ideal S16x8192x128 .bf16) (g : FVec Ideal S8192x1024 .bf16) (l d : FVec Ideal S16x8192x128 .f32)

/-- Where a key does not lie after the query. -/
def maskA : IVec S16x8192x8192 1 := broadcastInDim S16x8192x8192 ![1, 2] bcast_S8192x8192_S16x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The scores, and the root that divides them. -/
def rootA : FVec Ideal S16x8192x8192 .f32 := broadcastInDim S16x8192x8192 ![] bcast_S_S16x8192x8192 (Host.sqrt (constant S_ .f32 0x42C00000#32))
def scoreA : FVec Ideal S16x8192x8192 .f32 := Host.dotGeneral dot_S16x8192x128_S16x8192x128_S16x8192x8192_2_2_1_1_0_0 none (extf .f32 q bitsLt_bf16_f32) (extf .f32 k bitsLt_bf16_f32)

/-- The rows' statistics, to the natural base. -/
def statA : FVec Ideal S16x8192x8192 .f32 := broadcastInDim S16x8192x8192 ![0, 1, 2] bcast_S16x8192x1_S16x8192x8192_0_1_2 (mulf (extractStridedSlice S16x8192x1 ![0, 0, 0] l slices_S16x8192x128_S16x8192x1_0_0_0) (broadcastInDim S16x8192x1 ![] bcast_S_S16x8192x1 (Host.log (constant S_ .f32 0x40000000#32))))

/-- The probabilities. -/
def probA : FVec Ideal S16x8192x8192 .f32 := Host.exp (subf (select maskA (Host.divf (scoreA q k) rootA) (broadcastInDim S16x8192x8192 ![] bcast_S_S16x8192x8192 (id (constant S_ .f32 0xFF800000#32)))) (statA l))

/-- The gradient of the output, head by head. -/
def gradA : FVec Ideal S16x8192x128 .f32 := shapeCast _ (broadcastInDim S8x2x8192x128 ![0, 2, 3] bcast_S8x8192x128_S8x2x8192x128_0_2_3 (transpose S8x8192x128 [1, 0, 2] (shapeCast _ (extf .f32 g bitsLt_bf16_f32) shapeCasts_S8192x1024_S8192x8x128) transposes_S8192x8x128_S8x8192x128_1_0_2)) shapeCasts_S8x2x8192x128_S16x8192x128

/-- The gradient of the probabilities. -/
def dprobA : FVec Ideal S16x8192x8192 .f32 := addf (broadcastInDim S16x8192x8192 ![0, 1] bcast_S16x8192_S16x8192x8192_0_1 (Host.negf (shapeCast _ (extractStridedSlice S16x8192x1 ![0, 0, 0] d slices_S16x8192x128_S16x8192x1_0_0_0) shapeCasts_S16x8192x1_S16x8192))) (Host.dotGeneral dot_S16x8192x128_S16x8192x128_S16x8192x8192_2_2_1_1_0_0 none (gradA g) (extf .f32 v bitsLt_bf16_f32))

/-- The gradient of the scores. -/
def dscoreA : FVec Ideal S16x8192x8192 .f32 := Host.divf (select maskA (mulf (dprobA v g d) (probA q k l)) (broadcastInDim S16x8192x8192 ![] bcast_S_S16x8192x8192 (constant S_ .f32 0x00000000#32))) rootA

/-- The gradient of the keys. -/
def dkA : FVec Ideal S16x8192x128 .bf16 := truncf .bf16 (Host.dotGeneral dot_S16x8192x8192_S16x8192x128_S16x8192x128_1_1_2_2_0_0 none (dscoreA q k v g l d) (extf .f32 q bitsLt_bf16_f32)) bitsLt_bf16_f32

/-- Where a column is in the head's own half. -/
def ownA : IVec S8x2x8192x128 1 := broadcastInDim S8x2x8192x128 ![1, 2, 3] bcast_S2x1x128_S8x2x8192x128_1_2_3 (andi (cmpi .sge (broadcastInDim S2x1x128 ![0, 1, 2] bcast_S1x1x128_S2x1x128_0_1_2 (broadcastInDim S1x1x128 ![2] bcast_S128_S1x1x128_2 (iotaInDim S128 32 0))) (broadcastInDim S2x1x128 ![0, 1, 2] bcast_S2x1x1_S2x1x128_0_1_2 (muli (broadcastInDim S2x1x1 ![0] bcast_S2_S2x1x1_0 (iotaInDim S2 32 0)) (broadcastInDim S2x1x1 ![] bcast_S_S2x1x1 (constantI S_ 32 64#32))))) (cmpi .slt (broadcastInDim S2x1x128 ![0, 1, 2] bcast_S1x1x128_S2x1x128_0_1_2 (broadcastInDim S1x1x128 ![2] bcast_S128_S1x1x128_2 (iotaInDim S128 32 0))) (broadcastInDim S2x1x128 ![0, 1, 2] bcast_S2x1x1_S2x1x128_0_1_2 (addi (muli (broadcastInDim S2x1x1 ![0] bcast_S2_S2x1x1_0 (iotaInDim S2 32 0)) (broadcastInDim S2x1x1 ![] bcast_S_S2x1x1 (constantI S_ 32 64#32))) (broadcastInDim S2x1x1 ![] bcast_S_S2x1x1 (constantI S_ 32 64#32))))))

/-- The gradient of the values before the halves are kept apart. -/
def dvAllA : FVec Ideal S16x8192x128 .f32 := transpose S16x8192x128 [0, 2, 1] (Host.dotGeneral dot_S16x8192x128_S16x8192x8192_S16x128x8192_1_1_2_2_0_0 none (gradA g) (probA q k l)) transposes_S16x128x8192_S16x8192x128_0_2_1

/-- The gradient of the values. -/
def dvA : FVec Ideal S16x8192x128 .bf16 := truncf .bf16 (shapeCast _ (select ownA (shapeCast _ (dvAllA q k g l) shapeCasts_S16x8192x128_S8x2x8192x128) (broadcastInDim S8x2x8192x128 ![] bcast_S_S8x2x8192x128 (id (constant S_ .f32 0x00000000#32)))) shapeCasts_S8x2x8192x128_S16x8192x128) bitsLt_bf16_f32

variable (b : Fin 16) (t s : Fin 8192) (j : Fin 128)

theorem maskA_at : maskA (ix3 b t s) = if s.val ≤ t.val then 1#1 else 0#1 := by
  unfold maskA; pointwise
  exact sle_far _ _ (by omega) (by omega)
theorem rootA_at : rootA (ix3 b t s) = ((Real.sqrt 96 : ℝ) : EReal) := by
  unfold rootA
  refine Eq.trans ?_ sqrt_96
  exact congrArg Ideal.sqrt ofBits_96
theorem scoreA_at : scoreA q k (ix3 b t s) = ∑ e : Fin 128, q (ix3 b t e) * k (ix3 b s e) := by
  unfold scoreA; pointwise
theorem statA_at : statA l (ix3 b t s) = l (ix3 b t 0) * ((Real.log 2 : ℝ) : EReal) := by
  unfold statA; pointwise
  exact congrArg (l (ix3 b t 0) * ·) ((congrArg Ideal.log ofBits_2).trans log_2)
/-- Column `j` of the pair that head `b` is in. -/
abbrev own2 : Fin 1024 := ⟨b.val / 2 * 128 + j.val, by omega⟩

theorem gradA_at : gradA g (ix3 b t j) = g (ix2 t (own2 b j)) := by
  unfold gradA; pointwise

/-- A probability, and the gradient of a probability, by their definitions. -/
abbrev P : EReal := prob (s.val ≤ t.val) (∑ e : Fin 128, q (ix3 b t e) * k (ix3 b s e)) (l (ix3 b t 0))
abbrev dP : EReal := ∑ e : Fin 128, g (ix2 t (own2 b e)) * v (ix3 b s e) - d (ix3 b t 0)

theorem probA_at : probA q k l (ix3 b t s) = P q k l b t s := by
  unfold probA; pointwise
  rw [maskA_at, statA_at, scoreA_at, rootA_at]
  by_cases h : s.val ≤ t.val
  · rw [if_pos h]
    refine Eq.trans ?_ (if_pos h).symm
    rw [← exp_law]
    exact congrArg (fun x => Ideal.exp (x - _)) (over_root _)
  · rw [if_neg h]
    refine Eq.trans ?_ (if_neg h).symm
    refine Eq.trans ?_ (exp_masked (l (ix3 b t 0) * ((Real.log 2 : ℝ) : EReal)))
    exact congrArg (fun x => Ideal.exp (x - _)) ofBits_bot

theorem dprobA_at : dprobA v g d (ix3 b t s) = dP v g d b t s := by
  unfold dprobA; pointwise
  simp only [gradA_at]
  rw [add_comm, ← sub_eq_add_neg]

theorem dscoreA_at : dscoreA q k v g l d (ix3 b t s) = P q k l b t s * dP v g d b t s * cs := by
  unfold dscoreA; pointwise
  rw [maskA_at, rootA_at, dprobA_at, probA_at]
  refine (over_root _).trans (congrArg (· * cs) ?_)
  by_cases h : s.val ≤ t.val
  · rw [if_pos h]
    exact mul_comm _ _
  · rw [if_neg h, P, prob_neg _ h, zero_mul]
    first | rfl | exact ofBits_0

theorem dkA_at : dkA q k v g l d (ix3 b s j) = ∑ t : Fin 8192, P q k l b t s * dP v g d b t s * cs * q (ix3 b t j) := by
  unfold dkA; pointwise
  simp only [dscoreA_at]

theorem dvAllA_at : dvAllA q k g l (ix3 b s j) = ∑ t : Fin 8192, P q k l b t s * g (ix2 t (own2 b j)) := by
  unfold dvAllA; pointwise
  simp only [gradA_at, probA_at]
  exact Finset.sum_congr rfl fun t _ => mul_comm _ _

theorem ownA_at (p : Fin 8) (h : Fin 2) : ownA (ix4 p h s j) = if 64 * h.val ≤ j.val ∧ j.val < 64 * h.val + 64 then 1#1 else 0#1 := by
  unfold ownA; pointwise
  revert h j
  decide +kernel

theorem dvA_at : dvA q k g l (ix3 b s j) = if 64 * (b.val % 2) ≤ j.val ∧ j.val < 64 * (b.val % 2) + 64
    then ∑ t : Fin 8192, P q k l b t s * g (ix2 t (own2 b j)) else 0 := by
  unfold dvA; pointwise
  rw [ownA_at, dvAllA_at]
  by_cases h : 64 * (b.val % 2) ≤ j.val ∧ j.val < 64 * (b.val % 2) + 64
  · rw [if_pos h, if_pos h]
    rfl
  · rw [if_neg h, if_neg h]
    exact ofBits_0

end Cert.Reference30Ideal.Attn

end
-- ==== Proof.AttnMeet.lean ====
/- The gradients of the latent attention's keys and values: the sum over the query blocks from the key block on is the sum over all the queries. -/
module

public import proofs.«01_k».proof.Proof.AttnAcc
public import proofs.«01_k».proof.Proof.AttnRef

@[expose] public section

set_option maxRecDepth 16384

noncomputable section

open Idealize.ShloMosaic Idealize.ShloMosaic.TcCoe Idealize.SL.Sem

namespace Cert.Kernel30Ideal.Attn

open Cert.Kernel30Ideal Cert.Kernel30Ideal.Gen Cert.Attn

/-- A sum over all the rows, block by block. -/
theorem by_blocks (f : Fin 8192 → EReal) : ∑ t, f t = ∑ i : Fin 8, ∑ a : Fin 1024, f (row i a) :=
  (Fin.sum_mul_add_congr fun i a hl => congrArg f (Fin.ext (by show 1024 * i.val + a.val = i.val * 1024 + a.val; omega))).symm

/-- A sum over the blocks where those before block `j` add nothing. -/
theorem from_block (S : Fin 8 → EReal) (j : Fin 8) (h0 : ∀ i : Fin 8, i.val < j.val → S i = 0) :
    ∑ i : Fin 8, S i = ∑ r ∈ Finset.range (7 - j.val + 1), S (f8 (j.val + r)) := by
  have e1 : ∑ i : Fin 8, S i = ∑ n ∈ Finset.range 8, S (f8 n) := by
    rw [← Fin.sum_univ_eq_sum_range (fun n => S (f8 n)) 8]
    exact Finset.sum_congr rfl fun i _ => congrArg S (Fin.ext (Nat.mod_eq_of_lt i.isLt).symm)
  have e2 : Finset.range 8 = Finset.range (j.val + (7 - j.val + 1)) := congrArg Finset.range (by omega)
  rw [e1, e2, Finset.sum_range_add]
  refine (congrArg (· + _) (Finset.sum_eq_zero fun n hn => h0 _ ?_)).trans (zero_add _)
  have := Finset.mem_range.mp hn
  show n % 8 < j.val
  omega

theorem live_iff (i j : Fin 8) (h : j.val ≤ i.val) (a s : Fin 1024) : live (decide (i = j)) a.val s.val ↔ (row j s).val ≤ (row i a).val := by
  show (decide (i = j) = true → s.val ≤ a.val) ↔ 1024 * j.val + s.val ≤ 1024 * i.val + a.val
  rw [decide_eq_true_iff, Fin.ext_iff]
  omega

theorem own2_head (p : Fin 8) (h : Fin 2) (e : Fin 128) : Cert.Reference30Ideal.Attn.own2 (head p h) e = col p e :=
  Fin.ext (by show (2 * p.val + h.val) / 2 * 128 + e.val = 128 * p.val + e.val; omega)

variable (m : (ℓ : Loc nD τ sig) → Buf (Elt Ideal) ℓ) (c : Dev nD)

/-- A probability of the whole arrays is a probability of the tile. -/
theorem P_tile (p i j : Fin 8) (hij : j.val ≤ i.val) (h : Fin 2) (a s : Fin 1024) :
    Cert.Reference30Ideal.Attn.P (aQ m c) (aK m c) (aL m c) (head p h) (row i a) (row j s)
      = tProb (tile (aQ m c) p i) (tile (aK m c) p j) (tile (aL m c) p i) (decide (i = j)) h a s :=
  prob_congr (live_iff i j hij a s).symm _ _

theorem P_zero (p i j : Fin 8) (hij : i.val < j.val) (h : Fin 2) (a s : Fin 1024) :
    Cert.Reference30Ideal.Attn.P (aQ m c) (aK m c) (aL m c) (head p h) (row i a) (row j s) = 0 :=
  prob_neg _ (by show ¬1024 * j.val + s.val ≤ 1024 * i.val + a.val; omega) _ _

theorem dv_all (p j : Fin 8) (h : Fin 2) (s : Fin 1024) (y : Fin 128) :
    dvSum m c p.val j.val (7 - j.val + 1) h s y
      = ∑ t : Fin 8192, Cert.Reference30Ideal.Attn.P (aQ m c) (aK m c) (aL m c) (head p h) t (row j s)
          * aG m c (ix2 t (Cert.Reference30Ideal.Attn.own2 (head p h) y)) := by
  rw [by_blocks, from_block _ j fun i hi => Finset.sum_eq_zero fun a _ => by rw [P_zero m c p i j hi, zero_mul]]
  unfold dvSum
  refine Finset.sum_congr rfl fun r hr => ?_
  have hr' := Finset.mem_range.mp hr
  have hj : j.val ≤ (f8 (j.val + r)).val := by show _ ≤ (j.val + r) % 8; omega
  rw [show f8 p.val = p from Fin.ext (Nat.mod_eq_of_lt p.isLt), show f8 j.val = j from Fin.ext (Nat.mod_eq_of_lt j.isLt)]
  unfold dvStep dvPart
  refine Finset.sum_congr rfl fun a _ => ?_
  rw [P_tile m c p _ j hj, own2_head]
  rfl

theorem dk_all (p j : Fin 8) (h : Fin 2) (s : Fin 1024) (y : Fin 128) :
    dkSum m c p.val j.val (7 - j.val + 1) h s y
      = ∑ t : Fin 8192, Cert.Reference30Ideal.Attn.P (aQ m c) (aK m c) (aL m c) (head p h) t (row j s)
          * Cert.Reference30Ideal.Attn.dP (aV m c) (aG m c) (aD m c) (head p h) t (row j s) * cs * aQ m c (ix3 (head p h) t y) := by
  rw [by_blocks, from_block _ j fun i hi => Finset.sum_eq_zero fun a _ => by rw [P_zero m c p i j hi, zero_mul, zero_mul, zero_mul]]
  unfold dkSum
  refine Finset.sum_congr rfl fun r hr => ?_
  have hr' := Finset.mem_range.mp hr
  have hj : j.val ≤ (f8 (j.val + r)).val := by show _ ≤ (j.val + r) % 8; omega
  rw [show f8 p.val = p from Fin.ext (Nat.mod_eq_of_lt p.isLt), show f8 j.val = j from Fin.ext (Nat.mod_eq_of_lt j.isLt)]
  unfold dkStep dkPart
  refine Finset.sum_congr rfl fun a _ => ?_
  rw [P_tile m c p _ j hj]
  simp only [Cert.Reference30Ideal.Attn.dP, own2_head]
  rfl

/-- Every index, by pair, head, block and row. -/
theorem split_at (i : S16x8192x128.Idx) : ∃ (p j : Fin 8) (h : Fin 2) (s : Fin 1024) (y : Fin 128), i = ix3 (head p h) (row j s) y := by
  have i0 : (i 0).val < 16 := (i 0).isLt
  have i1 : (i 1).val < 8192 := (i 1).isLt
  refine ⟨⟨(i 0).val / 2, by omega⟩, ⟨(i 1).val / 1024, by omega⟩, ⟨(i 0).val % 2, by omega⟩, ⟨(i 1).val % 1024, by omega⟩, i 2, ?_⟩
  funext b
  refine Fin.ext ?_
  match b with
  | ⟨0, _⟩ => show (i 0).val = 2 * ((i 0).val / 2) + (i 0).val % 2; omega
  | ⟨1, _⟩ => show (i 1).val = 1024 * ((i 1).val / 1024) + (i 1).val % 1024; omega
  | ⟨2, _⟩ => rfl

theorem same_k : valK m c = Cert.Reference30Ideal.Attn.dkA (aQ m c) (aK m c) (aV m c) (aG m c) (aL m c) (aD m c) := by
  funext i
  obtain ⟨p, j, h, s, y, rfl⟩ := split_at i
  refine (valK_at m c p j h s y).trans ((dk_all m c p j h s y).trans ?_)
  exact (Cert.Reference30Ideal.Attn.dkA_at _ _ _ _ _ _ (head p h) (row j s) y).symm

theorem same_v : valV m c = Cert.Reference30Ideal.Attn.dvA (aQ m c) (aK m c) (aG m c) (aL m c) := by
  funext i
  obtain ⟨p, j, h, s, y, rfl⟩ := split_at i
  refine (valV_at m c p j h s y).trans (Eq.trans ?_ (Cert.Reference30Ideal.Attn.dvA_at _ _ _ _ (head p h) (row j s) y).symm)
  rw [dv_all]
  show own h.val y.val _ = if 64 * ((2 * p.val + h.val) % 2) ≤ y.val ∧ y.val < 64 * ((2 * p.val + h.val) % 2) + 64 then _ else _
  rw [show (2 * p.val + h.val) % 2 = h.val by omega]
  rfl

end Cert.Kernel30Ideal.Attn

end
-- ==== Proof.AttnKv.lean ====
/- The gradients of the latent attention's keys and values: the tables that the precondition fixes, the runs, and that the two programs leave the same arrays. -/
module

public import proofs.«01_k».proof.Defs
public import proofs.«01_k».proof.Proof.AttnMeet
public import proofs.«01_k».proof.Proof.Gen.Kernel30.Flash
public import proofs.«01_k».proof.Proof.Gen.Pre_causal
public import Idealize.ShloMosaic.Lib.ReduceAll
public import Idealize.ShloMosaic.Adequacy
public import Idealize.ShloMosaic.Init

@[expose] public section

set_option maxRecDepth 65536

noncomputable section

open Idealize.ShloMosaic Idealize.ShloMosaic.TcCoe Idealize.SL.Sem
open Idealize.ShloMosaic.Pipeline (Dat)

namespace Cert.Attn

/-- The tables that the precondition holds equal to the causal steps are those tables, word for word. -/
theorem tables {F : FTy → Type} [FloatOps F] (a0 a1 : IVec Cert.Pre_causal.S36 32) (a2 a3 a4 a5 a6 a7)
    (h : Cert.Pre_causal.fn (F := F) a0 a1 a2 a3 a4 a5 a6 a7 = fun _ => 1#1) (i : Cert.Pre_causal.S36.Idx) :
    a0 i = Cert.Pre_causal.lit0 (Cert.Pre_causal.S36.rowMajor i) ∧ a1 i = Cert.Pre_causal.lit1 (Cert.Pre_causal.S36.rowMajor i) := by
  have e := Host.reduce_andi_all _ _ _ _ ix0 (congrFun h ix0) i
  obtain ⟨e0, e1⟩ := IntOp.andi_eq_one.1 e
  exact ⟨IntOp.cmpi_eq.1 e0, IntOp.cmpi_eq.1 e1⟩

theorem one_index (i : Cert.Pre_causal.S36.Idx) : i = ix1 (i 0) := by funext b; fin_cases b; rfl

end Cert.Attn

namespace Cert.Kernel30.Attn

open Cert.Kernel30 Cert.Kernel30.Gen

theorem lit0_eq : ∀ n : Fin 36, Cert.Pre_causal.lit0 (Cert.Pre_causal.S36.rowMajor (ix1 n)) = (pinT_0 0 (ix1 n) : BitVec 32) := by decide +kernel
theorem lit1_eq : ∀ n : Fin 36, Cert.Pre_causal.lit1 (Cert.Pre_causal.S36.rowMajor (ix1 n)) = (pinT_1 0 (ix1 n) : BitVec 32) := by decide +kernel

theorem pinned (m : (ℓ : Loc nD τ sig) → Buf (Elt Bits) ℓ) (h : Cert.Pre_Kernel30 m) : Pinned 0 m :=
  ⟨fun c => funext fun y => by
      obtain ⟨n, rfl⟩ : ∃ n : Fin 36, y = ix1 n := ⟨y 0, Cert.Attn.one_index y⟩
      exact (Cert.Attn.tables _ _ _ _ _ _ _ _ (h c) (ix1 n)).1.trans (lit0_eq n),
    fun c => funext fun y => by
      obtain ⟨n, rfl⟩ : ∃ n : Fin 36, y = ix1 n := ⟨y 0, Cert.Attn.one_index y⟩
      exact (Cert.Attn.tables _ _ _ _ _ _ _ _ (h c) (ix1 n)).2.trans (lit1_eq n)⟩

theorem frame : Cert.quiescent_Kernel30 := fun m ρ h => Gen.frame 0 m ρ (pinned m h)

end Cert.Kernel30.Attn

namespace Cert.Kernel30Ideal.Attn

open Cert.Kernel30Ideal Cert.Kernel30Ideal.Gen

theorem lit0_eq : ∀ n : Fin 36, Cert.Pre_causal.lit0 (Cert.Pre_causal.S36.rowMajor (ix1 n)) = (pinT_0 0 (ix1 n) : BitVec 32) := by decide +kernel
theorem lit1_eq : ∀ n : Fin 36, Cert.Pre_causal.lit1 (Cert.Pre_causal.S36.rowMajor (ix1 n)) = (pinT_1 0 (ix1 n) : BitVec 32) := by decide +kernel

theorem pinned (m : (ℓ : Loc nD τ sig) → Buf (Elt Ideal) ℓ) (h : Cert.Pre_Kernel30Ideal m) : Pinned 0 m :=
  ⟨fun c => funext fun y => by
      obtain ⟨n, rfl⟩ : ∃ n : Fin 36, y = ix1 n := ⟨y 0, Cert.Attn.one_index y⟩
      exact (Cert.Attn.tables _ _ _ _ _ _ _ _ (h c) (ix1 n)).1.trans (lit0_eq n),
    fun c => funext fun y => by
      obtain ⟨n, rfl⟩ : ∃ n : Fin 36, y = ix1 n := ⟨y 0, Cert.Attn.one_index y⟩
      exact (Cert.Attn.tables _ _ _ _ _ _ _ _ (h c) (ix1 n)).2.trans (lit1_eq n)⟩

theorem frame : Cert.quiescent_Kernel30Ideal := fun m ρ h => Gen.frame 0 m ρ (pinned m h)

variable (m : (ℓ : Loc nD τ sig) → Buf (Elt Ideal) ℓ) (ρ : Dev nD → PrngReg)

/-- The run: the two gradients, and the arguments as they were. -/
theorem run (hp : Pinned 0 m) : θ_run defs (onTc (τ := τ) (main (F := Ideal))) ⟨m, fun _ => 0, ρ⟩ fun r => ∀ c : Dev nD,
      r.2.mem ((c : Thread nD τ).loc main_v0_0) = valK m c
      ∧ r.2.mem ((c : Thread nD τ).loc main_v0_1) = valV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ hr c => ⟨((hr c).1 (6 : Fin 8)).trans (final6 m ρ c), ((hr c).1 (7 : Fin 8)).trans (final7 m ρ c),
      ((hr c).2 0).trans (hp.1 c).symm, ((hr c).2 1).trans (hp.2 c).symm,
      ((hr c).1 (0 : Fin 8)).trans ((dats 0 m ρ 0 c).arrAt_in (0 : Fin 8) rfl _),
      ((hr c).1 (1 : Fin 8)).trans ((dats 0 m ρ 0 c).arrAt_in (1 : Fin 8) rfl _),
      ((hr c).1 (2 : Fin 8)).trans ((dats 0 m ρ 0 c).arrAt_in (2 : Fin 8) rfl _),
      ((hr c).1 (3 : Fin 8)).trans ((dats 0 m ρ 0 c).arrAt_in (3 : Fin 8) rfl _),
      ((hr c).1 (4 : Fin 8)).trans ((dats 0 m ρ 0 c).arrAt_in (4 : Fin 8) rfl _),
      ((hr c).1 (5 : Fin 8)).trans ((dats 0 m ρ 0 c).arrAt_in (5 : Fin 8) rfl _)⟩)
    (run_main 0 m ρ hp)

end Cert.Kernel30Ideal.Attn

namespace Cert.AttnKv

theorem reference : Cert.quiescent_Reference30Ideal := fun m g _ =>
  (θ_run Cert.Reference30Ideal.defs _ _).mono (fun r h => ⟨fun c => (h c).2.2, sem_eq_zero_of_no_sems (by decide) r.2⟩)
    (Cert.Reference30Ideal.Value.run m g)

theorem reference_pre : Cert.quiescent_Reference30Ideal_pre_causal := fun m g _ =>
  (θ_run Cert.Reference30Ideal.defs _ _).mono (fun r h => ⟨fun c => (h c).2.2, sem_eq_zero_of_no_sems (by decide) r.2⟩)
    (Cert.Reference30Ideal.Value.run m g)

/-- The three named constants: minus infinity for the mask, the scale to base two, and the scale. -/
theorem preserves : Cert.preserves_Kernel30_Kernel30Ideal :=
  ⟨IdealRules.named_const.statement Cert.Kernel30Ideal.κ "mask" .f32 0xF149F2CA#32 ⊥ rfl,
    IdealRules.named_const.statement Cert.Kernel30Ideal.κ "scale2" .f32 0x3E16C740#32 (((Real.sqrt 96)⁻¹ * (Real.log 2)⁻¹ : ℝ) : EReal) rfl,
    IdealRules.named_const.statement Cert.Kernel30Ideal.κ "scale" .f32 0x3DD105EC#32 (((Real.sqrt 96)⁻¹ : ℝ) : EReal) rfl⟩

/-- The two programs leave the same arrays. -/
theorem algebraic : Cert.algebraic_Kernel30Ideal_Reference30Ideal := by
  intro m g m' g' hpre hagree
  refine ⟨fun c => Cert.Kernel30Ideal.Attn.valK m c, fun c => Cert.Kernel30Ideal.Attn.valV m c,
    Cert.Kernel30Ideal.Attn.run m g (Cert.Kernel30Ideal.Attn.pinned m hpre), ?_⟩
  refine (θ_run Cert.Reference30Ideal.defs _ _).mono (fun r h c => ?_) (Cert.Reference30Ideal.Value.run m' g')
  obtain ⟨_, _, e2, e3, e4, e5, e6, e7⟩ := hagree c
  obtain ⟨h1, h2, h3⟩ := h c
  refine ⟨h1.trans ?_, h2.trans ?_, h3⟩
  · show _ = Cert.Kernel30Ideal.Attn.valK m c
    rw [Cert.Kernel30Ideal.Attn.same_k, e2, e3, e4, e5, e6, e7]
    rfl
  · show _ = Cert.Kernel30Ideal.Attn.valV m c
    rw [Cert.Kernel30Ideal.Attn.same_v, e2, e3, e5, e6]
    rfl

end Cert.AttnKv

end
-- ==== Proof.Delta.lean ====
/- The row products of the latent attention's result and its gradient: what the kernel leaves, and that the reference leaves the
   same. -/
module

public import proofs.«01_k».proof.Defs
public import proofs.«01_k».proof.Proof.Gen.Kernel31Ideal.Value
public import proofs.«01_k».proof.Proof.Gen.Reference31Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Delta

/-- Whether a lane is in the lower half. -/
theorem lane : ∀ j : Fin 128, IntOp.cmpi .slt (BitVec.ofNat 32 j.val) 64#32 = if j.val < 64 then 1#1 else 0#1 := by decide

/-- A sum over the lanes that keeps the lower half. -/
theorem lower (f : Fin 128 → EReal) (g : Fin 64 → EReal) (h : ∀ e : Fin 64, f ⟨e.val, by omega⟩ = g e) :
    (∑ k : Fin 128, Scalar.select (IntOp.cmpi .slt (BitVec.ofNat 32 k.val) 64#32) (f k) (0 : EReal)) = ∑ e : Fin 64, g e := by
  refine (Fin.sum_univ_add (a := 64) (b := 64) (fun k : Fin 128 => Scalar.select (IntOp.cmpi .slt (BitVec.ofNat 32 k.val) 64#32) (f k) (0 : EReal))).trans ?_
  rw [Finset.sum_eq_zero (f := fun i : Fin 64 => Scalar.select (IntOp.cmpi .slt (BitVec.ofNat 32 (Fin.natAdd 64 i : Fin 128).val) 64#32) _ (0 : EReal)) fun e _ => ?_, add_zero]
  · refine Finset.sum_congr rfl fun e _ => ?_
    rw [lane, if_pos (show (Fin.castAdd 64 e : Fin 128).val < 64 from e.isLt)]
    exact h e
  · rw [lane, if_neg (show ¬(Fin.natAdd 64 e : Fin 128).val < 64 by simp)]
    rfl

/-- A sum over the lanes that keeps the upper half. -/
theorem upper (f : Fin 128 → EReal) (g : Fin 64 → EReal) (h : ∀ e : Fin 64, f ⟨64 + e.val, by omega⟩ = g e) :
    (∑ k : Fin 128, Scalar.select (IntOp.cmpi .slt (BitVec.ofNat 32 k.val) 64#32) (0 : EReal) (f k)) = ∑ e : Fin 64, g e := by
  refine (Fin.sum_univ_add (a := 64) (b := 64) (fun k : Fin 128 => Scalar.select (IntOp.cmpi .slt (BitVec.ofNat 32 k.val) 64#32) (0 : EReal) (f k))).trans ?_
  rw [Finset.sum_eq_zero (f := fun i : Fin 64 => Scalar.select (IntOp.cmpi .slt (BitVec.ofNat 32 (Fin.castAdd 64 i : Fin 128).val) 64#32) (0 : EReal) _) fun e _ => ?_, zero_add]
  · refine Finset.sum_congr rfl fun e _ => ?_
    rw [lane, if_neg (show ¬(Fin.natAdd 64 e : Fin 128).val < 64 by simp)]
    exact h e
  · rw [lane, if_pos (show (Fin.castAdd 64 e : Fin 128).val < 64 from e.isLt)]
    rfl

/-- Column `e` of head `h`, among the columns of all heads. -/
abbrev col (h : Fin 16) (e : Fin 64) : Fin 1024 := ⟨h.val * 64 + e.val, by omega⟩

end Cert.Delta

namespace Cert.Kernel31Ideal.Delta

open Cert.Kernel31Ideal Cert.Kernel31Ideal.Gen
open Cert.Delta (col lower upper)

theorem pay3 (a b : Vec Ideal S512x128 .bf16) (r : Fin 512) (d : Fin 128) : k0_pay3 (F := Ideal) a b (ix3 0 r d)
    = ∑ k : Fin 128, Scalar.select (IntOp.cmpi .slt (BitVec.ofNat 32 k.val) 64#32) (a (ix2 r k) * b (ix2 r k)) (0 : EReal) := by
  unfold k0_pay3 k0_pay2; pointwise

theorem pay4 (a b : Vec Ideal S512x128 .bf16) (r : Fin 512) (d : Fin 128) : k0_pay4 (F := Ideal) a b (ix3 0 r d)
    = ∑ k : Fin 128, Scalar.select (IntOp.cmpi .slt (BitVec.ofNat 32 k.val) 64#32) (0 : EReal) (a (ix2 r k) * b (ix2 r k)) := by
  unfold k0_pay4 k0_pay2; pointwise

variable (x0 x1 : Vec Ideal S512x1024 .bf16)

/-- A tile of rows' products, all heads, the same on each lane. -/
def G2 : S16x512x128.Idx → EReal := fun i => ∑ e : Fin 64, x0 (ix2 (i 1) (col (i 0) e)) * x1 (ix2 (i 1) (col (i 0) e))

theorem G2_at (h : Fin 16) (r : Fin 512) (d : Fin 128) :
    G2 x0 x1 (ix3 h r d) = ∑ e : Fin 64, x0 (ix2 r (col h e)) * x1 (ix2 r (col h e)) := rfl

theorem ldx (x : Vec Ideal S512x1024 .bf16) (q : Nat) (inb) (r : Fin 512) (k : Fin 128) (hq : q + k.val < 1024) :
    View.ld x (Rect.unit (s := S512x1024) ![0, q] S512x128.size inb) (ix2 r k) = x (ix2 r ⟨q + k.val, hq⟩) := by
  refine View.ld_unit_apply_of x _ _ _ _ _ fun a => ?_
  match a with
  | ⟨0, _⟩ => exact (Nat.zero_add _).symm
  | ⟨1, _⟩ => rfl

theorem emb_head (o : Nat) (ho : o < 16) (inb) (r : Fin 512) (d : Fin 128) :
    (Rect.unit (s := S16x512x128) ![o, 0, 0] S1x512x128.size inb).emb (ix3 0 r d) = (ix3 ⟨o, ho⟩ r d : S16x512x128.Idx) := by
  blk_ext

/-- The first head of a pair is a block of all heads'. -/
theorem piece_even (o q : Nat) (ho : o < 16) (e : q = o * 64) (hw hq) (y : S1x512x128.Idx) :
    k0_pay3 (F := Ideal) (View.ld x1 (Rect.unit (s := S512x1024) ![0, q] S512x128.size hw))
        (View.ld x0 (Rect.unit (s := S512x1024) ![0, q] S512x128.size hw)) y
      = G2 x0 x1 ((Rect.unit (s := S16x512x128) ![o, 0, 0] S1x512x128.size hq).emb y) := by
  have hq' : q + 128 ≤ 1024 := hw 1
  idx_vars y
  obtain rfl : y0 = 0 := Subsingleton.elim _ _
  rw [emb_head o ho, pay3, G2_at]
  refine lower _ _ fun k => ?_
  rw [ldx x1 q hw y1 _ (by show q + k.val < 1024; omega), ldx x0 q hw y1 _ (by show q + k.val < 1024; omega), mul_comm]
  subst e
  rfl

/-- The second head of a pair is a block of all heads'. -/
theorem piece_odd (o q : Nat) (ho : o < 16) (e : q + 64 = o * 64) (hw hq) (y : S1x512x128.Idx) :
    k0_pay4 (F := Ideal) (View.ld x1 (Rect.unit (s := S512x1024) ![0, q] S512x128.size hw))
        (View.ld x0 (Rect.unit (s := S512x1024) ![0, q] S512x128.size hw)) y
      = G2 x0 x1 ((Rect.unit (s := S16x512x128) ![o, 0, 0] S1x512x128.size hq).emb y) := by
  have hq' : q + 128 ≤ 1024 := hw 1
  idx_vars y
  obtain rfl : y0 = 0 := Subsingleton.elim _ _
  rw [emb_head o ho, pay4, G2_at]
  refine upper _ _ fun k => ?_
  rw [ldx x1 q hw y1 _ (by show q + (64 + k.val) < 1024; omega), ldx x0 q hw y1 _ (by show q + (64 + k.val) < 1024; omega), mul_comm]
  have hc : (⟨q + (64 + k.val), by omega⟩ : Fin 1024) = col ⟨o, ho⟩ k := Fin.ext (by show q + (64 + k.val) = o * 64 + k.val; omega)
  exact congrArg (fun z => x0 (ix2 y1 z) * x1 (ix2 y1 z)) hc

theorem out2_eq : out0_2 x0 x1 = G2 x0 x1 := by
  funext y
  unfold out0_2
  refine View.canon_apply_of_pieces _ _ (View.PiecesOf.mem ?_) y (cover0_2 _ _ _ _ _ _ _ _ _ _ _ _ _ _ _ _ y)
  exact ⟨piece_odd x0 x1 15 896 (by decide) rfl inb_S512x1024_S512x128_0_896 inb_S16x512x128_S1x512x128_15_0_0,
    piece_even x0 x1 14 896 (by decide) rfl inb_S512x1024_S512x128_0_896 inb_S16x512x128_S1x512x128_14_0_0,
    piece_odd x0 x1 13 768 (by decide) rfl inb_S512x1024_S512x128_0_768 inb_S16x512x128_S1x512x128_13_0_0,
    piece_even x0 x1 12 768 (by decide) rfl inb_S512x1024_S512x128_0_768 inb_S16x512x128_S1x512x128_12_0_0,
    piece_odd x0 x1 11 640 (by decide) rfl inb_S512x1024_S512x128_0_640 inb_S16x512x128_S1x512x128_11_0_0,
    piece_even x0 x1 10 640 (by decide) rfl inb_S512x1024_S512x128_0_640 inb_S16x512x128_S1x512x128_10_0_0,
    piece_odd x0 x1 9 512 (by decide) rfl inb_S512x1024_S512x128_0_512 inb_S16x512x128_S1x512x128_9_0_0,
    piece_even x0 x1 8 512 (by decide) rfl inb_S512x1024_S512x128_0_512 inb_S16x512x128_S1x512x128_8_0_0,
    piece_odd x0 x1 7 384 (by decide) rfl inb_S512x1024_S512x128_0_384 inb_S16x512x128_S1x512x128_7_0_0,
    piece_even x0 x1 6 384 (by decide) rfl inb_S512x1024_S512x128_0_384 inb_S16x512x128_S1x512x128_6_0_0,
    piece_odd x0 x1 5 256 (by decide) rfl inb_S512x1024_S512x128_0_256 inb_S16x512x128_S1x512x128_5_0_0,
    piece_even x0 x1 4 256 (by decide) rfl inb_S512x1024_S512x128_0_256 inb_S16x512x128_S1x512x128_4_0_0,
    piece_odd x0 x1 3 128 (by decide) rfl inb_S512x1024_S512x128_0_128 inb_S16x512x128_S1x512x128_3_0_0,
    piece_even x0 x1 2 128 (by decide) rfl inb_S512x1024_S512x128_0_128 inb_S16x512x128_S1x512x128_2_0_0,
    piece_odd x0 x1 1 0 (by decide) rfl inb_S512x1024_S512x128_0_0 inb_S16x512x128_S1x512x128_1_0_0,
    piece_even x0 x1 0 0 (by decide) rfl inb_S512x1024_S512x128_0_0 inb_S16x512x128_S1x512x128_0_0_0, trivial⟩

theorem idx : ∀ t : Fin cfg0.N, win0_0.index t = ![t.val, 0] ∧ win0_1.index t = ![t.val, 0] ∧ win0_2.index t = ![0, t.val, 0] :=
  (by decide +kernel : ∀ t : Fin grid0.N, _)

variable (m : (ℓ : Loc nD τ sig) → Buf (Elt Ideal) ℓ) (c : Dev nD)

/-- The attention's result and its gradient, as launched. -/
abbrev aO : FVec Ideal S8192x1024 .bf16 := m ((c : Thread nD τ).loc main_arg0)
abbrev aG : FVec Ideal S8192x1024 .bf16 := m ((c : Thread nD τ).loc main_arg1)

/-- Row `r` of tile `t`, among all rows. -/
abbrev tr (t : Fin cfg0.N) (r : Fin 512) : Fin 8192 :=
  ⟨t.val * 512 + r.val, by have := lt_of_lt_of_eq t.isLt (show cfg0.N = 16 from N_0); omega⟩

theorem blk0 (t : Fin cfg0.N) (r : Fin 512) (e : Fin 1024) : iblk m c 0 t (ix2 r e) = aO m c (ix2 (tr t r) e) := by
  blk_point [iblk, V, idx t]

theorem blk1 (t : Fin cfg0.N) (r : Fin 512) (e : Fin 1024) : iblk m c 1 t (ix2 r e) = aG m c (ix2 (tr t r) e) := by
  blk_point [iblk, V, idx t]

/-- The products, as an array. -/
def res2 : S16x8192x128.Idx → EReal := fun i =>
  ∑ e : Fin 64, aO m c (ix2 (i 1) (col (i 0) e)) * aG m c (ix2 (i 1) (col (i 0) e))

theorem emb2 (t : Fin cfg0.N) (y : S16x512x128.Idx) :
    (ix3 (y 0) (tr t (y 1)) (y 2) : S16x8192x128.Idx) = ((View.whole main_v0).slice (win0_2.rect t)).emb y := by
  idx_vars y
  blk_ext [idx t]

theorem final2 : (dats m 0 c).arrAt 2 cfg0.N = res2 m c := by
  refine (dats m 0 c).arrAt_eq_of_covers 2 _ (by decide +kernel) fun t hf y => ?_
  blk_simp
  rw [after0_2, out2_eq]
  refine Eq.trans ?_ (congrArg (res2 m c) (emb2 t y))
  idx_vars y
  refine (G2_at _ _ y0 y1 y2).trans ?_
  simp only [blk0, blk1]
  rfl

end Cert.Kernel31Ideal.Delta

namespace Cert.Reference31Ideal.Delta

open Cert.Reference31Ideal Cert.Reference31Ideal.Gen

variable (o g : FVec Ideal S8192x1024 .bf16)

/-- Each head's products, row by row. -/
def prodA : FVec Ideal S8192x16x64 .f32 :=
  shapeCast _ (mulf (extf .f32 o bitsLt_bf16_f32) (extf .f32 g bitsLt_bf16_f32)) shapeCasts_S8192x1024_S8192x16x64

theorem prodA_at (r : Fin 8192) (h : Fin 16) (e : Fin 64) :
    prodA o g (ix3 r h e) = o (ix2 r (Cert.Delta.col h e)) * g (ix2 r (Cert.Delta.col h e)) := by
  unfold prodA; pointwise

/-- Their sums over a head's columns, on each lane. -/
def resA : FVec Ideal S16x8192x128 .f32 :=
  broadcastInDim S16x8192x128 ![0, 1, 2] bcast_S16x8192x1_S16x8192x128_0_1_2 (broadcastInDim S16x8192x1 ![0, 1] bcast_S16x8192_S16x8192x1_0_1 (transpose S16x8192 [1, 0] (Host.reduceAdd (prodA o g) (constant S_ .f32 0x00000000#32) reducesTo_S8192x16x64_S8192x16_d2 h_S_) transposes_S8192x16_S16x8192_1_0))

theorem resA_at (h : Fin 16) (r : Fin 8192) (d : Fin 128) :
    resA o g (ix3 h r d) = ∑ e : Fin 64, o (ix2 r (Cert.Delta.col h e)) * g (ix2 r (Cert.Delta.col h e)) := by
  unfold resA; pointwise
  simp only [prodA_at]

end Cert.Reference31Ideal.Delta

namespace Cert.Delta

theorem reference : Cert.quiescent_Reference31Ideal := fun m g _ =>
  (θ_run Cert.Reference31Ideal.defs _ _).mono (fun r h => ⟨fun c => (h c).2, sem_eq_zero_of_no_sems (by decide) r.2⟩)
    (Cert.Reference31Ideal.Value.run m g)

/-- The two programs leave the same array. -/
theorem algebraic : Cert.algebraic_Kernel31Ideal_Reference31Ideal := by
  pair_intro
  · run_from Cert.Kernel31Ideal.Value.run_blocks m g
  · refine (θ_run Cert.Reference31Ideal.defs _ _).mono (fun r h c => ?_) (Cert.Reference31Ideal.Value.run m' g')
    obtain ⟨e0, e1⟩ := hagree c
    obtain ⟨h1, h2⟩ := h c
    refine ⟨h1.trans ?_, h2⟩
    rw [Cert.Kernel31Ideal.Delta.final2, e0, e1]
    funext i
    idx_vars i
    exact Cert.Reference31Ideal.Delta.resA_at _ _ i0 i1 i2

end Cert.Delta

end
-- ==== Proof.Adam.lean ====
/- The optimiser's step, entry by entry: the new moments and the update, of a weight, its moments and its gradient. -/
module

public import Idealize.ShloMosaic.Lib.Pipeline.ValueKit
public import Idealize.ShloMosaic.Lib.Claim
public import Idealize.ShloMosaic.Lib.Pipeline.ReadBack
public import Idealize.ShloMosaic.Adequacy
public import Idealize.ShloMosaic.Init
public import Idealize.ShloMosaic.Lib.Pointwise

@[expose] public section

noncomputable section

open Idealize.ShloMosaic

namespace Cert.Adam

/-- The first moment, decayed, with the gradient mixed in. -/
def newM (m g : EReal) : EReal := Ideal.ofBits .f32 0x3F666666#32 * m + Ideal.ofBits .f32 0x3DCCCCCD#32 * g

/-- The second moment, decayed, with the gradient's square mixed in. -/
def newV (v g : EReal) : EReal := Ideal.ofBits .f32 0x3F7FBE77#32 * v + Ideal.ofBits .f32 0x3A83126F#32 * (g * g)

/-- The update of the weight, from the corrected moments. -/
def delta (w m v g : EReal) : EReal :=
  Ideal.ofBits .f32 0xBA83126F#32 * (Ideal.div (Ideal.div (newM m g) (Ideal.ofBits .f32 0x3F26BD02#32))
      (Ideal.sqrt (Ideal.div (newV v g) (Ideal.ofBits .f32 0x3C231ACC#32)) + Ideal.ofBits .f32 0x322BCC77#32)
    + Ideal.ofBits .f32 0x3C23D70A#32 * w)

/-- A sum over the four slots, in the order in which the kernel takes it. -/
theorem four (f : Fin 4 → EReal) : ∑ s : Fin 4, f s = f 0 + f 1 + f 2 + f 3 := Fin.sum_univ_four f

end Cert.Adam

end
-- ==== Proof.AdamXaQ.lean ====
/- The optimiser's step of the weights of the cross attention's query projection: what the kernel leaves, and that the reference leaves the same. -/
module

public import proofs.«01_k».proof.Defs
public import proofs.«01_k».proof.Proof.Adam
public import proofs.«01_k».proof.Proof.Gen.Kernel32Ideal.Value
public import proofs.«01_k».proof.Proof.Gen.Reference32Ideal.Run

@[expose] public section

set_option maxRecDepth 16384

noncomputable section

open Idealize.ShloMosaic Idealize.ShloMosaic.TcCoe Idealize.SL.Sem
open Idealize.ShloMosaic.Pipeline (Dat)

namespace Cert.Kernel32Ideal.AdamXaQ

open Cert.Kernel32Ideal Cert.Kernel32Ideal.Gen

section
variable (x : Vec Ideal S4x512x1024 .bf16) (m v w : Vec Ideal S512x1024 .f32) (r : Fin 512) (j : Fin 1024)

theorem pay2 : k0_pay2 (F := Ideal) (View.ld x r0_0) (View.ld x r0_1) (View.ld x r0_2) (View.ld x r0_3) (ix2 r j)
    = ∑ s : Fin 4, x (ix3 s r j) := by
  unfold k0_pay2; pointwise; exact (Adam.four fun s => x (ix3 s r j)).symm

theorem pay3 : k0_pay3 (F := Ideal) (View.ld x r0_0) (View.ld x r0_1) (View.ld x r0_2) (View.ld x r0_3) m (ix2 r j)
    = Adam.newM (m (ix2 r j)) (∑ s : Fin 4, x (ix3 s r j)) := by
  unfold k0_pay3; pointwise; rw [pay2]; rfl

theorem pay4 : k0_pay4 (F := Ideal) (View.ld x r0_0) (View.ld x r0_1) (View.ld x r0_2) (View.ld x r0_3) v (ix2 r j)
    = Adam.newV (v (ix2 r j)) (∑ s : Fin 4, x (ix3 s r j)) := by
  unfold k0_pay4; pointwise; rw [pay2]; rfl

theorem pay1 : k0_pay1 (F := Ideal) (k0_pay5 (View.ld x r0_0) (View.ld x r0_1) (View.ld x r0_2) (View.ld x r0_3) m)
      (k0_pay6 (View.ld x r0_0) (View.ld x r0_1) (View.ld x r0_2) (View.ld x r0_3) v) w (ix2 r j)
    = Adam.delta (w (ix2 r j)) (m (ix2 r j)) (v (ix2 r j)) (∑ s : Fin 4, x (ix3 s r j)) := by
  unfold k0_pay1 k0_pay5 k0_pay6; pointwise; rw [pay3, pay4]; rfl

end

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- The gradient's slots, the weight and its moments, as launched. -/
abbrev aG : FVec Ideal S4x512x1024 .bf16 := m ((c : Thread nD τ).loc main_arg0)
abbrev aW : FVec Ideal S512x1024 .f32 := m ((c : Thread nD τ).loc main_arg1)
abbrev aM : FVec Ideal S512x1024 .f32 := m ((c : Thread nD τ).loc main_arg2)
abbrev aV : FVec Ideal S512x1024 .f32 := m ((c : Thread nD τ).loc main_arg3)

/-- Row `r` of tile `t`, among all rows. -/
abbrev tr (t : Fin cfg0.N) (r : Fin 512) : Fin 512 := ⟨t.val * 512 + r.val, by have := lt_of_lt_of_eq t.isLt (show cfg0.N = 1 from N_0); omega⟩

theorem blk0 (t : Fin cfg0.N) (s : Fin 4) (r : Fin 512) (e : Fin 1024) : iblk m c 0 t (ix3 s r e) = aG m c (ix3 s (tr t r) e) := by
  blk_point [iblk, V, idx t]
theorem blk1 (t : Fin cfg0.N) (r : Fin 512) (e : Fin 1024) : iblk m c 1 t (ix2 r e) = aW m c (ix2 (tr t r) e) := by
  blk_point [iblk, V, idx t]
theorem blk2 (t : Fin cfg0.N) (r : Fin 512) (e : Fin 1024) : iblk m c 2 t (ix2 r e) = aM m c (ix2 (tr t r) e) := by
  blk_point [iblk, V, idx t]
theorem blk3 (t : Fin cfg0.N) (r : Fin 512) (e : Fin 1024) : iblk m c 3 t (ix2 r e) = aV m c (ix2 (tr t r) e) := by
  blk_point [iblk, V, idx t]

/-- The gradient, and the four results, as arrays. -/
def grad (r : Fin 512) (j : Fin 1024) : EReal := ∑ s : Fin 4, aG m c (ix3 s r j)
def res4 : S512x1024.Idx → EReal := fun i => grad m c (i 0) (i 1)
def res5 : S512x1024.Idx → EReal := fun i =>
  Adam.delta (aW m c (ix2 (i 0) (i 1))) (aM m c (ix2 (i 0) (i 1))) (aV m c (ix2 (i 0) (i 1))) (grad m c (i 0) (i 1))
def res6 : S512x1024.Idx → EReal := fun i => Adam.newM (aM m c (ix2 (i 0) (i 1))) (grad m c (i 0) (i 1))
def res7 : S512x1024.Idx → EReal := fun i => Adam.newV (aV m c (ix2 (i 0) (i 1))) (grad m c (i 0) (i 1))

theorem final4 : (dats m 0 c).arrAt 4 cfg0.N = res4 m c := by
  refine (dats m 0 c).arrAt_eq_of_covers 4 _ (by decide +kernel) fun t hf y => ?_
  blk_simp
  rw [after0_4]
  refine Eq.trans ?_ (congrArg (res4 m c) (show ix2 (tr t (y 0)) (y 1) = ((View.whole main_v0_0).slice (win0_4.rect t)).emb y by
    idx_vars y; blk_ext [idx t]))
  frame_out
  idx_vars y
  refine (pay2 _ y0 y1).trans ?_
  simp only [View.ld_unit_lit, blk0, blk1, blk2, blk3]
  rfl

theorem final5 : (dats m 0 c).arrAt 5 cfg0.N = res5 m c := by
  refine (dats m 0 c).arrAt_eq_of_covers 5 _ (by decide +kernel) fun t hf y => ?_
  blk_simp
  rw [after0_5]
  refine Eq.trans ?_ (congrArg (res5 m c) (show ix2 (tr t (y 0)) (y 1) = ((View.whole main_v0_1).slice (win0_5.rect t)).emb y by
    idx_vars y; blk_ext [idx t]))
  frame_out
  idx_vars y
  refine (pay1 _ _ _ _ y0 y1).trans ?_
  simp only [View.ld_unit_lit, blk0, blk1, blk2, blk3]
  rfl

theorem final6 : (dats m 0 c).arrAt 6 cfg0.N = res6 m c := by
  refine (dats m 0 c).arrAt_eq_of_covers 6 _ (by decide +kernel) fun t hf y => ?_
  blk_simp
  rw [after0_6]
  refine Eq.trans ?_ (congrArg (res6 m c) (show ix2 (tr t (y 0)) (y 1) = ((View.whole main_v0_2).slice (win0_6.rect t)).emb y by
    idx_vars y; blk_ext [idx t]))
  frame_out
  idx_vars y
  refine (pay3 _ _ y0 y1).trans ?_
  simp only [View.ld_unit_lit, blk0, blk1, blk2, blk3]
  rfl

theorem final7 : (dats m 0 c).arrAt 7 cfg0.N = res7 m c := by
  refine (dats m 0 c).arrAt_eq_of_covers 7 _ (by decide +kernel) fun t hf y => ?_
  blk_simp
  rw [after0_7]
  refine Eq.trans ?_ (congrArg (res7 m c) (show ix2 (tr t (y 0)) (y 1) = ((View.whole main_v0_3).slice (win0_7.rect t)).emb y by
    idx_vars y; blk_ext [idx t]))
  frame_out
  idx_vars y
  refine (pay4 _ _ y0 y1).trans ?_
  simp only [View.ld_unit_lit, blk0, blk1, blk2, blk3]
  rfl

end Cert.Kernel32Ideal.AdamXaQ

namespace Cert.AdamXaQ

theorem reference : Cert.quiescent_Reference32Ideal := fun m g _ =>
  (θ_run Cert.Reference32Ideal.defs _ _).mono (fun r h => ⟨fun c => (h c).2.2.2.2, sem_eq_zero_of_no_sems (by decide) r.2⟩)
    (Cert.Reference32Ideal.Value.run m g)

/-- The two programs leave the same four arrays. -/
theorem algebraic : Cert.algebraic_Kernel32Ideal_Reference32Ideal := by
  pair_intro
  · run_from Cert.Kernel32Ideal.Value.run_blocks m g
  · refine (θ_run Cert.Reference32Ideal.defs _ _).mono (fun r h c => ?_) (Cert.Reference32Ideal.Value.run m' g')
    obtain ⟨e0, e1, e2, e3⟩ := hagree c
    obtain ⟨h1, h2, h3, h4, h5⟩ := h c
    refine ⟨h1.trans ?_, h2.trans ?_, h3.trans ?_, h4.trans ?_, h5⟩
    · rw [Cert.Kernel32Ideal.AdamXaQ.final4, e0]; funext i; idx_vars i; pointwise; rfl
    · rw [Cert.Kernel32Ideal.AdamXaQ.final5, e0, e1, e2, e3]; funext i; idx_vars i; pointwise; rfl
    · rw [Cert.Kernel32Ideal.AdamXaQ.final6, e0, e2]; funext i; idx_vars i; pointwise; rfl
    · rw [Cert.Kernel32Ideal.AdamXaQ.final7, e0, e3]; funext i; idx_vars i; pointwise; rfl

end Cert.AdamXaQ

end
-- ==== Proof.AdamUp.lean ====
/- The optimiser's step of the weights of the feed-forward layer's first product: what the kernel leaves, and that the reference leaves the same. -/
module

public import proofs.«01_k».proof.Defs
public import proofs.«01_k».proof.Proof.Adam
public import proofs.«01_k».proof.Proof.Gen.Kernel33Ideal.Value
public import proofs.«01_k».proof.Proof.Gen.Reference33Ideal.Run

@[expose] public section

set_option maxRecDepth 16384

noncomputable section

open Idealize.ShloMosaic Idealize.ShloMosaic.TcCoe Idealize.SL.Sem
open Idealize.ShloMosaic.Pipeline (Dat)

namespace Cert.Kernel33Ideal.AdamUp

open Cert.Kernel33Ideal Cert.Kernel33Ideal.Gen

section
variable (x : Vec Ideal S4x512x704 .bf16) (m v w : Vec Ideal S512x704 .f32) (r : Fin 512) (j : Fin 704)

theorem pay2 : k0_pay2 (F := Ideal) (View.ld x r0_0) (View.ld x r0_1) (View.ld x r0_2) (View.ld x r0_3) (ix2 r j)
    = ∑ s : Fin 4, x (ix3 s r j) := by
  unfold k0_pay2; pointwise; exact (Adam.four fun s => x (ix3 s r j)).symm

theorem pay3 : k0_pay3 (F := Ideal) (View.ld x r0_0) (View.ld x r0_1) (View.ld x r0_2) (View.ld x r0_3) m (ix2 r j)
    = Adam.newM (m (ix2 r j)) (∑ s : Fin 4, x (ix3 s r j)) := by
  unfold k0_pay3; pointwise; rw [pay2]; rfl

theorem pay4 : k0_pay4 (F := Ideal) (View.ld x r0_0) (View.ld x r0_1) (View.ld x r0_2) (View.ld x r0_3) v (ix2 r j)
    = Adam.newV (v (ix2 r j)) (∑ s : Fin 4, x (ix3 s r j)) := by
  unfold k0_pay4; pointwise; rw [pay2]; rfl

theorem pay1 : k0_pay1 (F := Ideal) (k0_pay5 (View.ld x r0_0) (View.ld x r0_1) (View.ld x r0_2) (View.ld x r0_3) m)
      (k0_pay6 (View.ld x r0_0) (View.ld x r0_1) (View.ld x r0_2) (View.ld x r0_3) v) w (ix2 r j)
    = Adam.delta (w (ix2 r j)) (m (ix2 r j)) (v (ix2 r j)) (∑ s : Fin 4, x (ix3 s r j)) := by
  unfold k0_pay1 k0_pay5 k0_pay6; pointwise; rw [pay3, pay4]; rfl

end

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- The gradient's slots, the weight and its moments, as launched. -/
abbrev aG : FVec Ideal S4x4096x704 .bf16 := m ((c : Thread nD τ).loc main_arg0)
abbrev aW : FVec Ideal S4096x704 .f32 := m ((c : Thread nD τ).loc main_arg1)
abbrev aM : FVec Ideal S4096x704 .f32 := m ((c : Thread nD τ).loc main_arg2)
abbrev aV : FVec Ideal S4096x704 .f32 := m ((c : Thread nD τ).loc main_arg3)

/-- Row `r` of tile `t`, among all rows. -/
abbrev tr (t : Fin cfg0.N) (r : Fin 512) : Fin 4096 := ⟨t.val * 512 + r.val, by have := lt_of_lt_of_eq t.isLt (show cfg0.N = 8 from N_0); omega⟩

theorem blk0 (t : Fin cfg0.N) (s : Fin 4) (r : Fin 512) (e : Fin 704) : iblk m c 0 t (ix3 s r e) = aG m c (ix3 s (tr t r) e) := by
  blk_point [iblk, V, idx t]
theorem blk1 (t : Fin cfg0.N) (r : Fin 512) (e : Fin 704) : iblk m c 1 t (ix2 r e) = aW m c (ix2 (tr t r) e) := by
  blk_point [iblk, V, idx t]
theorem blk2 (t : Fin cfg0.N) (r : Fin 512) (e : Fin 704) : iblk m c 2 t (ix2 r e) = aM m c (ix2 (tr t r) e) := by
  blk_point [iblk, V, idx t]
theorem blk3 (t : Fin cfg0.N) (r : Fin 512) (e : Fin 704) : iblk m c 3 t (ix2 r e) = aV m c (ix2 (tr t r) e) := by
  blk_point [iblk, V, idx t]

/-- The gradient, and the four results, as arrays. -/
def grad (r : Fin 4096) (j : Fin 704) : EReal := ∑ s : Fin 4, aG m c (ix3 s r j)
def res4 : S4096x704.Idx → EReal := fun i => grad m c (i 0) (i 1)
def res5 : S4096x704.Idx → EReal := fun i =>
  Adam.delta (aW m c (ix2 (i 0) (i 1))) (aM m c (ix2 (i 0) (i 1))) (aV m c (ix2 (i 0) (i 1))) (grad m c (i 0) (i 1))
def res6 : S4096x704.Idx → EReal := fun i => Adam.newM (aM m c (ix2 (i 0) (i 1))) (grad m c (i 0) (i 1))
def res7 : S4096x704.Idx → EReal := fun i => Adam.newV (aV m c (ix2 (i 0) (i 1))) (grad m c (i 0) (i 1))

theorem final4 : (dats m 0 c).arrAt 4 cfg0.N = res4 m c := by
  refine (dats m 0 c).arrAt_eq_of_covers 4 _ (by decide +kernel) fun t hf y => ?_
  blk_simp
  rw [after0_4]
  refine Eq.trans ?_ (congrArg (res4 m c) (show ix2 (tr t (y 0)) (y 1) = ((View.whole main_v0_0).slice (win0_4.rect t)).emb y by
    idx_vars y; blk_ext [idx t]))
  frame_out
  idx_vars y
  refine (pay2 _ y0 y1).trans ?_
  simp only [View.ld_unit_lit, blk0, blk1, blk2, blk3]
  rfl

theorem final5 : (dats m 0 c).arrAt 5 cfg0.N = res5 m c := by
  refine (dats m 0 c).arrAt_eq_of_covers 5 _ (by decide +kernel) fun t hf y => ?_
  blk_simp
  rw [after0_5]
  refine Eq.trans ?_ (congrArg (res5 m c) (show ix2 (tr t (y 0)) (y 1) = ((View.whole main_v0_1).slice (win0_5.rect t)).emb y by
    idx_vars y; blk_ext [idx t]))
  frame_out
  idx_vars y
  refine (pay1 _ _ _ _ y0 y1).trans ?_
  simp only [View.ld_unit_lit, blk0, blk1, blk2, blk3]
  rfl

theorem final6 : (dats m 0 c).arrAt 6 cfg0.N = res6 m c := by
  refine (dats m 0 c).arrAt_eq_of_covers 6 _ (by decide +kernel) fun t hf y => ?_
  blk_simp
  rw [after0_6]
  refine Eq.trans ?_ (congrArg (res6 m c) (show ix2 (tr t (y 0)) (y 1) = ((View.whole main_v0_2).slice (win0_6.rect t)).emb y by
    idx_vars y; blk_ext [idx t]))
  frame_out
  idx_vars y
  refine (pay3 _ _ y0 y1).trans ?_
  simp only [View.ld_unit_lit, blk0, blk1, blk2, blk3]
  rfl

theorem final7 : (dats m 0 c).arrAt 7 cfg0.N = res7 m c := by
  refine (dats m 0 c).arrAt_eq_of_covers 7 _ (by decide +kernel) fun t hf y => ?_
  blk_simp
  rw [after0_7]
  refine Eq.trans ?_ (congrArg (res7 m c) (show ix2 (tr t (y 0)) (y 1) = ((View.whole main_v0_3).slice (win0_7.rect t)).emb y by
    idx_vars y; blk_ext [idx t]))
  frame_out
  idx_vars y
  refine (pay4 _ _ y0 y1).trans ?_
  simp only [View.ld_unit_lit, blk0, blk1, blk2, blk3]
  rfl

end Cert.Kernel33Ideal.AdamUp

namespace Cert.AdamUp

theorem reference : Cert.quiescent_Reference33Ideal := fun m g _ =>
  (θ_run Cert.Reference33Ideal.defs _ _).mono (fun r h => ⟨fun c => (h c).2.2.2.2, sem_eq_zero_of_no_sems (by decide) r.2⟩)
    (Cert.Reference33Ideal.Value.run m g)

/-- The two programs leave the same four arrays. -/
theorem algebraic : Cert.algebraic_Kernel33Ideal_Reference33Ideal := by
  pair_intro
  · run_from Cert.Kernel33Ideal.Value.run_blocks m g
  · refine (θ_run Cert.Reference33Ideal.defs _ _).mono (fun r h c => ?_) (Cert.Reference33Ideal.Value.run m' g')
    obtain ⟨e0, e1, e2, e3⟩ := hagree c
    obtain ⟨h1, h2, h3, h4, h5⟩ := h c
    refine ⟨h1.trans ?_, h2.trans ?_, h3.trans ?_, h4.trans ?_, h5⟩
    · rw [Cert.Kernel33Ideal.AdamUp.final4, e0]; funext i; idx_vars i; pointwise; rfl
    · rw [Cert.Kernel33Ideal.AdamUp.final5, e0, e1, e2, e3]; funext i; idx_vars i; pointwise; rfl
    · rw [Cert.Kernel33Ideal.AdamUp.final6, e0, e2]; funext i; idx_vars i; pointwise; rfl
    · rw [Cert.Kernel33Ideal.AdamUp.final7, e0, e3]; funext i; idx_vars i; pointwise; rfl

end Cert.AdamUp

end
-- ==== Proof.AdamDown.lean ====
/- The optimiser's step of the weights of the feed-forward layer's second product: what the kernel leaves, and that the reference leaves the same. -/
module

public import proofs.«01_k».proof.Defs
public import proofs.«01_k».proof.Proof.Adam
public import proofs.«01_k».proof.Proof.Gen.Kernel34Ideal.Value
public import proofs.«01_k».proof.Proof.Gen.Reference34Ideal.Run

@[expose] public section

set_option maxRecDepth 16384

noncomputable section

open Idealize.ShloMosaic Idealize.ShloMosaic.TcCoe Idealize.SL.Sem
open Idealize.ShloMosaic.Pipeline (Dat)

namespace Cert.Kernel34Ideal.AdamDown

open Cert.Kernel34Ideal Cert.Kernel34Ideal.Gen

section
variable (x : Vec Ideal S4x128x1024 .bf16) (m v w : Vec Ideal S128x1024 .f32) (r : Fin 128) (j : Fin 1024)

theorem pay2 : k0_pay2 (F := Ideal) (View.ld x r0_0) (View.ld x r0_1) (View.ld x r0_2) (View.ld x r0_3) (ix2 r j)
    = ∑ s : Fin 4, x (ix3 s r j) := by
  unfold k0_pay2; pointwise; exact (Adam.four fun s => x (ix3 s r j)).symm

theorem pay3 : k0_pay3 (F := Ideal) (View.ld x r0_0) (View.ld x r0_1) (View.ld x r0_2) (View.ld x r0_3) m (ix2 r j)
    = Adam.newM (m (ix2 r j)) (∑ s : Fin 4, x (ix3 s r j)) := by
  unfold k0_pay3; pointwise; rw [pay2]; rfl

theorem pay4 : k0_pay4 (F := Ideal) (View.ld x r0_0) (View.ld x r0_1) (View.ld x r0_2) (View.ld x r0_3) v (ix2 r j)
    = Adam.newV (v (ix2 r j)) (∑ s : Fin 4, x (ix3 s r j)) := by
  unfold k0_pay4; pointwise; rw [pay2]; rfl

theorem pay1 : k0_pay1 (F := Ideal) (k0_pay5 (View.ld x r0_0) (View.ld x r0_1) (View.ld x r0_2) (View.ld x r0_3) m)
      (k0_pay6 (View.ld x r0_0) (View.ld x r0_1) (View.ld x r0_2) (View.ld x r0_3) v) w (ix2 r j)
    = Adam.delta (w (ix2 r j)) (m (ix2 r j)) (v (ix2 r j)) (∑ s : Fin 4, x (ix3 s r j)) := by
  unfold k0_pay1 k0_pay5 k0_pay6; pointwise; rw [pay3, pay4]; rfl

end

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- The gradient's slots, the weight and its moments, as launched. -/
abbrev aG : FVec Ideal S4x1408x1024 .bf16 := m ((c : Thread nD τ).loc main_arg0)
abbrev aW : FVec Ideal S1408x1024 .f32 := m ((c : Thread nD τ).loc main_arg1)
abbrev aM : FVec Ideal S1408x1024 .f32 := m ((c : Thread nD τ).loc main_arg2)
abbrev aV : FVec Ideal S1408x1024 .f32 := m ((c : Thread nD τ).loc main_arg3)

/-- Row `r` of tile `t`, among all rows. -/
abbrev tr (t : Fin cfg0.N) (r : Fin 128) : Fin 1408 := ⟨t.val * 128 + r.val, by have := lt_of_lt_of_eq t.isLt (show cfg0.N = 11 from N_0); omega⟩

theorem blk0 (t : Fin cfg0.N) (s : Fin 4) (r : Fin 128) (e : Fin 1024) : iblk m c 0 t (ix3 s r e) = aG m c (ix3 s (tr t r) e) := by
  blk_point [iblk, V, idx t]
theorem blk1 (t : Fin cfg0.N) (r : Fin 128) (e : Fin 1024) : iblk m c 1 t (ix2 r e) = aW m c (ix2 (tr t r) e) := by
  blk_point [iblk, V, idx t]
theorem blk2 (t : Fin cfg0.N) (r : Fin 128) (e : Fin 1024) : iblk m c 2 t (ix2 r e) = aM m c (ix2 (tr t r) e) := by
  blk_point [iblk, V, idx t]
theorem blk3 (t : Fin cfg0.N) (r : Fin 128) (e : Fin 1024) : iblk m c 3 t (ix2 r e) = aV m c (ix2 (tr t r) e) := by
  blk_point [iblk, V, idx t]

/-- The gradient, and the four results, as arrays. -/
def grad (r : Fin 1408) (j : Fin 1024) : EReal := ∑ s : Fin 4, aG m c (ix3 s r j)
def res4 : S1408x1024.Idx → EReal := fun i => grad m c (i 0) (i 1)
def res5 : S1408x1024.Idx → EReal := fun i =>
  Adam.delta (aW m c (ix2 (i 0) (i 1))) (aM m c (ix2 (i 0) (i 1))) (aV m c (ix2 (i 0) (i 1))) (grad m c (i 0) (i 1))
def res6 : S1408x1024.Idx → EReal := fun i => Adam.newM (aM m c (ix2 (i 0) (i 1))) (grad m c (i 0) (i 1))
def res7 : S1408x1024.Idx → EReal := fun i => Adam.newV (aV m c (ix2 (i 0) (i 1))) (grad m c (i 0) (i 1))

theorem final4 : (dats m 0 c).arrAt 4 cfg0.N = res4 m c := by
  refine (dats m 0 c).arrAt_eq_of_covers 4 _ (by decide +kernel) fun t hf y => ?_
  blk_simp
  rw [after0_4]
  refine Eq.trans ?_ (congrArg (res4 m c) (show ix2 (tr t (y 0)) (y 1) = ((View.whole main_v0_0).slice (win0_4.rect t)).emb y by
    idx_vars y; blk_ext [idx t]))
  frame_out
  idx_vars y
  refine (pay2 _ y0 y1).trans ?_
  simp only [View.ld_unit_lit, blk0, blk1, blk2, blk3]
  rfl

theorem final5 : (dats m 0 c).arrAt 5 cfg0.N = res5 m c := by
  refine (dats m 0 c).arrAt_eq_of_covers 5 _ (by decide +kernel) fun t hf y => ?_
  blk_simp
  rw [after0_5]
  refine Eq.trans ?_ (congrArg (res5 m c) (show ix2 (tr t (y 0)) (y 1) = ((View.whole main_v0_1).slice (win0_5.rect t)).emb y by
    idx_vars y; blk_ext [idx t]))
  frame_out
  idx_vars y
  refine (pay1 _ _ _ _ y0 y1).trans ?_
  simp only [View.ld_unit_lit, blk0, blk1, blk2, blk3]
  rfl

theorem final6 : (dats m 0 c).arrAt 6 cfg0.N = res6 m c := by
  refine (dats m 0 c).arrAt_eq_of_covers 6 _ (by decide +kernel) fun t hf y => ?_
  blk_simp
  rw [after0_6]
  refine Eq.trans ?_ (congrArg (res6 m c) (show ix2 (tr t (y 0)) (y 1) = ((View.whole main_v0_2).slice (win0_6.rect t)).emb y by
    idx_vars y; blk_ext [idx t]))
  frame_out
  idx_vars y
  refine (pay3 _ _ y0 y1).trans ?_
  simp only [View.ld_unit_lit, blk0, blk1, blk2, blk3]
  rfl

theorem final7 : (dats m 0 c).arrAt 7 cfg0.N = res7 m c := by
  refine (dats m 0 c).arrAt_eq_of_covers 7 _ (by decide +kernel) fun t hf y => ?_
  blk_simp
  rw [after0_7]
  refine Eq.trans ?_ (congrArg (res7 m c) (show ix2 (tr t (y 0)) (y 1) = ((View.whole main_v0_3).slice (win0_7.rect t)).emb y by
    idx_vars y; blk_ext [idx t]))
  frame_out
  idx_vars y
  refine (pay4 _ _ y0 y1).trans ?_
  simp only [View.ld_unit_lit, blk0, blk1, blk2, blk3]
  rfl

end Cert.Kernel34Ideal.AdamDown

namespace Cert.AdamDown

theorem reference : Cert.quiescent_Reference34Ideal := fun m g _ =>
  (θ_run Cert.Reference34Ideal.defs _ _).mono (fun r h => ⟨fun c => (h c).2.2.2.2, sem_eq_zero_of_no_sems (by decide) r.2⟩)
    (Cert.Reference34Ideal.Value.run m g)

/-- The two programs leave the same four arrays. -/
theorem algebraic : Cert.algebraic_Kernel34Ideal_Reference34Ideal := by
  pair_intro
  · run_from Cert.Kernel34Ideal.Value.run_blocks m g
  · refine (θ_run Cert.Reference34Ideal.defs _ _).mono (fun r h c => ?_) (Cert.Reference34Ideal.Value.run m' g')
    obtain ⟨e0, e1, e2, e3⟩ := hagree c
    obtain ⟨h1, h2, h3, h4, h5⟩ := h c
    refine ⟨h1.trans ?_, h2.trans ?_, h3.trans ?_, h4.trans ?_, h5⟩
    · rw [Cert.Kernel34Ideal.AdamDown.final4, e0]; funext i; idx_vars i; pointwise; rfl
    · rw [Cert.Kernel34Ideal.AdamDown.final5, e0, e1, e2, e3]; funext i; idx_vars i; pointwise; rfl
    · rw [Cert.Kernel34Ideal.AdamDown.final6, e0, e2]; funext i; idx_vars i; pointwise; rfl
    · rw [Cert.Kernel34Ideal.AdamDown.final7, e0, e3]; funext i; idx_vars i; pointwise; rfl

end Cert.AdamDown

end
-- ==== Proof.AdamXaKv.lean ====
/- The optimiser's step of the weights of the memory rows' projection to keys and values: what the kernel leaves, and that the reference leaves the same. -/
module

public import proofs.«01_k».proof.Defs
public import proofs.«01_k».proof.Proof.Adam
public import proofs.«01_k».proof.Proof.Gen.Kernel35Ideal.Value
public import proofs.«01_k».proof.Proof.Gen.Reference35Ideal.Run

@[expose] public section

set_option maxRecDepth 16384

noncomputable section

open Idealize.ShloMosaic Idealize.ShloMosaic.TcCoe Idealize.SL.Sem
open Idealize.ShloMosaic.Pipeline (Dat)

namespace Cert.Kernel35Ideal.AdamXaKv

open Cert.Kernel35Ideal Cert.Kernel35Ideal.Gen

section
variable (x : Vec Ideal S4x2048x256 .bf16) (m v w : Vec Ideal S2048x256 .f32) (r : Fin 2048) (j : Fin 256)

theorem pay2 : k0_pay2 (F := Ideal) (View.ld x r0_0) (View.ld x r0_1) (View.ld x r0_2) (View.ld x r0_3) (ix2 r j)
    = ∑ s : Fin 4, x (ix3 s r j) := by
  unfold k0_pay2; pointwise; exact (Adam.four fun s => x (ix3 s r j)).symm

theorem pay3 : k0_pay3 (F := Ideal) (View.ld x r0_0) (View.ld x r0_1) (View.ld x r0_2) (View.ld x r0_3) m (ix2 r j)
    = Adam.newM (m (ix2 r j)) (∑ s : Fin 4, x (ix3 s r j)) := by
  unfold k0_pay3; pointwise; rw [pay2]; rfl

theorem pay4 : k0_pay4 (F := Ideal) (View.ld x r0_0) (View.ld x r0_1) (View.ld x r0_2) (View.ld x r0_3) v (ix2 r j)
    = Adam.newV (v (ix2 r j)) (∑ s : Fin 4, x (ix3 s r j)) := by
  unfold k0_pay4; pointwise; rw [pay2]; rfl

theorem pay1 : k0_pay1 (F := Ideal) (k0_pay5 (View.ld x r0_0) (View.ld x r0_1) (View.ld x r0_2) (View.ld x r0_3) m)
      (k0_pay6 (View.ld x r0_0) (View.ld x r0_1) (View.ld x r0_2) (View.ld x r0_3) v) w (ix2 r j)
    = Adam.delta (w (ix2 r j)) (m (ix2 r j)) (v (ix2 r j)) (∑ s : Fin 4, x (ix3 s r j)) := by
  unfold k0_pay1 k0_pay5 k0_pay6; pointwise; rw [pay3, pay4]; rfl

end

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- The gradient's slots, the weight and its moments, as launched. -/
abbrev aG : FVec Ideal S4x4096x256 .bf16 := m ((c : Thread nD τ).loc main_arg0)
abbrev aW : FVec Ideal S4096x256 .f32 := m ((c : Thread nD τ).loc main_arg1)
abbrev aM : FVec Ideal S4096x256 .f32 := m ((c : Thread nD τ).loc main_arg2)
abbrev aV : FVec Ideal S4096x256 .f32 := m ((c : Thread nD τ).loc main_arg3)

/-- Row `r` of tile `t`, among all rows. -/
abbrev tr (t : Fin cfg0.N) (r : Fin 2048) : Fin 4096 := ⟨t.val * 2048 + r.val, by have := lt_of_lt_of_eq t.isLt (show cfg0.N = 2 from N_0); omega⟩

theorem blk0 (t : Fin cfg0.N) (s : Fin 4) (r : Fin 2048) (e : Fin 256) : iblk m c 0 t (ix3 s r e) = aG m c (ix3 s (tr t r) e) := by
  blk_point [iblk, V, idx t]
theorem blk1 (t : Fin cfg0.N) (r : Fin 2048) (e : Fin 256) : iblk m c 1 t (ix2 r e) = aW m c (ix2 (tr t r) e) := by
  blk_point [iblk, V, idx t]
theorem blk2 (t : Fin cfg0.N) (r : Fin 2048) (e : Fin 256) : iblk m c 2 t (ix2 r e) = aM m c (ix2 (tr t r) e) := by
  blk_point [iblk, V, idx t]
theorem blk3 (t : Fin cfg0.N) (r : Fin 2048) (e : Fin 256) : iblk m c 3 t (ix2 r e) = aV m c (ix2 (tr t r) e) := by
  blk_point [iblk, V, idx t]

/-- The gradient, and the four results, as arrays. -/
def grad (r : Fin 4096) (j : Fin 256) : EReal := ∑ s : Fin 4, aG m c (ix3 s r j)
def res4 : S4096x256.Idx → EReal := fun i => grad m c (i 0) (i 1)
def res5 : S4096x256.Idx → EReal := fun i =>
  Adam.delta (aW m c (ix2 (i 0) (i 1))) (aM m c (ix2 (i 0) (i 1))) (aV m c (ix2 (i 0) (i 1))) (grad m c (i 0) (i 1))
def res6 : S4096x256.Idx → EReal := fun i => Adam.newM (aM m c (ix2 (i 0) (i 1))) (grad m c (i 0) (i 1))
def res7 : S4096x256.Idx → EReal := fun i => Adam.newV (aV m c (ix2 (i 0) (i 1))) (grad m c (i 0) (i 1))

theorem final4 : (dats m 0 c).arrAt 4 cfg0.N = res4 m c := by
  refine (dats m 0 c).arrAt_eq_of_covers 4 _ (by decide +kernel) fun t hf y => ?_
  blk_simp
  rw [after0_4]
  refine Eq.trans ?_ (congrArg (res4 m c) (show ix2 (tr t (y 0)) (y 1) = ((View.whole main_v0_0).slice (win0_4.rect t)).emb y by
    idx_vars y; blk_ext [idx t]))
  frame_out
  idx_vars y
  refine (pay2 _ y0 y1).trans ?_
  simp only [View.ld_unit_lit, blk0, blk1, blk2, blk3]
  rfl

theorem final5 : (dats m 0 c).arrAt 5 cfg0.N = res5 m c := by
  refine (dats m 0 c).arrAt_eq_of_covers 5 _ (by decide +kernel) fun t hf y => ?_
  blk_simp
  rw [after0_5]
  refine Eq.trans ?_ (congrArg (res5 m c) (show ix2 (tr t (y 0)) (y 1) = ((View.whole main_v0_1).slice (win0_5.rect t)).emb y by
    idx_vars y; blk_ext [idx t]))
  frame_out
  idx_vars y
  refine (pay1 _ _ _ _ y0 y1).trans ?_
  simp only [View.ld_unit_lit, blk0, blk1, blk2, blk3]
  rfl

theorem final6 : (dats m 0 c).arrAt 6 cfg0.N = res6 m c := by
  refine (dats m 0 c).arrAt_eq_of_covers 6 _ (by decide +kernel) fun t hf y => ?_
  blk_simp
  rw [after0_6]
  refine Eq.trans ?_ (congrArg (res6 m c) (show ix2 (tr t (y 0)) (y 1) = ((View.whole main_v0_2).slice (win0_6.rect t)).emb y by
    idx_vars y; blk_ext [idx t]))
  frame_out
  idx_vars y
  refine (pay3 _ _ y0 y1).trans ?_
  simp only [View.ld_unit_lit, blk0, blk1, blk2, blk3]
  rfl

theorem final7 : (dats m 0 c).arrAt 7 cfg0.N = res7 m c := by
  refine (dats m 0 c).arrAt_eq_of_covers 7 _ (by decide +kernel) fun t hf y => ?_
  blk_simp
  rw [after0_7]
  refine Eq.trans ?_ (congrArg (res7 m c) (show ix2 (tr t (y 0)) (y 1) = ((View.whole main_v0_3).slice (win0_7.rect t)).emb y by
    idx_vars y; blk_ext [idx t]))
  frame_out
  idx_vars y
  refine (pay4 _ _ y0 y1).trans ?_
  simp only [View.ld_unit_lit, blk0, blk1, blk2, blk3]
  rfl

end Cert.Kernel35Ideal.AdamXaKv

namespace Cert.AdamXaKv

theorem reference : Cert.quiescent_Reference35Ideal := fun m g _ =>
  (θ_run Cert.Reference35Ideal.defs _ _).mono (fun r h => ⟨fun c => (h c).2.2.2.2, sem_eq_zero_of_no_sems (by decide) r.2⟩)
    (Cert.Reference35Ideal.Value.run m g)

/-- The two programs leave the same four arrays. -/
theorem algebraic : Cert.algebraic_Kernel35Ideal_Reference35Ideal := by
  pair_intro
  · run_from Cert.Kernel35Ideal.Value.run_blocks m g
  · refine (θ_run Cert.Reference35Ideal.defs _ _).mono (fun r h c => ?_) (Cert.Reference35Ideal.Value.run m' g')
    obtain ⟨e0, e1, e2, e3⟩ := hagree c
    obtain ⟨h1, h2, h3, h4, h5⟩ := h c
    refine ⟨h1.trans ?_, h2.trans ?_, h3.trans ?_, h4.trans ?_, h5⟩
    · rw [Cert.Kernel35Ideal.AdamXaKv.final4, e0]; funext i; idx_vars i; pointwise; rfl
    · rw [Cert.Kernel35Ideal.AdamXaKv.final5, e0, e1, e2, e3]; funext i; idx_vars i; pointwise; rfl
    · rw [Cert.Kernel35Ideal.AdamXaKv.final6, e0, e2]; funext i; idx_vars i; pointwise; rfl
    · rw [Cert.Kernel35Ideal.AdamXaKv.final7, e0, e3]; funext i; idx_vars i; pointwise; rfl

end Cert.AdamXaKv

end
-- ==== Proof.AdamMixIn.lean ====
/- The optimiser's step of the weights of the mixer's input projection: what the kernel leaves, and that the reference leaves the same. -/
module

public import proofs.«01_k».proof.Defs
public import proofs.«01_k».proof.Proof.Adam
public import proofs.«01_k».proof.Proof.Gen.Kernel36Ideal.Value
public import proofs.«01_k».proof.Proof.Gen.Reference36Ideal.Run

@[expose] public section

set_option maxRecDepth 16384

noncomputable section

open Idealize.ShloMosaic Idealize.ShloMosaic.TcCoe Idealize.SL.Sem
open Idealize.ShloMosaic.Pipeline (Dat)

namespace Cert.Kernel36Ideal.AdamMixIn

open Cert.Kernel36Ideal Cert.Kernel36Ideal.Gen

section
variable (x : Vec Ideal S4x2048x192 .bf16) (m v w : Vec Ideal S2048x192 .f32) (r : Fin 2048) (j : Fin 192)

theorem pay2 : k0_pay2 (F := Ideal) (View.ld x r0_0) (View.ld x r0_1) (View.ld x r0_2) (View.ld x r0_3) (ix2 r j)
    = ∑ s : Fin 4, x (ix3 s r j) := by
  unfold k0_pay2; pointwise; exact (Adam.four fun s => x (ix3 s r j)).symm

theorem pay3 : k0_pay3 (F := Ideal) (View.ld x r0_0) (View.ld x r0_1) (View.ld x r0_2) (View.ld x r0_3) m (ix2 r j)
    = Adam.newM (m (ix2 r j)) (∑ s : Fin 4, x (ix3 s r j)) := by
  unfold k0_pay3; pointwise; rw [pay2]; rfl

theorem pay4 : k0_pay4 (F := Ideal) (View.ld x r0_0) (View.ld x r0_1) (View.ld x r0_2) (View.ld x r0_3) v (ix2 r j)
    = Adam.newV (v (ix2 r j)) (∑ s : Fin 4, x (ix3 s r j)) := by
  unfold k0_pay4; pointwise; rw [pay2]; rfl

theorem pay1 : k0_pay1 (F := Ideal) (k0_pay5 (View.ld x r0_0) (View.ld x r0_1) (View.ld x r0_2) (View.ld x r0_3) m)
      (k0_pay6 (View.ld x r0_0) (View.ld x r0_1) (View.ld x r0_2) (View.ld x r0_3) v) w (ix2 r j)
    = Adam.delta (w (ix2 r j)) (m (ix2 r j)) (v (ix2 r j)) (∑ s : Fin 4, x (ix3 s r j)) := by
  unfold k0_pay1 k0_pay5 k0_pay6; pointwise; rw [pay3, pay4]; rfl

end

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- The gradient's slots, the weight and its moments, as launched. -/
abbrev aG : FVec Ideal S4x2048x192 .bf16 := m ((c : Thread nD τ).loc main_arg0)
abbrev aW : FVec Ideal S2048x192 .f32 := m ((c : Thread nD τ).loc main_arg1)
abbrev aM : FVec Ideal S2048x192 .f32 := m ((c : Thread nD τ).loc main_arg2)
abbrev aV : FVec Ideal S2048x192 .f32 := m ((c : Thread nD τ).loc main_arg3)

/-- Row `r` of tile `t`, among all rows. -/
abbrev tr (t : Fin cfg0.N) (r : Fin 2048) : Fin 2048 := ⟨t.val * 2048 + r.val, by have := lt_of_lt_of_eq t.isLt (show cfg0.N = 1 from N_0); omega⟩

theorem blk0 (t : Fin cfg0.N) (s : Fin 4) (r : Fin 2048) (e : Fin 192) : iblk m c 0 t (ix3 s r e) = aG m c (ix3 s (tr t r) e) := by
  blk_point [iblk, V, idx t]
theorem blk1 (t : Fin cfg0.N) (r : Fin 2048) (e : Fin 192) : iblk m c 1 t (ix2 r e) = aW m c (ix2 (tr t r) e) := by
  blk_point [iblk, V, idx t]
theorem blk2 (t : Fin cfg0.N) (r : Fin 2048) (e : Fin 192) : iblk m c 2 t (ix2 r e) = aM m c (ix2 (tr t r) e) := by
  blk_point [iblk, V, idx t]
theorem blk3 (t : Fin cfg0.N) (r : Fin 2048) (e : Fin 192) : iblk m c 3 t (ix2 r e) = aV m c (ix2 (tr t r) e) := by
  blk_point [iblk, V, idx t]

/-- The gradient, and the four results, as arrays. -/
def grad (r : Fin 2048) (j : Fin 192) : EReal := ∑ s : Fin 4, aG m c (ix3 s r j)
def res4 : S2048x192.Idx → EReal := fun i => grad m c (i 0) (i 1)
def res5 : S2048x192.Idx → EReal := fun i =>
  Adam.delta (aW m c (ix2 (i 0) (i 1))) (aM m c (ix2 (i 0) (i 1))) (aV m c (ix2 (i 0) (i 1))) (grad m c (i 0) (i 1))
def res6 : S2048x192.Idx → EReal := fun i => Adam.newM (aM m c (ix2 (i 0) (i 1))) (grad m c (i 0) (i 1))
def res7 : S2048x192.Idx → EReal := fun i => Adam.newV (aV m c (ix2 (i 0) (i 1))) (grad m c (i 0) (i 1))

theorem final4 : (dats m 0 c).arrAt 4 cfg0.N = res4 m c := by
  refine (dats m 0 c).arrAt_eq_of_covers 4 _ (by decide +kernel) fun t hf y => ?_
  blk_simp
  rw [after0_4]
  refine Eq.trans ?_ (congrArg (res4 m c) (show ix2 (tr t (y 0)) (y 1) = ((View.whole main_v0_0).slice (win0_4.rect t)).emb y by
    idx_vars y; blk_ext [idx t]))
  frame_out
  idx_vars y
  refine (pay2 _ y0 y1).trans ?_
  simp only [View.ld_unit_lit, blk0, blk1, blk2, blk3]
  rfl

theorem final5 : (dats m 0 c).arrAt 5 cfg0.N = res5 m c := by
  refine (dats m 0 c).arrAt_eq_of_covers 5 _ (by decide +kernel) fun t hf y => ?_
  blk_simp
  rw [after0_5]
  refine Eq.trans ?_ (congrArg (res5 m c) (show ix2 (tr t (y 0)) (y 1) = ((View.whole main_v0_1).slice (win0_5.rect t)).emb y by
    idx_vars y; blk_ext [idx t]))
  frame_out
  idx_vars y
  refine (pay1 _ _ _ _ y0 y1).trans ?_
  simp only [View.ld_unit_lit, blk0, blk1, blk2, blk3]
  rfl

theorem final6 : (dats m 0 c).arrAt 6 cfg0.N = res6 m c := by
  refine (dats m 0 c).arrAt_eq_of_covers 6 _ (by decide +kernel) fun t hf y => ?_
  blk_simp
  rw [after0_6]
  refine Eq.trans ?_ (congrArg (res6 m c) (show ix2 (tr t (y 0)) (y 1) = ((View.whole main_v0_2).slice (win0_6.rect t)).emb y by
    idx_vars y; blk_ext [idx t]))
  frame_out
  idx_vars y
  refine (pay3 _ _ y0 y1).trans ?_
  simp only [View.ld_unit_lit, blk0, blk1, blk2, blk3]
  rfl

theorem final7 : (dats m 0 c).arrAt 7 cfg0.N = res7 m c := by
  refine (dats m 0 c).arrAt_eq_of_covers 7 _ (by decide +kernel) fun t hf y => ?_
  blk_simp
  rw [after0_7]
  refine Eq.trans ?_ (congrArg (res7 m c) (show ix2 (tr t (y 0)) (y 1) = ((View.whole main_v0_3).slice (win0_7.rect t)).emb y by
    idx_vars y; blk_ext [idx t]))
  frame_out
  idx_vars y
  refine (pay4 _ _ y0 y1).trans ?_
  simp only [View.ld_unit_lit, blk0, blk1, blk2, blk3]
  rfl

end Cert.Kernel36Ideal.AdamMixIn

namespace Cert.AdamMixIn

theorem reference : Cert.quiescent_Reference36Ideal := fun m g _ =>
  (θ_run Cert.Reference36Ideal.defs _ _).mono (fun r h => ⟨fun c => (h c).2.2.2.2, sem_eq_zero_of_no_sems (by decide) r.2⟩)
    (Cert.Reference36Ideal.Value.run m g)

/-- The two programs leave the same four arrays. -/
theorem algebraic : Cert.algebraic_Kernel36Ideal_Reference36Ideal := by
  pair_intro
  · run_from Cert.Kernel36Ideal.Value.run_blocks m g
  · refine (θ_run Cert.Reference36Ideal.defs _ _).mono (fun r h c => ?_) (Cert.Reference36Ideal.Value.run m' g')
    obtain ⟨e0, e1, e2, e3⟩ := hagree c
    obtain ⟨h1, h2, h3, h4, h5⟩ := h c
    refine ⟨h1.trans ?_, h2.trans ?_, h3.trans ?_, h4.trans ?_, h5⟩
    · rw [Cert.Kernel36Ideal.AdamMixIn.final4, e0]; funext i; idx_vars i; pointwise; rfl
    · rw [Cert.Kernel36Ideal.AdamMixIn.final5, e0, e1, e2, e3]; funext i; idx_vars i; pointwise; rfl
    · rw [Cert.Kernel36Ideal.AdamMixIn.final6, e0, e2]; funext i; idx_vars i; pointwise; rfl
    · rw [Cert.Kernel36Ideal.AdamMixIn.final7, e0, e3]; funext i; idx_vars i; pointwise; rfl

end Cert.AdamMixIn

end
-- ==== Proof.AdamMixOut.lean ====
/- The optimiser's step of the weights of the mixer's output projection: what the kernel leaves, and that the reference leaves the same. -/
module

public import proofs.«01_k».proof.Defs
public import proofs.«01_k».proof.Proof.Adam
public import proofs.«01_k».proof.Proof.Gen.Kernel37Ideal.Value
public import proofs.«01_k».proof.Proof.Gen.Reference37Ideal.Run

@[expose] public section

set_option maxRecDepth 16384

noncomputable section

open Idealize.ShloMosaic Idealize.ShloMosaic.TcCoe Idealize.SL.Sem
open Idealize.ShloMosaic.Pipeline (Dat)

namespace Cert.Kernel37Ideal.AdamMixOut

open Cert.Kernel37Ideal Cert.Kernel37Ideal.Gen

section
variable (x : Vec Ideal S4x256x1024 .bf16) (m v w : Vec Ideal S256x1024 .f32) (r : Fin 256) (j : Fin 1024)

theorem pay2 : k0_pay2 (F := Ideal) (View.ld x r0_0) (View.ld x r0_1) (View.ld x r0_2) (View.ld x r0_3) (ix2 r j)
    = ∑ s : Fin 4, x (ix3 s r j) := by
  unfold k0_pay2; pointwise; exact (Adam.four fun s => x (ix3 s r j)).symm

theorem pay3 : k0_pay3 (F := Ideal) (View.ld x r0_0) (View.ld x r0_1) (View.ld x r0_2) (View.ld x r0_3) m (ix2 r j)
    = Adam.newM (m (ix2 r j)) (∑ s : Fin 4, x (ix3 s r j)) := by
  unfold k0_pay3; pointwise; rw [pay2]; rfl

theorem pay4 : k0_pay4 (F := Ideal) (View.ld x r0_0) (View.ld x r0_1) (View.ld x r0_2) (View.ld x r0_3) v (ix2 r j)
    = Adam.newV (v (ix2 r j)) (∑ s : Fin 4, x (ix3 s r j)) := by
  unfold k0_pay4; pointwise; rw [pay2]; rfl

theorem pay1 : k0_pay1 (F := Ideal) (k0_pay5 (View.ld x r0_0) (View.ld x r0_1) (View.ld x r0_2) (View.ld x r0_3) m)
      (k0_pay6 (View.ld x r0_0) (View.ld x r0_1) (View.ld x r0_2) (View.ld x r0_3) v) w (ix2 r j)
    = Adam.delta (w (ix2 r j)) (m (ix2 r j)) (v (ix2 r j)) (∑ s : Fin 4, x (ix3 s r j)) := by
  unfold k0_pay1 k0_pay5 k0_pay6; pointwise; rw [pay3, pay4]; rfl

end

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- The gradient's slots, the weight and its moments, as launched. -/
abbrev aG : FVec Ideal S4x256x1024 .bf16 := m ((c : Thread nD τ).loc main_arg0)
abbrev aW : FVec Ideal S256x1024 .f32 := m ((c : Thread nD τ).loc main_arg1)
abbrev aM : FVec Ideal S256x1024 .f32 := m ((c : Thread nD τ).loc main_arg2)
abbrev aV : FVec Ideal S256x1024 .f32 := m ((c : Thread nD τ).loc main_arg3)

/-- Row `r` of tile `t`, among all rows. -/
abbrev tr (t : Fin cfg0.N) (r : Fin 256) : Fin 256 := ⟨t.val * 256 + r.val, by have := lt_of_lt_of_eq t.isLt (show cfg0.N = 1 from N_0); omega⟩

theorem blk0 (t : Fin cfg0.N) (s : Fin 4) (r : Fin 256) (e : Fin 1024) : iblk m c 0 t (ix3 s r e) = aG m c (ix3 s (tr t r) e) := by
  blk_point [iblk, V, idx t]
theorem blk1 (t : Fin cfg0.N) (r : Fin 256) (e : Fin 1024) : iblk m c 1 t (ix2 r e) = aW m c (ix2 (tr t r) e) := by
  blk_point [iblk, V, idx t]
theorem blk2 (t : Fin cfg0.N) (r : Fin 256) (e : Fin 1024) : iblk m c 2 t (ix2 r e) = aM m c (ix2 (tr t r) e) := by
  blk_point [iblk, V, idx t]
theorem blk3 (t : Fin cfg0.N) (r : Fin 256) (e : Fin 1024) : iblk m c 3 t (ix2 r e) = aV m c (ix2 (tr t r) e) := by
  blk_point [iblk, V, idx t]

/-- The gradient, and the four results, as arrays. -/
def grad (r : Fin 256) (j : Fin 1024) : EReal := ∑ s : Fin 4, aG m c (ix3 s r j)
def res4 : S256x1024.Idx → EReal := fun i => grad m c (i 0) (i 1)
def res5 : S256x1024.Idx → EReal := fun i =>
  Adam.delta (aW m c (ix2 (i 0) (i 1))) (aM m c (ix2 (i 0) (i 1))) (aV m c (ix2 (i 0) (i 1))) (grad m c (i 0) (i 1))
def res6 : S256x1024.Idx → EReal := fun i => Adam.newM (aM m c (ix2 (i 0) (i 1))) (grad m c (i 0) (i 1))
def res7 : S256x1024.Idx → EReal := fun i => Adam.newV (aV m c (ix2 (i 0) (i 1))) (grad m c (i 0) (i 1))

theorem final4 : (dats m 0 c).arrAt 4 cfg0.N = res4 m c := by
  refine (dats m 0 c).arrAt_eq_of_covers 4 _ (by decide +kernel) fun t hf y => ?_
  blk_simp
  rw [after0_4]
  refine Eq.trans ?_ (congrArg (res4 m c) (show ix2 (tr t (y 0)) (y 1) = ((View.whole main_v0_0).slice (win0_4.rect t)).emb y by
    idx_vars y; blk_ext [idx t]))
  frame_out
  idx_vars y
  refine (pay2 _ y0 y1).trans ?_
  simp only [View.ld_unit_lit, blk0, blk1, blk2, blk3]
  rfl

theorem final5 : (dats m 0 c).arrAt 5 cfg0.N = res5 m c := by
  refine (dats m 0 c).arrAt_eq_of_covers 5 _ (by decide +kernel) fun t hf y => ?_
  blk_simp
  rw [after0_5]
  refine Eq.trans ?_ (congrArg (res5 m c) (show ix2 (tr t (y 0)) (y 1) = ((View.whole main_v0_1).slice (win0_5.rect t)).emb y by
    idx_vars y; blk_ext [idx t]))
  frame_out
  idx_vars y
  refine (pay1 _ _ _ _ y0 y1).trans ?_
  simp only [View.ld_unit_lit, blk0, blk1, blk2, blk3]
  rfl

theorem final6 : (dats m 0 c).arrAt 6 cfg0.N = res6 m c := by
  refine (dats m 0 c).arrAt_eq_of_covers 6 _ (by decide +kernel) fun t hf y => ?_
  blk_simp
  rw [after0_6]
  refine Eq.trans ?_ (congrArg (res6 m c) (show ix2 (tr t (y 0)) (y 1) = ((View.whole main_v0_2).slice (win0_6.rect t)).emb y by
    idx_vars y; blk_ext [idx t]))
  frame_out
  idx_vars y
  refine (pay3 _ _ y0 y1).trans ?_
  simp only [View.ld_unit_lit, blk0, blk1, blk2, blk3]
  rfl

theorem final7 : (dats m 0 c).arrAt 7 cfg0.N = res7 m c := by
  refine (dats m 0 c).arrAt_eq_of_covers 7 _ (by decide +kernel) fun t hf y => ?_
  blk_simp
  rw [after0_7]
  refine Eq.trans ?_ (congrArg (res7 m c) (show ix2 (tr t (y 0)) (y 1) = ((View.whole main_v0_3).slice (win0_7.rect t)).emb y by
    idx_vars y; blk_ext [idx t]))
  frame_out
  idx_vars y
  refine (pay4 _ _ y0 y1).trans ?_
  simp only [View.ld_unit_lit, blk0, blk1, blk2, blk3]
  rfl

end Cert.Kernel37Ideal.AdamMixOut

namespace Cert.AdamMixOut

theorem reference : Cert.quiescent_Reference37Ideal := fun m g _ =>
  (θ_run Cert.Reference37Ideal.defs _ _).mono (fun r h => ⟨fun c => (h c).2.2.2.2, sem_eq_zero_of_no_sems (by decide) r.2⟩)
    (Cert.Reference37Ideal.Value.run m g)

/-- The two programs leave the same four arrays. -/
theorem algebraic : Cert.algebraic_Kernel37Ideal_Reference37Ideal := by
  pair_intro
  · run_from Cert.Kernel37Ideal.Value.run_blocks m g
  · refine (θ_run Cert.Reference37Ideal.defs _ _).mono (fun r h c => ?_) (Cert.Reference37Ideal.Value.run m' g')
    obtain ⟨e0, e1, e2, e3⟩ := hagree c
    obtain ⟨h1, h2, h3, h4, h5⟩ := h c
    refine ⟨h1.trans ?_, h2.trans ?_, h3.trans ?_, h4.trans ?_, h5⟩
    · rw [Cert.Kernel37Ideal.AdamMixOut.final4, e0]; funext i; idx_vars i; pointwise; rfl
    · rw [Cert.Kernel37Ideal.AdamMixOut.final5, e0, e1, e2, e3]; funext i; idx_vars i; pointwise; rfl
    · rw [Cert.Kernel37Ideal.AdamMixOut.final6, e0, e2]; funext i; idx_vars i; pointwise; rfl
    · rw [Cert.Kernel37Ideal.AdamMixOut.final7, e0, e3]; funext i; idx_vars i; pointwise; rfl

end Cert.AdamMixOut

end
-- ==== Proof.AdamMlaDown.lean ====
/- The optimiser's step of the weights of the latent attention's down projection: what the kernel leaves, and that the reference leaves the same. -/
module

public import proofs.«01_k».proof.Defs
public import proofs.«01_k».proof.Proof.Adam
public import proofs.«01_k».proof.Proof.Gen.Kernel38Ideal.Value
public import proofs.«01_k».proof.Proof.Gen.Reference38Ideal.Run

@[expose] public section

set_option maxRecDepth 16384

noncomputable section

open Idealize.ShloMosaic Idealize.ShloMosaic.TcCoe Idealize.SL.Sem
open Idealize.ShloMosaic.Pipeline (Dat)

namespace Cert.Kernel38Ideal.AdamMlaDown

open Cert.Kernel38Ideal Cert.Kernel38Ideal.Gen

section
variable (x : Vec Ideal S4x256x672 .bf16) (m v w : Vec Ideal S256x672 .f32) (r : Fin 256) (j : Fin 672)

theorem pay2 : k0_pay2 (F := Ideal) (View.ld x r0_0) (View.ld x r0_1) (View.ld x r0_2) (View.ld x r0_3) (ix2 r j)
    = ∑ s : Fin 4, x (ix3 s r j) := by
  unfold k0_pay2; pointwise; exact (Adam.four fun s => x (ix3 s r j)).symm

theorem pay3 : k0_pay3 (F := Ideal) (View.ld x r0_0) (View.ld x r0_1) (View.ld x r0_2) (View.ld x r0_3) m (ix2 r j)
    = Adam.newM (m (ix2 r j)) (∑ s : Fin 4, x (ix3 s r j)) := by
  unfold k0_pay3; pointwise; rw [pay2]; rfl

theorem pay4 : k0_pay4 (F := Ideal) (View.ld x r0_0) (View.ld x r0_1) (View.ld x r0_2) (View.ld x r0_3) v (ix2 r j)
    = Adam.newV (v (ix2 r j)) (∑ s : Fin 4, x (ix3 s r j)) := by
  unfold k0_pay4; pointwise; rw [pay2]; rfl

theorem pay1 : k0_pay1 (F := Ideal) (k0_pay5 (View.ld x r0_0) (View.ld x r0_1) (View.ld x r0_2) (View.ld x r0_3) m)
      (k0_pay6 (View.ld x r0_0) (View.ld x r0_1) (View.ld x r0_2) (View.ld x r0_3) v) w (ix2 r j)
    = Adam.delta (w (ix2 r j)) (m (ix2 r j)) (v (ix2 r j)) (∑ s : Fin 4, x (ix3 s r j)) := by
  unfold k0_pay1 k0_pay5 k0_pay6; pointwise; rw [pay3, pay4]; rfl

end

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- The gradient's slots, the weight and its moments, as launched. -/
abbrev aG : FVec Ideal S4x256x672 .bf16 := m ((c : Thread nD τ).loc main_arg0)
abbrev aW : FVec Ideal S256x672 .f32 := m ((c : Thread nD τ).loc main_arg1)
abbrev aM : FVec Ideal S256x672 .f32 := m ((c : Thread nD τ).loc main_arg2)
abbrev aV : FVec Ideal S256x672 .f32 := m ((c : Thread nD τ).loc main_arg3)

/-- Row `r` of tile `t`, among all rows. -/
abbrev tr (t : Fin cfg0.N) (r : Fin 256) : Fin 256 := ⟨t.val * 256 + r.val, by have := lt_of_lt_of_eq t.isLt (show cfg0.N = 1 from N_0); omega⟩

theorem blk0 (t : Fin cfg0.N) (s : Fin 4) (r : Fin 256) (e : Fin 672) : iblk m c 0 t (ix3 s r e) = aG m c (ix3 s (tr t r) e) := by
  blk_point [iblk, V, idx t]
theorem blk1 (t : Fin cfg0.N) (r : Fin 256) (e : Fin 672) : iblk m c 1 t (ix2 r e) = aW m c (ix2 (tr t r) e) := by
  blk_point [iblk, V, idx t]
theorem blk2 (t : Fin cfg0.N) (r : Fin 256) (e : Fin 672) : iblk m c 2 t (ix2 r e) = aM m c (ix2 (tr t r) e) := by
  blk_point [iblk, V, idx t]
theorem blk3 (t : Fin cfg0.N) (r : Fin 256) (e : Fin 672) : iblk m c 3 t (ix2 r e) = aV m c (ix2 (tr t r) e) := by
  blk_point [iblk, V, idx t]

/-- The gradient, and the four results, as arrays. -/
def grad (r : Fin 256) (j : Fin 672) : EReal := ∑ s : Fin 4, aG m c (ix3 s r j)
def res4 : S256x672.Idx → EReal := fun i => grad m c (i 0) (i 1)
def res5 : S256x672.Idx → EReal := fun i =>
  Adam.delta (aW m c (ix2 (i 0) (i 1))) (aM m c (ix2 (i 0) (i 1))) (aV m c (ix2 (i 0) (i 1))) (grad m c (i 0) (i 1))
def res6 : S256x672.Idx → EReal := fun i => Adam.newM (aM m c (ix2 (i 0) (i 1))) (grad m c (i 0) (i 1))
def res7 : S256x672.Idx → EReal := fun i => Adam.newV (aV m c (ix2 (i 0) (i 1))) (grad m c (i 0) (i 1))

theorem final4 : (dats m 0 c).arrAt 4 cfg0.N = res4 m c := by
  refine (dats m 0 c).arrAt_eq_of_covers 4 _ (by decide +kernel) fun t hf y => ?_
  blk_simp
  rw [after0_4]
  refine Eq.trans ?_ (congrArg (res4 m c) (show ix2 (tr t (y 0)) (y 1) = ((View.whole main_v0_0).slice (win0_4.rect t)).emb y by
    idx_vars y; blk_ext [idx t]))
  frame_out
  idx_vars y
  refine (pay2 _ y0 y1).trans ?_
  simp only [View.ld_unit_lit, blk0, blk1, blk2, blk3]
  rfl

theorem final5 : (dats m 0 c).arrAt 5 cfg0.N = res5 m c := by
  refine (dats m 0 c).arrAt_eq_of_covers 5 _ (by decide +kernel) fun t hf y => ?_
  blk_simp
  rw [after0_5]
  refine Eq.trans ?_ (congrArg (res5 m c) (show ix2 (tr t (y 0)) (y 1) = ((View.whole main_v0_1).slice (win0_5.rect t)).emb y by
    idx_vars y; blk_ext [idx t]))
  frame_out
  idx_vars y
  refine (pay1 _ _ _ _ y0 y1).trans ?_
  simp only [View.ld_unit_lit, blk0, blk1, blk2, blk3]
  rfl

theorem final6 : (dats m 0 c).arrAt 6 cfg0.N = res6 m c := by
  refine (dats m 0 c).arrAt_eq_of_covers 6 _ (by decide +kernel) fun t hf y => ?_
  blk_simp
  rw [after0_6]
  refine Eq.trans ?_ (congrArg (res6 m c) (show ix2 (tr t (y 0)) (y 1) = ((View.whole main_v0_2).slice (win0_6.rect t)).emb y by
    idx_vars y; blk_ext [idx t]))
  frame_out
  idx_vars y
  refine (pay3 _ _ y0 y1).trans ?_
  simp only [View.ld_unit_lit, blk0, blk1, blk2, blk3]
  rfl

theorem final7 : (dats m 0 c).arrAt 7 cfg0.N = res7 m c := by
  refine (dats m 0 c).arrAt_eq_of_covers 7 _ (by decide +kernel) fun t hf y => ?_
  blk_simp
  rw [after0_7]
  refine Eq.trans ?_ (congrArg (res7 m c) (show ix2 (tr t (y 0)) (y 1) = ((View.whole main_v0_3).slice (win0_7.rect t)).emb y by
    idx_vars y; blk_ext [idx t]))
  frame_out
  idx_vars y
  refine (pay4 _ _ y0 y1).trans ?_
  simp only [View.ld_unit_lit, blk0, blk1, blk2, blk3]
  rfl

end Cert.Kernel38Ideal.AdamMlaDown

namespace Cert.AdamMlaDown

theorem reference : Cert.quiescent_Reference38Ideal := fun m g _ =>
  (θ_run Cert.Reference38Ideal.defs _ _).mono (fun r h => ⟨fun c => (h c).2.2.2.2, sem_eq_zero_of_no_sems (by decide) r.2⟩)
    (Cert.Reference38Ideal.Value.run m g)

/-- The two programs leave the same four arrays. -/
theorem algebraic : Cert.algebraic_Kernel38Ideal_Reference38Ideal := by
  pair_intro
  · run_from Cert.Kernel38Ideal.Value.run_blocks m g
  · refine (θ_run Cert.Reference38Ideal.defs _ _).mono (fun r h c => ?_) (Cert.Reference38Ideal.Value.run m' g')
    obtain ⟨e0, e1, e2, e3⟩ := hagree c
    obtain ⟨h1, h2, h3, h4, h5⟩ := h c
    refine ⟨h1.trans ?_, h2.trans ?_, h3.trans ?_, h4.trans ?_, h5⟩
    · rw [Cert.Kernel38Ideal.AdamMlaDown.final4, e0]; funext i; idx_vars i; pointwise; rfl
    · rw [Cert.Kernel38Ideal.AdamMlaDown.final5, e0, e1, e2, e3]; funext i; idx_vars i; pointwise; rfl
    · rw [Cert.Kernel38Ideal.AdamMlaDown.final6, e0, e2]; funext i; idx_vars i; pointwise; rfl
    · rw [Cert.Kernel38Ideal.AdamMlaDown.final7, e0, e3]; funext i; idx_vars i; pointwise; rfl

end Cert.AdamMlaDown

end
-- ==== Proof.AdamMlaQ.lean ====
/- The optimiser's step of the weights of the latent attention's projection to queries: what the kernel leaves, and that the reference leaves the same. -/
module

public import proofs.«01_k».proof.Defs
public import proofs.«01_k».proof.Proof.Adam
public import proofs.«01_k».proof.Proof.Gen.Kernel39Ideal.Value
public import proofs.«01_k».proof.Proof.Gen.Reference39Ideal.Run

@[expose] public section

set_option maxRecDepth 16384

noncomputable section

open Idealize.ShloMosaic Idealize.ShloMosaic.TcCoe Idealize.SL.Sem
open Idealize.ShloMosaic.Pipeline (Dat)

namespace Cert.Kernel39Ideal.AdamMlaQ

open Cert.Kernel39Ideal Cert.Kernel39Ideal.Gen

section
variable (x : Vec Ideal S4x256x192 .bf16) (m v w : Vec Ideal S256x192 .f32) (r : Fin 256) (j : Fin 192)

theorem pay2 : k0_pay2 (F := Ideal) (View.ld x r0_0) (View.ld x r0_1) (View.ld x r0_2) (View.ld x r0_3) (ix2 r j)
    = ∑ s : Fin 4, x (ix3 s r j) := by
  unfold k0_pay2; pointwise; exact (Adam.four fun s => x (ix3 s r j)).symm

theorem pay3 : k0_pay3 (F := Ideal) (View.ld x r0_0) (View.ld x r0_1) (View.ld x r0_2) (View.ld x r0_3) m (ix2 r j)
    = Adam.newM (m (ix2 r j)) (∑ s : Fin 4, x (ix3 s r j)) := by
  unfold k0_pay3; pointwise; rw [pay2]; rfl

theorem pay4 : k0_pay4 (F := Ideal) (View.ld x r0_0) (View.ld x r0_1) (View.ld x r0_2) (View.ld x r0_3) v (ix2 r j)
    = Adam.newV (v (ix2 r j)) (∑ s : Fin 4, x (ix3 s r j)) := by
  unfold k0_pay4; pointwise; rw [pay2]; rfl

theorem pay1 : k0_pay1 (F := Ideal) (k0_pay5 (View.ld x r0_0) (View.ld x r0_1) (View.ld x r0_2) (View.ld x r0_3) m)
      (k0_pay6 (View.ld x r0_0) (View.ld x r0_1) (View.ld x r0_2) (View.ld x r0_3) v) w (ix2 r j)
    = Adam.delta (w (ix2 r j)) (m (ix2 r j)) (v (ix2 r j)) (∑ s : Fin 4, x (ix3 s r j)) := by
  unfold k0_pay1 k0_pay5 k0_pay6; pointwise; rw [pay3, pay4]; rfl

end

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- The gradient's slots, the weight and its moments, as launched. -/
abbrev aG : FVec Ideal S4x768x192 .bf16 := m ((c : Thread nD τ).loc main_arg0)
abbrev aW : FVec Ideal S768x192 .f32 := m ((c : Thread nD τ).loc main_arg1)
abbrev aM : FVec Ideal S768x192 .f32 := m ((c : Thread nD τ).loc main_arg2)
abbrev aV : FVec Ideal S768x192 .f32 := m ((c : Thread nD τ).loc main_arg3)

/-- Row `r` of tile `t`, among all rows. -/
abbrev tr (t : Fin cfg0.N) (r : Fin 256) : Fin 768 := ⟨t.val * 256 + r.val, by have := lt_of_lt_of_eq t.isLt (show cfg0.N = 3 from N_0); omega⟩

theorem blk0 (t : Fin cfg0.N) (s : Fin 4) (r : Fin 256) (e : Fin 192) : iblk m c 0 t (ix3 s r e) = aG m c (ix3 s (tr t r) e) := by
  blk_point [iblk, V, idx t]
theorem blk1 (t : Fin cfg0.N) (r : Fin 256) (e : Fin 192) : iblk m c 1 t (ix2 r e) = aW m c (ix2 (tr t r) e) := by
  blk_point [iblk, V, idx t]
theorem blk2 (t : Fin cfg0.N) (r : Fin 256) (e : Fin 192) : iblk m c 2 t (ix2 r e) = aM m c (ix2 (tr t r) e) := by
  blk_point [iblk, V, idx t]
theorem blk3 (t : Fin cfg0.N) (r : Fin 256) (e : Fin 192) : iblk m c 3 t (ix2 r e) = aV m c (ix2 (tr t r) e) := by
  blk_point [iblk, V, idx t]

/-- The gradient, and the four results, as arrays. -/
def grad (r : Fin 768) (j : Fin 192) : EReal := ∑ s : Fin 4, aG m c (ix3 s r j)
def res4 : S768x192.Idx → EReal := fun i => grad m c (i 0) (i 1)
def res5 : S768x192.Idx → EReal := fun i =>
  Adam.delta (aW m c (ix2 (i 0) (i 1))) (aM m c (ix2 (i 0) (i 1))) (aV m c (ix2 (i 0) (i 1))) (grad m c (i 0) (i 1))
def res6 : S768x192.Idx → EReal := fun i => Adam.newM (aM m c (ix2 (i 0) (i 1))) (grad m c (i 0) (i 1))
def res7 : S768x192.Idx → EReal := fun i => Adam.newV (aV m c (ix2 (i 0) (i 1))) (grad m c (i 0) (i 1))

theorem final4 : (dats m 0 c).arrAt 4 cfg0.N = res4 m c := by
  refine (dats m 0 c).arrAt_eq_of_covers 4 _ (by decide +kernel) fun t hf y => ?_
  blk_simp
  rw [after0_4]
  refine Eq.trans ?_ (congrArg (res4 m c) (show ix2 (tr t (y 0)) (y 1) = ((View.whole main_v0_0).slice (win0_4.rect t)).emb y by
    idx_vars y; blk_ext [idx t]))
  frame_out
  idx_vars y
  refine (pay2 _ y0 y1).trans ?_
  simp only [View.ld_unit_lit, blk0, blk1, blk2, blk3]
  rfl

theorem final5 : (dats m 0 c).arrAt 5 cfg0.N = res5 m c := by
  refine (dats m 0 c).arrAt_eq_of_covers 5 _ (by decide +kernel) fun t hf y => ?_
  blk_simp
  rw [after0_5]
  refine Eq.trans ?_ (congrArg (res5 m c) (show ix2 (tr t (y 0)) (y 1) = ((View.whole main_v0_1).slice (win0_5.rect t)).emb y by
    idx_vars y; blk_ext [idx t]))
  frame_out
  idx_vars y
  refine (pay1 _ _ _ _ y0 y1).trans ?_
  simp only [View.ld_unit_lit, blk0, blk1, blk2, blk3]
  rfl

theorem final6 : (dats m 0 c).arrAt 6 cfg0.N = res6 m c := by
  refine (dats m 0 c).arrAt_eq_of_covers 6 _ (by decide +kernel) fun t hf y => ?_
  blk_simp
  rw [after0_6]
  refine Eq.trans ?_ (congrArg (res6 m c) (show ix2 (tr t (y 0)) (y 1) = ((View.whole main_v0_2).slice (win0_6.rect t)).emb y by
    idx_vars y; blk_ext [idx t]))
  frame_out
  idx_vars y
  refine (pay3 _ _ y0 y1).trans ?_
  simp only [View.ld_unit_lit, blk0, blk1, blk2, blk3]
  rfl

theorem final7 : (dats m 0 c).arrAt 7 cfg0.N = res7 m c := by
  refine (dats m 0 c).arrAt_eq_of_covers 7 _ (by decide +kernel) fun t hf y => ?_
  blk_simp
  rw [after0_7]
  refine Eq.trans ?_ (congrArg (res7 m c) (show ix2 (tr t (y 0)) (y 1) = ((View.whole main_v0_3).slice (win0_7.rect t)).emb y by
    idx_vars y; blk_ext [idx t]))
  frame_out
  idx_vars y
  refine (pay4 _ _ y0 y1).trans ?_
  simp only [View.ld_unit_lit, blk0, blk1, blk2, blk3]
  rfl

end Cert.Kernel39Ideal.AdamMlaQ

namespace Cert.AdamMlaQ

theorem reference : Cert.quiescent_Reference39Ideal := fun m g _ =>
  (θ_run Cert.Reference39Ideal.defs _ _).mono (fun r h => ⟨fun c => (h c).2.2.2.2, sem_eq_zero_of_no_sems (by decide) r.2⟩)
    (Cert.Reference39Ideal.Value.run m g)

/-- The two programs leave the same four arrays. -/
theorem algebraic : Cert.algebraic_Kernel39Ideal_Reference39Ideal := by
  pair_intro
  · run_from Cert.Kernel39Ideal.Value.run_blocks m g
  · refine (θ_run Cert.Reference39Ideal.defs _ _).mono (fun r h c => ?_) (Cert.Reference39Ideal.Value.run m' g')
    obtain ⟨e0, e1, e2, e3⟩ := hagree c
    obtain ⟨h1, h2, h3, h4, h5⟩ := h c
    refine ⟨h1.trans ?_, h2.trans ?_, h3.trans ?_, h4.trans ?_, h5⟩
    · rw [Cert.Kernel39Ideal.AdamMlaQ.final4, e0]; funext i; idx_vars i; pointwise; rfl
    · rw [Cert.Kernel39Ideal.AdamMlaQ.final5, e0, e1, e2, e3]; funext i; idx_vars i; pointwise; rfl
    · rw [Cert.Kernel39Ideal.AdamMlaQ.final6, e0, e2]; funext i; idx_vars i; pointwise; rfl
    · rw [Cert.Kernel39Ideal.AdamMlaQ.final7, e0, e3]; funext i; idx_vars i; pointwise; rfl

end Cert.AdamMlaQ

end
-- ==== Proof.AdamMlaKv.lean ====
/- The optimiser's step of the weights of the latent attention's projection to keys and values: what the kernel leaves, and that the reference leaves the same. -/
module

public import proofs.«01_k».proof.Defs
public import proofs.«01_k».proof.Proof.Adam
public import proofs.«01_k».proof.Proof.Gen.Kernel40Ideal.Value
public import proofs.«01_k».proof.Proof.Gen.Reference40Ideal.Run

@[expose] public section

set_option maxRecDepth 16384

noncomputable section

open Idealize.ShloMosaic Idealize.ShloMosaic.TcCoe Idealize.SL.Sem
open Idealize.ShloMosaic.Pipeline (Dat)

namespace Cert.Kernel40Ideal.AdamMlaKv

open Cert.Kernel40Ideal Cert.Kernel40Ideal.Gen

section
variable (x : Vec Ideal S4x512x256 .bf16) (m v w : Vec Ideal S512x256 .f32) (r : Fin 512) (j : Fin 256)

theorem pay2 : k0_pay2 (F := Ideal) (View.ld x r0_0) (View.ld x r0_1) (View.ld x r0_2) (View.ld x r0_3) (ix2 r j)
    = ∑ s : Fin 4, x (ix3 s r j) := by
  unfold k0_pay2; pointwise; exact (Adam.four fun s => x (ix3 s r j)).symm

theorem pay3 : k0_pay3 (F := Ideal) (View.ld x r0_0) (View.ld x r0_1) (View.ld x r0_2) (View.ld x r0_3) m (ix2 r j)
    = Adam.newM (m (ix2 r j)) (∑ s : Fin 4, x (ix3 s r j)) := by
  unfold k0_pay3; pointwise; rw [pay2]; rfl

theorem pay4 : k0_pay4 (F := Ideal) (View.ld x r0_0) (View.ld x r0_1) (View.ld x r0_2) (View.ld x r0_3) v (ix2 r j)
    = Adam.newV (v (ix2 r j)) (∑ s : Fin 4, x (ix3 s r j)) := by
  unfold k0_pay4; pointwise; rw [pay2]; rfl

theorem pay1 : k0_pay1 (F := Ideal) (k0_pay5 (View.ld x r0_0) (View.ld x r0_1) (View.ld x r0_2) (View.ld x r0_3) m)
      (k0_pay6 (View.ld x r0_0) (View.ld x r0_1) (View.ld x r0_2) (View.ld x r0_3) v) w (ix2 r j)
    = Adam.delta (w (ix2 r j)) (m (ix2 r j)) (v (ix2 r j)) (∑ s : Fin 4, x (ix3 s r j)) := by
  unfold k0_pay1 k0_pay5 k0_pay6; pointwise; rw [pay3, pay4]; rfl

end

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- The gradient's slots, the weight and its moments, as launched. -/
abbrev aG : FVec Ideal S4x512x256 .bf16 := m ((c : Thread nD τ).loc main_arg0)
abbrev aW : FVec Ideal S512x256 .f32 := m ((c : Thread nD τ).loc main_arg1)
abbrev aM : FVec Ideal S512x256 .f32 := m ((c : Thread nD τ).loc main_arg2)
abbrev aV : FVec Ideal S512x256 .f32 := m ((c : Thread nD τ).loc main_arg3)

/-- Row `r` of tile `t`, among all rows. -/
abbrev tr (t : Fin cfg0.N) (r : Fin 512) : Fin 512 := ⟨t.val * 512 + r.val, by have := lt_of_lt_of_eq t.isLt (show cfg0.N = 1 from N_0); omega⟩

theorem blk0 (t : Fin cfg0.N) (s : Fin 4) (r : Fin 512) (e : Fin 256) : iblk m c 0 t (ix3 s r e) = aG m c (ix3 s (tr t r) e) := by
  blk_point [iblk, V, idx t]
theorem blk1 (t : Fin cfg0.N) (r : Fin 512) (e : Fin 256) : iblk m c 1 t (ix2 r e) = aW m c (ix2 (tr t r) e) := by
  blk_point [iblk, V, idx t]
theorem blk2 (t : Fin cfg0.N) (r : Fin 512) (e : Fin 256) : iblk m c 2 t (ix2 r e) = aM m c (ix2 (tr t r) e) := by
  blk_point [iblk, V, idx t]
theorem blk3 (t : Fin cfg0.N) (r : Fin 512) (e : Fin 256) : iblk m c 3 t (ix2 r e) = aV m c (ix2 (tr t r) e) := by
  blk_point [iblk, V, idx t]

/-- The gradient, and the four results, as arrays. -/
def grad (r : Fin 512) (j : Fin 256) : EReal := ∑ s : Fin 4, aG m c (ix3 s r j)
def res4 : S512x256.Idx → EReal := fun i => grad m c (i 0) (i 1)
def res5 : S512x256.Idx → EReal := fun i =>
  Adam.delta (aW m c (ix2 (i 0) (i 1))) (aM m c (ix2 (i 0) (i 1))) (aV m c (ix2 (i 0) (i 1))) (grad m c (i 0) (i 1))
def res6 : S512x256.Idx → EReal := fun i => Adam.newM (aM m c (ix2 (i 0) (i 1))) (grad m c (i 0) (i 1))
def res7 : S512x256.Idx → EReal := fun i => Adam.newV (aV m c (ix2 (i 0) (i 1))) (grad m c (i 0) (i 1))

theorem final4 : (dats m 0 c).arrAt 4 cfg0.N = res4 m c := by
  refine (dats m 0 c).arrAt_eq_of_covers 4 _ (by decide +kernel) fun t hf y => ?_
  blk_simp
  rw [after0_4]
  refine Eq.trans ?_ (congrArg (res4 m c) (show ix2 (tr t (y 0)) (y 1) = ((View.whole main_v0_0).slice (win0_4.rect t)).emb y by
    idx_vars y; blk_ext [idx t]))
  frame_out
  idx_vars y
  refine (pay2 _ y0 y1).trans ?_
  simp only [View.ld_unit_lit, blk0, blk1, blk2, blk3]
  rfl

theorem final5 : (dats m 0 c).arrAt 5 cfg0.N = res5 m c := by
  refine (dats m 0 c).arrAt_eq_of_covers 5 _ (by decide +kernel) fun t hf y => ?_
  blk_simp
  rw [after0_5]
  refine Eq.trans ?_ (congrArg (res5 m c) (show ix2 (tr t (y 0)) (y 1) = ((View.whole main_v0_1).slice (win0_5.rect t)).emb y by
    idx_vars y; blk_ext [idx t]))
  frame_out
  idx_vars y
  refine (pay1 _ _ _ _ y0 y1).trans ?_
  simp only [View.ld_unit_lit, blk0, blk1, blk2, blk3]
  rfl

theorem final6 : (dats m 0 c).arrAt 6 cfg0.N = res6 m c := by
  refine (dats m 0 c).arrAt_eq_of_covers 6 _ (by decide +kernel) fun t hf y => ?_
  blk_simp
  rw [after0_6]
  refine Eq.trans ?_ (congrArg (res6 m c) (show ix2 (tr t (y 0)) (y 1) = ((View.whole main_v0_2).slice (win0_6.rect t)).emb y by
    idx_vars y; blk_ext [idx t]))
  frame_out
  idx_vars y
  refine (pay3 _ _ y0 y1).trans ?_
  simp only [View.ld_unit_lit, blk0, blk1, blk2, blk3]
  rfl

theorem final7 : (dats m 0 c).arrAt 7 cfg0.N = res7 m c := by
  refine (dats m 0 c).arrAt_eq_of_covers 7 _ (by decide +kernel) fun t hf y => ?_
  blk_simp
  rw [after0_7]
  refine Eq.trans ?_ (congrArg (res7 m c) (show ix2 (tr t (y 0)) (y 1) = ((View.whole main_v0_3).slice (win0_7.rect t)).emb y by
    idx_vars y; blk_ext [idx t]))
  frame_out
  idx_vars y
  refine (pay4 _ _ y0 y1).trans ?_
  simp only [View.ld_unit_lit, blk0, blk1, blk2, blk3]
  rfl

end Cert.Kernel40Ideal.AdamMlaKv

namespace Cert.AdamMlaKv

theorem reference : Cert.quiescent_Reference40Ideal := fun m g _ =>
  (θ_run Cert.Reference40Ideal.defs _ _).mono (fun r h => ⟨fun c => (h c).2.2.2.2, sem_eq_zero_of_no_sems (by decide) r.2⟩)
    (Cert.Reference40Ideal.Value.run m g)

/-- The two programs leave the same four arrays. -/
theorem algebraic : Cert.algebraic_Kernel40Ideal_Reference40Ideal := by
  pair_intro
  · run_from Cert.Kernel40Ideal.Value.run_blocks m g
  · refine (θ_run Cert.Reference40Ideal.defs _ _).mono (fun r h c => ?_) (Cert.Reference40Ideal.Value.run m' g')
    obtain ⟨e0, e1, e2, e3⟩ := hagree c
    obtain ⟨h1, h2, h3, h4, h5⟩ := h c
    refine ⟨h1.trans ?_, h2.trans ?_, h3.trans ?_, h4.trans ?_, h5⟩
    · rw [Cert.Kernel40Ideal.AdamMlaKv.final4, e0]; funext i; idx_vars i; pointwise; rfl
    · rw [Cert.Kernel40Ideal.AdamMlaKv.final5, e0, e1, e2, e3]; funext i; idx_vars i; pointwise; rfl
    · rw [Cert.Kernel40Ideal.AdamMlaKv.final6, e0, e2]; funext i; idx_vars i; pointwise; rfl
    · rw [Cert.Kernel40Ideal.AdamMlaKv.final7, e0, e3]; funext i; idx_vars i; pointwise; rfl

end Cert.AdamMlaKv

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Kernel34.Frame
public import proofs.«01_k».proof.Proof.Gen.Kernel34Ideal.Value
public import proofs.«01_k».proof.Proof.Gen.Reference34Ideal.Run
public import proofs.«01_k».proof.Proof.Gen.Kernel35.Frame
public import proofs.«01_k».proof.Proof.Gen.Kernel35Ideal.Value
public import proofs.«01_k».proof.Proof.Gen.Reference35Ideal.Run
public import proofs.«01_k».proof.Proof.Gen.Kernel36.Frame
public import proofs.«01_k».proof.Proof.Gen.Kernel36Ideal.Value
public import proofs.«01_k».proof.Proof.Gen.Reference36Ideal.Run
public import proofs.«01_k».proof.Proof.Gen.Kernel37.Frame
public import proofs.«01_k».proof.Proof.Gen.Kernel37Ideal.Value
public import proofs.«01_k».proof.Proof.Gen.Reference37Ideal.Run
public import proofs.«01_k».proof.Proof.Gen.Kernel38.Frame
public import proofs.«01_k».proof.Proof.Gen.Kernel38Ideal.Value
public import proofs.«01_k».proof.Proof.Gen.Reference38Ideal.Run
public import proofs.«01_k».proof.Proof.Gen.Kernel39.Frame
public import proofs.«01_k».proof.Proof.Gen.Kernel39Ideal.Value
public import proofs.«01_k».proof.Proof.Gen.Reference39Ideal.Run
public import proofs.«01_k».proof.Proof.Gen.Kernel40.Frame
public import proofs.«01_k».proof.Proof.Gen.Kernel40Ideal.Value
public import proofs.«01_k».proof.Proof.Gen.Reference40Ideal.Run
public import proofs.«01_k».proof.Proof.Pre
public import proofs.«01_k».proof.Proof.Match
public import proofs.«01_k».proof.Proof.NormBwd
public import proofs.«01_k».proof.Proof.UpDw
public import proofs.«01_k».proof.Proof.DownDx
public import proofs.«01_k».proof.Proof.DownDw
public import proofs.«01_k».proof.Proof.DownFwd
public import proofs.«01_k».proof.Proof.XaOut
public import proofs.«01_k».proof.Proof.XaOutDx
public import proofs.«01_k».proof.Proof.XaOutDw
public import proofs.«01_k».proof.Proof.XaQDw
public import proofs.«01_k».proof.Proof.XaQDx
public import proofs.«01_k».proof.Proof.XaQ
public import proofs.«01_k».proof.Proof.MixOut
public import proofs.«01_k».proof.Proof.MixOutDx
public import proofs.«01_k».proof.Proof.MlaOutDx
public import proofs.«01_k».proof.Proof.MixOutDw
public import proofs.«01_k».proof.Proof.MixIn
public import proofs.«01_k».proof.Proof.MixInDx
public import proofs.«01_k».proof.Proof.MixInDw
public import proofs.«01_k».proof.Proof.MlaDown
public import proofs.«01_k».proof.Proof.MlaDownDx
public import proofs.«01_k».proof.Proof.MlaDownDw
public import proofs.«01_k».proof.Proof.XaFwd
public import proofs.«01_k».proof.Proof.UpFwd
public import proofs.«01_k».proof.Proof.QkvBwd
public import proofs.«01_k».proof.Proof.QkvFwd
public import proofs.«01_k».proof.Proof.XaKv
public import proofs.«01_k».proof.Proof.XaKvDx
public import proofs.«01_k».proof.Proof.XaKvDw
public import proofs.«01_k».proof.Proof.UpFrameBits
public import proofs.«01_k».proof.Proof.Gen.Kernel30
public import proofs.«01_k».proof.Proof.Gen.Kernel30.Flash
public import proofs.«01_k».proof.Proof.Gen.Kernel30Ideal
public import proofs.«01_k».proof.Proof.Gen.Kernel30Ideal.Flash
public import proofs.«01_k».proof.Proof.Gen.Reference30Ideal
public import proofs.«01_k».proof.Proof.Gen.Reference30Ideal.Run
public import proofs.«01_k».proof.Proof.Gen.Pre_causal
public import proofs.«01_k».proof.Proof.AttnKv
public import proofs.«01_k».proof.Proof.Delta
public import proofs.«01_k».proof.Proof.AdamXaQ
public import proofs.«01_k».proof.Proof.AdamUp
public import proofs.«01_k».proof.Proof.AdamDown
public import proofs.«01_k».proof.Proof.AdamXaKv
public import proofs.«01_k».proof.Proof.AdamMixIn
public import proofs.«01_k».proof.Proof.AdamMixOut
public import proofs.«01_k».proof.Proof.AdamMlaDown
public import proofs.«01_k».proof.Proof.AdamMlaQ
public import proofs.«01_k».proof.Proof.AdamMlaKv
public import Idealize.ShloMosaic.Adequacy
public import Idealize.ShloMosaic.Init

@[expose] public section

noncomputable section

namespace Cert.Proof

open Idealize.ShloMosaic Idealize.SL.Sem Cert.Kernel

theorem quiescent_ReferenceIdeal : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

theorem quiescent_ReferenceIdeal_pre : Cert.quiescent_ReferenceIdeal_pre_finite (hPre_finite := Cert.Pre_finite.facts) :=
  fun m g _ => quiescent_ReferenceIdeal m g trivial

/-- The two programs leave the same arrays. -/
theorem algebraic : Cert.algebraic_KernelIdeal_ReferenceIdeal_pre_finite (hPre_finite := Cert.Pre_finite.facts) := by
  pair_intro
  · run_from Cert.KernelIdeal.Value.run_blocks m g
  · refine (θ_run Cert.ReferenceIdeal.defs _ _).mono (fun r h c => ?_) (Cert.ReferenceIdeal.Value.run m' g')
    obtain ⟨hq, hkv⟩ := @Cert.Pre_finite.entries Cert.Pre_finite.facts _ _ _ (hpre c)
    obtain ⟨e0, e1, e2⟩ := hagree c
    obtain ⟨h1, h2, h3⟩ := h c
    refine ⟨h1.trans ?_, h2.trans ?_, h3⟩
    · rw [Cert.ReferenceIdeal.XA.res_q, e0, e1, e2, Cert.KernelIdeal.XA.final3]
      funext i
      idx_vars i
      exact Cert.ReferenceIdeal.XA.rQ_eq _ _ _ hq hkv i0 i1
    · rw [Cert.ReferenceIdeal.XA.res_kv, e0, e1, e2, Cert.KernelIdeal.XA.final4]
      funext i
      idx_vars i
      exact Cert.ReferenceIdeal.XA.rKV_eq _ _ _ hq hkv i0 i1

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel24.Gen.facts,
  Cert.Kernel24Ideal.Gen.facts,
  Cert.Reference24Ideal.Gen.facts,
  Cert.Kernel25.Gen.facts,
  Cert.Kernel25Ideal.Gen.facts,
  Cert.Reference25Ideal.Gen.facts,
  Cert.Kernel26.Gen.facts,
  Cert.Kernel26Ideal.Gen.facts,
  Cert.Reference26Ideal.Gen.facts,
  Cert.Kernel27.Gen.facts,
  Cert.Kernel27Ideal.Gen.facts,
  Cert.Reference27Ideal.Gen.facts,
  Cert.Kernel28.Gen.facts,
  Cert.Kernel28Ideal.Gen.facts,
  Cert.Reference28Ideal.Gen.facts,
  Cert.Kernel29.Gen.facts,
  Cert.Kernel29Ideal.Gen.facts,
  Cert.Reference29Ideal.Gen.facts,
  Cert.Kernel30.Gen.facts,
  Cert.Kernel30Ideal.Gen.facts,
  Cert.Reference30Ideal.Gen.facts,
  Cert.Kernel31.Gen.facts,
  Cert.Kernel31Ideal.Gen.facts,
  Cert.Reference31Ideal.Gen.facts,
  Cert.Kernel32.Gen.facts,
  Cert.Kernel32Ideal.Gen.facts,
  Cert.Reference32Ideal.Gen.facts,
  Cert.Kernel33.Gen.facts,
  Cert.Kernel33Ideal.Gen.facts,
  Cert.Reference33Ideal.Gen.facts,
  Cert.Kernel34.Gen.facts,
  Cert.Kernel34Ideal.Gen.facts,
  Cert.Reference34Ideal.Gen.facts,
  Cert.Kernel35.Gen.facts,
  Cert.Kernel35Ideal.Gen.facts,
  Cert.Reference35Ideal.Gen.facts,
  Cert.Kernel36.Gen.facts,
  Cert.Kernel36Ideal.Gen.facts,
  Cert.Reference36Ideal.Gen.facts,
  Cert.Kernel37.Gen.facts,
  Cert.Kernel37Ideal.Gen.facts,
  Cert.Reference37Ideal.Gen.facts,
  Cert.Kernel38.Gen.facts,
  Cert.Kernel38Ideal.Gen.facts,
  Cert.Reference38Ideal.Gen.facts,
  Cert.Kernel39.Gen.facts,
  Cert.Kernel39Ideal.Gen.facts,
  Cert.Reference39Ideal.Gen.facts,
  Cert.Kernel40.Gen.facts,
  Cert.Kernel40Ideal.Gen.facts,
  Cert.Reference40Ideal.Gen.facts,
  Cert.Pre_finite.facts,
  Cert.Pre_causal.Gen.facts,
  fun m g _ => Cert.Kernel.Gen.frame m g,
  fun m g _ => Cert.KernelIdeal.Gen.frame m g,
  fun m g _ => Cert.KernelIdeal.Gen.frame m g,
  quiescent_ReferenceIdeal,
  quiescent_ReferenceIdeal_pre,
  fun m g _ => Cert.Kernel2.Gen.frame m g,
  fun m g _ => Cert.Kernel2Ideal.Gen.frame m g,
  Cert.NormBwd.reference,
  fun m g _ => Cert.Kernel3.Gen.frame m g,
  fun m g _ => Cert.Kernel3Ideal.Gen.frame m g,
  Cert.UpDw.reference,
  fun m g _ => Cert.Kernel4.Gen.frame m g,
  fun m g _ => Cert.Kernel4Ideal.Gen.frame m g,
  Cert.DownDx.reference,
  fun m g _ => Cert.Kernel5.Gen.frame m g,
  fun m g _ => Cert.Kernel5Ideal.Gen.frame m g,
  Cert.DownDw.reference,
  fun m g _ => Cert.Kernel6.Gen.frame m g,
  fun m g _ => Cert.Kernel6Ideal.Gen.frame m g,
  Cert.DownFwd.reference,
  fun m g _ => Cert.Kernel7.Gen.frame m g,
  fun m g _ => Cert.Kernel7Ideal.Gen.frame m g,
  Cert.XaOut.reference,
  fun m g _ => Cert.Kernel8.Gen.frame m g,
  fun m g _ => Cert.Kernel8Ideal.Gen.frame m g,
  Cert.XaOutDx.reference,
  fun m g _ => Cert.Kernel9.Gen.frame m g,
  fun m g _ => Cert.Kernel9Ideal.Gen.frame m g,
  Cert.XaOutDw.reference,
  fun m g _ => Cert.Kernel10.Gen.frame m g,
  fun m g _ => Cert.Kernel10Ideal.Gen.frame m g,
  Cert.XaQDw.reference,
  fun m g _ => Cert.Kernel11.Gen.frame m g,
  fun m g _ => Cert.Kernel11Ideal.Gen.frame m g,
  Cert.XaQDx.reference,
  fun m g _ => Cert.Kernel12.Gen.frame m g,
  fun m g _ => Cert.Kernel12Ideal.Gen.frame m g,
  Cert.XaQ.reference,
  fun m g _ => Cert.Kernel13.Gen.frame m g,
  fun m g _ => Cert.Kernel13Ideal.Gen.frame m g,
  Cert.MixOut.reference,
  fun m g _ => Cert.Kernel14.Gen.frame m g,
  fun m g _ => Cert.Kernel14Ideal.Gen.frame m g,
  Cert.MixOutDx.reference,
  fun m g _ => Cert.Kernel15.Gen.frame m g,
  fun m g _ => Cert.Kernel15Ideal.Gen.frame m g,
  Cert.MlaOutDx.reference,
  fun m g _ => Cert.Kernel16.Gen.frame m g,
  fun m g _ => Cert.Kernel16Ideal.Gen.frame m g,
  Cert.MixOutDw.reference,
  fun m g _ => Cert.Kernel17.Gen.frame m g,
  fun m g _ => Cert.Kernel17Ideal.Gen.frame m g,
  Cert.MixIn.reference,
  fun m g _ => Cert.Kernel18.Gen.frame m g,
  fun m g _ => Cert.Kernel18Ideal.Gen.frame m g,
  Cert.MixInDx.reference,
  fun m g _ => Cert.Kernel19.Gen.frame m g,
  fun m g _ => Cert.Kernel19Ideal.Gen.frame m g,
  Cert.MixInDw.reference,
  fun m g _ => Cert.Kernel20.Gen.frame m g,
  fun m g _ => Cert.Kernel20Ideal.Gen.frame m g,
  Cert.MlaDown.reference,
  fun m g _ => Cert.Kernel21.Gen.frame m g,
  fun m g _ => Cert.Kernel21Ideal.Gen.frame m g,
  Cert.MlaDownDx.reference,
  fun m g _ => Cert.Kernel22.Gen.frame m g,
  fun m g _ => Cert.Kernel22Ideal.Gen.frame m g,
  Cert.MlaDownDw.reference,
  fun m g _ => Cert.Kernel23.Gen.frame m g,
  fun m g _ => Cert.Kernel23Ideal.Gen.frame m g,
  Cert.XaFwd.reference,
  fun m g _ => Cert.Kernel24.Up.frame_claim m g,
  fun m g _ => Cert.Kernel24Ideal.Up.frame_claim m g,
  Cert.UpFwd.reference,
  fun m g _ => Cert.Kernel25.Gen.frame m g,
  fun m g _ => Cert.Kernel25Ideal.Gen.frame m g,
  Cert.QkvBwd.reference,
  fun m g _ => Cert.Kernel26.Gen.frame m g,
  fun m g _ => Cert.Kernel26Ideal.Gen.frame m g,
  Cert.QkvFwd.reference,
  fun m g _ => Cert.Kernel27.Gen.frame m g,
  fun m g _ => Cert.Kernel27Ideal.Gen.frame m g,
  Cert.XaKv.reference,
  fun m g _ => Cert.Kernel28.Gen.frame m g,
  fun m g _ => Cert.Kernel28Ideal.Gen.frame m g,
  Cert.XaKvDx.reference,
  fun m g _ => Cert.Kernel29.Gen.frame m g,
  fun m g _ => Cert.Kernel29Ideal.Gen.frame m g,
  Cert.XaKvDw.reference,
  Cert.Kernel30.Attn.frame,
  Cert.Kernel30Ideal.Attn.frame,
  Cert.AttnKv.reference,
  Cert.AttnKv.reference_pre,
  fun m g _ => Cert.Kernel31.Gen.frame m g,
  fun m g _ => Cert.Kernel31Ideal.Gen.frame m g,
  Cert.Delta.reference,
  fun m g _ => Cert.Kernel32.Gen.frame m g,
  fun m g _ => Cert.Kernel32Ideal.Gen.frame m g,
  Cert.AdamXaQ.reference,
  fun m g _ => Cert.Kernel33.Gen.frame m g,
  fun m g _ => Cert.Kernel33Ideal.Gen.frame m g,
  Cert.AdamUp.reference,
  fun m g _ => Cert.Kernel34.Gen.frame m g,
  fun m g _ => Cert.Kernel34Ideal.Gen.frame m g,
  Cert.AdamDown.reference,
  fun m g _ => Cert.Kernel35.Gen.frame m g,
  fun m g _ => Cert.Kernel35Ideal.Gen.frame m g,
  Cert.AdamXaKv.reference,
  fun m g _ => Cert.Kernel36.Gen.frame m g,
  fun m g _ => Cert.Kernel36Ideal.Gen.frame m g,
  Cert.AdamMixIn.reference,
  fun m g _ => Cert.Kernel37.Gen.frame m g,
  fun m g _ => Cert.Kernel37Ideal.Gen.frame m g,
  Cert.AdamMixOut.reference,
  fun m g _ => Cert.Kernel38.Gen.frame m g,
  fun m g _ => Cert.Kernel38Ideal.Gen.frame m g,
  Cert.AdamMlaDown.reference,
  fun m g _ => Cert.Kernel39.Gen.frame m g,
  fun m g _ => Cert.Kernel39Ideal.Gen.frame m g,
  Cert.AdamMlaQ.reference,
  fun m g _ => Cert.Kernel40.Gen.frame m g,
  fun m g _ => Cert.Kernel40Ideal.Gen.frame m g,
  Cert.AdamMlaKv.reference,
  trivial,
  algebraic,
  trivial,
  Cert.NormBwd.algebraic,
  trivial,
  Cert.UpDw.algebraic,
  trivial,
  Cert.DownDx.algebraic,
  trivial,
  Cert.DownDw.algebraic,
  trivial,
  Cert.DownFwd.algebraic,
  trivial,
  Cert.XaOut.algebraic,
  trivial,
  Cert.XaOutDx.algebraic,
  trivial,
  Cert.XaOutDw.algebraic,
  trivial,
  Cert.XaQDw.algebraic,
  trivial,
  Cert.XaQDx.algebraic,
  trivial,
  Cert.XaQ.algebraic,
  trivial,
  Cert.MixOut.algebraic,
  trivial,
  Cert.MixOutDx.algebraic,
  trivial,
  Cert.MlaOutDx.algebraic,
  trivial,
  Cert.MixOutDw.algebraic,
  trivial,
  Cert.MixIn.algebraic,
  trivial,
  Cert.MixInDx.algebraic,
  trivial,
  Cert.MixInDw.algebraic,
  trivial,
  Cert.MlaDown.algebraic,
  trivial,
  Cert.MlaDownDx.algebraic,
  trivial,
  Cert.MlaDownDw.algebraic,
  trivial,
  Cert.XaFwd.algebraic,
  trivial,
  Cert.UpFwd.algebraic,
  trivial,
  Cert.QkvBwd.algebraic,
  trivial,
  Cert.QkvFwd.algebraic,
  trivial,
  Cert.XaKv.algebraic,
  trivial,
  Cert.XaKvDx.algebraic,
  trivial,
  Cert.XaKvDw.algebraic,
  Cert.AttnKv.preserves,
  Cert.AttnKv.algebraic,
  trivial,
  Cert.Delta.algebraic,
  trivial,
  Cert.AdamXaQ.algebraic,
  trivial,
  Cert.AdamUp.algebraic,
  trivial,
  Cert.AdamDown.algebraic,
  trivial,
  Cert.AdamXaKv.algebraic,
  trivial,
  Cert.AdamMixIn.algebraic,
  trivial,
  Cert.AdamMixOut.algebraic,
  trivial,
  Cert.AdamMlaDown.algebraic,
  trivial,
  Cert.AdamMlaQ.algebraic,
  trivial,
  Cert.AdamMlaKv.algebraic⟩

end Cert.Proof

end
